-- ==== Defs.lean ====
def Pre_Moba (m : (ℓ : Loc Cert.Moba.nD Cert.Moba.τ Cert.Moba.sig) → Buf (Elt Bits) ℓ) : Prop :=
  True

def Pre_MobaIdeal (m : (ℓ : Loc Cert.MobaIdeal.nD Cert.MobaIdeal.τ Cert.MobaIdeal.sig) → Buf (Elt Ideal) ℓ) : Prop :=
  True

def Pre_MobaIdeal_moba_finite [hPre_moba_finite : Cert.Pre_moba_finite.Facts] (m : (ℓ : Loc Cert.MobaIdeal.nD Cert.MobaIdeal.τ Cert.MobaIdeal.sig) → Buf (Elt Ideal) ℓ) : Prop :=
  ∀ c : Dev Cert.MobaIdeal.nD,
    (Cert.Pre_moba_finite.fn (F := Ideal) (m ((c.tc : Thread Cert.MobaIdeal.nD Cert.MobaIdeal.τ).loc Cert.MobaIdeal.main_arg0)) (m ((c.tc : Thread Cert.MobaIdeal.nD Cert.MobaIdeal.τ).loc Cert.MobaIdeal.main_arg1)) (m ((c.tc : Thread Cert.MobaIdeal.nD Cert.MobaIdeal.τ).loc Cert.MobaIdeal.main_arg2)) (m ((c.tc : Thread Cert.MobaIdeal.nD Cert.MobaIdeal.τ).loc Cert.MobaIdeal.main_arg3))) = (fun _ => 1#1)

def Pre_MobaRefIdeal (m : (ℓ : Loc Cert.MobaRefIdeal.nD Cert.MobaRefIdeal.τ Cert.MobaRefIdeal.sig) → Buf (Elt Ideal) ℓ) : Prop :=
  True

def Pre_MobaRefIdeal_moba_finite [hPre_moba_finite : Cert.Pre_moba_finite.Facts] (m : (ℓ : Loc Cert.MobaRefIdeal.nD Cert.MobaRefIdeal.τ Cert.MobaRefIdeal.sig) → Buf (Elt Ideal) ℓ) : Prop :=
  ∀ c : Dev Cert.MobaRefIdeal.nD,
    (Cert.Pre_moba_finite.fn (F := Ideal) (m ((c.tc : Thread Cert.MobaRefIdeal.nD Cert.MobaRefIdeal.τ).loc Cert.MobaRefIdeal.main_arg0)) (m ((c.tc : Thread Cert.MobaRefIdeal.nD Cert.MobaRefIdeal.τ).loc Cert.MobaRefIdeal.main_arg1)) (m ((c.tc : Thread Cert.MobaRefIdeal.nD Cert.MobaRefIdeal.τ).loc Cert.MobaRefIdeal.main_arg2)) (m ((c.tc : Thread Cert.MobaRefIdeal.nD Cert.MobaRefIdeal.τ).loc Cert.MobaRefIdeal.main_arg3))) = (fun _ => 1#1)

def Pre_Moe [hPre_moe_ints : Cert.Pre_moe_ints.Facts] (m : (ℓ : Loc Cert.Moe.nD Cert.Moe.τ Cert.Moe.sig) → Buf (Elt Bits) ℓ) : Prop :=
  ∀ c : Dev Cert.Moe.nD,
    (Cert.Pre_moe_ints.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5))) = (fun _ => 1#1)

def Pre_MoeIdeal [hPre_moe_ints : Cert.Pre_moe_ints.Facts] (m : (ℓ : Loc Cert.MoeIdeal.nD Cert.MoeIdeal.τ Cert.MoeIdeal.sig) → Buf (Elt Ideal) ℓ) : Prop :=
  ∀ c : Dev Cert.MoeIdeal.nD,
    (Cert.Pre_moe_ints.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5))) = (fun _ => 1#1)

def Pre_MoeRefIdeal (m : (ℓ : Loc Cert.MoeRefIdeal.nD Cert.MoeRefIdeal.τ Cert.MoeRefIdeal.sig) → Buf (Elt Ideal) ℓ) : Prop :=
  True

def Pre_MoeRefIdeal_moe_ints [hPre_moe_ints : Cert.Pre_moe_ints.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_moe_ints.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5))) = (fun _ => 1#1)

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_AttnOut (m : (ℓ : Loc Cert.AttnOut.nD Cert.AttnOut.τ Cert.AttnOut.sig) → Buf (Elt Bits) ℓ) : Prop :=
  True

def Pre_AttnOutIdeal (m : (ℓ : Loc Cert.AttnOutIdeal.nD Cert.AttnOutIdeal.τ Cert.AttnOutIdeal.sig) → Buf (Elt Ideal) ℓ) : Prop :=
  True

def Pre_AttnOutIdeal_attn_out_finite [hPre_attn_out_finite : Cert.Pre_attn_out_finite.Facts] (m : (ℓ : Loc Cert.AttnOutIdeal.nD Cert.AttnOutIdeal.τ Cert.AttnOutIdeal.sig) → Buf (Elt Ideal) ℓ) : Prop :=
  ∀ c : Dev Cert.AttnOutIdeal.nD,
    (Cert.Pre_attn_out_finite.fn (F := Ideal) (m ((c.tc : Thread Cert.AttnOutIdeal.nD Cert.AttnOutIdeal.τ).loc Cert.AttnOutIdeal.main_arg0)) (m ((c.tc : Thread Cert.AttnOutIdeal.nD Cert.AttnOutIdeal.τ).loc Cert.AttnOutIdeal.main_arg1)) (m ((c.tc : Thread Cert.AttnOutIdeal.nD Cert.AttnOutIdeal.τ).loc Cert.AttnOutIdeal.main_arg2)) (m ((c.tc : Thread Cert.AttnOutIdeal.nD Cert.AttnOutIdeal.τ).loc Cert.AttnOutIdeal.main_arg3)) (m ((c.tc : Thread Cert.AttnOutIdeal.nD Cert.AttnOutIdeal.τ).loc Cert.AttnOutIdeal.main_arg4)) (m ((c.tc : Thread Cert.AttnOutIdeal.nD Cert.AttnOutIdeal.τ).loc Cert.AttnOutIdeal.main_arg5)) (m ((c.tc : Thread Cert.AttnOutIdeal.nD Cert.AttnOutIdeal.τ).loc Cert.AttnOutIdeal.main_arg6)) (m ((c.tc : Thread Cert.AttnOutIdeal.nD Cert.AttnOutIdeal.τ).loc Cert.AttnOutIdeal.main_arg7)) (m ((c.tc : Thread Cert.AttnOutIdeal.nD Cert.AttnOutIdeal.τ).loc Cert.AttnOutIdeal.main_arg8)) (m ((c.tc : Thread Cert.AttnOutIdeal.nD Cert.AttnOutIdeal.τ).loc Cert.AttnOutIdeal.main_arg9))) = (fun _ => 1#1)

def Pre_AttnOutRefIdeal (m : (ℓ : Loc Cert.AttnOutRefIdeal.nD Cert.AttnOutRefIdeal.τ Cert.AttnOutRefIdeal.sig) → Buf (Elt Ideal) ℓ) : Prop :=
  True

def Pre_AttnOutRefIdeal_attn_out_finite [hPre_attn_out_finite : Cert.Pre_attn_out_finite.Facts] (m : (ℓ : Loc Cert.AttnOutRefIdeal.nD Cert.AttnOutRefIdeal.τ Cert.AttnOutRefIdeal.sig) → Buf (Elt Ideal) ℓ) : Prop :=
  ∀ c : Dev Cert.AttnOutRefIdeal.nD,
    (Cert.Pre_attn_out_finite.fn (F := Ideal) (m ((c.tc : Thread Cert.AttnOutRefIdeal.nD Cert.AttnOutRefIdeal.τ).loc Cert.AttnOutRefIdeal.main_arg0)) (m ((c.tc : Thread Cert.AttnOutRefIdeal.nD Cert.AttnOutRefIdeal.τ).loc Cert.AttnOutRefIdeal.main_arg1)) (m ((c.tc : Thread Cert.AttnOutRefIdeal.nD Cert.AttnOutRefIdeal.τ).loc Cert.AttnOutRefIdeal.main_arg2)) (m ((c.tc : Thread Cert.AttnOutRefIdeal.nD Cert.AttnOutRefIdeal.τ).loc Cert.AttnOutRefIdeal.main_arg3)) (m ((c.tc : Thread Cert.AttnOutRefIdeal.nD Cert.AttnOutRefIdeal.τ).loc Cert.AttnOutRefIdeal.main_arg4)) (m ((c.tc : Thread Cert.AttnOutRefIdeal.nD Cert.AttnOutRefIdeal.τ).loc Cert.AttnOutRefIdeal.main_arg5)) (m ((c.tc : Thread Cert.AttnOutRefIdeal.nD Cert.AttnOutRefIdeal.τ).loc Cert.AttnOutRefIdeal.main_arg6)) (m ((c.tc : Thread Cert.AttnOutRefIdeal.nD Cert.AttnOutRefIdeal.τ).loc Cert.AttnOutRefIdeal.main_arg7)) (m ((c.tc : Thread Cert.AttnOutRefIdeal.nD Cert.AttnOutRefIdeal.τ).loc Cert.AttnOutRefIdeal.main_arg8)) (m ((c.tc : Thread Cert.AttnOutRefIdeal.nD Cert.AttnOutRefIdeal.τ).loc Cert.AttnOutRefIdeal.main_arg9))) = (fun _ => 1#1)

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutRefIdeal (m : (ℓ : Loc Cert.FfnOutRefIdeal.nD Cert.FfnOutRefIdeal.τ Cert.FfnOutRefIdeal.sig) → Buf (Elt Ideal) ℓ) : Prop :=
  True

def Pre_QkvS (m : (ℓ : Loc Cert.QkvS.nD Cert.QkvS.τ Cert.QkvS.sig) → Buf (Elt Bits) ℓ) : Prop :=
  True

def Pre_QkvSIdeal (m : (ℓ : Loc Cert.QkvSIdeal.nD Cert.QkvSIdeal.τ Cert.QkvSIdeal.sig) → Buf (Elt Ideal) ℓ) : Prop :=
  True

def Pre_QkvSRefIdeal (m : (ℓ : Loc Cert.QkvSRefIdeal.nD Cert.QkvSRefIdeal.τ Cert.QkvSRefIdeal.sig) → Buf (Elt Ideal) ℓ) : Prop :=
  True

def Pre_FfnOutS (m : (ℓ : Loc Cert.FfnOutS.nD Cert.FfnOutS.τ Cert.FfnOutS.sig) → Buf (Elt Bits) ℓ) : Prop :=
  True

def Pre_FfnOutSIdeal (m : (ℓ : Loc Cert.FfnOutSIdeal.nD Cert.FfnOutSIdeal.τ Cert.FfnOutSIdeal.sig) → Buf (Elt Ideal) ℓ) : Prop :=
  True

def Pre_FfnOutSRefIdeal (m : (ℓ : Loc Cert.FfnOutSRefIdeal.nD Cert.FfnOutSRefIdeal.τ Cert.FfnOutSRefIdeal.sig) → Buf (Elt Ideal) ℓ) : Prop :=
  True

def Pre_QkvW (m : (ℓ : Loc Cert.QkvW.nD Cert.QkvW.τ Cert.QkvW.sig) → Buf (Elt Bits) ℓ) : Prop :=
  True

def Pre_QkvWIdeal (m : (ℓ : Loc Cert.QkvWIdeal.nD Cert.QkvWIdeal.τ Cert.QkvWIdeal.sig) → Buf (Elt Ideal) ℓ) : Prop :=
  True

def Pre_QkvWRefIdeal (m : (ℓ : Loc Cert.QkvWRefIdeal.nD Cert.QkvWRefIdeal.τ Cert.QkvWRefIdeal.sig) → Buf (Elt Ideal) ℓ) : Prop :=
  True

def Pre_QkvWS (m : (ℓ : Loc Cert.QkvWS.nD Cert.QkvWS.τ Cert.QkvWS.sig) → Buf (Elt Bits) ℓ) : Prop :=
  True

def Pre_QkvWSIdeal (m : (ℓ : Loc Cert.QkvWSIdeal.nD Cert.QkvWSIdeal.τ Cert.QkvWSIdeal.sig) → Buf (Elt Ideal) ℓ) : Prop :=
  True

def Pre_QkvWSRefIdeal (m : (ℓ : Loc Cert.QkvWSRefIdeal.nD Cert.QkvWSRefIdeal.τ Cert.QkvWSRefIdeal.sig) → Buf (Elt Ideal) ℓ) : Prop :=
  True

def quiescent_Moba [hMoba : Cert.Moba.Facts] : Prop :=
  ∀ (m : (ℓ : Loc Cert.Moba.nD Cert.Moba.τ Cert.Moba.sig) → Buf (Elt Bits) ℓ) (g : Dev Cert.Moba.nD → PrngReg), Pre_Moba m →
    θ_run (Cert.Moba.defs (F := Bits)) (onTc (τ := Cert.Moba.τ) (Cert.Moba.main (F := Bits))) ⟨m, fun _ => 0, g⟩ (fun r => (∀ c : Dev Cert.Moba.nD,
      r.2.mem ((c.tc : Thread Cert.Moba.nD Cert.Moba.τ).loc Cert.Moba.main_arg0) = m ((c.tc : Thread Cert.Moba.nD Cert.Moba.τ).loc Cert.Moba.main_arg0)
      ∧ r.2.mem ((c.tc : Thread Cert.Moba.nD Cert.Moba.τ).loc Cert.Moba.main_arg1) = m ((c.tc : Thread Cert.Moba.nD Cert.Moba.τ).loc Cert.Moba.main_arg1)
      ∧ r.2.mem ((c.tc : Thread Cert.Moba.nD Cert.Moba.τ).loc Cert.Moba.main_arg2) = m ((c.tc : Thread Cert.Moba.nD Cert.Moba.τ).loc Cert.Moba.main_arg2)
      ∧ r.2.mem ((c.tc : Thread Cert.Moba.nD Cert.Moba.τ).loc Cert.Moba.main_arg3) = m ((c.tc : Thread Cert.Moba.nD Cert.Moba.τ).loc Cert.Moba.main_arg3))
      ∧ r.2.sem = fun _ => 0)

def quiescent_MobaIdeal [hMobaIdeal : Cert.MobaIdeal.Facts] : Prop :=
  ∀ (m : (ℓ : Loc Cert.MobaIdeal.nD Cert.MobaIdeal.τ Cert.MobaIdeal.sig) → Buf (Elt Ideal) ℓ) (g : Dev Cert.MobaIdeal.nD → PrngReg), Pre_MobaIdeal m →
    θ_run (Cert.MobaIdeal.defs (F := Ideal)) (onTc (τ := Cert.MobaIdeal.τ) (Cert.MobaIdeal.main (F := Ideal))) ⟨m, fun _ => 0, g⟩ (fun r => (∀ c : Dev Cert.MobaIdeal.nD,
      r.2.mem ((c.tc : Thread Cert.MobaIdeal.nD Cert.MobaIdeal.τ).loc Cert.MobaIdeal.main_arg0) = m ((c.tc : Thread Cert.MobaIdeal.nD Cert.MobaIdeal.τ).loc Cert.MobaIdeal.main_arg0)
      ∧ r.2.mem ((c.tc : Thread Cert.MobaIdeal.nD Cert.MobaIdeal.τ).loc Cert.MobaIdeal.main_arg1) = m ((c.tc : Thread Cert.MobaIdeal.nD Cert.MobaIdeal.τ).loc Cert.MobaIdeal.main_arg1)
      ∧ r.2.mem ((c.tc : Thread Cert.MobaIdeal.nD Cert.MobaIdeal.τ).loc Cert.MobaIdeal.main_arg2) = m ((c.tc : Thread Cert.MobaIdeal.nD Cert.MobaIdeal.τ).loc Cert.MobaIdeal.main_arg2)
      ∧ r.2.mem ((c.tc : Thread Cert.MobaIdeal.nD Cert.MobaIdeal.τ).loc Cert.MobaIdeal.main_arg3) = m ((c.tc : Thread Cert.MobaIdeal.nD Cert.MobaIdeal.τ).loc Cert.MobaIdeal.main_arg3))
      ∧ r.2.sem = fun _ => 0)

def quiescent_MobaIdeal_pre_moba_finite [hMobaIdeal : Cert.MobaIdeal.Facts] [hPre_moba_finite : Cert.Pre_moba_finite.Facts] : Prop :=
  ∀ (m : (ℓ : Loc Cert.MobaIdeal.nD Cert.MobaIdeal.τ Cert.MobaIdeal.sig) → Buf (Elt Ideal) ℓ) (g : Dev Cert.MobaIdeal.nD → PrngReg), Pre_MobaIdeal_moba_finite m →
    θ_run (Cert.MobaIdeal.defs (F := Ideal)) (onTc (τ := Cert.MobaIdeal.τ) (Cert.MobaIdeal.main (F := Ideal))) ⟨m, fun _ => 0, g⟩ (fun r => (∀ c : Dev Cert.MobaIdeal.nD,
      r.2.mem ((c.tc : Thread Cert.MobaIdeal.nD Cert.MobaIdeal.τ).loc Cert.MobaIdeal.main_arg0) = m ((c.tc : Thread Cert.MobaIdeal.nD Cert.MobaIdeal.τ).loc Cert.MobaIdeal.main_arg0)
      ∧ r.2.mem ((c.tc : Thread Cert.MobaIdeal.nD Cert.MobaIdeal.τ).loc Cert.MobaIdeal.main_arg1) = m ((c.tc : Thread Cert.MobaIdeal.nD Cert.MobaIdeal.τ).loc Cert.MobaIdeal.main_arg1)
      ∧ r.2.mem ((c.tc : Thread Cert.MobaIdeal.nD Cert.MobaIdeal.τ).loc Cert.MobaIdeal.main_arg2) = m ((c.tc : Thread Cert.MobaIdeal.nD Cert.MobaIdeal.τ).loc Cert.MobaIdeal.main_arg2)
      ∧ r.2.mem ((c.tc : Thread Cert.MobaIdeal.nD Cert.MobaIdeal.τ).loc Cert.MobaIdeal.main_arg3) = m ((c.tc : Thread Cert.MobaIdeal.nD Cert.MobaIdeal.τ).loc Cert.MobaIdeal.main_arg3))
      ∧ r.2.sem = fun _ => 0)

def quiescent_MobaRefIdeal [hMobaRefIdeal : Cert.MobaRefIdeal.Facts] : Prop :=
  ∀ (m : (ℓ : Loc Cert.MobaRefIdeal.nD Cert.MobaRefIdeal.τ Cert.MobaRefIdeal.sig) → Buf (Elt Ideal) ℓ) (g : Dev Cert.MobaRefIdeal.nD → PrngReg), Pre_MobaRefIdeal m →
    θ_run (Cert.MobaRefIdeal.defs (F := Ideal)) (onTc (τ := Cert.MobaRefIdeal.τ) (Cert.MobaRefIdeal.main (F := Ideal))) ⟨m, fun _ => 0, g⟩ (fun r => (∀ c : Dev Cert.MobaRefIdeal.nD,
      r.2.mem ((c.tc : Thread Cert.MobaRefIdeal.nD Cert.MobaRefIdeal.τ).loc Cert.MobaRefIdeal.main_arg0) = m ((c.tc : Thread Cert.MobaRefIdeal.nD Cert.MobaRefIdeal.τ).loc Cert.MobaRefIdeal.main_arg0)
      ∧ r.2.mem ((c.tc : Thread Cert.MobaRefIdeal.nD Cert.MobaRefIdeal.τ).loc Cert.MobaRefIdeal.main_arg1) = m ((c.tc : Thread Cert.MobaRefIdeal.nD Cert.MobaRefIdeal.τ).loc Cert.MobaRefIdeal.main_arg1)
      ∧ r.2.mem ((c.tc : Thread Cert.MobaRefIdeal.nD Cert.MobaRefIdeal.τ).loc Cert.MobaRefIdeal.main_arg2) = m ((c.tc : Thread Cert.MobaRefIdeal.nD Cert.MobaRefIdeal.τ).loc Cert.MobaRefIdeal.main_arg2)
      ∧ r.2.mem ((c.tc : Thread Cert.MobaRefIdeal.nD Cert.MobaRefIdeal.τ).loc Cert.MobaRefIdeal.main_arg3) = m ((c.tc : Thread Cert.MobaRefIdeal.nD Cert.MobaRefIdeal.τ).loc Cert.MobaRefIdeal.main_arg3))
      ∧ r.2.sem = fun _ => 0)

def quiescent_MobaRefIdeal_pre_moba_finite [hMobaRefIdeal : Cert.MobaRefIdeal.Facts] [hPre_moba_finite : Cert.Pre_moba_finite.Facts] : Prop :=
  ∀ (m : (ℓ : Loc Cert.MobaRefIdeal.nD Cert.MobaRefIdeal.τ Cert.MobaRefIdeal.sig) → Buf (Elt Ideal) ℓ) (g : Dev Cert.MobaRefIdeal.nD → PrngReg), Pre_MobaRefIdeal_moba_finite m →
    θ_run (Cert.MobaRefIdeal.defs (F := Ideal)) (onTc (τ := Cert.MobaRefIdeal.τ) (Cert.MobaRefIdeal.main (F := Ideal))) ⟨m, fun _ => 0, g⟩ (fun r => (∀ c : Dev Cert.MobaRefIdeal.nD,
      r.2.mem ((c.tc : Thread Cert.MobaRefIdeal.nD Cert.MobaRefIdeal.τ).loc Cert.MobaRefIdeal.main_arg0) = m ((c.tc : Thread Cert.MobaRefIdeal.nD Cert.MobaRefIdeal.τ).loc Cert.MobaRefIdeal.main_arg0)
      ∧ r.2.mem ((c.tc : Thread Cert.MobaRefIdeal.nD Cert.MobaRefIdeal.τ).loc Cert.MobaRefIdeal.main_arg1) = m ((c.tc : Thread Cert.MobaRefIdeal.nD Cert.MobaRefIdeal.τ).loc Cert.MobaRefIdeal.main_arg1)
      ∧ r.2.mem ((c.tc : Thread Cert.MobaRefIdeal.nD Cert.MobaRefIdeal.τ).loc Cert.MobaRefIdeal.main_arg2) = m ((c.tc : Thread Cert.MobaRefIdeal.nD Cert.MobaRefIdeal.τ).loc Cert.MobaRefIdeal.main_arg2)
      ∧ r.2.mem ((c.tc : Thread Cert.MobaRefIdeal.nD Cert.MobaRefIdeal.τ).loc Cert.MobaRefIdeal.main_arg3) = m ((c.tc : Thread Cert.MobaRefIdeal.nD Cert.MobaRefIdeal.τ).loc Cert.MobaRefIdeal.main_arg3))
      ∧ r.2.sem = fun _ => 0)

def quiescent_Moe [hMoe : Cert.Moe.Facts] [hPre_moe_ints : Cert.Pre_moe_ints.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5))
      ∧ r.2.sem = fun _ => 0)

def quiescent_MoeIdeal [hMoeIdeal : Cert.MoeIdeal.Facts] [hPre_moe_ints : Cert.Pre_moe_ints.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5))
      ∧ r.2.sem = fun _ => 0)

def quiescent_MoeRefIdeal_pre_moe_ints [hMoeRefIdeal : Cert.MoeRefIdeal.Facts] [hPre_moe_ints : Cert.Pre_moe_ints.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal_moe_ints m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4))
      ∧ r.2.sem = fun _ => 0)

def quiescent_AttnOut [hAttnOut : Cert.AttnOut.Facts] : Prop :=
  ∀ (m : (ℓ : Loc Cert.AttnOut.nD Cert.AttnOut.τ Cert.AttnOut.sig) → Buf (Elt Bits) ℓ) (g : Dev Cert.AttnOut.nD → PrngReg), Pre_AttnOut m →
    θ_run (Cert.AttnOut.defs (F := Bits)) (onTc (τ := Cert.AttnOut.τ) (Cert.AttnOut.main (F := Bits))) ⟨m, fun _ => 0, g⟩ (fun r => (∀ c : Dev Cert.AttnOut.nD,
      r.2.mem ((c.tc : Thread Cert.AttnOut.nD Cert.AttnOut.τ).loc Cert.AttnOut.main_arg0) = m ((c.tc : Thread Cert.AttnOut.nD Cert.AttnOut.τ).loc Cert.AttnOut.main_arg0)
      ∧ r.2.mem ((c.tc : Thread Cert.AttnOut.nD Cert.AttnOut.τ).loc Cert.AttnOut.main_arg1) = m ((c.tc : Thread Cert.AttnOut.nD Cert.AttnOut.τ).loc Cert.AttnOut.main_arg1)
      ∧ r.2.mem ((c.tc : Thread Cert.AttnOut.nD Cert.AttnOut.τ).loc Cert.AttnOut.main_arg2) = m ((c.tc : Thread Cert.AttnOut.nD Cert.AttnOut.τ).loc Cert.AttnOut.main_arg2)
      ∧ r.2.mem ((c.tc : Thread Cert.AttnOut.nD Cert.AttnOut.τ).loc Cert.AttnOut.main_arg3) = m ((c.tc : Thread Cert.AttnOut.nD Cert.AttnOut.τ).loc Cert.AttnOut.main_arg3)
      ∧ r.2.mem ((c.tc : Thread Cert.AttnOut.nD Cert.AttnOut.τ).loc Cert.AttnOut.main_arg4) = m ((c.tc : Thread Cert.AttnOut.nD Cert.AttnOut.τ).loc Cert.AttnOut.main_arg4)
      ∧ r.2.mem ((c.tc : Thread Cert.AttnOut.nD Cert.AttnOut.τ).loc Cert.AttnOut.main_arg5) = m ((c.tc : Thread Cert.AttnOut.nD Cert.AttnOut.τ).loc Cert.AttnOut.main_arg5)
      ∧ r.2.mem ((c.tc : Thread Cert.AttnOut.nD Cert.AttnOut.τ).loc Cert.AttnOut.main_arg6) = m ((c.tc : Thread Cert.AttnOut.nD Cert.AttnOut.τ).loc Cert.AttnOut.main_arg6)
      ∧ r.2.mem ((c.tc : Thread Cert.AttnOut.nD Cert.AttnOut.τ).loc Cert.AttnOut.main_arg7) = m ((c.tc : Thread Cert.AttnOut.nD Cert.AttnOut.τ).loc Cert.AttnOut.main_arg7)
      ∧ r.2.mem ((c.tc : Thread Cert.AttnOut.nD Cert.AttnOut.τ).loc Cert.AttnOut.main_arg8) = m ((c.tc : Thread Cert.AttnOut.nD Cert.AttnOut.τ).loc Cert.AttnOut.main_arg8)
      ∧ r.2.mem ((c.tc : Thread Cert.AttnOut.nD Cert.AttnOut.τ).loc Cert.AttnOut.main_arg9) = m ((c.tc : Thread Cert.AttnOut.nD Cert.AttnOut.τ).loc Cert.AttnOut.main_arg9))
      ∧ r.2.sem = fun _ => 0)

def quiescent_AttnOutIdeal [hAttnOutIdeal : Cert.AttnOutIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg), Pre_AttnOutIdeal m →
    θ_run (Cert.AttnOutIdeal.defs (F := Ideal)) (onTc (τ := Cert.AttnOutIdeal.τ) (Cert.AttnOutIdeal.main (F := Ideal))) ⟨m, fun _ => 0, g⟩ (fun r => (∀ c : Dev Cert.AttnOutIdeal.nD,
      r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
      ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
      ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
      ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3)
      ∧ r.2.mem ((c.tc : Thread Cert.AttnOutIdeal.nD Cert.AttnOutIdeal.τ).loc Cert.AttnOutIdeal.main_arg4) = m ((c.tc : Thread Cert.AttnOutIdeal.nD Cert.AttnOutIdeal.τ).loc Cert.AttnOutIdeal.main_arg4)
      ∧ r.2.mem ((c.tc : Thread Cert.AttnOutIdeal.nD Cert.AttnOutIdeal.τ).loc Cert.AttnOutIdeal.main_arg5) = m ((c.tc : Thread Cert.AttnOutIdeal.nD Cert.AttnOutIdeal.τ).loc Cert.AttnOutIdeal.main_arg5)
      ∧ r.2.mem ((c.tc : Thread Cert.AttnOutIdeal.nD Cert.AttnOutIdeal.τ).loc Cert.AttnOutIdeal.main_arg6) = m ((c.tc : Thread Cert.AttnOutIdeal.nD Cert.AttnOutIdeal.τ).loc Cert.AttnOutIdeal.main_arg6)
      ∧ r.2.mem ((c.tc : Thread Cert.AttnOutIdeal.nD Cert.AttnOutIdeal.τ).loc Cert.AttnOutIdeal.main_arg7) = m ((c.tc : Thread Cert.AttnOutIdeal.nD Cert.AttnOutIdeal.τ).loc Cert.AttnOutIdeal.main_arg7)
      ∧ r.2.mem ((c.tc : Thread Cert.AttnOutIdeal.nD Cert.AttnOutIdeal.τ).loc Cert.AttnOutIdeal.main_arg8) = m ((c.tc : Thread Cert.AttnOutIdeal.nD Cert.AttnOutIdeal.τ).loc Cert.AttnOutIdeal.main_arg8)
      ∧ r.2.mem ((c.tc : Thread Cert.AttnOutIdeal.nD Cert.AttnOutIdeal.τ).loc Cert.AttnOutIdeal.main_arg9) = m ((c.tc : Thread Cert.AttnOutIdeal.nD Cert.AttnOutIdeal.τ).loc Cert.AttnOutIdeal.main_arg9))
      ∧ r.2.sem = fun _ => 0)

def quiescent_AttnOutIdeal_pre_attn_out_finite [hAttnOutIdeal : Cert.AttnOutIdeal.Facts] [hPre_attn_out_finite : Cert.Pre_attn_out_finite.Facts] : Prop :=
  ∀ (m : (ℓ : Loc Cert.AttnOutIdeal.nD Cert.AttnOutIdeal.τ Cert.AttnOutIdeal.sig) → Buf (Elt Ideal) ℓ) (g : Dev Cert.AttnOutIdeal.nD → PrngReg), Pre_AttnOutIdeal_attn_out_finite m →
    θ_run (Cert.AttnOutIdeal.defs (F := Ideal)) (onTc (τ := Cert.AttnOutIdeal.τ) (Cert.AttnOutIdeal.main (F := Ideal))) ⟨m, fun _ => 0, g⟩ (fun r => (∀ c : Dev Cert.AttnOutIdeal.nD,
      r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
      ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
      ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
      ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3)
      ∧ r.2.mem ((c.tc : Thread Cert.AttnOutIdeal.nD Cert.AttnOutIdeal.τ).loc Cert.AttnOutIdeal.main_arg4) = m ((c.tc : Thread Cert.AttnOutIdeal.nD Cert.AttnOutIdeal.τ).loc Cert.AttnOutIdeal.main_arg4)
      ∧ r.2.mem ((c.tc : Thread Cert.AttnOutIdeal.nD Cert.AttnOutIdeal.τ).loc Cert.AttnOutIdeal.main_arg5) = m ((c.tc : Thread Cert.AttnOutIdeal.nD Cert.AttnOutIdeal.τ).loc Cert.AttnOutIdeal.main_arg5)
      ∧ r.2.mem ((c.tc : Thread Cert.AttnOutIdeal.nD Cert.AttnOutIdeal.τ).loc Cert.AttnOutIdeal.main_arg6) = m ((c.tc : Thread Cert.AttnOutIdeal.nD Cert.AttnOutIdeal.τ).loc Cert.AttnOutIdeal.main_arg6)
      ∧ r.2.mem ((c.tc : Thread Cert.AttnOutIdeal.nD Cert.AttnOutIdeal.τ).loc Cert.AttnOutIdeal.main_arg7) = m ((c.tc : Thread Cert.AttnOutIdeal.nD Cert.AttnOutIdeal.τ).loc Cert.AttnOutIdeal.main_arg7)
      ∧ r.2.mem ((c.tc : Thread Cert.AttnOutIdeal.nD Cert.AttnOutIdeal.τ).loc Cert.AttnOutIdeal.main_arg8) = m ((c.tc : Thread Cert.AttnOutIdeal.nD Cert.AttnOutIdeal.τ).loc Cert.AttnOutIdeal.main_arg8)
      ∧ r.2.mem ((c.tc : Thread Cert.AttnOutIdeal.nD Cert.AttnOutIdeal.τ).loc Cert.AttnOutIdeal.main_arg9) = m ((c.tc : Thread Cert.AttnOutIdeal.nD Cert.AttnOutIdeal.τ).loc Cert.AttnOutIdeal.main_arg9))
      ∧ r.2.sem = fun _ => 0)

def quiescent_AttnOutRefIdeal [hAttnOutRefIdeal : Cert.AttnOutRefIdeal.Facts] : Prop :=
  ∀ (m : (ℓ : Loc Cert.AttnOutRefIdeal.nD Cert.AttnOutRefIdeal.τ Cert.AttnOutRefIdeal.sig) → Buf (Elt Ideal) ℓ) (g : Dev Cert.AttnOutRefIdeal.nD → PrngReg), Pre_AttnOutRefIdeal m →
    θ_run (Cert.AttnOutRefIdeal.defs (F := Ideal)) (onTc (τ := Cert.AttnOutRefIdeal.τ) (Cert.AttnOutRefIdeal.main (F := Ideal))) ⟨m, fun _ => 0, g⟩ (fun r => (∀ c : Dev Cert.AttnOutRefIdeal.nD,
      r.2.mem ((c.tc : Thread Cert.AttnOutRefIdeal.nD Cert.AttnOutRefIdeal.τ).loc Cert.AttnOutRefIdeal.main_arg0) = m ((c.tc : Thread Cert.AttnOutRefIdeal.nD Cert.AttnOutRefIdeal.τ).loc Cert.AttnOutRefIdeal.main_arg0)
      ∧ r.2.mem ((c.tc : Thread Cert.AttnOutRefIdeal.nD Cert.AttnOutRefIdeal.τ).loc Cert.AttnOutRefIdeal.main_arg1) = m ((c.tc : Thread Cert.AttnOutRefIdeal.nD Cert.AttnOutRefIdeal.τ).loc Cert.AttnOutRefIdeal.main_arg1)
      ∧ r.2.mem ((c.tc : Thread Cert.AttnOutRefIdeal.nD Cert.AttnOutRefIdeal.τ).loc Cert.AttnOutRefIdeal.main_arg2) = m ((c.tc : Thread Cert.AttnOutRefIdeal.nD Cert.AttnOutRefIdeal.τ).loc Cert.AttnOutRefIdeal.main_arg2)
      ∧ r.2.mem ((c.tc : Thread Cert.AttnOutRefIdeal.nD Cert.AttnOutRefIdeal.τ).loc Cert.AttnOutRefIdeal.main_arg3) = m ((c.tc : Thread Cert.AttnOutRefIdeal.nD Cert.AttnOutRefIdeal.τ).loc Cert.AttnOutRefIdeal.main_arg3)
      ∧ r.2.mem ((c.tc : Thread Cert.AttnOutRefIdeal.nD Cert.AttnOutRefIdeal.τ).loc Cert.AttnOutRefIdeal.main_arg4) = m ((c.tc : Thread Cert.AttnOutRefIdeal.nD Cert.AttnOutRefIdeal.τ).loc Cert.AttnOutRefIdeal.main_arg4)
      ∧ r.2.mem ((c.tc : Thread Cert.AttnOutRefIdeal.nD Cert.AttnOutRefIdeal.τ).loc Cert.AttnOutRefIdeal.main_arg5) = m ((c.tc : Thread Cert.AttnOutRefIdeal.nD Cert.AttnOutRefIdeal.τ).loc Cert.AttnOutRefIdeal.main_arg5)
      ∧ r.2.mem ((c.tc : Thread Cert.AttnOutRefIdeal.nD Cert.AttnOutRefIdeal.τ).loc Cert.AttnOutRefIdeal.main_arg6) = m ((c.tc : Thread Cert.AttnOutRefIdeal.nD Cert.AttnOutRefIdeal.τ).loc Cert.AttnOutRefIdeal.main_arg6)
      ∧ r.2.mem ((c.tc : Thread Cert.AttnOutRefIdeal.nD Cert.AttnOutRefIdeal.τ).loc Cert.AttnOutRefIdeal.main_arg7) = m ((c.tc : Thread Cert.AttnOutRefIdeal.nD Cert.AttnOutRefIdeal.τ).loc Cert.AttnOutRefIdeal.main_arg7)
      ∧ r.2.mem ((c.tc : Thread Cert.AttnOutRefIdeal.nD Cert.AttnOutRefIdeal.τ).loc Cert.AttnOutRefIdeal.main_arg8) = m ((c.tc : Thread Cert.AttnOutRefIdeal.nD Cert.AttnOutRefIdeal.τ).loc Cert.AttnOutRefIdeal.main_arg8)
      ∧ r.2.mem ((c.tc : Thread Cert.AttnOutRefIdeal.nD Cert.AttnOutRefIdeal.τ).loc Cert.AttnOutRefIdeal.main_arg9) = m ((c.tc : Thread Cert.AttnOutRefIdeal.nD Cert.AttnOutRefIdeal.τ).loc Cert.AttnOutRefIdeal.main_arg9))
      ∧ r.2.sem = fun _ => 0)

def quiescent_AttnOutRefIdeal_pre_attn_out_finite [hAttnOutRefIdeal : Cert.AttnOutRefIdeal.Facts] [hPre_attn_out_finite : Cert.Pre_attn_out_finite.Facts] : Prop :=
  ∀ (m : (ℓ : Loc Cert.AttnOutRefIdeal.nD Cert.AttnOutRefIdeal.τ Cert.AttnOutRefIdeal.sig) → Buf (Elt Ideal) ℓ) (g : Dev Cert.AttnOutRefIdeal.nD → PrngReg), Pre_AttnOutRefIdeal_attn_out_finite m →
    θ_run (Cert.AttnOutRefIdeal.defs (F := Ideal)) (onTc (τ := Cert.AttnOutRefIdeal.τ) (Cert.AttnOutRefIdeal.main (F := Ideal))) ⟨m, fun _ => 0, g⟩ (fun r => (∀ c : Dev Cert.AttnOutRefIdeal.nD,
      r.2.mem ((c.tc : Thread Cert.AttnOutRefIdeal.nD Cert.AttnOutRefIdeal.τ).loc Cert.AttnOutRefIdeal.main_arg0) = m ((c.tc : Thread Cert.AttnOutRefIdeal.nD Cert.AttnOutRefIdeal.τ).loc Cert.AttnOutRefIdeal.main_arg0)
      ∧ r.2.mem ((c.tc : Thread Cert.AttnOutRefIdeal.nD Cert.AttnOutRefIdeal.τ).loc Cert.AttnOutRefIdeal.main_arg1) = m ((c.tc : Thread Cert.AttnOutRefIdeal.nD Cert.AttnOutRefIdeal.τ).loc Cert.AttnOutRefIdeal.main_arg1)
      ∧ r.2.mem ((c.tc : Thread Cert.AttnOutRefIdeal.nD Cert.AttnOutRefIdeal.τ).loc Cert.AttnOutRefIdeal.main_arg2) = m ((c.tc : Thread Cert.AttnOutRefIdeal.nD Cert.AttnOutRefIdeal.τ).loc Cert.AttnOutRefIdeal.main_arg2)
      ∧ r.2.mem ((c.tc : Thread Cert.AttnOutRefIdeal.nD Cert.AttnOutRefIdeal.τ).loc Cert.AttnOutRefIdeal.main_arg3) = m ((c.tc : Thread Cert.AttnOutRefIdeal.nD Cert.AttnOutRefIdeal.τ).loc Cert.AttnOutRefIdeal.main_arg3)
      ∧ r.2.mem ((c.tc : Thread Cert.AttnOutRefIdeal.nD Cert.AttnOutRefIdeal.τ).loc Cert.AttnOutRefIdeal.main_arg4) = m ((c.tc : Thread Cert.AttnOutRefIdeal.nD Cert.AttnOutRefIdeal.τ).loc Cert.AttnOutRefIdeal.main_arg4)
      ∧ r.2.mem ((c.tc : Thread Cert.AttnOutRefIdeal.nD Cert.AttnOutRefIdeal.τ).loc Cert.AttnOutRefIdeal.main_arg5) = m ((c.tc : Thread Cert.AttnOutRefIdeal.nD Cert.AttnOutRefIdeal.τ).loc Cert.AttnOutRefIdeal.main_arg5)
      ∧ r.2.mem ((c.tc : Thread Cert.AttnOutRefIdeal.nD Cert.AttnOutRefIdeal.τ).loc Cert.AttnOutRefIdeal.main_arg6) = m ((c.tc : Thread Cert.AttnOutRefIdeal.nD Cert.AttnOutRefIdeal.τ).loc Cert.AttnOutRefIdeal.main_arg6)
      ∧ r.2.mem ((c.tc : Thread Cert.AttnOutRefIdeal.nD Cert.AttnOutRefIdeal.τ).loc Cert.AttnOutRefIdeal.main_arg7) = m ((c.tc : Thread Cert.AttnOutRefIdeal.nD Cert.AttnOutRefIdeal.τ).loc Cert.AttnOutRefIdeal.main_arg7)
      ∧ r.2.mem ((c.tc : Thread Cert.AttnOutRefIdeal.nD Cert.AttnOutRefIdeal.τ).loc Cert.AttnOutRefIdeal.main_arg8) = m ((c.tc : Thread Cert.AttnOutRefIdeal.nD Cert.AttnOutRefIdeal.τ).loc Cert.AttnOutRefIdeal.main_arg8)
      ∧ r.2.mem ((c.tc : Thread Cert.AttnOutRefIdeal.nD Cert.AttnOutRefIdeal.τ).loc Cert.AttnOutRefIdeal.main_arg9) = m ((c.tc : Thread Cert.AttnOutRefIdeal.nD Cert.AttnOutRefIdeal.τ).loc Cert.AttnOutRefIdeal.main_arg9))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1)
      ∧ r.2.mem ((c.tc : Thread Cert.FfnOut.nD Cert.FfnOut.τ).loc Cert.FfnOut.main_arg2) = m ((c.tc : Thread Cert.FfnOut.nD Cert.FfnOut.τ).loc Cert.FfnOut.main_arg2)
      ∧ r.2.mem ((c.tc : Thread Cert.FfnOut.nD Cert.FfnOut.τ).loc Cert.FfnOut.main_arg3) = m ((c.tc : Thread Cert.FfnOut.nD Cert.FfnOut.τ).loc Cert.FfnOut.main_arg3)
      ∧ r.2.mem ((c.tc : Thread Cert.FfnOut.nD Cert.FfnOut.τ).loc Cert.FfnOut.main_arg4) = m ((c.tc : Thread Cert.FfnOut.nD Cert.FfnOut.τ).loc Cert.FfnOut.main_arg4)
      ∧ r.2.mem ((c.tc : Thread Cert.FfnOut.nD Cert.FfnOut.τ).loc Cert.FfnOut.main_arg5) = m ((c.tc : Thread Cert.FfnOut.nD Cert.FfnOut.τ).loc Cert.FfnOut.main_arg5)
      ∧ r.2.mem ((c.tc : Thread Cert.FfnOut.nD Cert.FfnOut.τ).loc Cert.FfnOut.main_arg6) = m ((c.tc : Thread Cert.FfnOut.nD Cert.FfnOut.τ).loc Cert.FfnOut.main_arg6)
      ∧ r.2.mem ((c.tc : Thread Cert.FfnOut.nD Cert.FfnOut.τ).loc Cert.FfnOut.main_arg7) = m ((c.tc : Thread Cert.FfnOut.nD Cert.FfnOut.τ).loc Cert.FfnOut.main_arg7)
      ∧ r.2.mem ((c.tc : Thread Cert.FfnOut.nD Cert.FfnOut.τ).loc Cert.FfnOut.main_arg8) = m ((c.tc : Thread Cert.FfnOut.nD Cert.FfnOut.τ).loc Cert.FfnOut.main_arg8))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
      ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
      ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3)
      ∧ r.2.mem ((c.tc : Thread Cert.FfnOutIdeal.nD Cert.FfnOutIdeal.τ).loc Cert.FfnOutIdeal.main_arg4) = m ((c.tc : Thread Cert.FfnOutIdeal.nD Cert.FfnOutIdeal.τ).loc Cert.FfnOutIdeal.main_arg4)
      ∧ r.2.mem ((c.tc : Thread Cert.FfnOutIdeal.nD Cert.FfnOutIdeal.τ).loc Cert.FfnOutIdeal.main_arg5) = m ((c.tc : Thread Cert.FfnOutIdeal.nD Cert.FfnOutIdeal.τ).loc Cert.FfnOutIdeal.main_arg5)
      ∧ r.2.mem ((c.tc : Thread Cert.FfnOutIdeal.nD Cert.FfnOutIdeal.τ).loc Cert.FfnOutIdeal.main_arg6) = m ((c.tc : Thread Cert.FfnOutIdeal.nD Cert.FfnOutIdeal.τ).loc Cert.FfnOutIdeal.main_arg6)
      ∧ r.2.mem ((c.tc : Thread Cert.FfnOutIdeal.nD Cert.FfnOutIdeal.τ).loc Cert.FfnOutIdeal.main_arg7) = m ((c.tc : Thread Cert.FfnOutIdeal.nD Cert.FfnOutIdeal.τ).loc Cert.FfnOutIdeal.main_arg7)
      ∧ r.2.mem ((c.tc : Thread Cert.FfnOutIdeal.nD Cert.FfnOutIdeal.τ).loc Cert.FfnOutIdeal.main_arg8) = m ((c.tc : Thread Cert.FfnOutIdeal.nD Cert.FfnOutIdeal.τ).loc Cert.FfnOutIdeal.main_arg8))
      ∧ r.2.sem = fun _ => 0)

def quiescent_FfnOutRefIdeal [hFfnOutRefIdeal : Cert.FfnOutRefIdeal.Facts] : Prop :=
  ∀ (m : (ℓ : Loc Cert.FfnOutRefIdeal.nD Cert.FfnOutRefIdeal.τ Cert.FfnOutRefIdeal.sig) → Buf (Elt Ideal) ℓ) (g : Dev Cert.FfnOutRefIdeal.nD → PrngReg), Pre_FfnOutRefIdeal m →
    θ_run (Cert.FfnOutRefIdeal.defs (F := Ideal)) (onTc (τ := Cert.FfnOutRefIdeal.τ) (Cert.FfnOutRefIdeal.main (F := Ideal))) ⟨m, fun _ => 0, g⟩ (fun r => (∀ c : Dev Cert.FfnOutRefIdeal.nD,
      r.2.mem ((c.tc : Thread Cert.FfnOutRefIdeal.nD Cert.FfnOutRefIdeal.τ).loc Cert.FfnOutRefIdeal.main_arg0) = m ((c.tc : Thread Cert.FfnOutRefIdeal.nD Cert.FfnOutRefIdeal.τ).loc Cert.FfnOutRefIdeal.main_arg0)
      ∧ r.2.mem ((c.tc : Thread Cert.FfnOutRefIdeal.nD Cert.FfnOutRefIdeal.τ).loc Cert.FfnOutRefIdeal.main_arg1) = m ((c.tc : Thread Cert.FfnOutRefIdeal.nD Cert.FfnOutRefIdeal.τ).loc Cert.FfnOutRefIdeal.main_arg1)
      ∧ r.2.mem ((c.tc : Thread Cert.FfnOutRefIdeal.nD Cert.FfnOutRefIdeal.τ).loc Cert.FfnOutRefIdeal.main_arg2) = m ((c.tc : Thread Cert.FfnOutRefIdeal.nD Cert.FfnOutRefIdeal.τ).loc Cert.FfnOutRefIdeal.main_arg2)
      ∧ r.2.mem ((c.tc : Thread Cert.FfnOutRefIdeal.nD Cert.FfnOutRefIdeal.τ).loc Cert.FfnOutRefIdeal.main_arg3) = m ((c.tc : Thread Cert.FfnOutRefIdeal.nD Cert.FfnOutRefIdeal.τ).loc Cert.FfnOutRefIdeal.main_arg3)
      ∧ r.2.mem ((c.tc : Thread Cert.FfnOutRefIdeal.nD Cert.FfnOutRefIdeal.τ).loc Cert.FfnOutRefIdeal.main_arg4) = m ((c.tc : Thread Cert.FfnOutRefIdeal.nD Cert.FfnOutRefIdeal.τ).loc Cert.FfnOutRefIdeal.main_arg4)
      ∧ r.2.mem ((c.tc : Thread Cert.FfnOutRefIdeal.nD Cert.FfnOutRefIdeal.τ).loc Cert.FfnOutRefIdeal.main_arg5) = m ((c.tc : Thread Cert.FfnOutRefIdeal.nD Cert.FfnOutRefIdeal.τ).loc Cert.FfnOutRefIdeal.main_arg5)
      ∧ r.2.mem ((c.tc : Thread Cert.FfnOutRefIdeal.nD Cert.FfnOutRefIdeal.τ).loc Cert.FfnOutRefIdeal.main_arg6) = m ((c.tc : Thread Cert.FfnOutRefIdeal.nD Cert.FfnOutRefIdeal.τ).loc Cert.FfnOutRefIdeal.main_arg6)
      ∧ r.2.mem ((c.tc : Thread Cert.FfnOutRefIdeal.nD Cert.FfnOutRefIdeal.τ).loc Cert.FfnOutRefIdeal.main_arg7) = m ((c.tc : Thread Cert.FfnOutRefIdeal.nD Cert.FfnOutRefIdeal.τ).loc Cert.FfnOutRefIdeal.main_arg7)
      ∧ r.2.mem ((c.tc : Thread Cert.FfnOutRefIdeal.nD Cert.FfnOutRefIdeal.τ).loc Cert.FfnOutRefIdeal.main_arg8) = m ((c.tc : Thread Cert.FfnOutRefIdeal.nD Cert.FfnOutRefIdeal.τ).loc Cert.FfnOutRefIdeal.main_arg8))
      ∧ r.2.sem = fun _ => 0)

def quiescent_QkvS [hQkvS : Cert.QkvS.Facts] : Prop :=
  ∀ (m : (ℓ : Loc Cert.QkvS.nD Cert.QkvS.τ Cert.QkvS.sig) → Buf (Elt Bits) ℓ) (g : Dev Cert.QkvS.nD → PrngReg), Pre_QkvS m →
    θ_run (Cert.QkvS.defs (F := Bits)) (onTc (τ := Cert.QkvS.τ) (Cert.QkvS.main (F := Bits))) ⟨m, fun _ => 0, g⟩ (fun r => (∀ c : Dev Cert.QkvS.nD,
      r.2.mem ((c.tc : Thread Cert.QkvS.nD Cert.QkvS.τ).loc Cert.QkvS.main_arg0) = m ((c.tc : Thread Cert.QkvS.nD Cert.QkvS.τ).loc Cert.QkvS.main_arg0)
      ∧ r.2.mem ((c.tc : Thread Cert.QkvS.nD Cert.QkvS.τ).loc Cert.QkvS.main_arg1) = m ((c.tc : Thread Cert.QkvS.nD Cert.QkvS.τ).loc Cert.QkvS.main_arg1)
      ∧ r.2.mem ((c.tc : Thread Cert.QkvS.nD Cert.QkvS.τ).loc Cert.QkvS.main_arg2) = m ((c.tc : Thread Cert.QkvS.nD Cert.QkvS.τ).loc Cert.QkvS.main_arg2)
      ∧ r.2.mem ((c.tc : Thread Cert.QkvS.nD Cert.QkvS.τ).loc Cert.QkvS.main_arg3) = m ((c.tc : Thread Cert.QkvS.nD Cert.QkvS.τ).loc Cert.QkvS.main_arg3)
      ∧ r.2.mem ((c.tc : Thread Cert.QkvS.nD Cert.QkvS.τ).loc Cert.QkvS.main_arg4) = m ((c.tc : Thread Cert.QkvS.nD Cert.QkvS.τ).loc Cert.QkvS.main_arg4))
      ∧ r.2.sem = fun _ => 0)

def quiescent_QkvSIdeal [hQkvSIdeal : Cert.QkvSIdeal.Facts] : Prop :=
  ∀ (m : (ℓ : Loc Cert.QkvSIdeal.nD Cert.QkvSIdeal.τ Cert.QkvSIdeal.sig) → Buf (Elt Ideal) ℓ) (g : Dev Cert.QkvSIdeal.nD → PrngReg), Pre_QkvSIdeal m →
    θ_run (Cert.QkvSIdeal.defs (F := Ideal)) (onTc (τ := Cert.QkvSIdeal.τ) (Cert.QkvSIdeal.main (F := Ideal))) ⟨m, fun _ => 0, g⟩ (fun r => (∀ c : Dev Cert.QkvSIdeal.nD,
      r.2.mem ((c.tc : Thread Cert.QkvSIdeal.nD Cert.QkvSIdeal.τ).loc Cert.QkvSIdeal.main_arg0) = m ((c.tc : Thread Cert.QkvSIdeal.nD Cert.QkvSIdeal.τ).loc Cert.QkvSIdeal.main_arg0)
      ∧ r.2.mem ((c.tc : Thread Cert.QkvSIdeal.nD Cert.QkvSIdeal.τ).loc Cert.QkvSIdeal.main_arg1) = m ((c.tc : Thread Cert.QkvSIdeal.nD Cert.QkvSIdeal.τ).loc Cert.QkvSIdeal.main_arg1)
      ∧ r.2.mem ((c.tc : Thread Cert.QkvSIdeal.nD Cert.QkvSIdeal.τ).loc Cert.QkvSIdeal.main_arg2) = m ((c.tc : Thread Cert.QkvSIdeal.nD Cert.QkvSIdeal.τ).loc Cert.QkvSIdeal.main_arg2)
      ∧ r.2.mem ((c.tc : Thread Cert.QkvSIdeal.nD Cert.QkvSIdeal.τ).loc Cert.QkvSIdeal.main_arg3) = m ((c.tc : Thread Cert.QkvSIdeal.nD Cert.QkvSIdeal.τ).loc Cert.QkvSIdeal.main_arg3)
      ∧ r.2.mem ((c.tc : Thread Cert.QkvSIdeal.nD Cert.QkvSIdeal.τ).loc Cert.QkvSIdeal.main_arg4) = m ((c.tc : Thread Cert.QkvSIdeal.nD Cert.QkvSIdeal.τ).loc Cert.QkvSIdeal.main_arg4))
      ∧ r.2.sem = fun _ => 0)

def quiescent_QkvSRefIdeal [hQkvSRefIdeal : Cert.QkvSRefIdeal.Facts] : Prop :=
  ∀ (m : (ℓ : Loc Cert.QkvSRefIdeal.nD Cert.QkvSRefIdeal.τ Cert.QkvSRefIdeal.sig) → Buf (Elt Ideal) ℓ) (g : Dev Cert.QkvSRefIdeal.nD → PrngReg), Pre_QkvSRefIdeal m →
    θ_run (Cert.QkvSRefIdeal.defs (F := Ideal)) (onTc (τ := Cert.QkvSRefIdeal.τ) (Cert.QkvSRefIdeal.main (F := Ideal))) ⟨m, fun _ => 0, g⟩ (fun r => (∀ c : Dev Cert.QkvSRefIdeal.nD,
      r.2.mem ((c.tc : Thread Cert.QkvSRefIdeal.nD Cert.QkvSRefIdeal.τ).loc Cert.QkvSRefIdeal.main_arg0) = m ((c.tc : Thread Cert.QkvSRefIdeal.nD Cert.QkvSRefIdeal.τ).loc Cert.QkvSRefIdeal.main_arg0)
      ∧ r.2.mem ((c.tc : Thread Cert.QkvSRefIdeal.nD Cert.QkvSRefIdeal.τ).loc Cert.QkvSRefIdeal.main_arg1) = m ((c.tc : Thread Cert.QkvSRefIdeal.nD Cert.QkvSRefIdeal.τ).loc Cert.QkvSRefIdeal.main_arg1)
      ∧ r.2.mem ((c.tc : Thread Cert.QkvSRefIdeal.nD Cert.QkvSRefIdeal.τ).loc Cert.QkvSRefIdeal.main_arg2) = m ((c.tc : Thread Cert.QkvSRefIdeal.nD Cert.QkvSRefIdeal.τ).loc Cert.QkvSRefIdeal.main_arg2)
      ∧ r.2.mem ((c.tc : Thread Cert.QkvSRefIdeal.nD Cert.QkvSRefIdeal.τ).loc Cert.QkvSRefIdeal.main_arg3) = m ((c.tc : Thread Cert.QkvSRefIdeal.nD Cert.QkvSRefIdeal.τ).loc Cert.QkvSRefIdeal.main_arg3)
      ∧ r.2.mem ((c.tc : Thread Cert.QkvSRefIdeal.nD Cert.QkvSRefIdeal.τ).loc Cert.QkvSRefIdeal.main_arg4) = m ((c.tc : Thread Cert.QkvSRefIdeal.nD Cert.QkvSRefIdeal.τ).loc Cert.QkvSRefIdeal.main_arg4))
      ∧ r.2.sem = fun _ => 0)

def quiescent_FfnOutS [hFfnOutS : Cert.FfnOutS.Facts] : Prop :=
  ∀ (m : (ℓ : Loc Cert.FfnOutS.nD Cert.FfnOutS.τ Cert.FfnOutS.sig) → Buf (Elt Bits) ℓ) (g : Dev Cert.FfnOutS.nD → PrngReg), Pre_FfnOutS m →
    θ_run (Cert.FfnOutS.defs (F := Bits)) (onTc (τ := Cert.FfnOutS.τ) (Cert.FfnOutS.main (F := Bits))) ⟨m, fun _ => 0, g⟩ (fun r => (∀ c : Dev Cert.FfnOutS.nD,
      r.2.mem ((c.tc : Thread Cert.FfnOutS.nD Cert.FfnOutS.τ).loc Cert.FfnOutS.main_arg0) = m ((c.tc : Thread Cert.FfnOutS.nD Cert.FfnOutS.τ).loc Cert.FfnOutS.main_arg0)
      ∧ r.2.mem ((c.tc : Thread Cert.FfnOutS.nD Cert.FfnOutS.τ).loc Cert.FfnOutS.main_arg1) = m ((c.tc : Thread Cert.FfnOutS.nD Cert.FfnOutS.τ).loc Cert.FfnOutS.main_arg1)
      ∧ r.2.mem ((c.tc : Thread Cert.FfnOutS.nD Cert.FfnOutS.τ).loc Cert.FfnOutS.main_arg2) = m ((c.tc : Thread Cert.FfnOutS.nD Cert.FfnOutS.τ).loc Cert.FfnOutS.main_arg2)
      ∧ r.2.mem ((c.tc : Thread Cert.FfnOutS.nD Cert.FfnOutS.τ).loc Cert.FfnOutS.main_arg3) = m ((c.tc : Thread Cert.FfnOutS.nD Cert.FfnOutS.τ).loc Cert.FfnOutS.main_arg3)
      ∧ r.2.mem ((c.tc : Thread Cert.FfnOutS.nD Cert.FfnOutS.τ).loc Cert.FfnOutS.main_arg4) = m ((c.tc : Thread Cert.FfnOutS.nD Cert.FfnOutS.τ).loc Cert.FfnOutS.main_arg4)
      ∧ r.2.mem ((c.tc : Thread Cert.FfnOutS.nD Cert.FfnOutS.τ).loc Cert.FfnOutS.main_arg5) = m ((c.tc : Thread Cert.FfnOutS.nD Cert.FfnOutS.τ).loc Cert.FfnOutS.main_arg5)
      ∧ r.2.mem ((c.tc : Thread Cert.FfnOutS.nD Cert.FfnOutS.τ).loc Cert.FfnOutS.main_arg6) = m ((c.tc : Thread Cert.FfnOutS.nD Cert.FfnOutS.τ).loc Cert.FfnOutS.main_arg6)
      ∧ r.2.mem ((c.tc : Thread Cert.FfnOutS.nD Cert.FfnOutS.τ).loc Cert.FfnOutS.main_arg7) = m ((c.tc : Thread Cert.FfnOutS.nD Cert.FfnOutS.τ).loc Cert.FfnOutS.main_arg7)
      ∧ r.2.mem ((c.tc : Thread Cert.FfnOutS.nD Cert.FfnOutS.τ).loc Cert.FfnOutS.main_arg8) = m ((c.tc : Thread Cert.FfnOutS.nD Cert.FfnOutS.τ).loc Cert.FfnOutS.main_arg8))
      ∧ r.2.sem = fun _ => 0)

def quiescent_FfnOutSIdeal [hFfnOutSIdeal : Cert.FfnOutSIdeal.Facts] : Prop :=
  ∀ (m : (ℓ : Loc Cert.FfnOutSIdeal.nD Cert.FfnOutSIdeal.τ Cert.FfnOutSIdeal.sig) → Buf (Elt Ideal) ℓ) (g : Dev Cert.FfnOutSIdeal.nD → PrngReg), Pre_FfnOutSIdeal m →
    θ_run (Cert.FfnOutSIdeal.defs (F := Ideal)) (onTc (τ := Cert.FfnOutSIdeal.τ) (Cert.FfnOutSIdeal.main (F := Ideal))) ⟨m, fun _ => 0, g⟩ (fun r => (∀ c : Dev Cert.FfnOutSIdeal.nD,
      r.2.mem ((c.tc : Thread Cert.FfnOutSIdeal.nD Cert.FfnOutSIdeal.τ).loc Cert.FfnOutSIdeal.main_arg0) = m ((c.tc : Thread Cert.FfnOutSIdeal.nD Cert.FfnOutSIdeal.τ).loc Cert.FfnOutSIdeal.main_arg0)
      ∧ r.2.mem ((c.tc : Thread Cert.FfnOutSIdeal.nD Cert.FfnOutSIdeal.τ).loc Cert.FfnOutSIdeal.main_arg1) = m ((c.tc : Thread Cert.FfnOutSIdeal.nD Cert.FfnOutSIdeal.τ).loc Cert.FfnOutSIdeal.main_arg1)
      ∧ r.2.mem ((c.tc : Thread Cert.FfnOutSIdeal.nD Cert.FfnOutSIdeal.τ).loc Cert.FfnOutSIdeal.main_arg2) = m ((c.tc : Thread Cert.FfnOutSIdeal.nD Cert.FfnOutSIdeal.τ).loc Cert.FfnOutSIdeal.main_arg2)
      ∧ r.2.mem ((c.tc : Thread Cert.FfnOutSIdeal.nD Cert.FfnOutSIdeal.τ).loc Cert.FfnOutSIdeal.main_arg3) = m ((c.tc : Thread Cert.FfnOutSIdeal.nD Cert.FfnOutSIdeal.τ).loc Cert.FfnOutSIdeal.main_arg3)
      ∧ r.2.mem ((c.tc : Thread Cert.FfnOutSIdeal.nD Cert.FfnOutSIdeal.τ).loc Cert.FfnOutSIdeal.main_arg4) = m ((c.tc : Thread Cert.FfnOutSIdeal.nD Cert.FfnOutSIdeal.τ).loc Cert.FfnOutSIdeal.main_arg4)
      ∧ r.2.mem ((c.tc : Thread Cert.FfnOutSIdeal.nD Cert.FfnOutSIdeal.τ).loc Cert.FfnOutSIdeal.main_arg5) = m ((c.tc : Thread Cert.FfnOutSIdeal.nD Cert.FfnOutSIdeal.τ).loc Cert.FfnOutSIdeal.main_arg5)
      ∧ r.2.mem ((c.tc : Thread Cert.FfnOutSIdeal.nD Cert.FfnOutSIdeal.τ).loc Cert.FfnOutSIdeal.main_arg6) = m ((c.tc : Thread Cert.FfnOutSIdeal.nD Cert.FfnOutSIdeal.τ).loc Cert.FfnOutSIdeal.main_arg6)
      ∧ r.2.mem ((c.tc : Thread Cert.FfnOutSIdeal.nD Cert.FfnOutSIdeal.τ).loc Cert.FfnOutSIdeal.main_arg7) = m ((c.tc : Thread Cert.FfnOutSIdeal.nD Cert.FfnOutSIdeal.τ).loc Cert.FfnOutSIdeal.main_arg7)
      ∧ r.2.mem ((c.tc : Thread Cert.FfnOutSIdeal.nD Cert.FfnOutSIdeal.τ).loc Cert.FfnOutSIdeal.main_arg8) = m ((c.tc : Thread Cert.FfnOutSIdeal.nD Cert.FfnOutSIdeal.τ).loc Cert.FfnOutSIdeal.main_arg8))
      ∧ r.2.sem = fun _ => 0)

def quiescent_FfnOutSRefIdeal [hFfnOutSRefIdeal : Cert.FfnOutSRefIdeal.Facts] : Prop :=
  ∀ (m : (ℓ : Loc Cert.FfnOutSRefIdeal.nD Cert.FfnOutSRefIdeal.τ Cert.FfnOutSRefIdeal.sig) → Buf (Elt Ideal) ℓ) (g : Dev Cert.FfnOutSRefIdeal.nD → PrngReg), Pre_FfnOutSRefIdeal m →
    θ_run (Cert.FfnOutSRefIdeal.defs (F := Ideal)) (onTc (τ := Cert.FfnOutSRefIdeal.τ) (Cert.FfnOutSRefIdeal.main (F := Ideal))) ⟨m, fun _ => 0, g⟩ (fun r => (∀ c : Dev Cert.FfnOutSRefIdeal.nD,
      r.2.mem ((c.tc : Thread Cert.FfnOutSRefIdeal.nD Cert.FfnOutSRefIdeal.τ).loc Cert.FfnOutSRefIdeal.main_arg0) = m ((c.tc : Thread Cert.FfnOutSRefIdeal.nD Cert.FfnOutSRefIdeal.τ).loc Cert.FfnOutSRefIdeal.main_arg0)
      ∧ r.2.mem ((c.tc : Thread Cert.FfnOutSRefIdeal.nD Cert.FfnOutSRefIdeal.τ).loc Cert.FfnOutSRefIdeal.main_arg1) = m ((c.tc : Thread Cert.FfnOutSRefIdeal.nD Cert.FfnOutSRefIdeal.τ).loc Cert.FfnOutSRefIdeal.main_arg1)
      ∧ r.2.mem ((c.tc : Thread Cert.FfnOutSRefIdeal.nD Cert.FfnOutSRefIdeal.τ).loc Cert.FfnOutSRefIdeal.main_arg2) = m ((c.tc : Thread Cert.FfnOutSRefIdeal.nD Cert.FfnOutSRefIdeal.τ).loc Cert.FfnOutSRefIdeal.main_arg2)
      ∧ r.2.mem ((c.tc : Thread Cert.FfnOutSRefIdeal.nD Cert.FfnOutSRefIdeal.τ).loc Cert.FfnOutSRefIdeal.main_arg3) = m ((c.tc : Thread Cert.FfnOutSRefIdeal.nD Cert.FfnOutSRefIdeal.τ).loc Cert.FfnOutSRefIdeal.main_arg3)
      ∧ r.2.mem ((c.tc : Thread Cert.FfnOutSRefIdeal.nD Cert.FfnOutSRefIdeal.τ).loc Cert.FfnOutSRefIdeal.main_arg4) = m ((c.tc : Thread Cert.FfnOutSRefIdeal.nD Cert.FfnOutSRefIdeal.τ).loc Cert.FfnOutSRefIdeal.main_arg4)
      ∧ r.2.mem ((c.tc : Thread Cert.FfnOutSRefIdeal.nD Cert.FfnOutSRefIdeal.τ).loc Cert.FfnOutSRefIdeal.main_arg5) = m ((c.tc : Thread Cert.FfnOutSRefIdeal.nD Cert.FfnOutSRefIdeal.τ).loc Cert.FfnOutSRefIdeal.main_arg5)
      ∧ r.2.mem ((c.tc : Thread Cert.FfnOutSRefIdeal.nD Cert.FfnOutSRefIdeal.τ).loc Cert.FfnOutSRefIdeal.main_arg6) = m ((c.tc : Thread Cert.FfnOutSRefIdeal.nD Cert.FfnOutSRefIdeal.τ).loc Cert.FfnOutSRefIdeal.main_arg6)
      ∧ r.2.mem ((c.tc : Thread Cert.FfnOutSRefIdeal.nD Cert.FfnOutSRefIdeal.τ).loc Cert.FfnOutSRefIdeal.main_arg7) = m ((c.tc : Thread Cert.FfnOutSRefIdeal.nD Cert.FfnOutSRefIdeal.τ).loc Cert.FfnOutSRefIdeal.main_arg7)
      ∧ r.2.mem ((c.tc : Thread Cert.FfnOutSRefIdeal.nD Cert.FfnOutSRefIdeal.τ).loc Cert.FfnOutSRefIdeal.main_arg8) = m ((c.tc : Thread Cert.FfnOutSRefIdeal.nD Cert.FfnOutSRefIdeal.τ).loc Cert.FfnOutSRefIdeal.main_arg8))
      ∧ r.2.sem = fun _ => 0)

def quiescent_QkvW [hQkvW : Cert.QkvW.Facts] : Prop :=
  ∀ (m : (ℓ : Loc Cert.QkvW.nD Cert.QkvW.τ Cert.QkvW.sig) → Buf (Elt Bits) ℓ) (g : Dev Cert.QkvW.nD → PrngReg), Pre_QkvW m →
    θ_run (Cert.QkvW.defs (F := Bits)) (onTc (τ := Cert.QkvW.τ) (Cert.QkvW.main (F := Bits))) ⟨m, fun _ => 0, g⟩ (fun r => (∀ c : Dev Cert.QkvW.nD,
      r.2.mem ((c.tc : Thread Cert.QkvW.nD Cert.QkvW.τ).loc Cert.QkvW.main_arg0) = m ((c.tc : Thread Cert.QkvW.nD Cert.QkvW.τ).loc Cert.QkvW.main_arg0)
      ∧ r.2.mem ((c.tc : Thread Cert.QkvW.nD Cert.QkvW.τ).loc Cert.QkvW.main_arg1) = m ((c.tc : Thread Cert.QkvW.nD Cert.QkvW.τ).loc Cert.QkvW.main_arg1)
      ∧ r.2.mem ((c.tc : Thread Cert.QkvW.nD Cert.QkvW.τ).loc Cert.QkvW.main_arg2) = m ((c.tc : Thread Cert.QkvW.nD Cert.QkvW.τ).loc Cert.QkvW.main_arg2)
      ∧ r.2.mem ((c.tc : Thread Cert.QkvW.nD Cert.QkvW.τ).loc Cert.QkvW.main_arg3) = m ((c.tc : Thread Cert.QkvW.nD Cert.QkvW.τ).loc Cert.QkvW.main_arg3)
      ∧ r.2.mem ((c.tc : Thread Cert.QkvW.nD Cert.QkvW.τ).loc Cert.QkvW.main_arg4) = m ((c.tc : Thread Cert.QkvW.nD Cert.QkvW.τ).loc Cert.QkvW.main_arg4))
      ∧ r.2.sem = fun _ => 0)

def quiescent_QkvWIdeal [hQkvWIdeal : Cert.QkvWIdeal.Facts] : Prop :=
  ∀ (m : (ℓ : Loc Cert.QkvWIdeal.nD Cert.QkvWIdeal.τ Cert.QkvWIdeal.sig) → Buf (Elt Ideal) ℓ) (g : Dev Cert.QkvWIdeal.nD → PrngReg), Pre_QkvWIdeal m →
    θ_run (Cert.QkvWIdeal.defs (F := Ideal)) (onTc (τ := Cert.QkvWIdeal.τ) (Cert.QkvWIdeal.main (F := Ideal))) ⟨m, fun _ => 0, g⟩ (fun r => (∀ c : Dev Cert.QkvWIdeal.nD,
      r.2.mem ((c.tc : Thread Cert.QkvWIdeal.nD Cert.QkvWIdeal.τ).loc Cert.QkvWIdeal.main_arg0) = m ((c.tc : Thread Cert.QkvWIdeal.nD Cert.QkvWIdeal.τ).loc Cert.QkvWIdeal.main_arg0)
      ∧ r.2.mem ((c.tc : Thread Cert.QkvWIdeal.nD Cert.QkvWIdeal.τ).loc Cert.QkvWIdeal.main_arg1) = m ((c.tc : Thread Cert.QkvWIdeal.nD Cert.QkvWIdeal.τ).loc Cert.QkvWIdeal.main_arg1)
      ∧ r.2.mem ((c.tc : Thread Cert.QkvWIdeal.nD Cert.QkvWIdeal.τ).loc Cert.QkvWIdeal.main_arg2) = m ((c.tc : Thread Cert.QkvWIdeal.nD Cert.QkvWIdeal.τ).loc Cert.QkvWIdeal.main_arg2)
      ∧ r.2.mem ((c.tc : Thread Cert.QkvWIdeal.nD Cert.QkvWIdeal.τ).loc Cert.QkvWIdeal.main_arg3) = m ((c.tc : Thread Cert.QkvWIdeal.nD Cert.QkvWIdeal.τ).loc Cert.QkvWIdeal.main_arg3)
      ∧ r.2.mem ((c.tc : Thread Cert.QkvWIdeal.nD Cert.QkvWIdeal.τ).loc Cert.QkvWIdeal.main_arg4) = m ((c.tc : Thread Cert.QkvWIdeal.nD Cert.QkvWIdeal.τ).loc Cert.QkvWIdeal.main_arg4))
      ∧ r.2.sem = fun _ => 0)

def quiescent_QkvWRefIdeal [hQkvWRefIdeal : Cert.QkvWRefIdeal.Facts] : Prop :=
  ∀ (m : (ℓ : Loc Cert.QkvWRefIdeal.nD Cert.QkvWRefIdeal.τ Cert.QkvWRefIdeal.sig) → Buf (Elt Ideal) ℓ) (g : Dev Cert.QkvWRefIdeal.nD → PrngReg), Pre_QkvWRefIdeal m →
    θ_run (Cert.QkvWRefIdeal.defs (F := Ideal)) (onTc (τ := Cert.QkvWRefIdeal.τ) (Cert.QkvWRefIdeal.main (F := Ideal))) ⟨m, fun _ => 0, g⟩ (fun r => (∀ c : Dev Cert.QkvWRefIdeal.nD,
      r.2.mem ((c.tc : Thread Cert.QkvWRefIdeal.nD Cert.QkvWRefIdeal.τ).loc Cert.QkvWRefIdeal.main_arg0) = m ((c.tc : Thread Cert.QkvWRefIdeal.nD Cert.QkvWRefIdeal.τ).loc Cert.QkvWRefIdeal.main_arg0)
      ∧ r.2.mem ((c.tc : Thread Cert.QkvWRefIdeal.nD Cert.QkvWRefIdeal.τ).loc Cert.QkvWRefIdeal.main_arg1) = m ((c.tc : Thread Cert.QkvWRefIdeal.nD Cert.QkvWRefIdeal.τ).loc Cert.QkvWRefIdeal.main_arg1)
      ∧ r.2.mem ((c.tc : Thread Cert.QkvWRefIdeal.nD Cert.QkvWRefIdeal.τ).loc Cert.QkvWRefIdeal.main_arg2) = m ((c.tc : Thread Cert.QkvWRefIdeal.nD Cert.QkvWRefIdeal.τ).loc Cert.QkvWRefIdeal.main_arg2)
      ∧ r.2.mem ((c.tc : Thread Cert.QkvWRefIdeal.nD Cert.QkvWRefIdeal.τ).loc Cert.QkvWRefIdeal.main_arg3) = m ((c.tc : Thread Cert.QkvWRefIdeal.nD Cert.QkvWRefIdeal.τ).loc Cert.QkvWRefIdeal.main_arg3)
      ∧ r.2.mem ((c.tc : Thread Cert.QkvWRefIdeal.nD Cert.QkvWRefIdeal.τ).loc Cert.QkvWRefIdeal.main_arg4) = m ((c.tc : Thread Cert.QkvWRefIdeal.nD Cert.QkvWRefIdeal.τ).loc Cert.QkvWRefIdeal.main_arg4))
      ∧ r.2.sem = fun _ => 0)

def quiescent_QkvWS [hQkvWS : Cert.QkvWS.Facts] : Prop :=
  ∀ (m : (ℓ : Loc Cert.QkvWS.nD Cert.QkvWS.τ Cert.QkvWS.sig) → Buf (Elt Bits) ℓ) (g : Dev Cert.QkvWS.nD → PrngReg), Pre_QkvWS m →
    θ_run (Cert.QkvWS.defs (F := Bits)) (onTc (τ := Cert.QkvWS.τ) (Cert.QkvWS.main (F := Bits))) ⟨m, fun _ => 0, g⟩ (fun r => (∀ c : Dev Cert.QkvWS.nD,
      r.2.mem ((c.tc : Thread Cert.QkvWS.nD Cert.QkvWS.τ).loc Cert.QkvWS.main_arg0) = m ((c.tc : Thread Cert.QkvWS.nD Cert.QkvWS.τ).loc Cert.QkvWS.main_arg0)
      ∧ r.2.mem ((c.tc : Thread Cert.QkvWS.nD Cert.QkvWS.τ).loc Cert.QkvWS.main_arg1) = m ((c.tc : Thread Cert.QkvWS.nD Cert.QkvWS.τ).loc Cert.QkvWS.main_arg1)
      ∧ r.2.mem ((c.tc : Thread Cert.QkvWS.nD Cert.QkvWS.τ).loc Cert.QkvWS.main_arg2) = m ((c.tc : Thread Cert.QkvWS.nD Cert.QkvWS.τ).loc Cert.QkvWS.main_arg2)
      ∧ r.2.mem ((c.tc : Thread Cert.QkvWS.nD Cert.QkvWS.τ).loc Cert.QkvWS.main_arg3) = m ((c.tc : Thread Cert.QkvWS.nD Cert.QkvWS.τ).loc Cert.QkvWS.main_arg3)
      ∧ r.2.mem ((c.tc : Thread Cert.QkvWS.nD Cert.QkvWS.τ).loc Cert.QkvWS.main_arg4) = m ((c.tc : Thread Cert.QkvWS.nD Cert.QkvWS.τ).loc Cert.QkvWS.main_arg4)
      ∧ r.2.mem ((c.tc : Thread Cert.QkvWS.nD Cert.QkvWS.τ).loc Cert.QkvWS.main_arg5) = m ((c.tc : Thread Cert.QkvWS.nD Cert.QkvWS.τ).loc Cert.QkvWS.main_arg5)
      ∧ r.2.mem ((c.tc : Thread Cert.QkvWS.nD Cert.QkvWS.τ).loc Cert.QkvWS.main_arg6) = m ((c.tc : Thread Cert.QkvWS.nD Cert.QkvWS.τ).loc Cert.QkvWS.main_arg6))
      ∧ r.2.sem = fun _ => 0)

def quiescent_QkvWSIdeal [hQkvWSIdeal : Cert.QkvWSIdeal.Facts] : Prop :=
  ∀ (m : (ℓ : Loc Cert.QkvWSIdeal.nD Cert.QkvWSIdeal.τ Cert.QkvWSIdeal.sig) → Buf (Elt Ideal) ℓ) (g : Dev Cert.QkvWSIdeal.nD → PrngReg), Pre_QkvWSIdeal m →
    θ_run (Cert.QkvWSIdeal.defs (F := Ideal)) (onTc (τ := Cert.QkvWSIdeal.τ) (Cert.QkvWSIdeal.main (F := Ideal))) ⟨m, fun _ => 0, g⟩ (fun r => (∀ c : Dev Cert.QkvWSIdeal.nD,
      r.2.mem ((c.tc : Thread Cert.QkvWSIdeal.nD Cert.QkvWSIdeal.τ).loc Cert.QkvWSIdeal.main_arg0) = m ((c.tc : Thread Cert.QkvWSIdeal.nD Cert.QkvWSIdeal.τ).loc Cert.QkvWSIdeal.main_arg0)
      ∧ r.2.mem ((c.tc : Thread Cert.QkvWSIdeal.nD Cert.QkvWSIdeal.τ).loc Cert.QkvWSIdeal.main_arg1) = m ((c.tc : Thread Cert.QkvWSIdeal.nD Cert.QkvWSIdeal.τ).loc Cert.QkvWSIdeal.main_arg1)
      ∧ r.2.mem ((c.tc : Thread Cert.QkvWSIdeal.nD Cert.QkvWSIdeal.τ).loc Cert.QkvWSIdeal.main_arg2) = m ((c.tc : Thread Cert.QkvWSIdeal.nD Cert.QkvWSIdeal.τ).loc Cert.QkvWSIdeal.main_arg2)
      ∧ r.2.mem ((c.tc : Thread Cert.QkvWSIdeal.nD Cert.QkvWSIdeal.τ).loc Cert.QkvWSIdeal.main_arg3) = m ((c.tc : Thread Cert.QkvWSIdeal.nD Cert.QkvWSIdeal.τ).loc Cert.QkvWSIdeal.main_arg3)
      ∧ r.2.mem ((c.tc : Thread Cert.QkvWSIdeal.nD Cert.QkvWSIdeal.τ).loc Cert.QkvWSIdeal.main_arg4) = m ((c.tc : Thread Cert.QkvWSIdeal.nD Cert.QkvWSIdeal.τ).loc Cert.QkvWSIdeal.main_arg4)
      ∧ r.2.mem ((c.tc : Thread Cert.QkvWSIdeal.nD Cert.QkvWSIdeal.τ).loc Cert.QkvWSIdeal.main_arg5) = m ((c.tc : Thread Cert.QkvWSIdeal.nD Cert.QkvWSIdeal.τ).loc Cert.QkvWSIdeal.main_arg5)
      ∧ r.2.mem ((c.tc : Thread Cert.QkvWSIdeal.nD Cert.QkvWSIdeal.τ).loc Cert.QkvWSIdeal.main_arg6) = m ((c.tc : Thread Cert.QkvWSIdeal.nD Cert.QkvWSIdeal.τ).loc Cert.QkvWSIdeal.main_arg6))
      ∧ r.2.sem = fun _ => 0)

def quiescent_QkvWSRefIdeal [hQkvWSRefIdeal : Cert.QkvWSRefIdeal.Facts] : Prop :=
  ∀ (m : (ℓ : Loc Cert.QkvWSRefIdeal.nD Cert.QkvWSRefIdeal.τ Cert.QkvWSRefIdeal.sig) → Buf (Elt Ideal) ℓ) (g : Dev Cert.QkvWSRefIdeal.nD → PrngReg), Pre_QkvWSRefIdeal m →
    θ_run (Cert.QkvWSRefIdeal.defs (F := Ideal)) (onTc (τ := Cert.QkvWSRefIdeal.τ) (Cert.QkvWSRefIdeal.main (F := Ideal))) ⟨m, fun _ => 0, g⟩ (fun r => (∀ c : Dev Cert.QkvWSRefIdeal.nD,
      r.2.mem ((c.tc : Thread Cert.QkvWSRefIdeal.nD Cert.QkvWSRefIdeal.τ).loc Cert.QkvWSRefIdeal.main_arg0) = m ((c.tc : Thread Cert.QkvWSRefIdeal.nD Cert.QkvWSRefIdeal.τ).loc Cert.QkvWSRefIdeal.main_arg0)
      ∧ r.2.mem ((c.tc : Thread Cert.QkvWSRefIdeal.nD Cert.QkvWSRefIdeal.τ).loc Cert.QkvWSRefIdeal.main_arg1) = m ((c.tc : Thread Cert.QkvWSRefIdeal.nD Cert.QkvWSRefIdeal.τ).loc Cert.QkvWSRefIdeal.main_arg1)
      ∧ r.2.mem ((c.tc : Thread Cert.QkvWSRefIdeal.nD Cert.QkvWSRefIdeal.τ).loc Cert.QkvWSRefIdeal.main_arg2) = m ((c.tc : Thread Cert.QkvWSRefIdeal.nD Cert.QkvWSRefIdeal.τ).loc Cert.QkvWSRefIdeal.main_arg2)
      ∧ r.2.mem ((c.tc : Thread Cert.QkvWSRefIdeal.nD Cert.QkvWSRefIdeal.τ).loc Cert.QkvWSRefIdeal.main_arg3) = m ((c.tc : Thread Cert.QkvWSRefIdeal.nD Cert.QkvWSRefIdeal.τ).loc Cert.QkvWSRefIdeal.main_arg3)
      ∧ r.2.mem ((c.tc : Thread Cert.QkvWSRefIdeal.nD Cert.QkvWSRefIdeal.τ).loc Cert.QkvWSRefIdeal.main_arg4) = m ((c.tc : Thread Cert.QkvWSRefIdeal.nD Cert.QkvWSRefIdeal.τ).loc Cert.QkvWSRefIdeal.main_arg4)
      ∧ r.2.mem ((c.tc : Thread Cert.QkvWSRefIdeal.nD Cert.QkvWSRefIdeal.τ).loc Cert.QkvWSRefIdeal.main_arg5) = m ((c.tc : Thread Cert.QkvWSRefIdeal.nD Cert.QkvWSRefIdeal.τ).loc Cert.QkvWSRefIdeal.main_arg5)
      ∧ r.2.mem ((c.tc : Thread Cert.QkvWSRefIdeal.nD Cert.QkvWSRefIdeal.τ).loc Cert.QkvWSRefIdeal.main_arg6) = m ((c.tc : Thread Cert.QkvWSRefIdeal.nD Cert.QkvWSRefIdeal.τ).loc Cert.QkvWSRefIdeal.main_arg6))
      ∧ r.2.sem = fun _ => 0)

def preserves_Moba_MobaIdeal : Prop :=
  True

def algebraic_MobaIdeal_MobaRefIdeal_pre_moba_finite [hMobaIdeal : Cert.MobaIdeal.Facts] [hMobaRefIdeal : Cert.MobaRefIdeal.Facts] [hPre_moba_finite : Cert.Pre_moba_finite.Facts] : Prop :=
  ∀ (m : (ℓ : Loc Cert.MobaIdeal.nD Cert.MobaIdeal.τ Cert.MobaIdeal.sig) → Buf (Elt Ideal) ℓ) (g : Dev Cert.MobaIdeal.nD → PrngReg)
    (m' : (ℓ : Loc Cert.MobaRefIdeal.nD Cert.MobaRefIdeal.τ Cert.MobaRefIdeal.sig) → Buf (Elt Ideal) ℓ) (g' : Dev Cert.MobaRefIdeal.nD → PrngReg), Pre_MobaIdeal_moba_finite m →
    (∀ c : Dev Cert.MobaIdeal.nD,
      m' ((c.tc : Thread Cert.MobaRefIdeal.nD Cert.MobaRefIdeal.τ).loc Cert.MobaRefIdeal.main_arg0) = m ((c.tc : Thread Cert.MobaIdeal.nD Cert.MobaIdeal.τ).loc Cert.MobaIdeal.main_arg0)
      ∧ m' ((c.tc : Thread Cert.MobaRefIdeal.nD Cert.MobaRefIdeal.τ).loc Cert.MobaRefIdeal.main_arg1) = m ((c.tc : Thread Cert.MobaIdeal.nD Cert.MobaIdeal.τ).loc Cert.MobaIdeal.main_arg1)
      ∧ m' ((c.tc : Thread Cert.MobaRefIdeal.nD Cert.MobaRefIdeal.τ).loc Cert.MobaRefIdeal.main_arg2) = m ((c.tc : Thread Cert.MobaIdeal.nD Cert.MobaIdeal.τ).loc Cert.MobaIdeal.main_arg2)
      ∧ m' ((c.tc : Thread Cert.MobaRefIdeal.nD Cert.MobaRefIdeal.τ).loc Cert.MobaRefIdeal.main_arg3) = m ((c.tc : Thread Cert.MobaIdeal.nD Cert.MobaIdeal.τ).loc Cert.MobaIdeal.main_arg3)) →
    ∃ (v0 : (c : Dev Cert.MobaIdeal.nD) → Buf (Elt Ideal) ((c.tc : Thread Cert.MobaIdeal.nD Cert.MobaIdeal.τ).loc Cert.MobaIdeal.main_v0)),
      θ_run (Cert.MobaIdeal.defs (F := Ideal)) (onTc (τ := Cert.MobaIdeal.τ) (Cert.MobaIdeal.main (F := Ideal))) ⟨m, fun _ => 0, g⟩ (fun r => ∀ c : Dev Cert.MobaIdeal.nD,
          r.2.mem ((c.tc : Thread Cert.MobaIdeal.nD Cert.MobaIdeal.τ).loc Cert.MobaIdeal.main_v0) = v0 c
          ∧ r.2.mem ((c.tc : Thread Cert.MobaIdeal.nD Cert.MobaIdeal.τ).loc Cert.MobaIdeal.main_arg0) = m ((c.tc : Thread Cert.MobaIdeal.nD Cert.MobaIdeal.τ).loc Cert.MobaIdeal.main_arg0)
          ∧ r.2.mem ((c.tc : Thread Cert.MobaIdeal.nD Cert.MobaIdeal.τ).loc Cert.MobaIdeal.main_arg1) = m ((c.tc : Thread Cert.MobaIdeal.nD Cert.MobaIdeal.τ).loc Cert.MobaIdeal.main_arg1)
          ∧ r.2.mem ((c.tc : Thread Cert.MobaIdeal.nD Cert.MobaIdeal.τ).loc Cert.MobaIdeal.main_arg2) = m ((c.tc : Thread Cert.MobaIdeal.nD Cert.MobaIdeal.τ).loc Cert.MobaIdeal.main_arg2)
          ∧ r.2.mem ((c.tc : Thread Cert.MobaIdeal.nD Cert.MobaIdeal.τ).loc Cert.MobaIdeal.main_arg3) = m ((c.tc : Thread Cert.MobaIdeal.nD Cert.MobaIdeal.τ).loc Cert.MobaIdeal.main_arg3))
      ∧ θ_run (Cert.MobaRefIdeal.defs (F := Ideal)) (onTc (τ := Cert.MobaRefIdeal.τ) (Cert.MobaRefIdeal.main (F := Ideal))) ⟨m', fun _ => 0, g'⟩ (fun r => ∀ c : Dev Cert.MobaRefIdeal.nD,
          r.2.mem ((c.tc : Thread Cert.MobaRefIdeal.nD Cert.MobaRefIdeal.τ).loc Cert.MobaRefIdeal.main_v53) = v0 c
          ∧ r.2.mem ((c.tc : Thread Cert.MobaRefIdeal.nD Cert.MobaRefIdeal.τ).loc Cert.MobaRefIdeal.main_arg0) = m' ((c.tc : Thread Cert.MobaRefIdeal.nD Cert.MobaRefIdeal.τ).loc Cert.MobaRefIdeal.main_arg0)
          ∧ r.2.mem ((c.tc : Thread Cert.MobaRefIdeal.nD Cert.MobaRefIdeal.τ).loc Cert.MobaRefIdeal.main_arg1) = m' ((c.tc : Thread Cert.MobaRefIdeal.nD Cert.MobaRefIdeal.τ).loc Cert.MobaRefIdeal.main_arg1)
          ∧ r.2.mem ((c.tc : Thread Cert.MobaRefIdeal.nD Cert.MobaRefIdeal.τ).loc Cert.MobaRefIdeal.main_arg2) = m' ((c.tc : Thread Cert.MobaRefIdeal.nD Cert.MobaRefIdeal.τ).loc Cert.MobaRefIdeal.main_arg2)
          ∧ r.2.mem ((c.tc : Thread Cert.MobaRefIdeal.nD Cert.MobaRefIdeal.τ).loc Cert.MobaRefIdeal.main_arg3) = m' ((c.tc : Thread Cert.MobaRefIdeal.nD Cert.MobaRefIdeal.τ).loc Cert.MobaRefIdeal.main_arg3))

def preserves_Moe_MoeIdeal : Prop :=
  True

def algebraic_MoeIdeal_MoeRefIdeal [hMoeIdeal : Cert.MoeIdeal.Facts] [hMoeRefIdeal : Cert.MoeRefIdeal.Facts] [hPre_moe_ints : Cert.Pre_moe_ints.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)) →
    ∃ (v0 : (c : Dev Cert.MoeIdeal.nD) → Buf (Elt Ideal) ((c.tc : Thread Cert.MoeIdeal.nD Cert.MoeIdeal.τ).loc Cert.MoeIdeal.main_v0)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v0) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v34) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)) →
    ∃ (v0 : (c : Dev Cert.QkvIdeal.nD) → Buf (Elt Ideal) ((c.tc : Thread Cert.QkvIdeal.nD Cert.QkvIdeal.τ).loc Cert.QkvIdeal.main_v39_0)) (v1 : (c : Dev Cert.QkvIdeal.nD) → Buf (Elt Ideal) ((c.tc : Thread Cert.QkvIdeal.nD Cert.QkvIdeal.τ).loc Cert.QkvIdeal.main_v39_1)) (v2 : (c : Dev Cert.QkvIdeal.nD) → Buf (Elt Ideal) ((c.tc : Thread Cert.QkvIdeal.nD Cert.QkvIdeal.τ).loc Cert.QkvIdeal.main_v39_2)) (v3 : (c : Dev Cert.QkvIdeal.nD) → Buf (Elt Ideal) ((c.tc : Thread Cert.QkvIdeal.nD Cert.QkvIdeal.τ).loc Cert.QkvIdeal.main_v39_3)) (v4 : (c : Dev Cert.QkvIdeal.nD) → Buf (Elt Ideal) ((c.tc : Thread Cert.QkvIdeal.nD Cert.QkvIdeal.τ).loc Cert.QkvIdeal.main_v39_4)) (v5 : (c : Dev Cert.QkvIdeal.nD) → Buf (Elt Ideal) ((c.tc : Thread Cert.QkvIdeal.nD Cert.QkvIdeal.τ).loc Cert.QkvIdeal.main_v39_5)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v39_0) = v0 c
          ∧ r.2.mem ((c.tc : Thread Cert.QkvIdeal.nD Cert.QkvIdeal.τ).loc Cert.QkvIdeal.main_v39_1) = v1 c
          ∧ r.2.mem ((c.tc : Thread Cert.QkvIdeal.nD Cert.QkvIdeal.τ).loc Cert.QkvIdeal.main_v39_2) = v2 c
          ∧ r.2.mem ((c.tc : Thread Cert.QkvIdeal.nD Cert.QkvIdeal.τ).loc Cert.QkvIdeal.main_v39_3) = v3 c
          ∧ r.2.mem ((c.tc : Thread Cert.QkvIdeal.nD Cert.QkvIdeal.τ).loc Cert.QkvIdeal.main_v39_4) = v4 c
          ∧ r.2.mem ((c.tc : Thread Cert.QkvIdeal.nD Cert.QkvIdeal.τ).loc Cert.QkvIdeal.main_v39_5) = v5 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v95) = v0 c
          ∧ r.2.mem ((c.tc : Thread Cert.QkvRefIdeal.nD Cert.QkvRefIdeal.τ).loc Cert.QkvRefIdeal.main_v90) = v1 c
          ∧ r.2.mem ((c.tc : Thread Cert.QkvRefIdeal.nD Cert.QkvRefIdeal.τ).loc Cert.QkvRefIdeal.main_v91) = v2 c
          ∧ r.2.mem ((c.tc : Thread Cert.QkvRefIdeal.nD Cert.QkvRefIdeal.τ).loc Cert.QkvRefIdeal.main_v96) = v3 c
          ∧ r.2.mem ((c.tc : Thread Cert.QkvRefIdeal.nD Cert.QkvRefIdeal.τ).loc Cert.QkvRefIdeal.main_v97) = v4 c
          ∧ r.2.mem ((c.tc : Thread Cert.QkvRefIdeal.nD Cert.QkvRefIdeal.τ).loc Cert.QkvRefIdeal.main_v98) = v5 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4))

def preserves_AttnOut_AttnOutIdeal : Prop :=
  True

def algebraic_AttnOutIdeal_AttnOutRefIdeal_pre_attn_out_finite [hAttnOutIdeal : Cert.AttnOutIdeal.Facts] [hAttnOutRefIdeal : Cert.AttnOutRefIdeal.Facts] [hPre_attn_out_finite : Cert.Pre_attn_out_finite.Facts] : Prop :=
  ∀ (m : (ℓ : Loc Cert.AttnOutIdeal.nD Cert.AttnOutIdeal.τ Cert.AttnOutIdeal.sig) → Buf (Elt Ideal) ℓ) (g : Dev Cert.AttnOutIdeal.nD → PrngReg)
    (m' : (ℓ : Loc Cert.AttnOutRefIdeal.nD Cert.AttnOutRefIdeal.τ Cert.AttnOutRefIdeal.sig) → Buf (Elt Ideal) ℓ) (g' : Dev Cert.AttnOutRefIdeal.nD → PrngReg), Pre_AttnOutIdeal_attn_out_finite m →
    (∀ c : Dev Cert.AttnOutIdeal.nD,
      m' ((c.tc : Thread Cert.AttnOutRefIdeal.nD Cert.AttnOutRefIdeal.τ).loc Cert.AttnOutRefIdeal.main_arg0) = m ((c.tc : Thread Cert.AttnOutIdeal.nD Cert.AttnOutIdeal.τ).loc Cert.AttnOutIdeal.main_arg0)
      ∧ m' ((c.tc : Thread Cert.AttnOutRefIdeal.nD Cert.AttnOutRefIdeal.τ).loc Cert.AttnOutRefIdeal.main_arg1) = m ((c.tc : Thread Cert.AttnOutIdeal.nD Cert.AttnOutIdeal.τ).loc Cert.AttnOutIdeal.main_arg1)
      ∧ m' ((c.tc : Thread Cert.AttnOutRefIdeal.nD Cert.AttnOutRefIdeal.τ).loc Cert.AttnOutRefIdeal.main_arg2) = m ((c.tc : Thread Cert.AttnOutIdeal.nD Cert.AttnOutIdeal.τ).loc Cert.AttnOutIdeal.main_arg2)
      ∧ m' ((c.tc : Thread Cert.AttnOutRefIdeal.nD Cert.AttnOutRefIdeal.τ).loc Cert.AttnOutRefIdeal.main_arg3) = m ((c.tc : Thread Cert.AttnOutIdeal.nD Cert.AttnOutIdeal.τ).loc Cert.AttnOutIdeal.main_arg3)
      ∧ m' ((c.tc : Thread Cert.AttnOutRefIdeal.nD Cert.AttnOutRefIdeal.τ).loc Cert.AttnOutRefIdeal.main_arg4) = m ((c.tc : Thread Cert.AttnOutIdeal.nD Cert.AttnOutIdeal.τ).loc Cert.AttnOutIdeal.main_arg4)
      ∧ m' ((c.tc : Thread Cert.AttnOutRefIdeal.nD Cert.AttnOutRefIdeal.τ).loc Cert.AttnOutRefIdeal.main_arg5) = m ((c.tc : Thread Cert.AttnOutIdeal.nD Cert.AttnOutIdeal.τ).loc Cert.AttnOutIdeal.main_arg5)
      ∧ m' ((c.tc : Thread Cert.AttnOutRefIdeal.nD Cert.AttnOutRefIdeal.τ).loc Cert.AttnOutRefIdeal.main_arg6) = m ((c.tc : Thread Cert.AttnOutIdeal.nD Cert.AttnOutIdeal.τ).loc Cert.AttnOutIdeal.main_arg6)
      ∧ m' ((c.tc : Thread Cert.AttnOutRefIdeal.nD Cert.AttnOutRefIdeal.τ).loc Cert.AttnOutRefIdeal.main_arg7) = m ((c.tc : Thread Cert.AttnOutIdeal.nD Cert.AttnOutIdeal.τ).loc Cert.AttnOutIdeal.main_arg7)
      ∧ m' ((c.tc : Thread Cert.AttnOutRefIdeal.nD Cert.AttnOutRefIdeal.τ).loc Cert.AttnOutRefIdeal.main_arg8) = m ((c.tc : Thread Cert.AttnOutIdeal.nD Cert.AttnOutIdeal.τ).loc Cert.AttnOutIdeal.main_arg8)
      ∧ m' ((c.tc : Thread Cert.AttnOutRefIdeal.nD Cert.AttnOutRefIdeal.τ).loc Cert.AttnOutRefIdeal.main_arg9) = m ((c.tc : Thread Cert.AttnOutIdeal.nD Cert.AttnOutIdeal.τ).loc Cert.AttnOutIdeal.main_arg9)) →
    ∃ (v0 : (c : Dev Cert.AttnOutIdeal.nD) → Buf (Elt Ideal) ((c.tc : Thread Cert.AttnOutIdeal.nD Cert.AttnOutIdeal.τ).loc Cert.AttnOutIdeal.main_v9_0)) (v1 : (c : Dev Cert.AttnOutIdeal.nD) → Buf (Elt Ideal) ((c.tc : Thread Cert.AttnOutIdeal.nD Cert.AttnOutIdeal.τ).loc Cert.AttnOutIdeal.main_v9_1)) (v2 : (c : Dev Cert.AttnOutIdeal.nD) → Buf (Elt Ideal) ((c.tc : Thread Cert.AttnOutIdeal.nD Cert.AttnOutIdeal.τ).loc Cert.AttnOutIdeal.main_v9_2)),
      θ_run (Cert.AttnOutIdeal.defs (F := Ideal)) (onTc (τ := Cert.AttnOutIdeal.τ) (Cert.AttnOutIdeal.main (F := Ideal))) ⟨m, fun _ => 0, g⟩ (fun r => ∀ c : Dev Cert.AttnOutIdeal.nD,
          r.2.mem ((c.tc : Thread Cert.AttnOutIdeal.nD Cert.AttnOutIdeal.τ).loc Cert.AttnOutIdeal.main_v9_0) = v0 c
          ∧ r.2.mem ((c.tc : Thread Cert.AttnOutIdeal.nD Cert.AttnOutIdeal.τ).loc Cert.AttnOutIdeal.main_v9_1) = v1 c
          ∧ r.2.mem ((c.tc : Thread Cert.AttnOutIdeal.nD Cert.AttnOutIdeal.τ).loc Cert.AttnOutIdeal.main_v9_2) = v2 c
          ∧ r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
          ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
          ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
          ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3)
          ∧ r.2.mem ((c.tc : Thread Cert.AttnOutIdeal.nD Cert.AttnOutIdeal.τ).loc Cert.AttnOutIdeal.main_arg4) = m ((c.tc : Thread Cert.AttnOutIdeal.nD Cert.AttnOutIdeal.τ).loc Cert.AttnOutIdeal.main_arg4)
          ∧ r.2.mem ((c.tc : Thread Cert.AttnOutIdeal.nD Cert.AttnOutIdeal.τ).loc Cert.AttnOutIdeal.main_arg5) = m ((c.tc : Thread Cert.AttnOutIdeal.nD Cert.AttnOutIdeal.τ).loc Cert.AttnOutIdeal.main_arg5)
          ∧ r.2.mem ((c.tc : Thread Cert.AttnOutIdeal.nD Cert.AttnOutIdeal.τ).loc Cert.AttnOutIdeal.main_arg6) = m ((c.tc : Thread Cert.AttnOutIdeal.nD Cert.AttnOutIdeal.τ).loc Cert.AttnOutIdeal.main_arg6)
          ∧ r.2.mem ((c.tc : Thread Cert.AttnOutIdeal.nD Cert.AttnOutIdeal.τ).loc Cert.AttnOutIdeal.main_arg7) = m ((c.tc : Thread Cert.AttnOutIdeal.nD Cert.AttnOutIdeal.τ).loc Cert.AttnOutIdeal.main_arg7)
          ∧ r.2.mem ((c.tc : Thread Cert.AttnOutIdeal.nD Cert.AttnOutIdeal.τ).loc Cert.AttnOutIdeal.main_arg8) = m ((c.tc : Thread Cert.AttnOutIdeal.nD Cert.AttnOutIdeal.τ).loc Cert.AttnOutIdeal.main_arg8)
          ∧ r.2.mem ((c.tc : Thread Cert.AttnOutIdeal.nD Cert.AttnOutIdeal.τ).loc Cert.AttnOutIdeal.main_arg9) = m ((c.tc : Thread Cert.AttnOutIdeal.nD Cert.AttnOutIdeal.τ).loc Cert.AttnOutIdeal.main_arg9))
      ∧ θ_run (Cert.AttnOutRefIdeal.defs (F := Ideal)) (onTc (τ := Cert.AttnOutRefIdeal.τ) (Cert.AttnOutRefIdeal.main (F := Ideal))) ⟨m', fun _ => 0, g'⟩ (fun r => ∀ c : Dev Cert.AttnOutRefIdeal.nD,
          r.2.mem ((c.tc : Thread Cert.AttnOutRefIdeal.nD Cert.AttnOutRefIdeal.τ).loc Cert.AttnOutRefIdeal.main_v43) = v0 c
          ∧ r.2.mem ((c.tc : Thread Cert.AttnOutRefIdeal.nD Cert.AttnOutRefIdeal.τ).loc Cert.AttnOutRefIdeal.main_v44) = v1 c
          ∧ r.2.mem ((c.tc : Thread Cert.AttnOutRefIdeal.nD Cert.AttnOutRefIdeal.τ).loc Cert.AttnOutRefIdeal.main_v46) = v2 c
          ∧ r.2.mem ((c.tc : Thread Cert.AttnOutRefIdeal.nD Cert.AttnOutRefIdeal.τ).loc Cert.AttnOutRefIdeal.main_arg0) = m' ((c.tc : Thread Cert.AttnOutRefIdeal.nD Cert.AttnOutRefIdeal.τ).loc Cert.AttnOutRefIdeal.main_arg0)
          ∧ r.2.mem ((c.tc : Thread Cert.AttnOutRefIdeal.nD Cert.AttnOutRefIdeal.τ).loc Cert.AttnOutRefIdeal.main_arg1) = m' ((c.tc : Thread Cert.AttnOutRefIdeal.nD Cert.AttnOutRefIdeal.τ).loc Cert.AttnOutRefIdeal.main_arg1)
          ∧ r.2.mem ((c.tc : Thread Cert.AttnOutRefIdeal.nD Cert.AttnOutRefIdeal.τ).loc Cert.AttnOutRefIdeal.main_arg2) = m' ((c.tc : Thread Cert.AttnOutRefIdeal.nD Cert.AttnOutRefIdeal.τ).loc Cert.AttnOutRefIdeal.main_arg2)
          ∧ r.2.mem ((c.tc : Thread Cert.AttnOutRefIdeal.nD Cert.AttnOutRefIdeal.τ).loc Cert.AttnOutRefIdeal.main_arg3) = m' ((c.tc : Thread Cert.AttnOutRefIdeal.nD Cert.AttnOutRefIdeal.τ).loc Cert.AttnOutRefIdeal.main_arg3)
          ∧ r.2.mem ((c.tc : Thread Cert.AttnOutRefIdeal.nD Cert.AttnOutRefIdeal.τ).loc Cert.AttnOutRefIdeal.main_arg4) = m' ((c.tc : Thread Cert.AttnOutRefIdeal.nD Cert.AttnOutRefIdeal.τ).loc Cert.AttnOutRefIdeal.main_arg4)
          ∧ r.2.mem ((c.tc : Thread Cert.AttnOutRefIdeal.nD Cert.AttnOutRefIdeal.τ).loc Cert.AttnOutRefIdeal.main_arg5) = m' ((c.tc : Thread Cert.AttnOutRefIdeal.nD Cert.AttnOutRefIdeal.τ).loc Cert.AttnOutRefIdeal.main_arg5)
          ∧ r.2.mem ((c.tc : Thread Cert.AttnOutRefIdeal.nD Cert.AttnOutRefIdeal.τ).loc Cert.AttnOutRefIdeal.main_arg6) = m' ((c.tc : Thread Cert.AttnOutRefIdeal.nD Cert.AttnOutRefIdeal.τ).loc Cert.AttnOutRefIdeal.main_arg6)
          ∧ r.2.mem ((c.tc : Thread Cert.AttnOutRefIdeal.nD Cert.AttnOutRefIdeal.τ).loc Cert.AttnOutRefIdeal.main_arg7) = m' ((c.tc : Thread Cert.AttnOutRefIdeal.nD Cert.AttnOutRefIdeal.τ).loc Cert.AttnOutRefIdeal.main_arg7)
          ∧ r.2.mem ((c.tc : Thread Cert.AttnOutRefIdeal.nD Cert.AttnOutRefIdeal.τ).loc Cert.AttnOutRefIdeal.main_arg8) = m' ((c.tc : Thread Cert.AttnOutRefIdeal.nD Cert.AttnOutRefIdeal.τ).loc Cert.AttnOutRefIdeal.main_arg8)
          ∧ r.2.mem ((c.tc : Thread Cert.AttnOutRefIdeal.nD Cert.AttnOutRefIdeal.τ).loc Cert.AttnOutRefIdeal.main_arg9) = m' ((c.tc : Thread Cert.AttnOutRefIdeal.nD Cert.AttnOutRefIdeal.τ).loc Cert.AttnOutRefIdeal.main_arg9))

def preserves_FfnOut_FfnOutIdeal : Prop :=
  True

def algebraic_FfnOutIdeal_FfnOutRefIdeal [hFfnOutIdeal : Cert.FfnOutIdeal.Facts] [hFfnOutRefIdeal : Cert.FfnOutRefIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutRefIdeal.nD Cert.FfnOutRefIdeal.τ Cert.FfnOutRefIdeal.sig) → Buf (Elt Ideal) ℓ) (g' : Dev Cert.FfnOutRefIdeal.nD → PrngReg), Pre_FfnOutIdeal m →
    (∀ c : Dev Cert.FfnOutIdeal.nD,
      m' ((c.tc : Thread Cert.FfnOutRefIdeal.nD Cert.FfnOutRefIdeal.τ).loc Cert.FfnOutRefIdeal.main_arg0) = m ((c.tc : Thread Cert.FfnOutIdeal.nD Cert.FfnOutIdeal.τ).loc Cert.FfnOutIdeal.main_arg0)
      ∧ m' ((c.tc : Thread Cert.FfnOutRefIdeal.nD Cert.FfnOutRefIdeal.τ).loc Cert.FfnOutRefIdeal.main_arg1) = m ((c.tc : Thread Cert.FfnOutIdeal.nD Cert.FfnOutIdeal.τ).loc Cert.FfnOutIdeal.main_arg1)
      ∧ m' ((c.tc : Thread Cert.FfnOutRefIdeal.nD Cert.FfnOutRefIdeal.τ).loc Cert.FfnOutRefIdeal.main_arg2) = m ((c.tc : Thread Cert.FfnOutIdeal.nD Cert.FfnOutIdeal.τ).loc Cert.FfnOutIdeal.main_arg2)
      ∧ m' ((c.tc : Thread Cert.FfnOutRefIdeal.nD Cert.FfnOutRefIdeal.τ).loc Cert.FfnOutRefIdeal.main_arg3) = m ((c.tc : Thread Cert.FfnOutIdeal.nD Cert.FfnOutIdeal.τ).loc Cert.FfnOutIdeal.main_arg3)
      ∧ m' ((c.tc : Thread Cert.FfnOutRefIdeal.nD Cert.FfnOutRefIdeal.τ).loc Cert.FfnOutRefIdeal.main_arg4) = m ((c.tc : Thread Cert.FfnOutIdeal.nD Cert.FfnOutIdeal.τ).loc Cert.FfnOutIdeal.main_arg4)
      ∧ m' ((c.tc : Thread Cert.FfnOutRefIdeal.nD Cert.FfnOutRefIdeal.τ).loc Cert.FfnOutRefIdeal.main_arg5) = m ((c.tc : Thread Cert.FfnOutIdeal.nD Cert.FfnOutIdeal.τ).loc Cert.FfnOutIdeal.main_arg5)
      ∧ m' ((c.tc : Thread Cert.FfnOutRefIdeal.nD Cert.FfnOutRefIdeal.τ).loc Cert.FfnOutRefIdeal.main_arg6) = m ((c.tc : Thread Cert.FfnOutIdeal.nD Cert.FfnOutIdeal.τ).loc Cert.FfnOutIdeal.main_arg6)
      ∧ m' ((c.tc : Thread Cert.FfnOutRefIdeal.nD Cert.FfnOutRefIdeal.τ).loc Cert.FfnOutRefIdeal.main_arg7) = m ((c.tc : Thread Cert.FfnOutIdeal.nD Cert.FfnOutIdeal.τ).loc Cert.FfnOutIdeal.main_arg7)
      ∧ m' ((c.tc : Thread Cert.FfnOutRefIdeal.nD Cert.FfnOutRefIdeal.τ).loc Cert.FfnOutRefIdeal.main_arg8) = m ((c.tc : Thread Cert.FfnOutIdeal.nD Cert.FfnOutIdeal.τ).loc Cert.FfnOutIdeal.main_arg8)) →
    ∃ (v0 : (c : Dev Cert.FfnOutIdeal.nD) → Buf (Elt Ideal) ((c.tc : Thread Cert.FfnOutIdeal.nD Cert.FfnOutIdeal.τ).loc Cert.FfnOutIdeal.main_v5)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v5) = v0 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
          ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
          ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3)
          ∧ r.2.mem ((c.tc : Thread Cert.FfnOutIdeal.nD Cert.FfnOutIdeal.τ).loc Cert.FfnOutIdeal.main_arg4) = m ((c.tc : Thread Cert.FfnOutIdeal.nD Cert.FfnOutIdeal.τ).loc Cert.FfnOutIdeal.main_arg4)
          ∧ r.2.mem ((c.tc : Thread Cert.FfnOutIdeal.nD Cert.FfnOutIdeal.τ).loc Cert.FfnOutIdeal.main_arg5) = m ((c.tc : Thread Cert.FfnOutIdeal.nD Cert.FfnOutIdeal.τ).loc Cert.FfnOutIdeal.main_arg5)
          ∧ r.2.mem ((c.tc : Thread Cert.FfnOutIdeal.nD Cert.FfnOutIdeal.τ).loc Cert.FfnOutIdeal.main_arg6) = m ((c.tc : Thread Cert.FfnOutIdeal.nD Cert.FfnOutIdeal.τ).loc Cert.FfnOutIdeal.main_arg6)
          ∧ r.2.mem ((c.tc : Thread Cert.FfnOutIdeal.nD Cert.FfnOutIdeal.τ).loc Cert.FfnOutIdeal.main_arg7) = m ((c.tc : Thread Cert.FfnOutIdeal.nD Cert.FfnOutIdeal.τ).loc Cert.FfnOutIdeal.main_arg7)
          ∧ r.2.mem ((c.tc : Thread Cert.FfnOutIdeal.nD Cert.FfnOutIdeal.τ).loc Cert.FfnOutIdeal.main_arg8) = m ((c.tc : Thread Cert.FfnOutIdeal.nD Cert.FfnOutIdeal.τ).loc Cert.FfnOutIdeal.main_arg8))
      ∧ θ_run (Cert.FfnOutRefIdeal.defs (F := Ideal)) (onTc (τ := Cert.FfnOutRefIdeal.τ) (Cert.FfnOutRefIdeal.main (F := Ideal))) ⟨m', fun _ => 0, g'⟩ (fun r => ∀ c : Dev Cert.FfnOutRefIdeal.nD,
          r.2.mem ((c.tc : Thread Cert.FfnOutRefIdeal.nD Cert.FfnOutRefIdeal.τ).loc Cert.FfnOutRefIdeal.main_v38) = v0 c
          ∧ r.2.mem ((c.tc : Thread Cert.FfnOutRefIdeal.nD Cert.FfnOutRefIdeal.τ).loc Cert.FfnOutRefIdeal.main_arg0) = m' ((c.tc : Thread Cert.FfnOutRefIdeal.nD Cert.FfnOutRefIdeal.τ).loc Cert.FfnOutRefIdeal.main_arg0)
          ∧ r.2.mem ((c.tc : Thread Cert.FfnOutRefIdeal.nD Cert.FfnOutRefIdeal.τ).loc Cert.FfnOutRefIdeal.main_arg1) = m' ((c.tc : Thread Cert.FfnOutRefIdeal.nD Cert.FfnOutRefIdeal.τ).loc Cert.FfnOutRefIdeal.main_arg1)
          ∧ r.2.mem ((c.tc : Thread Cert.FfnOutRefIdeal.nD Cert.FfnOutRefIdeal.τ).loc Cert.FfnOutRefIdeal.main_arg2) = m' ((c.tc : Thread Cert.FfnOutRefIdeal.nD Cert.FfnOutRefIdeal.τ).loc Cert.FfnOutRefIdeal.main_arg2)
          ∧ r.2.mem ((c.tc : Thread Cert.FfnOutRefIdeal.nD Cert.FfnOutRefIdeal.τ).loc Cert.FfnOutRefIdeal.main_arg3) = m' ((c.tc : Thread Cert.FfnOutRefIdeal.nD Cert.FfnOutRefIdeal.τ).loc Cert.FfnOutRefIdeal.main_arg3)
          ∧ r.2.mem ((c.tc : Thread Cert.FfnOutRefIdeal.nD Cert.FfnOutRefIdeal.τ).loc Cert.FfnOutRefIdeal.main_arg4) = m' ((c.tc : Thread Cert.FfnOutRefIdeal.nD Cert.FfnOutRefIdeal.τ).loc Cert.FfnOutRefIdeal.main_arg4)
          ∧ r.2.mem ((c.tc : Thread Cert.FfnOutRefIdeal.nD Cert.FfnOutRefIdeal.τ).loc Cert.FfnOutRefIdeal.main_arg5) = m' ((c.tc : Thread Cert.FfnOutRefIdeal.nD Cert.FfnOutRefIdeal.τ).loc Cert.FfnOutRefIdeal.main_arg5)
          ∧ r.2.mem ((c.tc : Thread Cert.FfnOutRefIdeal.nD Cert.FfnOutRefIdeal.τ).loc Cert.FfnOutRefIdeal.main_arg6) = m' ((c.tc : Thread Cert.FfnOutRefIdeal.nD Cert.FfnOutRefIdeal.τ).loc Cert.FfnOutRefIdeal.main_arg6)
          ∧ r.2.mem ((c.tc : Thread Cert.FfnOutRefIdeal.nD Cert.FfnOutRefIdeal.τ).loc Cert.FfnOutRefIdeal.main_arg7) = m' ((c.tc : Thread Cert.FfnOutRefIdeal.nD Cert.FfnOutRefIdeal.τ).loc Cert.FfnOutRefIdeal.main_arg7)
          ∧ r.2.mem ((c.tc : Thread Cert.FfnOutRefIdeal.nD Cert.FfnOutRefIdeal.τ).loc Cert.FfnOutRefIdeal.main_arg8) = m' ((c.tc : Thread Cert.FfnOutRefIdeal.nD Cert.FfnOutRefIdeal.τ).loc Cert.FfnOutRefIdeal.main_arg8))

def preserves_QkvS_QkvSIdeal : Prop :=
  True

def algebraic_QkvSIdeal_QkvSRefIdeal [hQkvSIdeal : Cert.QkvSIdeal.Facts] [hQkvSRefIdeal : Cert.QkvSRefIdeal.Facts] : Prop :=
  ∀ (m : (ℓ : Loc Cert.QkvSIdeal.nD Cert.QkvSIdeal.τ Cert.QkvSIdeal.sig) → Buf (Elt Ideal) ℓ) (g : Dev Cert.QkvSIdeal.nD → PrngReg)
    (m' : (ℓ : Loc Cert.QkvSRefIdeal.nD Cert.QkvSRefIdeal.τ Cert.QkvSRefIdeal.sig) → Buf (Elt Ideal) ℓ) (g' : Dev Cert.QkvSRefIdeal.nD → PrngReg), Pre_QkvSIdeal m →
    (∀ c : Dev Cert.QkvSIdeal.nD,
      m' ((c.tc : Thread Cert.QkvSRefIdeal.nD Cert.QkvSRefIdeal.τ).loc Cert.QkvSRefIdeal.main_arg0) = m ((c.tc : Thread Cert.QkvSIdeal.nD Cert.QkvSIdeal.τ).loc Cert.QkvSIdeal.main_arg0)
      ∧ m' ((c.tc : Thread Cert.QkvSRefIdeal.nD Cert.QkvSRefIdeal.τ).loc Cert.QkvSRefIdeal.main_arg1) = m ((c.tc : Thread Cert.QkvSIdeal.nD Cert.QkvSIdeal.τ).loc Cert.QkvSIdeal.main_arg1)
      ∧ m' ((c.tc : Thread Cert.QkvSRefIdeal.nD Cert.QkvSRefIdeal.τ).loc Cert.QkvSRefIdeal.main_arg2) = m ((c.tc : Thread Cert.QkvSIdeal.nD Cert.QkvSIdeal.τ).loc Cert.QkvSIdeal.main_arg2)
      ∧ m' ((c.tc : Thread Cert.QkvSRefIdeal.nD Cert.QkvSRefIdeal.τ).loc Cert.QkvSRefIdeal.main_arg3) = m ((c.tc : Thread Cert.QkvSIdeal.nD Cert.QkvSIdeal.τ).loc Cert.QkvSIdeal.main_arg3)
      ∧ m' ((c.tc : Thread Cert.QkvSRefIdeal.nD Cert.QkvSRefIdeal.τ).loc Cert.QkvSRefIdeal.main_arg4) = m ((c.tc : Thread Cert.QkvSIdeal.nD Cert.QkvSIdeal.τ).loc Cert.QkvSIdeal.main_arg4)) →
    ∃ (v0 : (c : Dev Cert.QkvSIdeal.nD) → Buf (Elt Ideal) ((c.tc : Thread Cert.QkvSIdeal.nD Cert.QkvSIdeal.τ).loc Cert.QkvSIdeal.main_v52_0)) (v1 : (c : Dev Cert.QkvSIdeal.nD) → Buf (Elt Ideal) ((c.tc : Thread Cert.QkvSIdeal.nD Cert.QkvSIdeal.τ).loc Cert.QkvSIdeal.main_v52_1)) (v2 : (c : Dev Cert.QkvSIdeal.nD) → Buf (Elt Ideal) ((c.tc : Thread Cert.QkvSIdeal.nD Cert.QkvSIdeal.τ).loc Cert.QkvSIdeal.main_v52_2)) (v3 : (c : Dev Cert.QkvSIdeal.nD) → Buf (Elt Ideal) ((c.tc : Thread Cert.QkvSIdeal.nD Cert.QkvSIdeal.τ).loc Cert.QkvSIdeal.main_v52_3)) (v4 : (c : Dev Cert.QkvSIdeal.nD) → Buf (Elt Ideal) ((c.tc : Thread Cert.QkvSIdeal.nD Cert.QkvSIdeal.τ).loc Cert.QkvSIdeal.main_v52_4)) (v5 : (c : Dev Cert.QkvSIdeal.nD) → Buf (Elt Ideal) ((c.tc : Thread Cert.QkvSIdeal.nD Cert.QkvSIdeal.τ).loc Cert.QkvSIdeal.main_v52_5)),
      θ_run (Cert.QkvSIdeal.defs (F := Ideal)) (onTc (τ := Cert.QkvSIdeal.τ) (Cert.QkvSIdeal.main (F := Ideal))) ⟨m, fun _ => 0, g⟩ (fun r => ∀ c : Dev Cert.QkvSIdeal.nD,
          r.2.mem ((c.tc : Thread Cert.QkvSIdeal.nD Cert.QkvSIdeal.τ).loc Cert.QkvSIdeal.main_v52_0) = v0 c
          ∧ r.2.mem ((c.tc : Thread Cert.QkvSIdeal.nD Cert.QkvSIdeal.τ).loc Cert.QkvSIdeal.main_v52_1) = v1 c
          ∧ r.2.mem ((c.tc : Thread Cert.QkvSIdeal.nD Cert.QkvSIdeal.τ).loc Cert.QkvSIdeal.main_v52_2) = v2 c
          ∧ r.2.mem ((c.tc : Thread Cert.QkvSIdeal.nD Cert.QkvSIdeal.τ).loc Cert.QkvSIdeal.main_v52_3) = v3 c
          ∧ r.2.mem ((c.tc : Thread Cert.QkvSIdeal.nD Cert.QkvSIdeal.τ).loc Cert.QkvSIdeal.main_v52_4) = v4 c
          ∧ r.2.mem ((c.tc : Thread Cert.QkvSIdeal.nD Cert.QkvSIdeal.τ).loc Cert.QkvSIdeal.main_v52_5) = v5 c
          ∧ r.2.mem ((c.tc : Thread Cert.QkvSIdeal.nD Cert.QkvSIdeal.τ).loc Cert.QkvSIdeal.main_arg0) = m ((c.tc : Thread Cert.QkvSIdeal.nD Cert.QkvSIdeal.τ).loc Cert.QkvSIdeal.main_arg0)
          ∧ r.2.mem ((c.tc : Thread Cert.QkvSIdeal.nD Cert.QkvSIdeal.τ).loc Cert.QkvSIdeal.main_arg1) = m ((c.tc : Thread Cert.QkvSIdeal.nD Cert.QkvSIdeal.τ).loc Cert.QkvSIdeal.main_arg1)
          ∧ r.2.mem ((c.tc : Thread Cert.QkvSIdeal.nD Cert.QkvSIdeal.τ).loc Cert.QkvSIdeal.main_arg2) = m ((c.tc : Thread Cert.QkvSIdeal.nD Cert.QkvSIdeal.τ).loc Cert.QkvSIdeal.main_arg2)
          ∧ r.2.mem ((c.tc : Thread Cert.QkvSIdeal.nD Cert.QkvSIdeal.τ).loc Cert.QkvSIdeal.main_arg3) = m ((c.tc : Thread Cert.QkvSIdeal.nD Cert.QkvSIdeal.τ).loc Cert.QkvSIdeal.main_arg3)
          ∧ r.2.mem ((c.tc : Thread Cert.QkvSIdeal.nD Cert.QkvSIdeal.τ).loc Cert.QkvSIdeal.main_arg4) = m ((c.tc : Thread Cert.QkvSIdeal.nD Cert.QkvSIdeal.τ).loc Cert.QkvSIdeal.main_arg4))
      ∧ θ_run (Cert.QkvSRefIdeal.defs (F := Ideal)) (onTc (τ := Cert.QkvSRefIdeal.τ) (Cert.QkvSRefIdeal.main (F := Ideal))) ⟨m', fun _ => 0, g'⟩ (fun r => ∀ c : Dev Cert.QkvSRefIdeal.nD,
          r.2.mem ((c.tc : Thread Cert.QkvSRefIdeal.nD Cert.QkvSRefIdeal.τ).loc Cert.QkvSRefIdeal.main_v97) = v0 c
          ∧ r.2.mem ((c.tc : Thread Cert.QkvSRefIdeal.nD Cert.QkvSRefIdeal.τ).loc Cert.QkvSRefIdeal.main_v92) = v1 c
          ∧ r.2.mem ((c.tc : Thread Cert.QkvSRefIdeal.nD Cert.QkvSRefIdeal.τ).loc Cert.QkvSRefIdeal.main_v93) = v2 c
          ∧ r.2.mem ((c.tc : Thread Cert.QkvSRefIdeal.nD Cert.QkvSRefIdeal.τ).loc Cert.QkvSRefIdeal.main_v98) = v3 c
          ∧ r.2.mem ((c.tc : Thread Cert.QkvSRefIdeal.nD Cert.QkvSRefIdeal.τ).loc Cert.QkvSRefIdeal.main_v99) = v4 c
          ∧ r.2.mem ((c.tc : Thread Cert.QkvSRefIdeal.nD Cert.QkvSRefIdeal.τ).loc Cert.QkvSRefIdeal.main_v100) = v5 c
          ∧ r.2.mem ((c.tc : Thread Cert.QkvSRefIdeal.nD Cert.QkvSRefIdeal.τ).loc Cert.QkvSRefIdeal.main_arg0) = m' ((c.tc : Thread Cert.QkvSRefIdeal.nD Cert.QkvSRefIdeal.τ).loc Cert.QkvSRefIdeal.main_arg0)
          ∧ r.2.mem ((c.tc : Thread Cert.QkvSRefIdeal.nD Cert.QkvSRefIdeal.τ).loc Cert.QkvSRefIdeal.main_arg1) = m' ((c.tc : Thread Cert.QkvSRefIdeal.nD Cert.QkvSRefIdeal.τ).loc Cert.QkvSRefIdeal.main_arg1)
          ∧ r.2.mem ((c.tc : Thread Cert.QkvSRefIdeal.nD Cert.QkvSRefIdeal.τ).loc Cert.QkvSRefIdeal.main_arg2) = m' ((c.tc : Thread Cert.QkvSRefIdeal.nD Cert.QkvSRefIdeal.τ).loc Cert.QkvSRefIdeal.main_arg2)
          ∧ r.2.mem ((c.tc : Thread Cert.QkvSRefIdeal.nD Cert.QkvSRefIdeal.τ).loc Cert.QkvSRefIdeal.main_arg3) = m' ((c.tc : Thread Cert.QkvSRefIdeal.nD Cert.QkvSRefIdeal.τ).loc Cert.QkvSRefIdeal.main_arg3)
          ∧ r.2.mem ((c.tc : Thread Cert.QkvSRefIdeal.nD Cert.QkvSRefIdeal.τ).loc Cert.QkvSRefIdeal.main_arg4) = m' ((c.tc : Thread Cert.QkvSRefIdeal.nD Cert.QkvSRefIdeal.τ).loc Cert.QkvSRefIdeal.main_arg4))

def preserves_FfnOutS_FfnOutSIdeal : Prop :=
  True

def algebraic_FfnOutSIdeal_FfnOutSRefIdeal [hFfnOutSIdeal : Cert.FfnOutSIdeal.Facts] [hFfnOutSRefIdeal : Cert.FfnOutSRefIdeal.Facts] : Prop :=
  ∀ (m : (ℓ : Loc Cert.FfnOutSIdeal.nD Cert.FfnOutSIdeal.τ Cert.FfnOutSIdeal.sig) → Buf (Elt Ideal) ℓ) (g : Dev Cert.FfnOutSIdeal.nD → PrngReg)
    (m' : (ℓ : Loc Cert.FfnOutSRefIdeal.nD Cert.FfnOutSRefIdeal.τ Cert.FfnOutSRefIdeal.sig) → Buf (Elt Ideal) ℓ) (g' : Dev Cert.FfnOutSRefIdeal.nD → PrngReg), Pre_FfnOutSIdeal m →
    (∀ c : Dev Cert.FfnOutSIdeal.nD,
      m' ((c.tc : Thread Cert.FfnOutSRefIdeal.nD Cert.FfnOutSRefIdeal.τ).loc Cert.FfnOutSRefIdeal.main_arg0) = m ((c.tc : Thread Cert.FfnOutSIdeal.nD Cert.FfnOutSIdeal.τ).loc Cert.FfnOutSIdeal.main_arg0)
      ∧ m' ((c.tc : Thread Cert.FfnOutSRefIdeal.nD Cert.FfnOutSRefIdeal.τ).loc Cert.FfnOutSRefIdeal.main_arg1) = m ((c.tc : Thread Cert.FfnOutSIdeal.nD Cert.FfnOutSIdeal.τ).loc Cert.FfnOutSIdeal.main_arg1)
      ∧ m' ((c.tc : Thread Cert.FfnOutSRefIdeal.nD Cert.FfnOutSRefIdeal.τ).loc Cert.FfnOutSRefIdeal.main_arg2) = m ((c.tc : Thread Cert.FfnOutSIdeal.nD Cert.FfnOutSIdeal.τ).loc Cert.FfnOutSIdeal.main_arg2)
      ∧ m' ((c.tc : Thread Cert.FfnOutSRefIdeal.nD Cert.FfnOutSRefIdeal.τ).loc Cert.FfnOutSRefIdeal.main_arg3) = m ((c.tc : Thread Cert.FfnOutSIdeal.nD Cert.FfnOutSIdeal.τ).loc Cert.FfnOutSIdeal.main_arg3)
      ∧ m' ((c.tc : Thread Cert.FfnOutSRefIdeal.nD Cert.FfnOutSRefIdeal.τ).loc Cert.FfnOutSRefIdeal.main_arg4) = m ((c.tc : Thread Cert.FfnOutSIdeal.nD Cert.FfnOutSIdeal.τ).loc Cert.FfnOutSIdeal.main_arg4)
      ∧ m' ((c.tc : Thread Cert.FfnOutSRefIdeal.nD Cert.FfnOutSRefIdeal.τ).loc Cert.FfnOutSRefIdeal.main_arg5) = m ((c.tc : Thread Cert.FfnOutSIdeal.nD Cert.FfnOutSIdeal.τ).loc Cert.FfnOutSIdeal.main_arg5)
      ∧ m' ((c.tc : Thread Cert.FfnOutSRefIdeal.nD Cert.FfnOutSRefIdeal.τ).loc Cert.FfnOutSRefIdeal.main_arg6) = m ((c.tc : Thread Cert.FfnOutSIdeal.nD Cert.FfnOutSIdeal.τ).loc Cert.FfnOutSIdeal.main_arg6)
      ∧ m' ((c.tc : Thread Cert.FfnOutSRefIdeal.nD Cert.FfnOutSRefIdeal.τ).loc Cert.FfnOutSRefIdeal.main_arg7) = m ((c.tc : Thread Cert.FfnOutSIdeal.nD Cert.FfnOutSIdeal.τ).loc Cert.FfnOutSIdeal.main_arg7)
      ∧ m' ((c.tc : Thread Cert.FfnOutSRefIdeal.nD Cert.FfnOutSRefIdeal.τ).loc Cert.FfnOutSRefIdeal.main_arg8) = m ((c.tc : Thread Cert.FfnOutSIdeal.nD Cert.FfnOutSIdeal.τ).loc Cert.FfnOutSIdeal.main_arg8)) →
    ∃ (v0 : (c : Dev Cert.FfnOutSIdeal.nD) → Buf (Elt Ideal) ((c.tc : Thread Cert.FfnOutSIdeal.nD Cert.FfnOutSIdeal.τ).loc Cert.FfnOutSIdeal.main_v9)),
      θ_run (Cert.FfnOutSIdeal.defs (F := Ideal)) (onTc (τ := Cert.FfnOutSIdeal.τ) (Cert.FfnOutSIdeal.main (F := Ideal))) ⟨m, fun _ => 0, g⟩ (fun r => ∀ c : Dev Cert.FfnOutSIdeal.nD,
          r.2.mem ((c.tc : Thread Cert.FfnOutSIdeal.nD Cert.FfnOutSIdeal.τ).loc Cert.FfnOutSIdeal.main_v9) = v0 c
          ∧ r.2.mem ((c.tc : Thread Cert.FfnOutSIdeal.nD Cert.FfnOutSIdeal.τ).loc Cert.FfnOutSIdeal.main_arg0) = m ((c.tc : Thread Cert.FfnOutSIdeal.nD Cert.FfnOutSIdeal.τ).loc Cert.FfnOutSIdeal.main_arg0)
          ∧ r.2.mem ((c.tc : Thread Cert.FfnOutSIdeal.nD Cert.FfnOutSIdeal.τ).loc Cert.FfnOutSIdeal.main_arg1) = m ((c.tc : Thread Cert.FfnOutSIdeal.nD Cert.FfnOutSIdeal.τ).loc Cert.FfnOutSIdeal.main_arg1)
          ∧ r.2.mem ((c.tc : Thread Cert.FfnOutSIdeal.nD Cert.FfnOutSIdeal.τ).loc Cert.FfnOutSIdeal.main_arg2) = m ((c.tc : Thread Cert.FfnOutSIdeal.nD Cert.FfnOutSIdeal.τ).loc Cert.FfnOutSIdeal.main_arg2)
          ∧ r.2.mem ((c.tc : Thread Cert.FfnOutSIdeal.nD Cert.FfnOutSIdeal.τ).loc Cert.FfnOutSIdeal.main_arg3) = m ((c.tc : Thread Cert.FfnOutSIdeal.nD Cert.FfnOutSIdeal.τ).loc Cert.FfnOutSIdeal.main_arg3)
          ∧ r.2.mem ((c.tc : Thread Cert.FfnOutSIdeal.nD Cert.FfnOutSIdeal.τ).loc Cert.FfnOutSIdeal.main_arg4) = m ((c.tc : Thread Cert.FfnOutSIdeal.nD Cert.FfnOutSIdeal.τ).loc Cert.FfnOutSIdeal.main_arg4)
          ∧ r.2.mem ((c.tc : Thread Cert.FfnOutSIdeal.nD Cert.FfnOutSIdeal.τ).loc Cert.FfnOutSIdeal.main_arg5) = m ((c.tc : Thread Cert.FfnOutSIdeal.nD Cert.FfnOutSIdeal.τ).loc Cert.FfnOutSIdeal.main_arg5)
          ∧ r.2.mem ((c.tc : Thread Cert.FfnOutSIdeal.nD Cert.FfnOutSIdeal.τ).loc Cert.FfnOutSIdeal.main_arg6) = m ((c.tc : Thread Cert.FfnOutSIdeal.nD Cert.FfnOutSIdeal.τ).loc Cert.FfnOutSIdeal.main_arg6)
          ∧ r.2.mem ((c.tc : Thread Cert.FfnOutSIdeal.nD Cert.FfnOutSIdeal.τ).loc Cert.FfnOutSIdeal.main_arg7) = m ((c.tc : Thread Cert.FfnOutSIdeal.nD Cert.FfnOutSIdeal.τ).loc Cert.FfnOutSIdeal.main_arg7)
          ∧ r.2.mem ((c.tc : Thread Cert.FfnOutSIdeal.nD Cert.FfnOutSIdeal.τ).loc Cert.FfnOutSIdeal.main_arg8) = m ((c.tc : Thread Cert.FfnOutSIdeal.nD Cert.FfnOutSIdeal.τ).loc Cert.FfnOutSIdeal.main_arg8))
      ∧ θ_run (Cert.FfnOutSRefIdeal.defs (F := Ideal)) (onTc (τ := Cert.FfnOutSRefIdeal.τ) (Cert.FfnOutSRefIdeal.main (F := Ideal))) ⟨m', fun _ => 0, g'⟩ (fun r => ∀ c : Dev Cert.FfnOutSRefIdeal.nD,
          r.2.mem ((c.tc : Thread Cert.FfnOutSRefIdeal.nD Cert.FfnOutSRefIdeal.τ).loc Cert.FfnOutSRefIdeal.main_v38) = v0 c
          ∧ r.2.mem ((c.tc : Thread Cert.FfnOutSRefIdeal.nD Cert.FfnOutSRefIdeal.τ).loc Cert.FfnOutSRefIdeal.main_arg0) = m' ((c.tc : Thread Cert.FfnOutSRefIdeal.nD Cert.FfnOutSRefIdeal.τ).loc Cert.FfnOutSRefIdeal.main_arg0)
          ∧ r.2.mem ((c.tc : Thread Cert.FfnOutSRefIdeal.nD Cert.FfnOutSRefIdeal.τ).loc Cert.FfnOutSRefIdeal.main_arg1) = m' ((c.tc : Thread Cert.FfnOutSRefIdeal.nD Cert.FfnOutSRefIdeal.τ).loc Cert.FfnOutSRefIdeal.main_arg1)
          ∧ r.2.mem ((c.tc : Thread Cert.FfnOutSRefIdeal.nD Cert.FfnOutSRefIdeal.τ).loc Cert.FfnOutSRefIdeal.main_arg2) = m' ((c.tc : Thread Cert.FfnOutSRefIdeal.nD Cert.FfnOutSRefIdeal.τ).loc Cert.FfnOutSRefIdeal.main_arg2)
          ∧ r.2.mem ((c.tc : Thread Cert.FfnOutSRefIdeal.nD Cert.FfnOutSRefIdeal.τ).loc Cert.FfnOutSRefIdeal.main_arg3) = m' ((c.tc : Thread Cert.FfnOutSRefIdeal.nD Cert.FfnOutSRefIdeal.τ).loc Cert.FfnOutSRefIdeal.main_arg3)
          ∧ r.2.mem ((c.tc : Thread Cert.FfnOutSRefIdeal.nD Cert.FfnOutSRefIdeal.τ).loc Cert.FfnOutSRefIdeal.main_arg4) = m' ((c.tc : Thread Cert.FfnOutSRefIdeal.nD Cert.FfnOutSRefIdeal.τ).loc Cert.FfnOutSRefIdeal.main_arg4)
          ∧ r.2.mem ((c.tc : Thread Cert.FfnOutSRefIdeal.nD Cert.FfnOutSRefIdeal.τ).loc Cert.FfnOutSRefIdeal.main_arg5) = m' ((c.tc : Thread Cert.FfnOutSRefIdeal.nD Cert.FfnOutSRefIdeal.τ).loc Cert.FfnOutSRefIdeal.main_arg5)
          ∧ r.2.mem ((c.tc : Thread Cert.FfnOutSRefIdeal.nD Cert.FfnOutSRefIdeal.τ).loc Cert.FfnOutSRefIdeal.main_arg6) = m' ((c.tc : Thread Cert.FfnOutSRefIdeal.nD Cert.FfnOutSRefIdeal.τ).loc Cert.FfnOutSRefIdeal.main_arg6)
          ∧ r.2.mem ((c.tc : Thread Cert.FfnOutSRefIdeal.nD Cert.FfnOutSRefIdeal.τ).loc Cert.FfnOutSRefIdeal.main_arg7) = m' ((c.tc : Thread Cert.FfnOutSRefIdeal.nD Cert.FfnOutSRefIdeal.τ).loc Cert.FfnOutSRefIdeal.main_arg7)
          ∧ r.2.mem ((c.tc : Thread Cert.FfnOutSRefIdeal.nD Cert.FfnOutSRefIdeal.τ).loc Cert.FfnOutSRefIdeal.main_arg8) = m' ((c.tc : Thread Cert.FfnOutSRefIdeal.nD Cert.FfnOutSRefIdeal.τ).loc Cert.FfnOutSRefIdeal.main_arg8))

def preserves_QkvW_QkvWIdeal : Prop :=
  True

def algebraic_QkvWIdeal_QkvWRefIdeal [hQkvWIdeal : Cert.QkvWIdeal.Facts] [hQkvWRefIdeal : Cert.QkvWRefIdeal.Facts] : Prop :=
  ∀ (m : (ℓ : Loc Cert.QkvWIdeal.nD Cert.QkvWIdeal.τ Cert.QkvWIdeal.sig) → Buf (Elt Ideal) ℓ) (g : Dev Cert.QkvWIdeal.nD → PrngReg)
    (m' : (ℓ : Loc Cert.QkvWRefIdeal.nD Cert.QkvWRefIdeal.τ Cert.QkvWRefIdeal.sig) → Buf (Elt Ideal) ℓ) (g' : Dev Cert.QkvWRefIdeal.nD → PrngReg), Pre_QkvWIdeal m →
    (∀ c : Dev Cert.QkvWIdeal.nD,
      m' ((c.tc : Thread Cert.QkvWRefIdeal.nD Cert.QkvWRefIdeal.τ).loc Cert.QkvWRefIdeal.main_arg0) = m ((c.tc : Thread Cert.QkvWIdeal.nD Cert.QkvWIdeal.τ).loc Cert.QkvWIdeal.main_arg0)
      ∧ m' ((c.tc : Thread Cert.QkvWRefIdeal.nD Cert.QkvWRefIdeal.τ).loc Cert.QkvWRefIdeal.main_arg1) = m ((c.tc : Thread Cert.QkvWIdeal.nD Cert.QkvWIdeal.τ).loc Cert.QkvWIdeal.main_arg1)
      ∧ m' ((c.tc : Thread Cert.QkvWRefIdeal.nD Cert.QkvWRefIdeal.τ).loc Cert.QkvWRefIdeal.main_arg2) = m ((c.tc : Thread Cert.QkvWIdeal.nD Cert.QkvWIdeal.τ).loc Cert.QkvWIdeal.main_arg2)
      ∧ m' ((c.tc : Thread Cert.QkvWRefIdeal.nD Cert.QkvWRefIdeal.τ).loc Cert.QkvWRefIdeal.main_arg3) = m ((c.tc : Thread Cert.QkvWIdeal.nD Cert.QkvWIdeal.τ).loc Cert.QkvWIdeal.main_arg3)
      ∧ m' ((c.tc : Thread Cert.QkvWRefIdeal.nD Cert.QkvWRefIdeal.τ).loc Cert.QkvWRefIdeal.main_arg4) = m ((c.tc : Thread Cert.QkvWIdeal.nD Cert.QkvWIdeal.τ).loc Cert.QkvWIdeal.main_arg4)) →
    ∃ (v0 : (c : Dev Cert.QkvWIdeal.nD) → Buf (Elt Ideal) ((c.tc : Thread Cert.QkvWIdeal.nD Cert.QkvWIdeal.τ).loc Cert.QkvWIdeal.main_v39_0)) (v1 : (c : Dev Cert.QkvWIdeal.nD) → Buf (Elt Ideal) ((c.tc : Thread Cert.QkvWIdeal.nD Cert.QkvWIdeal.τ).loc Cert.QkvWIdeal.main_v42)) (v2 : (c : Dev Cert.QkvWIdeal.nD) → Buf (Elt Ideal) ((c.tc : Thread Cert.QkvWIdeal.nD Cert.QkvWIdeal.τ).loc Cert.QkvWIdeal.main_v43)) (v3 : (c : Dev Cert.QkvWIdeal.nD) → Buf (Elt Ideal) ((c.tc : Thread Cert.QkvWIdeal.nD Cert.QkvWIdeal.τ).loc Cert.QkvWIdeal.main_v39_3)) (v4 : (c : Dev Cert.QkvWIdeal.nD) → Buf (Elt Ideal) ((c.tc : Thread Cert.QkvWIdeal.nD Cert.QkvWIdeal.τ).loc Cert.QkvWIdeal.main_v39_4)),
      θ_run (Cert.QkvWIdeal.defs (F := Ideal)) (onTc (τ := Cert.QkvWIdeal.τ) (Cert.QkvWIdeal.main (F := Ideal))) ⟨m, fun _ => 0, g⟩ (fun r => ∀ c : Dev Cert.QkvWIdeal.nD,
          r.2.mem ((c.tc : Thread Cert.QkvWIdeal.nD Cert.QkvWIdeal.τ).loc Cert.QkvWIdeal.main_v39_0) = v0 c
          ∧ r.2.mem ((c.tc : Thread Cert.QkvWIdeal.nD Cert.QkvWIdeal.τ).loc Cert.QkvWIdeal.main_v42) = v1 c
          ∧ r.2.mem ((c.tc : Thread Cert.QkvWIdeal.nD Cert.QkvWIdeal.τ).loc Cert.QkvWIdeal.main_v43) = v2 c
          ∧ r.2.mem ((c.tc : Thread Cert.QkvWIdeal.nD Cert.QkvWIdeal.τ).loc Cert.QkvWIdeal.main_v39_3) = v3 c
          ∧ r.2.mem ((c.tc : Thread Cert.QkvWIdeal.nD Cert.QkvWIdeal.τ).loc Cert.QkvWIdeal.main_v39_4) = v4 c
          ∧ r.2.mem ((c.tc : Thread Cert.QkvWIdeal.nD Cert.QkvWIdeal.τ).loc Cert.QkvWIdeal.main_arg0) = m ((c.tc : Thread Cert.QkvWIdeal.nD Cert.QkvWIdeal.τ).loc Cert.QkvWIdeal.main_arg0)
          ∧ r.2.mem ((c.tc : Thread Cert.QkvWIdeal.nD Cert.QkvWIdeal.τ).loc Cert.QkvWIdeal.main_arg1) = m ((c.tc : Thread Cert.QkvWIdeal.nD Cert.QkvWIdeal.τ).loc Cert.QkvWIdeal.main_arg1)
          ∧ r.2.mem ((c.tc : Thread Cert.QkvWIdeal.nD Cert.QkvWIdeal.τ).loc Cert.QkvWIdeal.main_arg2) = m ((c.tc : Thread Cert.QkvWIdeal.nD Cert.QkvWIdeal.τ).loc Cert.QkvWIdeal.main_arg2)
          ∧ r.2.mem ((c.tc : Thread Cert.QkvWIdeal.nD Cert.QkvWIdeal.τ).loc Cert.QkvWIdeal.main_arg3) = m ((c.tc : Thread Cert.QkvWIdeal.nD Cert.QkvWIdeal.τ).loc Cert.QkvWIdeal.main_arg3)
          ∧ r.2.mem ((c.tc : Thread Cert.QkvWIdeal.nD Cert.QkvWIdeal.τ).loc Cert.QkvWIdeal.main_arg4) = m ((c.tc : Thread Cert.QkvWIdeal.nD Cert.QkvWIdeal.τ).loc Cert.QkvWIdeal.main_arg4))
      ∧ θ_run (Cert.QkvWRefIdeal.defs (F := Ideal)) (onTc (τ := Cert.QkvWRefIdeal.τ) (Cert.QkvWRefIdeal.main (F := Ideal))) ⟨m', fun _ => 0, g'⟩ (fun r => ∀ c : Dev Cert.QkvWRefIdeal.nD,
          r.2.mem ((c.tc : Thread Cert.QkvWRefIdeal.nD Cert.QkvWRefIdeal.τ).loc Cert.QkvWRefIdeal.main_v95) = v0 c
          ∧ r.2.mem ((c.tc : Thread Cert.QkvWRefIdeal.nD Cert.QkvWRefIdeal.τ).loc Cert.QkvWRefIdeal.main_v101) = v1 c
          ∧ r.2.mem ((c.tc : Thread Cert.QkvWRefIdeal.nD Cert.QkvWRefIdeal.τ).loc Cert.QkvWRefIdeal.main_v102) = v2 c
          ∧ r.2.mem ((c.tc : Thread Cert.QkvWRefIdeal.nD Cert.QkvWRefIdeal.τ).loc Cert.QkvWRefIdeal.main_v96) = v3 c
          ∧ r.2.mem ((c.tc : Thread Cert.QkvWRefIdeal.nD Cert.QkvWRefIdeal.τ).loc Cert.QkvWRefIdeal.main_v97) = v4 c
          ∧ r.2.mem ((c.tc : Thread Cert.QkvWRefIdeal.nD Cert.QkvWRefIdeal.τ).loc Cert.QkvWRefIdeal.main_arg0) = m' ((c.tc : Thread Cert.QkvWRefIdeal.nD Cert.QkvWRefIdeal.τ).loc Cert.QkvWRefIdeal.main_arg0)
          ∧ r.2.mem ((c.tc : Thread Cert.QkvWRefIdeal.nD Cert.QkvWRefIdeal.τ).loc Cert.QkvWRefIdeal.main_arg1) = m' ((c.tc : Thread Cert.QkvWRefIdeal.nD Cert.QkvWRefIdeal.τ).loc Cert.QkvWRefIdeal.main_arg1)
          ∧ r.2.mem ((c.tc : Thread Cert.QkvWRefIdeal.nD Cert.QkvWRefIdeal.τ).loc Cert.QkvWRefIdeal.main_arg2) = m' ((c.tc : Thread Cert.QkvWRefIdeal.nD Cert.QkvWRefIdeal.τ).loc Cert.QkvWRefIdeal.main_arg2)
          ∧ r.2.mem ((c.tc : Thread Cert.QkvWRefIdeal.nD Cert.QkvWRefIdeal.τ).loc Cert.QkvWRefIdeal.main_arg3) = m' ((c.tc : Thread Cert.QkvWRefIdeal.nD Cert.QkvWRefIdeal.τ).loc Cert.QkvWRefIdeal.main_arg3)
          ∧ r.2.mem ((c.tc : Thread Cert.QkvWRefIdeal.nD Cert.QkvWRefIdeal.τ).loc Cert.QkvWRefIdeal.main_arg4) = m' ((c.tc : Thread Cert.QkvWRefIdeal.nD Cert.QkvWRefIdeal.τ).loc Cert.QkvWRefIdeal.main_arg4))

def preserves_QkvWS_QkvWSIdeal : Prop :=
  True

def algebraic_QkvWSIdeal_QkvWSRefIdeal [hQkvWSIdeal : Cert.QkvWSIdeal.Facts] [hQkvWSRefIdeal : Cert.QkvWSRefIdeal.Facts] : Prop :=
  ∀ (m : (ℓ : Loc Cert.QkvWSIdeal.nD Cert.QkvWSIdeal.τ Cert.QkvWSIdeal.sig) → Buf (Elt Ideal) ℓ) (g : Dev Cert.QkvWSIdeal.nD → PrngReg)
    (m' : (ℓ : Loc Cert.QkvWSRefIdeal.nD Cert.QkvWSRefIdeal.τ Cert.QkvWSRefIdeal.sig) → Buf (Elt Ideal) ℓ) (g' : Dev Cert.QkvWSRefIdeal.nD → PrngReg), Pre_QkvWSIdeal m →
    (∀ c : Dev Cert.QkvWSIdeal.nD,
      m' ((c.tc : Thread Cert.QkvWSRefIdeal.nD Cert.QkvWSRefIdeal.τ).loc Cert.QkvWSRefIdeal.main_arg0) = m ((c.tc : Thread Cert.QkvWSIdeal.nD Cert.QkvWSIdeal.τ).loc Cert.QkvWSIdeal.main_arg0)
      ∧ m' ((c.tc : Thread Cert.QkvWSRefIdeal.nD Cert.QkvWSRefIdeal.τ).loc Cert.QkvWSRefIdeal.main_arg1) = m ((c.tc : Thread Cert.QkvWSIdeal.nD Cert.QkvWSIdeal.τ).loc Cert.QkvWSIdeal.main_arg1)
      ∧ m' ((c.tc : Thread Cert.QkvWSRefIdeal.nD Cert.QkvWSRefIdeal.τ).loc Cert.QkvWSRefIdeal.main_arg2) = m ((c.tc : Thread Cert.QkvWSIdeal.nD Cert.QkvWSIdeal.τ).loc Cert.QkvWSIdeal.main_arg2)
      ∧ m' ((c.tc : Thread Cert.QkvWSRefIdeal.nD Cert.QkvWSRefIdeal.τ).loc Cert.QkvWSRefIdeal.main_arg3) = m ((c.tc : Thread Cert.QkvWSIdeal.nD Cert.QkvWSIdeal.τ).loc Cert.QkvWSIdeal.main_arg3)
      ∧ m' ((c.tc : Thread Cert.QkvWSRefIdeal.nD Cert.QkvWSRefIdeal.τ).loc Cert.QkvWSRefIdeal.main_arg4) = m ((c.tc : Thread Cert.QkvWSIdeal.nD Cert.QkvWSIdeal.τ).loc Cert.QkvWSIdeal.main_arg4)
      ∧ m' ((c.tc : Thread Cert.QkvWSRefIdeal.nD Cert.QkvWSRefIdeal.τ).loc Cert.QkvWSRefIdeal.main_arg5) = m ((c.tc : Thread Cert.QkvWSIdeal.nD Cert.QkvWSIdeal.τ).loc Cert.QkvWSIdeal.main_arg5)
      ∧ m' ((c.tc : Thread Cert.QkvWSRefIdeal.nD Cert.QkvWSRefIdeal.τ).loc Cert.QkvWSRefIdeal.main_arg6) = m ((c.tc : Thread Cert.QkvWSIdeal.nD Cert.QkvWSIdeal.τ).loc Cert.QkvWSIdeal.main_arg6)) →
    ∃ (v0 : (c : Dev Cert.QkvWSIdeal.nD) → Buf (Elt Ideal) ((c.tc : Thread Cert.QkvWSIdeal.nD Cert.QkvWSIdeal.τ).loc Cert.QkvWSIdeal.main_v52_0)) (v1 : (c : Dev Cert.QkvWSIdeal.nD) → Buf (Elt Ideal) ((c.tc : Thread Cert.QkvWSIdeal.nD Cert.QkvWSIdeal.τ).loc Cert.QkvWSIdeal.main_v56)) (v2 : (c : Dev Cert.QkvWSIdeal.nD) → Buf (Elt Ideal) ((c.tc : Thread Cert.QkvWSIdeal.nD Cert.QkvWSIdeal.τ).loc Cert.QkvWSIdeal.main_v58)) (v3 : (c : Dev Cert.QkvWSIdeal.nD) → Buf (Elt Ideal) ((c.tc : Thread Cert.QkvWSIdeal.nD Cert.QkvWSIdeal.τ).loc Cert.QkvWSIdeal.main_v52_3)) (v4 : (c : Dev Cert.QkvWSIdeal.nD) → Buf (Elt Ideal) ((c.tc : Thread Cert.QkvWSIdeal.nD Cert.QkvWSIdeal.τ).loc Cert.QkvWSIdeal.main_v52_4)),
      θ_run (Cert.QkvWSIdeal.defs (F := Ideal)) (onTc (τ := Cert.QkvWSIdeal.τ) (Cert.QkvWSIdeal.main (F := Ideal))) ⟨m, fun _ => 0, g⟩ (fun r => ∀ c : Dev Cert.QkvWSIdeal.nD,
          r.2.mem ((c.tc : Thread Cert.QkvWSIdeal.nD Cert.QkvWSIdeal.τ).loc Cert.QkvWSIdeal.main_v52_0) = v0 c
          ∧ r.2.mem ((c.tc : Thread Cert.QkvWSIdeal.nD Cert.QkvWSIdeal.τ).loc Cert.QkvWSIdeal.main_v56) = v1 c
          ∧ r.2.mem ((c.tc : Thread Cert.QkvWSIdeal.nD Cert.QkvWSIdeal.τ).loc Cert.QkvWSIdeal.main_v58) = v2 c
          ∧ r.2.mem ((c.tc : Thread Cert.QkvWSIdeal.nD Cert.QkvWSIdeal.τ).loc Cert.QkvWSIdeal.main_v52_3) = v3 c
          ∧ r.2.mem ((c.tc : Thread Cert.QkvWSIdeal.nD Cert.QkvWSIdeal.τ).loc Cert.QkvWSIdeal.main_v52_4) = v4 c
          ∧ r.2.mem ((c.tc : Thread Cert.QkvWSIdeal.nD Cert.QkvWSIdeal.τ).loc Cert.QkvWSIdeal.main_arg0) = m ((c.tc : Thread Cert.QkvWSIdeal.nD Cert.QkvWSIdeal.τ).loc Cert.QkvWSIdeal.main_arg0)
          ∧ r.2.mem ((c.tc : Thread Cert.QkvWSIdeal.nD Cert.QkvWSIdeal.τ).loc Cert.QkvWSIdeal.main_arg1) = m ((c.tc : Thread Cert.QkvWSIdeal.nD Cert.QkvWSIdeal.τ).loc Cert.QkvWSIdeal.main_arg1)
          ∧ r.2.mem ((c.tc : Thread Cert.QkvWSIdeal.nD Cert.QkvWSIdeal.τ).loc Cert.QkvWSIdeal.main_arg2) = m ((c.tc : Thread Cert.QkvWSIdeal.nD Cert.QkvWSIdeal.τ).loc Cert.QkvWSIdeal.main_arg2)
          ∧ r.2.mem ((c.tc : Thread Cert.QkvWSIdeal.nD Cert.QkvWSIdeal.τ).loc Cert.QkvWSIdeal.main_arg3) = m ((c.tc : Thread Cert.QkvWSIdeal.nD Cert.QkvWSIdeal.τ).loc Cert.QkvWSIdeal.main_arg3)
          ∧ r.2.mem ((c.tc : Thread Cert.QkvWSIdeal.nD Cert.QkvWSIdeal.τ).loc Cert.QkvWSIdeal.main_arg4) = m ((c.tc : Thread Cert.QkvWSIdeal.nD Cert.QkvWSIdeal.τ).loc Cert.QkvWSIdeal.main_arg4)
          ∧ r.2.mem ((c.tc : Thread Cert.QkvWSIdeal.nD Cert.QkvWSIdeal.τ).loc Cert.QkvWSIdeal.main_arg5) = m ((c.tc : Thread Cert.QkvWSIdeal.nD Cert.QkvWSIdeal.τ).loc Cert.QkvWSIdeal.main_arg5)
          ∧ r.2.mem ((c.tc : Thread Cert.QkvWSIdeal.nD Cert.QkvWSIdeal.τ).loc Cert.QkvWSIdeal.main_arg6) = m ((c.tc : Thread Cert.QkvWSIdeal.nD Cert.QkvWSIdeal.τ).loc Cert.QkvWSIdeal.main_arg6))
      ∧ θ_run (Cert.QkvWSRefIdeal.defs (F := Ideal)) (onTc (τ := Cert.QkvWSRefIdeal.τ) (Cert.QkvWSRefIdeal.main (F := Ideal))) ⟨m', fun _ => 0, g'⟩ (fun r => ∀ c : Dev Cert.QkvWSRefIdeal.nD,
          r.2.mem ((c.tc : Thread Cert.QkvWSRefIdeal.nD Cert.QkvWSRefIdeal.τ).loc Cert.QkvWSRefIdeal.main_v97) = v0 c
          ∧ r.2.mem ((c.tc : Thread Cert.QkvWSRefIdeal.nD Cert.QkvWSRefIdeal.τ).loc Cert.QkvWSRefIdeal.main_v104) = v1 c
          ∧ r.2.mem ((c.tc : Thread Cert.QkvWSRefIdeal.nD Cert.QkvWSRefIdeal.τ).loc Cert.QkvWSRefIdeal.main_v106) = v2 c
          ∧ r.2.mem ((c.tc : Thread Cert.QkvWSRefIdeal.nD Cert.QkvWSRefIdeal.τ).loc Cert.QkvWSRefIdeal.main_v98) = v3 c
          ∧ r.2.mem ((c.tc : Thread Cert.QkvWSRefIdeal.nD Cert.QkvWSRefIdeal.τ).loc Cert.QkvWSRefIdeal.main_v99) = v4 c
          ∧ r.2.mem ((c.tc : Thread Cert.QkvWSRefIdeal.nD Cert.QkvWSRefIdeal.τ).loc Cert.QkvWSRefIdeal.main_arg0) = m' ((c.tc : Thread Cert.QkvWSRefIdeal.nD Cert.QkvWSRefIdeal.τ).loc Cert.QkvWSRefIdeal.main_arg0)
          ∧ r.2.mem ((c.tc : Thread Cert.QkvWSRefIdeal.nD Cert.QkvWSRefIdeal.τ).loc Cert.QkvWSRefIdeal.main_arg1) = m' ((c.tc : Thread Cert.QkvWSRefIdeal.nD Cert.QkvWSRefIdeal.τ).loc Cert.QkvWSRefIdeal.main_arg1)
          ∧ r.2.mem ((c.tc : Thread Cert.QkvWSRefIdeal.nD Cert.QkvWSRefIdeal.τ).loc Cert.QkvWSRefIdeal.main_arg2) = m' ((c.tc : Thread Cert.QkvWSRefIdeal.nD Cert.QkvWSRefIdeal.τ).loc Cert.QkvWSRefIdeal.main_arg2)
          ∧ r.2.mem ((c.tc : Thread Cert.QkvWSRefIdeal.nD Cert.QkvWSRefIdeal.τ).loc Cert.QkvWSRefIdeal.main_arg3) = m' ((c.tc : Thread Cert.QkvWSRefIdeal.nD Cert.QkvWSRefIdeal.τ).loc Cert.QkvWSRefIdeal.main_arg3)
          ∧ r.2.mem ((c.tc : Thread Cert.QkvWSRefIdeal.nD Cert.QkvWSRefIdeal.τ).loc Cert.QkvWSRefIdeal.main_arg4) = m' ((c.tc : Thread Cert.QkvWSRefIdeal.nD Cert.QkvWSRefIdeal.τ).loc Cert.QkvWSRefIdeal.main_arg4)
          ∧ r.2.mem ((c.tc : Thread Cert.QkvWSRefIdeal.nD Cert.QkvWSRefIdeal.τ).loc Cert.QkvWSRefIdeal.main_arg5) = m' ((c.tc : Thread Cert.QkvWSRefIdeal.nD Cert.QkvWSRefIdeal.τ).loc Cert.QkvWSRefIdeal.main_arg5)
          ∧ r.2.mem ((c.tc : Thread Cert.QkvWSRefIdeal.nD Cert.QkvWSRefIdeal.τ).loc Cert.QkvWSRefIdeal.main_arg6) = m' ((c.tc : Thread Cert.QkvWSRefIdeal.nD Cert.QkvWSRefIdeal.τ).loc Cert.QkvWSRefIdeal.main_arg6))

def Claim : Prop :=
  ∃ (hMoba : Cert.Moba.Facts) (hMobaIdeal : Cert.MobaIdeal.Facts) (hMobaRefIdeal : Cert.MobaRefIdeal.Facts) (hMoe : Cert.Moe.Facts) (hMoeIdeal : Cert.MoeIdeal.Facts) (hMoeRefIdeal : Cert.MoeRefIdeal.Facts) (hQkv : Cert.Qkv.Facts) (hQkvIdeal : Cert.QkvIdeal.Facts) (hQkvRefIdeal : Cert.QkvRefIdeal.Facts) (hAttnOut : Cert.AttnOut.Facts) (hAttnOutIdeal : Cert.AttnOutIdeal.Facts) (hAttnOutRefIdeal : Cert.AttnOutRefIdeal.Facts) (hFfnOut : Cert.FfnOut.Facts) (hFfnOutIdeal : Cert.FfnOutIdeal.Facts) (hFfnOutRefIdeal : Cert.FfnOutRefIdeal.Facts) (hQkvS : Cert.QkvS.Facts) (hQkvSIdeal : Cert.QkvSIdeal.Facts) (hQkvSRefIdeal : Cert.QkvSRefIdeal.Facts) (hFfnOutS : Cert.FfnOutS.Facts) (hFfnOutSIdeal : Cert.FfnOutSIdeal.Facts) (hFfnOutSRefIdeal : Cert.FfnOutSRefIdeal.Facts) (hQkvW : Cert.QkvW.Facts) (hQkvWIdeal : Cert.QkvWIdeal.Facts) (hQkvWRefIdeal : Cert.QkvWRefIdeal.Facts) (hQkvWS : Cert.QkvWS.Facts) (hQkvWSIdeal : Cert.QkvWSIdeal.Facts) (hQkvWSRefIdeal : Cert.QkvWSRefIdeal.Facts) (hPre_moba_finite : Cert.Pre_moba_finite.Facts) (hPre_moe_ints : Cert.Pre_moe_ints.Facts) (hPre_attn_out_finite : Cert.Pre_attn_out_finite.Facts),
    quiescent_Moba (hMoba := hMoba)
    ∧ quiescent_MobaIdeal (hMobaIdeal := hMobaIdeal)
    ∧ quiescent_MobaIdeal_pre_moba_finite (hMobaIdeal := hMobaIdeal) (hPre_moba_finite := hPre_moba_finite)
    ∧ quiescent_MobaRefIdeal (hMobaRefIdeal := hMobaRefIdeal)
    ∧ quiescent_MobaRefIdeal_pre_moba_finite (hMobaRefIdeal := hMobaRefIdeal) (hPre_moba_finite := hPre_moba_finite)
    ∧ quiescent_Moe (hMoe := hMoe) (hPre_moe_ints := hPre_moe_ints)
    ∧ quiescent_MoeIdeal (hMoeIdeal := hMoeIdeal) (hPre_moe_ints := hPre_moe_ints)
    ∧ quiescent_MoeRefIdeal (hMoeRefIdeal := hMoeRefIdeal)
    ∧ quiescent_MoeRefIdeal_pre_moe_ints (hMoeRefIdeal := hMoeRefIdeal) (hPre_moe_ints := hPre_moe_ints)
    ∧ quiescent_Qkv (hQkv := hQkv)
    ∧ quiescent_QkvIdeal (hQkvIdeal := hQkvIdeal)
    ∧ quiescent_QkvRefIdeal (hQkvRefIdeal := hQkvRefIdeal)
    ∧ quiescent_AttnOut (hAttnOut := hAttnOut)
    ∧ quiescent_AttnOutIdeal (hAttnOutIdeal := hAttnOutIdeal)
    ∧ quiescent_AttnOutIdeal_pre_attn_out_finite (hAttnOutIdeal := hAttnOutIdeal) (hPre_attn_out_finite := hPre_attn_out_finite)
    ∧ quiescent_AttnOutRefIdeal (hAttnOutRefIdeal := hAttnOutRefIdeal)
    ∧ quiescent_AttnOutRefIdeal_pre_attn_out_finite (hAttnOutRefIdeal := hAttnOutRefIdeal) (hPre_attn_out_finite := hPre_attn_out_finite)
    ∧ quiescent_FfnOut (hFfnOut := hFfnOut)
    ∧ quiescent_FfnOutIdeal (hFfnOutIdeal := hFfnOutIdeal)
    ∧ quiescent_FfnOutRefIdeal (hFfnOutRefIdeal := hFfnOutRefIdeal)
    ∧ quiescent_QkvS (hQkvS := hQkvS)
    ∧ quiescent_QkvSIdeal (hQkvSIdeal := hQkvSIdeal)
    ∧ quiescent_QkvSRefIdeal (hQkvSRefIdeal := hQkvSRefIdeal)
    ∧ quiescent_FfnOutS (hFfnOutS := hFfnOutS)
    ∧ quiescent_FfnOutSIdeal (hFfnOutSIdeal := hFfnOutSIdeal)
    ∧ quiescent_FfnOutSRefIdeal (hFfnOutSRefIdeal := hFfnOutSRefIdeal)
    ∧ quiescent_QkvW (hQkvW := hQkvW)
    ∧ quiescent_QkvWIdeal (hQkvWIdeal := hQkvWIdeal)
    ∧ quiescent_QkvWRefIdeal (hQkvWRefIdeal := hQkvWRefIdeal)
    ∧ quiescent_QkvWS (hQkvWS := hQkvWS)
    ∧ quiescent_QkvWSIdeal (hQkvWSIdeal := hQkvWSIdeal)
    ∧ quiescent_QkvWSRefIdeal (hQkvWSRefIdeal := hQkvWSRefIdeal)
    ∧ preserves_Moba_MobaIdeal
    ∧ algebraic_MobaIdeal_MobaRefIdeal_pre_moba_finite (hMobaIdeal := hMobaIdeal) (hMobaRefIdeal := hMobaRefIdeal) (hPre_moba_finite := hPre_moba_finite)
    ∧ preserves_Moe_MoeIdeal
    ∧ algebraic_MoeIdeal_MoeRefIdeal (hMoeIdeal := hMoeIdeal) (hMoeRefIdeal := hMoeRefIdeal) (hPre_moe_ints := hPre_moe_ints)
    ∧ preserves_Qkv_QkvIdeal
    ∧ algebraic_QkvIdeal_QkvRefIdeal (hQkvIdeal := hQkvIdeal) (hQkvRefIdeal := hQkvRefIdeal)
    ∧ preserves_AttnOut_AttnOutIdeal
    ∧ algebraic_AttnOutIdeal_AttnOutRefIdeal_pre_attn_out_finite (hAttnOutIdeal := hAttnOutIdeal) (hAttnOutRefIdeal := hAttnOutRefIdeal) (hPre_attn_out_finite := hPre_attn_out_finite)
    ∧ preserves_FfnOut_FfnOutIdeal
    ∧ algebraic_FfnOutIdeal_FfnOutRefIdeal (hFfnOutIdeal := hFfnOutIdeal) (hFfnOutRefIdeal := hFfnOutRefIdeal)
    ∧ preserves_QkvS_QkvSIdeal
    ∧ algebraic_QkvSIdeal_QkvSRefIdeal (hQkvSIdeal := hQkvSIdeal) (hQkvSRefIdeal := hQkvSRefIdeal)
    ∧ preserves_FfnOutS_FfnOutSIdeal
    ∧ algebraic_FfnOutSIdeal_FfnOutSRefIdeal (hFfnOutSIdeal := hFfnOutSIdeal) (hFfnOutSRefIdeal := hFfnOutSRefIdeal)
    ∧ preserves_QkvW_QkvWIdeal
    ∧ algebraic_QkvWIdeal_QkvWRefIdeal (hQkvWIdeal := hQkvWIdeal) (hQkvWRefIdeal := hQkvWRefIdeal)
    ∧ preserves_QkvWS_QkvWSIdeal
    ∧ algebraic_QkvWSIdeal_QkvWSRefIdeal (hQkvWSIdeal := hQkvWSIdeal) (hQkvWSRefIdeal := hQkvWSRefIdeal)
-- ==== Pre_attn_out_finite.lean ====
abbrev S16384x1024 : Shape := ⟨2, ![16384, 1024]⟩
abbrev S8x1x1024 : Shape := ⟨3, ![8, 1, 1024]⟩
abbrev S1024x1024 : Shape := ⟨2, ![1024, 1024]⟩
abbrev S1024 : Shape := ⟨1, ![1024]⟩
abbrev S1024x256 : Shape := ⟨2, ![1024, 256]⟩
abbrev S_ : Shape := ⟨0, ![]⟩

class Facts : Prop where
  bitsLt_bf16_f32 : FTy.bits .bf16 < FTy.bits .f32
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S8x1x1024 : S_.BroadcastsInDim S8x1x1024 (![] : Fin 0 → Fin S8x1x1024.rank)
  reducesTo_S8x1x1024_S_d0_1_2 : S8x1x1024.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x256 : S_.BroadcastsInDim S1024x256 (![] : Fin 0 → Fin S1024x256.rank)
  reducesTo_S1024x256_S_d0_1 : S1024x256.ReducesTo [0, 1] S_

variable [Facts]

def fn_part4 {F : FTy → Type} [FloatOps F] (main_v62 : IVec S_ 1) (main_v64 : IVec S1024x256 1) (main_v66 : IVec S1024x256 1) : IVec S_ 1 :=
  let main_v67 : IVec S1024x256 1 := andi main_v64 main_v66
  let main_c_27 : IVec S_ 1 := constantI S_ 1 1#1
  let main_v68 : IVec S_ 1 := (fun x v => Host.reduce IntOp.andi x v reducesTo_S1024x256_S_d0_1 h_S_) main_v67 main_c_27
  let main_v69 : IVec S_ 1 := andi main_v62 main_v68
  main_v69

def fn_part3 {F : FTy → Type} [FloatOps F] (main_arg7 : FVec F S1024 .f32) (main_arg8 : FVec F S1024 .f32) (main_arg9 : FVec F S1024x256 .f32) (main_v48 : IVec S_ 1) (main_v49 : FVec F S1024 .f32) : IVec S_ 1 :=
  let main_v50 : IVec S1024 1 := cmpf .olt main_arg7 main_v49
  let main_cst_20 : FVec F S_ .f32 := constant S_ .f32 0xFF800000#32
  let main_v51 : FVec F S1024 .f32 := broadcastInDim S1024 ![] bcast_S_S1024 main_cst_20
  let main_v52 : IVec S1024 1 := cmpf .ogt main_arg7 main_v51
  let main_v53 : IVec S1024 1 := andi main_v50 main_v52
  let main_c_21 : IVec S_ 1 := constantI S_ 1 1#1
  let main_v54 : IVec S_ 1 := (fun x v => Host.reduce IntOp.andi x v reducesTo_S1024_S_d0 h_S_) main_v53 main_c_21
  let main_v55 : IVec S_ 1 := andi main_v48 main_v54
  let main_cst_22 : FVec F S_ .f32 := constant S_ .f32 0x7F800000#32
  let main_v56 : FVec F S1024 .f32 := broadcastInDim S1024 ![] bcast_S_S1024 main_cst_22
  let main_v57 : IVec S1024 1 := cmpf .olt main_arg8 main_v56
  let main_cst_23 : FVec F S_ .f32 := constant S_ .f32 0xFF800000#32
  let main_v58 : FVec F S1024 .f32 := broadcastInDim S1024 ![] bcast_S_S1024 main_cst_23
  let main_v59 : IVec S1024 1 := cmpf .ogt main_arg8 main_v58
  let main_v60 : IVec S1024 1 := andi main_v57 main_v59
  let main_c_24 : IVec S_ 1 := constantI S_ 1 1#1
  let main_v61 : IVec S_ 1 := (fun x v => Host.reduce IntOp.andi x v reducesTo_S1024_S_d0 h_S_) main_v60 main_c_24
  let main_v62 : IVec S_ 1 := andi main_v55 main_v61
  let main_cst_25 : FVec F S_ .f32 := constant S_ .f32 0x7F800000#32
  let main_v63 : FVec F S1024x256 .f32 := broadcastInDim S1024x256 ![] bcast_S_S1024x256 main_cst_25
  let main_v64 : IVec S1024x256 1 := cmpf .olt main_arg9 main_v63
  let main_cst_26 : FVec F S_ .f32 := constant S_ .f32 0xFF800000#32
  let main_v65 : FVec F S1024x256 .f32 := broadcastInDim S1024x256 ![] bcast_S_S1024x256 main_cst_26
  let main_v66 : IVec S1024x256 1 := cmpf .ogt main_arg9 main_v65
  fn_part4 (F := F) main_v62 main_v64 main_v66

def fn_part2 {F : FTy → Type} [FloatOps F] (main_arg5 : FVec F S1024x1024 .f32) (main_arg6 : FVec F S1024 .f32) (main_arg7 : FVec F S1024 .f32) (main_arg8 : FVec F S1024 .f32) (main_arg9 : FVec F S1024x256 .f32) (main_v27 : IVec S_ 1) (main_v32 : IVec S8x1x1024 1) (main_c_12 : IVec S_ 1) : IVec S_ 1 :=
  let main_v33 : IVec S_ 1 := (fun x v => Host.reduce IntOp.andi x v reducesTo_S8x1x1024_S_d0_1_2 h_S_) main_v32 main_c_12
  let main_v34 : IVec S_ 1 := andi main_v27 main_v33
  let main_cst_13 : FVec F S_ .f32 := constant S_ .f32 0x7F800000#32
  let main_v35 : FVec F S1024x1024 .f32 := broadcastInDim S1024x1024 ![] bcast_S_S1024x1024 main_cst_13
  let main_v36 : IVec S1024x1024 1 := cmpf .olt main_arg5 main_v35
  let main_cst_14 : FVec F S_ .f32 := constant S_ .f32 0xFF800000#32
  let main_v37 : FVec F S1024x1024 .f32 := broadcastInDim S1024x1024 ![] bcast_S_S1024x1024 main_cst_14
  let main_v38 : IVec S1024x1024 1 := cmpf .ogt main_arg5 main_v37
  let main_v39 : IVec S1024x1024 1 := andi main_v36 main_v38
  let main_c_15 : IVec S_ 1 := constantI S_ 1 1#1
  let main_v40 : IVec S_ 1 := (fun x v => Host.reduce IntOp.andi x v reducesTo_S1024x1024_S_d0_1 h_S_) main_v39 main_c_15
  let main_v41 : IVec S_ 1 := andi main_v34 main_v40
  let main_cst_16 : FVec F S_ .f32 := constant S_ .f32 0x7F800000#32
  let main_v42 : FVec F S1024 .f32 := broadcastInDim S1024 ![] bcast_S_S1024 main_cst_16
  let main_v43 : IVec S1024 1 := cmpf .olt main_arg6 main_v42
  let main_cst_17 : FVec F S_ .f32 := constant S_ .f32 0xFF800000#32
  let main_v44 : FVec F S1024 .f32 := broadcastInDim S1024 ![] bcast_S_S1024 main_cst_17
  let main_v45 : IVec S1024 1 := cmpf .ogt main_arg6 main_v44
  let main_v46 : IVec S1024 1 := andi main_v43 main_v45
  let main_c_18 : IVec S_ 1 := constantI S_ 1 1#1
  let main_v47 : IVec S_ 1 := (fun x v => Host.reduce IntOp.andi x v reducesTo_S1024_S_d0 h_S_) main_v46 main_c_18
  let main_v48 : IVec S_ 1 := andi main_v41 main_v47
  let main_cst_19 : FVec F S_ .f32 := constant S_ .f32 0x7F800000#32
  let main_v49 : FVec F S1024 .f32 := broadcastInDim S1024 ![] bcast_S_S1024 main_cst_19
  fn_part3 (F := F) main_arg7 main_arg8 main_arg9 main_v48 main_v49

def fn_part1 {F : FTy → Type} [FloatOps F] (main_arg2 : FVec F S8x1x1024 .f32) (main_arg3 : FVec F S8x1x1024 .f32) (main_arg4 : FVec F S8x1x1024 .f32) (main_arg5 : FVec F S1024x1024 .f32) (main_arg6 : FVec F S1024 .f32) (main_arg7 : FVec F S1024 .f32) (main_arg8 : FVec F S1024 .f32) (main_arg9 : FVec F S1024x256 .f32) (main_v13 : IVec S_ 1) (main_v15 : IVec S8x1x1024 1) (main_cst_5 : FVec F S_ .f32) : IVec S_ 1 :=
  let main_v16 : FVec F S8x1x1024 .f32 := broadcastInDim S8x1x1024 ![] bcast_S_S8x1x1024 main_cst_5
  let main_v17 : IVec S8x1x1024 1 := cmpf .ogt main_arg2 main_v16
  let main_v18 : IVec S8x1x1024 1 := andi main_v15 main_v17
  let main_c_6 : IVec S_ 1 := constantI S_ 1 1#1
  let main_v19 : IVec S_ 1 := (fun x v => Host.reduce IntOp.andi x v reducesTo_S8x1x1024_S_d0_1_2 h_S_) main_v18 main_c_6
  let main_v20 : IVec S_ 1 := andi main_v13 main_v19
  let main_cst_7 : FVec F S_ .f32 := constant S_ .f32 0x7F800000#32
  let main_v21 : FVec F S8x1x1024 .f32 := broadcastInDim S8x1x1024 ![] bcast_S_S8x1x1024 main_cst_7
  let main_v22 : IVec S8x1x1024 1 := cmpf .olt main_arg3 main_v21
  let main_cst_8 : FVec F S_ .f32 := constant S_ .f32 0xFF800000#32
  let main_v23 : FVec F S8x1x1024 .f32 := broadcastInDim S8x1x1024 ![] bcast_S_S8x1x1024 main_cst_8
  let main_v24 : IVec S8x1x1024 1 := cmpf .ogt main_arg3 main_v23
  let main_v25 : IVec S8x1x1024 1 := andi main_v22 main_v24
  let main_c_9 : IVec S_ 1 := constantI S_ 1 1#1
  let main_v26 : IVec S_ 1 := (fun x v => Host.reduce IntOp.andi x v reducesTo_S8x1x1024_S_d0_1_2 h_S_) main_v25 main_c_9
  let main_v27 : IVec S_ 1 := andi main_v20 main_v26
  let main_cst_10 : FVec F S_ .f32 := constant S_ .f32 0x7F800000#32
  let main_v28 : FVec F S8x1x1024 .f32 := broadcastInDim S8x1x1024 ![] bcast_S_S8x1x1024 main_cst_10
  let main_v29 : IVec S8x1x1024 1 := cmpf .olt main_arg4 main_v28
  let main_cst_11 : FVec F S_ .f32 := constant S_ .f32 0xFF800000#32
  let main_v30 : FVec F S8x1x1024 .f32 := broadcastInDim S8x1x1024 ![] bcast_S_S8x1x1024 main_cst_11
  let main_v31 : IVec S8x1x1024 1 := cmpf .ogt main_arg4 main_v30
  let main_v32 : IVec S8x1x1024 1 := andi main_v29 main_v31
  let main_c_12 : IVec S_ 1 := constantI S_ 1 1#1
  fn_part2 (F := F) main_arg5 main_arg6 main_arg7 main_arg8 main_arg9 main_v27 main_v32 main_c_12

def fn {F : FTy → Type} [FloatOps F] (main_arg0 : FVec F S16384x1024 .bf16) (main_arg1 : FVec F S16384x1024 .f32) (main_arg2 : FVec F S8x1x1024 .f32) (main_arg3 : FVec F S8x1x1024 .f32) (main_arg4 : FVec F S8x1x1024 .f32) (main_arg5 : FVec F S1024x1024 .f32) (main_arg6 : FVec F S1024 .f32) (main_arg7 : FVec F S1024 .f32) (main_arg8 : FVec F S1024 .f32) (main_arg9 : FVec F S1024x256 .f32) : IVec S_ 1 :=
  let main_v0 : FVec F S16384x1024 .f32 := (extf .f32 · bitsLt_bf16_f32) main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_cst_0 : FVec F S_ .f32 := constant S_ .f32 0xFF800000#32
  let main_v3 : FVec F S16384x1024 .f32 := broadcastInDim S16384x1024 ![] bcast_S_S16384x1024 main_cst_0
  let main_v4 : IVec S16384x1024 1 := cmpf .ogt main_v0 main_v3
  let main_v5 : IVec S16384x1024 1 := andi main_v2 main_v4
  let main_c : IVec S_ 1 := constantI S_ 1 1#1
  let main_v6 : IVec S_ 1 := (fun x v => Host.reduce IntOp.andi x v reducesTo_S16384x1024_S_d0_1 h_S_) main_v5 main_c
  let main_cst_1 : FVec F S_ .f32 := constant S_ .f32 0x7F800000#32
  let main_v7 : FVec F S16384x1024 .f32 := broadcastInDim S16384x1024 ![] bcast_S_S16384x1024 main_cst_1
  let main_v8 : IVec S16384x1024 1 := cmpf .olt main_arg1 main_v7
  let main_cst_2 : FVec F S_ .f32 := constant S_ .f32 0xFF800000#32
  let main_v9 : FVec F S16384x1024 .f32 := broadcastInDim S16384x1024 ![] bcast_S_S16384x1024 main_cst_2
  let main_v10 : IVec S16384x1024 1 := cmpf .ogt main_arg1 main_v9
  let main_v11 : IVec S16384x1024 1 := andi main_v8 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v6 main_v12
  let main_cst_4 : FVec F S_ .f32 := constant S_ .f32 0x7F800000#32
  let main_v14 : FVec F S8x1x1024 .f32 := broadcastInDim S8x1x1024 ![] bcast_S_S8x1x1024 main_cst_4
  let main_v15 : IVec S8x1x1024 1 := cmpf .olt main_arg2 main_v14
  let main_cst_5 : FVec F S_ .f32 := constant S_ .f32 0xFF800000#32
  fn_part1 (F := F) main_arg2 main_arg3 main_arg4 main_arg5 main_arg6 main_arg7 main_arg8 main_arg9 main_v13 main_v15 main_cst_5
-- ==== Pre_moba_finite.lean ====
abbrev S8x16x2048x64 : Shape := ⟨4, ![8, 16, 2048, 64]⟩
abbrev S8x4x2048x64 : Shape := ⟨4, ![8, 4, 2048, 64]⟩
abbrev S8x4x2048x8 : Shape := ⟨4, ![8, 4, 2048, 8]⟩
abbrev S_ : Shape := ⟨0, ![]⟩

class Facts : Prop where
  bitsLt_bf16_f32 : FTy.bits .bf16 < FTy.bits .f32
  bcast_S_S8x16x2048x64 : S_.BroadcastsInDim S8x16x2048x64 (![] : Fin 0 → Fin S8x16x2048x64.rank)
  reducesTo_S8x16x2048x64_S_d0_1_2_3 : S8x16x2048x64.ReducesTo [0, 1, 2, 3] S_
  h_S_ : 0 < S_.numel
  bcast_S_S8x4x2048x64 : S_.BroadcastsInDim S8x4x2048x64 (![] : Fin 0 → Fin S8x4x2048x64.rank)
  reducesTo_S8x4x2048x64_S_d0_1_2_3 : S8x4x2048x64.ReducesTo [0, 1, 2, 3] S_

variable [Facts]

def fn {F : FTy → Type} [FloatOps F] (main_arg0 : FVec F S8x16x2048x64 .bf16) (main_arg1 : FVec F S8x4x2048x64 .bf16) (main_arg2 : FVec F S8x4x2048x64 .bf16) (main_arg3 : FVec F S8x4x2048x8 .f32) : IVec S_ 1 :=
  let main_v0 : FVec F S8x16x2048x64 .f32 := (extf .f32 · bitsLt_bf16_f32) main_arg0
  let main_cst : FVec F S_ .f32 := constant S_ .f32 0x7F800000#32
  let main_v1 : FVec F S8x16x2048x64 .f32 := broadcastInDim S8x16x2048x64 ![] bcast_S_S8x16x2048x64 main_cst
  let main_v2 : IVec S8x16x2048x64 1 := cmpf .olt main_v0 main_v1
  let main_v3 : FVec F S8x16x2048x64 .f32 := (extf .f32 · bitsLt_bf16_f32) main_arg0
  let main_cst_0 : FVec F S_ .f32 := constant S_ .f32 0xFF800000#32
  let main_v4 : FVec F S8x16x2048x64 .f32 := broadcastInDim S8x16x2048x64 ![] bcast_S_S8x16x2048x64 main_cst_0
  let main_v5 : IVec S8x16x2048x64 1 := cmpf .ogt main_v3 main_v4
  let main_v6 : IVec S8x16x2048x64 1 := andi main_v2 main_v5
  let main_c : IVec S_ 1 := constantI S_ 1 1#1
  let main_v7 : IVec S_ 1 := (fun x v => Host.reduce IntOp.andi x v reducesTo_S8x16x2048x64_S_d0_1_2_3 h_S_) main_v6 main_c
  let main_v8 : FVec F S8x4x2048x64 .f32 := (extf .f32 · bitsLt_bf16_f32) main_arg1
  let main_cst_1 : FVec F S_ .f32 := constant S_ .f32 0x7F800000#32
  let main_v9 : FVec F S8x4x2048x64 .f32 := broadcastInDim S8x4x2048x64 ![] bcast_S_S8x4x2048x64 main_cst_1
  let main_v10 : IVec S8x4x2048x64 1 := cmpf .olt main_v8 main_v9
  let main_v11 : FVec F S8x4x2048x64 .f32 := (extf .f32 · bitsLt_bf16_f32) main_arg1
  let main_cst_2 : FVec F S_ .f32 := constant S_ .f32 0xFF800000#32
  let main_v12 : FVec F S8x4x2048x64 .f32 := broadcastInDim S8x4x2048x64 ![] bcast_S_S8x4x2048x64 main_cst_2
  let main_v13 : IVec S8x4x2048x64 1 := cmpf .ogt main_v11 main_v12
  let main_v14 : IVec S8x4x2048x64 1 := andi main_v10 main_v13
  let main_c_3 : IVec S_ 1 := constantI S_ 1 1#1
  let main_v15 : IVec S_ 1 := (fun x v => Host.reduce IntOp.andi x v reducesTo_S8x4x2048x64_S_d0_1_2_3 h_S_) main_v14 main_c_3
  let main_v16 : IVec S_ 1 := andi main_v7 main_v15
  main_v16
-- ==== Pre_moe_ints.lean ====
abbrev S783 : Shape := ⟨1, ![783]⟩
abbrev S1 : Shape := ⟨1, ![1]⟩
abbrev S200448x1024 : Shape := ⟨2, ![200448, 1024]⟩
abbrev S256x1024x256 : Shape := ⟨3, ![256, 1024, 256]⟩
abbrev S256x256x1024 : Shape := ⟨3, ![256, 256, 1024]⟩
abbrev S_ : Shape := ⟨0, ![]⟩

class Facts : Prop where
  bcast_S_S783 : S_.BroadcastsInDim S783 (![] : Fin 0 → Fin S783.rank)
  reducesTo_S783_S_d0 : S783.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S783 32) (main_arg1 : IVec S1 32) (main_arg2 : FVec F S200448x1024 .bf16) (main_arg3 : FVec F S256x1024x256 .f32) (main_arg4 : FVec F S256x1024x256 .f32) (main_arg5 : FVec F S256x256x1024 .f32) : IVec S_ 1 :=
  let main_c : IVec S_ 32 := constantI S_ 32 0#32
  let main_v0 : IVec S783 32 := broadcastInDim S783 ![] bcast_S_S783 main_c
  let main_v1 : IVec S783 1 := cmpi .sge main_arg0 main_v0
  let main_c_0 : IVec S_ 32 := constantI S_ 32 256#32
  let main_v2 : IVec S783 32 := broadcastInDim S783 ![] bcast_S_S783 main_c_0
  let main_v3 : IVec S783 1 := cmpi .slt main_arg0 main_v2
  let main_v4 : IVec S783 1 := andi main_v1 main_v3
  let main_c_1 : IVec S_ 1 := constantI S_ 1 1#1
  let main_v5 : IVec S_ 1 := (fun x v => Host.reduce IntOp.andi x v reducesTo_S783_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg1 main_v6
  let main_c_3 : IVec S_ 32 := constantI S_ 32 783#32
  let main_v8 : IVec S1 32 := broadcastInDim S1 ![] bcast_S_S1 main_c_3
  let main_v9 : IVec S1 1 := cmpi .sle main_arg1 main_v8
  let main_v10 : IVec S1 1 := andi main_v7 main_v9
  let main_c_4 : IVec S_ 1 := constantI S_ 1 1#1
  let main_v11 : IVec S_ 1 := (fun x v => Host.reduce IntOp.andi x v reducesTo_S1_S_d0 h_S_) main_v10 main_c_4
  let main_v12 : IVec S_ 1 := andi main_v5 main_v11
  main_v12
-- ==== Moba.lean ====
abbrev S8x16x2048x64 : Shape := ⟨4, ![8, 16, 2048, 64]⟩
abbrev S8x4x2048x64 : Shape := ⟨4, ![8, 4, 2048, 64]⟩
abbrev S8x4x2048x8 : Shape := ⟨4, ![8, 4, 2048, 8]⟩
abbrev S1x4x256x64 : Shape := ⟨4, ![1, 4, 256, 64]⟩
abbrev S1x1x2048x64 : Shape := ⟨4, ![1, 1, 2048, 64]⟩
abbrev S1x1x256x8 : Shape := ⟨4, ![1, 1, 256, 8]⟩
abbrev S4x256x64 : Shape := ⟨3, ![4, 256, 64]⟩
abbrev S1024x64 : Shape := ⟨2, ![1024, 64]⟩
abbrev S256x8 : Shape := ⟨2, ![256, 8]⟩
abbrev S1024x256 : Shape := ⟨2, ![1024, 256]⟩
abbrev S1x1x256x64 : Shape := ⟨4, ![1, 1, 256, 64]⟩
abbrev S256x64 : Shape := ⟨2, ![256, 64]⟩
abbrev S1024 : Shape := ⟨1, ![1024]⟩
abbrev S1024x1 : Shape := ⟨2, ![1024, 1]⟩
abbrev S256 : Shape := ⟨1, ![256]⟩
abbrev S256x1 : Shape := ⟨2, ![256, 1]⟩

abbrev nBuf : Space → Nat
  | .hbm => 5
  | .vmem => 10
  | .smem => 0
  | _ => 0

abbrev bufTy : (tb : Table) → Fin (tcTables nBuf tb) → BufTy
  | .hbm, ⟨0, _⟩ => ⟨S8x16x2048x64, .bf16⟩
  | .hbm, ⟨1, _⟩ => ⟨S8x4x2048x64, .bf16⟩
  | .hbm, ⟨2, _⟩ => ⟨S8x4x2048x64, .bf16⟩
  | .hbm, ⟨3, _⟩ => ⟨S8x4x2048x8, .f32⟩
  | .hbm, ⟨4, _⟩ => ⟨S8x16x2048x64, .bf16⟩
  | .local _ .vmem, ⟨0, _⟩ => ⟨S1x4x256x64, .bf16⟩
  | .local _ .vmem, ⟨1, _⟩ => ⟨S1x4x256x64, .bf16⟩
  | .local _ .vmem, ⟨2, _⟩ => ⟨S1x1x2048x64, .bf16⟩
  | .local _ .vmem, ⟨3, _⟩ => ⟨S1x1x2048x64, .bf16⟩
  | .local _ .vmem, ⟨4, _⟩ => ⟨S1x1x2048x64, .bf16⟩
  | .local _ .vmem, ⟨5, _⟩ => ⟨S1x1x2048x64, .bf16⟩
  | .local _ .vmem, ⟨6, _⟩ => ⟨S1x1x256x8, .f32⟩
  | .local _ .vmem, ⟨7, _⟩ => ⟨S1x1x256x8, .f32⟩
  | .local _ .vmem, ⟨8, _⟩ => ⟨S1x4x256x64, .bf16⟩
  | .local _ .vmem, ⟨9, _⟩ => ⟨S1x4x256x64, .bf16⟩
  | _, _ => ⟨S8x16x2048x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 8], ![false, false, false]⟩

def k0_mult1 (i : grid0.Coords) : BitVec 32 :=
  let arg2 : BitVec 32 := BitVec.ofNat 32 (i 2).val
  let c256_i32 : BitVec 32 := 256#32
  let v10 : BitVec 32 := Scalar.muli arg2 c256_i32
  v10
def k0_off1 (i : grid0.Coords) : Fin 4 → Nat :=
  let c0_7 : Index := 0#32
  let c0_8 : Index := 0#32
  let arg2 : BitVec 32 := BitVec.ofNat 32 (i 2).val
  let c256_i32 : BitVec 32 := 256#32
  let v10 : BitVec 32 := Scalar.muli arg2 c256_i32
  let v11 : BitVec 32 := v10
  let v12 : Index := Scalar.indexCast v11
  let c0_9 : Index := 0#32
  ![0, 0, v12.toNat, 0]
def k0_mult2 (i : grid0.Coords) : BitVec 32 :=
  let arg2 : BitVec 32 := BitVec.ofNat 32 (i 2).val
  let c256_i32_13 : BitVec 32 := 256#32
  let v26 : BitVec 32 := Scalar.muli arg2 c256_i32_13
  v26
@[reducible] def k0_t1_loop (i : grid0.Coords) : Scf.Loop 32 :=
  let c0_i32 : BitVec 32 := 0#32
  let arg2 : BitVec 32 := BitVec.ofNat 32 (i 2).val
  let v33 : BitVec 32 := Scalar.subi arg2 c0_i32
  let c1_i32 : BitVec 32 := 1#32
  let v35 : BitVec 32 := Scalar.divsi v33 c1_i32
  let v36 : BitVec 32 := Scalar.muli v35 c1_i32
  let v37 : BitVec 32 := Scalar.addi c0_i32 v36
  let c1_i32_18 : BitVec 32 := 1#32
  ⟨c0_i32, v37, c1_i32_18⟩
def k0_mult3 (i : grid0.Coords) (k0_t1 : Fin (k0_t1_loop i).trips) : BitVec 32 :=
  let c0_i32 : BitVec 32 := 0#32
  let c1_i32_18 : BitVec 32 := 1#32
  let arg8 : BitVec 32 := Scf.iv c0_i32 c1_i32_18 k0_t1
  let c256_i32_27 : BitVec 32 := 256#32
  let v56 : BitVec 32 := Scalar.muli arg8 c256_i32_27
  v56
def k0_off2 (i : grid0.Coords) (k0_t1 : Fin (k0_t1_loop i).trips) : Fin 4 → Nat :=
  let c0_28 : Index := 0#32
  let c0_29 : Index := 0#32
  let c0_i32 : BitVec 32 := 0#32
  let c1_i32_18 : BitVec 32 := 1#32
  let arg8 : BitVec 32 := Scf.iv c0_i32 c1_i32_18 k0_t1
  let c256_i32_27 : BitVec 32 := 256#32
  let v56 : BitVec 32 := Scalar.muli arg8 c256_i32_27
  let v57 : BitVec 32 := v56
  let v58 : Index := Scalar.indexCast v57
  let c0_30 : Index := 0#32
  ![0, 0, v58.toNat, 0]
def k0_mult4 (i : grid0.Coords) (k0_t1 : Fin (k0_t1_loop i).trips) : BitVec 32 :=
  let c0_i32 : BitVec 32 := 0#32
  let c1_i32_18 : BitVec 32 := 1#32
  let arg8 : BitVec 32 := Scf.iv c0_i32 c1_i32_18 k0_t1
  let c256_i32_35 : BitVec 32 := 256#32
  let v81 : BitVec 32 := Scalar.muli arg8 c256_i32_35
  v81
@[reducible] def k0_t2_loop (i : grid0.Coords) : Scf.Loop 32 :=
  let c0_i32 : BitVec 32 := 0#32
  let arg2 : BitVec 32 := BitVec.ofNat 32 (i 2).val
  let v33 : BitVec 32 := Scalar.subi arg2 c0_i32
  let c1_i32 : BitVec 32 := 1#32
  let v35 : BitVec 32 := Scalar.divsi v33 c1_i32
  let v36 : BitVec 32 := Scalar.muli v35 c1_i32
  let v37 : BitVec 32 := Scalar.addi c0_i32 v36
  let v34 : BitVec 32 := Scalar.addi c0_i32 v33
  let c1_i32_19 : BitVec 32 := 1#32
  ⟨v37, v34, c1_i32_19⟩
def k0_mult5 (i : grid0.Coords) (k0_t2 : Fin (k0_t2_loop i).trips) : BitVec 32 :=
  let c0_i32 : BitVec 32 := 0#32
  let arg2 : BitVec 32 := BitVec.ofNat 32 (i 2).val
  let v33 : BitVec 32 := Scalar.subi arg2 c0_i32
  let c1_i32 : BitVec 32 := 1#32
  let v35 : BitVec 32 := Scalar.divsi v33 c1_i32
  let v36 : BitVec 32 := Scalar.muli v35 c1_i32
  let v37 : BitVec 32 := Scalar.addi c0_i32 v36
  let c1_i32_19 : BitVec 32 := 1#32
  let arg8 : BitVec 32 := Scf.iv v37 c1_i32_19 k0_t2
  let c256_i32_27 : BitVec 32 := 256#32
  let v56 : BitVec 32 := Scalar.muli arg8 c256_i32_27
  v56
def k0_off3 (i : grid0.Coords) (k0_t2 : Fin (k0_t2_loop i).trips) : Fin 4 → Nat :=
  let c0_28 : Index := 0#32
  let c0_29 : Index := 0#32
  let c0_i32 : BitVec 32 := 0#32
  let arg2 : BitVec 32 := BitVec.ofNat 32 (i 2).val
  let v33 : BitVec 32 := Scalar.subi arg2 c0_i32
  let c1_i32 : BitVec 32 := 1#32
  let v35 : BitVec 32 := Scalar.divsi v33 c1_i32
  let v36 : BitVec 32 := Scalar.muli v35 c1_i32
  let v37 : BitVec 32 := Scalar.addi c0_i32 v36
  let c1_i32_19 : BitVec 32 := 1#32
  let arg8 : BitVec 32 := Scf.iv v37 c1_i32_19 k0_t2
  let c256_i32_27 : BitVec 32 := 256#32
  let v56 : BitVec 32 := Scalar.muli arg8 c256_i32_27
  let v57 : BitVec 32 := v56
  let v58 : Index := Scalar.indexCast v57
  let c0_30 : Index := 0#32
  ![0, 0, v58.toNat, 0]
def k0_mult6 (i : grid0.Coords) (k0_t2 : Fin (k0_t2_loop i).trips) : BitVec 32 :=
  let c0_i32 : BitVec 32 := 0#32
  let arg2 : BitVec 32 := BitVec.ofNat 32 (i 2).val
  let v33 : BitVec 32 := Scalar.subi arg2 c0_i32
  let c1_i32 : BitVec 32 := 1#32
  let v35 : BitVec 32 := Scalar.divsi v33 c1_i32
  let v36 : BitVec 32 := Scalar.muli v35 c1_i32
  let v37 : BitVec 32 := Scalar.addi c0_i32 v36
  let c1_i32_19 : BitVec 32 := 1#32
  let arg8 : BitVec 32 := Scf.iv v37 c1_i32_19 k0_t2
  let c256_i32_35 : BitVec 32 := 256#32
  let v81 : BitVec 32 := Scalar.muli arg8 c256_i32_35
  v81
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x4x256x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x256x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x4x256x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== MobaRefIdeal.lean ====
abbrev S8x16x2048x64 : Shape := ⟨4, ![8, 16, 2048, 64]⟩
abbrev S8x4x2048x64 : Shape := ⟨4, ![8, 4, 2048, 64]⟩
abbrev S8x4x2048x8 : Shape := ⟨4, ![8, 4, 2048, 8]⟩
abbrev S8x4x4x2048x64 : Shape := ⟨5, ![8, 4, 4, 2048, 64]⟩
abbrev S8x4x4x2048x2048 : Shape := ⟨5, ![8, 4, 4, 2048, 2048]⟩
abbrev S2048 : Shape := ⟨1, ![2048]⟩
abbrev S8x256 : Shape := ⟨2, ![8, 256]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S8x4x2048x8x256 : Shape := ⟨5, ![8, 4, 2048, 8, 256]⟩
abbrev S8x4x2048x2048 : Shape := ⟨4, ![8, 4, 2048, 2048]⟩
abbrev S1x1x2048x2048 : Shape := ⟨4, ![1, 1, 2048, 2048]⟩
abbrev S8x4x1x2048x2048 : Shape := ⟨5, ![8, 4, 1, 2048, 2048]⟩
abbrev S8x4x4x2048 : Shape := ⟨4, ![8, 4, 4, 2048]⟩
abbrev S8x4x4x2048x1 : Shape := ⟨5, ![8, 4, 4, 2048, 1]⟩

abbrev nBuf : Space → Nat
  | .hbm => 66
  | .vmem => 0
  | .smem => 0
  | _ => 0

abbrev bufTy : (tb : Table) → Fin (tcTables nBuf tb) → BufTy
  | .hbm, ⟨0, _⟩ => ⟨S8x16x2048x64, .bf16⟩
  | .hbm, ⟨1, _⟩ => ⟨S8x4x2048x64, .bf16⟩
  | .hbm, ⟨2, _⟩ => ⟨S8x4x2048x64, .bf16⟩
  | .hbm, ⟨3, _⟩ => ⟨S8x4x2048x8, .f32⟩
  | .hbm, ⟨4, _⟩ => ⟨S8x16x2048x64, .f32⟩
  | .hbm, ⟨5, _⟩ => ⟨S8x4x4x2048x64, .f32⟩
  | .hbm, ⟨6, _⟩ => ⟨S8x4x2048x64, .f32⟩
  | .hbm, ⟨7, _⟩ => ⟨S8x4x4x2048x2048, .f32⟩
  | .hbm, ⟨8, _⟩ => ⟨S8x4x4x2048x2048, .bf16⟩
  | .hbm, ⟨9, _⟩ => ⟨S8x4x4x2048x2048, .f32⟩
  | .hbm, ⟨10, _⟩ => ⟨S2048, .i32⟩
  | .hbm, ⟨11, _⟩ => ⟨S8x256, .i32⟩
  | .hbm, ⟨12, _⟩ => ⟨S2048, .i32⟩
  | .hbm, ⟨13, _⟩ => ⟨S2048x1, .i32⟩
  | .hbm, ⟨14, _⟩ => ⟨S1x2048, .i32⟩
  | .hbm, ⟨15, _⟩ => ⟨S2048x2048, .i32⟩
  | .hbm, ⟨16, _⟩ => ⟨S2048x2048, .i32⟩
  | .hbm, ⟨17, _⟩ => ⟨S2048x2048, .i1⟩
  | .hbm, ⟨18, _⟩ => ⟨S1x2048, .i32⟩
  | .hbm, ⟨19, _⟩ => ⟨S2048x1, .i32⟩
  | .hbm, ⟨20, _⟩ => ⟨S2048x2048, .i32⟩
  | .hbm, ⟨21, _⟩ => ⟨S2048x2048, .i32⟩
  | .hbm, ⟨22, _⟩ => ⟨S2048x2048, .i1⟩
  | .hbm, ⟨23, _⟩ => ⟨S1x2048, .i32⟩
  | .hbm, ⟨24, _⟩ => ⟨S2048x1, .i32⟩
  | .hbm, ⟨25, _⟩ => ⟨S2048x2048, .i32⟩
  | .hbm, ⟨26, _⟩ => ⟨S2048x2048, .i32⟩
  | .hbm, ⟨27, _⟩ => ⟨S2048x2048, .i1⟩
  | .hbm, ⟨28, _⟩ => ⟨S_, .f32⟩
  | .hbm, ⟨29, _⟩ => ⟨S8x4x2048x8, .f32⟩
  | .hbm, ⟨30, _⟩ => ⟨S8x4x2048x8, .i1⟩
  | .hbm, ⟨31, _⟩ => ⟨S8x4x2048x8x256, .i1⟩
  | .hbm, ⟨32, _⟩ => ⟨S8x4x2048x2048, .i1⟩
  | .hbm, ⟨33, _⟩ => ⟨S2048x2048, .i1⟩
  | .hbm, ⟨34, _⟩ => ⟨S1x1x2048x2048, .i1⟩
  | .hbm, ⟨35, _⟩ => ⟨S1x1x2048x2048, .i1⟩
  | .hbm, ⟨36, _⟩ => ⟨S8x4x2048x2048, .i1⟩
  | .hbm, ⟨37, _⟩ => ⟨S8x4x2048x2048, .i1⟩
  | .hbm, ⟨38, _⟩ => ⟨S8x4x2048x2048, .i1⟩
  | .hbm, ⟨39, _⟩ => ⟨S8x4x2048x2048, .i1⟩
  | .hbm, ⟨40, _⟩ => ⟨S8x4x1x2048x2048, .i1⟩
  | .hbm, ⟨41, _⟩ => ⟨S_, .f32⟩
  | .hbm, ⟨42, _⟩ => ⟨S_, .f32⟩
  | .hbm, ⟨43, _⟩ => ⟨S8x4x4x2048x2048, .i1⟩
  | .hbm, ⟨44, _⟩ => ⟨S8x4x4x2048x2048, .f32⟩
  | .hbm, ⟨45, _⟩ => ⟨S8x4x4x2048x2048, .f32⟩
  | .hbm, ⟨46, _⟩ => ⟨S_, .f32⟩
  | .hbm, ⟨47, _⟩ => ⟨S8x4x4x2048, .f32⟩
  | .hbm, ⟨48, _⟩ => ⟨S_, .f32⟩
  | .hbm, ⟨49, _⟩ => ⟨S8x4x4x2048, .f32⟩
  | .hbm, ⟨50, _⟩ => ⟨S8x4x4x2048, .f32⟩
  | .hbm, ⟨51, _⟩ => ⟨S8x4x4x2048x1, .f32⟩
  | .hbm, ⟨52, _⟩ => ⟨S8x4x4x2048x2048, .f32⟩
  | .hbm, ⟨53, _⟩ => ⟨S8x4x4x2048x2048, .f32⟩
  | .hbm, ⟨54, _⟩ => ⟨S8x4x4x2048x2048, .f32⟩
  | .hbm, ⟨55, _⟩ => ⟨S_, .f32⟩
  | .hbm, ⟨56, _⟩ => ⟨S8x4x4x2048, .f32⟩
  | .hbm, ⟨57, _⟩ => ⟨S8x4x4x2048x1, .f32⟩
  | .hbm, ⟨58, _⟩ => ⟨S8x4x4x2048x2048, .f32⟩
  | .hbm, ⟨59, _⟩ => ⟨S8x4x4x2048x2048, .f32⟩
  | .hbm, ⟨60, _⟩ => ⟨S8x4x4x2048x2048, .bf16⟩
  | .hbm, ⟨61, _⟩ => ⟨S8x4x4x2048x2048, .f32⟩
  | .hbm, ⟨62, _⟩ => ⟨S8x4x2048x64, .f32⟩
  | .hbm, ⟨63, _⟩ => ⟨S8x4x4x2048x64, .f32⟩
  | .hbm, ⟨64, _⟩ => ⟨S8x4x4x2048x64, .bf16⟩
  | .hbm, ⟨65, _⟩ => ⟨S8x16x2048x64, .bf16⟩
  | _, _ => ⟨S8x16x2048x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_cst_0 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v36 : Ref sig .tc := ⟨.hbm, 45, rfl⟩
abbrev main_cst_1 : Ref sig .tc := ⟨.hbm, 46, rfl⟩
abbrev main_v37 : Ref sig .tc := ⟨.hbm, 47, rfl⟩
abbrev main_cst_2 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_3 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩

abbrev nD : Nat := 1
abbrev τ : Topo := Topo.v7x

variable {F : FTy → Type} [FloatOps F]
-- ==== Moe.lean ====
abbrev S783 : Shape := ⟨1, ![783]⟩
abbrev S1 : Shape := ⟨1, ![1]⟩
abbrev S200448x1024 : Shape := ⟨2, ![200448, 1024]⟩
abbrev S256x1024x256 : Shape := ⟨3, ![256, 1024, 256]⟩
abbrev S256x256x1024 : Shape := ⟨3, ![256, 256, 1024]⟩
abbrev S256x1024 : Shape := ⟨2, ![256, 1024]⟩
abbrev S1x1024x256 : Shape := ⟨3, ![1, 1024, 256]⟩
abbrev S1x256x1024 : Shape := ⟨3, ![1, 256, 1024]⟩
abbrev S1024x256 : Shape := ⟨2, ![1024, 256]⟩
abbrev S256x256 : Shape := ⟨2, ![256, 256]⟩

abbrev nBuf : Space → Nat
  | .hbm => 5
  | .vmem => 13
  | .smem => 2
  | _ => 0

abbrev bufTy : (tb : Table) → Fin (tcTables nBuf tb) → BufTy
  | .hbm, ⟨0, _⟩ => ⟨S200448x1024, .bf16⟩
  | .hbm, ⟨1, _⟩ => ⟨S256x1024x256, .f32⟩
  | .hbm, ⟨2, _⟩ => ⟨S256x1024x256, .f32⟩
  | .hbm, ⟨3, _⟩ => ⟨S256x256x1024, .f32⟩
  | .hbm, ⟨4, _⟩ => ⟨S200448x1024, .f32⟩
  | .local _ .vmem, ⟨0, _⟩ => ⟨S256x1024, .bf16⟩
  | .local _ .vmem, ⟨1, _⟩ => ⟨S256x1024, .bf16⟩
  | .local _ .vmem, ⟨2, _⟩ => ⟨S1x1024x256, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1x256x1024, .f32⟩
  | .local _ .vmem, ⟨7, _⟩ => ⟨S1x256x1024, .f32⟩
  | .local _ .vmem, ⟨8, _⟩ => ⟨S256x1024, .f32⟩
  | .local _ .vmem, ⟨9, _⟩ => ⟨S256x1024, .f32⟩
  | .local _ .vmem, ⟨10, _⟩ => ⟨S1024x256, .bf16⟩
  | .local _ .vmem, ⟨11, _⟩ => ⟨S1024x256, .bf16⟩
  | .local _ .vmem, ⟨12, _⟩ => ⟨S256x1024, .bf16⟩
  | .local _ .smem, ⟨0, _⟩ => ⟨S783, .i32⟩
  | .local _ .smem, ⟨1, _⟩ => ⟨S1, .i32⟩
  | _, _ => ⟨S200448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![783], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg0 : BitVec 32 := BitVec.ofNat 32 (i 0).val
  let v1 : BitVec 1 := Scalar.cmpi .slt arg0 v0
  let v14 : BitVec 32 := Scalar.extui v1
  let c0_i32_2 : BitVec 32 := 0#32
  let v15 : BitVec 1 := Scalar.cmpi .ne v14 c0_i32_2
  v15

def k0_cond3 (i : grid0.Coords) (v0 : BitVec 32) : BitVec 1 :=
  let arg0 : BitVec 32 := BitVec.ofNat 32 (i 0).val
  let v1 : BitVec 1 := Scalar.cmpi .slt arg0 v0
  let v_true : BitVec 1 := 1#1
  let v16 : BitVec 1 := Scalar.xori v1 v_true
  let v17 : BitVec 32 := Scalar.extui v16
  let c0_i32_3 : BitVec 32 := 0#32
  let v18 : BitVec 1 := Scalar.cmpi .ne v17 c0_i32_3
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S783.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S783) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S783.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S783) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S783.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S783) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MoeRefIdeal.lean ====
abbrev S783 : Shape := ⟨1, ![783]⟩
abbrev S1 : Shape := ⟨1, ![1]⟩
abbrev S200448x1024 : Shape := ⟨2, ![200448, 1024]⟩
abbrev S256x1024x256 : Shape := ⟨3, ![256, 1024, 256]⟩
abbrev S256x256x1024 : Shape := ⟨3, ![256, 256, 1024]⟩
abbrev S783x256x1024 : Shape := ⟨3, ![783, 256, 1024]⟩
abbrev S_ : Shape := ⟨0, ![]⟩
abbrev S783x1 : Shape := ⟨2, ![783, 1]⟩
abbrev S783x1024x256 : Shape := ⟨3, ![783, 1024, 256]⟩
abbrev S783x256x256 : Shape := ⟨3, ![783, 256, 256]⟩
abbrev S783x1x1 : Shape := ⟨3, ![783, 1, 1]⟩

abbrev nBuf : Space → Nat
  | .hbm => 59
  | .vmem => 0
  | .smem => 0
  | _ => 0

abbrev bufTy : (tb : Table) → Fin (tcTables nBuf tb) → BufTy
  | .hbm, ⟨0, _⟩ => ⟨S783, .i32⟩
  | .hbm, ⟨1, _⟩ => ⟨S1, .i32⟩
  | .hbm, ⟨2, _⟩ => ⟨S200448x1024, .bf16⟩
  | .hbm, ⟨3, _⟩ => ⟨S256x1024x256, .f32⟩
  | .hbm, ⟨4, _⟩ => ⟨S256x1024x256, .f32⟩
  | .hbm, ⟨5, _⟩ => ⟨S256x256x1024, .f32⟩
  | .hbm, ⟨6, _⟩ => ⟨S200448x1024, .f32⟩
  | .hbm, ⟨7, _⟩ => ⟨S783x256x1024, .f32⟩
  | .hbm, ⟨8, _⟩ => ⟨S_, .i32⟩
  | .hbm, ⟨9, _⟩ => ⟨S783, .i32⟩
  | .hbm, ⟨10, _⟩ => ⟨S783, .i1⟩
  | .hbm, ⟨11, _⟩ => ⟨S_, .i32⟩
  | .hbm, ⟨12, _⟩ => ⟨S783, .i32⟩
  | .hbm, ⟨13, _⟩ => ⟨S783, .i32⟩
  | .hbm, ⟨14, _⟩ => ⟨S783, .i32⟩
  | .hbm, ⟨15, _⟩ => ⟨S783x1, .i32⟩
  | .hbm, ⟨16, _⟩ => ⟨S783x1024x256, .f32⟩
  | .hbm, ⟨17, _⟩ => ⟨S_, .i32⟩
  | .hbm, ⟨18, _⟩ => ⟨S783, .i32⟩
  | .hbm, ⟨19, _⟩ => ⟨S783, .i1⟩
  | .hbm, ⟨20, _⟩ => ⟨S_, .i32⟩
  | .hbm, ⟨21, _⟩ => ⟨S783, .i32⟩
  | .hbm, ⟨22, _⟩ => ⟨S783, .i32⟩
  | .hbm, ⟨23, _⟩ => ⟨S783, .i32⟩
  | .hbm, ⟨24, _⟩ => ⟨S783x1, .i32⟩
  | .hbm, ⟨25, _⟩ => ⟨S783x1024x256, .f32⟩
  | .hbm, ⟨26, _⟩ => ⟨S_, .i32⟩
  | .hbm, ⟨27, _⟩ => ⟨S783, .i32⟩
  | .hbm, ⟨28, _⟩ => ⟨S783, .i1⟩
  | .hbm, ⟨29, _⟩ => ⟨S_, .i32⟩
  | .hbm, ⟨30, _⟩ => ⟨S783, .i32⟩
  | .hbm, ⟨31, _⟩ => ⟨S783, .i32⟩
  | .hbm, ⟨32, _⟩ => ⟨S783, .i32⟩
  | .hbm, ⟨33, _⟩ => ⟨S783x1, .i32⟩
  | .hbm, ⟨34, _⟩ => ⟨S783x256x1024, .f32⟩
  | .hbm, ⟨35, _⟩ => ⟨S783x256x256, .f32⟩
  | .hbm, ⟨36, _⟩ => ⟨S783x256x256, .f32⟩
  | .hbm, ⟨37, _⟩ => ⟨S783x256x256, .f32⟩
  | .hbm, ⟨38, _⟩ => ⟨S_, .f32⟩
  | .hbm, ⟨39, _⟩ => ⟨S783x256x256, .f32⟩
  | .hbm, ⟨40, _⟩ => ⟨S783x256x256, .f32⟩
  | .hbm, ⟨41, _⟩ => ⟨S_, .f32⟩
  | .hbm, ⟨42, _⟩ => ⟨S783x256x256, .f32⟩
  | .hbm, ⟨43, _⟩ => ⟨S783x256x256, .f32⟩
  | .hbm, ⟨44, _⟩ => ⟨S783x256x256, .f32⟩
  | .hbm, ⟨45, _⟩ => ⟨S783x256x256, .f32⟩
  | .hbm, ⟨46, _⟩ => ⟨S783x256x256, .f32⟩
  | .hbm, ⟨47, _⟩ => ⟨S783x256x1024, .f32⟩
  | .hbm, ⟨48, _⟩ => ⟨S783, .i32⟩
  | .hbm, ⟨49, _⟩ => ⟨S_, .i32⟩
  | .hbm, ⟨50, _⟩ => ⟨S783, .i32⟩
  | .hbm, ⟨51, _⟩ => ⟨S783, .i1⟩
  | .hbm, ⟨52, _⟩ => ⟨S783x1x1, .i1⟩
  | .hbm, ⟨53, _⟩ => ⟨S_, .f32⟩
  | .hbm, ⟨54, _⟩ => ⟨S_, .f32⟩
  | .hbm, ⟨55, _⟩ => ⟨S783x256x1024, .i1⟩
  | .hbm, ⟨56, _⟩ => ⟨S783x256x1024, .f32⟩
  | .hbm, ⟨57, _⟩ => ⟨S783x256x1024, .f32⟩
  | .hbm, ⟨58, _⟩ => ⟨S200448x1024, .f32⟩
  | _, _ => ⟨S783, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_3 : Ref sig .tc := ⟨.hbm, 26, rfl⟩
abbrev main_v16 : Ref sig .tc := ⟨.hbm, 27, rfl⟩
abbrev main_v17 : Ref sig .tc := ⟨.hbm, 28, rfl⟩
abbrev main_c_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v33 : Ref sig .tc := ⟨.hbm, 57, rfl⟩
abbrev main_v34 : Ref sig .tc := ⟨.hbm, 58, rfl⟩

abbrev nD : Nat := 1
abbrev τ : Topo := Topo.v7x

variable {F : FTy → Type} [FloatOps F]
-- ==== Qkv.lean ====
abbrev S8x2048x1024 : Shape := ⟨3, ![8, 2048, 1024]⟩
abbrev S8x1x1024 : Shape := ⟨3, ![8, 1, 1024]⟩
abbrev S1024x1536 : Shape := ⟨2, ![1024, 1536]⟩
abbrev S1536 : Shape := ⟨1, ![1536]⟩
abbrev S2048 : Shape := ⟨1, ![2048]⟩
abbrev S8 : Shape := ⟨1, ![8]⟩
abbrev S_ : Shape := ⟨0, ![]⟩
abbrev S2048x1 : Shape := ⟨2, ![2048, 1]⟩
abbrev S1x8 : Shape := ⟨2, ![1, 8]⟩
abbrev S2048x8 : Shape := ⟨2, ![2048, 8]⟩
abbrev S2048x48 : Shape := ⟨2, ![2048, 48]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S16384x1024 : Shape := ⟨2, ![16384, 1024]⟩
abbrev S1x1536 : Shape := ⟨2, ![1, 1536]⟩
abbrev S16384x256 : Shape := ⟨2, ![16384, 256]⟩
abbrev S512x1024 : Shape := ⟨2, ![512, 1024]⟩
abbrev S1x1x1024 : Shape := ⟨3, ![1, 1, 1024]⟩
abbrev S512x128 : Shape := ⟨2, ![512, 128]⟩
abbrev S512x256 : Shape := ⟨2, ![512, 256]⟩
abbrev S1x1024 : Shape := ⟨2, ![1, 1024]⟩
abbrev S512x1536 : Shape := ⟨2, ![512, 1536]⟩

abbrev nBuf : Space → Nat
  | .hbm => 58
  | .vmem => 26
  | .smem => 0
  | _ => 0

abbrev bufTy : (tb : Table) → Fin (tcTables nBuf tb) → BufTy
  | .hbm, ⟨0, _⟩ => ⟨S8x2048x1024, .f32⟩
  | .hbm, ⟨1, _⟩ => ⟨S8x1x1024, .f32⟩
  | .hbm, ⟨2, _⟩ => ⟨S8x1x1024, .f32⟩
  | .hbm, ⟨3, _⟩ => ⟨S1024x1536, .f32⟩
  | .hbm, ⟨4, _⟩ => ⟨S1536, .f32⟩
  | .hbm, ⟨5, _⟩ => ⟨S2048, .i32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S_, .f32⟩
  | .hbm, ⟨20, _⟩ => ⟨S8, .f32⟩
  | .hbm, ⟨21, _⟩ => ⟨S8, .f32⟩
  | .hbm, ⟨22, _⟩ => ⟨S2048, .f32⟩
  | .hbm, ⟨23, _⟩ => ⟨S2048x1, .f32⟩
  | .hbm, ⟨24, _⟩ => ⟨S1x8, .f32⟩
  | .hbm, ⟨25, _⟩ => ⟨S2048x8, .f32⟩
  | .hbm, ⟨26, _⟩ => ⟨S2048x8, .f32⟩
  | .hbm, ⟨27, _⟩ => ⟨S2048x8, .f32⟩
  | .hbm, ⟨28, _⟩ => ⟨S2048x8, .f32⟩
  | .hbm, ⟨29, _⟩ => ⟨S2048x8, .f32⟩
  | .hbm, ⟨30, _⟩ => ⟨S_, .f32⟩
  | .hbm, ⟨31, _⟩ => ⟨S2048x48, .f32⟩
  | .hbm, ⟨32, _⟩ => ⟨S_, .f32⟩
  | .hbm, ⟨33, _⟩ => ⟨S2048x48, .f32⟩
  | .hbm, ⟨34, _⟩ => ⟨S_, .f32⟩
  | .hbm, ⟨35, _⟩ => ⟨S2048x8, .f32⟩
  | .hbm, ⟨36, _⟩ => ⟨S2048x64, .f32⟩
  | .hbm, ⟨37, _⟩ => ⟨S2048x8, .f32⟩
  | .hbm, ⟨38, _⟩ => ⟨S2048x64, .f32⟩
  | .hbm, ⟨39, _⟩ => ⟨S2048x64, .f32⟩
  | .hbm, ⟨40, _⟩ => ⟨S1x2048x1x64, .f32⟩
  | .hbm, ⟨41, _⟩ => ⟨S1x2048x2x64, .f32⟩
  | .hbm, ⟨42, _⟩ => ⟨S2048x128, .f32⟩
  | .hbm, ⟨43, _⟩ => ⟨S1x2048x1x64, .f32⟩
  | .hbm, ⟨44, _⟩ => ⟨S1x2048x2x64, .f32⟩
  | .hbm, ⟨45, _⟩ => ⟨S2048x128, .f32⟩
  | .hbm, ⟨46, _⟩ => ⟨S1x2048x1x64, .f32⟩
  | .hbm, ⟨47, _⟩ => ⟨S1x2048x2x64, .f32⟩
  | .hbm, ⟨48, _⟩ => ⟨S2048x128, .f32⟩
  | .hbm, ⟨49, _⟩ => ⟨S16384x1024, .f32⟩
  | .hbm, ⟨50, _⟩ => ⟨S1024x1536, .bf16⟩
  | .hbm, ⟨51, _⟩ => ⟨S1x1536, .f32⟩
  | .hbm, ⟨52, _⟩ => ⟨S16384x1024, .bf16⟩
  | .hbm, ⟨53, _⟩ => ⟨S16384x256, .f32⟩
  | .hbm, ⟨54, _⟩ => ⟨S16384x256, .f32⟩
  | .hbm, ⟨55, _⟩ => ⟨S16384x256, .bf16⟩
  | .hbm, ⟨56, _⟩ => ⟨S16384x256, .bf16⟩
  | .hbm, ⟨57, _⟩ => ⟨S16384x256, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x1536, .bf16⟩
  | .local _ .vmem, ⟨7, _⟩ => ⟨S1x1536, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x1024, .bf16⟩
  | .local _ .vmem, ⟨15, _⟩ => ⟨S512x1024, .bf16⟩
  | .local _ .vmem, ⟨16, _⟩ => ⟨S512x256, .f32⟩
  | .local _ .vmem, ⟨17, _⟩ => ⟨S512x256, .f32⟩
  | .local _ .vmem, ⟨18, _⟩ => ⟨S512x256, .f32⟩
  | .local _ .vmem, ⟨19, _⟩ => ⟨S512x256, .f32⟩
  | .local _ .vmem, ⟨20, _⟩ => ⟨S512x256, .bf16⟩
  | .local _ .vmem, ⟨21, _⟩ => ⟨S512x256, .bf16⟩
  | .local _ .vmem, ⟨22, _⟩ => ⟨S512x256, .bf16⟩
  | .local _ .vmem, ⟨23, _⟩ => ⟨S512x256, .bf16⟩
  | .local _ .vmem, ⟨24, _⟩ => ⟨S512x256, .f32⟩
  | .local _ .vmem, ⟨25, _⟩ => ⟨S512x256, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39_0 : Ref sig .tc := ⟨.hbm, 52, rfl⟩
abbrev main_v39_1 : Ref sig .tc := ⟨.hbm, 53, rfl⟩
abbrev main_v39_2 : Ref sig .tc := ⟨.hbm, 54, rfl⟩
abbrev main_v39_3 : Ref sig .tc := ⟨.hbm, 55, rfl⟩
abbrev main_v39_4 : Ref sig .tc := ⟨.hbm, 56, rfl⟩
abbrev main_v39_5 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== QkvRefIdeal.lean ====
abbrev S8x2048x1024 : Shape := ⟨3, ![8, 2048, 1024]⟩
abbrev S8x1x1024 : Shape := ⟨3, ![8, 1, 1024]⟩
abbrev S1024x1536 : Shape := ⟨2, ![1024, 1536]⟩
abbrev S1536 : Shape := ⟨1, ![1536]⟩
abbrev S_ : Shape := ⟨0, ![]⟩
abbrev S8x2048x1536 : Shape := ⟨3, ![8, 2048, 1536]⟩
abbrev S1x1x1536 : Shape := ⟨3, ![1, 1, 1536]⟩
abbrev S8x2048x256 : Shape := ⟨3, ![8, 2048, 256]⟩
abbrev S2048 : Shape := ⟨1, ![2048]⟩
abbrev S8x2048x16x64 : Shape := ⟨4, ![8, 2048, 16, 64]⟩
abbrev S8 : Shape := ⟨1, ![8]⟩
abbrev S2048x1 : Shape := ⟨2, ![2048, 1]⟩
abbrev S1x8 : Shape := ⟨2, ![1, 8]⟩
abbrev S2048x8 : Shape := ⟨2, ![2048, 8]⟩
abbrev S1x2048x1x8 : Shape := ⟨4, ![1, 2048, 1, 8]⟩
abbrev S8x2048x16x8 : Shape := ⟨4, ![8, 2048, 16, 8]⟩
abbrev S8x2048x16x16 : Shape := ⟨4, ![8, 2048, 16, 16]⟩
abbrev S8x2048x16x48 : Shape := ⟨4, ![8, 2048, 16, 48]⟩
abbrev S8x2048x4x64 : Shape := ⟨4, ![8, 2048, 4, 64]⟩
abbrev S8x2048x4x8 : Shape := ⟨4, ![8, 2048, 4, 8]⟩
abbrev S8x2048x4x16 : Shape := ⟨4, ![8, 2048, 4, 16]⟩
abbrev S8x2048x4x48 : Shape := ⟨4, ![8, 2048, 4, 48]⟩
abbrev S8x2048x4x4x64 : Shape := ⟨5, ![8, 2048, 4, 4, 64]⟩
abbrev S16384x256 : Shape := ⟨2, ![16384, 256]⟩
abbrev S16384x1024 : Shape := ⟨2, ![16384, 1024]⟩

abbrev nBuf : Space → Nat
  | .hbm => 117
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x1x1024, .f32⟩
  | .hbm, ⟨2, _⟩ => ⟨S8x1x1024, .f32⟩
  | .hbm, ⟨3, _⟩ => ⟨S1024x1536, .f32⟩
  | .hbm, ⟨4, _⟩ => ⟨S1536, .f32⟩
  | .hbm, ⟨5, _⟩ => ⟨S_, .f32⟩
  | .hbm, ⟨6, _⟩ => ⟨S8x1x1024, .f32⟩
  | .hbm, ⟨7, _⟩ => ⟨S8x1x1024, .f32⟩
  | .hbm, ⟨8, _⟩ => ⟨S8x2048x1024, .f32⟩
  | .hbm, ⟨9, _⟩ => ⟨S8x2048x1024, .f32⟩
  | .hbm, ⟨10, _⟩ => ⟨S8x2048x1024, .f32⟩
  | .hbm, ⟨11, _⟩ => ⟨S8x2048x1024, .f32⟩
  | .hbm, ⟨12, _⟩ => ⟨S8x2048x1536, .f32⟩
  | .hbm, ⟨13, _⟩ => ⟨S1x1x1536, .f32⟩
  | .hbm, ⟨14, _⟩ => ⟨S8x2048x1536, .f32⟩
  | .hbm, ⟨15, _⟩ => ⟨S8x2048x1536, .f32⟩
  | .hbm, ⟨16, _⟩ => ⟨S8x2048x1024, .f32⟩
  | .hbm, ⟨17, _⟩ => ⟨S8x2048x256, .f32⟩
  | .hbm, ⟨18, _⟩ => ⟨S8x2048x256, .f32⟩
  | .hbm, ⟨19, _⟩ => ⟨S2048, .i32⟩
  | .hbm, ⟨20, _⟩ => ⟨S8x2048x16x64, .f32⟩
  | .hbm, ⟨21, _⟩ => ⟨S8, .f32⟩
  | .hbm, ⟨22, _⟩ => ⟨S_, .f32⟩
  | .hbm, ⟨23, _⟩ => ⟨S8, .f32⟩
  | .hbm, ⟨24, _⟩ => ⟨S8, .f32⟩
  | .hbm, ⟨25, _⟩ => ⟨S_, .f32⟩
  | .hbm, ⟨26, _⟩ => ⟨S8, .f32⟩
  | .hbm, ⟨27, _⟩ => ⟨S8, .f32⟩
  | .hbm, ⟨28, _⟩ => ⟨S_, .f32⟩
  | .hbm, ⟨29, _⟩ => ⟨S8, .f32⟩
  | .hbm, ⟨30, _⟩ => ⟨S8, .f32⟩
  | .hbm, ⟨31, _⟩ => ⟨S_, .f32⟩
  | .hbm, ⟨32, _⟩ => ⟨S8, .f32⟩
  | .hbm, ⟨33, _⟩ => ⟨S8, .f32⟩
  | .hbm, ⟨34, _⟩ => ⟨S_, .f32⟩
  | .hbm, ⟨35, _⟩ => ⟨S8, .f32⟩
  | .hbm, ⟨36, _⟩ => ⟨S8, .f32⟩
  | .hbm, ⟨37, _⟩ => ⟨S2048, .f32⟩
  | .hbm, ⟨38, _⟩ => ⟨S2048x1, .f32⟩
  | .hbm, ⟨39, _⟩ => ⟨S1x8, .f32⟩
  | .hbm, ⟨40, _⟩ => ⟨S2048x8, .f32⟩
  | .hbm, ⟨41, _⟩ => ⟨S2048x8, .f32⟩
  | .hbm, ⟨42, _⟩ => ⟨S2048x8, .f32⟩
  | .hbm, ⟨43, _⟩ => ⟨S2048x8, .f32⟩
  | .hbm, ⟨44, _⟩ => ⟨S1x2048x1x8, .f32⟩
  | .hbm, ⟨45, _⟩ => ⟨S2048x8, .f32⟩
  | .hbm, ⟨46, _⟩ => ⟨S1x2048x1x8, .f32⟩
  | .hbm, ⟨47, _⟩ => ⟨S8x2048x16x8, .f32⟩
  | .hbm, ⟨48, _⟩ => ⟨S8x2048x16x8, .f32⟩
  | .hbm, ⟨49, _⟩ => ⟨S8x2048x16x8, .f32⟩
  | .hbm, ⟨50, _⟩ => ⟨S8x2048x16x8, .f32⟩
  | .hbm, ⟨51, _⟩ => ⟨S8x2048x16x8, .f32⟩
  | .hbm, ⟨52, _⟩ => ⟨S8x2048x16x8, .f32⟩
  | .hbm, ⟨53, _⟩ => ⟨S8x2048x16x8, .f32⟩
  | .hbm, ⟨54, _⟩ => ⟨S8x2048x16x8, .f32⟩
  | .hbm, ⟨55, _⟩ => ⟨S8x2048x16x8, .f32⟩
  | .hbm, ⟨56, _⟩ => ⟨S8x2048x16x8, .f32⟩
  | .hbm, ⟨57, _⟩ => ⟨S8x2048x16x8, .f32⟩
  | .hbm, ⟨58, _⟩ => ⟨S8x2048x16x8, .f32⟩
  | .hbm, ⟨59, _⟩ => ⟨S8x2048x16x16, .f32⟩
  | .hbm, ⟨60, _⟩ => ⟨S8x2048x16x48, .f32⟩
  | .hbm, ⟨61, _⟩ => ⟨S8x2048x16x64, .f32⟩
  | .hbm, ⟨62, _⟩ => ⟨S8x2048x4x64, .f32⟩
  | .hbm, ⟨63, _⟩ => ⟨S8, .f32⟩
  | .hbm, ⟨64, _⟩ => ⟨S_, .f32⟩
  | .hbm, ⟨65, _⟩ => ⟨S8, .f32⟩
  | .hbm, ⟨66, _⟩ => ⟨S8, .f32⟩
  | .hbm, ⟨67, _⟩ => ⟨S_, .f32⟩
  | .hbm, ⟨68, _⟩ => ⟨S8, .f32⟩
  | .hbm, ⟨69, _⟩ => ⟨S8, .f32⟩
  | .hbm, ⟨70, _⟩ => ⟨S_, .f32⟩
  | .hbm, ⟨71, _⟩ => ⟨S8, .f32⟩
  | .hbm, ⟨72, _⟩ => ⟨S8, .f32⟩
  | .hbm, ⟨73, _⟩ => ⟨S_, .f32⟩
  | .hbm, ⟨74, _⟩ => ⟨S8, .f32⟩
  | .hbm, ⟨75, _⟩ => ⟨S8, .f32⟩
  | .hbm, ⟨76, _⟩ => ⟨S_, .f32⟩
  | .hbm, ⟨77, _⟩ => ⟨S8, .f32⟩
  | .hbm, ⟨78, _⟩ => ⟨S8, .f32⟩
  | .hbm, ⟨79, _⟩ => ⟨S2048, .f32⟩
  | .hbm, ⟨80, _⟩ => ⟨S2048x1, .f32⟩
  | .hbm, ⟨81, _⟩ => ⟨S1x8, .f32⟩
  | .hbm, ⟨82, _⟩ => ⟨S2048x8, .f32⟩
  | .hbm, ⟨83, _⟩ => ⟨S2048x8, .f32⟩
  | .hbm, ⟨84, _⟩ => ⟨S2048x8, .f32⟩
  | .hbm, ⟨85, _⟩ => ⟨S2048x8, .f32⟩
  | .hbm, ⟨86, _⟩ => ⟨S1x2048x1x8, .f32⟩
  | .hbm, ⟨87, _⟩ => ⟨S2048x8, .f32⟩
  | .hbm, ⟨88, _⟩ => ⟨S1x2048x1x8, .f32⟩
  | .hbm, ⟨89, _⟩ => ⟨S8x2048x4x8, .f32⟩
  | .hbm, ⟨90, _⟩ => ⟨S8x2048x4x8, .f32⟩
  | .hbm, ⟨91, _⟩ => ⟨S8x2048x4x8, .f32⟩
  | .hbm, ⟨92, _⟩ => ⟨S8x2048x4x8, .f32⟩
  | .hbm, ⟨93, _⟩ => ⟨S8x2048x4x8, .f32⟩
  | .hbm, ⟨94, _⟩ => ⟨S8x2048x4x8, .f32⟩
  | .hbm, ⟨95, _⟩ => ⟨S8x2048x4x8, .f32⟩
  | .hbm, ⟨96, _⟩ => ⟨S8x2048x4x8, .f32⟩
  | .hbm, ⟨97, _⟩ => ⟨S8x2048x4x8, .f32⟩
  | .hbm, ⟨98, _⟩ => ⟨S8x2048x4x8, .f32⟩
  | .hbm, ⟨99, _⟩ => ⟨S8x2048x4x8, .f32⟩
  | .hbm, ⟨100, _⟩ => ⟨S8x2048x4x8, .f32⟩
  | .hbm, ⟨101, _⟩ => ⟨S8x2048x4x16, .f32⟩
  | .hbm, ⟨102, _⟩ => ⟨S8x2048x4x48, .f32⟩
  | .hbm, ⟨103, _⟩ => ⟨S8x2048x4x64, .f32⟩
  | .hbm, ⟨104, _⟩ => ⟨S8x2048x4x4x64, .f32⟩
  | .hbm, ⟨105, _⟩ => ⟨S_, .f32⟩
  | .hbm, ⟨106, _⟩ => ⟨S8x2048x4x64, .f32⟩
  | .hbm, ⟨107, _⟩ => ⟨S16384x256, .f32⟩
  | .hbm, ⟨108, _⟩ => ⟨S16384x256, .f32⟩
  | .hbm, ⟨109, _⟩ => ⟨S_, .f32⟩
  | .hbm, ⟨110, _⟩ => ⟨S8x2048x16x64, .f32⟩
  | .hbm, ⟨111, _⟩ => ⟨S8x2048x16x64, .f32⟩
  | .hbm, ⟨112, _⟩ => ⟨S16384x1024, .f32⟩
  | .hbm, ⟨113, _⟩ => ⟨S16384x1024, .bf16⟩
  | .hbm, ⟨114, _⟩ => ⟨S16384x256, .bf16⟩
  | .hbm, ⟨115, _⟩ => ⟨S16384x256, .bf16⟩
  | .hbm, ⟨116, _⟩ => ⟨S16384x256, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst_5 : Ref sig .tc := ⟨.hbm, 64, rfl⟩
abbrev main_v53 : Ref sig .tc := ⟨.hbm, 65, rfl⟩
abbrev main_v54 : Ref sig .tc := ⟨.hbm, 66, rfl⟩
abbrev main_cst_6 : Ref sig .tc := ⟨.hbm, 67, rfl⟩
abbrev main_v55 : Ref sig .tc := ⟨.hbm, 68, rfl⟩
abbrev main_v56 : Ref sig .tc := ⟨.hbm, 69, rfl⟩
abbrev main_cst_7 : Ref sig .tc := ⟨.hbm, 70, rfl⟩
abbrev main_v57 : Ref sig .tc := ⟨.hbm, 71, rfl⟩
abbrev main_v58 : Ref sig .tc := ⟨.hbm, 72, rfl⟩
abbrev main_cst_8 : Ref sig .tc := ⟨.hbm, 73, rfl⟩
abbrev main_v59 : Ref sig .tc := ⟨.hbm, 74, rfl⟩
abbrev main_v60 : Ref sig .tc := ⟨.hbm, 75, rfl⟩
abbrev main_cst_9 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_cst_10 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_cst_11 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩

abbrev nD : Nat := 1
abbrev τ : Topo := Topo.v7x

variable {F : FTy → Type} [FloatOps F]
-- ==== AttnOut.lean ====
abbrev S16384x1024 : Shape := ⟨2, ![16384, 1024]⟩
abbrev S8x1x1024 : Shape := ⟨3, ![8, 1, 1024]⟩
abbrev S1024x1024 : Shape := ⟨2, ![1024, 1024]⟩
abbrev S1024 : Shape := ⟨1, ![1024]⟩
abbrev S1024x256 : Shape := ⟨2, ![1024, 256]⟩
abbrev S256x1024 : Shape := ⟨2, ![256, 1024]⟩
abbrev S1x1024 : Shape := ⟨2, ![1, 1024]⟩
abbrev S256x16384 : Shape := ⟨2, ![256, 16384]⟩
abbrev S1x1x1024 : Shape := ⟨3, ![1, 1, 1024]⟩
abbrev S256x256 : Shape := ⟨2, ![256, 256]⟩
abbrev S256 : Shape := ⟨1, ![256]⟩
abbrev S256x1 : Shape := ⟨2, ![256, 1]⟩

abbrev nBuf : Space → Nat
  | .hbm => 22
  | .vmem => 22
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S8x1x1024, .f32⟩
  | .hbm, ⟨3, _⟩ => ⟨S8x1x1024, .f32⟩
  | .hbm, ⟨4, _⟩ => ⟨S8x1x1024, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024x256, .f32⟩
  | .hbm, ⟨10, _⟩ => ⟨S256x1024, .f32⟩
  | .hbm, ⟨11, _⟩ => ⟨S256x1024, .bf16⟩
  | .hbm, ⟨12, _⟩ => ⟨S256x1024, .f32⟩
  | .hbm, ⟨13, _⟩ => ⟨S256x1024, .f32⟩
  | .hbm, ⟨14, _⟩ => ⟨S256x1024, .bf16⟩
  | .hbm, ⟨15, _⟩ => ⟨S1024x1024, .bf16⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S16384x1024, .f32⟩
  | .hbm, ⟨20, _⟩ => ⟨S16384x1024, .bf16⟩
  | .hbm, ⟨21, _⟩ => ⟨S256x16384, .f32⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S256x1024, .bf16⟩
  | .local _ .vmem, ⟨15, _⟩ => ⟨S256x1024, .bf16⟩
  | .local _ .vmem, ⟨16, _⟩ => ⟨S256x1024, .f32⟩
  | .local _ .vmem, ⟨17, _⟩ => ⟨S256x1024, .f32⟩
  | .local _ .vmem, ⟨18, _⟩ => ⟨S256x1024, .bf16⟩
  | .local _ .vmem, ⟨19, _⟩ => ⟨S256x1024, .bf16⟩
  | .local _ .vmem, ⟨20, _⟩ => ⟨S256x256, .f32⟩
  | .local _ .vmem, ⟨21, _⟩ => ⟨S256x256, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev main_v9_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== AttnOutRefIdeal.lean ====
abbrev S16384x1024 : Shape := ⟨2, ![16384, 1024]⟩
abbrev S8x1x1024 : Shape := ⟨3, ![8, 1, 1024]⟩
abbrev S1024x1024 : Shape := ⟨2, ![1024, 1024]⟩
abbrev S1024 : Shape := ⟨1, ![1024]⟩
abbrev S1024x256 : Shape := ⟨2, ![1024, 256]⟩
abbrev S1x1024 : Shape := ⟨2, ![1, 1024]⟩
abbrev S8x2048x1024 : Shape := ⟨3, ![8, 2048, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S16384x256 : Shape := ⟨2, ![16384, 256]⟩
abbrev S256x16384 : Shape := ⟨2, ![256, 16384]⟩

abbrev nBuf : Space → Nat
  | .hbm => 64
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S8x1x1024, .f32⟩
  | .hbm, ⟨3, _⟩ => ⟨S8x1x1024, .f32⟩
  | .hbm, ⟨4, _⟩ => ⟨S8x1x1024, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024x256, .f32⟩
  | .hbm, ⟨10, _⟩ => ⟨S16384x1024, .f32⟩
  | .hbm, ⟨11, _⟩ => ⟨S16384x1024, .f32⟩
  | .hbm, ⟨12, _⟩ => ⟨S1x1024, .f32⟩
  | .hbm, ⟨13, _⟩ => ⟨S16384x1024, .f32⟩
  | .hbm, ⟨14, _⟩ => ⟨S16384x1024, .f32⟩
  | .hbm, ⟨15, _⟩ => ⟨S8x2048x1024, .f32⟩
  | .hbm, ⟨16, _⟩ => ⟨S_, .f32⟩
  | .hbm, ⟨17, _⟩ => ⟨S8x2048x1024, .f32⟩
  | .hbm, ⟨18, _⟩ => ⟨S8x2048x1024, .f32⟩
  | .hbm, ⟨19, _⟩ => ⟨S8x2048x1024, .f32⟩
  | .hbm, ⟨20, _⟩ => ⟨S8x2048x1024, .f32⟩
  | .hbm, ⟨21, _⟩ => ⟨S8x2048x1024, .f32⟩
  | .hbm, ⟨22, _⟩ => ⟨S8x2048x1024, .f32⟩
  | .hbm, ⟨23, _⟩ => ⟨S_, .f32⟩
  | .hbm, ⟨24, _⟩ => ⟨S8x2048, .f32⟩
  | .hbm, ⟨25, _⟩ => ⟨S8x2048x1, .f32⟩
  | .hbm, ⟨26, _⟩ => ⟨S_, .f32⟩
  | .hbm, ⟨27, _⟩ => ⟨S8x2048x1, .f32⟩
  | .hbm, ⟨28, _⟩ => ⟨S8x2048x1, .f32⟩
  | .hbm, ⟨29, _⟩ => ⟨S8x2048x1024, .f32⟩
  | .hbm, ⟨30, _⟩ => ⟨S8x2048x1024, .f32⟩
  | .hbm, ⟨31, _⟩ => ⟨S8x2048x1024, .f32⟩
  | .hbm, ⟨32, _⟩ => ⟨S_, .f32⟩
  | .hbm, ⟨33, _⟩ => ⟨S8x2048, .f32⟩
  | .hbm, ⟨34, _⟩ => ⟨S8x2048x1, .f32⟩
  | .hbm, ⟨35, _⟩ => ⟨S_, .f32⟩
  | .hbm, ⟨36, _⟩ => ⟨S8x2048x1, .f32⟩
  | .hbm, ⟨37, _⟩ => ⟨S8x2048x1, .f32⟩
  | .hbm, ⟨38, _⟩ => ⟨S8x2048x1024, .f32⟩
  | .hbm, ⟨39, _⟩ => ⟨S8x2048x1024, .f32⟩
  | .hbm, ⟨40, _⟩ => ⟨S_, .f32⟩
  | .hbm, ⟨41, _⟩ => ⟨S8x2048x1, .f32⟩
  | .hbm, ⟨42, _⟩ => ⟨S8x2048x1, .f32⟩
  | .hbm, ⟨43, _⟩ => ⟨S8x2048x1, .f32⟩
  | .hbm, ⟨44, _⟩ => ⟨S8x2048x1024, .f32⟩
  | .hbm, ⟨45, _⟩ => ⟨S8x2048x1024, .f32⟩
  | .hbm, ⟨46, _⟩ => ⟨S1x1x1024, .f32⟩
  | .hbm, ⟨47, _⟩ => ⟨S8x2048x1024, .f32⟩
  | .hbm, ⟨48, _⟩ => ⟨S8x2048x1024, .f32⟩
  | .hbm, ⟨49, _⟩ => ⟨S1x1x1024, .f32⟩
  | .hbm, ⟨50, _⟩ => ⟨S8x2048x1024, .f32⟩
  | .hbm, ⟨51, _⟩ => ⟨S8x2048x1024, .f32⟩
  | .hbm, ⟨52, _⟩ => ⟨S_, .f32⟩
  | .hbm, ⟨53, _⟩ => ⟨S8x1x1024, .f32⟩
  | .hbm, ⟨54, _⟩ => ⟨S8x1x1024, .f32⟩
  | .hbm, ⟨55, _⟩ => ⟨S8x2048x1024, .f32⟩
  | .hbm, ⟨56, _⟩ => ⟨S8x2048x1024, .f32⟩
  | .hbm, ⟨57, _⟩ => ⟨S8x2048x1024, .f32⟩
  | .hbm, ⟨58, _⟩ => ⟨S8x2048x1024, .f32⟩
  | .hbm, ⟨59, _⟩ => ⟨S16384x1024, .f32⟩
  | .hbm, ⟨60, _⟩ => ⟨S16384x1024, .f32⟩
  | .hbm, ⟨61, _⟩ => ⟨S16384x1024, .bf16⟩
  | .hbm, ⟨62, _⟩ => ⟨S16384x256, .f32⟩
  | .hbm, ⟨63, _⟩ => ⟨S256x16384, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_5 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]
-- ==== FfnOut.lean ====
abbrev S16384x1024 : Shape := ⟨2, ![16384, 1024]⟩
abbrev S8x1x1024 : Shape := ⟨3, ![8, 1, 1024]⟩
abbrev S1024x256 : Shape := ⟨2, ![1024, 256]⟩
abbrev S256x1024 : Shape := ⟨2, ![256, 1024]⟩
abbrev S1024 : Shape := ⟨1, ![1024]⟩
abbrev S1x1024 : Shape := ⟨2, ![1, 1024]⟩
abbrev S1x1x1024 : Shape := ⟨3, ![1, 1, 1024]⟩
abbrev S256x256 : Shape := ⟨2, ![256, 256]⟩
abbrev S256 : Shape := ⟨1, ![256]⟩
abbrev S256x1 : Shape := ⟨2, ![256, 1]⟩

abbrev nBuf : Space → Nat
  | .hbm => 15
  | .vmem => 15
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S16384x1024, .f32⟩
  | .hbm, ⟨3, _⟩ => ⟨S8x1x1024, .f32⟩
  | .hbm, ⟨4, _⟩ => ⟨S1024x256, .f32⟩
  | .hbm, ⟨5, _⟩ => ⟨S1024x256, .f32⟩
  | .hbm, ⟨6, _⟩ => ⟨S256x1024, .f32⟩
  | .hbm, ⟨7, _⟩ => ⟨S1024, .f32⟩
  | .hbm, ⟨8, _⟩ => ⟨S1024, .f32⟩
  | .hbm, ⟨9, _⟩ => ⟨S1024x256, .bf16⟩
  | .hbm, ⟨10, _⟩ => ⟨S1024x256, .bf16⟩
  | .hbm, ⟨11, _⟩ => ⟨S256x1024, .bf16⟩
  | .hbm, ⟨12, _⟩ => ⟨S1x1024, .f32⟩
  | .hbm, ⟨13, _⟩ => ⟨S1x1024, .f32⟩
  | .hbm, ⟨14, _⟩ => ⟨S16384x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x256, .bf16⟩
  | .local _ .vmem, ⟨9, _⟩ => ⟨S1024x256, .bf16⟩
  | .local _ .vmem, ⟨10, _⟩ => ⟨S256x1024, .bf16⟩
  | .local _ .vmem, ⟨11, _⟩ => ⟨S1x1024, .f32⟩
  | .local _ .vmem, ⟨12, _⟩ => ⟨S1x1024, .f32⟩
  | .local _ .vmem, ⟨13, _⟩ => ⟨S256x1024, .f32⟩
  | .local _ .vmem, ⟨14, _⟩ => ⟨S256x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FfnOutRefIdeal.lean ====
abbrev S16384x1024 : Shape := ⟨2, ![16384, 1024]⟩
abbrev S8x1x1024 : Shape := ⟨3, ![8, 1, 1024]⟩
abbrev S1024x256 : Shape := ⟨2, ![1024, 256]⟩
abbrev S256x1024 : Shape := ⟨2, ![256, 1024]⟩
abbrev S1024 : Shape := ⟨1, ![1024]⟩
abbrev S16384x256 : Shape := ⟨2, ![16384, 256]⟩
abbrev S_ : Shape := ⟨0, ![]⟩
abbrev S8x2048x1024 : Shape := ⟨3, ![8, 2048, 1024]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 62
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S16384x1024, .f32⟩
  | .hbm, ⟨3, _⟩ => ⟨S8x1x1024, .f32⟩
  | .hbm, ⟨4, _⟩ => ⟨S1024x256, .f32⟩
  | .hbm, ⟨5, _⟩ => ⟨S1024x256, .f32⟩
  | .hbm, ⟨6, _⟩ => ⟨S256x1024, .f32⟩
  | .hbm, ⟨7, _⟩ => ⟨S1024, .f32⟩
  | .hbm, ⟨8, _⟩ => ⟨S1024, .f32⟩
  | .hbm, ⟨9, _⟩ => ⟨S16384x1024, .f32⟩
  | .hbm, ⟨10, _⟩ => ⟨S16384x256, .f32⟩
  | .hbm, ⟨11, _⟩ => ⟨S16384x256, .f32⟩
  | .hbm, ⟨12, _⟩ => ⟨S16384x256, .f32⟩
  | .hbm, ⟨13, _⟩ => ⟨S_, .f32⟩
  | .hbm, ⟨14, _⟩ => ⟨S16384x256, .f32⟩
  | .hbm, ⟨15, _⟩ => ⟨S16384x256, .f32⟩
  | .hbm, ⟨16, _⟩ => ⟨S_, .f32⟩
  | .hbm, ⟨17, _⟩ => ⟨S16384x256, .f32⟩
  | .hbm, ⟨18, _⟩ => ⟨S16384x256, .f32⟩
  | .hbm, ⟨19, _⟩ => ⟨S16384x256, .f32⟩
  | .hbm, ⟨20, _⟩ => ⟨S16384x256, .f32⟩
  | .hbm, ⟨21, _⟩ => ⟨S16384x256, .f32⟩
  | .hbm, ⟨22, _⟩ => ⟨S16384x1024, .f32⟩
  | .hbm, ⟨23, _⟩ => ⟨S8x2048x1024, .f32⟩
  | .hbm, ⟨24, _⟩ => ⟨S_, .f32⟩
  | .hbm, ⟨25, _⟩ => ⟨S8x2048x1024, .f32⟩
  | .hbm, ⟨26, _⟩ => ⟨S8x2048x1024, .f32⟩
  | .hbm, ⟨27, _⟩ => ⟨S16384x1024, .f32⟩
  | .hbm, ⟨28, _⟩ => ⟨S8x2048x1024, .f32⟩
  | .hbm, ⟨29, _⟩ => ⟨S8x2048x1024, .f32⟩
  | .hbm, ⟨30, _⟩ => ⟨S8x2048x1024, .f32⟩
  | .hbm, ⟨31, _⟩ => ⟨S8x2048x1024, .f32⟩
  | .hbm, ⟨32, _⟩ => ⟨S_, .f32⟩
  | .hbm, ⟨33, _⟩ => ⟨S8x2048, .f32⟩
  | .hbm, ⟨34, _⟩ => ⟨S8x2048x1, .f32⟩
  | .hbm, ⟨35, _⟩ => ⟨S_, .f32⟩
  | .hbm, ⟨36, _⟩ => ⟨S8x2048x1, .f32⟩
  | .hbm, ⟨37, _⟩ => ⟨S8x2048x1, .f32⟩
  | .hbm, ⟨38, _⟩ => ⟨S8x2048x1024, .f32⟩
  | .hbm, ⟨39, _⟩ => ⟨S8x2048x1024, .f32⟩
  | .hbm, ⟨40, _⟩ => ⟨S8x2048x1024, .f32⟩
  | .hbm, ⟨41, _⟩ => ⟨S_, .f32⟩
  | .hbm, ⟨42, _⟩ => ⟨S8x2048, .f32⟩
  | .hbm, ⟨43, _⟩ => ⟨S8x2048x1, .f32⟩
  | .hbm, ⟨44, _⟩ => ⟨S_, .f32⟩
  | .hbm, ⟨45, _⟩ => ⟨S8x2048x1, .f32⟩
  | .hbm, ⟨46, _⟩ => ⟨S8x2048x1, .f32⟩
  | .hbm, ⟨47, _⟩ => ⟨S8x2048x1024, .f32⟩
  | .hbm, ⟨48, _⟩ => ⟨S8x2048x1024, .f32⟩
  | .hbm, ⟨49, _⟩ => ⟨S_, .f32⟩
  | .hbm, ⟨50, _⟩ => ⟨S8x2048x1, .f32⟩
  | .hbm, ⟨51, _⟩ => ⟨S8x2048x1, .f32⟩
  | .hbm, ⟨52, _⟩ => ⟨S8x2048x1, .f32⟩
  | .hbm, ⟨53, _⟩ => ⟨S8x2048x1024, .f32⟩
  | .hbm, ⟨54, _⟩ => ⟨S8x2048x1024, .f32⟩
  | .hbm, ⟨55, _⟩ => ⟨S1x1x1024, .f32⟩
  | .hbm, ⟨56, _⟩ => ⟨S8x2048x1024, .f32⟩
  | .hbm, ⟨57, _⟩ => ⟨S8x2048x1024, .f32⟩
  | .hbm, ⟨58, _⟩ => ⟨S1x1x1024, .f32⟩
  | .hbm, ⟨59, _⟩ => ⟨S8x2048x1024, .f32⟩
  | .hbm, ⟨60, _⟩ => ⟨S8x2048x1024, .f32⟩
  | .hbm, ⟨61, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_0 : Ref sig .tc := ⟨.hbm, 32, rfl⟩
abbrev main_v14 : Ref sig .tc := ⟨.hbm, 33, rfl⟩
abbrev main_v15 : Ref sig .tc := ⟨.hbm, 34, rfl⟩
abbrev main_cst_1 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_2 : Ref sig .tc := ⟨.hbm, 41, rfl⟩
abbrev main_v21 : Ref sig .tc := ⟨.hbm, 42, rfl⟩
abbrev main_v22 : Ref sig .tc := ⟨.hbm, 43, rfl⟩
abbrev main_cst_3 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_4 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩

abbrev nD : Nat := 1
abbrev τ : Topo := Topo.v7x

variable {F : FTy → Type} [FloatOps F]
-- ==== QkvS.lean ====
abbrev S128x4x1024 : Shape := ⟨3, ![128, 4, 1024]⟩
abbrev S128x1x1024 : Shape := ⟨3, ![128, 1, 1024]⟩
abbrev S1024x1536 : Shape := ⟨2, ![1024, 1536]⟩
abbrev S1536 : Shape := ⟨1, ![1536]⟩
abbrev S4 : Shape := ⟨1, ![4]⟩
abbrev S_ : Shape := ⟨0, ![]⟩
abbrev S1x4 : Shape := ⟨2, ![1, 4]⟩
abbrev S128x4 : Shape := ⟨2, ![128, 4]⟩
abbrev S512 : Shape := ⟨1, ![512]⟩
abbrev S8 : Shape := ⟨1, ![8]⟩
abbrev S512x1 : Shape := ⟨2, ![512, 1]⟩
abbrev S1x8 : Shape := ⟨2, ![1, 8]⟩
abbrev S512x8 : Shape := ⟨2, ![512, 8]⟩
abbrev S512x48 : Shape := ⟨2, ![512, 48]⟩
abbrev S512x64 : Shape := ⟨2, ![512, 64]⟩
abbrev S1x512x1x64 : Shape := ⟨4, ![1, 512, 1, 64]⟩
abbrev S1x512x2x64 : Shape := ⟨4, ![1, 512, 2, 64]⟩
abbrev S512x128 : Shape := ⟨2, ![512, 128]⟩
abbrev S512x1024 : Shape := ⟨2, ![512, 1024]⟩
abbrev S128x1024 : Shape := ⟨2, ![128, 1024]⟩
abbrev S1x512x1024 : Shape := ⟨3, ![1, 512, 1024]⟩
abbrev S1x1536 : Shape := ⟨2, ![1, 1536]⟩
abbrev S512x256 : Shape := ⟨2, ![512, 256]⟩
abbrev S512x1536 : Shape := ⟨2, ![512, 1536]⟩

abbrev nBuf : Space → Nat
  | .hbm => 72
  | .vmem => 14
  | .smem => 0
  | _ => 0

abbrev bufTy : (tb : Table) → Fin (tcTables nBuf tb) → BufTy
  | .hbm, ⟨0, _⟩ => ⟨S128x4x1024, .f32⟩
  | .hbm, ⟨1, _⟩ => ⟨S128x1x1024, .f32⟩
  | .hbm, ⟨2, _⟩ => ⟨S128x1x1024, .f32⟩
  | .hbm, ⟨3, _⟩ => ⟨S1024x1536, .f32⟩
  | .hbm, ⟨4, _⟩ => ⟨S1536, .f32⟩
  | .hbm, ⟨5, _⟩ => ⟨S4, .i32⟩
  | .hbm, ⟨6, _⟩ => ⟨S_, .i32⟩
  | .hbm, ⟨7, _⟩ => ⟨S4, .i32⟩
  | .hbm, ⟨8, _⟩ => ⟨S4, .i32⟩
  | .hbm, ⟨9, _⟩ => ⟨S1x4, .i32⟩
  | .hbm, ⟨10, _⟩ => ⟨S128x4, .i32⟩
  | .hbm, ⟨11, _⟩ => ⟨S512, .i32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S_, .f32⟩
  | .hbm, ⟨20, _⟩ => ⟨S8, .f32⟩
  | .hbm, ⟨21, _⟩ => ⟨S8, .f32⟩
  | .hbm, ⟨22, _⟩ => ⟨S_, .f32⟩
  | .hbm, ⟨23, _⟩ => ⟨S8, .f32⟩
  | .hbm, ⟨24, _⟩ => ⟨S8, .f32⟩
  | .hbm, ⟨25, _⟩ => ⟨S_, .f32⟩
  | .hbm, ⟨26, _⟩ => ⟨S8, .f32⟩
  | .hbm, ⟨27, _⟩ => ⟨S8, .f32⟩
  | .hbm, ⟨28, _⟩ => ⟨S512, .f32⟩
  | .hbm, ⟨29, _⟩ => ⟨S512x1, .f32⟩
  | .hbm, ⟨30, _⟩ => ⟨S1x8, .f32⟩
  | .hbm, ⟨31, _⟩ => ⟨S512x8, .f32⟩
  | .hbm, ⟨32, _⟩ => ⟨S512x8, .f32⟩
  | .hbm, ⟨33, _⟩ => ⟨S512x8, .f32⟩
  | .hbm, ⟨34, _⟩ => ⟨S512x8, .f32⟩
  | .hbm, ⟨35, _⟩ => ⟨S512x8, .f32⟩
  | .hbm, ⟨36, _⟩ => ⟨S_, .f32⟩
  | .hbm, ⟨37, _⟩ => ⟨S512x48, .f32⟩
  | .hbm, ⟨38, _⟩ => ⟨S_, .f32⟩
  | .hbm, ⟨39, _⟩ => ⟨S512x48, .f32⟩
  | .hbm, ⟨40, _⟩ => ⟨S_, .f32⟩
  | .hbm, ⟨41, _⟩ => ⟨S512x8, .f32⟩
  | .hbm, ⟨42, _⟩ => ⟨S512x64, .f32⟩
  | .hbm, ⟨43, _⟩ => ⟨S512x8, .f32⟩
  | .hbm, ⟨44, _⟩ => ⟨S512x64, .f32⟩
  | .hbm, ⟨45, _⟩ => ⟨S512x64, .f32⟩
  | .hbm, ⟨46, _⟩ => ⟨S1x512x1x64, .f32⟩
  | .hbm, ⟨47, _⟩ => ⟨S1x512x2x64, .f32⟩
  | .hbm, ⟨48, _⟩ => ⟨S512x128, .f32⟩
  | .hbm, ⟨49, _⟩ => ⟨S1x512x1x64, .f32⟩
  | .hbm, ⟨50, _⟩ => ⟨S1x512x2x64, .f32⟩
  | .hbm, ⟨51, _⟩ => ⟨S512x128, .f32⟩
  | .hbm, ⟨52, _⟩ => ⟨S1x512x1x64, .f32⟩
  | .hbm, ⟨53, _⟩ => ⟨S1x512x2x64, .f32⟩
  | .hbm, ⟨54, _⟩ => ⟨S512x128, .f32⟩
  | .hbm, ⟨55, _⟩ => ⟨S512x1024, .f32⟩
  | .hbm, ⟨56, _⟩ => ⟨S128x1024, .f32⟩
  | .hbm, ⟨57, _⟩ => ⟨S128x4x1024, .f32⟩
  | .hbm, ⟨58, _⟩ => ⟨S512x1024, .f32⟩
  | .hbm, ⟨59, _⟩ => ⟨S1x512x1024, .f32⟩
  | .hbm, ⟨60, _⟩ => ⟨S128x1024, .f32⟩
  | .hbm, ⟨61, _⟩ => ⟨S128x4x1024, .f32⟩
  | .hbm, ⟨62, _⟩ => ⟨S512x1024, .f32⟩
  | .hbm, ⟨63, _⟩ => ⟨S1x512x1024, .f32⟩
  | .hbm, ⟨64, _⟩ => ⟨S1024x1536, .bf16⟩
  | .hbm, ⟨65, _⟩ => ⟨S1x1536, .f32⟩
  | .hbm, ⟨66, _⟩ => ⟨S512x1024, .bf16⟩
  | .hbm, ⟨67, _⟩ => ⟨S512x256, .f32⟩
  | .hbm, ⟨68, _⟩ => ⟨S512x256, .f32⟩
  | .hbm, ⟨69, _⟩ => ⟨S512x256, .bf16⟩
  | .hbm, ⟨70, _⟩ => ⟨S512x256, .bf16⟩
  | .hbm, ⟨71, _⟩ => ⟨S512x256, .f32⟩
  | .local _ .vmem, ⟨0, _⟩ => ⟨S512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1024x1536, .bf16⟩
  | .local _ .vmem, ⟨4, _⟩ => ⟨S1x1536, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x1024, .bf16⟩
  | .local _ .vmem, ⟨9, _⟩ => ⟨S512x256, .f32⟩
  | .local _ .vmem, ⟨10, _⟩ => ⟨S512x256, .f32⟩
  | .local _ .vmem, ⟨11, _⟩ => ⟨S512x256, .bf16⟩
  | .local _ .vmem, ⟨12, _⟩ => ⟨S512x256, .bf16⟩
  | .local _ .vmem, ⟨13, _⟩ => ⟨S512x256, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52_0 : Ref sig .tc := ⟨.hbm, 66, rfl⟩
abbrev main_v52_1 : Ref sig .tc := ⟨.hbm, 67, rfl⟩
abbrev main_v52_2 : Ref sig .tc := ⟨.hbm, 68, rfl⟩
abbrev main_v52_3 : Ref sig .tc := ⟨.hbm, 69, rfl⟩
abbrev main_v52_4 : Ref sig .tc := ⟨.hbm, 70, rfl⟩
abbrev main_v52_5 : Ref sig .tc := ⟨.hbm, 71, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_2 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S512x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S512x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S512x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S512x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S512x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]
-- ==== QkvSRefIdeal.lean ====
abbrev S128x4x1024 : Shape := ⟨3, ![128, 4, 1024]⟩
abbrev S128x1x1024 : Shape := ⟨3, ![128, 1, 1024]⟩
abbrev S1024x1536 : Shape := ⟨2, ![1024, 1536]⟩
abbrev S1536 : Shape := ⟨1, ![1536]⟩
abbrev S_ : Shape := ⟨0, ![]⟩
abbrev S128x4x1536 : Shape := ⟨3, ![128, 4, 1536]⟩
abbrev S1x1x1536 : Shape := ⟨3, ![1, 1, 1536]⟩
abbrev S128x4x256 : Shape := ⟨3, ![128, 4, 256]⟩
abbrev S4 : Shape := ⟨1, ![4]⟩
abbrev S128x4x16x64 : Shape := ⟨4, ![128, 4, 16, 64]⟩
abbrev S8 : Shape := ⟨1, ![8]⟩
abbrev S4x1 : Shape := ⟨2, ![4, 1]⟩
abbrev S1x8 : Shape := ⟨2, ![1, 8]⟩
abbrev S4x8 : Shape := ⟨2, ![4, 8]⟩
abbrev S1x4x1x8 : Shape := ⟨4, ![1, 4, 1, 8]⟩
abbrev S128x4x16x8 : Shape := ⟨4, ![128, 4, 16, 8]⟩
abbrev S128x4x16x16 : Shape := ⟨4, ![128, 4, 16, 16]⟩
abbrev S128x4x16x48 : Shape := ⟨4, ![128, 4, 16, 48]⟩
abbrev S128x4x4x64 : Shape := ⟨4, ![128, 4, 4, 64]⟩
abbrev S128x4x4x8 : Shape := ⟨4, ![128, 4, 4, 8]⟩
abbrev S128x4x4x16 : Shape := ⟨4, ![128, 4, 4, 16]⟩
abbrev S128x4x4x48 : Shape := ⟨4, ![128, 4, 4, 48]⟩
abbrev S128x4x4x4x64 : Shape := ⟨5, ![128, 4, 4, 4, 64]⟩
abbrev S512x256 : Shape := ⟨2, ![512, 256]⟩
abbrev S512x1024 : Shape := ⟨2, ![512, 1024]⟩

abbrev nBuf : Space → Nat
  | .hbm => 120
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S128x1x1024, .f32⟩
  | .hbm, ⟨2, _⟩ => ⟨S128x1x1024, .f32⟩
  | .hbm, ⟨3, _⟩ => ⟨S1024x1536, .f32⟩
  | .hbm, ⟨4, _⟩ => ⟨S1536, .f32⟩
  | .hbm, ⟨5, _⟩ => ⟨S_, .f32⟩
  | .hbm, ⟨6, _⟩ => ⟨S128x1x1024, .f32⟩
  | .hbm, ⟨7, _⟩ => ⟨S128x1x1024, .f32⟩
  | .hbm, ⟨8, _⟩ => ⟨S128x4x1024, .f32⟩
  | .hbm, ⟨9, _⟩ => ⟨S128x4x1024, .f32⟩
  | .hbm, ⟨10, _⟩ => ⟨S128x4x1024, .f32⟩
  | .hbm, ⟨11, _⟩ => ⟨S128x4x1024, .f32⟩
  | .hbm, ⟨12, _⟩ => ⟨S128x4x1536, .f32⟩
  | .hbm, ⟨13, _⟩ => ⟨S1x1x1536, .f32⟩
  | .hbm, ⟨14, _⟩ => ⟨S128x4x1536, .f32⟩
  | .hbm, ⟨15, _⟩ => ⟨S128x4x1536, .f32⟩
  | .hbm, ⟨16, _⟩ => ⟨S128x4x1024, .f32⟩
  | .hbm, ⟨17, _⟩ => ⟨S128x4x256, .f32⟩
  | .hbm, ⟨18, _⟩ => ⟨S128x4x256, .f32⟩
  | .hbm, ⟨19, _⟩ => ⟨S4, .i32⟩
  | .hbm, ⟨20, _⟩ => ⟨S_, .i32⟩
  | .hbm, ⟨21, _⟩ => ⟨S4, .i32⟩
  | .hbm, ⟨22, _⟩ => ⟨S4, .i32⟩
  | .hbm, ⟨23, _⟩ => ⟨S128x4x16x64, .f32⟩
  | .hbm, ⟨24, _⟩ => ⟨S8, .f32⟩
  | .hbm, ⟨25, _⟩ => ⟨S_, .f32⟩
  | .hbm, ⟨26, _⟩ => ⟨S8, .f32⟩
  | .hbm, ⟨27, _⟩ => ⟨S8, .f32⟩
  | .hbm, ⟨28, _⟩ => ⟨S_, .f32⟩
  | .hbm, ⟨29, _⟩ => ⟨S8, .f32⟩
  | .hbm, ⟨30, _⟩ => ⟨S8, .f32⟩
  | .hbm, ⟨31, _⟩ => ⟨S_, .f32⟩
  | .hbm, ⟨32, _⟩ => ⟨S8, .f32⟩
  | .hbm, ⟨33, _⟩ => ⟨S8, .f32⟩
  | .hbm, ⟨34, _⟩ => ⟨S_, .f32⟩
  | .hbm, ⟨35, _⟩ => ⟨S8, .f32⟩
  | .hbm, ⟨36, _⟩ => ⟨S8, .f32⟩
  | .hbm, ⟨37, _⟩ => ⟨S_, .f32⟩
  | .hbm, ⟨38, _⟩ => ⟨S8, .f32⟩
  | .hbm, ⟨39, _⟩ => ⟨S8, .f32⟩
  | .hbm, ⟨40, _⟩ => ⟨S4, .f32⟩
  | .hbm, ⟨41, _⟩ => ⟨S4x1, .f32⟩
  | .hbm, ⟨42, _⟩ => ⟨S1x8, .f32⟩
  | .hbm, ⟨43, _⟩ => ⟨S4x8, .f32⟩
  | .hbm, ⟨44, _⟩ => ⟨S4x8, .f32⟩
  | .hbm, ⟨45, _⟩ => ⟨S4x8, .f32⟩
  | .hbm, ⟨46, _⟩ => ⟨S4x8, .f32⟩
  | .hbm, ⟨47, _⟩ => ⟨S1x4x1x8, .f32⟩
  | .hbm, ⟨48, _⟩ => ⟨S4x8, .f32⟩
  | .hbm, ⟨49, _⟩ => ⟨S1x4x1x8, .f32⟩
  | .hbm, ⟨50, _⟩ => ⟨S128x4x16x8, .f32⟩
  | .hbm, ⟨51, _⟩ => ⟨S128x4x16x8, .f32⟩
  | .hbm, ⟨52, _⟩ => ⟨S128x4x16x8, .f32⟩
  | .hbm, ⟨53, _⟩ => ⟨S128x4x16x8, .f32⟩
  | .hbm, ⟨54, _⟩ => ⟨S128x4x16x8, .f32⟩
  | .hbm, ⟨55, _⟩ => ⟨S128x4x16x8, .f32⟩
  | .hbm, ⟨56, _⟩ => ⟨S128x4x16x8, .f32⟩
  | .hbm, ⟨57, _⟩ => ⟨S128x4x16x8, .f32⟩
  | .hbm, ⟨58, _⟩ => ⟨S128x4x16x8, .f32⟩
  | .hbm, ⟨59, _⟩ => ⟨S128x4x16x8, .f32⟩
  | .hbm, ⟨60, _⟩ => ⟨S128x4x16x8, .f32⟩
  | .hbm, ⟨61, _⟩ => ⟨S128x4x16x8, .f32⟩
  | .hbm, ⟨62, _⟩ => ⟨S128x4x16x16, .f32⟩
  | .hbm, ⟨63, _⟩ => ⟨S128x4x16x48, .f32⟩
  | .hbm, ⟨64, _⟩ => ⟨S128x4x16x64, .f32⟩
  | .hbm, ⟨65, _⟩ => ⟨S128x4x4x64, .f32⟩
  | .hbm, ⟨66, _⟩ => ⟨S8, .f32⟩
  | .hbm, ⟨67, _⟩ => ⟨S_, .f32⟩
  | .hbm, ⟨68, _⟩ => ⟨S8, .f32⟩
  | .hbm, ⟨69, _⟩ => ⟨S8, .f32⟩
  | .hbm, ⟨70, _⟩ => ⟨S_, .f32⟩
  | .hbm, ⟨71, _⟩ => ⟨S8, .f32⟩
  | .hbm, ⟨72, _⟩ => ⟨S8, .f32⟩
  | .hbm, ⟨73, _⟩ => ⟨S_, .f32⟩
  | .hbm, ⟨74, _⟩ => ⟨S8, .f32⟩
  | .hbm, ⟨75, _⟩ => ⟨S8, .f32⟩
  | .hbm, ⟨76, _⟩ => ⟨S_, .f32⟩
  | .hbm, ⟨77, _⟩ => ⟨S8, .f32⟩
  | .hbm, ⟨78, _⟩ => ⟨S8, .f32⟩
  | .hbm, ⟨79, _⟩ => ⟨S_, .f32⟩
  | .hbm, ⟨80, _⟩ => ⟨S8, .f32⟩
  | .hbm, ⟨81, _⟩ => ⟨S8, .f32⟩
  | .hbm, ⟨82, _⟩ => ⟨S4, .f32⟩
  | .hbm, ⟨83, _⟩ => ⟨S4x1, .f32⟩
  | .hbm, ⟨84, _⟩ => ⟨S1x8, .f32⟩
  | .hbm, ⟨85, _⟩ => ⟨S4x8, .f32⟩
  | .hbm, ⟨86, _⟩ => ⟨S4x8, .f32⟩
  | .hbm, ⟨87, _⟩ => ⟨S4x8, .f32⟩
  | .hbm, ⟨88, _⟩ => ⟨S4x8, .f32⟩
  | .hbm, ⟨89, _⟩ => ⟨S1x4x1x8, .f32⟩
  | .hbm, ⟨90, _⟩ => ⟨S4x8, .f32⟩
  | .hbm, ⟨91, _⟩ => ⟨S1x4x1x8, .f32⟩
  | .hbm, ⟨92, _⟩ => ⟨S128x4x4x8, .f32⟩
  | .hbm, ⟨93, _⟩ => ⟨S128x4x4x8, .f32⟩
  | .hbm, ⟨94, _⟩ => ⟨S128x4x4x8, .f32⟩
  | .hbm, ⟨95, _⟩ => ⟨S128x4x4x8, .f32⟩
  | .hbm, ⟨96, _⟩ => ⟨S128x4x4x8, .f32⟩
  | .hbm, ⟨97, _⟩ => ⟨S128x4x4x8, .f32⟩
  | .hbm, ⟨98, _⟩ => ⟨S128x4x4x8, .f32⟩
  | .hbm, ⟨99, _⟩ => ⟨S128x4x4x8, .f32⟩
  | .hbm, ⟨100, _⟩ => ⟨S128x4x4x8, .f32⟩
  | .hbm, ⟨101, _⟩ => ⟨S128x4x4x8, .f32⟩
  | .hbm, ⟨102, _⟩ => ⟨S128x4x4x8, .f32⟩
  | .hbm, ⟨103, _⟩ => ⟨S128x4x4x8, .f32⟩
  | .hbm, ⟨104, _⟩ => ⟨S128x4x4x16, .f32⟩
  | .hbm, ⟨105, _⟩ => ⟨S128x4x4x48, .f32⟩
  | .hbm, ⟨106, _⟩ => ⟨S128x4x4x64, .f32⟩
  | .hbm, ⟨107, _⟩ => ⟨S128x4x4x4x64, .f32⟩
  | .hbm, ⟨108, _⟩ => ⟨S_, .f32⟩
  | .hbm, ⟨109, _⟩ => ⟨S128x4x4x64, .f32⟩
  | .hbm, ⟨110, _⟩ => ⟨S512x256, .f32⟩
  | .hbm, ⟨111, _⟩ => ⟨S512x256, .f32⟩
  | .hbm, ⟨112, _⟩ => ⟨S_, .f32⟩
  | .hbm, ⟨113, _⟩ => ⟨S128x4x16x64, .f32⟩
  | .hbm, ⟨114, _⟩ => ⟨S128x4x16x64, .f32⟩
  | .hbm, ⟨115, _⟩ => ⟨S512x1024, .f32⟩
  | .hbm, ⟨116, _⟩ => ⟨S512x1024, .bf16⟩
  | .hbm, ⟨117, _⟩ => ⟨S512x256, .bf16⟩
  | .hbm, ⟨118, _⟩ => ⟨S512x256, .bf16⟩
  | .hbm, ⟨119, _⟩ => ⟨S512x256, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_cst_5 : Ref sig .tc := ⟨.hbm, 67, rfl⟩
abbrev main_v55 : Ref sig .tc := ⟨.hbm, 68, rfl⟩
abbrev main_v56 : Ref sig .tc := ⟨.hbm, 69, rfl⟩
abbrev main_cst_6 : Ref sig .tc := ⟨.hbm, 70, rfl⟩
abbrev main_v57 : Ref sig .tc := ⟨.hbm, 71, rfl⟩
abbrev main_v58 : Ref sig .tc := ⟨.hbm, 72, rfl⟩
abbrev main_cst_7 : Ref sig .tc := ⟨.hbm, 73, rfl⟩
abbrev main_v59 : Ref sig .tc := ⟨.hbm, 74, rfl⟩
abbrev main_v60 : Ref sig .tc := ⟨.hbm, 75, rfl⟩
abbrev main_cst_8 : Ref sig .tc := ⟨.hbm, 76, rfl⟩
abbrev main_v61 : Ref sig .tc := ⟨.hbm, 77, rfl⟩
abbrev main_v62 : Ref sig .tc := ⟨.hbm, 78, rfl⟩
abbrev main_cst_9 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_cst_10 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_cst_11 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩

abbrev nD : Nat := 1
abbrev τ : Topo := Topo.v7x

variable {F : FTy → Type} [FloatOps F]
-- ==== FfnOutS.lean ====
abbrev S512x1024 : Shape := ⟨2, ![512, 1024]⟩
abbrev S128x1x1024 : Shape := ⟨3, ![128, 1, 1024]⟩
abbrev S1024x256 : Shape := ⟨2, ![1024, 256]⟩
abbrev S256x1024 : Shape := ⟨2, ![256, 1024]⟩
abbrev S1024 : Shape := ⟨1, ![1024]⟩
abbrev S128x1024 : Shape := ⟨2, ![128, 1024]⟩
abbrev S128x4x1024 : Shape := ⟨3, ![128, 4, 1024]⟩
abbrev S1x512x1024 : Shape := ⟨3, ![1, 512, 1024]⟩
abbrev S1x1024 : Shape := ⟨2, ![1, 1024]⟩
abbrev S512x256 : Shape := ⟨2, ![512, 256]⟩
abbrev S512 : Shape := ⟨1, ![512]⟩
abbrev S512x1 : Shape := ⟨2, ![512, 1]⟩

abbrev nBuf : Space → Nat
  | .hbm => 19
  | .vmem => 10
  | .smem => 0
  | _ => 0

abbrev bufTy : (tb : Table) → Fin (tcTables nBuf tb) → BufTy
  | .hbm, ⟨0, _⟩ => ⟨S512x1024, .bf16⟩
  | .hbm, ⟨1, _⟩ => ⟨S512x1024, .f32⟩
  | .hbm, ⟨2, _⟩ => ⟨S512x1024, .f32⟩
  | .hbm, ⟨3, _⟩ => ⟨S128x1x1024, .f32⟩
  | .hbm, ⟨4, _⟩ => ⟨S1024x256, .f32⟩
  | .hbm, ⟨5, _⟩ => ⟨S1024x256, .f32⟩
  | .hbm, ⟨6, _⟩ => ⟨S256x1024, .f32⟩
  | .hbm, ⟨7, _⟩ => ⟨S1024, .f32⟩
  | .hbm, ⟨8, _⟩ => ⟨S1024, .f32⟩
  | .hbm, ⟨9, _⟩ => ⟨S128x1024, .f32⟩
  | .hbm, ⟨10, _⟩ => ⟨S128x4x1024, .f32⟩
  | .hbm, ⟨11, _⟩ => ⟨S512x1024, .f32⟩
  | .hbm, ⟨12, _⟩ => ⟨S1x512x1024, .f32⟩
  | .hbm, ⟨13, _⟩ => ⟨S1024x256, .bf16⟩
  | .hbm, ⟨14, _⟩ => ⟨S1024x256, .bf16⟩
  | .hbm, ⟨15, _⟩ => ⟨S256x1024, .bf16⟩
  | .hbm, ⟨16, _⟩ => ⟨S1x1024, .f32⟩
  | .hbm, ⟨17, _⟩ => ⟨S1x1024, .f32⟩
  | .hbm, ⟨18, _⟩ => ⟨S512x1024, .f32⟩
  | .local _ .vmem, ⟨0, _⟩ => ⟨S512x1024, .bf16⟩
  | .local _ .vmem, ⟨1, _⟩ => ⟨S512x1024, .f32⟩
  | .local _ .vmem, ⟨2, _⟩ => ⟨S512x1024, .f32⟩
  | .local _ .vmem, ⟨3, _⟩ => ⟨S1x512x1024, .f32⟩
  | .local _ .vmem, ⟨4, _⟩ => ⟨S1024x256, .bf16⟩
  | .local _ .vmem, ⟨5, _⟩ => ⟨S1024x256, .bf16⟩
  | .local _ .vmem, ⟨6, _⟩ => ⟨S256x1024, .bf16⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== FfnOutSRefIdeal.lean ====
abbrev S512x1024 : Shape := ⟨2, ![512, 1024]⟩
abbrev S128x1x1024 : Shape := ⟨3, ![128, 1, 1024]⟩
abbrev S1024x256 : Shape := ⟨2, ![1024, 256]⟩
abbrev S256x1024 : Shape := ⟨2, ![256, 1024]⟩
abbrev S1024 : Shape := ⟨1, ![1024]⟩
abbrev S512x256 : Shape := ⟨2, ![512, 256]⟩
abbrev S_ : Shape := ⟨0, ![]⟩
abbrev S128x4x1024 : Shape := ⟨3, ![128, 4, 1024]⟩
abbrev S128x4 : Shape := ⟨2, ![128, 4]⟩
abbrev S128x4x1 : Shape := ⟨3, ![128, 4, 1]⟩
abbrev S1x1x1024 : Shape := ⟨3, ![1, 1, 1024]⟩

abbrev nBuf : Space → Nat
  | .hbm => 62
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S512x1024, .f32⟩
  | .hbm, ⟨2, _⟩ => ⟨S512x1024, .f32⟩
  | .hbm, ⟨3, _⟩ => ⟨S128x1x1024, .f32⟩
  | .hbm, ⟨4, _⟩ => ⟨S1024x256, .f32⟩
  | .hbm, ⟨5, _⟩ => ⟨S1024x256, .f32⟩
  | .hbm, ⟨6, _⟩ => ⟨S256x1024, .f32⟩
  | .hbm, ⟨7, _⟩ => ⟨S1024, .f32⟩
  | .hbm, ⟨8, _⟩ => ⟨S1024, .f32⟩
  | .hbm, ⟨9, _⟩ => ⟨S512x1024, .f32⟩
  | .hbm, ⟨10, _⟩ => ⟨S512x256, .f32⟩
  | .hbm, ⟨11, _⟩ => ⟨S512x256, .f32⟩
  | .hbm, ⟨12, _⟩ => ⟨S512x256, .f32⟩
  | .hbm, ⟨13, _⟩ => ⟨S_, .f32⟩
  | .hbm, ⟨14, _⟩ => ⟨S512x256, .f32⟩
  | .hbm, ⟨15, _⟩ => ⟨S512x256, .f32⟩
  | .hbm, ⟨16, _⟩ => ⟨S_, .f32⟩
  | .hbm, ⟨17, _⟩ => ⟨S512x256, .f32⟩
  | .hbm, ⟨18, _⟩ => ⟨S512x256, .f32⟩
  | .hbm, ⟨19, _⟩ => ⟨S512x256, .f32⟩
  | .hbm, ⟨20, _⟩ => ⟨S512x256, .f32⟩
  | .hbm, ⟨21, _⟩ => ⟨S512x256, .f32⟩
  | .hbm, ⟨22, _⟩ => ⟨S512x1024, .f32⟩
  | .hbm, ⟨23, _⟩ => ⟨S128x4x1024, .f32⟩
  | .hbm, ⟨24, _⟩ => ⟨S_, .f32⟩
  | .hbm, ⟨25, _⟩ => ⟨S128x4x1024, .f32⟩
  | .hbm, ⟨26, _⟩ => ⟨S128x4x1024, .f32⟩
  | .hbm, ⟨27, _⟩ => ⟨S512x1024, .f32⟩
  | .hbm, ⟨28, _⟩ => ⟨S128x4x1024, .f32⟩
  | .hbm, ⟨29, _⟩ => ⟨S128x4x1024, .f32⟩
  | .hbm, ⟨30, _⟩ => ⟨S128x4x1024, .f32⟩
  | .hbm, ⟨31, _⟩ => ⟨S128x4x1024, .f32⟩
  | .hbm, ⟨32, _⟩ => ⟨S_, .f32⟩
  | .hbm, ⟨33, _⟩ => ⟨S128x4, .f32⟩
  | .hbm, ⟨34, _⟩ => ⟨S128x4x1, .f32⟩
  | .hbm, ⟨35, _⟩ => ⟨S_, .f32⟩
  | .hbm, ⟨36, _⟩ => ⟨S128x4x1, .f32⟩
  | .hbm, ⟨37, _⟩ => ⟨S128x4x1, .f32⟩
  | .hbm, ⟨38, _⟩ => ⟨S128x4x1024, .f32⟩
  | .hbm, ⟨39, _⟩ => ⟨S128x4x1024, .f32⟩
  | .hbm, ⟨40, _⟩ => ⟨S128x4x1024, .f32⟩
  | .hbm, ⟨41, _⟩ => ⟨S_, .f32⟩
  | .hbm, ⟨42, _⟩ => ⟨S128x4, .f32⟩
  | .hbm, ⟨43, _⟩ => ⟨S128x4x1, .f32⟩
  | .hbm, ⟨44, _⟩ => ⟨S_, .f32⟩
  | .hbm, ⟨45, _⟩ => ⟨S128x4x1, .f32⟩
  | .hbm, ⟨46, _⟩ => ⟨S128x4x1, .f32⟩
  | .hbm, ⟨47, _⟩ => ⟨S128x4x1024, .f32⟩
  | .hbm, ⟨48, _⟩ => ⟨S128x4x1024, .f32⟩
  | .hbm, ⟨49, _⟩ => ⟨S_, .f32⟩
  | .hbm, ⟨50, _⟩ => ⟨S128x4x1, .f32⟩
  | .hbm, ⟨51, _⟩ => ⟨S128x4x1, .f32⟩
  | .hbm, ⟨52, _⟩ => ⟨S128x4x1, .f32⟩
  | .hbm, ⟨53, _⟩ => ⟨S128x4x1024, .f32⟩
  | .hbm, ⟨54, _⟩ => ⟨S128x4x1024, .f32⟩
  | .hbm, ⟨55, _⟩ => ⟨S1x1x1024, .f32⟩
  | .hbm, ⟨56, _⟩ => ⟨S128x4x1024, .f32⟩
  | .hbm, ⟨57, _⟩ => ⟨S128x4x1024, .f32⟩
  | .hbm, ⟨58, _⟩ => ⟨S1x1x1024, .f32⟩
  | .hbm, ⟨59, _⟩ => ⟨S128x4x1024, .f32⟩
  | .hbm, ⟨60, _⟩ => ⟨S128x4x1024, .f32⟩
  | .hbm, ⟨61, _⟩ => ⟨S512x1024, .f32⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_0 : Ref sig .tc := ⟨.hbm, 32, rfl⟩
abbrev main_v14 : Ref sig .tc := ⟨.hbm, 33, rfl⟩
abbrev main_v15 : Ref sig .tc := ⟨.hbm, 34, rfl⟩
abbrev main_cst_1 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_2 : Ref sig .tc := ⟨.hbm, 41, rfl⟩
abbrev main_v21 : Ref sig .tc := ⟨.hbm, 42, rfl⟩
abbrev main_v22 : Ref sig .tc := ⟨.hbm, 43, rfl⟩
abbrev main_cst_3 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_4 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩

abbrev nD : Nat := 1
abbrev τ : Topo := Topo.v7x

variable {F : FTy → Type} [FloatOps F]
-- ==== QkvW.lean ====
abbrev S8x2048x1024 : Shape := ⟨3, ![8, 2048, 1024]⟩
abbrev S8x1x1024 : Shape := ⟨3, ![8, 1, 1024]⟩
abbrev S1024x1536 : Shape := ⟨2, ![1024, 1536]⟩
abbrev S1536 : Shape := ⟨1, ![1536]⟩
abbrev S2048 : Shape := ⟨1, ![2048]⟩
abbrev S8 : Shape := ⟨1, ![8]⟩
abbrev S_ : Shape := ⟨0, ![]⟩
abbrev S2048x1 : Shape := ⟨2, ![2048, 1]⟩
abbrev S1x8 : Shape := ⟨2, ![1, 8]⟩
abbrev S2048x8 : Shape := ⟨2, ![2048, 8]⟩
abbrev S2048x48 : Shape := ⟨2, ![2048, 48]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S16384x1024 : Shape := ⟨2, ![16384, 1024]⟩
abbrev S1x1536 : Shape := ⟨2, ![1, 1536]⟩
abbrev S16384x256 : Shape := ⟨2, ![16384, 256]⟩
abbrev S512x1024 : Shape := ⟨2, ![512, 1024]⟩
abbrev S1x1x1024 : Shape := ⟨3, ![1, 1, 1024]⟩
abbrev S512x128 : Shape := ⟨2, ![512, 128]⟩
abbrev S512x256 : Shape := ⟨2, ![512, 256]⟩
abbrev S1x1024 : Shape := ⟨2, ![1, 1024]⟩
abbrev S512x1536 : Shape := ⟨2, ![512, 1536]⟩
abbrev S8x2048x4x64 : Shape := ⟨4, ![8, 2048, 4, 64]⟩
abbrev S8x128x4x64 : Shape := ⟨4, ![8, 128, 4, 64]⟩

abbrev nBuf : Space → Nat
  | .hbm => 61
  | .vmem => 24
  | .smem => 0
  | _ => 0

abbrev bufTy : (tb : Table) → Fin (tcTables nBuf tb) → BufTy
  | .hbm, ⟨0, _⟩ => ⟨S8x2048x1024, .f32⟩
  | .hbm, ⟨1, _⟩ => ⟨S8x1x1024, .f32⟩
  | .hbm, ⟨2, _⟩ => ⟨S8x1x1024, .f32⟩
  | .hbm, ⟨3, _⟩ => ⟨S1024x1536, .f32⟩
  | .hbm, ⟨4, _⟩ => ⟨S1536, .f32⟩
  | .hbm, ⟨5, _⟩ => ⟨S2048, .i32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S_, .f32⟩
  | .hbm, ⟨20, _⟩ => ⟨S8, .f32⟩
  | .hbm, ⟨21, _⟩ => ⟨S8, .f32⟩
  | .hbm, ⟨22, _⟩ => ⟨S2048, .f32⟩
  | .hbm, ⟨23, _⟩ => ⟨S2048x1, .f32⟩
  | .hbm, ⟨24, _⟩ => ⟨S1x8, .f32⟩
  | .hbm, ⟨25, _⟩ => ⟨S2048x8, .f32⟩
  | .hbm, ⟨26, _⟩ => ⟨S2048x8, .f32⟩
  | .hbm, ⟨27, _⟩ => ⟨S2048x8, .f32⟩
  | .hbm, ⟨28, _⟩ => ⟨S2048x8, .f32⟩
  | .hbm, ⟨29, _⟩ => ⟨S2048x8, .f32⟩
  | .hbm, ⟨30, _⟩ => ⟨S_, .f32⟩
  | .hbm, ⟨31, _⟩ => ⟨S2048x48, .f32⟩
  | .hbm, ⟨32, _⟩ => ⟨S_, .f32⟩
  | .hbm, ⟨33, _⟩ => ⟨S2048x48, .f32⟩
  | .hbm, ⟨34, _⟩ => ⟨S_, .f32⟩
  | .hbm, ⟨35, _⟩ => ⟨S2048x8, .f32⟩
  | .hbm, ⟨36, _⟩ => ⟨S2048x64, .f32⟩
  | .hbm, ⟨37, _⟩ => ⟨S2048x8, .f32⟩
  | .hbm, ⟨38, _⟩ => ⟨S2048x64, .f32⟩
  | .hbm, ⟨39, _⟩ => ⟨S2048x64, .f32⟩
  | .hbm, ⟨40, _⟩ => ⟨S1x2048x1x64, .f32⟩
  | .hbm, ⟨41, _⟩ => ⟨S1x2048x2x64, .f32⟩
  | .hbm, ⟨42, _⟩ => ⟨S2048x128, .f32⟩
  | .hbm, ⟨43, _⟩ => ⟨S1x2048x1x64, .f32⟩
  | .hbm, ⟨44, _⟩ => ⟨S1x2048x2x64, .f32⟩
  | .hbm, ⟨45, _⟩ => ⟨S2048x128, .f32⟩
  | .hbm, ⟨46, _⟩ => ⟨S1x2048x1x64, .f32⟩
  | .hbm, ⟨47, _⟩ => ⟨S1x2048x2x64, .f32⟩
  | .hbm, ⟨48, _⟩ => ⟨S2048x128, .f32⟩
  | .hbm, ⟨49, _⟩ => ⟨S16384x1024, .f32⟩
  | .hbm, ⟨50, _⟩ => ⟨S1024x1536, .bf16⟩
  | .hbm, ⟨51, _⟩ => ⟨S1x1536, .f32⟩
  | .hbm, ⟨52, _⟩ => ⟨S16384x1024, .bf16⟩
  | .hbm, ⟨53, _⟩ => ⟨S16384x256, .f32⟩
  | .hbm, ⟨54, _⟩ => ⟨S16384x256, .f32⟩
  | .hbm, ⟨55, _⟩ => ⟨S16384x256, .bf16⟩
  | .hbm, ⟨56, _⟩ => ⟨S16384x256, .bf16⟩
  | .hbm, ⟨57, _⟩ => ⟨S8x2048x4x64, .f32⟩
  | .hbm, ⟨58, _⟩ => ⟨S8x2048x4x64, .f32⟩
  | .hbm, ⟨59, _⟩ => ⟨S8x128x4x64, .f32⟩
  | .hbm, ⟨60, _⟩ => ⟨S8x128x4x64, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x1536, .bf16⟩
  | .local _ .vmem, ⟨7, _⟩ => ⟨S1x1536, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x1024, .bf16⟩
  | .local _ .vmem, ⟨15, _⟩ => ⟨S512x1024, .bf16⟩
  | .local _ .vmem, ⟨16, _⟩ => ⟨S512x256, .f32⟩
  | .local _ .vmem, ⟨17, _⟩ => ⟨S512x256, .f32⟩
  | .local _ .vmem, ⟨18, _⟩ => ⟨S512x256, .f32⟩
  | .local _ .vmem, ⟨19, _⟩ => ⟨S512x256, .f32⟩
  | .local _ .vmem, ⟨20, _⟩ => ⟨S512x256, .bf16⟩
  | .local _ .vmem, ⟨21, _⟩ => ⟨S512x256, .bf16⟩
  | .local _ .vmem, ⟨22, _⟩ => ⟨S512x256, .bf16⟩
  | .local _ .vmem, ⟨23, _⟩ => ⟨S512x256, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39_0 : Ref sig .tc := ⟨.hbm, 52, rfl⟩
abbrev main_v39_1 : Ref sig .tc := ⟨.hbm, 53, rfl⟩
abbrev main_v39_2 : Ref sig .tc := ⟨.hbm, 54, rfl⟩
abbrev main_v39_3 : Ref sig .tc := ⟨.hbm, 55, rfl⟩
abbrev main_v39_4 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== QkvWRefIdeal.lean ====
abbrev S8x2048x1024 : Shape := ⟨3, ![8, 2048, 1024]⟩
abbrev S8x1x1024 : Shape := ⟨3, ![8, 1, 1024]⟩
abbrev S1024x1536 : Shape := ⟨2, ![1024, 1536]⟩
abbrev S1536 : Shape := ⟨1, ![1536]⟩
abbrev S_ : Shape := ⟨0, ![]⟩
abbrev S8x2048x1536 : Shape := ⟨3, ![8, 2048, 1536]⟩
abbrev S1x1x1536 : Shape := ⟨3, ![1, 1, 1536]⟩
abbrev S8x2048x256 : Shape := ⟨3, ![8, 2048, 256]⟩
abbrev S2048 : Shape := ⟨1, ![2048]⟩
abbrev S8x2048x16x64 : Shape := ⟨4, ![8, 2048, 16, 64]⟩
abbrev S8 : Shape := ⟨1, ![8]⟩
abbrev S2048x1 : Shape := ⟨2, ![2048, 1]⟩
abbrev S1x8 : Shape := ⟨2, ![1, 8]⟩
abbrev S2048x8 : Shape := ⟨2, ![2048, 8]⟩
abbrev S1x2048x1x8 : Shape := ⟨4, ![1, 2048, 1, 8]⟩
abbrev S8x2048x16x8 : Shape := ⟨4, ![8, 2048, 16, 8]⟩
abbrev S8x2048x16x16 : Shape := ⟨4, ![8, 2048, 16, 16]⟩
abbrev S8x2048x16x48 : Shape := ⟨4, ![8, 2048, 16, 48]⟩
abbrev S8x2048x4x64 : Shape := ⟨4, ![8, 2048, 4, 64]⟩
abbrev S8x2048x4x8 : Shape := ⟨4, ![8, 2048, 4, 8]⟩
abbrev S8x2048x4x16 : Shape := ⟨4, ![8, 2048, 4, 16]⟩
abbrev S8x2048x4x48 : Shape := ⟨4, ![8, 2048, 4, 48]⟩
abbrev S8x2048x4x4x64 : Shape := ⟨5, ![8, 2048, 4, 4, 64]⟩
abbrev S16384x256 : Shape := ⟨2, ![16384, 256]⟩
abbrev S16384x1024 : Shape := ⟨2, ![16384, 1024]⟩
abbrev S8x128x4x64 : Shape := ⟨4, ![8, 128, 4, 64]⟩

abbrev nBuf : Space → Nat
  | .hbm => 121
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x1x1024, .f32⟩
  | .hbm, ⟨2, _⟩ => ⟨S8x1x1024, .f32⟩
  | .hbm, ⟨3, _⟩ => ⟨S1024x1536, .f32⟩
  | .hbm, ⟨4, _⟩ => ⟨S1536, .f32⟩
  | .hbm, ⟨5, _⟩ => ⟨S_, .f32⟩
  | .hbm, ⟨6, _⟩ => ⟨S8x1x1024, .f32⟩
  | .hbm, ⟨7, _⟩ => ⟨S8x1x1024, .f32⟩
  | .hbm, ⟨8, _⟩ => ⟨S8x2048x1024, .f32⟩
  | .hbm, ⟨9, _⟩ => ⟨S8x2048x1024, .f32⟩
  | .hbm, ⟨10, _⟩ => ⟨S8x2048x1024, .f32⟩
  | .hbm, ⟨11, _⟩ => ⟨S8x2048x1024, .f32⟩
  | .hbm, ⟨12, _⟩ => ⟨S8x2048x1536, .f32⟩
  | .hbm, ⟨13, _⟩ => ⟨S1x1x1536, .f32⟩
  | .hbm, ⟨14, _⟩ => ⟨S8x2048x1536, .f32⟩
  | .hbm, ⟨15, _⟩ => ⟨S8x2048x1536, .f32⟩
  | .hbm, ⟨16, _⟩ => ⟨S8x2048x1024, .f32⟩
  | .hbm, ⟨17, _⟩ => ⟨S8x2048x256, .f32⟩
  | .hbm, ⟨18, _⟩ => ⟨S8x2048x256, .f32⟩
  | .hbm, ⟨19, _⟩ => ⟨S2048, .i32⟩
  | .hbm, ⟨20, _⟩ => ⟨S8x2048x16x64, .f32⟩
  | .hbm, ⟨21, _⟩ => ⟨S8, .f32⟩
  | .hbm, ⟨22, _⟩ => ⟨S_, .f32⟩
  | .hbm, ⟨23, _⟩ => ⟨S8, .f32⟩
  | .hbm, ⟨24, _⟩ => ⟨S8, .f32⟩
  | .hbm, ⟨25, _⟩ => ⟨S_, .f32⟩
  | .hbm, ⟨26, _⟩ => ⟨S8, .f32⟩
  | .hbm, ⟨27, _⟩ => ⟨S8, .f32⟩
  | .hbm, ⟨28, _⟩ => ⟨S_, .f32⟩
  | .hbm, ⟨29, _⟩ => ⟨S8, .f32⟩
  | .hbm, ⟨30, _⟩ => ⟨S8, .f32⟩
  | .hbm, ⟨31, _⟩ => ⟨S_, .f32⟩
  | .hbm, ⟨32, _⟩ => ⟨S8, .f32⟩
  | .hbm, ⟨33, _⟩ => ⟨S8, .f32⟩
  | .hbm, ⟨34, _⟩ => ⟨S_, .f32⟩
  | .hbm, ⟨35, _⟩ => ⟨S8, .f32⟩
  | .hbm, ⟨36, _⟩ => ⟨S8, .f32⟩
  | .hbm, ⟨37, _⟩ => ⟨S2048, .f32⟩
  | .hbm, ⟨38, _⟩ => ⟨S2048x1, .f32⟩
  | .hbm, ⟨39, _⟩ => ⟨S1x8, .f32⟩
  | .hbm, ⟨40, _⟩ => ⟨S2048x8, .f32⟩
  | .hbm, ⟨41, _⟩ => ⟨S2048x8, .f32⟩
  | .hbm, ⟨42, _⟩ => ⟨S2048x8, .f32⟩
  | .hbm, ⟨43, _⟩ => ⟨S2048x8, .f32⟩
  | .hbm, ⟨44, _⟩ => ⟨S1x2048x1x8, .f32⟩
  | .hbm, ⟨45, _⟩ => ⟨S2048x8, .f32⟩
  | .hbm, ⟨46, _⟩ => ⟨S1x2048x1x8, .f32⟩
  | .hbm, ⟨47, _⟩ => ⟨S8x2048x16x8, .f32⟩
  | .hbm, ⟨48, _⟩ => ⟨S8x2048x16x8, .f32⟩
  | .hbm, ⟨49, _⟩ => ⟨S8x2048x16x8, .f32⟩
  | .hbm, ⟨50, _⟩ => ⟨S8x2048x16x8, .f32⟩
  | .hbm, ⟨51, _⟩ => ⟨S8x2048x16x8, .f32⟩
  | .hbm, ⟨52, _⟩ => ⟨S8x2048x16x8, .f32⟩
  | .hbm, ⟨53, _⟩ => ⟨S8x2048x16x8, .f32⟩
  | .hbm, ⟨54, _⟩ => ⟨S8x2048x16x8, .f32⟩
  | .hbm, ⟨55, _⟩ => ⟨S8x2048x16x8, .f32⟩
  | .hbm, ⟨56, _⟩ => ⟨S8x2048x16x8, .f32⟩
  | .hbm, ⟨57, _⟩ => ⟨S8x2048x16x8, .f32⟩
  | .hbm, ⟨58, _⟩ => ⟨S8x2048x16x8, .f32⟩
  | .hbm, ⟨59, _⟩ => ⟨S8x2048x16x16, .f32⟩
  | .hbm, ⟨60, _⟩ => ⟨S8x2048x16x48, .f32⟩
  | .hbm, ⟨61, _⟩ => ⟨S8x2048x16x64, .f32⟩
  | .hbm, ⟨62, _⟩ => ⟨S8x2048x4x64, .f32⟩
  | .hbm, ⟨63, _⟩ => ⟨S8, .f32⟩
  | .hbm, ⟨64, _⟩ => ⟨S_, .f32⟩
  | .hbm, ⟨65, _⟩ => ⟨S8, .f32⟩
  | .hbm, ⟨66, _⟩ => ⟨S8, .f32⟩
  | .hbm, ⟨67, _⟩ => ⟨S_, .f32⟩
  | .hbm, ⟨68, _⟩ => ⟨S8, .f32⟩
  | .hbm, ⟨69, _⟩ => ⟨S8, .f32⟩
  | .hbm, ⟨70, _⟩ => ⟨S_, .f32⟩
  | .hbm, ⟨71, _⟩ => ⟨S8, .f32⟩
  | .hbm, ⟨72, _⟩ => ⟨S8, .f32⟩
  | .hbm, ⟨73, _⟩ => ⟨S_, .f32⟩
  | .hbm, ⟨74, _⟩ => ⟨S8, .f32⟩
  | .hbm, ⟨75, _⟩ => ⟨S8, .f32⟩
  | .hbm, ⟨76, _⟩ => ⟨S_, .f32⟩
  | .hbm, ⟨77, _⟩ => ⟨S8, .f32⟩
  | .hbm, ⟨78, _⟩ => ⟨S8, .f32⟩
  | .hbm, ⟨79, _⟩ => ⟨S2048, .f32⟩
  | .hbm, ⟨80, _⟩ => ⟨S2048x1, .f32⟩
  | .hbm, ⟨81, _⟩ => ⟨S1x8, .f32⟩
  | .hbm, ⟨82, _⟩ => ⟨S2048x8, .f32⟩
  | .hbm, ⟨83, _⟩ => ⟨S2048x8, .f32⟩
  | .hbm, ⟨84, _⟩ => ⟨S2048x8, .f32⟩
  | .hbm, ⟨85, _⟩ => ⟨S2048x8, .f32⟩
  | .hbm, ⟨86, _⟩ => ⟨S1x2048x1x8, .f32⟩
  | .hbm, ⟨87, _⟩ => ⟨S2048x8, .f32⟩
  | .hbm, ⟨88, _⟩ => ⟨S1x2048x1x8, .f32⟩
  | .hbm, ⟨89, _⟩ => ⟨S8x2048x4x8, .f32⟩
  | .hbm, ⟨90, _⟩ => ⟨S8x2048x4x8, .f32⟩
  | .hbm, ⟨91, _⟩ => ⟨S8x2048x4x8, .f32⟩
  | .hbm, ⟨92, _⟩ => ⟨S8x2048x4x8, .f32⟩
  | .hbm, ⟨93, _⟩ => ⟨S8x2048x4x8, .f32⟩
  | .hbm, ⟨94, _⟩ => ⟨S8x2048x4x8, .f32⟩
  | .hbm, ⟨95, _⟩ => ⟨S8x2048x4x8, .f32⟩
  | .hbm, ⟨96, _⟩ => ⟨S8x2048x4x8, .f32⟩
  | .hbm, ⟨97, _⟩ => ⟨S8x2048x4x8, .f32⟩
  | .hbm, ⟨98, _⟩ => ⟨S8x2048x4x8, .f32⟩
  | .hbm, ⟨99, _⟩ => ⟨S8x2048x4x8, .f32⟩
  | .hbm, ⟨100, _⟩ => ⟨S8x2048x4x8, .f32⟩
  | .hbm, ⟨101, _⟩ => ⟨S8x2048x4x16, .f32⟩
  | .hbm, ⟨102, _⟩ => ⟨S8x2048x4x48, .f32⟩
  | .hbm, ⟨103, _⟩ => ⟨S8x2048x4x64, .f32⟩
  | .hbm, ⟨104, _⟩ => ⟨S8x2048x4x4x64, .f32⟩
  | .hbm, ⟨105, _⟩ => ⟨S_, .f32⟩
  | .hbm, ⟨106, _⟩ => ⟨S8x2048x4x64, .f32⟩
  | .hbm, ⟨107, _⟩ => ⟨S16384x256, .f32⟩
  | .hbm, ⟨108, _⟩ => ⟨S16384x256, .f32⟩
  | .hbm, ⟨109, _⟩ => ⟨S_, .f32⟩
  | .hbm, ⟨110, _⟩ => ⟨S8x2048x16x64, .f32⟩
  | .hbm, ⟨111, _⟩ => ⟨S8x2048x16x64, .f32⟩
  | .hbm, ⟨112, _⟩ => ⟨S16384x1024, .f32⟩
  | .hbm, ⟨113, _⟩ => ⟨S16384x1024, .bf16⟩
  | .hbm, ⟨114, _⟩ => ⟨S16384x256, .bf16⟩
  | .hbm, ⟨115, _⟩ => ⟨S16384x256, .bf16⟩
  | .hbm, ⟨116, _⟩ => ⟨S16384x256, .f32⟩
  | .hbm, ⟨117, _⟩ => ⟨S8x2048x4x64, .f32⟩
  | .hbm, ⟨118, _⟩ => ⟨S8x2048x4x64, .f32⟩
  | .hbm, ⟨119, _⟩ => ⟨S8x128x4x64, .f32⟩
  | .hbm, ⟨120, _⟩ => ⟨S8x128x4x64, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst_5 : Ref sig .tc := ⟨.hbm, 64, rfl⟩
abbrev main_v53 : Ref sig .tc := ⟨.hbm, 65, rfl⟩
abbrev main_v54 : Ref sig .tc := ⟨.hbm, 66, rfl⟩
abbrev main_cst_6 : Ref sig .tc := ⟨.hbm, 67, rfl⟩
abbrev main_v55 : Ref sig .tc := ⟨.hbm, 68, rfl⟩
abbrev main_v56 : Ref sig .tc := ⟨.hbm, 69, rfl⟩
abbrev main_cst_7 : Ref sig .tc := ⟨.hbm, 70, rfl⟩
abbrev main_v57 : Ref sig .tc := ⟨.hbm, 71, rfl⟩
abbrev main_v58 : Ref sig .tc := ⟨.hbm, 72, rfl⟩
abbrev main_cst_8 : Ref sig .tc := ⟨.hbm, 73, rfl⟩
abbrev main_v59 : Ref sig .tc := ⟨.hbm, 74, rfl⟩
abbrev main_v60 : Ref sig .tc := ⟨.hbm, 75, rfl⟩
abbrev main_cst_9 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_cst_10 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_cst_11 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩

abbrev nD : Nat := 1
abbrev τ : Topo := Topo.v7x

variable {F : FTy → Type} [FloatOps F]
-- ==== QkvWS.lean ====
abbrev S128x4x1024 : Shape := ⟨3, ![128, 4, 1024]⟩
abbrev S128x1x1024 : Shape := ⟨3, ![128, 1, 1024]⟩
abbrev S1024x1536 : Shape := ⟨2, ![1024, 1536]⟩
abbrev S1536 : Shape := ⟨1, ![1536]⟩
abbrev S128x128x4x64 : Shape := ⟨4, ![128, 128, 4, 64]⟩
abbrev S4 : Shape := ⟨1, ![4]⟩
abbrev S_ : Shape := ⟨0, ![]⟩
abbrev S1x4 : Shape := ⟨2, ![1, 4]⟩
abbrev S128x4 : Shape := ⟨2, ![128, 4]⟩
abbrev S512 : Shape := ⟨1, ![512]⟩
abbrev S8 : Shape := ⟨1, ![8]⟩
abbrev S512x1 : Shape := ⟨2, ![512, 1]⟩
abbrev S1x8 : Shape := ⟨2, ![1, 8]⟩
abbrev S512x8 : Shape := ⟨2, ![512, 8]⟩
abbrev S512x48 : Shape := ⟨2, ![512, 48]⟩
abbrev S512x64 : Shape := ⟨2, ![512, 64]⟩
abbrev S1x512x1x64 : Shape := ⟨4, ![1, 512, 1, 64]⟩
abbrev S1x512x2x64 : Shape := ⟨4, ![1, 512, 2, 64]⟩
abbrev S512x128 : Shape := ⟨2, ![512, 128]⟩
abbrev S512x1024 : Shape := ⟨2, ![512, 1024]⟩
abbrev S128x1024 : Shape := ⟨2, ![128, 1024]⟩
abbrev S1x512x1024 : Shape := ⟨3, ![1, 512, 1024]⟩
abbrev S1x1536 : Shape := ⟨2, ![1, 1536]⟩
abbrev S512x256 : Shape := ⟨2, ![512, 256]⟩
abbrev S512x1536 : Shape := ⟨2, ![512, 1536]⟩
abbrev S128x4x4x64 : Shape := ⟨4, ![128, 4, 4, 64]⟩
abbrev S128x132x4x64 : Shape := ⟨4, ![128, 132, 4, 64]⟩

abbrev nBuf : Space → Nat
  | .hbm => 79
  | .vmem => 13
  | .smem => 0
  | _ => 0

abbrev bufTy : (tb : Table) → Fin (tcTables nBuf tb) → BufTy
  | .hbm, ⟨0, _⟩ => ⟨S128x4x1024, .f32⟩
  | .hbm, ⟨1, _⟩ => ⟨S128x1x1024, .f32⟩
  | .hbm, ⟨2, _⟩ => ⟨S128x1x1024, .f32⟩
  | .hbm, ⟨3, _⟩ => ⟨S1024x1536, .f32⟩
  | .hbm, ⟨4, _⟩ => ⟨S1536, .f32⟩
  | .hbm, ⟨5, _⟩ => ⟨S128x128x4x64, .f32⟩
  | .hbm, ⟨6, _⟩ => ⟨S128x128x4x64, .f32⟩
  | .hbm, ⟨7, _⟩ => ⟨S4, .i32⟩
  | .hbm, ⟨8, _⟩ => ⟨S_, .i32⟩
  | .hbm, ⟨9, _⟩ => ⟨S4, .i32⟩
  | .hbm, ⟨10, _⟩ => ⟨S4, .i32⟩
  | .hbm, ⟨11, _⟩ => ⟨S1x4, .i32⟩
  | .hbm, ⟨12, _⟩ => ⟨S128x4, .i32⟩
  | .hbm, ⟨13, _⟩ => ⟨S512, .i32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S_, .f32⟩
  | .hbm, ⟨22, _⟩ => ⟨S8, .f32⟩
  | .hbm, ⟨23, _⟩ => ⟨S8, .f32⟩
  | .hbm, ⟨24, _⟩ => ⟨S_, .f32⟩
  | .hbm, ⟨25, _⟩ => ⟨S8, .f32⟩
  | .hbm, ⟨26, _⟩ => ⟨S8, .f32⟩
  | .hbm, ⟨27, _⟩ => ⟨S_, .f32⟩
  | .hbm, ⟨28, _⟩ => ⟨S8, .f32⟩
  | .hbm, ⟨29, _⟩ => ⟨S8, .f32⟩
  | .hbm, ⟨30, _⟩ => ⟨S512, .f32⟩
  | .hbm, ⟨31, _⟩ => ⟨S512x1, .f32⟩
  | .hbm, ⟨32, _⟩ => ⟨S1x8, .f32⟩
  | .hbm, ⟨33, _⟩ => ⟨S512x8, .f32⟩
  | .hbm, ⟨34, _⟩ => ⟨S512x8, .f32⟩
  | .hbm, ⟨35, _⟩ => ⟨S512x8, .f32⟩
  | .hbm, ⟨36, _⟩ => ⟨S512x8, .f32⟩
  | .hbm, ⟨37, _⟩ => ⟨S512x8, .f32⟩
  | .hbm, ⟨38, _⟩ => ⟨S_, .f32⟩
  | .hbm, ⟨39, _⟩ => ⟨S512x48, .f32⟩
  | .hbm, ⟨40, _⟩ => ⟨S_, .f32⟩
  | .hbm, ⟨41, _⟩ => ⟨S512x48, .f32⟩
  | .hbm, ⟨42, _⟩ => ⟨S_, .f32⟩
  | .hbm, ⟨43, _⟩ => ⟨S512x8, .f32⟩
  | .hbm, ⟨44, _⟩ => ⟨S512x64, .f32⟩
  | .hbm, ⟨45, _⟩ => ⟨S512x8, .f32⟩
  | .hbm, ⟨46, _⟩ => ⟨S512x64, .f32⟩
  | .hbm, ⟨47, _⟩ => ⟨S512x64, .f32⟩
  | .hbm, ⟨48, _⟩ => ⟨S1x512x1x64, .f32⟩
  | .hbm, ⟨49, _⟩ => ⟨S1x512x2x64, .f32⟩
  | .hbm, ⟨50, _⟩ => ⟨S512x128, .f32⟩
  | .hbm, ⟨51, _⟩ => ⟨S1x512x1x64, .f32⟩
  | .hbm, ⟨52, _⟩ => ⟨S1x512x2x64, .f32⟩
  | .hbm, ⟨53, _⟩ => ⟨S512x128, .f32⟩
  | .hbm, ⟨54, _⟩ => ⟨S1x512x1x64, .f32⟩
  | .hbm, ⟨55, _⟩ => ⟨S1x512x2x64, .f32⟩
  | .hbm, ⟨56, _⟩ => ⟨S512x128, .f32⟩
  | .hbm, ⟨57, _⟩ => ⟨S512x1024, .f32⟩
  | .hbm, ⟨58, _⟩ => ⟨S128x1024, .f32⟩
  | .hbm, ⟨59, _⟩ => ⟨S128x4x1024, .f32⟩
  | .hbm, ⟨60, _⟩ => ⟨S512x1024, .f32⟩
  | .hbm, ⟨61, _⟩ => ⟨S1x512x1024, .f32⟩
  | .hbm, ⟨62, _⟩ => ⟨S128x1024, .f32⟩
  | .hbm, ⟨63, _⟩ => ⟨S128x4x1024, .f32⟩
  | .hbm, ⟨64, _⟩ => ⟨S512x1024, .f32⟩
  | .hbm, ⟨65, _⟩ => ⟨S1x512x1024, .f32⟩
  | .hbm, ⟨66, _⟩ => ⟨S1024x1536, .bf16⟩
  | .hbm, ⟨67, _⟩ => ⟨S1x1536, .f32⟩
  | .hbm, ⟨68, _⟩ => ⟨S512x1024, .bf16⟩
  | .hbm, ⟨69, _⟩ => ⟨S512x256, .f32⟩
  | .hbm, ⟨70, _⟩ => ⟨S512x256, .f32⟩
  | .hbm, ⟨71, _⟩ => ⟨S512x256, .bf16⟩
  | .hbm, ⟨72, _⟩ => ⟨S512x256, .bf16⟩
  | .hbm, ⟨73, _⟩ => ⟨S128x4x4x64, .f32⟩
  | .hbm, ⟨74, _⟩ => ⟨S128x4x4x64, .f32⟩
  | .hbm, ⟨75, _⟩ => ⟨S128x132x4x64, .f32⟩
  | .hbm, ⟨76, _⟩ => ⟨S128x128x4x64, .f32⟩
  | .hbm, ⟨77, _⟩ => ⟨S128x132x4x64, .f32⟩
  | .hbm, ⟨78, _⟩ => ⟨S128x128x4x64, .f32⟩
  | .local _ .vmem, ⟨0, _⟩ => ⟨S512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1024x1536, .bf16⟩
  | .local _ .vmem, ⟨4, _⟩ => ⟨S1x1536, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x1024, .bf16⟩
  | .local _ .vmem, ⟨9, _⟩ => ⟨S512x256, .f32⟩
  | .local _ .vmem, ⟨10, _⟩ => ⟨S512x256, .f32⟩
  | .local _ .vmem, ⟨11, _⟩ => ⟨S512x256, .bf16⟩
  | .local _ .vmem, ⟨12, _⟩ => ⟨S512x256, .bf16⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52_0 : Ref sig .tc := ⟨.hbm, 68, rfl⟩
abbrev main_v52_1 : Ref sig .tc := ⟨.hbm, 69, rfl⟩
abbrev main_v52_2 : Ref sig .tc := ⟨.hbm, 70, rfl⟩
abbrev main_v52_3 : Ref sig .tc := ⟨.hbm, 71, rfl⟩
abbrev main_v52_4 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_2 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S512x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S512x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S512x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S512x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]
-- ==== QkvWSRefIdeal.lean ====
abbrev S128x4x1024 : Shape := ⟨3, ![128, 4, 1024]⟩
abbrev S128x1x1024 : Shape := ⟨3, ![128, 1, 1024]⟩
abbrev S1024x1536 : Shape := ⟨2, ![1024, 1536]⟩
abbrev S1536 : Shape := ⟨1, ![1536]⟩
abbrev S128x128x4x64 : Shape := ⟨4, ![128, 128, 4, 64]⟩
abbrev S_ : Shape := ⟨0, ![]⟩
abbrev S128x4x1536 : Shape := ⟨3, ![128, 4, 1536]⟩
abbrev S1x1x1536 : Shape := ⟨3, ![1, 1, 1536]⟩
abbrev S128x4x256 : Shape := ⟨3, ![128, 4, 256]⟩
abbrev S4 : Shape := ⟨1, ![4]⟩
abbrev S128x4x16x64 : Shape := ⟨4, ![128, 4, 16, 64]⟩
abbrev S8 : Shape := ⟨1, ![8]⟩
abbrev S4x1 : Shape := ⟨2, ![4, 1]⟩
abbrev S1x8 : Shape := ⟨2, ![1, 8]⟩
abbrev S4x8 : Shape := ⟨2, ![4, 8]⟩
abbrev S1x4x1x8 : Shape := ⟨4, ![1, 4, 1, 8]⟩
abbrev S128x4x16x8 : Shape := ⟨4, ![128, 4, 16, 8]⟩
abbrev S128x4x16x16 : Shape := ⟨4, ![128, 4, 16, 16]⟩
abbrev S128x4x16x48 : Shape := ⟨4, ![128, 4, 16, 48]⟩
abbrev S128x4x4x64 : Shape := ⟨4, ![128, 4, 4, 64]⟩
abbrev S128x4x4x8 : Shape := ⟨4, ![128, 4, 4, 8]⟩
abbrev S128x4x4x16 : Shape := ⟨4, ![128, 4, 4, 16]⟩
abbrev S128x4x4x48 : Shape := ⟨4, ![128, 4, 4, 48]⟩
abbrev S128x4x4x4x64 : Shape := ⟨5, ![128, 4, 4, 4, 64]⟩
abbrev S512x256 : Shape := ⟨2, ![512, 256]⟩
abbrev S512x1024 : Shape := ⟨2, ![512, 1024]⟩
abbrev S128x132x4x64 : Shape := ⟨4, ![128, 132, 4, 64]⟩

abbrev nBuf : Space → Nat
  | .hbm => 128
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S128x1x1024, .f32⟩
  | .hbm, ⟨2, _⟩ => ⟨S128x1x1024, .f32⟩
  | .hbm, ⟨3, _⟩ => ⟨S1024x1536, .f32⟩
  | .hbm, ⟨4, _⟩ => ⟨S1536, .f32⟩
  | .hbm, ⟨5, _⟩ => ⟨S128x128x4x64, .f32⟩
  | .hbm, ⟨6, _⟩ => ⟨S128x128x4x64, .f32⟩
  | .hbm, ⟨7, _⟩ => ⟨S_, .f32⟩
  | .hbm, ⟨8, _⟩ => ⟨S128x1x1024, .f32⟩
  | .hbm, ⟨9, _⟩ => ⟨S128x1x1024, .f32⟩
  | .hbm, ⟨10, _⟩ => ⟨S128x4x1024, .f32⟩
  | .hbm, ⟨11, _⟩ => ⟨S128x4x1024, .f32⟩
  | .hbm, ⟨12, _⟩ => ⟨S128x4x1024, .f32⟩
  | .hbm, ⟨13, _⟩ => ⟨S128x4x1024, .f32⟩
  | .hbm, ⟨14, _⟩ => ⟨S128x4x1536, .f32⟩
  | .hbm, ⟨15, _⟩ => ⟨S1x1x1536, .f32⟩
  | .hbm, ⟨16, _⟩ => ⟨S128x4x1536, .f32⟩
  | .hbm, ⟨17, _⟩ => ⟨S128x4x1536, .f32⟩
  | .hbm, ⟨18, _⟩ => ⟨S128x4x1024, .f32⟩
  | .hbm, ⟨19, _⟩ => ⟨S128x4x256, .f32⟩
  | .hbm, ⟨20, _⟩ => ⟨S128x4x256, .f32⟩
  | .hbm, ⟨21, _⟩ => ⟨S4, .i32⟩
  | .hbm, ⟨22, _⟩ => ⟨S_, .i32⟩
  | .hbm, ⟨23, _⟩ => ⟨S4, .i32⟩
  | .hbm, ⟨24, _⟩ => ⟨S4, .i32⟩
  | .hbm, ⟨25, _⟩ => ⟨S128x4x16x64, .f32⟩
  | .hbm, ⟨26, _⟩ => ⟨S8, .f32⟩
  | .hbm, ⟨27, _⟩ => ⟨S_, .f32⟩
  | .hbm, ⟨28, _⟩ => ⟨S8, .f32⟩
  | .hbm, ⟨29, _⟩ => ⟨S8, .f32⟩
  | .hbm, ⟨30, _⟩ => ⟨S_, .f32⟩
  | .hbm, ⟨31, _⟩ => ⟨S8, .f32⟩
  | .hbm, ⟨32, _⟩ => ⟨S8, .f32⟩
  | .hbm, ⟨33, _⟩ => ⟨S_, .f32⟩
  | .hbm, ⟨34, _⟩ => ⟨S8, .f32⟩
  | .hbm, ⟨35, _⟩ => ⟨S8, .f32⟩
  | .hbm, ⟨36, _⟩ => ⟨S_, .f32⟩
  | .hbm, ⟨37, _⟩ => ⟨S8, .f32⟩
  | .hbm, ⟨38, _⟩ => ⟨S8, .f32⟩
  | .hbm, ⟨39, _⟩ => ⟨S_, .f32⟩
  | .hbm, ⟨40, _⟩ => ⟨S8, .f32⟩
  | .hbm, ⟨41, _⟩ => ⟨S8, .f32⟩
  | .hbm, ⟨42, _⟩ => ⟨S4, .f32⟩
  | .hbm, ⟨43, _⟩ => ⟨S4x1, .f32⟩
  | .hbm, ⟨44, _⟩ => ⟨S1x8, .f32⟩
  | .hbm, ⟨45, _⟩ => ⟨S4x8, .f32⟩
  | .hbm, ⟨46, _⟩ => ⟨S4x8, .f32⟩
  | .hbm, ⟨47, _⟩ => ⟨S4x8, .f32⟩
  | .hbm, ⟨48, _⟩ => ⟨S4x8, .f32⟩
  | .hbm, ⟨49, _⟩ => ⟨S1x4x1x8, .f32⟩
  | .hbm, ⟨50, _⟩ => ⟨S4x8, .f32⟩
  | .hbm, ⟨51, _⟩ => ⟨S1x4x1x8, .f32⟩
  | .hbm, ⟨52, _⟩ => ⟨S128x4x16x8, .f32⟩
  | .hbm, ⟨53, _⟩ => ⟨S128x4x16x8, .f32⟩
  | .hbm, ⟨54, _⟩ => ⟨S128x4x16x8, .f32⟩
  | .hbm, ⟨55, _⟩ => ⟨S128x4x16x8, .f32⟩
  | .hbm, ⟨56, _⟩ => ⟨S128x4x16x8, .f32⟩
  | .hbm, ⟨57, _⟩ => ⟨S128x4x16x8, .f32⟩
  | .hbm, ⟨58, _⟩ => ⟨S128x4x16x8, .f32⟩
  | .hbm, ⟨59, _⟩ => ⟨S128x4x16x8, .f32⟩
  | .hbm, ⟨60, _⟩ => ⟨S128x4x16x8, .f32⟩
  | .hbm, ⟨61, _⟩ => ⟨S128x4x16x8, .f32⟩
  | .hbm, ⟨62, _⟩ => ⟨S128x4x16x8, .f32⟩
  | .hbm, ⟨63, _⟩ => ⟨S128x4x16x8, .f32⟩
  | .hbm, ⟨64, _⟩ => ⟨S128x4x16x16, .f32⟩
  | .hbm, ⟨65, _⟩ => ⟨S128x4x16x48, .f32⟩
  | .hbm, ⟨66, _⟩ => ⟨S128x4x16x64, .f32⟩
  | .hbm, ⟨67, _⟩ => ⟨S128x4x4x64, .f32⟩
  | .hbm, ⟨68, _⟩ => ⟨S8, .f32⟩
  | .hbm, ⟨69, _⟩ => ⟨S_, .f32⟩
  | .hbm, ⟨70, _⟩ => ⟨S8, .f32⟩
  | .hbm, ⟨71, _⟩ => ⟨S8, .f32⟩
  | .hbm, ⟨72, _⟩ => ⟨S_, .f32⟩
  | .hbm, ⟨73, _⟩ => ⟨S8, .f32⟩
  | .hbm, ⟨74, _⟩ => ⟨S8, .f32⟩
  | .hbm, ⟨75, _⟩ => ⟨S_, .f32⟩
  | .hbm, ⟨76, _⟩ => ⟨S8, .f32⟩
  | .hbm, ⟨77, _⟩ => ⟨S8, .f32⟩
  | .hbm, ⟨78, _⟩ => ⟨S_, .f32⟩
  | .hbm, ⟨79, _⟩ => ⟨S8, .f32⟩
  | .hbm, ⟨80, _⟩ => ⟨S8, .f32⟩
  | .hbm, ⟨81, _⟩ => ⟨S_, .f32⟩
  | .hbm, ⟨82, _⟩ => ⟨S8, .f32⟩
  | .hbm, ⟨83, _⟩ => ⟨S8, .f32⟩
  | .hbm, ⟨84, _⟩ => ⟨S4, .f32⟩
  | .hbm, ⟨85, _⟩ => ⟨S4x1, .f32⟩
  | .hbm, ⟨86, _⟩ => ⟨S1x8, .f32⟩
  | .hbm, ⟨87, _⟩ => ⟨S4x8, .f32⟩
  | .hbm, ⟨88, _⟩ => ⟨S4x8, .f32⟩
  | .hbm, ⟨89, _⟩ => ⟨S4x8, .f32⟩
  | .hbm, ⟨90, _⟩ => ⟨S4x8, .f32⟩
  | .hbm, ⟨91, _⟩ => ⟨S1x4x1x8, .f32⟩
  | .hbm, ⟨92, _⟩ => ⟨S4x8, .f32⟩
  | .hbm, ⟨93, _⟩ => ⟨S1x4x1x8, .f32⟩
  | .hbm, ⟨94, _⟩ => ⟨S128x4x4x8, .f32⟩
  | .hbm, ⟨95, _⟩ => ⟨S128x4x4x8, .f32⟩
  | .hbm, ⟨96, _⟩ => ⟨S128x4x4x8, .f32⟩
  | .hbm, ⟨97, _⟩ => ⟨S128x4x4x8, .f32⟩
  | .hbm, ⟨98, _⟩ => ⟨S128x4x4x8, .f32⟩
  | .hbm, ⟨99, _⟩ => ⟨S128x4x4x8, .f32⟩
  | .hbm, ⟨100, _⟩ => ⟨S128x4x4x8, .f32⟩
  | .hbm, ⟨101, _⟩ => ⟨S128x4x4x8, .f32⟩
  | .hbm, ⟨102, _⟩ => ⟨S128x4x4x8, .f32⟩
  | .hbm, ⟨103, _⟩ => ⟨S128x4x4x8, .f32⟩
  | .hbm, ⟨104, _⟩ => ⟨S128x4x4x8, .f32⟩
  | .hbm, ⟨105, _⟩ => ⟨S128x4x4x8, .f32⟩
  | .hbm, ⟨106, _⟩ => ⟨S128x4x4x16, .f32⟩
  | .hbm, ⟨107, _⟩ => ⟨S128x4x4x48, .f32⟩
  | .hbm, ⟨108, _⟩ => ⟨S128x4x4x64, .f32⟩
  | .hbm, ⟨109, _⟩ => ⟨S128x4x4x4x64, .f32⟩
  | .hbm, ⟨110, _⟩ => ⟨S_, .f32⟩
  | .hbm, ⟨111, _⟩ => ⟨S128x4x4x64, .f32⟩
  | .hbm, ⟨112, _⟩ => ⟨S512x256, .f32⟩
  | .hbm, ⟨113, _⟩ => ⟨S512x256, .f32⟩
  | .hbm, ⟨114, _⟩ => ⟨S_, .f32⟩
  | .hbm, ⟨115, _⟩ => ⟨S128x4x16x64, .f32⟩
  | .hbm, ⟨116, _⟩ => ⟨S128x4x16x64, .f32⟩
  | .hbm, ⟨117, _⟩ => ⟨S512x1024, .f32⟩
  | .hbm, ⟨118, _⟩ => ⟨S512x1024, .bf16⟩
  | .hbm, ⟨119, _⟩ => ⟨S512x256, .bf16⟩
  | .hbm, ⟨120, _⟩ => ⟨S512x256, .bf16⟩
  | .hbm, ⟨121, _⟩ => ⟨S512x256, .f32⟩
  | .hbm, ⟨122, _⟩ => ⟨S128x4x4x64, .f32⟩
  | .hbm, ⟨123, _⟩ => ⟨S128x4x4x64, .f32⟩
  | .hbm, ⟨124, _⟩ => ⟨S128x132x4x64, .f32⟩
  | .hbm, ⟨125, _⟩ => ⟨S128x128x4x64, .f32⟩
  | .hbm, ⟨126, _⟩ => ⟨S128x132x4x64, .f32⟩
  | .hbm, ⟨127, _⟩ => ⟨S128x128x4x64, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_5 : Ref sig .tc := ⟨.hbm, 69, rfl⟩
abbrev main_v55 : Ref sig .tc := ⟨.hbm, 70, rfl⟩
abbrev main_v56 : Ref sig .tc := ⟨.hbm, 71, rfl⟩
abbrev main_cst_6 : Ref sig .tc := ⟨.hbm, 72, rfl⟩
abbrev main_v57 : Ref sig .tc := ⟨.hbm, 73, rfl⟩
abbrev main_v58 : Ref sig .tc := ⟨.hbm, 74, rfl⟩
abbrev main_cst_7 : Ref sig .tc := ⟨.hbm, 75, rfl⟩
abbrev main_v59 : Ref sig .tc := ⟨.hbm, 76, rfl⟩
abbrev main_v60 : Ref sig .tc := ⟨.hbm, 77, rfl⟩
abbrev main_cst_8 : Ref sig .tc := ⟨.hbm, 78, rfl⟩
abbrev main_v61 : Ref sig .tc := ⟨.hbm, 79, rfl⟩
abbrev main_v62 : Ref sig .tc := ⟨.hbm, 80, rfl⟩
abbrev main_cst_9 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_cst_10 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_cst_11 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩

abbrev nD : Nat := 1
abbrev τ : Topo := Topo.v7x

variable {F : FTy → Type} [FloatOps F]
-- ==== Proof.Online.lean ====
/-
  Softmax by blocks of keys. A row of attention scores is read block by block, keeping a running maximum, a running
  sum of exponentials and a running weighted sum; each time the maximum grows the two sums are rescaled. Over the
  extended reals, with no score `⊤` and at least one score that is not `⊥`, the quotient of the two sums at the end is
  the softmax of the whole row applied to the values.
-/
module

public import Idealize.ShloMosaic.PureOps.Ideal

@[expose] public section

noncomputable section

open Idealize.ShloMosaic

namespace Cert.Online

/-- A factor that is nonnegative and not `⊤` moves into a finite sum. -/
theorem mul_sum {ι : Type} (s : Finset ι) (c : EReal) (h0 : 0 ≤ c) (ht : c ≠ ⊤) (f : ι → EReal) :
    c * ∑ i ∈ s, f i = ∑ i ∈ s, c * f i := by
  classical
  induction s using Finset.induction_on with
  | empty => simp
  | insert a s ha ih =>
    rw [Finset.sum_insert ha, Finset.sum_insert ha, EReal.left_distrib_of_nonneg_of_ne_top h0 ht, ih]

/-- The exponential of anything but `⊤` is a nonnegative real. -/
theorem exp_real (x : EReal) (h : x ≠ ⊤) : ∃ r : ℝ, 0 ≤ r ∧ Ideal.exp x = (r : EReal) := by
  induction x with
  | bot => exact ⟨0, le_refl _, rfl⟩
  | top => exact absurd rfl h
  | coe r => exact ⟨Real.exp r, (Real.exp_pos r).le, rfl⟩

/-- A finite sum of reals, read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Subtracting a real from anything but `⊤` does not give `⊤`. -/
theorem sub_ne_top (s : EReal) (m : ℝ) (h : s ≠ ⊤) : s - (m : EReal) ≠ ⊤ := by
  induction s with
  | bot => simp
  | top => exact absurd rfl h
  | coe r => rw [← EReal.coe_sub]; exact EReal.coe_ne_top _

/-- Changing the subtracted maximum from `m` to `m'` multiplies an exponential by `exp (m - m')`. -/
theorem exp_shift (m m' : ℝ) (s : EReal) (h : s ≠ ⊤) :
    Ideal.exp ((m : EReal) - m') * Ideal.exp (s - m) = Ideal.exp (s - m') := by
  induction s with
  | bot =>
    rw [EReal.bot_sub]
    show _ * (0 : EReal) = 0
    exact mul_zero _
  | top => exact absurd rfl h
  | coe r =>
    rw [← EReal.coe_sub, ← EReal.coe_sub, ← EReal.coe_sub]
    show ((Real.exp _ : ℝ) : EReal) * ((Real.exp _ : ℝ) : EReal) = ((Real.exp _ : ℝ) : EReal)
    rw [← EReal.coe_mul, ← Real.exp_add]
    congr 2; ring

variable (S V : ℕ → Fin 256 → EReal) (q : ℕ)

/-- The running maximum: block `q` first, then blocks `0, 1, …`. -/
def top : ℕ → EReal
  | 0 => Finset.univ.sup (S q)
  | n + 1 => max (top n) (Finset.univ.sup (S n))

/-- The running sum of exponentials. -/
def den : ℕ → EReal
  | 0 => ∑ j, Ideal.exp (S q j - top S q 0)
  | n + 1 => Ideal.exp (top S q n - top S q (n + 1)) * den n + ∑ j, Ideal.exp (S n j - top S q (n + 1))

/-- The running weighted sum of the values. -/
def num : ℕ → EReal
  | 0 => ∑ j, Ideal.exp (S q j - top S q 0) * V q j
  | n + 1 => Ideal.exp (top S q n - top S q (n + 1)) * num n + ∑ j, Ideal.exp (S n j - top S q (n + 1)) * V n j

variable {S V q}

/-- The supremum of scores none of which is `⊤` is not `⊤`. -/
theorem sup_ne_top {ι : Type} (s : Finset ι) (f : ι → EReal) (h : ∀ i, f i ≠ ⊤) : s.sup f ≠ ⊤ := by
  rw [← lt_top_iff_ne_top, Finset.sup_lt_iff (by exact bot_lt_top)]
  exact fun i _ => lt_top_iff_ne_top.2 (h i)

/-- The running maximum is a real. -/
theorem top_real (ht : ∀ b j, S b j ≠ ⊤) (hd : ∃ j, S q j ≠ ⊥) : ∀ n, ∃ r : ℝ, top S q n = (r : EReal)
  | 0 => by
    obtain ⟨j, hj⟩ := hd
    have h1 : top S q 0 ≠ ⊥ := fun h => hj (le_bot_iff.1 (h ▸ Finset.le_sup (f := S q) (Finset.mem_univ j)))
    exact ⟨_, (EReal.coe_toReal (sup_ne_top _ _ (ht q)) h1).symm⟩
  | n + 1 => by
    obtain ⟨r, hr⟩ := top_real ht hd n
    have h1 : top S q (n + 1) ≠ ⊥ := fun h => by
      have h2 : top S q n ≤ top S q (n + 1) := le_max_left _ _
      rw [h, hr] at h2
      exact EReal.coe_ne_bot r (le_bot_iff.1 h2)
    have h3 : top S q (n + 1) ≠ ⊤ := by
      show max _ _ ≠ ⊤
      rw [← lt_top_iff_ne_top, max_lt_iff]
      exact ⟨hr ▸ EReal.coe_lt_top r, lt_top_iff_ne_top.2 (sup_ne_top _ _ (ht n))⟩
    exact ⟨_, (EReal.coe_toReal h3 h1).symm⟩

/-- The running weighted sum in one piece: every exponential against the current maximum. -/
theorem num_eq (ht : ∀ b j, S b j ≠ ⊤) (hd : ∃ j, S q j ≠ ⊥) : ∀ n, num S V q n
    = (∑ j, Ideal.exp (S q j - top S q n) * V q j)
      + ∑ b ∈ Finset.range n, ∑ j, Ideal.exp (S b j - top S q n) * V b j
  | 0 => by simp [num]
  | n + 1 => by
    obtain ⟨m, hm⟩ := top_real ht hd n
    obtain ⟨m', hm'⟩ := top_real ht hd (n + 1)
    obtain ⟨r, hr0, hr⟩ := exp_real ((m : EReal) - m') (sub_ne_top _ _ (EReal.coe_ne_top m))
    have hc0 : (0 : EReal) ≤ Ideal.exp ((m : EReal) - m') := by rw [hr]; exact_mod_cast hr0
    have hct : Ideal.exp ((m : EReal) - m') ≠ ⊤ := by rw [hr]; exact EReal.coe_ne_top r
    have key : ∀ b, Ideal.exp ((m : EReal) - m') * ∑ j, Ideal.exp (S b j - m) * V b j
        = ∑ j, Ideal.exp (S b j - m') * V b j := fun b => by
      rw [mul_sum _ _ hc0 hct]
      exact Finset.sum_congr rfl fun j _ => by rw [← mul_assoc, exp_shift _ _ _ (ht b j)]
    show Ideal.exp (top S q n - top S q (n + 1)) * num S V q n + _ = _
    rw [num_eq ht hd n, hm, hm', EReal.left_distrib_of_nonneg_of_ne_top hc0 hct, key, mul_sum _ _ hc0 hct,
      Finset.sum_range_succ, add_assoc]
    congr 2
    exact Finset.sum_congr rfl fun b _ => key b

/-- The running sum of exponentials is the running weighted sum of ones. -/
theorem den_eq_num : ∀ n, den S q n = num S (fun _ _ => 1) q n
  | 0 => by simp [den, num]
  | n + 1 => by simp [den, num, den_eq_num n]

/-- A sum over the 2048 keys, block by block. -/
theorem sum_blocks (f : Fin 2048 → EReal) (g : ℕ → Fin 256 → EReal) (q : ℕ) (hq : q < 8)
    (hg : ∀ b (hb : b < 8) (j : Fin 256), f ⟨256 * b + j.val, by have := j.isLt; omega⟩ = if b ≤ q then g b j else 0) :
    ∑ k, f k = (∑ j, g q j) + ∑ b ∈ Finset.range q, ∑ j, g b j := by
  have e : ∑ k, f k = ∑ b : Fin 8, ∑ j : Fin 256, (if b.val ≤ q then g b.val j else 0) := by
    rw [← Fintype.sum_prod_type', ← (finProdFinEquiv (m := 8) (n := 256)).sum_comp]
    refine Finset.sum_congr rfl fun p _ => ?_
    rw [← hg p.1.val p.1.isLt p.2]
    congr 1
    apply Fin.ext
    show p.2.val + 256 * p.1.val = _
    exact Nat.add_comm _ _
  rw [e, Fin.sum_univ_eq_sum_range (fun b => ∑ j : Fin 256, (if b ≤ q then g b j else 0)) 8,
    add_comm, ← Finset.sum_range_succ (fun b => ∑ j, g b j) q]
  rw [← Finset.sum_subset (s₁ := Finset.range (q + 1))
    (fun b hb => by simp only [Finset.mem_range] at *; omega)
    (fun b _ hb => by
      have : ¬ b ≤ q := by simp only [Finset.mem_range] at hb; omega
      simp [this])]
  refine Finset.sum_congr rfl fun b hb => ?_
  have : b ≤ q := by simp only [Finset.mem_range] at hb; omega
  simp [this]

/-- The running maximum bounds every score it has read. -/
theorem le_top : ∀ n b j, (b = q ∨ b < n) → S b j ≤ top S q n
  | 0, b, j, h => by
    rcases h with rfl | h
    · exact Finset.le_sup (f := S b) (Finset.mem_univ j)
    · omega
  | n + 1, b, j, h => by
    by_cases hb : b = n
    · subst hb
      exact (Finset.le_sup (f := S b) (Finset.mem_univ j)).trans (le_max_right _ _)
    · exact (le_top n b j (h.imp id fun h => by omega)).trans (le_max_left _ _)

/-- Anything that bounds every score read bounds the running maximum. -/
theorem top_le (u : EReal) : ∀ n, (∀ b j, (b = q ∨ b < n) → S b j ≤ u) → top S q n ≤ u
  | 0, h => Finset.sup_le fun j _ => h q j (Or.inl rfl)
  | n + 1, h => max_le (top_le u n fun b j hb => h b j (hb.imp id fun h => by omega))
      (Finset.sup_le fun j _ => h n j (Or.inr (Nat.lt_succ_self n)))

/-- The softmax by blocks is the softmax of the whole row. -/
theorem online_eq_dense (q : ℕ) (hq : q < 8) (s v : Fin 2048 → EReal) (S V : ℕ → Fin 256 → EReal)
    (hs : ∀ b (hb : b < 8) (j : Fin 256), s ⟨256 * b + j.val, by have := j.isLt; omega⟩ = if b ≤ q then S b j else ⊥)
    (hv : ∀ b (hb : b < 8) (j : Fin 256), v ⟨256 * b + j.val, by have := j.isLt; omega⟩ = V b j)
    (ht : ∀ b j, S b j ≠ ⊤) (hd : ∃ j, S q j ≠ ⊥) :
    Ideal.div (num S V q q) (den S q q)
      = ∑ k, Ideal.div (Ideal.exp (s k - Finset.univ.sup s)) (∑ k, Ideal.exp (s k - Finset.univ.sup s)) * v k := by
  have hM : Finset.univ.sup s = top S q q := by
    refine le_antisymm (Finset.sup_le fun k _ => ?_) (top_le _ q fun b j hb => ?_)
    · have hk := k.isLt
      have hk' : k = ⟨256 * (k.val / 256) + (⟨k.val % 256, Nat.mod_lt _ (by omega)⟩ : Fin 256).val, by
          show 256 * (k.val / 256) + k.val % 256 < 2048; omega⟩ :=
        Fin.ext (by show k.val = 256 * (k.val / 256) + k.val % 256; omega)
      rw [hk', hs (k.val / 256) (by omega)]
      split
      · exact le_top q _ _ (by omega)
      · exact bot_le
    · have h : S b j = s ⟨256 * b + j.val, by have := j.isLt; omega⟩ := by
        rw [hs b (by omega), if_pos (by omega)]
      rw [h]
      exact Finset.le_sup (f := s) (Finset.mem_univ _)
  obtain ⟨m, hm⟩ := top_real ht hd q
  have hL : ∑ k, Ideal.exp (s k - Finset.univ.sup s) = den S q q := by
    rw [den_eq_num, num_eq ht hd q, hM, hm]
    refine sum_blocks _ (fun b j => Ideal.exp (S b j - m) * 1) q hq fun b hb j => ?_
    rw [hs b hb, mul_one]
    split
    · rfl
    · rw [EReal.bot_sub]; first | exact zero_mul _ | rfl
  rw [hL]
  -- the sum of exponentials is a positive real
  have hst : ∀ k, s k ≠ ⊤ := fun k h => by
    have h2 : s k ≤ (m : EReal) := hm ▸ hM ▸ Finset.le_sup (f := s) (Finset.mem_univ k)
    rw [h] at h2
    exact EReal.coe_ne_top m (top_le_iff.1 h2)
  choose w hw0 hw using fun k => exp_real (s k - m) (sub_ne_top _ _ (hst k))
  have hLr : den S q q = ((∑ k, w k : ℝ) : EReal) := by
    rw [← hL, hM, hm, coe_sum]
    exact Finset.sum_congr rfl fun k _ => hw k
  have hpos : 0 < ∑ k, w k := by
    obtain ⟨j, hj⟩ := hd
    refine Finset.sum_pos' (fun k _ => hw0 k) ⟨⟨256 * q + j.val, by have := j.isLt; omega⟩, Finset.mem_univ _, ?_⟩
    have h1 := hw ⟨256 * q + j.val, by have := j.isLt; omega⟩
    rw [hs q hq, if_pos le_rfl] at h1
    obtain ⟨x, hx⟩ : ∃ x : ℝ, S q j = (x : EReal) := ⟨_, (EReal.coe_toReal (ht q j) hj).symm⟩
    rw [hx, ← EReal.coe_sub] at h1
    have h2 : Real.exp (x - m) = w _ := EReal.coe_injective h1
    rw [← h2]; exact Real.exp_pos _
  have hne : ((∑ k, w k : ℝ) : EReal) ≠ 0 := by exact_mod_cast hpos.ne'
  have hi : (((∑ k, w k : ℝ) : EReal))⁻¹ = (((∑ k, w k)⁻¹ : ℝ) : EReal) := (EReal.coe_inv _).symm
  have hi0 : (0 : EReal) ≤ (((∑ k, w k)⁻¹ : ℝ) : EReal) := by exact_mod_cast (inv_pos.2 hpos).le
  rw [hLr]
  simp only [Ideal.div, if_neg hne, hi]
  rw [num_eq ht hd q, ← sum_blocks (fun k => Ideal.exp (s k - m) * v k) (fun b j => Ideal.exp (S b j - top S q q) * V b j) q hq,
    mul_comm, mul_sum _ _ hi0 (EReal.coe_ne_top _), hM, hm]
  · exact Finset.sum_congr rfl fun k _ => by rw [← mul_assoc, mul_comm (Ideal.exp _)]
  · intro b hb j
    rw [hs b hb, hv b hb, hm]
    split
    · rfl
    · rw [EReal.bot_sub]; first | exact zero_mul _ | rfl

end Cert.Online

end
-- ==== Proof.MobaPay.lean ====
/-
  The attention kernel's arithmetic, one element at a time: what each of the body's named values is at a row of its
  1024 rows (four query heads, 256 queries each) over the extended reals.
-/
module

public import proofs.«01_k».proof.Proof.Gen.MobaIdeal.Value
public import Idealize.ShloMosaic.Lib.Pointwise
public import proofs.«01_k».proof.Proof.Online

@[expose] public section

set_option maxRecDepth 16384

noncomputable section

open Idealize.ShloMosaic Idealize.ShloMosaic.TcCoe Idealize.SL.Sem

namespace Cert.MobaIdeal.Value

open Cert.MobaIdeal Cert.MobaIdeal.Gen

/-- The pattern of minus infinity is `⊥`. -/
theorem ofBits_neg_inf : Ideal.ofBits FTy.f32 4286578688#32 = ⊥ := by
  simp [Ideal.ofBits, Ideal.ieee]

/-- A running maximum from `⊥` is the supremum. -/
theorem fold_max_eq_sup {n : ℕ} (f : Fin n → EReal) : Finset.fold max ⊥ f Finset.univ = Finset.univ.sup f := rfl

/-- The query of a row, within its head. -/
abbrev rr (row : Fin 1024) : Fin 256 := ⟨row.val % 256, Nat.mod_lt _ (by decide)⟩
/-- The head of a row, within its group. -/
abbrev gg (row : Fin 1024) : Fin 4 := ⟨row.val / 256, by have := row.isLt; omega⟩

/-- Below 8, the loop's word for trip `k` is equal to the word of `x` exactly when `k` and `x` are. -/
theorem iv_eq_iff : ∀ (x k : Fin 8), (IntOp.cmpi CmpIPredicate.eq (BitVec.ofNat 32 x.val) (Scf.iv 0#32 1#32 k.val)) = if x = k then 1#1 else 0#1 := by
  decide +kernel

/-- Of the eight indicators of a query the compare with `k` keeps the `k`-th. -/
theorem sum_pick (f : Fin 8 → EReal) (k : Fin 8) :
    ∑ x, Scalar.select (IntOp.cmpi CmpIPredicate.eq (BitVec.ofNat 32 x.val) (Scf.iv 0#32 1#32 k.val)) (f x) 0 = f k := by
  simp only [iv_eq_iff]
  rw [Finset.sum_eq_single k]
  · simp [Scalar.select]
  · intro b _ hb
    simp [Scalar.select, hb]
  · intro h; exact absurd (Finset.mem_univ k) h

/-- A loop trip's masked scores: kept when the query chose the trip's block. -/
theorem pay1_apply (i : grid0.Coords) (v2 : FVec Ideal S1024x64 .bf16) (v4 : FVec Ideal S256x8 .f32)
    (k : Fin (k0_t1_loop i).trips) (k' : Fin 8) (hk : k'.val = k.val) (v59 : Vec Ideal S1x1x256x64 .bf16) (row : Fin 1024) (j : Fin 256) :
    k0_pay1 (F := Ideal) i v2 v4 (iota .tc S256x8 32 [1] iota_S256x8_d1_w32) 0#32 k v59 (ix2 row j)
      = if 0 < v4 (ix2 (rr row) k') then ∑ x, v2 (ix2 row x) * v59 (ix4 0 0 j x) else ⊥ := by
  have hs : ∀ f : Fin 8 → EReal, ∑ x, Scalar.select (IntOp.cmpi CmpIPredicate.eq (BitVec.ofNat 32 x.val) (Scf.iv 0#32 1#32 k.val)) (f x) 0 = f k' :=
    fun f => by rw [← hk]; exact sum_pick f k'
  have hrow := row.isLt
  pointwise [k0_pay1]
  simp only [hs, ofBits_neg_inf]
  have e : (if h : row.val < 256 then v4 (ix2 ⟨row.val, h⟩ k')
      else if h : row.val - 256 < 256 then v4 (ix2 ⟨row.val - 256, h⟩ k')
      else if h : row.val - 256 - 256 < 256 then v4 (ix2 ⟨row.val - 256 - 256, h⟩ k')
      else v4 (ix2 ⟨row.val - 256 - 256 - 256, by omega⟩ k')) = v4 (ix2 (rr row) k') := by
    split_ifs <;> (congr 2; all_goals (apply Fin.ext; dsimp only; omega))
  exact if_congr (by rw [← e]) rfl rfl

/-- A trip's new maximum. -/
theorem pay2_apply (i : grid0.Coords) (v2 : FVec Ideal S1024x64 .bf16) (v4 : FVec Ideal S256x8 .f32) (v32 : IVec S256x8 32)
    (k : Fin (k0_t1_loop i).trips) (a : FVec Ideal S1024x1 .f32) (v59 : Vec Ideal S1x1x256x64 .bf16) (row : Fin 1024) :
    k0_pay2 (F := Ideal) i v2 v4 v32 0#32 k a v59 (ix2 row 0)
      = max (a (ix2 row 0)) (Finset.univ.sup fun j => k0_pay1 (F := Ideal) i v2 v4 v32 0#32 k v59 (ix2 row j)) := by
  pointwise [k0_pay2]
  rw [ofBits_neg_inf]
  rfl

/-- A trip's new sum of exponentials. -/
theorem pay5_apply (i : grid0.Coords) (v2 : FVec Ideal S1024x64 .bf16) (v4 : FVec Ideal S256x8 .f32) (v32 : IVec S256x8 32)
    (k : Fin (k0_t1_loop i).trips) (a b : FVec Ideal S1024x1 .f32) (v59 : Vec Ideal S1x1x256x64 .bf16) (row : Fin 1024) :
    k0_pay5 (F := Ideal) i v2 v4 v32 0#32 k a b v59 (ix2 row 0)
      = Ideal.exp (a (ix2 row 0) - k0_pay2 (F := Ideal) i v2 v4 v32 0#32 k a v59 (ix2 row 0)) * b (ix2 row 0)
        + ∑ j, Ideal.exp (k0_pay1 (F := Ideal) i v2 v4 v32 0#32 k v59 (ix2 row j)
            - k0_pay2 (F := Ideal) i v2 v4 v32 0#32 k a v59 (ix2 row 0)) := by
  pointwise [k0_pay5, k0_pay3, k0_pay4]

/-- A trip's new weighted sum. -/
theorem pay6_apply (i : grid0.Coords) (v2 : FVec Ideal S1024x64 .bf16) (v4 : FVec Ideal S256x8 .f32) (v32 : IVec S256x8 32)
    (k : Fin (k0_t1_loop i).trips) (a : FVec Ideal S1024x1 .f32) (b : FVec Ideal S1024x64 .f32)
    (v59 v84 : Vec Ideal S1x1x256x64 .bf16) (row : Fin 1024) (d : Fin 64) :
    k0_pay6 (F := Ideal) i v2 v4 v32 0#32 k a b v59 v84 (ix2 row d)
      = Ideal.exp (a (ix2 row 0) - k0_pay2 (F := Ideal) i v2 v4 v32 0#32 k a v59 (ix2 row 0)) * b (ix2 row d)
        + ∑ j, Ideal.exp (k0_pay1 (F := Ideal) i v2 v4 v32 0#32 k v59 (ix2 row j)
            - k0_pay2 (F := Ideal) i v2 v4 v32 0#32 k a v59 (ix2 row 0)) * v84 (ix4 0 0 j d) := by
  pointwise [k0_pay6, k0_pay3, k0_pay4]

/-- The stored quotient. -/
theorem pay13_apply (b : FVec Ideal S1024x1 .f32) (a : FVec Ideal S1024x64 .f32) (g : Fin 4) (r : Fin 256) (d : Fin 64) :
    k0_pay13 (F := Ideal) b a (ix4 0 g r d)
      = Ideal.div (a (ix2 ⟨g.val * 256 + r.val, by have := g.isLt; have := r.isLt; omega⟩ d))
          (b (ix2 ⟨g.val * 256 + r.val, by have := g.isLt; have := r.isLt; omega⟩ 0)) := by
  pointwise [k0_pay13]

/-- The queries by row. -/
theorem pay14_apply (a : FVec Ideal S1x4x256x64 .bf16) (row : Fin 1024) (d : Fin 64) :
    k0_pay14 (F := Ideal) a (ix2 row d) = a (ix4 0 (gg row) (rr row) d) := by
  pointwise [k0_pay14]

/-- The indicators by query. -/
theorem pay15_apply (a : FVec Ideal S1x1x256x8 .f32) (r : Fin 256) (n : Fin 8) :
    k0_pay15 (F := Ideal) a (ix2 r n) = a (ix4 0 0 r n) := by
  pointwise [k0_pay15]

/-- Key `j` of the own block is at or before query `row % 256`: as the kernel's words compare them. -/
theorem causal_word (j : Fin 256) (row : Fin 1024) :
    IntOp.cmpi CmpIPredicate.sle (BitVec.ofNat 32 j.val) (IntOp.andi (BitVec.ofNat 32 row.val) 255#32)
      = if j.val ≤ row.val % 256 then 1#1 else 0#1 := by
  have h1 : IntOp.andi (BitVec.ofNat 32 row.val) 255#32 = BitVec.ofNat 32 (row.val % 256) :=
    (by decide +kernel : ∀ row : Fin 1024, IntOp.andi (BitVec.ofNat 32 row.val) 255#32 = BitVec.ofNat 32 (row.val % 256)) row
  rw [h1]
  have hj := j.isLt
  have hr : row.val % 256 < 256 := Nat.mod_lt _ (by decide)
  have key : ∀ a b : ℕ, a < 256 → b < 256 → (BitVec.ofNat 32 a).sle (BitVec.ofNat 32 b) = decide (a ≤ b) := by
    intro a b ha hb
    rw [BitVec.sle_eq_decide, BitVec.toInt_eq_toNat_of_lt (by simp; omega), BitVec.toInt_eq_toNat_of_lt (by simp; omega)]
    simp only [BitVec.toNat_ofNat]
    rw [Nat.mod_eq_of_lt (by omega), Nat.mod_eq_of_lt (by omega)]
    simp
  show BitVec.ofBool ((BitVec.ofNat 32 j.val).sle (BitVec.ofNat 32 (row.val % 256))) = _
  rw [key _ _ hj hr]
  by_cases h : j.val ≤ row.val % 256 <;> simp [h]

/-- The own block's masked scores: causal. -/
theorem pay16_apply (a : FVec Ideal S1x4x256x64 .bf16) (b : FVec Ideal S1x1x256x64 .bf16) (row : Fin 1024) (j : Fin 256) :
    k0_pay16 (F := Ideal) a b (ix2 row j)
      = if j.val ≤ row.val % 256 then ∑ x, a (ix4 0 (gg row) (rr row) x) * b (ix4 0 0 j x) else ⊥ := by
  pointwise [k0_pay16]
  rw [causal_word, ofBits_neg_inf]
  simp only [pay14_apply]
  split <;> simp [Scalar.select]

/-- The own block's maximum. -/
theorem pay17_apply (a : FVec Ideal S1x4x256x64 .bf16) (b : FVec Ideal S1x1x256x64 .bf16) (row : Fin 1024) :
    k0_pay17 (F := Ideal) a b (ix2 row 0) = Finset.univ.sup fun j => k0_pay16 (F := Ideal) a b (ix2 row j) := by
  pointwise [k0_pay17]
  rw [ofBits_neg_inf]
  rfl

/-- The own block's sum of exponentials. -/
theorem pay19_apply (a : FVec Ideal S1x4x256x64 .bf16) (b : FVec Ideal S1x1x256x64 .bf16) (row : Fin 1024) :
    k0_pay19 (F := Ideal) a b (ix2 row 0)
      = ∑ j, Ideal.exp (k0_pay16 (F := Ideal) a b (ix2 row j) - k0_pay17 (F := Ideal) a b (ix2 row 0)) := by
  pointwise [k0_pay19, k0_pay18]

/-- The own block's weighted sum. -/
theorem pay20_apply (a : FVec Ideal S1x4x256x64 .bf16) (b c : FVec Ideal S1x1x256x64 .bf16) (row : Fin 1024) (d : Fin 64) :
    k0_pay20 (F := Ideal) a b c (ix2 row d)
      = ∑ j, Ideal.exp (k0_pay16 (F := Ideal) a b (ix2 row j) - k0_pay17 (F := Ideal) a b (ix2 row 0)) * c (ix4 0 0 j d) := by
  pointwise [k0_pay20, k0_pay18]

end Cert.MobaIdeal.Value

end
-- ==== Proof.MobaOut.lean ====
/-
  The attention kernel's loop over the chosen blocks of keys, and what one grid point stores: for each query of the
  point, the softmax by blocks (`Cert.Online`) of its masked scores, applied to the values.
-/
module

public import proofs.«01_k».proof.Proof.MobaPay

@[expose] public section

set_option maxRecDepth 16384

noncomputable section

open Idealize.ShloMosaic Idealize.ShloMosaic.TcCoe Idealize.SL.Sem

namespace Cert.MobaIdeal.Value

open Cert.MobaIdeal Cert.MobaIdeal.Gen

theorem hz4 : (![0, 0, 0, 0] : Fin 4 → Nat) = fun _ => 0 := funext fun a => by fin_cases a <;> rfl

/-- The second loop makes no trip. -/
theorem t2_zero (i : grid0.Coords) : (k0_t2_loop i).trips = 0 := by
  have h : ∀ n : Fin 8, (⟨Scalar.addi 0#32 (Scalar.muli (Scalar.divsi (Scalar.subi (BitVec.ofNat 32 n.val) 0#32) 1#32) 1#32), Scalar.addi 0#32 (Scalar.subi (BitVec.ofNat 32 n.val) 0#32), 1#32⟩ : Scf.Loop 32).trips = 0 := by decide +kernel
  exact h (i 2)

/-- The first loop makes one trip for every earlier block. -/
theorem t1_trips (i : grid0.Coords) : (k0_t1_loop i).trips = (i 2).val := by
  have h : ∀ n : Fin 8, (⟨0#32, Scalar.addi 0#32 (Scalar.muli (Scalar.divsi (Scalar.subi (BitVec.ofNat 32 n.val) 0#32) 1#32) 1#32), 1#32⟩ : Scf.Loop 32).trips = n.val := by decide +kernel
  exact h (i 2)

/-- Key `j` of block `b`. -/
abbrev kk (b : ℕ) (j : Fin 256) : Fin 2048 := ⟨(256 * b + j.val) % 2048, Nat.mod_lt _ (by decide)⟩

/-- The own block of a staged array of keys (or values), as loaded. -/
def own (X : Vec Ideal S1x1x2048x64 .bf16) (i : grid0.Coords) : Vec Ideal S1x1x256x64 .bf16 :=
  View.ld X (Rect.unit (s := S1x1x2048x64) (k0_off1 i) S1x1x256x64.size (k0_off1_inb i))

/-- A trip's block of a staged array of keys (or values), as loaded. -/
def past (X : Vec Ideal S1x1x2048x64 .bf16) (i : grid0.Coords) (k : Fin (k0_t1_loop i).trips) : Vec Ideal S1x1x256x64 .bf16 :=
  View.ld X (Rect.unit (s := S1x1x2048x64) (k0_off2 i k) S1x1x256x64.size (k0_off2_inb i k))

/-- The own block at an element. -/
theorem own_apply (X : Vec Ideal S1x1x2048x64 .bf16) (i : grid0.Coords) (j : Fin 256) (d : Fin 64) :
    own X i (ix4 0 0 j d) = X (ix4 0 0 (kk (i 2).val j) d) := by
  have h : ∀ n : Fin 8, (Scalar.muli (BitVec.ofNat 32 n.val) 256#32).toNat = 256 * n.val := by decide +kernel
  have h2 : k0_off1 i 2 = 256 * (i 2).val := h (i 2)
  have hq : (i 2).val < 8 := (i 2).isLt
  have hj := j.isLt
  unfold own View.ld
  refine congrArg X (funext fun a => Fin.ext ?_)
  match a with
  | ⟨0, _⟩ => rfl
  | ⟨1, _⟩ => rfl
  | ⟨2, _⟩ =>
    show k0_off1 i 2 + 1 * j.val = (256 * (i 2).val + j.val) % 2048
    rw [h2]; omega
  | ⟨3, _⟩ => show 0 + 1 * d.val = d.val; omega

/-- A trip's block at an element. -/
theorem past_apply (X : Vec Ideal S1x1x2048x64 .bf16) (i : grid0.Coords) (k : Fin (k0_t1_loop i).trips) (j : Fin 256) (d : Fin 64) :
    past X i k (ix4 0 0 j d) = X (ix4 0 0 (kk k.val j) d) := by
  have h : ∀ n : Fin 8, (Scalar.muli (Scf.iv 0#32 1#32 n.val) 256#32).toNat = 256 * n.val := by decide +kernel
  have hk : k.val < 8 := lt_trans (lt_of_lt_of_eq k.isLt (t1_trips i)) (i 2).isLt
  have h2 : k0_off2 i k 2 = 256 * k.val := h ⟨k.val, hk⟩
  have hj := j.isLt
  unfold past View.ld
  refine congrArg X (funext fun a => Fin.ext ?_)
  match a with
  | ⟨0, _⟩ => rfl
  | ⟨1, _⟩ => rfl
  | ⟨2, _⟩ =>
    show k0_off2 i k 2 + 1 * j.val = (256 * k.val + j.val) % 2048
    rw [h2]; omega
  | ⟨3, _⟩ => show 0 + 1 * d.val = d.val; omega

/-- The masked score of key `j` of block `b` for query `r` of head `g` of a point of query block `q`: causal in the own
    block, by the query's indicator in another. -/
def score (x0 : Vec Ideal S1x4x256x64 .bf16) (x1 : Vec Ideal S1x1x2048x64 .bf16) (x3 : Vec Ideal S1x1x256x8 .f32)
    (q : ℕ) (g : Fin 4) (r : Fin 256) (b : ℕ) (j : Fin 256) : EReal :=
  if b = q then (if j.val ≤ r.val then ∑ x, x0 (ix4 0 g r x) * x1 (ix4 0 0 (kk b j) x) else ⊥)
  else if 0 < x3 (ix4 0 0 r ⟨b % 8, Nat.mod_lt _ (by decide)⟩) then ∑ x, x0 (ix4 0 g r x) * x1 (ix4 0 0 (kk b j) x) else ⊥

/-- The values by block. -/
def vals (x2 : Vec Ideal S1x1x2048x64 .bf16) (d : Fin 64) (b : ℕ) (j : Fin 256) : EReal := x2 (ix4 0 0 (kk b j) d)

section
variable (c : Dev nD) (i : grid0.Coords) (arg3 : Memref sig .tc .vmem S1x4x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x1x256x8 .f32) (harg6 : arg6.IsWhole) (arg7 : Memref sig .tc .vmem S1x4x256x64 .bf16) (harg7 : arg7.IsWhole)
    (x0 : Vec Ideal S1x4x256x64 .bf16) (x1 : Vec Ideal S1x1x2048x64 .bf16) (x2 : Vec Ideal S1x1x2048x64 .bf16) (x3 : Vec Ideal S1x1x256x8 .f32)

/-- What the loop carries before its first trip: the own block's maximum, sum and weighted sum. -/
def start : FVec Ideal S1024x1 .f32 × FVec Ideal S1024x1 .f32 × FVec Ideal S1024x64 .f32 :=
  (k0_pay17 (F := Ideal) x0 (own x1 i),
   k0_pay19 (F := Ideal) x0 (own x1 i),
   k0_pay20 (F := Ideal) x0 (own x1 i)
    (own x2 i))

/-- What the loop carries before trip `n`. -/
abbrev carried (n : ℕ) : FVec Ideal S1024x1 .f32 × FVec Ideal S1024x1 .f32 × FVec Ideal S1024x64 .f32 :=
  st_k0_t1 (F := Ideal) Variants.none c none i arg3 harg3 arg4 harg4 arg5 harg5 arg6 harg6 arg7 harg7 (k0_pay14 (F := Ideal) x0)
    (k0_pay15 (F := Ideal) x3) (iota .tc S256x8 32 [1] iota_S256x8_d1_w32) 0#32 (harg4.unread x1) (harg5.unread x2) (start i x0 x1 x2) n

/-- One trip, by the body's named values of the blocks it loads. -/
theorem carried_succ (n : ℕ) (h : n < (k0_t1_loop i).trips) :
    carried c i arg3 harg3 arg4 harg4 arg5 harg5 arg6 harg6 arg7 harg7 x0 x1 x2 x3 (n + 1)
      = (k0_pay2 (F := Ideal) i (k0_pay14 (F := Ideal) x0) (k0_pay15 (F := Ideal) x3) (iota .tc S256x8 32 [1] iota_S256x8_d1_w32) 0#32 ⟨n, h⟩
          (carried c i arg3 harg3 arg4 harg4 arg5 harg5 arg6 harg6 arg7 harg7 x0 x1 x2 x3 n).1
          (past x1 i ⟨n, h⟩),
        k0_pay5 (F := Ideal) i (k0_pay14 (F := Ideal) x0) (k0_pay15 (F := Ideal) x3) (iota .tc S256x8 32 [1] iota_S256x8_d1_w32) 0#32 ⟨n, h⟩
          (carried c i arg3 harg3 arg4 harg4 arg5 harg5 arg6 harg6 arg7 harg7 x0 x1 x2 x3 n).1
          (carried c i arg3 harg3 arg4 harg4 arg5 harg5 arg6 harg6 arg7 harg7 x0 x1 x2 x3 n).2.1
          (past x1 i ⟨n, h⟩),
        k0_pay6 (F := Ideal) i (k0_pay14 (F := Ideal) x0) (k0_pay15 (F := Ideal) x3) (iota .tc S256x8 32 [1] iota_S256x8_d1_w32) 0#32 ⟨n, h⟩
          (carried c i arg3 harg3 arg4 harg4 arg5 harg5 arg6 harg6 arg7 harg7 x0 x1 x2 x3 n).1
          (carried c i arg3 harg3 arg4 harg4 arg5 harg5 arg6 harg6 arg7 harg7 x0 x1 x2 x3 n).2.2
          (past x1 i ⟨n, h⟩)
          (past x2 i ⟨n, h⟩)) := by
  refine (st_k0_t1_succ (F := Ideal) Variants.none c none i arg3 harg3 arg4 harg4 arg5 harg5 arg6 harg6 arg7 harg7 _ _ _ _ _ _ _ ⟨n, h⟩).trans ?_
  unfold tripR_k0_t1 trip_k0_t1
  simp only [View.readAt_eq_ld, harg4.read_unread, harg5.read_unread]
  rfl

/-- The loop's three carried values before trip `n`, at a row: the running maximum, sum and weighted sum of the row's
    masked scores. -/
theorem carried_apply (row : Fin 1024) : ∀ n, n ≤ (i 2).val →
    (carried c i arg3 harg3 arg4 harg4 arg5 harg5 arg6 harg6 arg7 harg7 x0 x1 x2 x3 n).1 (ix2 row 0)
        = Online.top (score x0 x1 x3 (i 2).val (gg row) (rr row)) (i 2).val n
      ∧ (carried c i arg3 harg3 arg4 harg4 arg5 harg5 arg6 harg6 arg7 harg7 x0 x1 x2 x3 n).2.1 (ix2 row 0)
        = Online.den (score x0 x1 x3 (i 2).val (gg row) (rr row)) (i 2).val n
      ∧ ∀ d, (carried c i arg3 harg3 arg4 harg4 arg5 harg5 arg6 harg6 arg7 harg7 x0 x1 x2 x3 n).2.2 (ix2 row d)
        = Online.num (score x0 x1 x3 (i 2).val (gg row) (rr row)) (vals x2 d) (i 2).val n
  | 0, _ => by
    have e : carried c i arg3 harg3 arg4 harg4 arg5 harg5 arg6 harg6 arg7 harg7 x0 x1 x2 x3 0 = start i x0 x1 x2 := rfl
    have hS : ∀ j : Fin 256, k0_pay16 (F := Ideal) x0 (own x1 i) (ix2 row j)
        = score x0 x1 x3 (i 2).val (gg row) (rr row) (i 2).val j := fun j => by
      rw [pay16_apply, score, if_pos rfl]
      simp only [own_apply]
    rw [e]
    unfold start
    dsimp only
    simp only [pay19_apply, pay20_apply, pay17_apply, hS, own_apply]
    exact ⟨rfl, rfl, fun d => rfl⟩
  | n + 1, hn => by
    have h : n < (k0_t1_loop i).trips := by rw [t1_trips]; omega
    have hq : (i 2).val < 8 := (i 2).isLt
    obtain ⟨h1, h2, h3⟩ := carried_apply row n (by omega)
    have hS : ∀ j : Fin 256, k0_pay1 (F := Ideal) i (k0_pay14 (F := Ideal) x0) (k0_pay15 (F := Ideal) x3) (iota .tc S256x8 32 [1] iota_S256x8_d1_w32) 0#32 ⟨n, h⟩
        (past x1 i ⟨n, h⟩) (ix2 row j)
        = score x0 x1 x3 (i 2).val (gg row) (rr row) n j := fun j => by
      have hne : ¬ n = (i 2).val := by omega
      have hn8 : n % 8 = n := Nat.mod_eq_of_lt (by omega)
      rw [pay1_apply (k' := ⟨n % 8, Nat.mod_lt _ (by decide)⟩) (hk := hn8), score, if_neg hne]
      simp only [past_apply, pay14_apply, pay15_apply]
    rw [carried_succ (h := h)]
    dsimp only
    simp only [pay5_apply, pay6_apply, pay2_apply, hS, past_apply, h1, h2, h3]
    exact ⟨rfl, rfl, fun d => rfl⟩

/-- What a grid point stores, at an element. -/
theorem out_apply (g : Fin 4) (r : Fin 256) (d : Fin 64) :
    out0_A_4 (F := Ideal) c i arg3 harg3 arg4 harg4 arg5 harg5 arg6 harg6 arg7 harg7 x0 x1 x2 x3 (ix4 0 g r d)
      = Ideal.div (Online.num (score x0 x1 x3 (i 2).val g r) (vals x2 d) (i 2).val (i 2).val)
          (Online.den (score x0 x1 x3 (i 2).val g r) (i 2).val (i 2).val) := by
  have e : out0_A_4 (F := Ideal) c i arg3 harg3 arg4 harg4 arg5 harg5 arg6 harg6 arg7 harg7 x0 x1 x2 x3
      = k0_pay13 (F := Ideal) (carried c i arg3 harg3 arg4 harg4 arg5 harg5 arg6 harg6 arg7 harg7 x0 x1 x2 x3 (k0_t1_loop i).trips).2.1
          (carried c i arg3 harg3 arg4 harg4 arg5 harg5 arg6 harg6 arg7 harg7 x0 x1 x2 x3 (k0_t1_loop i).trips).2.2 := by
    unfold out0_A_4
    rw [View.read_writes_eq_canon _ _ _ (cover0_A_4 c i arg3 harg3 arg4 harg4 arg5 harg5 arg6 harg6 arg7 harg7 x0 x1 x2 x3)]
    unfold kernelRun0_A
    dsimp only
    sl_unfold_words
    rw [View.canon_unit_zero hz4]
    simp only [View.readAt_eq_ld, harg3.read_unread, harg4.read_unread, harg5.read_unread, harg6.read_unread,
      View.ld_unit_zero (S := S1x4x256x64) hz4, View.ld_unit_zero (S := S1x1x256x8) hz4]
    have h2 : ∀ (v4 : FVec Ideal S1024x64 .f32) (v5 : FVec Ideal S256x8 .f32) (v32 : IVec S256x8 32) (z w : BitVec 32)
        (a : FVec Ideal S1024x1 .f32 × FVec Ideal S1024x1 .f32 × FVec Ideal S1024x64 .f32),
        st_k0_t2 (F := Ideal) Variants.none c none i arg3 harg3 arg4 harg4 arg5 harg5 arg6 harg6 arg7 harg7 v4 v5 v32 z w
          (harg4.unread x1) (harg5.unread x2) a (k0_t2_loop i).trips = a := fun _ _ _ _ _ _ => by
      rw [t2_zero]; rfl
    have h3 := congrArg (fun s => k0_pay13 (F := Ideal) s.2.1 s.2.2) (h2 (k0_pay14 (F := Ideal) x0) (k0_pay15 (F := Ideal) x3)
      (iota .tc S256x8 32 [1] iota_S256x8_d1_w32) 0#32 (Scalar.subi (BitVec.ofNat 32 (i 2).val) 0#32)
      (carried c i arg3 harg3 arg4 harg4 arg5 harg5 arg6 harg6 arg7 harg7 x0 x1 x2 x3 (k0_t1_loop i).trips))
    exact Eq.trans rfl h3
  rw [e, t1_trips, pay13_apply]
  obtain ⟨_, h2, h3⟩ := carried_apply c i arg3 harg3 arg4 harg4 arg5 harg5 arg6 harg6 arg7 harg7 x0 x1 x2 x3
    ⟨g.val * 256 + r.val, by have := g.isLt; have := r.isLt; omega⟩ (i 2).val le_rfl
  have hg : gg ⟨g.val * 256 + r.val, by have := g.isLt; have := r.isLt; omega⟩ = g := Fin.ext (by
    have := r.isLt; show (g.val * 256 + r.val) / 256 = g.val; omega)
  have hr : rr ⟨g.val * 256 + r.val, by have := g.isLt; have := r.isLt; omega⟩ = r := Fin.ext (by
    have := r.isLt; show (g.val * 256 + r.val) % 256 = r.val; omega)
  rw [h2, h3, hg, hr]

end

end Cert.MobaIdeal.Value

end
-- ==== Proof.MobaMask.lean ====
/-
  The attention reference's masked scores at a query and a key.
-/
module

public import proofs.«01_k».proof.Proof.Gen.MobaRefIdeal.Read
public import Idealize.ShloMosaic.Lib.Pointwise
public import Idealize.ShloMosaic.Lib.WordCmp

@[expose] public section

set_option maxRecDepth 16384

noncomputable section

open Idealize.ShloMosaic Idealize.ShloMosaic.TcCoe Idealize.SL.Sem Idealize.ShloMosaic.WordCmp

namespace Cert.MobaRefIdeal.Read
open Cert.MobaRefIdeal Cert.MobaRefIdeal.Gen

/-- The masked score of key `k` for query `t`: causal in the query's own block, by the block's indicator in an earlier one. -/
def masked (x0 : FVec Ideal S8x16x2048x64 .bf16) (x1 : FVec Ideal S8x4x2048x64 .bf16) (x3 : FVec Ideal S8x4x2048x8 .f32) (b : Fin 8) (kh g : Fin 4) (t k : Fin 2048) : EReal :=
  if (t.val / 256 = k.val / 256 ∧ k.val ≤ t.val) ∨ (k.val / 256 < t.val / 256 ∧ 0 < x3 (ix4 b kh t ⟨k.val / 256, by have := k.isLt; omega⟩)) then
    ∑ l, x0 (ix4 b ⟨kh.val * 4 + g.val, by have := kh.isLt; have := g.isLt; omega⟩ t l) * x1 (ix4 b kh k l)
  else ⊥

/-- The pattern of minus infinity is `⊥`. -/
theorem ofBits_neg_inf : Ideal.ofBits FTy.f32 4286578688#32 = ⊥ := by
  simp [Ideal.ofBits, Ideal.ieee]

/-- A compare of two small words, for equality. -/
theorem cmpi_eq_small {a b : ℕ} (ha : a < 2048) (hb : b < 2048) :
    IntOp.cmpi CmpIPredicate.eq (BitVec.ofNat 32 a) (BitVec.ofNat 32 b) = BitVec.ofBool (decide (a = b)) := by
  rw [cmpi_eq_ofNat (by omega) (by omega)]

/-- A compare of two small words, for order. -/
theorem cmpi_slt_small {a b : ℕ} (ha : a < 2048) (hb : b < 2048) :
    IntOp.cmpi CmpIPredicate.slt (BitVec.ofNat 32 a) (BitVec.ofNat 32 b) = BitVec.ofBool (decide (a < b)) := by
  rw [cmpi_slt_ofNat (by norm_num; omega) (by norm_num; omega)]

/-- A compare of two small words, for order or equality. -/
theorem cmpi_sle_small {a b : ℕ} (ha : a < 2048) (hb : b < 2048) :
    IntOp.cmpi CmpIPredicate.sle (BitVec.ofNat 32 a) (BitVec.ofNat 32 b) = BitVec.ofBool (decide (a ≤ b)) := by
  rw [cmpi_sle_ofNat (by norm_num; omega) (by norm_num; omega)]

/-- A choice by two conjunctions of conditions. -/
theorem select_mask (p q r s : Prop) [Decidable p] [Decidable q] [Decidable r] [Decidable s] (x y : EReal) :
    Scalar.select (IntOp.ori (IntOp.andi (BitVec.ofBool (decide p)) (BitVec.ofBool (decide q)))
      (IntOp.andi (BitVec.ofBool (decide r)) (BitVec.ofBool (decide s)))) x y = if (p ∧ q) ∨ (r ∧ s) then x else y := by
  by_cases hp : p <;> by_cases hq : q <;> by_cases hr : r <;> by_cases hs : s <;>
    simp [hp, hq, hr, hs, Scalar.select, IntOp.ori, IntOp.andi]

/-- The reference's masked scores. -/
theorem masked_apply (x0 : FVec Ideal S8x16x2048x64 .bf16) (x1 : FVec Ideal S8x4x2048x64 .bf16) (x3 : FVec Ideal S8x4x2048x8 .f32) (b : Fin 8) (kh g : Fin 4) (t k : Fin 2048) :
    val_main_v36 (F := Ideal) x0 x1 x3 (ix5 b kh g t k) = masked x0 x1 x3 b kh g t k := by
  pointwise [val_main_v36, val_main_call0_v1, val_main_call0_v2, val_main_call0_v0, val_main_cst_0, val_main_v35, val_main_v34, val_main_v33, val_main_v32, val_main_v31, val_main_v30, val_main_v29, val_main_v28, val_main_v27, val_main_v26, val_main_v25, val_main_v24, val_main_cst, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0]
  unfold masked
  rw [cmpi_eq_small (by omega) (by omega), cmpi_slt_small (by omega) (by omega), cmpi_sle_small (by omega) (by omega)]
  exact select_mask _ _ _ _ _ _

end Cert.MobaRefIdeal.Read
end
-- ==== Proof.MobaRef.lean ====
/-
  The attention reference at an element: the softmax of the masked scores of a query, times the values.
-/
module

public import proofs.«01_k».proof.Proof.MobaMask

@[expose] public section

set_option maxRecDepth 16384

noncomputable section

open Idealize.ShloMosaic Idealize.ShloMosaic.TcCoe Idealize.SL.Sem

namespace Cert.MobaRefIdeal.Read
open Cert.MobaRefIdeal Cert.MobaRefIdeal.Gen

variable (x0 : FVec Ideal S8x16x2048x64 .bf16) (x1 x2 : FVec Ideal S8x4x2048x64 .bf16) (x3 : FVec Ideal S8x4x2048x8 .f32)
    (b : Fin 8) (kh g : Fin 4) (t : Fin 2048)

/-- The largest score of a query. -/
theorem max_apply : val_main_v39 (F := Ideal) x0 x1 x3 (ix4 b kh g t) = Finset.univ.sup fun k => masked x0 x1 x3 b kh g t k := by
  have h : ∀ k, val_main_v36 (F := Ideal) x0 x1 x3 (ix5 b kh g t k) = masked x0 x1 x3 b kh g t k := masked_apply x0 x1 x3 b kh g t
  rw [val_main_v39_apply]
  unfold val_main_v37
  generalize val_main_v36 (F := Ideal) x0 x1 x3 = y at h ⊢
  pointwise [val_main_v38, val_main_cst_2, val_main_cst_1]
  simp only [h, ofBits_neg_inf, max_eq_right bot_le]
  rfl

/-- The exponential of a score below the largest. -/
theorem exp_apply (k : Fin 2048) : val_main_v43 (F := Ideal) x0 x1 x3 (ix5 b kh g t k)
    = Ideal.exp (masked x0 x1 x3 b kh g t k - Finset.univ.sup fun k => masked x0 x1 x3 b kh g t k) := by
  rw [val_main_v43_apply, val_main_v42_apply, val_main_v41_apply, val_main_v40_apply, masked_apply]
  have e : idx_main_v40 (idx_main_v41 (ix5 b kh g t k)) = ix4 b kh g t := funext fun a => Fin.ext (by
    match a with | ⟨0, _⟩ => rfl | ⟨1, _⟩ => rfl | ⟨2, _⟩ => rfl | ⟨3, _⟩ => rfl)
  rw [e, max_apply]
  rfl

/-- A query's weight on a key. -/
theorem weight_apply (k : Fin 2048) : val_main_v49 (F := Ideal) x0 x1 x3 (ix5 b kh g t k)
    = Ideal.div (Ideal.exp (masked x0 x1 x3 b kh g t k - Finset.univ.sup fun k => masked x0 x1 x3 b kh g t k))
        (∑ k, Ideal.exp (masked x0 x1 x3 b kh g t k - Finset.univ.sup fun k => masked x0 x1 x3 b kh g t k)) := by
  rw [val_main_v49_apply, val_main_v48_apply, val_main_v47_apply, val_main_v46_apply, val_main_v45_apply, exp_apply]
  have e : idx_main_v45 (idx_main_v46 (ix5 b kh g t k)) = ix4 b kh g t := funext fun a => Fin.ext (by
    match a with | ⟨0, _⟩ => rfl | ⟨1, _⟩ => rfl | ⟨2, _⟩ => rfl | ⟨3, _⟩ => rfl)
  have e2 : ∀ x : Fin 2048, idx_main_v44 (ix4 b kh g t) x = ix5 b kh g t x := fun x => funext fun a => Fin.ext (by
    match a with | ⟨0, _⟩ => rfl | ⟨1, _⟩ => rfl | ⟨2, _⟩ => rfl | ⟨3, _⟩ => rfl | ⟨4, _⟩ => rfl)
  rw [e, val_main_v44_apply]
  have z : val_main_cst_3 (F := Ideal) (Shape.Idx.first h_S_) = 0 := by
    pointwise [val_main_cst_3]
  have s : ∑ x : Fin 2048, val_main_v43 (F := Ideal) x0 x1 x3 (idx_main_v44 (ix4 b kh g t) x)
      = ∑ k, Ideal.exp (masked x0 x1 x3 b kh g t k - Finset.univ.sup fun k => masked x0 x1 x3 b kh g t k) :=
    Finset.sum_congr rfl fun x _ => by rw [e2, exp_apply]
  rw [z, s, zero_add]
  rfl

/-- The reference's result at an element. -/
theorem result_apply (d : Fin 64) : val_main_v53 (F := Ideal) x0 x1 x2 x3 (ix4 b ⟨kh.val * 4 + g.val, by have := kh.isLt; have := g.isLt; omega⟩ t d)
    = ∑ k, Ideal.div (Ideal.exp (masked x0 x1 x3 b kh g t k - Finset.univ.sup fun k => masked x0 x1 x3 b kh g t k))
        (∑ k, Ideal.exp (masked x0 x1 x3 b kh g t k - Finset.univ.sup fun k => masked x0 x1 x3 b kh g t k)) * x2 (ix4 b kh k d) := by
  have e : idx_main_v53 (ix4 b ⟨kh.val * 4 + g.val, by have := kh.isLt; have := g.isLt; omega⟩ t d) = ix5 b kh g t d := funext fun a => Fin.ext (by
    have hb := b.isLt; have hk := kh.isLt; have hg := g.isLt; have ht := t.isLt; have hd := d.isLt
    match a with
    | ⟨0, _⟩ => show (((b.val * 16 + (kh.val * 4 + g.val)) * 2048 + t.val) * 64 + d.val) / 2097152 = b.val; omega
    | ⟨1, _⟩ => show (((b.val * 16 + (kh.val * 4 + g.val)) * 2048 + t.val) * 64 + d.val) / 524288 % 4 = kh.val; omega
    | ⟨2, _⟩ => show (((b.val * 16 + (kh.val * 4 + g.val)) * 2048 + t.val) * 64 + d.val) / 131072 % 4 = g.val; omega
    | ⟨3, _⟩ => show (((b.val * 16 + (kh.val * 4 + g.val)) * 2048 + t.val) * 64 + d.val) / 64 % 2048 = t.val; omega
    | ⟨4, _⟩ => show (((b.val * 16 + (kh.val * 4 + g.val)) * 2048 + t.val) * 64 + d.val) % 64 = d.val; omega)
  rw [val_main_v53_apply, e, val_main_v52_apply, val_main_v51_apply]
  show ∑ k : Fin 2048, _ = _
  refine Finset.sum_congr rfl fun k _ => ?_
  have el : lidx_main_v51 (ix5 b kh g t d) k = ix5 b kh g t k := funext fun a => Fin.ext (by
    match a with | ⟨0, _⟩ => rfl | ⟨1, _⟩ => rfl | ⟨2, _⟩ => rfl | ⟨3, _⟩ => rfl | ⟨4, _⟩ => rfl)
  have er : ridx_main_v51 (ix5 b kh g t d) k = ix4 b kh k d := funext fun a => Fin.ext (by
    match a with | ⟨0, _⟩ => rfl | ⟨1, _⟩ => rfl | ⟨2, _⟩ => rfl | ⟨3, _⟩ => rfl)
  rw [el, er, weight_apply, val_main_v50_apply]
  rfl

end Cert.MobaRefIdeal.Read
end
-- ==== Proof.MobaTop.lean ====
/-
  The attention kernel's result array: every grid point's block is the reference's, and the blocks cover the array.
-/
module

public import proofs.«01_k».proof.Defs
public import proofs.«01_k».proof.Proof.MobaOut
public import proofs.«01_k».proof.Proof.MobaRef
public import Idealize.ShloMosaic.Lib.ReduceAll

@[expose] public section

set_option maxRecDepth 16384

noncomputable section

open Idealize.ShloMosaic Idealize.ShloMosaic.TcCoe Idealize.SL.Sem

namespace Cert.MobaIdeal.Value

open Cert.MobaIdeal Cert.MobaIdeal.Gen
open Cert.MobaRefIdeal.Read (masked)

/-- A sum of products of reals is a real. -/
theorem dot_real {n : ℕ} (f g : Fin n → EReal) (hf : ∀ x, f x ≠ ⊤ ∧ f x ≠ ⊥) (hg : ∀ x, g x ≠ ⊤ ∧ g x ≠ ⊥) :
    ∑ x, f x * g x ≠ ⊤ ∧ ∑ x, f x * g x ≠ ⊥ := by
  have e : ∑ x, f x * g x = ((∑ x, (f x).toReal * (g x).toReal : ℝ) : EReal) := by
    rw [Online.coe_sum]
    refine Finset.sum_congr rfl fun x _ => ?_
    rw [EReal.coe_mul, EReal.coe_toReal (hf x).1 (hf x).2, EReal.coe_toReal (hg x).1 (hg x).2]
  rw [e]
  exact ⟨EReal.coe_ne_top _, EReal.coe_ne_bot _⟩

/-- Both compares with the infinities hold of an element that is a real. -/
theorem real_of_cmp (y : EReal) (h : IntOp.andi (Ideal.cmp .olt y (Ideal.ofBits .f32 0x7F800000#32)) (Ideal.cmp .ogt y (Ideal.ofBits .f32 0xFF800000#32)) = 1#1) :
    y ≠ ⊤ ∧ y ≠ ⊥ := by
  have h1 : Ideal.ofBits .f32 0x7F800000#32 = ⊤ := by simp [Ideal.ofBits, Ideal.ieee]
  have h2 : Ideal.ofBits .f32 0xFF800000#32 = ⊥ := by simp [Ideal.ofBits, Ideal.ieee]
  rw [h1, h2] at h
  constructor <;> rintro rfl <;> revert h <;> simp [Ideal.cmp, IntOp.andi]

/-- The precondition, element by element. -/
theorem finite_of_pre [hPre : Cert.Pre_moba_finite.Facts] (m : (ℓ : Loc nD τ sig) → Buf (Elt Ideal) ℓ) (h : Cert.Pre_MobaIdeal_moba_finite m) (c : Dev nD) :
    (∀ i : S8x16x2048x64.Idx, m ((c : Thread nD τ).loc main_arg0) i ≠ (⊤ : EReal) ∧ m ((c : Thread nD τ).loc main_arg0) i ≠ (⊥ : EReal))
      ∧ (∀ i : S8x4x2048x64.Idx, m ((c : Thread nD τ).loc main_arg1) i ≠ (⊤ : EReal) ∧ m ((c : Thread nD τ).loc main_arg1) i ≠ (⊥ : EReal)) := by
  have h0 := h c
  dsimp only [Cert.Pre_moba_finite.fn] at h0
  have h1 := congrFun h0 (fun a => a.elim0)
  have h2 := (show ∀ a b : BitVec 1, IntOp.andi a b = 1#1 → a = 1#1 ∧ b = 1#1 by decide) _ _ h1
  exact ⟨fun i => real_of_cmp _ (Host.reduce_andi_all _ _ _ _ _ h2.1 i), fun i => real_of_cmp _ (Host.reduce_andi_all _ _ _ _ _ h2.2 i)⟩

/-! ## The windows' blocks -/

/-- The batch of a grid point. -/
abbrev tb (t : Fin cfg0.N) : Fin 8 := ⟨t.val / 32, by have h : cfg0.N = 256 := N_0; have := t.isLt; omega⟩
/-- The key-value head of a grid point. -/
abbrev th (t : Fin cfg0.N) : Fin 4 := ⟨t.val / 8 % 4, by omega⟩
/-- A query head of a grid point. -/
abbrev tg (t : Fin cfg0.N) (g : Fin 4) : Fin 16 := ⟨(t.val / 8 % 4) * 4 + g.val, by have := g.isLt; omega⟩
/-- A query of a grid point. -/
abbrev tq (t : Fin cfg0.N) (r : Fin 256) : Fin 2048 := ⟨t.val % 8 * 256 + r.val, by have := r.isLt; omega⟩

/-- The five windows' blocks and the query block, at every grid point. -/
theorem idx_eq : ∀ t : Fin grid0.N,
    (win0_0.index t 0 = t.val / 32 ∧ win0_0.index t 1 = t.val / 8 % 4 ∧ win0_0.index t 2 = t.val % 8 ∧ win0_0.index t 3 = 0)
    ∧ (win0_1.index t 0 = t.val / 32 ∧ win0_1.index t 1 = t.val / 8 % 4 ∧ win0_1.index t 2 = 0 ∧ win0_1.index t 3 = 0)
    ∧ (win0_2.index t 0 = t.val / 32 ∧ win0_2.index t 1 = t.val / 8 % 4 ∧ win0_2.index t 2 = 0 ∧ win0_2.index t 3 = 0)
    ∧ (win0_3.index t 0 = t.val / 32 ∧ win0_3.index t 1 = t.val / 8 % 4 ∧ win0_3.index t 2 = t.val % 8 ∧ win0_3.index t 3 = 0)
    ∧ (win0_4.index t 0 = t.val / 32 ∧ win0_4.index t 1 = t.val / 8 % 4 ∧ win0_4.index t 2 = t.val % 8 ∧ win0_4.index t 3 = 0)
    ∧ (grid0.coords t 2).val = t.val % 8 := by
  decide +kernel

variable (m : (ℓ : Loc nD τ sig) → Buf (Elt Ideal) ℓ) (c : Dev nD)

/-- The queries' block at an element. -/
theorem iblk0_apply (t : Fin cfg0.N) (g : Fin 4) (r : Fin 256) (x : Fin 64) :
    (iblk m c 0 t : Vec Ideal S1x4x256x64 .bf16) (ix4 0 g r x) = m ((c : Thread nD τ).loc main_arg0) (ix4 (tb t) (tg t g) (tq t r) x) := by
  obtain ⟨⟨h0, h1, h2, h3⟩, -⟩ := idx_eq t
  unfold iblk
  rw [View.read_apply]
  show V m c main_arg0 _ = _
  refine congrArg (m ((c : Thread nD τ).loc main_arg0)) (funext fun a => Fin.ext ?_)
  match a with
  | ⟨0, _⟩ => show win0_0.index t 0 * 1 + 1 * 0 = t.val / 32; rw [h0]; omega
  | ⟨1, _⟩ => show win0_0.index t 1 * 4 + 1 * g.val = t.val / 8 % 4 * 4 + g.val; rw [h1]; omega
  | ⟨2, _⟩ => show win0_0.index t 2 * 256 + 1 * r.val = t.val % 8 * 256 + r.val; rw [h2]; omega
  | ⟨3, _⟩ => show win0_0.index t 3 * 64 + 1 * x.val = x.val; rw [h3]; omega

/-- The keys' block at an element. -/
theorem iblk1_apply (t : Fin cfg0.N) (k : Fin 2048) (x : Fin 64) :
    (iblk m c 1 t : Vec Ideal S1x1x2048x64 .bf16) (ix4 0 0 k x) = m ((c : Thread nD τ).loc main_arg1) (ix4 (tb t) (th t) k x) := by
  obtain ⟨-, ⟨h0, h1, h2, h3⟩, -⟩ := idx_eq t
  unfold iblk
  rw [View.read_apply]
  show V m c main_arg1 _ = _
  refine congrArg (m ((c : Thread nD τ).loc main_arg1)) (funext fun a => Fin.ext ?_)
  match a with
  | ⟨0, _⟩ => show win0_1.index t 0 * 1 + 1 * 0 = t.val / 32; rw [h0]; omega
  | ⟨1, _⟩ => show win0_1.index t 1 * 1 + 1 * 0 = t.val / 8 % 4; rw [h1]; omega
  | ⟨2, _⟩ => show win0_1.index t 2 * 2048 + 1 * k.val = k.val; rw [h2]; omega
  | ⟨3, _⟩ => show win0_1.index t 3 * 64 + 1 * x.val = x.val; rw [h3]; omega

/-- The values' block at an element. -/
theorem iblk2_apply (t : Fin cfg0.N) (k : Fin 2048) (x : Fin 64) :
    (iblk m c 2 t : Vec Ideal S1x1x2048x64 .bf16) (ix4 0 0 k x) = m ((c : Thread nD τ).loc main_arg2) (ix4 (tb t) (th t) k x) := by
  obtain ⟨-, -, ⟨h0, h1, h2, h3⟩, -⟩ := idx_eq t
  unfold iblk
  rw [View.read_apply]
  show V m c main_arg2 _ = _
  refine congrArg (m ((c : Thread nD τ).loc main_arg2)) (funext fun a => Fin.ext ?_)
  match a with
  | ⟨0, _⟩ => show win0_2.index t 0 * 1 + 1 * 0 = t.val / 32; rw [h0]; omega
  | ⟨1, _⟩ => show win0_2.index t 1 * 1 + 1 * 0 = t.val / 8 % 4; rw [h1]; omega
  | ⟨2, _⟩ => show win0_2.index t 2 * 2048 + 1 * k.val = k.val; rw [h2]; omega
  | ⟨3, _⟩ => show win0_2.index t 3 * 64 + 1 * x.val = x.val; rw [h3]; omega

/-- The indicators' block at an element. -/
theorem iblk3_apply (t : Fin cfg0.N) (r : Fin 256) (x : Fin 8) :
    (iblk m c 3 t : Vec Ideal S1x1x256x8 .f32) (ix4 0 0 r x) = m ((c : Thread nD τ).loc main_arg3) (ix4 (tb t) (th t) (tq t r) x) := by
  obtain ⟨-, -, -, ⟨h0, h1, h2, h3⟩, -⟩ := idx_eq t
  unfold iblk
  rw [View.read_apply]
  show V m c main_arg3 _ = _
  refine congrArg (m ((c : Thread nD τ).loc main_arg3)) (funext fun a => Fin.ext ?_)
  match a with
  | ⟨0, _⟩ => show win0_3.index t 0 * 1 + 1 * 0 = t.val / 32; rw [h0]; omega
  | ⟨1, _⟩ => show win0_3.index t 1 * 1 + 1 * 0 = t.val / 8 % 4; rw [h1]; omega
  | ⟨2, _⟩ => show win0_3.index t 2 * 256 + 1 * r.val = t.val % 8 * 256 + r.val; rw [h2]; omega
  | ⟨3, _⟩ => show win0_3.index t 3 * 8 + 1 * x.val = x.val; rw [h3]; omega

/-! ## A grid point's block is the reference's -/

/-- The reference's result, of the kernel's arguments. -/
def result : Buf (Elt Ideal) ((c : Thread nD τ).loc main_v0) :=
  Cert.MobaRefIdeal.Read.val_main_v53 (F := Ideal) (m ((c : Thread nD τ).loc main_arg0)) (m ((c : Thread nD τ).loc main_arg1))
    (m ((c : Thread nD τ).loc main_arg2)) (m ((c : Thread nD τ).loc main_arg3))

variable (hq : ∀ i : S8x16x2048x64.Idx, m ((c : Thread nD τ).loc main_arg0) i ≠ (⊤ : EReal) ∧ m ((c : Thread nD τ).loc main_arg0) i ≠ (⊥ : EReal))
  (hk : ∀ i : S8x4x2048x64.Idx, m ((c : Thread nD τ).loc main_arg1) i ≠ (⊤ : EReal) ∧ m ((c : Thread nD τ).loc main_arg1) i ≠ (⊥ : EReal))

/-- The kernel's score of a key of a block is the reference's of that key, or, in a later block, the reference's is `⊥`. -/
theorem masked_eq (t : Fin cfg0.N) (g : Fin 4) (r : Fin 256) (b : ℕ) (hb : b < 8) (j : Fin 256) :
    masked (m ((c : Thread nD τ).loc main_arg0)) (m ((c : Thread nD τ).loc main_arg1)) (m ((c : Thread nD τ).loc main_arg3)) (tb t) (th t) g (tq t r)
        ⟨256 * b + j.val, by have := j.isLt; omega⟩
      = if b ≤ t.val % 8 then score (iblk m c 0 t) (iblk m c 1 t) (iblk m c 3 t) (t.val % 8) g r b j else ⊥ := by
  have hr := r.isLt
  have hj := j.isLt
  have e1 : (t.val % 8 * 256 + r.val) / 256 = t.val % 8 := by omega
  have e2 : (256 * b + j.val) / 256 = b := by omega
  have e3 : kk b j = ⟨256 * b + j.val, by omega⟩ := Fin.ext (Nat.mod_eq_of_lt (by omega))
  have e4 : (⟨b % 8, Nat.mod_lt _ (by decide)⟩ : Fin 8) = ⟨b, hb⟩ := Fin.ext (Nat.mod_eq_of_lt hb)
  have e5 : (⟨(256 * b + j.val) / 256, by omega⟩ : Fin 8) = ⟨b, hb⟩ := Fin.ext e2
  unfold masked score
  simp only [iblk0_apply, iblk1_apply, iblk3_apply, e1, e2, e3, e4, e5]
  by_cases h1 : b = t.val % 8
  · rw [if_pos h1.le, if_pos h1]
    refine if_congr ⟨?_, fun h => Or.inl ⟨h1.symm, by omega⟩⟩ rfl rfl
    rintro (⟨-, h⟩ | ⟨h, -⟩) <;> omega
  · by_cases h2 : b < t.val % 8
    · have h4 : ¬ t.val % 8 = b := fun h => h1 h.symm
      simp only [if_pos h2.le, if_neg h1, h2, h4, true_and, false_and, false_or]
    · have h3 : ¬ b ≤ t.val % 8 := by omega
      have h4 : ¬ t.val % 8 = b := fun h => h1 h.symm
      simp only [if_neg h3, h2, h4, false_and, or_self, if_false]

/-- A score is not `⊤` when no product of a query and a key is. -/
theorem score_ne_top (x0 : Vec Ideal S1x4x256x64 .bf16) (x1 : Vec Ideal S1x1x2048x64 .bf16) (x3 : Vec Ideal S1x1x256x8 .f32)
    (q : ℕ) (g : Fin 4) (r : Fin 256) (h : ∀ b j, ∑ x, x0 (ix4 0 g r x) * x1 (ix4 0 0 (kk b j) x) ≠ ⊤) (b : ℕ) (j : Fin 256) :
    score x0 x1 x3 q g r b j ≠ ⊤ := by
  unfold score
  split_ifs
  · exact h b j
  · exact bot_ne_top
  · exact h b j
  · exact bot_ne_top

include hq hk in
/-- What a grid point stores is the reference's result, at an element. -/
theorem point (t : Fin cfg0.N) (g : Fin 4) (r : Fin 256) (d : Fin 64) :
    out0_A_4 (F := Ideal) c (grid0.coords t) (ms0_0 t) (hs0_0 t) (ms0_1 t) (hs0_1 t) (ms0_2 t) (hs0_2 t) (ms0_3 t) (hs0_3 t) (ms0_4 t) (hs0_4 t)
        (iblk m c 0 t) (iblk m c 1 t) (iblk m c 2 t) (iblk m c 3 t) (ix4 0 g r d)
      = result m c (ix4 (tb t) (tg t g) (tq t r) d) := by
  have h2 : (grid0.coords t 2).val = t.val % 8 := (idx_eq t).2.2.2.2.2
  rw [out_apply, h2]
  refine Eq.trans ?_ (Cert.MobaRefIdeal.Read.result_apply _ _ _ _ (tb t) (th t) g (tq t r) d).symm
  refine Online.online_eq_dense (t.val % 8) (by omega) _ _ _ _ (masked_eq m c t g r) ?_ ?_ ?_
  · intro b hb j
    unfold vals
    rw [iblk2_apply]
    have hj := j.isLt
    exact congrArg (fun k => m ((c : Thread nD τ).loc main_arg2) (ix4 (tb t) (th t) k d)) (Fin.ext (Nat.mod_eq_of_lt (by omega)).symm)
  · intro b j
    refine score_ne_top _ _ _ _ _ _ (fun b j => ?_) b j
    simp only [iblk0_apply, iblk1_apply]
    exact (dot_real _ _ (fun x => hq _) (fun x => hk _)).1
  · refine ⟨0, ?_⟩
    unfold score
    rw [if_pos rfl, if_pos (show (0 : Fin 256).val ≤ r.val from Nat.zero_le _)]
    simp only [iblk0_apply, iblk1_apply]
    exact (dot_real _ _ (fun x => hq _) (fun x => hk _)).2

include hq hk in
/-- A grid point writes back its block of the reference's result. -/
theorem flushed_eq (t : Fin cfg0.N) : (dats m 0 c).flushed 4 t = ((cfg0.win 4).blk t).view.read (Elt Ideal) (result m c) := by
  obtain ⟨-, -, -, -, ⟨h0, h1, h2, h3⟩, -⟩ := idx_eq t
  rw [flushed4_A]
  have h : ∀ j : S1x4x256x64.Idx, out0_A_4 (F := Ideal) c (grid0.coords t) (ms0_0 t) (hs0_0 t) (ms0_1 t) (hs0_1 t) (ms0_2 t) (hs0_2 t) (ms0_3 t) (hs0_3 t) (ms0_4 t) (hs0_4 t)
        (iblk m c 0 t) (iblk m c 1 t) (iblk m c 2 t) (iblk m c 3 t) j = ((cfg0.win 4).blk t).view.read (Elt Ideal) (result m c) j := fun j => by
    obtain ⟨z, g, r, d, rfl⟩ : ∃ (z : Fin 1) (g : Fin 4) (r : Fin 256) (d : Fin 64), j = ix4 z g r d :=
      ⟨j 0, j 1, j 2, j 3, funext fun a => by match a with | ⟨0, _⟩ => rfl | ⟨1, _⟩ => rfl | ⟨2, _⟩ => rfl | ⟨3, _⟩ => rfl⟩
    rw [View.read_apply]
    obtain rfl : z = 0 := Subsingleton.elim _ _
    refine (point m c hq hk t g r d).trans (congrArg (result m c) (funext fun a => Fin.ext ?_))
    match a with
    | ⟨0, _⟩ => show t.val / 32 = win0_4.index t 0 * 1 + 1 * 0; rw [h0]; omega
    | ⟨1, _⟩ => show t.val / 8 % 4 * 4 + g.val = win0_4.index t 1 * 4 + 1 * g.val; rw [h1]; omega
    | ⟨2, _⟩ => show t.val % 8 * 256 + r.val = win0_4.index t 2 * 256 + 1 * r.val; rw [h2]; omega
    | ⟨3, _⟩ => show d.val = win0_4.index t 3 * 64 + 1 * d.val; rw [h3]; omega
  exact funext h

include hq hk in
/-- The kernel's result array is the reference's. -/
theorem final4 : (dats m 0 c).arrAt 4 cfg0.N = result m c :=
  (dats m 0 c).arrAt_eq_of_cover 4 (result m c) (fun t _ => flushed_eq m c hq hk t) fun i => by
    have h0 : (i 0 : Nat) < 8 := (i 0).isLt
    have h1 : (i 1 : Nat) < 16 := (i 1).isLt
    have h2 : (i 2 : Nat) < 2048 := (i 2).isLt
    have h3 : (i 3 : Nat) < 64 := (i 3).isLt
    have hN : cfg0.N = 256 := N_0
    let t : Fin cfg0.N := ⟨(i 0 : Nat) * 32 + (i 1 : Nat) / 4 * 8 + (i 2 : Nat) / 256, by omega⟩
    have ht : t.val = (i 0 : Nat) * 32 + (i 1 : Nat) / 4 * 8 + (i 2 : Nat) / 256 := rfl
    obtain ⟨-, -, -, -, ⟨e0, e1, e2, e3⟩, -⟩ := idx_eq t
    refine ⟨t, flush0_4 t, ?_⟩
    show i ∈ ((View.whole main_v0).slice (win0_4.rect t)).set
    rw [View.set_slice_whole, Rect.mem_set_unit]
    intro a
    match a with
    | ⟨0, _⟩ => show win0_4.index t 0 * 1 ≤ (i 0 : Nat) ∧ (i 0 : Nat) < win0_4.index t 0 * 1 + 1
                rw [e0]; omega
    | ⟨1, _⟩ => show win0_4.index t 1 * 4 ≤ (i 1 : Nat) ∧ (i 1 : Nat) < win0_4.index t 1 * 4 + 4
                rw [e1]; omega
    | ⟨2, _⟩ => show win0_4.index t 2 * 256 ≤ (i 2 : Nat) ∧ (i 2 : Nat) < win0_4.index t 2 * 256 + 256
                rw [e2]; omega
    | ⟨3, _⟩ => show win0_4.index t 3 * 64 ≤ (i 3 : Nat) ∧ (i 3 : Nat) < win0_4.index t 3 * 64 + 64
                rw [e3]; omega

end Cert.MobaIdeal.Value

/-- The kernel and the reference end with the same result. -/
theorem Cert.Proof.moba_algebraic [Cert.Pre_moba_finite.Facts] : Cert.algebraic_MobaIdeal_MobaRefIdeal_pre_moba_finite := by
  intro m g m' g' hpre hargs
  refine ⟨fun c => Cert.MobaIdeal.Value.result m c, ?_, ?_⟩
  · refine (θ_run _ _ _).mono (fun r h c => ?_) (Cert.MobaIdeal.Value.run_blocks m g)
    obtain ⟨hq, hk⟩ := Cert.MobaIdeal.Value.finite_of_pre m hpre c
    exact ⟨(h c).1.trans (Cert.MobaIdeal.Value.final4 m c hq hk), (h c).2⟩
  · refine (θ_run _ _ _).mono (fun r h c => ?_) (Cert.MobaRefIdeal.Value.run m' g')
    refine ⟨(h c).1.trans ?_, (h c).2⟩
    rw [Cert.MobaRefIdeal.Read.val_main_v53_eq]
    obtain ⟨h0, h1, h2, h3⟩ := hargs c
    rw [h0, h1, h2, h3]
    rfl

end
-- ==== Proof.MoeBody.lean ====
/-
  One step of the expert kernel on symbolic buffers: which of its three parts run, and what they leave in the output
  buffer and in the three weight buffers kept from step to step.
-/
module

public import proofs.«01_k».proof.Proof.Gen.MoeIdeal.Launch
public import proofs.«01_k».proof.Proof.Gen.MoeIdeal.Skeleton
public import Idealize.ShloMosaic.Lib.Pipeline.Quiescent
public import Idealize.ShloMosaic.Lib.Claim
public import Idealize.ShloMosaic.Lib.Pipeline.TableIdle
public import Idealize.ShloMosaic.Lib.Pipeline.FrameBody
public import Idealize.ShloMosaic.Lib.Pipeline.Value
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Lib.WritesUnit
public import Idealize.ShloMosaic.Lib.VecWindow

@[expose] public section

set_option maxRecDepth 16384

noncomputable section

namespace Cert.MoeIdeal.Own

open Cert.MoeIdeal Cert.MoeIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The two integer tables. -/
abbrev tb0 : Memref sig .tc .smem S783 .i32 := Memref.whole main_arg0
abbrev tb1 : Memref sig .tc .smem S1 .i32 := Memref.whole main_arg1

/-- The word holding the number of used steps. -/
def used (T1 : S1.Idx → Elt F .i32) : BitVec 32 :=
  View.readAt (Elt F) tb1.view (Rect.unit (s := S1) ![0] S1.size inb_S1_S1_0).toLoadRect T1 (Shape.Idx.first (numel1_S1.symm ▸ Nat.one_pos))
/-- The step's expert. -/
def mine (i : grid0.Coords) (T0 : S783.Idx → Elt F .i32) : BitVec 32 :=
  View.readAt (Elt F) tb0.view (Rect.unit (s := S783) (k0_off1 i) S1.size (k0_off1_inb i)).toLoadRect T0 (Shape.Idx.first (numel1_S1.symm ▸ Nat.one_pos))
/-- The expert of the step before. -/
def last (i : grid0.Coords) (T0 : S783.Idx → Elt F .i32) : BitVec 32 :=
  View.readAt (Elt F) tb0.view (Rect.unit (s := S783) (k0_off2 i) S1.size (k0_off2_inb i)).toLoadRect T0 (Shape.Idx.first (numel1_S1.symm ▸ Nat.one_pos))

/-- The word deciding whether the step loads its expert's weights. -/
def loads (i : grid0.Coords) (T0 : S783.Idx → Elt F .i32) (T1 : S1.Idx → Elt F .i32) : BitVec 1 :=
  Scalar.cmpi .ne (Scalar.extui (Scalar.andi (Scalar.cmpi .slt (BitVec.ofNat 32 (i 0).val) (used T1))
    (Scalar.ori (Scalar.cmpi .eq (BitVec.ofNat 32 (i 0).val) 0#32) (Scalar.cmpi .ne (mine i T0) (last i T0))))) 0#32

/-- A buffer stored over its whole extent holds what was stored. -/
theorem read_stored {κ : Kind} {sp : Space} {s : Shape} {e : EltTy} {Val : EltTy → Type} (v : View sig κ sp s e)
    (f : v.ty.Contents Val) {off : Fin s.rank → ℕ} (inb : ∀ a, off a + s.size a ≤ s.size a) (w : s.Idx → Val e) :
    v.read Val (v.writes Val f [⟨Rect.unit off s.size inb, w⟩]) = w :=
  funext fun y => View.read_writes_cons_unit_of_mem v f inb w [] y y rfl (fun a => by have := inb a; omega)

variable (c : Dev nD) (i : grid0.Coords)
  (arg3 : Memref sig .tc .vmem S256x1024 .bf16) (harg3 : arg3.IsWhole) (arg4 : Memref sig .tc .vmem S1x1024x256 .f32) (harg4 : arg4.IsWhole)
  (arg5 : Memref sig .tc .vmem S1x1024x256 .f32) (harg5 : arg5.IsWhole) (arg6 : Memref sig .tc .vmem S1x256x1024 .f32) (harg6 : arg6.IsWhole)
  (arg7 : Memref sig .tc .vmem S256x1024 .f32) (harg7 : arg7.IsWhole) (arg8 : Memref sig .tc .vmem S1024x256 .bf16) (harg8 : arg8.IsWhole)
  (arg9 : Memref sig .tc .vmem S1024x256 .bf16) (harg9 : arg9.IsWhole) (arg10 : Memref sig .tc .vmem S256x1024 .bf16) (harg10 : arg10.IsWhole)
  (T0 : S783.Idx → Elt F .i32) (T1 : S1.Idx → Elt F .i32)
  (x0 : Vec F S256x1024 .bf16) (x1 : Vec F S1x1024x256 .f32) (x2 : Vec F S1x1024x256 .f32) (x3 : Vec F S1x256x1024 .f32)
  (a0 : Vec F S1024x256 .bf16) (a1 : Vec F S1024x256 .bf16) (a2 : Vec F S256x1024 .bf16)

/-- What a step holds: the tokens' block, the step's expert weights, the tables, the output buffer and the kept weights. -/
def held (y : Vec F S256x1024 .f32) (b0 b1 : Vec F S1024x256 .bf16) (b2 : Vec F S256x1024 .bf16) : sProp 𝕄 :=
  iprop(owns (c : Thread nD τ) arg3 fullShare x0 ∗ owns (c : Thread nD τ) arg4 fullShare x1 ∗ owns (c : Thread nD τ) arg5 fullShare x2
    ∗ owns (c : Thread nD τ) arg6 fullShare x3 ∗ (tb0.view.loc (c : Thread nD τ) ↦{fullShare.right} T0) ∗ (tb1.view.loc (c : Thread nD τ) ↦{fullShare.right} T1)
    ∗ owns (c : Thread nD τ) arg7 fullShare y ∗ owns (c : Thread nD τ) arg8 fullShare b0 ∗ owns (c : Thread nD τ) arg9 fullShare b1 ∗ owns (c : Thread nD τ) arg10 fullShare b2)

/-- The step on its buffers. -/
abbrev step : Prog (TpuEff nD τ sig (Elt F) Λ₀ .tc) PUnit :=
  cc0_moe_experts i tb0 (Memref.isWhole_whole _) tb1 (Memref.isWhole_whole _) arg3 harg3 arg4 harg4 arg5 harg5 arg6 harg6 arg7 harg7 arg8 harg8 arg9 harg9 arg10 harg10

set_option maxHeartbeats 4000000 in
/-- A used step whose expert changed: the weights are loaded, the block is computed from them. -/
theorem step_loading (y : Vec F S256x1024 .f32) (hc : loads i T0 T1 = 1#1) (h2 : k0_cond2 i (used T1) = 1#1) (h3 : ¬ k0_cond3 i (used T1) = 1#1)
    (K : PUnit → sProp 𝕄) :
    iprop(held c arg3 arg4 arg5 arg6 arg7 arg8 arg9 arg10 T0 T1 x0 x1 x2 x3 y a0 a1 a2
      ∗ (held c arg3 arg4 arg5 arg6 arg7 arg8 arg9 arg10 T0 T1 x0 x1 x2 x3 (k0_pay4 x0 (k0_pay1 x1) (k0_pay2 x2) (k0_pay3 x3)) (k0_pay1 x1) (k0_pay2 x2) (k0_pay3 x3) -∗ K ⟨⟩))
    ⊢ wp frame (wpE (defs₀ (F := F)) Variants.none c none) Set.univ
      (step i arg3 harg3 arg4 harg4 arg5 harg5 arg6 harg6 arg7 harg7 arg8 harg8 arg9 harg9 arg10 harg10) K := by
  unfold held step
  rw [cc0_moe_experts_eq_skeleton]; unfold cc0_moe_experts_skel
  unfold loads used mine last at hc
  unfold used at h2 h3
  unfold owns
  iintro ⟨⟨⟨%f0, %hf0, H0⟩, ⟨%f1, %hf1, H1⟩, ⟨%f2, %hf2, H2⟩, ⟨%f3, %hf3, H3⟩, HT0, HT1, ⟨%g4, -, H4⟩, ⟨%g0, -, HS0⟩, ⟨%g1, -, HS1⟩, ⟨%g2, -, HS2⟩⟩, Hk⟩
  subst hf0 hf1 hf2 hf3
  have hT0 : tb0.IsWhole := Memref.isWhole_whole _
  have hT1 : tb1.IsWhole := Memref.isWhole_whole _
  sl_exec! (disch := first | exact hc | exact h2 | exact h3)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [HT0]; · iexact HT0
  isplitl [HT1]; · iexact HT1
  isplitl [H4]
  · iexists _; isplitr; swap; · iexact H4
    ipureintro
    sl_unfold_words
    rw [read_stored]
    exact congr (congr (congr (congrArg k0_pay4 (View.readAt_full _ _ _))
      ((View.readCov_full _ _ _ _ _).trans (congrArg k0_pay1 (View.readAt_full _ _ _))))
      ((View.readCov_full _ _ _ _ _).trans (congrArg k0_pay2 (View.readAt_full _ _ _))))
      ((View.readCov_full _ _ _ _ _).trans (congrArg k0_pay3 (View.readAt_full _ _ _)))
  isplitl [HS0]
  · iexists _; isplitr; swap; · iexact HS0
    ipureintro
    sl_unfold_words
    rw [read_stored]; exact congrArg k0_pay1 (View.readAt_full _ _ _)
  isplitl [HS1]
  · iexists _; isplitr; swap; · iexact HS1
    ipureintro
    sl_unfold_words
    rw [read_stored]; exact congrArg k0_pay2 (View.readAt_full _ _ _)
  · iexists _; isplitr; swap; · iexact HS2
    ipureintro
    sl_unfold_words
    rw [read_stored]; exact congrArg k0_pay3 (View.readAt_full _ _ _)

set_option maxHeartbeats 4000000 in
/-- A used step of the same expert as the step before: the block is computed from the kept weights. -/
theorem step_keeping (y : Vec F S256x1024 .f32) (hc : ¬ loads i T0 T1 = 1#1) (h2 : k0_cond2 i (used T1) = 1#1) (h3 : ¬ k0_cond3 i (used T1) = 1#1)
    (K : PUnit → sProp 𝕄) :
    iprop(held c arg3 arg4 arg5 arg6 arg7 arg8 arg9 arg10 T0 T1 x0 x1 x2 x3 y a0 a1 a2
      ∗ (held c arg3 arg4 arg5 arg6 arg7 arg8 arg9 arg10 T0 T1 x0 x1 x2 x3 (k0_pay4 x0 a0 a1 a2) a0 a1 a2 -∗ K ⟨⟩))
    ⊢ wp frame (wpE (defs₀ (F := F)) Variants.none c none) Set.univ
      (step i arg3 harg3 arg4 harg4 arg5 harg5 arg6 harg6 arg7 harg7 arg8 harg8 arg9 harg9 arg10 harg10) K := by
  unfold held step
  rw [cc0_moe_experts_eq_skeleton]; unfold cc0_moe_experts_skel
  unfold loads used mine last at hc
  unfold used at h2 h3
  unfold owns
  iintro ⟨⟨⟨%f0, %hf0, H0⟩, ⟨%f1, %hf1, H1⟩, ⟨%f2, %hf2, H2⟩, ⟨%f3, %hf3, H3⟩, HT0, HT1, ⟨%g4, -, H4⟩, ⟨%g0, %hg0, HS0⟩, ⟨%g1, %hg1, HS1⟩, ⟨%g2, %hg2, HS2⟩⟩, Hk⟩
  subst hf0 hf1 hf2 hf3
  have hT0 : tb0.IsWhole := Memref.isWhole_whole _
  have hT1 : tb1.IsWhole := Memref.isWhole_whole _
  sl_exec! (disch := first | exact hc | exact h2 | exact h3)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [HT0]; · iexact HT0
  isplitl [HT1]; · iexact HT1
  isplitl [H4]
  · iexists _; isplitr; swap; · iexact H4
    ipureintro
    sl_unfold_words
    rw [read_stored]
    exact congr (congr (congr (congrArg k0_pay4 (View.readAt_full _ _ _)) ((View.readAt_full _ _ _).trans hg0))
      ((View.readAt_full _ _ _).trans hg1)) ((View.readAt_full _ _ _).trans hg2)
  isplitl [HS0]; · iexists g0; isplitr; · ipureintro; exact hg0
                   iexact HS0
  isplitl [HS1]; · iexists g1; isplitr; · ipureintro; exact hg1
                   iexact HS1
  · iexists g2; isplitr; · ipureintro; exact hg2
    iexact HS2

set_option maxHeartbeats 4000000 in
/-- A step past the used ones: the block is filled with the constant, the kept weights stay. -/
theorem step_unused (y : Vec F S256x1024 .f32) (hc : ¬ loads i T0 T1 = 1#1) (h2 : ¬ k0_cond2 i (used T1) = 1#1) (h3 : k0_cond3 i (used T1) = 1#1)
    (K : PUnit → sProp 𝕄) :
    iprop(held c arg3 arg4 arg5 arg6 arg7 arg8 arg9 arg10 T0 T1 x0 x1 x2 x3 y a0 a1 a2
      ∗ (held c arg3 arg4 arg5 arg6 arg7 arg8 arg9 arg10 T0 T1 x0 x1 x2 x3 (k0_pay5 (F := F)) a0 a1 a2 -∗ K ⟨⟩))
    ⊢ wp frame (wpE (defs₀ (F := F)) Variants.none c none) Set.univ
      (step i arg3 harg3 arg4 harg4 arg5 harg5 arg6 harg6 arg7 harg7 arg8 harg8 arg9 harg9 arg10 harg10) K := by
  unfold held step
  rw [cc0_moe_experts_eq_skeleton]; unfold cc0_moe_experts_skel
  unfold loads used mine last at hc
  unfold used at h2 h3
  unfold owns
  iintro ⟨⟨⟨%f0, %hf0, H0⟩, ⟨%f1, %hf1, H1⟩, ⟨%f2, %hf2, H2⟩, ⟨%f3, %hf3, H3⟩, HT0, HT1, ⟨%g4, -, H4⟩, ⟨%g0, %hg0, HS0⟩, ⟨%g1, %hg1, HS1⟩, ⟨%g2, %hg2, HS2⟩⟩, Hk⟩
  subst hf0 hf1 hf2 hf3
  have hT0 : tb0.IsWhole := Memref.isWhole_whole _
  have hT1 : tb1.IsWhole := Memref.isWhole_whole _
  sl_exec! (disch := first | exact hc | exact h2 | exact h3)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [HT0]; · iexact HT0
  isplitl [HT1]; · iexact HT1
  isplitl [H4]
  · iexists _; isplitr; swap; · iexact H4
    ipureintro
    sl_unfold_words
    rw [read_stored]
  isplitl [HS0]; · iexists g0; isplitr; · ipureintro; exact hg0
                   iexact HS0
  isplitl [HS1]; · iexists g1; isplitr; · ipureintro; exact hg1
                   iexact HS1
  · iexists g2; isplitr; · ipureintro; exact hg2
    iexact HS2

end Cert.MoeIdeal.Own

end
-- ==== Proof.MoeTables.lean ====
/-
  The two integer tables of the expert kernel: the words a step reads off them, what its decisions say in plain numbers,
  and that with experts below 256 and between 1 and 783 used steps every block lies inside its array.
-/
module

public import proofs.«01_k».proof.Proof.MoeBody
public import Idealize.ShloMosaic.Lib.WordCmp
public import Idealize.ShloMosaic.Lib.ValueIdx

@[expose] public section

set_option maxRecDepth 16384

noncomputable section

namespace Cert.MoeIdeal.Own

open Cert.MoeIdeal Cert.MoeIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-! ## Words -/

/-- The place in the one-axis table of 783 words. -/
def at783 (n : ℕ) (h : n < 783) : S783.Idx := fun a => match a with | ⟨0, _⟩ => ⟨n, h⟩

/-- The place in the table of one word. -/
def at1 : S1.Idx := fun a => match a with | ⟨0, _⟩ => ⟨0, Nat.one_pos⟩

/-- The word before a step's number, no lower than zero. -/
theorem before_word : ∀ i : Fin 783, (Scalar.maxsi (Scalar.subi (BitVec.ofNat 32 i.val) 1#32) 0#32).toNat = i.val - 1 := by decide +kernel

/-- A step's number as a word. -/
theorem step_word (i : Fin 783) : (BitVec.ofNat 32 i.val).toNat = i.val := by
  rw [BitVec.toNat_ofNat]; exact Nat.mod_eq_of_lt (by have := i.isLt; omega)

/-- The step's expert is the table's word at the step. -/
theorem mine_eq (i : grid0.Coords) (T0 : S783.Idx → Elt F .i32) : mine i T0 = T0 (at783 (i 0).val (i 0).isLt) := by
  refine congrArg T0 (funext fun a => Fin.ext ?_)
  match a with
  | ⟨0, _⟩ => show (BitVec.ofNat 32 (i 0).val).toNat + 1 * 0 = (i 0).val; rw [step_word (i 0)]; omega

/-- The expert of the step before is the table's word there. -/
theorem last_eq (i : grid0.Coords) (T0 : S783.Idx → Elt F .i32) :
    last i T0 = T0 (at783 ((i 0).val - 1) (lt_of_le_of_lt (Nat.sub_le _ _) (i 0).isLt)) := by
  refine congrArg T0 (funext fun a => Fin.ext ?_)
  match a with
  | ⟨0, _⟩ =>
    show (Scalar.maxsi (Scalar.subi (BitVec.ofNat 32 (i 0).val) 1#32) 0#32).toNat + 1 * 0 = (i 0).val - 1
    rw [before_word (i 0)]; omega

/-- The number of used steps is the one word of its table. -/
theorem used_eq (T1 : S1.Idx → Elt F .i32) : used T1 = T1 at1 := by
  refine congrArg T1 (funext fun a => Fin.ext ?_)
  match a with
  | ⟨0, _⟩ => rfl

/-- A step's number is below a word exactly when it is so as a natural. -/
theorem below_iff (i : Fin 783) (w : BitVec 32) (hw : w.toNat ≤ 783) :
    Scalar.cmpi .slt (BitVec.ofNat 32 i.val) w = BitVec.ofBool (decide (i.val < w.toNat)) := by
  have e : w = BitVec.ofNat 32 w.toNat := by rw [BitVec.ofNat_toNat, BitVec.setWidth_eq]
  conv_lhs => rw [e]
  exact WordCmp.cmpi_slt_ofNat (by have := i.isLt; omega) (by omega)

/-- The smaller of a step's number and the last used step. -/
theorem row_word (i : Fin 783) (w : BitVec 32) (h1 : 1 ≤ w.toNat) (hw : w.toNat ≤ 783) :
    (Scalar.minsi (BitVec.ofNat 32 i.val) (Scalar.subi w 1#32)).toNat = min i.val (w.toNat - 1) := by
  have e : w - 1#32 = BitVec.ofNat 32 (w.toNat - 1) := by
    apply BitVec.eq_of_toNat_eq
    rw [BitVec.toNat_sub, BitVec.toNat_ofNat, BitVec.toNat_ofNat]; omega
  show (if (BitVec.ofNat 32 i.val).slt (w - 1#32) then BitVec.ofNat 32 i.val else w - 1#32).toNat = _
  have hs : (BitVec.ofNat 32 i.val).slt (w - 1#32) = decide (i.val < w.toNat - 1) := by
    rw [e, BitVec.slt, WordCmp.toInt_ofNat_of_lt (by have := i.isLt; omega), WordCmp.toInt_ofNat_of_lt (by omega)]
    simp only [Nat.cast_lt]
  rw [hs]
  by_cases h : i.val < w.toNat - 1
  · simp only [h, decide_true, if_true]; rw [step_word]; omega
  · simp only [h, decide_false, Bool.false_eq_true, if_false]; rw [e, BitVec.toNat_ofNat]; omega

/-- The first condition is that the step is used. -/
theorem cond2_iff (i : grid0.Coords) (w : BitVec 32) (hw : w.toNat ≤ 783) : k0_cond2 i w = 1#1 ↔ (i 0).val < w.toNat := by
  have key : ∀ z : BitVec 1, Scalar.cmpi .ne (Scalar.extui z : BitVec 32) 0#32 = 1#1 ↔ z = 1#1 := by decide
  refine (key _).trans ?_
  rw [below_iff (i 0) w hw]
  by_cases h : (i 0).val < w.toNat <;> simp [h]

/-- The second condition is that it is not. -/
theorem cond3_iff (i : grid0.Coords) (w : BitVec 32) (hw : w.toNat ≤ 783) : k0_cond3 i w = 1#1 ↔ ¬ (i 0).val < w.toNat := by
  have key : ∀ z : BitVec 1, Scalar.cmpi .ne (Scalar.extui (Scalar.xori z 1#1) : BitVec 32) 0#32 = 1#1 ↔ ¬ z = 1#1 := by decide
  refine (key _).trans (not_congr ?_)
  rw [below_iff (i 0) w hw]
  by_cases h : (i 0).val < w.toNat <;> simp [h]

/-- A step loads its weights when it is used and is the first one or has another expert than the step before. -/
theorem loads_iff (i : grid0.Coords) (T0 : S783.Idx → Elt F .i32) (T1 : S1.Idx → Elt F .i32) (hw : (used T1).toNat ≤ 783) :
    loads i T0 T1 = 1#1 ↔ ((i 0).val < (used T1).toNat ∧ ((i 0).val = 0 ∨ mine i T0 ≠ last i T0)) := by
  have key : ∀ z p q : BitVec 1, Scalar.cmpi .ne (Scalar.extui (Scalar.andi z (Scalar.ori p q)) : BitVec 32) 0#32 = 1#1 ↔ (z = 1#1 ∧ (p = 1#1 ∨ q = 1#1)) := by decide
  refine (key _ _ _).trans (and_congr ?_ (or_congr ?_ ?_))
  · rw [below_iff (i 0) _ hw]
    by_cases h : (i 0).val < (used T1).toNat <;> simp [h]
  · have e : Scalar.cmpi .eq (BitVec.ofNat 32 (i 0).val) 0#32 = BitVec.ofBool (decide ((i 0).val = 0)) :=
      WordCmp.cmpi_eq_ofNat (w := 32) (a := (i 0).val) (b := 0) (by have : (i 0).val < 783 := (i 0).isLt; omega) (by omega)
    rw [e]
    by_cases h : (i 0).val = 0 <;> simp [h]
  · show BitVec.ofBool (mine i T0 != last i T0) = 1#1 ↔ _
    have ofb : ∀ b : Bool, BitVec.ofBool b = 1#1 ↔ b = true := by decide
    exact (ofb _).trans (bne_iff_ne (α := BitVec 32))

/-! ## The tables of a memory -/

variable (m : (ℓ : Loc nD τ sig) → Buf (Elt F) ℓ)

/-- The table of experts, one a step. -/
def T0 : S783.Idx → Elt F .i32 := m (((0 : Dev nD) : Thread nD τ).loc main_arg0)
/-- The table holding the number of used steps. -/
def T1 : S1.Idx → Elt F .i32 := m (((0 : Dev nD) : Thread nD τ).loc main_arg1)

/-- The expert of step `n`. -/
def expert (n : ℕ) (h : n < 783) : ℕ := BitVec.toNat (w := 32) (T0 m (at783 n h))
/-- The number of used steps. -/
def nUsed : ℕ := BitVec.toNat (w := 32) (T1 m at1)

/-- The tables are in range: experts below 256, between 1 and 783 used steps. -/
structure Good : Prop where
  expert_lt : ∀ n h, expert m n h < 256
  used_pos : 1 ≤ nUsed m
  used_le : nUsed m ≤ 783

set_option backward.proofsInPublic true in
/-- The tables as the pipeline holds them. -/
def pf : pre0.Contents (Elt F) := fun
  | ⟨0, _⟩ => T0 m
  | ⟨1, _⟩ => T1 m
  | ⟨_ + 2, h⟩ => absurd h (by simp)

/-- The tokens' block at a step: the step's own, the last used one past the used ones. -/
theorem transform0_eq (h : Good m) (i : grid0.Coords) :
    cc0_transform_0 inb_S1_S1_0 numel1_S1 (pf m) i = ![min (i 0).val (nUsed m - 1), 0] := by
  have e : cc0_transform_0 inb_S1_S1_0 numel1_S1 (pf m) i
      = ![(Scalar.minsi (BitVec.ofNat 32 (i 0).val) (Scalar.subi (used (T1 m)) 1#32)).toNat, 0] := rfl
  have e1 : (used (T1 m)).toNat = nUsed m := by rw [used_eq]; rfl
  rw [e, row_word (i 0) _ (by rw [e1]; exact h.used_pos) (by rw [e1]; exact h.used_le), e1]

/-- The weights' block at a step: its expert's. -/
theorem transform1_eq (i : grid0.Coords) :
    cc0_transform_1 k0_off1_inb numel1_S1 (pf m) i = ![expert m (i 0).val (i 0).isLt, 0, 0] := by
  have e : cc0_transform_1 k0_off1_inb numel1_S1 (pf m) i = ![(mine i (T0 m)).toNat, 0, 0] := rfl
  rw [e, mine_eq]; rfl
theorem transform2_eq (i : grid0.Coords) :
    cc0_transform_2 k0_off1_inb numel1_S1 (pf m) i = ![expert m (i 0).val (i 0).isLt, 0, 0] := transform1_eq m i
theorem transform3_eq (i : grid0.Coords) :
    cc0_transform_3 k0_off1_inb numel1_S1 (pf m) i = ![expert m (i 0).val (i 0).isLt, 0, 0] := transform1_eq m i

/-- With the tables in range every block lies inside its array. -/
theorem ok (h : Good m) : ok0 (pf m) := by
  refine ⟨fun i => ?_, fun i => ?_, fun i => ?_, fun i => ?_⟩
  · refine ⟨?_, .inr (Affine.block_words_dvd (s := S200448x1024) (p := EltTy.packing .bf16) (by decide) (by decide))⟩
    rw [transform0_eq m h]
    intro a
    have hi : (i 0).val < 783 := (i 0).isLt
    match a with
    | ⟨0, _⟩ => show (min (i 0).val (nUsed m - 1) + 1) * 256 ≤ 200448; omega
    | ⟨1, _⟩ => show (0 + 1) * 1024 ≤ 1024; omega
  · refine ⟨?_, .inl rfl⟩
    rw [transform1_eq m]
    intro a
    have hi := h.expert_lt (i 0).val (i 0).isLt
    match a with
    | ⟨0, _⟩ => show (expert m (i 0).val (i 0).isLt + 1) * 1 ≤ 256; omega
    | ⟨1, _⟩ => show (0 + 1) * 1024 ≤ 1024; omega
    | ⟨2, _⟩ => show (0 + 1) * 256 ≤ 256; omega
  · refine ⟨?_, .inl rfl⟩
    rw [transform2_eq m]
    intro a
    have hi := h.expert_lt (i 0).val (i 0).isLt
    match a with
    | ⟨0, _⟩ => show (expert m (i 0).val (i 0).isLt + 1) * 1 ≤ 256; omega
    | ⟨1, _⟩ => show (0 + 1) * 1024 ≤ 1024; omega
    | ⟨2, _⟩ => show (0 + 1) * 256 ≤ 256; omega
  · refine ⟨?_, .inl rfl⟩
    rw [transform3_eq m]
    intro a
    have hi := h.expert_lt (i 0).val (i 0).isLt
    match a with
    | ⟨0, _⟩ => show (expert m (i 0).val (i 0).isLt + 1) * 1 ≤ 256; omega
    | ⟨1, _⟩ => show (0 + 1) * 256 ≤ 256; omega
    | ⟨2, _⟩ => show (0 + 1) * 1024 ≤ 1024; omega

end Cert.MoeIdeal.Own

end
-- ==== Proof.MoeFrame.lean ====
/-
  The expert kernel's whole run with its tables in range: what every step leaves in the output block, that the weights
  kept from step to step are the step's expert's, and the memory at the end.
-/
module

public import proofs.«01_k».proof.Proof.MoeTables
public import Idealize.ShloMosaic.Lib.Pipeline.Kit
public import Idealize.ShloMosaic.Lib.Pointwise.Index
public import Idealize.ShloMosaic.Adequacy
public import Idealize.ShloMosaic.Init

@[expose] public section

set_option maxRecDepth 16384

noncomputable section

namespace Cert.MoeIdeal.Own

open Cert.MoeIdeal Cert.MoeIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The algebra of the proof: the rounds library's, embedded whole. -/
abbrev EP : Emb (UR sig nD τ) 𝕄 := emb₁

variable (m : (ℓ : Loc nD τ sig) → Buf (Elt F) ℓ) (ρ : Dev nD → PrngReg) (h : Good m)

/-- The tables with the proof that every block lies inside its array. -/
def adm : (pcfg0 (F := F)).Adm := ⟨pf m, ok m h⟩
/-- The pipeline at these tables. -/
abbrev cfgA : Pipeline.Cfg sig Λ₀ := cfg0 (F := F) (adm m h)
/-- The program's one pipeline, at these tables. -/
abbrev pcs : Fin 1 → Pipeline.Cfg sig Λ₀ := Pipeline.pin (pcfgs (F := F)) fun _ => adm m h

/-- The coordinates of step `t`. -/
abbrev crd (t : Fin (cfgA m h).N) : (cfgA m h).grid.Coords := (cfgA m h).grid.coords t

/-- The one coordinate of step `t` is `t`. -/
theorem crd_val (t : Fin (cfgA m h).N) : ((crd m h t) 0).val = t.val := by
  have key : ∀ t : Fin grid0.N, ((grid0.coords t) 0).val = t.val := by decide +kernel
  exact key t

/-- The buffers a step is handed. -/
abbrev ms0 (t : Fin (cfgA m h).N) : Memref sig .tc .vmem S256x1024 .bf16 := spec0_0.stage ((cfgA m h).slots t (0 : Fin 5))
abbrev hs0 (t : Fin (cfgA m h).N) : (ms0 m h t).IsWhole := hstage0_0 (((cfgA m h).slots t (0 : Fin 5)).cast nbuf0_0)
abbrev ms1 (t : Fin (cfgA m h).N) : Memref sig .tc .vmem S1x1024x256 .f32 := spec0_1.stage ((cfgA m h).slots t (1 : Fin 5))
abbrev hs1 (t : Fin (cfgA m h).N) : (ms1 m h t).IsWhole := hstage0_1 (((cfgA m h).slots t (1 : Fin 5)).cast nbuf0_1)
abbrev ms2 (t : Fin (cfgA m h).N) : Memref sig .tc .vmem S1x1024x256 .f32 := spec0_2.stage ((cfgA m h).slots t (2 : Fin 5))
abbrev hs2 (t : Fin (cfgA m h).N) : (ms2 m h t).IsWhole := hstage0_2 (((cfgA m h).slots t (2 : Fin 5)).cast nbuf0_2)
abbrev ms3 (t : Fin (cfgA m h).N) : Memref sig .tc .vmem S1x256x1024 .f32 := spec0_3.stage ((cfgA m h).slots t (3 : Fin 5))
abbrev hs3 (t : Fin (cfgA m h).N) : (ms3 m h t).IsWhole := hstage0_3 (((cfgA m h).slots t (3 : Fin 5)).cast nbuf0_3)
abbrev ms4 (t : Fin (cfgA m h).N) : Memref sig .tc .vmem S256x1024 .f32 := spec0_4.stage ((cfgA m h).slots t (4 : Fin 5))
abbrev hs4 (t : Fin (cfgA m h).N) : (ms4 m h t).IsWhole := hstage0_4 (((cfgA m h).slots t (4 : Fin 5)).cast nbuf0_4)

/-- Window `w`'s block at step `t`, read off its array at launch. -/
def iblk (c : Dev nD) (w : Fin (cfgA m h).W) (t : Fin (cfgA m h).N) : (((cfgA m h).win w).xblock (crd m h t)).Idx → Elt F ((cfgA m h).win w).elt :=
  (((cfgA m h).win w).blk t).view.read (Elt F) ((s₀ m ρ).mem (((cfgA m h).win w).arr.view.loc (c : Thread nD τ)))

/-- The step's blocks at their plain shapes. -/
def xblk (c : Dev nD) (t : Fin (cfgA m h).N) : Vec F S256x1024 .bf16 := iblk m ρ h c (0 : Fin 5) t
def gblk (c : Dev nD) (t : Fin (cfgA m h).N) : Vec F S1x1024x256 .f32 := iblk m ρ h c (1 : Fin 5) t
def ublk (c : Dev nD) (t : Fin (cfgA m h).N) : Vec F S1x1024x256 .f32 := iblk m ρ h c (2 : Fin 5) t
def dblk (c : Dev nD) (t : Fin (cfgA m h).N) : Vec F S1x256x1024 .f32 := iblk m ρ h c (3 : Fin 5) t

/-- The step's expert is below the number of experts. -/
theorem expert_lt (t : Fin (cfgA m h).N) : expert m t.val t.isLt < 256 := h.expert_lt _ _

/-- An element of the tokens' block. -/
theorem xblk_apply (c : Dev nD) (t : Fin (cfgA m h).N) (j : S256x1024.Idx) :
    xblk m ρ h c t j = m ((c : Thread nD τ).loc main_arg2)
      (ix2 ⟨min t.val (nUsed m - 1) * 256 + (j 0).val, by have := t.isLt; have h0 : (j 0).val < 256 := (j 0).isLt; have : t.val < 783 := t.isLt; omega⟩ (j 1)) := by
  unfold xblk iblk
  rw [View.read_apply]
  show m ((c : Thread nD τ).loc main_arg2) _ = _
  refine congrArg (m ((c : Thread nD τ).loc main_arg2)) (funext fun a => Fin.ext ?_)
  have e := transform0_eq m h (crd m h t)
  rw [crd_val] at e
  match a with
  | ⟨0, _⟩ =>
    show cc0_transform_0 inb_S1_S1_0 numel1_S1 (pf m) (crd m h t) 0 * 256 + 1 * (j 0).val = _
    rw [e]; show min t.val (nUsed m - 1) * 256 + 1 * (j 0).val = min t.val (nUsed m - 1) * 256 + (j 0).val; omega
  | ⟨1, _⟩ =>
    show cc0_transform_0 inb_S1_S1_0 numel1_S1 (pf m) (crd m h t) 1 * 1024 + 1 * (j 1).val = (j 1).val
    rw [e]; show 0 * 1024 + 1 * (j 1).val = (j 1).val; omega

/-- An element of the gate weights' block. -/
theorem gblk_apply (c : Dev nD) (t : Fin (cfgA m h).N) (j : S1x1024x256.Idx) :
    gblk m ρ h c t j = m ((c : Thread nD τ).loc main_arg3) (ix3 ⟨expert m t.val t.isLt, expert_lt m h t⟩ (j 1) (j 2)) := by
  unfold gblk iblk
  rw [View.read_apply]
  show m ((c : Thread nD τ).loc main_arg3) _ = _
  refine congrArg (m ((c : Thread nD τ).loc main_arg3)) (funext fun a => Fin.ext ?_)
  have e := transform1_eq m (crd m h t)
  have h0 : (j 0).val < 1 := (j 0).isLt
  have ev : expert m ((crd m h t) 0).val ((crd m h t) 0).isLt = expert m t.val t.isLt := by congr 1; exact crd_val m h t
  rw [ev] at e
  match a with
  | ⟨0, _⟩ =>
    show cc0_transform_1 k0_off1_inb numel1_S1 (pf m) (crd m h t) 0 * 1 + 1 * (j 0).val = _
    rw [e]; show expert m t.val t.isLt * 1 + 1 * (j 0).val = expert m t.val t.isLt; omega
  | ⟨1, _⟩ =>
    show cc0_transform_1 k0_off1_inb numel1_S1 (pf m) (crd m h t) 1 * 1024 + 1 * (j 1).val = (j 1).val
    rw [e]; show 0 * 1024 + 1 * (j 1).val = (j 1).val; omega
  | ⟨2, _⟩ =>
    show cc0_transform_1 k0_off1_inb numel1_S1 (pf m) (crd m h t) 2 * 256 + 1 * (j 2).val = (j 2).val
    rw [e]; show 0 * 256 + 1 * (j 2).val = (j 2).val; omega

/-- An element of the up weights' block. -/
theorem ublk_apply (c : Dev nD) (t : Fin (cfgA m h).N) (j : S1x1024x256.Idx) :
    ublk m ρ h c t j = m ((c : Thread nD τ).loc main_arg4) (ix3 ⟨expert m t.val t.isLt, expert_lt m h t⟩ (j 1) (j 2)) := by
  unfold ublk iblk
  rw [View.read_apply]
  show m ((c : Thread nD τ).loc main_arg4) _ = _
  refine congrArg (m ((c : Thread nD τ).loc main_arg4)) (funext fun a => Fin.ext ?_)
  have e := transform2_eq m (crd m h t)
  have h0 : (j 0).val < 1 := (j 0).isLt
  have ev : expert m ((crd m h t) 0).val ((crd m h t) 0).isLt = expert m t.val t.isLt := by congr 1; exact crd_val m h t
  rw [ev] at e
  match a with
  | ⟨0, _⟩ =>
    show cc0_transform_2 k0_off1_inb numel1_S1 (pf m) (crd m h t) 0 * 1 + 1 * (j 0).val = _
    rw [e]; show expert m t.val t.isLt * 1 + 1 * (j 0).val = expert m t.val t.isLt; omega
  | ⟨1, _⟩ =>
    show cc0_transform_2 k0_off1_inb numel1_S1 (pf m) (crd m h t) 1 * 1024 + 1 * (j 1).val = (j 1).val
    rw [e]; show 0 * 1024 + 1 * (j 1).val = (j 1).val; omega
  | ⟨2, _⟩ =>
    show cc0_transform_2 k0_off1_inb numel1_S1 (pf m) (crd m h t) 2 * 256 + 1 * (j 2).val = (j 2).val
    rw [e]; show 0 * 256 + 1 * (j 2).val = (j 2).val; omega

/-- An element of the down weights' block. -/
theorem dblk_apply (c : Dev nD) (t : Fin (cfgA m h).N) (j : S1x256x1024.Idx) :
    dblk m ρ h c t j = m ((c : Thread nD τ).loc main_arg5) (ix3 ⟨expert m t.val t.isLt, expert_lt m h t⟩ (j 1) (j 2)) := by
  unfold dblk iblk
  rw [View.read_apply]
  show m ((c : Thread nD τ).loc main_arg5) _ = _
  refine congrArg (m ((c : Thread nD τ).loc main_arg5)) (funext fun a => Fin.ext ?_)
  have e := transform3_eq m (crd m h t)
  have h0 : (j 0).val < 1 := (j 0).isLt
  have ev : expert m ((crd m h t) 0).val ((crd m h t) 0).isLt = expert m t.val t.isLt := by congr 1; exact crd_val m h t
  rw [ev] at e
  match a with
  | ⟨0, _⟩ =>
    show cc0_transform_3 k0_off1_inb numel1_S1 (pf m) (crd m h t) 0 * 1 + 1 * (j 0).val = _
    rw [e]; show expert m t.val t.isLt * 1 + 1 * (j 0).val = expert m t.val t.isLt; omega
  | ⟨1, _⟩ =>
    show cc0_transform_3 k0_off1_inb numel1_S1 (pf m) (crd m h t) 1 * 256 + 1 * (j 1).val = (j 1).val
    rw [e]; show 0 * 256 + 1 * (j 1).val = (j 1).val; omega
  | ⟨2, _⟩ =>
    show cc0_transform_3 k0_off1_inb numel1_S1 (pf m) (crd m h t) 2 * 1024 + 1 * (j 2).val = (j 2).val
    rw [e]; show 0 * 1024 + 1 * (j 2).val = (j 2).val; omega

/-- Two steps of one expert have the same weights. -/
theorem weights_of_expert (c : Dev nD) (s t : Fin (cfgA m h).N) (e : expert m s.val s.isLt = expert m t.val t.isLt) :
    gblk m ρ h c s = gblk m ρ h c t ∧ ublk m ρ h c s = ublk m ρ h c t ∧ dblk m ρ h c s = dblk m ρ h c t := by
  have ef : (⟨expert m s.val s.isLt, expert_lt m h s⟩ : Fin 256) = ⟨expert m t.val t.isLt, expert_lt m h t⟩ := Fin.ext e
  refine ⟨funext fun j => ?_, funext fun j => ?_, funext fun j => ?_⟩
  · rw [gblk_apply, gblk_apply, ef]
  · rw [ublk_apply, ublk_apply, ef]
  · rw [dblk_apply, dblk_apply, ef]

/-! ## What the steps leave -/

/-- The output block after step `t`: the expert's outcome on a used step, the constant past them. -/
def oblk (c : Dev nD) (t : Fin (cfgA m h).N) : Vec F S256x1024 .f32 :=
  if t.val < nUsed m then k0_pay4 (xblk m ρ h c t) (k0_pay1 (gblk m ρ h c t)) (k0_pay2 (ublk m ρ h c t)) (k0_pay3 (dblk m ρ h c t))
  else k0_pay5 (F := F)

/-- The kept weights before position `n`: those of the step before, when it was a used one. -/
def kept (c : Dev nD) (n : ℕ) (b0 b1 : Vec F S1024x256 .bf16) (b2 : Vec F S256x1024 .bf16) : Prop :=
  ∀ (h0 : n ≠ 0) (hn : n - 1 < (cfgA m h).N), n - 1 < nUsed m →
    b0 = k0_pay1 (gblk m ρ h c ⟨n - 1, hn⟩) ∧ b1 = k0_pay2 (ublk m ρ h c ⟨n - 1, hn⟩) ∧ b2 = k0_pay3 (dblk m ρ h c ⟨n - 1, hn⟩)

/-- The three buffers of kept weights. -/
abbrev sc0 : Memref sig .tc .vmem S1024x256 .bf16 := Memref.whole cc0_scratch0
abbrev sc1 : Memref sig .tc .vmem S1024x256 .bf16 := Memref.whole cc0_scratch1
abbrev sc2 : Memref sig .tc .vmem S256x1024 .bf16 := Memref.whole cc0_scratch2

/-- What holds before each position: the kept weights, and the tables. -/
def Phi (c : Dev nD) (n : Fin ((cfgA m h).N + 1)) : sProp 𝕄 :=
  iprop(∃ b0, ∃ b1, ∃ b2, ⌜kept m ρ h c n.val b0 b1 b2⌝ ∗ owns (c : Thread nD τ) sc0 fullShare b0 ∗ owns (c : Thread nD τ) sc1 fullShare b1
    ∗ owns (c : Thread nD τ) sc2 fullShare b2 ∗ (tb0.view.loc (c : Thread nD τ) ↦{fullShare.right} T0 m) ∗ (tb1.view.loc (c : Thread nD τ) ↦{fullShare.right} T1 m))

/-- The proof data of the pipeline on core `c`. -/
def dats (_ : Fin 1) (c : Dev nD) : Dat τ (Elt F) Unit ℕ (UR sig nD τ) ℕ (cfgA m h) c where
  A w := (s₀ m ρ).mem (((cfgA m h).win w).arr.view.loc (c : Thread nD τ))
  after w t := match w with
    | ⟨0, _⟩ => iblk m ρ h c (0 : Fin 5) t
    | ⟨1, _⟩ => iblk m ρ h c (1 : Fin 5) t
    | ⟨2, _⟩ => iblk m ρ h c (2 : Fin 5) t
    | ⟨3, _⟩ => iblk m ρ h c (3 : Fin 5) t
    | ⟨4, _⟩ => oblk m ρ h c t
  Φ t := Phi m ρ h c t
  q _ := fullShare
  owed _ := 0

theorem after0 (c : Dev nD) (t : Fin (cfgA m h).N) : (dats m ρ h 0 c).after (0 : Fin 5) t = iblk m ρ h c (0 : Fin 5) t := rfl
theorem after1 (c : Dev nD) (t : Fin (cfgA m h).N) : (dats m ρ h 0 c).after (1 : Fin 5) t = iblk m ρ h c (1 : Fin 5) t := rfl
theorem after2 (c : Dev nD) (t : Fin (cfgA m h).N) : (dats m ρ h 0 c).after (2 : Fin 5) t = iblk m ρ h c (2 : Fin 5) t := rfl
theorem after3 (c : Dev nD) (t : Fin (cfgA m h).N) : (dats m ρ h 0 c).after (3 : Fin 5) t = iblk m ρ h c (3 : Fin 5) t := rfl
theorem after4 (c : Dev nD) (t : Fin (cfgA m h).N) : (dats m ρ h 0 c).after (4 : Fin 5) t = oblk m ρ h c t := rfl

/-- Each input buffer holds its block when the step runs. -/
theorem before0 (c : Dev nD) (t : Fin (cfgA m h).N) (d) : (dats m ρ h 0 c).before (0 : Fin 5) t d = iblk m ρ h c (0 : Fin 5) t :=
  ((dats m ρ h 0 c).before_in_eq_fetched (0 : Fin 5) rfl (fun _ => rfl) (fun _ _ _ => rfl) (fun t => by rw [after0]; unfold Dat.blockOf iblk; rfl) t d).trans
    (by unfold Dat.fetched Dat.blockOf iblk; rfl)
theorem before1 (c : Dev nD) (t : Fin (cfgA m h).N) (d) : (dats m ρ h 0 c).before (1 : Fin 5) t d = iblk m ρ h c (1 : Fin 5) t :=
  ((dats m ρ h 0 c).before_in_eq_fetched (1 : Fin 5) rfl (fun _ => rfl) (fun _ _ _ => rfl) (fun t => by rw [after1]; unfold Dat.blockOf iblk; rfl) t d).trans
    (by unfold Dat.fetched Dat.blockOf iblk; rfl)
theorem before2 (c : Dev nD) (t : Fin (cfgA m h).N) (d) : (dats m ρ h 0 c).before (2 : Fin 5) t d = iblk m ρ h c (2 : Fin 5) t :=
  ((dats m ρ h 0 c).before_in_eq_fetched (2 : Fin 5) rfl (fun _ => rfl) (fun _ _ _ => rfl) (fun t => by rw [after2]; unfold Dat.blockOf iblk; rfl) t d).trans
    (by unfold Dat.fetched Dat.blockOf iblk; rfl)
theorem before3 (c : Dev nD) (t : Fin (cfgA m h).N) (d) : (dats m ρ h 0 c).before (3 : Fin 5) t d = iblk m ρ h c (3 : Fin 5) t :=
  ((dats m ρ h 0 c).before_in_eq_fetched (3 : Fin 5) rfl (fun _ => rfl) (fun _ _ _ => rfl) (fun t => by rw [after3]; unfold Dat.blockOf iblk; rfl) t d).trans
    (by unfold Dat.fetched Dat.blockOf iblk; rfl)

/-- No step leaves the output block alone. -/
theorem idle4 (t : Fin (cfgA m h).N) : (cfgA m h).idle (4 : Fin 5) ((cfgA m h).grid.coords t) = false := by
  show (!(k0_cond2 (crd m h t) ((pf m).atD 1 ![0]) == 1#1) && !(k0_cond3 (crd m h t) ((pf m).atD 1 ![0]) == 1#1)) = false
  have key : ∀ z : BitVec 1, (!(Scalar.cmpi .ne (Scalar.extui z : BitVec 32) 0#32 == 1#1)
      && !(Scalar.cmpi .ne (Scalar.extui (Scalar.xori z 1#1) : BitVec 32) 0#32 == 1#1)) = false := by decide
  exact key _

/-! ## The step's obligation -/

/-- A step's run, in one statement: from kept weights of the step before to kept weights of this one. -/
theorem step_run (c : Dev nD) (t : Fin (cfgA m h).N) (y : Vec F S256x1024 .f32) (b0 b1 : Vec F S1024x256 .bf16) (b2 : Vec F S256x1024 .bf16)
    (hk : kept m ρ h c t.val b0 b1 b2) (K : PUnit → sProp 𝕄) :
    iprop(held c (ms0 m h t) (ms1 m h t) (ms2 m h t) (ms3 m h t) (ms4 m h t) sc0 sc1 sc2 (T0 m) (T1 m) (xblk m ρ h c t) (gblk m ρ h c t) (ublk m ρ h c t) (dblk m ρ h c t) y b0 b1 b2
      ∗ (∀ d0, ∀ d1, ∀ d2, iprop(⌜kept m ρ h c (t.val + 1) d0 d1 d2⌝ -∗ held c (ms0 m h t) (ms1 m h t) (ms2 m h t) (ms3 m h t) (ms4 m h t) sc0 sc1 sc2 (T0 m) (T1 m) (xblk m ρ h c t) (gblk m ρ h c t) (ublk m ρ h c t) (dblk m ρ h c t) (oblk m ρ h c t) d0 d1 d2 -∗ K ⟨⟩)))
    ⊢ wp frame (wpE (defs₀ (F := F)) Variants.none c none) Set.univ
      (step (crd m h t) (ms0 m h t) (hs0 m h t) (ms1 m h t) (hs1 m h t) (ms2 m h t) (hs2 m h t) (ms3 m h t) (hs3 m h t) (ms4 m h t) (hs4 m h t)
        sc0 (Memref.isWhole_whole _) sc1 (Memref.isWhole_whole _) sc2 (Memref.isWhole_whole _)) K := by
  have eu : (used (T1 m)).toNat = nUsed m := by rw [used_eq]; rfl
  have hle : (used (T1 m)).toNat ≤ 783 := by rw [eu]; exact h.used_le
  have c2 := cond2_iff (crd m h t) (used (T1 m)) hle
  have c3 := cond3_iff (crd m h t) (used (T1 m)) hle
  have cl := loads_iff (crd m h t) (T0 m) (T1 m) hle
  rw [eu, crd_val] at c2 c3
  rw [eu, crd_val] at cl
  by_cases hu : t.val < nUsed m
  · have h2 := c2.2 hu
    have h3 : ¬ k0_cond3 (crd m h t) (used (T1 m)) = 1#1 := fun e => c3.1 e hu
    have eo : oblk m ρ h c t = k0_pay4 (xblk m ρ h c t) (k0_pay1 (gblk m ρ h c t)) (k0_pay2 (ublk m ρ h c t)) (k0_pay3 (dblk m ρ h c t)) := by
      unfold oblk; rw [if_pos hu]
    have kk : kept m ρ h c (t.val + 1) (k0_pay1 (gblk m ρ h c t)) (k0_pay2 (ublk m ρ h c t)) (k0_pay3 (dblk m ρ h c t)) :=
      fun _ _ _ => ⟨rfl, rfl, rfl⟩
    by_cases hl : loads (crd m h t) (T0 m) (T1 m) = 1#1
    · iintro ⟨H, Hk⟩
      iapply (step_loading c (crd m h t) (ms0 m h t) (hs0 m h t) (ms1 m h t) (hs1 m h t) (ms2 m h t) (hs2 m h t) (ms3 m h t) (hs3 m h t) (ms4 m h t) (hs4 m h t)
        sc0 (Memref.isWhole_whole _) sc1 (Memref.isWhole_whole _) sc2 (Memref.isWhole_whole _) (T0 m) (T1 m) (xblk m ρ h c t) (gblk m ρ h c t) (ublk m ρ h c t) (dblk m ρ h c t) b0 b1 b2 y hl h2 h3 K)
      isplitl [H]; · iexact H
      rw [eo]
      iapply Hk
      ipureintro; exact kk
    · have hne : ¬ ((t.val = 0) ∨ mine (crd m h t) (T0 m) ≠ last (crd m h t) (T0 m)) := fun e => hl (cl.2 ⟨hu, e⟩)
      have h0 : t.val ≠ 0 := fun e => hne (Or.inl e)
      have hsame : mine (crd m h t) (T0 m) = last (crd m h t) (T0 m) := by by_contra e; exact hne (Or.inr e)
      have hn : t.val - 1 < (cfgA m h).N := lt_of_le_of_lt (Nat.sub_le _ _) t.isLt
      obtain ⟨e0, e1, e2⟩ := hk h0 hn (by omega)
      have ee : expert m (t.val - 1) hn = expert m t.val t.isLt := by
        rw [mine_eq, last_eq] at hsame
        have := congrArg (BitVec.toNat (w := 32)) hsame.symm
        refine (Eq.trans ?_ this).trans ?_
        · unfold expert; congr 2; congr 1; rw [crd_val]
        · unfold expert; congr 2; congr 1; exact crd_val m h t
      obtain ⟨w0, w1, w2⟩ := weights_of_expert m ρ h c ⟨t.val - 1, hn⟩ t ee
      rw [w0] at e0; rw [w1] at e1; rw [w2] at e2
      subst e0 e1 e2
      iintro ⟨H, Hk⟩
      iapply (step_keeping c (crd m h t) (ms0 m h t) (hs0 m h t) (ms1 m h t) (hs1 m h t) (ms2 m h t) (hs2 m h t) (ms3 m h t) (hs3 m h t) (ms4 m h t) (hs4 m h t)
        sc0 (Memref.isWhole_whole _) sc1 (Memref.isWhole_whole _) sc2 (Memref.isWhole_whole _) (T0 m) (T1 m) (xblk m ρ h c t) (gblk m ρ h c t) (ublk m ρ h c t) (dblk m ρ h c t) _ _ _ y hl h2 h3 K)
      isplitl [H]; · iexact H
      rw [eo]
      iapply Hk
      ipureintro; exact kk
  · have h2 : ¬ k0_cond2 (crd m h t) (used (T1 m)) = 1#1 := fun e => hu (c2.1 e)
    have h3 := c3.2 hu
    have hl : ¬ loads (crd m h t) (T0 m) (T1 m) = 1#1 := fun e => hu (cl.1 e).1
    have eo : oblk m ρ h c t = k0_pay5 (F := F) := by unfold oblk; rw [if_neg hu]
    have kk : kept m ρ h c (t.val + 1) b0 b1 b2 := fun _ _ e => absurd e hu
    iintro ⟨H, Hk⟩
    iapply (step_unused c (crd m h t) (ms0 m h t) (hs0 m h t) (ms1 m h t) (hs1 m h t) (ms2 m h t) (hs2 m h t) (ms3 m h t) (hs3 m h t) (ms4 m h t) (hs4 m h t)
      sc0 (Memref.isWhole_whole _) sc1 (Memref.isWhole_whole _) sc2 (Memref.isWhole_whole _) (T0 m) (T1 m) (xblk m ρ h c t) (gblk m ρ h c t) (ublk m ρ h c t) (dblk m ρ h c t) b0 b1 b2 y hl h2 h3 K)
    isplitl [H]; · iexact H
    rw [eo]
    iapply Hk
    ipureintro; exact kk

set_option maxHeartbeats 4000000 in
/-- The obligation at step `t`: from what the step is handed to what it leaves. -/
theorem sound_body (c : Dev nD) (t : Fin (cfgA m h).N) :
    iprop((dats m ρ h 0 c).Φ t.castSucc ∗ (dats m ρ h 0 c).owesAt () t.castSucc
        ∗ (∃ d, owns (c : Thread nD τ) (ms0 m h t) fullShare ((dats m ρ h 0 c).before (0 : Fin 5) t d))
        ∗ (∃ d, owns (c : Thread nD τ) (ms1 m h t) fullShare ((dats m ρ h 0 c).before (1 : Fin 5) t d))
        ∗ (∃ d, owns (c : Thread nD τ) (ms2 m h t) fullShare ((dats m ρ h 0 c).before (2 : Fin 5) t d))
        ∗ (∃ d, owns (c : Thread nD τ) (ms3 m h t) fullShare ((dats m ρ h 0 c).before (3 : Fin 5) t d))
        ∗ (∃ d, owns (c : Thread nD τ) (ms4 m h t) fullShare ((dats m ρ h 0 c).before (4 : Fin 5) t d)))
      ⊢ wp frame (wpE (defs₀ (F := F)) Variants.none c none) Set.univ
        (step (crd m h t) (ms0 m h t) (hs0 m h t) (ms1 m h t) (hs1 m h t) (ms2 m h t) (hs2 m h t) (ms3 m h t) (hs3 m h t) (ms4 m h t) (hs4 m h t)
          sc0 (Memref.isWhole_whole _) sc1 (Memref.isWhole_whole _) sc2 (Memref.isWhole_whole _)) fun _ =>
          iprop((dats m ρ h 0 c).Φ t.succ ∗ (dats m ρ h 0 c).owesAt () t.succ
            ∗ bigSep Finset.univ fun w : Fin (cfgA m h).W =>
                match (cfgA m h).idle w ((cfgA m h).grid.coords t) with
                | true =>
                  match ((cfgA m h).win w).flush t with
                  | false => iprop(∃ d, owns (c : Thread nD τ) (((cfgA m h).win w).stage ((cfgA m h).slots t w)) fullShare ((dats m ρ h 0 c).before w t d))
                  | true => owns (c : Thread nD τ) (((cfgA m h).win w).stage ((cfgA m h).slots t w)) fullShare ((dats m ρ h 0 c).after w t)
                | false => owns (c : Thread nD τ) (((cfgA m h).win w).stage ((cfgA m h).slots t w)) fullShare ((dats m ρ h 0 c).after w t)) := by
  rw [bigSep_W0]
  rewrite [idle4 m h t]
  simp only [before0, before1, before2, before3, after0, after1, after2, after3, after4]
  rewrite [show (dats m ρ h 0 c).Φ t.succ = Phi m ρ h c t.succ from rfl, show (dats m ρ h 0 c).Φ t.castSucc = Phi m ρ h c t.castSucc from rfl,
    show (dats m ρ h 0 c).owesAt () t.succ = (dats m ρ h 0 c).owesAt () t.castSucc from rfl]
  unfold Phi
  simp only [Fin.val_castSucc, Fin.val_succ]
  iintro ⟨⟨%b0, %b1, %b2, %hk, HS0, HS1, HS2, HT0, HT1⟩, Ho, ⟨%d0, H0⟩, ⟨%d1, H1⟩, ⟨%d2, H2⟩, ⟨%d3, H3⟩, ⟨%d4, H4⟩⟩
  iapply (step_run m ρ h c t ((dats m ρ h 0 c).before (4 : Fin 5) t d4) b0 b1 b2 hk _)
  isplitl [HS0 HS1 HS2 HT0 HT1 H0 H1 H2 H3 H4]
  · unfold held
    isplitl [H0]; · iexact H0
    isplitl [H1]; · iexact H1
    isplitl [H2]; · iexact H2
    isplitl [H3]; · iexact H3
    isplitl [HT0]; · iexact HT0
    isplitl [HT1]; · iexact HT1
    isplitl [H4]; · iexact H4
    isplitl [HS0]; · iexact HS0
    isplitl [HS1]; · iexact HS1
    iexact HS2
  iintro %e0 %e1 %e2 %he H
  unfold held
  icases H with ⟨H0, H1, H2, H3, HT0, HT1, H4, HS0, HS1, HS2⟩
  isplitl [HS0 HS1 HS2 HT0 HT1]
  · iexists e0; iexists e1; iexists e2
    isplitr; · ipureintro; exact he
    isplitl [HS0]; · iexact HS0
    isplitl [HS1]; · iexact HS1
    isplitl [HS2]; · iexact HS2
    isplitl [HT0]; · iexact HT0
    iexact HT1
  isplitl [Ho]; · iexact Ho
  isplitl [H0]; · iexact H0
  isplitl [H1]; · iexact H1
  isplitl [H2]; · iexact H2
  isplitl [H3]; · iexact H3
  iexact H4

/-- The obligation at every step. -/
theorem body_obligation (c : Dev nD) : BodyObligation (dats m ρ h 0 c) (defs₀ (F := F)) Variants.none () Set.univ := fun t => by
  rw [bigSep_W0]
  exact sound_body m ρ h c t

/-! ## The launch -/

/-- The launch element of the rounds library. -/
def u₀ : UR sig nD τ :=
  initOf (Pipeline.cells (pcs m h) ((launch0 (F := F)).cellOf_inj fun _ => adm m h))
    (Pipeline.launchToks (pcs m h) ((launch0 (F := F)).cellOf_inj fun _ => adm m h))

/-- Every array is held whole. -/
theorem share_eq (c : Dev nD) (w : Fin (cfgA m h).W) : (dats m ρ h 0 c).share w = fullShare := by unfold Dat.share; split <;> rfl

/-- The tables as the launch hands them over, one by one. -/
theorem tables_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- What holds before the first step, from the tables and the buffers. -/
theorem phi_first (c : Dev nD) :
    iprop(BI.emp ∗ Pipeline.prefHeld pre0 c (fun _ => fullShare.right) (adm m h).1 ∗ Pipeline.scopedRest spec0 c) ⊢ (dats m ρ h 0 c).Φ 0 := by
  rw [tables_eq, scopedRest0_eq, show (dats m ρ h 0 c).Φ 0 = Phi m ρ h c 0 from rfl]
  unfold Phi
  simp only [owns_whole]
  iintro ⟨-, ⟨HT0, HT1⟩, ⟨%a0, HS0⟩, ⟨%a1, HS1⟩, ⟨%a2, HS2⟩⟩
  iexists a0; iexists a1; iexists a2
  isplitr; · ipureintro; intro h0; exact absurd rfl h0
  isplitl [HS0]; · iexact HS0
  isplitl [HS1]; · iexact HS1
  isplitl [HS2]; · iexact HS2
  isplitl [HT0]; · iexact HT0
  iexact HT1

/-- After the last step the buffers are given back. -/
theorem phi_last (c : Dev nD) : (dats m ρ h 0 c).Φ (Fin.last (cfgA m h).N) ⊢ iprop(BI.emp ∗ Pipeline.scopedRest spec0 c) := by
  rw [scopedRest0_eq, show (dats m ρ h 0 c).Φ (Fin.last (cfgA m h).N) = Phi m ρ h c (Fin.last _) from rfl]
  unfold Phi
  simp only [owns_whole]
  iintro ⟨%a0, %a1, %a2, -, HS0, HS1, HS2, -, -⟩
  isplitr; · iempintro
  isplitl [HS0]
  · iexists a0; iexact HS0
  isplitl [HS1]
  · iexists a1; iexact HS1
  iexists a2; iexact HS2

/-- The memory at the end: every array at what the steps left, the tables as they were. -/
def QC : PUnit × MemSt nD τ sig (Elt F) → Prop := fun r =>
  ∀ c : Dev nD, (∀ w : Fin (cfgA m h).W, r.2.mem (((cfgA m h).win w).arr.view.loc (c : Thread nD τ)) = (dats m ρ h 0 c).arrAt w (cfgA m h).N)
    ∧ ∀ j, r.2.mem ((c : Thread nD τ).loc (pre0.ref j)) = (adm m h).1 j

/-- The tables are the memory's, on the one core. -/
theorem tables_mem (c : Dev nD) (j : Fin 2) : m ((c : Thread nD τ).loc (pre0.ref j)) = (adm m h).1 j := by
  have hc : c = 0 := Subsingleton.elim (α := Fin 1) c 0
  subst hc
  fin_cases j <;> rfl

set_option backward.isDefEq.respectTransparency.types false in
set_option maxHeartbeats 4000000 in
/-- Every run ends, with the memory as said and every counter at zero. -/
theorem run_all : θ_run (defs (F := F)) (onTc (τ := τ) (main (F := F))) (s₀ m ρ) (fun r => QC m ρ h r ∧ r.2.sem = fun _ => 0) :=
  Pipeline.θ_run_region_noSem_pf_quiescent pcfgs (fun _ => adm m h) (dats m ρ h) () ((launch0 (F := F)).cellOf_inj fun _ => adm m h) (0 : Fin 1)
    (launch0 (F := F)).win.to₀ (launch0 (F := F)).pre EP defs₀ Variants.none m ρ main
    (hbody := fun c => (body_obligation m ρ h c).loose) (hne := (launch0 (F := F)).block_pos)
    (harr := (launch0 (F := F)).arr_whole) (hstage := (launch0 (F := F)).stage_whole) (howed := fun _ _ => rfl)
    (u₀ := u₀ m h) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs m h) (dats m ρ h) 0 (launch0 (F := F)).win.arr_inj c (launch0 (F := F)).arr_whole
      (share_eq m ρ h c) _ _ fun _ => rfl)
    (hpf := tables_mem m h)
    (X := fun _ => iprop(emp)) (Y := fun _ => iprop(emp)) (Z := fun _ => iprop(emp))
    (hX := fun c => by rw [unscopedRestP0_eq]; iintro -; isplitr <;> iempintro)
    (hin := phi_first m ρ h)
    (hout := phi_last m ρ h)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The arguments end unchanged. -/
theorem args_unchanged (r : PUnit × MemSt nD τ sig (Elt F)) (hr : QC m ρ h r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((hr c).2 0).trans (tables_mem m h c 0).symm, ((hr c).2 1).trans (tables_mem m h c 1).symm,
    ((hr c).1 (0 : Fin 5)).trans ((dats m ρ h 0 c).arrAt_in (0 : Fin 5) rfl _), ((hr c).1 (1 : Fin 5)).trans ((dats m ρ h 0 c).arrAt_in (1 : Fin 5) rfl _),
    ((hr c).1 (2 : Fin 5)).trans ((dats m ρ h 0 c).arrAt_in (2 : Fin 5) rfl _), ((hr c).1 (3 : Fin 5)).trans ((dats m ρ h 0 c).arrAt_in (3 : Fin 5) rfl _)⟩

/-- With the tables in range every run ends, the arguments unchanged and every counter at zero. -/
theorem frame_of_good (h : Good m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r hr => ⟨fun c => args_unchanged m ρ h r hr.1 c, hr.2⟩) (run_all m ρ h)

end Cert.MoeIdeal.Own

end
-- ==== Proof.MoePay.lean ====
/-
  The expert kernel's arithmetic, one element at a time over the extended reals: what the weights kept from a block are,
  and what a used step's output block is.
-/
module

public import proofs.«01_k».proof.Proof.Gen.MoeIdeal.Skeleton
public import Idealize.ShloMosaic.Lib.Pointwise

@[expose] public section

set_option maxRecDepth 16384

noncomputable section

open Idealize.ShloMosaic Idealize.ShloMosaic.TcCoe Idealize.SL.Sem

namespace Cert.MoeIdeal.Own

open Cert.MoeIdeal Cert.MoeIdeal.Gen

/-- A hidden unit of one token at one expert: the gated unit, from the token's row and the two columns of weights. -/
def unit (x g u : Fin 1024 → EReal) : EReal :=
  (∑ k, x k * g k) * Ideal.div 1 (1 + Ideal.exp (-(∑ k, x k * g k))) * (∑ k, x k * u k)

/-- The kept gate weights are the block's. -/
theorem pay1_apply (x1 : Vec Ideal S1x1024x256 .f32) (k : Fin 1024) (h : Fin 256) : k0_pay1 x1 (ix2 k h) = x1 (ix3 0 k h) := by
  pointwise [k0_pay1]

/-- The kept up weights are the block's. -/
theorem pay2_apply (x2 : Vec Ideal S1x1024x256 .f32) (k : Fin 1024) (h : Fin 256) : k0_pay2 x2 (ix2 k h) = x2 (ix3 0 k h) := by
  pointwise [k0_pay2]

/-- The kept down weights are the block's. -/
theorem pay3_apply (x3 : Vec Ideal S1x256x1024 .f32) (h : Fin 256) (d : Fin 1024) : k0_pay3 x3 (ix2 h d) = x3 (ix3 0 h d) := by
  pointwise [k0_pay3]

/-- The constant of an unused step is zero. -/
theorem pay5_apply (r : Fin 256) (d : Fin 1024) : k0_pay5 (F := Ideal) (ix2 r d) = (0 : EReal) := by
  pointwise [k0_pay5]

/-- An element of a used step's output: the sum over the hidden units. -/
theorem pay4_apply (x0 : Vec Ideal S256x1024 .bf16) (a b : Vec Ideal S1024x256 .bf16) (w : Vec Ideal S256x1024 .bf16) (r : Fin 256) (d : Fin 1024) :
    k0_pay4 x0 a b w (ix2 r d)
      = ∑ h : Fin 256, unit (fun k => x0 (ix2 r k)) (fun k => a (ix2 k h)) (fun k => b (ix2 k h)) * w (ix2 h d) := by
  unfold unit
  pointwise [k0_pay4]
  simp only [zero_sub]

end Cert.MoeIdeal.Own

end
-- ==== Proof.MoeRef.lean ====
/-
  The experts' reference, one element at a time: a used block is its tokens' rows through its expert's gated layer,
  an unused one is zero.
-/
module

public import proofs.«01_k».proof.Proof.Gen.MoeRefIdeal.Read
public import proofs.«01_k».proof.Proof.MoePay
public import Idealize.ShloMosaic.Lib.WordCmp
public import Idealize.ShloMosaic.Lib.IdealHost

@[expose] public section

set_option maxRecDepth 16384

noncomputable section

open Idealize.ShloMosaic Idealize.ShloMosaic.TcCoe Idealize.SL.Sem

namespace Cert.MoeRefIdeal.Read

open Cert.MoeRefIdeal Cert.MoeRefIdeal.Gen
open Cert.MoeIdeal.Own (unit)

/-- Taking whole members of a stack of matrices `1024 × 256`, each named by a word. -/
theorem take_in (x : S256x1024x256.Idx → EReal) (idx : IVec S783x1 32) (i : S783x1024x256.Idx) (e : Fin 256)
    (he : (idx (ix2 (i 0) 0)).toInt = (e.val : ℤ)) :
    Host.gather gather_S256x1024x256_S783x1_S783x1024x256_12_0_n_n_0_1_11024256 x idx i = x (ix3 e (i 1) (i 2)) := by
  have hsi : GatherDims.siIdx gather_S256x1024x256_S783x1_S783x1024x256_12_0_n_n_0_1_11024256 i ⟨0, Nat.one_pos⟩ = ix2 (i 0) 0 := by
    funext b; refine Fin.ext ?_
    match b with
    | ⟨0, _⟩ => rfl
    | ⟨1, _⟩ => rfl
  have hs : GatherDims.start gather_S256x1024x256_S783x1_S783x1024x256_12_0_n_n_0_1_11024256 i idx (0 : Fin 3) = e.val := by
    have hv : (idx (GatherDims.siIdx gather_S256x1024x256_S783x1_S783x1024x256_12_0_n_n_0_1_11024256 i ⟨0, Nat.one_pos⟩)).toInt = (e.val : ℤ) := (congrArg (fun j => (idx j).toInt) hsi).trans he
    show min (idx (GatherDims.siIdx gather_S256x1024x256_S783x1_S783x1024x256_12_0_n_n_0_1_11024256 i ⟨0, Nat.one_pos⟩)).toInt.toNat (256 - 1) = e.val
    rw [hv]
    have := e.isLt; omega
  have ho : GatherDims.offCoord gather_S256x1024x256_S783x1_S783x1024x256_12_0_n_n_0_1_11024256 i (0 : Fin 3) = 0 :=
    GatherDims.offCoord_eq_zero _ _ _ (fun h => ((GatherDims.mem_sKept _ _).mp h).1 (List.mem_singleton.mpr rfl))
  unfold Host.gather
  refine congrArg x (funext fun a => Fin.ext ?_)
  show GatherDims.start _ i idx a + GatherDims.batchCoord _ i a + GatherDims.offCoord _ i a = _
  have hb : GatherDims.batchCoord gather_S256x1024x256_S783x1_S783x1024x256_12_0_n_n_0_1_11024256 i a = 0 :=
    GatherDims.batchCoord_eq_zero _ _ _ (fun h => absurd h (List.not_mem_nil))
  rw [hb]
  match a with
  | ⟨0, _⟩ => exact (congrArg₂ (fun p q => p + 0 + q) hs ho).trans (by show e.val + 0 + 0 = e.val; omega)
  | ⟨1, _⟩ => show 0 + 0 + (i 1).val = (i 1).val; omega
  | ⟨2, _⟩ => show 0 + 0 + (i 2).val = (i 2).val; omega

/-- Taking whole members of a stack of matrices `256 × 1024`, each named by a word. -/
theorem take_out (x : S256x256x1024.Idx → EReal) (idx : IVec S783x1 32) (i : S783x256x1024.Idx) (e : Fin 256)
    (he : (idx (ix2 (i 0) 0)).toInt = (e.val : ℤ)) :
    Host.gather gather_S256x256x1024_S783x1_S783x256x1024_12_0_n_n_0_1_12561024 x idx i = x (ix3 e (i 1) (i 2)) := by
  have hsi : GatherDims.siIdx gather_S256x256x1024_S783x1_S783x256x1024_12_0_n_n_0_1_12561024 i ⟨0, Nat.one_pos⟩ = ix2 (i 0) 0 := by
    funext b; refine Fin.ext ?_
    match b with
    | ⟨0, _⟩ => rfl
    | ⟨1, _⟩ => rfl
  have hs : GatherDims.start gather_S256x256x1024_S783x1_S783x256x1024_12_0_n_n_0_1_12561024 i idx (0 : Fin 3) = e.val := by
    have hv : (idx (GatherDims.siIdx gather_S256x256x1024_S783x1_S783x256x1024_12_0_n_n_0_1_12561024 i ⟨0, Nat.one_pos⟩)).toInt = (e.val : ℤ) := (congrArg (fun j => (idx j).toInt) hsi).trans he
    show min (idx (GatherDims.siIdx gather_S256x256x1024_S783x1_S783x256x1024_12_0_n_n_0_1_12561024 i ⟨0, Nat.one_pos⟩)).toInt.toNat (256 - 1) = e.val
    rw [hv]
    have := e.isLt; omega
  have ho : GatherDims.offCoord gather_S256x256x1024_S783x1_S783x256x1024_12_0_n_n_0_1_12561024 i (0 : Fin 3) = 0 :=
    GatherDims.offCoord_eq_zero _ _ _ (fun h => ((GatherDims.mem_sKept _ _).mp h).1 (List.mem_singleton.mpr rfl))
  unfold Host.gather
  refine congrArg x (funext fun a => Fin.ext ?_)
  show GatherDims.start _ i idx a + GatherDims.batchCoord _ i a + GatherDims.offCoord _ i a = _
  have hb : GatherDims.batchCoord gather_S256x256x1024_S783x1_S783x256x1024_12_0_n_n_0_1_12561024 i a = 0 :=
    GatherDims.batchCoord_eq_zero _ _ _ (fun h => absurd h (List.not_mem_nil))
  rw [hb]
  match a with
  | ⟨0, _⟩ => exact (congrArg₂ (fun p q => p + 0 + q) hs ho).trans (by show e.val + 0 + 0 = e.val; omega)
  | ⟨1, _⟩ => show 0 + 0 + (i 1).val = (i 1).val; omega
  | ⟨2, _⟩ => show 0 + 0 + (i 2).val = (i 2).val; omega

/-- A word below 256, with 256 added were it negative, is itself. -/
theorem wrapped (w : BitVec 32) (h : w.toNat < 256) :
    (Scalar.select (IntOp.cmpi .slt w 0#32) (IntOp.addi w 256#32) w).toInt = (w.toNat : ℤ) := by
  have e : w = BitVec.ofNat 32 w.toNat := by rw [BitVec.ofNat_toNat, BitVec.setWidth_eq]
  have hc : IntOp.cmpi .slt w 0#32 = 0#1 := by
    rw [e]
    refine (WordCmp.cmpi_slt_ofNat (w := 32) (a := w.toNat) (b := 0) (by omega) (by omega)).trans ?_
    simp
  rw [hc]
  show w.toInt = _
  exact WordCmp.toInt_eq_toNat_of_lt_half (by omega)

variable (x0 : S783.Idx → Elt Ideal .i32) (x1 : S1.Idx → Elt Ideal .i32) (x2 : S200448x1024.Idx → Elt Ideal .bf16)
  (x3 x4 : S256x1024x256.Idx → Elt Ideal .f32) (x5 : S256x256x1024.Idx → Elt Ideal .f32)

/-- The gate weights of a block are its expert's. -/
theorem v8_apply (t : Fin 783) (e : Fin 256) (he : BitVec.toNat (w := 32) (x0 (ix1 t)) = e.val) (k : Fin 1024) (h : Fin 256) :
    val_main_v8 (F := Ideal) x0 x3 (ix3 t k h) = x3 (ix3 e k h) := by
  unfold val_main_v8
  refine take_in x3 _ (ix3 t k h) e ?_
  rw [val_main_v7_apply, val_main_v6_apply, val_main_v3_apply, val_main_v5_apply, val_main_v2_apply, val_main_v4_apply, val_main_c_apply, val_main_c_0_apply]
  have ei : idx_main_v7 (ix2 ((ix3 t k h : S783x1024x256.Idx) 0) 0) = ix1 t := funext fun a => Fin.ext (by match a with | ⟨0, _⟩ => rfl)
  rw [ei]
  exact (wrapped _ (by rw [he]; exact e.isLt)).trans (congrArg Nat.cast he)

/-- The up weights of a block are its expert's. -/
theorem v15_apply (t : Fin 783) (e : Fin 256) (he : BitVec.toNat (w := 32) (x0 (ix1 t)) = e.val) (k : Fin 1024) (h : Fin 256) :
    val_main_v15 (F := Ideal) x0 x4 (ix3 t k h) = x4 (ix3 e k h) := by
  unfold val_main_v15
  refine take_in x4 _ (ix3 t k h) e ?_
  rw [val_main_v14_apply, val_main_v13_apply, val_main_v10_apply, val_main_v12_apply, val_main_v9_apply, val_main_v11_apply, val_main_c_1_apply, val_main_c_2_apply]
  have ei : idx_main_v14 (ix2 ((ix3 t k h : S783x1024x256.Idx) 0) 0) = ix1 t := funext fun a => Fin.ext (by match a with | ⟨0, _⟩ => rfl)
  rw [ei]
  exact (wrapped _ (by rw [he]; exact e.isLt)).trans (congrArg Nat.cast he)

/-- The down weights of a block are its expert's. -/
theorem v22_apply (t : Fin 783) (e : Fin 256) (he : BitVec.toNat (w := 32) (x0 (ix1 t)) = e.val) (h : Fin 256) (d : Fin 1024) :
    val_main_v22 (F := Ideal) x0 x5 (ix3 t h d) = x5 (ix3 e h d) := by
  unfold val_main_v22
  refine take_out x5 _ (ix3 t h d) e ?_
  rw [val_main_v21_apply, val_main_v20_apply, val_main_v17_apply, val_main_v19_apply, val_main_v16_apply, val_main_v18_apply, val_main_c_3_apply, val_main_c_4_apply]
  have ei : idx_main_v21 (ix2 ((ix3 t h d : S783x256x1024.Idx) 0) 0) = ix1 t := funext fun a => Fin.ext (by match a with | ⟨0, _⟩ => rfl)
  rw [ei]
  exact (wrapped _ (by rw [he]; exact e.isLt)).trans (congrArg Nat.cast he)

/-- A block's row of tokens. -/
theorem v1_apply (t : Fin 783) (r : Fin 256) (k : Fin 1024) :
    val_main_v1 (F := Ideal) x2 (ix3 t r k) = x2 (ix2 ⟨t.val * 256 + r.val, by have := t.isLt; have := r.isLt; omega⟩ k) := by
  rw [val_main_v1_apply, val_main_v0_apply]
  show x2 _ = _
  have hk := k.isLt
  refine congrArg x2 (funext fun a => Fin.ext ?_)
  match a with
  | ⟨0, _⟩ => show ((t.val * 256 + r.val) * 1024 + k.val) / 1024 = t.val * 256 + r.val; omega
  | ⟨1, _⟩ => show ((t.val * 256 + r.val) * 1024 + k.val) % 1024 = k.val; omega

/-- A block's product with its expert's gate weights. -/
theorem v23_apply (t : Fin 783) (e : Fin 256) (he : BitVec.toNat (w := 32) (x0 (ix1 t)) = e.val) (r h : Fin 256) :
    val_main_v23 (F := Ideal) x0 x2 x3 (ix3 t r h)
      = ∑ k, x2 (ix2 ⟨t.val * 256 + r.val, by have := t.isLt; have := r.isLt; omega⟩ k) * x3 (ix3 e k h) := by
  rw [val_main_v23_apply]
  refine Finset.sum_congr rfl fun k _ => ?_
  have el : lidx_main_v23 (ix3 t r h) k = ix3 t r k := funext fun a => Fin.ext (by match a with | ⟨0, _⟩ => rfl | ⟨1, _⟩ => rfl | ⟨2, _⟩ => rfl)
  have er : ridx_main_v23 (ix3 t r h) k = ix3 t k h := funext fun a => Fin.ext (by match a with | ⟨0, _⟩ => rfl | ⟨1, _⟩ => rfl | ⟨2, _⟩ => rfl)
  rw [el, er, v1_apply, v8_apply x0 x3 t e he]

/-- A block's product with its expert's up weights. -/
theorem v25_apply (t : Fin 783) (e : Fin 256) (he : BitVec.toNat (w := 32) (x0 (ix1 t)) = e.val) (r h : Fin 256) :
    val_main_v25 (F := Ideal) x0 x2 x4 (ix3 t r h)
      = ∑ k, x2 (ix2 ⟨t.val * 256 + r.val, by have := t.isLt; have := r.isLt; omega⟩ k) * x4 (ix3 e k h) := by
  rw [val_main_v25_apply]
  refine Finset.sum_congr rfl fun k _ => ?_
  have el : lidx_main_v25 (ix3 t r h) k = ix3 t r k := funext fun a => Fin.ext (by match a with | ⟨0, _⟩ => rfl | ⟨1, _⟩ => rfl | ⟨2, _⟩ => rfl)
  have er : ridx_main_v25 (ix3 t r h) k = ix3 t k h := funext fun a => Fin.ext (by match a with | ⟨0, _⟩ => rfl | ⟨1, _⟩ => rfl | ⟨2, _⟩ => rfl)
  rw [el, er, v1_apply, v15_apply x0 x4 t e he]

/-- A hidden unit of a block's row. -/
theorem v26_apply (t : Fin 783) (e : Fin 256) (he : BitVec.toNat (w := 32) (x0 (ix1 t)) = e.val) (r h : Fin 256) :
    val_main_v26 (F := Ideal) x0 x2 x3 x4 (ix3 t r h)
      = unit (fun k => x2 (ix2 ⟨t.val * 256 + r.val, by have := t.isLt; have := r.isLt; omega⟩ k)) (fun k => x3 (ix3 e k h)) (fun k => x4 (ix3 e k h)) := by
  have one : Ideal.ofBits .f32 0x3F800000#32 = 1 := Ideal.ofBits_one_f32
  rw [val_main_v26_apply, val_main_v24_apply, val_main_call0_v5_apply, val_main_call0_v3_apply, val_main_call0_v4_apply, val_main_call0_v2_apply,
    val_main_call0_cst_apply, val_main_call0_cst_0_apply, val_main_call0_v1_apply, val_main_call0_v0_apply, v23_apply x0 x2 x3 t e he, v25_apply x0 x2 x4 t e he]
  unfold unit
  show _ * Ideal.div (Ideal.ofBits .f32 0x3F800000#32) (Ideal.ofBits .f32 0x3F800000#32 + Ideal.exp (-_)) * _ = _
  rw [one]

/-- An element of the reference's result. -/
theorem result_apply (t : Fin 783) (e : Fin 256) (he : BitVec.toNat (w := 32) (x0 (ix1 t)) = e.val)
    (n : ℕ) (hn : BitVec.toNat (w := 32) (x1 (ix1 0)) = n) (hn' : n ≤ 783) (r : Fin 256) (d : Fin 1024) :
    val_main_v34 (F := Ideal) x0 x1 x2 x3 x4 x5 (ix2 ⟨t.val * 256 + r.val, by have := t.isLt; have := r.isLt; omega⟩ d)
      = if t.val < n then ∑ h, unit (fun k => x2 (ix2 ⟨t.val * 256 + r.val, by have := t.isLt; have := r.isLt; omega⟩ k)) (fun k => x3 (ix3 e k h)) (fun k => x4 (ix3 e k h)) * x5 (ix3 e h d)
        else 0 := by
  have ht := t.isLt
  have hr := r.isLt
  have hd := d.isLt
  rw [val_main_v34_apply]
  have e0 : idx_main_v34 (ix2 ⟨t.val * 256 + r.val, by omega⟩ d) = ix3 t r d := funext fun a => Fin.ext (by
    match a with
    | ⟨0, _⟩ => show ((t.val * 256 + r.val) * 1024 + d.val) / 262144 = t.val; omega
    | ⟨1, _⟩ => show ((t.val * 256 + r.val) * 1024 + d.val) / 1024 % 256 = r.val; omega
    | ⟨2, _⟩ => show ((t.val * 256 + r.val) * 1024 + d.val) % 1024 = d.val; omega)
  rw [e0, val_main_v33_apply, val_main_call1_v1_apply, val_main_call1_v2_apply, val_main_call1_v0_apply, val_main_cst_apply, val_main_v32_apply, val_main_v31_apply,
    val_main_v28_apply, val_main_v30_apply]
  have e1 : ∀ j : S_.Idx, val_main_v29 (F := Ideal) x1 j = x1 (ix1 0) := fun j => by
    unfold val_main_v29
    refine congrArg x1 (funext fun a => Fin.ext (by match a with | ⟨0, _⟩ => exact congrArg Fin.val (Subsingleton.elim (α := Fin 1) _ _)))
  rw [e1]
  have e2 : IntOp.cmpi .slt (BitVec.ofNat 32 t.val) (x1 (ix1 0) : BitVec 32) = BitVec.ofBool (decide (t.val < n)) := by
    have e : (x1 (ix1 0) : BitVec 32) = BitVec.ofNat 32 n := by rw [← hn, BitVec.ofNat_toNat, BitVec.setWidth_eq]
    rw [e]
    exact WordCmp.cmpi_slt_ofNat (by omega) (by omega)
  show Scalar.select (IntOp.cmpi .slt (BitVec.ofNat 32 t.val) (x1 (ix1 0) : BitVec 32)) _ _ = _
  rw [e2]
  by_cases h : t.val < n
  · simp only [h, decide_true, if_true]
    show val_main_v27 (F := Ideal) x0 x2 x3 x4 x5 (ix3 t r d) = _
    rw [val_main_v27_apply]
    refine Finset.sum_congr rfl fun k _ => ?_
    have el : lidx_main_v27 (ix3 t r d) k = ix3 t r k := funext fun a => Fin.ext (by match a with | ⟨0, _⟩ => rfl | ⟨1, _⟩ => rfl | ⟨2, _⟩ => rfl)
    have er : ridx_main_v27 (ix3 t r d) k = ix3 t k d := funext fun a => Fin.ext (by match a with | ⟨0, _⟩ => rfl | ⟨1, _⟩ => rfl | ⟨2, _⟩ => rfl)
    rw [el, er, v26_apply x0 x2 x3 x4 t e he, v22_apply x0 x5 t e he]
  · simp only [h, decide_false, if_false]
    show Ideal.ofBits .f32 0x00000000#32 = 0
    simp [Ideal.ofBits, Ideal.ieee]

end Cert.MoeRefIdeal.Read

end
-- ==== Proof.MoeTop.lean ====
/-
  The expert kernel's result array is its reference's: every step writes back its block of it, and the blocks cover it.
-/
module

public import proofs.«01_k».proof.Defs
public import proofs.«01_k».proof.Proof.MoeFrame
public import proofs.«01_k».proof.Proof.MoeFrameBits
public import proofs.«01_k».proof.Proof.MoeRef
public import proofs.«01_k».proof.Proof.Gen.MoeRefIdeal.Run
public import Idealize.ShloMosaic.Lib.ReduceAll
public import Idealize.ShloMosaic.PureOps.BitExact
public import Idealize.ShloMosaic.Lib.Pipeline.Value

@[expose] public section

set_option maxRecDepth 16384

noncomputable section

open Idealize.ShloMosaic Idealize.ShloMosaic.TcCoe Idealize.SL.Sem

/-! ## The precondition, word by word -/

namespace Cert.Pre_moe_ints

/-- A word at least zero and below a bound, as integers, is below it as a natural number. -/
theorem range_of_cmp (w : BitVec 32) (lo hi : ℤ) (h0 : 0 ≤ lo) (h1 : lo ≤ w.toInt) (h2 : w.toInt ≤ hi) : lo.toNat ≤ w.toNat ∧ w.toNat ≤ hi.toNat := by
  have hm : w.msb = false := by
    by_contra hc
    have hc : w.msb = true := by simpa using hc
    have := BitVec.toInt_neg_of_msb_true hc
    omega
  have := BitVec.toInt_eq_toNat_of_msb hm
  omega

/-- What the precondition says of the two tables. -/
theorem words [Facts] {F : FTy → Type} [FloatOps F] (x0 : S783.Idx → Elt F .i32) (x1 : S1.Idx → Elt F .i32) (x2 : S200448x1024.Idx → Elt F .bf16)
    (x3 x4 : S256x1024x256.Idx → Elt F .f32) (x5 : S256x256x1024.Idx → Elt F .f32)
    (h : fn (F := F) x0 x1 x2 x3 x4 x5 = fun _ => 1#1) :
    (∀ i, BitVec.toNat (w := 32) (x0 i) < 256) ∧ (∀ i, 1 ≤ BitVec.toNat (w := 32) (x1 i) ∧ BitVec.toNat (w := 32) (x1 i) ≤ 783) := by
  dsimp only [fn] at h
  have h1 := congrFun h (fun a => a.elim0)
  have both : ∀ a b : BitVec 1, IntOp.andi a b = 1#1 → a = 1#1 ∧ b = 1#1 := by decide
  have bit : ∀ b : Bool, BitVec.ofBool b = 1#1 → b = true := by decide
  have h2 := both _ _ h1
  constructor
  · intro i
    have h3 := both _ _ (Host.reduce_andi_all _ _ _ _ _ h2.1 i)
    have h4 : decide _ = true := bit _ h3.1
    have h5 : decide _ = true := bit _ h3.2
    have h6 := of_decide_eq_true h4
    have h7 := of_decide_eq_true h5
    have := range_of_cmp (x0 i) 0 255 (by omega) h6 (Int.lt_add_one_iff.mp h7)
    omega
  · intro i
    have h3 := both _ _ (Host.reduce_andi_all _ _ _ _ _ h2.2 i)
    have h4 : decide _ = true := bit _ h3.1
    have h5 : decide _ = true := bit _ h3.2
    have := range_of_cmp (x1 i) 1 783 (by omega) (of_decide_eq_true h4) (of_decide_eq_true h5)
    omega

end Cert.Pre_moe_ints

namespace Cert.MoeIdeal.Own

open Cert.MoeIdeal Cert.MoeIdeal.Gen

/-- The precondition puts the tables in range. -/
theorem good_of_pre [Cert.Pre_moe_ints.Facts] (m : (ℓ : Loc nD τ sig) → Buf (Elt Ideal) ℓ) (h : Cert.Pre_MoeIdeal m) : Good m := by
  obtain ⟨h0, h1⟩ := Cert.Pre_moe_ints.words _ _ _ _ _ _ (h 0)
  exact ⟨fun n hn => h0 _, (h1 _).1, (h1 _).2⟩

/-! ## The output's blocks -/

/-- The output block of a step is the step's own. -/
theorem transform4_eq (i : grid0.Coords) : cc0_transform_4 i = ![(i 0).val, 0] := by
  have e : cc0_transform_4 i = ![(BitVec.ofNat 32 (i 0).val).toNat, 0] := rfl
  rw [e, step_word (i 0)]

variable (m : (ℓ : Loc nD τ sig) → Buf (Elt Ideal) ℓ) (ρ : Dev nD → PrngReg) (h : Good m) (c : Dev nD)

/-- The output's block index at a step. -/
theorem index4 (t : Fin (cfgA m h).N) : ((cfgA m h).win (4 : Fin 5)).index t = ![t.val, 0] := by
  have e : ((cfgA m h).win (4 : Fin 5)).index t = cc0_transform_4 (crd m h t) := rfl
  rw [e, transform4_eq, crd_val]

/-- Every step writes its block back. -/
theorem flush4 (t : Fin (cfgA m h).N) : ((cfgA m h).win (4 : Fin 5)).flush t = true := by
  unfold Pipeline.Window.flush
  have e : ((cfgA m h).win (4 : Fin 5)).isOut = true := rfl
  rw [e, Bool.true_and, Bool.or_eq_true]
  by_cases hl : t.val + 1 = (cfgA m h).N
  · exact Or.inl (by simpa using hl)
  · refine Or.inr (decide_eq_true ⟨lt_of_le_of_ne t.isLt hl, fun hn => ?_⟩)
    rw [index4, index4] at hn
    have := congrFun hn 0
    simp at this

/-- The reference's result, of the kernel's arguments. -/
def result : Buf (Elt Ideal) ((c : Thread nD τ).loc main_v0) :=
  Cert.MoeRefIdeal.Read.val_main_v34 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))

/-- What a step leaves in the output block is the reference's result, at an element. -/
theorem oblk_apply (t : Fin (cfgA m h).N) (r : Fin 256) (d : Fin 1024) :
    oblk m ρ h c t (ix2 r d) = result m c (ix2 ⟨t.val * 256 + r.val, by have : t.val < 783 := t.isLt; have := r.isLt; omega⟩ d) := by
  obtain rfl : c = 0 := Subsingleton.elim (α := Fin 1) c 0
  have ht : t.val < 783 := t.isLt
  have e0 : (ix1 ⟨t.val, ht⟩ : S783.Idx) = at783 t.val ht := funext fun a => Fin.ext (by match a with | ⟨0, _⟩ => rfl)
  have e1 : (ix1 0 : S1.Idx) = at1 := funext fun a => Fin.ext (by match a with | ⟨0, _⟩ => rfl)
  unfold result
  refine Eq.trans ?_ (Cert.MoeRefIdeal.Read.result_apply _ _ _ _ _ _ ⟨t.val, ht⟩ ⟨expert m t.val ht, expert_lt m h t⟩
    (by rw [e0]; rfl) (nUsed m) (by rw [e1]; rfl) h.used_le r d).symm
  unfold oblk
  by_cases hu : t.val < nUsed m
  · rw [if_pos hu, if_pos hu, pay4_apply]
    refine Finset.sum_congr rfl fun k _ => ?_
    rw [pay3_apply, dblk_apply]
    have em : min t.val (nUsed m - 1) = t.val := min_eq_left (by omega)
    refine congrArg₂ (· * ·) ?_ rfl
    refine congr (congrArg₂ unit ?_ ?_) ?_ <;> funext x
    · rw [xblk_apply]
      simp only [em]
      rfl
    · rw [pay1_apply, gblk_apply]; rfl
    · rw [pay2_apply, ublk_apply]; rfl
  · rw [if_neg hu, if_neg hu, pay5_apply]

/-- A step writes back its block of the reference's result. -/
theorem flushed_eq (t : Fin (cfgA m h).N) :
    (dats m ρ h 0 c).flushed (4 : Fin 5) t = (((cfgA m h).win (4 : Fin 5)).blk t).view.read (Elt Ideal) (result m c) := by
  have e := transform4_eq (crd m h t)
  rw [crd_val] at e
  have key : ∀ j : S256x1024.Idx, oblk m ρ h c t j = (((cfgA m h).win (4 : Fin 5)).blk t).view.read (Elt Ideal) (result m c) j := fun j => by
    obtain ⟨r, d, rfl⟩ : ∃ (r : Fin 256) (d : Fin 1024), j = ix2 r d :=
      ⟨j 0, j 1, funext fun a => by match a with | ⟨0, _⟩ => rfl | ⟨1, _⟩ => rfl⟩
    rw [View.read_apply]
    refine (oblk_apply m ρ h c t r d).trans (congrArg (result m c) (funext fun a => Fin.ext ?_))
    match a with
    | ⟨0, _⟩ =>
      show t.val * 256 + r.val = cc0_transform_4 (crd m h t) 0 * 256 + 1 * r.val
      rw [e]; show t.val * 256 + r.val = t.val * 256 + 1 * r.val; omega
    | ⟨1, _⟩ =>
      show d.val = cc0_transform_4 (crd m h t) 1 * 1024 + 1 * d.val
      rw [e]; show d.val = 0 * 1024 + 1 * d.val; omega
  exact funext key

/-- The kernel's result array is the reference's. -/
theorem final : (dats m ρ h 0 c).arrAt (4 : Fin 5) (cfgA m h).N = result m c :=
  (dats m ρ h 0 c).arrAt_eq_of_cover (4 : Fin 5) (result m c) (fun t _ => flushed_eq m ρ h c t) fun i => by
    have h0 : (i 0 : Nat) < 200448 := (i 0).isLt
    have h1 : (i 1 : Nat) < 1024 := (i 1).isLt
    let t : Fin (cfgA m h).N := ⟨(i 0 : Nat) / 256, show (i 0 : Nat) / 256 < 783 by omega⟩
    have ht : t.val = (i 0 : Nat) / 256 := rfl
    have e := index4 m h t
    refine ⟨t, flush4 m h t, ?_⟩
    show i ∈ ((View.whole main_v0).slice (((cfgA m h).win (4 : Fin 5)).rect t)).set
    rw [View.set_slice_whole, Rect.mem_set_unit]
    intro a
    match a with
    | ⟨0, _⟩ =>
      show ((cfgA m h).win (4 : Fin 5)).index t 0 * 256 ≤ (i 0 : Nat) ∧ (i 0 : Nat) < ((cfgA m h).win (4 : Fin 5)).index t 0 * 256 + 256
      rw [e]; show t.val * 256 ≤ (i 0 : Nat) ∧ (i 0 : Nat) < t.val * 256 + 256; omega
    | ⟨1, _⟩ =>
      show ((cfgA m h).win (4 : Fin 5)).index t 1 * 1024 ≤ (i 1 : Nat) ∧ (i 1 : Nat) < ((cfgA m h).win (4 : Fin 5)).index t 1 * 1024 + 1024
      rw [e]; show 0 * 1024 ≤ (i 1 : Nat) ∧ (i 1 : Nat) < 0 * 1024 + 1024; omega

end Cert.MoeIdeal.Own

namespace Cert.Moe.Own

open Cert.Moe Cert.Moe.Gen

/-- The precondition puts the tables in range. -/
theorem good_of_pre [Cert.Pre_moe_ints.Facts] (m : (ℓ : Loc nD τ sig) → Buf (Elt Bits) ℓ) (h : Cert.Pre_Moe m) : Good m := by
  obtain ⟨h0, h1⟩ := Cert.Pre_moe_ints.words _ _ _ _ _ _ (h 0)
  exact ⟨fun n hn => h0 _, (h1 _).1, (h1 _).2⟩

end Cert.Moe.Own

namespace Cert.Proof

/-- The experts' kernel, at the machine's floats, runs and keeps its arguments. -/
theorem moe_frame [Cert.Pre_moe_ints.Facts] : Cert.quiescent_Moe := fun m ρ h =>
  Cert.Moe.Own.frame_of_good m ρ (Cert.Moe.Own.good_of_pre m h)

/-- The experts' kernel, at the extended reals, runs and keeps its arguments. -/
theorem moe_ideal_frame [Cert.Pre_moe_ints.Facts] : Cert.quiescent_MoeIdeal := fun m ρ h =>
  Cert.MoeIdeal.Own.frame_of_good m ρ (Cert.MoeIdeal.Own.good_of_pre m h)

/-- The experts' reference runs and keeps its arguments: it declares no semaphore. -/
theorem moe_ref_frame : Cert.quiescent_MoeRefIdeal := fun m ρ _ =>
  (θ_run _ _ _).mono (fun r h => ⟨fun c => (h c).2, Idealize.ShloMosaic.sem_eq_zero_of_no_sems (by decide) r.2⟩) (Cert.MoeRefIdeal.Value.run m ρ)

/-- The kernel and the reference end with the same result. -/
theorem moe_algebraic [Cert.Pre_moe_ints.Facts] : Cert.algebraic_MoeIdeal_MoeRefIdeal := by
  intro m g m' g' hpre hargs
  have hg := Cert.MoeIdeal.Own.good_of_pre m hpre
  refine ⟨fun c => Cert.MoeIdeal.Own.result m c, ?_, ?_⟩
  · refine (θ_run _ _ _).mono (fun r hr c => ?_) (Cert.MoeIdeal.Own.run_all m g hg)
    exact ⟨((hr.1 c).1 (4 : Fin 5)).trans (Cert.MoeIdeal.Own.final m g hg c), Cert.MoeIdeal.Own.args_unchanged m g hg r hr.1 c⟩
  · refine (θ_run _ _ _).mono (fun r h c => ?_) (Cert.MoeRefIdeal.Value.run m' g')
    refine ⟨(h c).1.trans ?_, (h c).2⟩
    rw [Cert.MoeRefIdeal.Read.val_main_v34_eq]
    obtain ⟨h0, h1, h2, h3, h4, h5⟩ := hargs c
    rw [h0, h1, h2, h3, h4, h5]
    rfl

end Cert.Proof

end
-- ==== Proof.Rotary.lean ====
/-
  The rotary embedding of one projected row: within every 64 columns the first 8 turn against the next 8, the rest stay. It is also the
  sum of three products with tables, the row shifted left and right by 8 within its 128 columns.
-/
module

public import Idealize.ShloMosaic.Lib.IdealHost
public import Idealize.ShloMosaic.Lib.Pointwise

@[expose] public section

noncomputable section

namespace Cert.Rotary

open Idealize.ShloMosaic

/-- A column of the projected row. -/
abbrev col (n : ℕ) : Fin 1536 := ⟨n % 1536, Nat.mod_lt _ (by decide)⟩

/-- A frequency's place. -/
abbrev freq (n : ℕ) : Fin 8 := ⟨n % 8, Nat.mod_lt _ (by decide)⟩

/-- A projected element: the product with the weights, and the offset. -/
def proj (u : Fin 1024 → EReal) (w : Fin 1024 → Fin 1536 → EReal) (b : Fin 1536 → EReal) (e : Fin 1536) : EReal := ∑ k, u k * w k e + b e

/-- The modulated row that is projected. -/
def modulate (x scale shift : Fin 1024 → EReal) (k : Fin 1024) : EReal := x k * (Ideal.ofBits .f32 0x3F800000#32 + scale k) + shift k

/-- The row after the rotation, at a column. -/
def rot (p : Fin 1536 → EReal) (cs sn : Fin 8 → EReal) (e : ℕ) : EReal :=
  if e % 64 < 8 then p (col e) * cs (freq e) - p (col (e + 8)) * sn (freq e)
  else if e % 64 < 16 then p (col e) * cs (freq e) + p (col (e - 8)) * sn (freq e)
  else p (col e)

/-- The table of cosines over 128 lanes. -/
def tabC (cs : Fin 8 → EReal) (l : ℕ) : EReal := if l % 64 < 16 then cs (freq l) else 1
/-- The table that multiplies the row shifted left by 8. -/
def tabL (sn : Fin 8 → EReal) (l : ℕ) : EReal := if l % 64 < 8 then - sn (freq l) else 0
/-- The table that multiplies the row shifted right by 8. -/
def tabR (sn : Fin 8 → EReal) (l : ℕ) : EReal := if l % 64 < 8 then 0 else if l % 64 < 16 then sn (freq l) else 0

/-- The three products with the tables are the rotation. -/
theorem rot_eq (p : Fin 1536 → EReal) (cs sn : Fin 8 → EReal) (j l : ℕ) (hl : l < 128) :
    p (col (j * 128 + l)) * tabC cs l + p (col (j * 128 + (l + 8) % 128)) * tabL sn l + p (col (j * 128 + (l + 120) % 128)) * tabR sn l
      = rot p cs sn (j * 128 + l) := by
  have hm : (j * 128 + l) % 64 = l % 64 := by omega
  have hf : freq (j * 128 + l) = freq l := Fin.ext (by show (j * 128 + l) % 8 = l % 8; omega)
  unfold rot tabC tabL tabR
  rw [hm, hf]
  by_cases h8 : l % 64 < 8
  · have e : j * 128 + (l + 8) % 128 = j * 128 + l + 8 := by omega
    rw [if_pos h8, if_pos h8, if_pos h8, if_pos (by omega), e, mul_zero, add_zero, mul_neg, sub_eq_add_neg]
  · rw [if_neg h8, if_neg h8, if_neg h8]
    by_cases h16 : l % 64 < 16
    · have e : j * 128 + (l + 120) % 128 = j * 128 + l - 8 := by omega
      rw [if_pos h16, if_pos h16, if_pos h16, e, mul_zero, add_zero]
    · rw [if_neg h16, if_neg h16, if_neg h16, mul_zero, mul_zero, mul_one, add_zero, add_zero]

/-- The rotation from one head's 64 columns. -/
theorem rot_of_head (p : Fin 1536 → EReal) (cs sn : Fin 8 → EReal) (o : ℕ) (ho : o % 64 = 0) (z : Fin 64 → EReal) (hz : ∀ d : Fin 64, z d = p (col (o + d)))
    (d : Fin 64) :
    rot p cs sn (o + d)
      = if d.val < 8 then z ⟨d % 8, by omega⟩ * cs (freq d) - z ⟨8 + d % 8, by omega⟩ * sn (freq d)
        else if d.val < 16 then z ⟨8 + d % 8, by omega⟩ * cs (freq d) + z ⟨d % 8, by omega⟩ * sn (freq d)
        else z ⟨16 + (d - 16) % 48, by omega⟩ := by
  have hd := d.isLt
  have hm : (o + d) % 64 = d := by omega
  have hf : freq (o + d) = freq d := Fin.ext (by show (o + d.val) % 8 = d.val % 8; omega)
  unfold rot
  rw [hm, hf, hz, hz, hz]
  by_cases h8 : d.val < 8
  · have e1 : o + d.val % 8 = o + d := by omega
    have e2 : o + (8 + d.val % 8) = o + d + 8 := by omega
    rw [if_pos h8, if_pos h8]
    show _ = p (col (o + d.val % 8)) * _ - p (col (o + (8 + d.val % 8))) * _
    rw [e1, e2]
  · rw [if_neg h8, if_neg h8]
    by_cases h16 : d.val < 16
    · have e1 : o + d.val % 8 = o + d - 8 := by omega
      have e2 : o + (8 + d.val % 8) = o + d := by omega
      rw [if_pos h16, if_pos h16]
      show _ = p (col (o + (8 + d.val % 8))) * _ + p (col (o + d.val % 8)) * _
      rw [e1, e2]
    · have e1 : o + (16 + (d.val - 16) % 48) = o + d := by omega
      rw [if_neg h16, if_neg h16]
      show _ = p (col (o + (16 + (d.val - 16) % 48)))
      rw [e1]

/-- The sum of a key head's four query heads, at a column of the key heads. -/
def headSum (p : Fin 1536 → EReal) (cs sn : Fin 8 → EReal) (e : ℕ) : EReal := ∑ g : Fin 4, rot p cs sn (e / 64 * 256 + g.val * 64 + e % 64)

/-- Two blocks of 128 columns added, and the sum added to itself turned by half: in either half of the lanes the sum of the four heads. -/
theorem headSum_eq (p : Fin 1536 → EReal) (cs sn : Fin 8 → EReal) (v l : ℕ) (hl : l < 128) :
    rot p cs sn (v * 2 * 128 + l) + rot p cs sn ((v * 2 + 1) * 128 + l)
        + (rot p cs sn (v * 2 * 128 + (l + 64) % 128) + rot p cs sn ((v * 2 + 1) * 128 + (l + 64) % 128))
      = headSum p cs sn (v * 64 + l % 64) := by
  have hd : (v * 64 + l % 64) / 64 = v := by omega
  have hm : (v * 64 + l % 64) % 64 = l % 64 := by omega
  unfold headSum
  rw [hd, hm, Fin.sum_univ_four]
  show _ = rot p cs sn (v * 256 + 0 * 64 + l % 64) + rot p cs sn (v * 256 + 1 * 64 + l % 64) + rot p cs sn (v * 256 + 2 * 64 + l % 64) + rot p cs sn (v * 256 + 3 * 64 + l % 64)
  by_cases h : l < 64
  · have e0 : v * 2 * 128 + l = v * 256 + 0 * 64 + l % 64 := by omega
    have e1 : (v * 2 + 1) * 128 + l = v * 256 + 2 * 64 + l % 64 := by omega
    have e2 : v * 2 * 128 + (l + 64) % 128 = v * 256 + 1 * 64 + l % 64 := by omega
    have e3 : (v * 2 + 1) * 128 + (l + 64) % 128 = v * 256 + 3 * 64 + l % 64 := by omega
    rw [e0, e1, e2, e3]; abel
  · have e0 : v * 2 * 128 + l = v * 256 + 1 * 64 + l % 64 := by omega
    have e1 : (v * 2 + 1) * 128 + l = v * 256 + 3 * 64 + l % 64 := by omega
    have e2 : v * 2 * 128 + (l + 64) % 128 = v * 256 + 0 * 64 + l % 64 := by omega
    have e3 : (v * 2 + 1) * 128 + (l + 64) % 128 = v * 256 + 2 * 64 + l % 64 := by omega
    rw [e0, e1, e2, e3]; abel

end Cert.Rotary

end
-- ==== Proof.QkvPay.lean ====
/-
  The projection's values at an index: the projected row, a rotated block of 128 columns, the sum of four heads.
-/
module

public import proofs.«01_k».proof.Proof.Gen.QkvIdeal.Frame
public import proofs.«01_k».proof.Proof.Rotary
public import Idealize.ShloMosaic.Lib.KernelVsHost
public import Idealize.ShloMosaic.Lib.Pointwise

@[expose] public section

set_option maxRecDepth 16384

noncomputable section

namespace Cert.QkvIdeal.Own

open Cert.QkvIdeal Cert.QkvIdeal.Gen
open Idealize.ShloMosaic
open Cert.Rotary

/-- The projection at an element. -/
theorem pay3_apply (x : Vec Ideal S512x1024 .f32) (sc sh : Vec Ideal S1x1x1024 .f32) (w : Vec Ideal S1024x1536 .bf16) (b : Vec Ideal S1x1536 .f32)
    (r : Fin 512) (e : Fin 1536) :
    k0_pay3 (F := Ideal) x sc sh w b (ix2 r e)
      = proj (modulate (fun k => x (ix2 r k)) (fun k => sc (ix3 0 0 k)) (fun k => sh (ix3 0 0 k))) (fun k e => w (ix2 k e)) (fun e => b (ix2 0 e)) e := by
  unfold proj modulate
  pointwise [k0_pay3]

/-- A rotation of the lanes, at an element. -/
theorem rotate_apply (x : FVec Ideal S512x128 .f32) (s : BitVec 32) (r : Fin 512) (l l' : Fin 128) (h : l'.val = (l.val + 128 - s.toNat % 128) % 128) :
    dynamicRotate 1 s none x rotates_S512x128_d1 (ix2 r l) = x (ix2 r l') :=
  dynamicRotate_apply 1 s x rotates_S512x128_d1 (ix2 r l) (ix2 r l') fun b => by
    match b with
    | ⟨0, _⟩ => rfl
    | ⟨1, _⟩ => exact h

/-- A lane moved on. -/
abbrev lane (n : ℕ) : Fin 128 := ⟨n % 128, Nat.mod_lt _ (by decide)⟩

/-- A block of 128 columns against the tables, at an element. -/
theorem block_apply (v : FVec Ideal S512x1536 .f32) (c s1 s2 : FVec Ideal S512x128 .f32) (j : ℕ) (hs : S512x1536.Slices ![0, j * 128] S512x128)
    (hj : j < 10) (r : Fin 512) (l : Fin 128) :
    addf (addf (mulf (extractStridedSlice S512x128 ![0, j * 128] v hs) c)
        (mulf (dynamicRotate 1 120#32 none (extractStridedSlice S512x128 ![0, j * 128] v hs) rotates_S512x128_d1) s1))
      (mulf (dynamicRotate 1 8#32 none (extractStridedSlice S512x128 ![0, j * 128] v hs) rotates_S512x128_d1) s2) (ix2 r l)
      = v (ix2 r (col (j * 128 + l))) * c (ix2 r l) + v (ix2 r (col (j * 128 + (l + 8) % 128))) * s1 (ix2 r l)
        + v (ix2 r (col (j * 128 + (l + 120) % 128))) * s2 (ix2 r l) := by
  have hl := l.isLt
  have hx : ∀ l' : Fin 128, extractStridedSlice S512x128 ![0, j * 128] v hs (ix2 r l') = v (ix2 r (col (j * 128 + l'))) := fun l' => by
    have hl' := l'.isLt
    refine congrArg v (funext fun a => Fin.ext ?_)
    match a with
    | ⟨0, _⟩ => show 0 + r.val = r.val; omega
    | ⟨1, _⟩ => show j * 128 + l'.val = (j * 128 + l'.val) % 1536; omega
  show extractStridedSlice S512x128 ![0, j * 128] v hs (ix2 r l) * c (ix2 r l)
      + dynamicRotate 1 120#32 none (extractStridedSlice S512x128 ![0, j * 128] v hs) rotates_S512x128_d1 (ix2 r l) * s1 (ix2 r l)
      + dynamicRotate 1 8#32 none (extractStridedSlice S512x128 ![0, j * 128] v hs) rotates_S512x128_d1 (ix2 r l) * s2 (ix2 r l) = _
  rw [rotate_apply _ 120#32 r l (lane (l + 8)) (by show (l.val + 8) % 128 = (l.val + 128 - 120) % 128; omega),
    rotate_apply _ 8#32 r l (lane (l + 120)) (by show (l.val + 120) % 128 = (l.val + 128 - 8) % 128; omega), hx, hx, hx]

end Cert.QkvIdeal.Own

end
-- ==== Proof.QkvOut.lean ====
/-
  What a grid point of the projection leaves in its six output blocks: every stored block of columns, and the blocks together.
-/
module

public import proofs.«01_k».proof.Proof.QkvPay
public import Idealize.ShloMosaic.Lib.Pipeline.Value

@[expose] public section

set_option maxRecDepth 16384

noncomputable section

namespace Cert.QkvIdeal.Own

open Cert.QkvIdeal Cert.QkvIdeal.Gen
open Idealize.ShloMosaic
open Cert.Rotary

/-- The projected rows and the tables of a grid point: `p` the rows, `C` and `S` the cosines and sines at their positions. -/
structure Rows (p : Fin 512 → Fin 1536 → EReal) (C S : Fin 512 → Fin 8 → EReal) (v : FVec Ideal S512x1536 .f32) (c s1 s2 : FVec Ideal S512x128 .f32) : Prop where
  hv : ∀ r e, v (ix2 r e) = p r e
  hc : ∀ r (l : Fin 128), c (ix2 r l) = tabC (C r) l
  h1 : ∀ r (l : Fin 128), s1 (ix2 r l) = tabL (S r) l
  h2 : ∀ r (l : Fin 128), s2 (ix2 r l) = tabR (S r) l

variable {p : Fin 512 → Fin 1536 → EReal} {C S : Fin 512 → Fin 8 → EReal}

/-- The blocks of 128 columns lie in the projected rows. -/
theorem slice_at (j : ℕ) (hj : j < 10) : S512x1536.Slices ![0, j * 128] S512x128 :=
  (by decide : ∀ j : Fin 10, S512x1536.Slices ![0, j.val * 128] S512x128) ⟨j, hj⟩

/-- A block of 128 columns against the tables, turned by either distance. -/
def turned (v : FVec Ideal S512x1536 .f32) (c s1 s2 : FVec Ideal S512x128 .f32) (j : ℕ) (hj : j < 10) : FVec Ideal S512x128 .f32 :=
  addf (addf (mulf (extractStridedSlice S512x128 ![0, j * 128] v (slice_at j hj)) c)
      (mulf (dynamicRotate 1 120#32 none (extractStridedSlice S512x128 ![0, j * 128] v (slice_at j hj)) rotates_S512x128_d1) s1))
    (mulf (dynamicRotate 1 8#32 none (extractStridedSlice S512x128 ![0, j * 128] v (slice_at j hj)) rotates_S512x128_d1) s2)

variable {v : FVec Ideal S512x1536 .f32} {c s1 s2 : FVec Ideal S512x128 .f32}

/-- A block of 128 columns against the tables is the rotation's. -/
theorem turned_apply (h : Rows p C S v c s1 s2) (j : ℕ) (hj : j < 10) (r : Fin 512) (l : Fin 128) :
    turned v c s1 s2 j hj (ix2 r l) = rot (p r) (C r) (S r) (j * 128 + l) := by
  unfold turned
  rw [block_apply v c s1 s2 j (slice_at j hj) hj r l, h.hv, h.hv, h.hv, h.hc, h.h1, h.h2]
  exact rot_eq (p r) (C r) (S r) j l l.isLt

/-- Two blocks added, the sum added to itself turned by half, in either half of the lanes the pair that belongs there. -/
theorem halves_apply (a b c d : FVec Ideal S512x128 .f32) (r : Fin 512) (l : Fin 128) :
    k0_pay1 (F := Ideal) a b c d (iota .tc S512x128 32 [1] iota_S512x128_d1_w32) (ix2 r l)
      = if l.val < 64 then a (ix2 r l) + b (ix2 r l) + (a (ix2 r (lane (l + 64))) + b (ix2 r (lane (l + 64))))
        else c (ix2 r l) + d (ix2 r l) + (c (ix2 r (lane (l + 64))) + d (ix2 r (lane (l + 64)))) := by
  have hl := l.isLt
  have hr : ∀ x : FVec Ideal S512x128 .f32, dynamicRotate 1 64#32 none x rotates_S512x128_d1 (ix2 r l) = x (ix2 r (lane (l + 64))) := fun x =>
    rotate_apply x 64#32 r l (lane (l + 64)) (by show (l.val + 64) % 128 = (l.val + 128 - 64) % 128; omega)
  have hi : iota .tc S512x128 32 [1] iota_S512x128_d1_w32 (ix2 r l) = BitVec.ofNat 32 l.val := by
    rw [iota_apply]
    show BitVec.ofNat 32 (0 * 128 + l.val) = _
    rw [Nat.zero_mul, Nat.zero_add]
  have hc : ∀ n : Fin 128, IntOp.cmpi .slt (BitVec.ofNat 32 n.val) 64#32 = if n.val < 64 then 1#1 else 0#1 := by decide
  unfold k0_pay1
  show Scalar.select (IntOp.cmpi .slt (iota .tc S512x128 32 [1] iota_S512x128_d1_w32 (ix2 r l)) 64#32) _ _ = _
  rw [hi]
  show Scalar.select (IntOp.cmpi .slt (BitVec.ofNat 32 l.val) 64#32)
    (a (ix2 r l) + b (ix2 r l) + dynamicRotate 1 64#32 none (addf a b) rotates_S512x128_d1 (ix2 r l))
    (c (ix2 r l) + d (ix2 r l) + dynamicRotate 1 64#32 none (addf c d) rotates_S512x128_d1 (ix2 r l)) = _
  rw [hr, hr, hc]
  by_cases h : l.val < 64
  · rw [if_pos h, if_pos h]
    rfl
  · rw [if_neg h, if_neg h]
    rfl

/-- What the blocks of the queries hold. -/
abbrev outQ (p : Fin 512 → Fin 1536 → EReal) (C S : Fin 512 → Fin 8 → EReal) (r : Fin 512) (e : ℕ) : EReal :=
  rot (p r) (C r) (S r) e * Ideal.ofBits .f32 0x3E000000#32

/-- An index of a block of 128 columns is a row and a column. -/
theorem ix_block (x : S512x128.Idx) : ∃ (r : Fin 512) (l : Fin 128), x = ix2 r l :=
  ⟨x 0, x 1, funext fun a => by match a with | ⟨0, _⟩ => rfl | ⟨1, _⟩ => rfl⟩

/-- The block of the queries, stored part by part. -/
def queriesOf (v : FVec Ideal S512x1536 .f32) (c s1 s2 : FVec Ideal S512x128 .f32) : Vec Ideal S512x1024 .bf16 :=
  View.canon (Val := Elt Ideal) [⟨r0_12, k0_pay28 (turned v c s1 s2 7 (by decide))⟩,
    ⟨r0_11, k0_pay27 (turned v c s1 s2 6 (by decide))⟩,
    ⟨r0_10, k0_pay26 (turned v c s1 s2 5 (by decide))⟩,
    ⟨r0_9, k0_pay25 (turned v c s1 s2 4 (by decide)) (Scalar.ofBits .f32 0x3E000000#32)⟩,
    ⟨r0_8, k0_pay24 (turned v c s1 s2 3 (by decide))⟩,
    ⟨r0_7, k0_pay23 (turned v c s1 s2 2 (by decide))⟩,
    ⟨r0_6, k0_pay22 (turned v c s1 s2 1 (by decide))⟩,
    ⟨r0_5, k0_pay21 (turned v c s1 s2 0 (by decide))⟩]

/-- The queries a grid point stores. -/
theorem queriesOf_apply (h : Rows p C S v c s1 s2) (r : Fin 512) (e : Fin 1024) :
    queriesOf v c s1 s2 (ix2 r e) = outQ p C S r e := by
  unfold queriesOf
  refine View.canon_apply_of_pieces (Val := Elt Ideal) (fun y : S512x1024.Idx => outQ p C S (y 0) (y 1).val) _ ?_ (ix2 r e) (cover0_8 _ _ _ _ _ _ _ _ _)
  have atq : ∀ (o : ℕ) (n : ℕ) (i : S512x1024.Idx) (r : Fin 512) (l : Fin 128) (w : EReal), w = rot (p r) (C r) (S r) (n * 128 + l) → (i 0).val = 0 + 1 * r.val →
      (i 1).val = o + 1 * l.val → o = n * 128 → w * Ideal.ofBits .f32 0x3E000000#32 = outQ p C S (i 0) (i 1).val := by
    intro o n i r l w hw h0 h1 ho
    have e0 : i 0 = r := Fin.ext (by rw [h0]; omega)
    have e1 : (i 1).val = n * 128 + l := by rw [h1, ho]; omega
    rw [hw, e0, e1]
  intro pc hpc
  rcases List.mem_cons.mp hpc with rfl | hpc
  · intro x
    obtain ⟨r, l, rfl⟩ := ix_block x
    exact atq 896 7 _ r l _ (turned_apply h 7 (by decide) r l) rfl rfl rfl
  rcases List.mem_cons.mp hpc with rfl | hpc
  · intro x
    obtain ⟨r, l, rfl⟩ := ix_block x
    exact atq 768 6 _ r l _ (turned_apply h 6 (by decide) r l) rfl rfl rfl
  rcases List.mem_cons.mp hpc with rfl | hpc
  · intro x
    obtain ⟨r, l, rfl⟩ := ix_block x
    exact atq 640 5 _ r l _ (turned_apply h 5 (by decide) r l) rfl rfl rfl
  rcases List.mem_cons.mp hpc with rfl | hpc
  · intro x
    obtain ⟨r, l, rfl⟩ := ix_block x
    exact atq 512 4 _ r l _ (turned_apply h 4 (by decide) r l) rfl rfl rfl
  rcases List.mem_cons.mp hpc with rfl | hpc
  · intro x
    obtain ⟨r, l, rfl⟩ := ix_block x
    exact atq 384 3 _ r l _ (turned_apply h 3 (by decide) r l) rfl rfl rfl
  rcases List.mem_cons.mp hpc with rfl | hpc
  · intro x
    obtain ⟨r, l, rfl⟩ := ix_block x
    exact atq 256 2 _ r l _ (turned_apply h 2 (by decide) r l) rfl rfl rfl
  rcases List.mem_cons.mp hpc with rfl | hpc
  · intro x
    obtain ⟨r, l, rfl⟩ := ix_block x
    exact atq 128 1 _ r l _ (turned_apply h 1 (by decide) r l) rfl rfl rfl
  rcases List.mem_cons.mp hpc with rfl | hpc
  · intro x
    obtain ⟨r, l, rfl⟩ := ix_block x
    exact atq 0 0 _ r l _ (turned_apply h 0 (by decide) r l) rfl rfl rfl
  nomatch hpc

/-- A value at a row and a column of a 256 column block, from the index's coordinates. -/
theorem at_key (f : Fin 512 → ℕ → EReal) (o : ℕ) (i : S512x256.Idx) (r : Fin 512) (l : ℕ) (w : EReal) (hw : w = f r (o + l)) (h0 : (i 0).val = 0 + 1 * r.val)
    (h1 : (i 1).val = o + 1 * l) : w = f (i 0) (i 1).val := by
  have e0 : i 0 = r := Fin.ext (by rw [h0]; omega)
  have e1 : (i 1).val = o + l := by rw [h1]; omega
  rw [hw, e0, e1]

/-- The block of the keys, stored part by part. -/
def keysOf (v : FVec Ideal S512x1536 .f32) (c s1 s2 : FVec Ideal S512x128 .f32) : Vec Ideal S512x256 .f32 :=
  View.canon (Val := Elt Ideal) [⟨r0_14, (turned v c s1 s2 9 (by decide))⟩,
    ⟨r0_13, (turned v c s1 s2 8 (by decide))⟩]

/-- The keys a grid point stores. -/
theorem keysOf_apply (h : Rows p C S v c s1 s2) (r : Fin 512) (e : Fin 256) :
    keysOf v c s1 s2 (ix2 r e) = rot (p r) (C r) (S r) (1024 + e) := by
  unfold keysOf
  refine View.canon_apply_of_pieces (Val := Elt Ideal) (fun y : S512x256.Idx => rot (p (y 0)) (C (y 0)) (S (y 0)) (1024 + (y 1).val)) _ ?_ (ix2 r e) (cover0_9 _ _ _)
  intro pc hpc
  rcases List.mem_cons.mp hpc with rfl | hpc
  · intro x
    obtain ⟨r, l, rfl⟩ := ix_block x
    refine at_key (fun r n => rot (p r) (C r) (S r) (1024 + n)) 128 _ r l _ ((turned_apply h 9 (by decide) r l).trans ?_) rfl rfl
    exact congrArg (rot (p r) (C r) (S r)) (by omega)
  rcases List.mem_cons.mp hpc with rfl | hpc
  · intro x
    obtain ⟨r, l, rfl⟩ := ix_block x
    refine at_key (fun r n => rot (p r) (C r) (S r) (1024 + n)) 0 _ r l _ ((turned_apply h 8 (by decide) r l).trans ?_) rfl rfl
    exact congrArg (rot (p r) (C r) (S r)) (by omega)
  nomatch hpc

/-- The block of the rounded keys, stored part by part. -/
def roundedKeysOf (v : FVec Ideal S512x1536 .f32) (c s1 s2 : FVec Ideal S512x128 .f32) : Vec Ideal S512x256 .bf16 :=
  View.canon (Val := Elt Ideal) [⟨r0_14, k0_pay30 (turned v c s1 s2 9 (by decide))⟩,
    ⟨r0_13, k0_pay29 (turned v c s1 s2 8 (by decide))⟩]

/-- The rounded keys a grid point stores. -/
theorem roundedKeysOf_apply (h : Rows p C S v c s1 s2) (r : Fin 512) (e : Fin 256) :
    roundedKeysOf v c s1 s2 (ix2 r e) = rot (p r) (C r) (S r) (1024 + e) := by
  unfold roundedKeysOf
  refine View.canon_apply_of_pieces (Val := Elt Ideal) (fun y : S512x256.Idx => rot (p (y 0)) (C (y 0)) (S (y 0)) (1024 + (y 1).val)) _ ?_ (ix2 r e) (cover0_11 _ _ _)
  intro pc hpc
  rcases List.mem_cons.mp hpc with rfl | hpc
  · intro x
    obtain ⟨r, l, rfl⟩ := ix_block x
    refine at_key (fun r n => rot (p r) (C r) (S r) (1024 + n)) 128 _ r l _ ((turned_apply h 9 (by decide) r l).trans ?_) rfl rfl
    exact congrArg (rot (p r) (C r) (S r)) (by omega)
  rcases List.mem_cons.mp hpc with rfl | hpc
  · intro x
    obtain ⟨r, l, rfl⟩ := ix_block x
    refine at_key (fun r n => rot (p r) (C r) (S r) (1024 + n)) 0 _ r l _ ((turned_apply h 8 (by decide) r l).trans ?_) rfl rfl
    exact congrArg (rot (p r) (C r) (S r)) (by omega)
  nomatch hpc

/-- The block of the values, stored part by part. -/
def valuesOf (v : FVec Ideal S512x1536 .f32) : Vec Ideal S512x256 .f32 :=
  View.canon (Val := Elt Ideal) [⟨r0_15, k0_pay31 v⟩]

/-- The values a grid point stores. -/
theorem valuesOf_apply (h : Rows p C S v c s1 s2) (r : Fin 512) (e : Fin 256) :
    valuesOf v (ix2 r e) = p r (col (1280 + e)) := by
  unfold valuesOf
  refine View.canon_apply_of_pieces (Val := Elt Ideal) (fun y : S512x256.Idx => p (y 0) (col (1280 + (y 1).val))) _ ?_ (ix2 r e) (cover0_10 _ _)
  intro pc hpc
  rcases List.mem_cons.mp hpc with rfl | hpc
  · intro x
    obtain ⟨r, l, rfl⟩ : ∃ (r : Fin 512) (l : Fin 256), x = ix2 r l := ⟨x 0, x 1, funext fun a => by match a with | ⟨0, _⟩ => rfl | ⟨1, _⟩ => rfl⟩
    have hl := l.isLt
    refine at_key (fun r n => p r (col (1280 + n))) 0 _ r l _ (Eq.trans ?_ (h.hv r (col (1280 + (0 + l.val))))) rfl rfl
    refine congrArg (v) (funext fun a => Fin.ext ?_)
    match a with
    | ⟨0, _⟩ => show 0 + r.val = r.val; omega
    | ⟨1, _⟩ => show 1280 + l.val = (1280 + (0 + l.val)) % 1536; omega
  nomatch hpc

/-- The block of the rounded values, stored part by part. -/
def roundedValuesOf (v : FVec Ideal S512x1536 .f32) : Vec Ideal S512x256 .bf16 :=
  View.canon (Val := Elt Ideal) [⟨r0_15, k0_pay32 v⟩]

/-- The rounded values a grid point stores. -/
theorem roundedValuesOf_apply (h : Rows p C S v c s1 s2) (r : Fin 512) (e : Fin 256) :
    roundedValuesOf v (ix2 r e) = p r (col (1280 + e)) := by
  unfold roundedValuesOf
  refine View.canon_apply_of_pieces (Val := Elt Ideal) (fun y : S512x256.Idx => p (y 0) (col (1280 + (y 1).val))) _ ?_ (ix2 r e) (cover0_12 _ _)
  intro pc hpc
  rcases List.mem_cons.mp hpc with rfl | hpc
  · intro x
    obtain ⟨r, l, rfl⟩ : ∃ (r : Fin 512) (l : Fin 256), x = ix2 r l := ⟨x 0, x 1, funext fun a => by match a with | ⟨0, _⟩ => rfl | ⟨1, _⟩ => rfl⟩
    have hl := l.isLt
    refine at_key (fun r n => p r (col (1280 + n))) 0 _ r l _ (Eq.trans ?_ (h.hv r (col (1280 + (0 + l.val))))) rfl rfl
    refine congrArg (v) (funext fun a => Fin.ext ?_)
    match a with
    | ⟨0, _⟩ => show 0 + r.val = r.val; omega
    | ⟨1, _⟩ => show 1280 + l.val = (1280 + (0 + l.val)) % 1536; omega
  nomatch hpc

/-- The block of the sums of each key head's query heads, stored part by part. -/
def sumsOf (v : FVec Ideal S512x1536 .f32) (c s1 s2 : FVec Ideal S512x128 .f32) : Vec Ideal S512x256 .f32 :=
  View.canon (Val := Elt Ideal) [⟨r0_14, k0_pay1 (turned v c s1 s2 4 (by decide)) (turned v c s1 s2 5 (by decide)) (turned v c s1 s2 6 (by decide)) (turned v c s1 s2 7 (by decide)) (iota .tc S512x128 32 [1] iota_S512x128_d1_w32)⟩,
    ⟨r0_13, k0_pay1 (turned v c s1 s2 0 (by decide)) (turned v c s1 s2 1 (by decide)) (turned v c s1 s2 2 (by decide)) (turned v c s1 s2 3 (by decide)) (iota .tc S512x128 32 [1] iota_S512x128_d1_w32)⟩]

/-- The sums of each key head's query heads that a grid point stores. -/
theorem sumsOf_apply (h : Rows p C S v c s1 s2) (r : Fin 512) (e : Fin 256) :
    sumsOf v c s1 s2 (ix2 r e) = headSum (p r) (C r) (S r) e := by
  unfold sumsOf
  refine View.canon_apply_of_pieces (Val := Elt Ideal) (fun y : S512x256.Idx => headSum (p (y 0)) (C (y 0)) (S (y 0)) (y 1).val) _ ?_ (ix2 r e) (cover0_13 _ _ _)
  intro pc hpc
  rcases List.mem_cons.mp hpc with rfl | hpc
  · intro x
    obtain ⟨r, l, rfl⟩ := ix_block x
    have hl := l.isLt
    refine at_key (fun r n => headSum (p r) (C r) (S r) n) 128 _ r l _ ((halves_apply _ _ _ _ r l).trans ?_) rfl rfl
    rw [turned_apply h, turned_apply h, turned_apply h, turned_apply h, turned_apply h, turned_apply h, turned_apply h, turned_apply h]
    by_cases hh : l.val < 64
    · rw [if_pos hh]
      exact (headSum_eq (p r) (C r) (S r) 2 l hl).trans (congrArg (headSum (p r) (C r) (S r)) (by omega))
    · rw [if_neg hh]
      exact (headSum_eq (p r) (C r) (S r) 3 l hl).trans (congrArg (headSum (p r) (C r) (S r)) (by omega))
  rcases List.mem_cons.mp hpc with rfl | hpc
  · intro x
    obtain ⟨r, l, rfl⟩ := ix_block x
    have hl := l.isLt
    refine at_key (fun r n => headSum (p r) (C r) (S r) n) 0 _ r l _ ((halves_apply _ _ _ _ r l).trans ?_) rfl rfl
    rw [turned_apply h, turned_apply h, turned_apply h, turned_apply h, turned_apply h, turned_apply h, turned_apply h, turned_apply h]
    by_cases hh : l.val < 64
    · rw [if_pos hh]
      exact (headSum_eq (p r) (C r) (S r) 0 l hl).trans (congrArg (headSum (p r) (C r) (S r)) (by omega))
    · rw [if_neg hh]
      exact (headSum_eq (p r) (C r) (S r) 1 l hl).trans (congrArg (headSum (p r) (C r) (S r)) (by omega))
  nomatch hpc

variable {x0 : Vec Ideal S512x1024 .f32} {x1 x2 : Vec Ideal S1x1x1024 .f32} {x3 : Vec Ideal S1024x1536 .bf16} {x4 : Vec Ideal S1x1536 .f32}
  {x5 x6 x7 : Vec Ideal S512x128 .f32}

/-- Offsets of nought, of a block of two axes. -/
theorem zero2 : (![0, 0] : Fin 2 → ℕ) = fun _ => 0 := by decide

/-- Offsets of nought, of a block of three axes. -/
theorem zero3 : (![0, 0, 0] : Fin 3 → ℕ) = fun _ => 0 := by decide

/-- The projected rows, of the whole blocks. -/
theorem pay33_eq : k0_pay33 (F := Ideal) x0 x1 x2 x3 x4 x5 x6 x7 = k0_pay3 x0 x2 x1 x3 x4 := by
  have e0 : View.ld x0 r0_0 = x0 := View.ld_unit_zero (Val := Elt Ideal) zero2 _ x0
  have e1 : View.ld x1 r0_1 = x1 := View.ld_unit_zero (Val := Elt Ideal) zero3 _ x1
  have e2 : View.ld x2 r0_1 = x2 := View.ld_unit_zero (Val := Elt Ideal) zero3 _ x2
  have e3 : View.ld x3 r0_2 = x3 := View.ld_unit_zero (Val := Elt Ideal) zero2 _ x3
  have e4 : View.ld x4 r0_3 = x4 := View.ld_unit_zero (Val := Elt Ideal) zero2 _ x4
  unfold k0_pay33
  rw [e0, e1, e2, e3, e4]

/-- The table of cosines, the whole block. -/
theorem pay34_eq : k0_pay34 (F := Ideal) x0 x1 x2 x3 x4 x5 x6 x7 = x5 :=
  (congrArg k0_pay4 (View.ld_unit_zero (Val := Elt Ideal) zero2 _ x5)).trans (shapeCast_self _ _)

/-- The table of sines of the lanes to the left, the whole block. -/
theorem pay35_eq : k0_pay35 (F := Ideal) x0 x1 x2 x3 x4 x5 x6 x7 = x6 :=
  (congrArg k0_pay5 (View.ld_unit_zero (Val := Elt Ideal) zero2 _ x6)).trans (shapeCast_self _ _)

/-- The table of sines of the lanes to the right, the whole block. -/
theorem pay36_eq : k0_pay36 (F := Ideal) x0 x1 x2 x3 x4 x5 x6 x7 = x7 :=
  (congrArg k0_pay6 (View.ld_unit_zero (Val := Elt Ideal) zero2 _ x7)).trans (shapeCast_self _ _)

/-- A grid point's rows and tables, of its blocks. -/
abbrev PointRows (p : Fin 512 → Fin 1536 → EReal) (C S : Fin 512 → Fin 8 → EReal) (x0 : Vec Ideal S512x1024 .f32) (x1 x2 : Vec Ideal S1x1x1024 .f32)
    (x3 : Vec Ideal S1024x1536 .bf16) (x4 : Vec Ideal S1x1536 .f32) (x5 x6 x7 : Vec Ideal S512x128 .f32) : Prop :=
  Rows p C S (k0_pay33 (F := Ideal) x0 x1 x2 x3 x4 x5 x6 x7) (k0_pay34 x0 x1 x2 x3 x4 x5 x6 x7) (k0_pay35 x0 x1 x2 x3 x4 x5 x6 x7) (k0_pay36 x0 x1 x2 x3 x4 x5 x6 x7)

variable (h : PointRows p C S x0 x1 x2 x3 x4 x5 x6 x7)
include h

/-- The queries a grid point stores. -/
theorem out8_apply (r : Fin 512) (e : Fin 1024) : out0_8 (F := Ideal) x0 x1 x2 x3 x4 x5 x6 x7 (ix2 r e) = outQ p C S r e :=
  queriesOf_apply h r e

/-- The keys a grid point stores. -/
theorem out9_apply (r : Fin 512) (e : Fin 256) : out0_9 (F := Ideal) x0 x1 x2 x3 x4 x5 x6 x7 (ix2 r e) = rot (p r) (C r) (S r) (1024 + e) :=
  keysOf_apply h r e

/-- The values a grid point stores. -/
theorem out10_apply (r : Fin 512) (e : Fin 256) : out0_10 (F := Ideal) x0 x1 x2 x3 x4 x5 x6 x7 (ix2 r e) = p r (col (1280 + e)) :=
  valuesOf_apply h r e

/-- The rounded keys a grid point stores. -/
theorem out11_apply (r : Fin 512) (e : Fin 256) : out0_11 (F := Ideal) x0 x1 x2 x3 x4 x5 x6 x7 (ix2 r e) = rot (p r) (C r) (S r) (1024 + e) :=
  roundedKeysOf_apply h r e

/-- The rounded values a grid point stores. -/
theorem out12_apply (r : Fin 512) (e : Fin 256) : out0_12 (F := Ideal) x0 x1 x2 x3 x4 x5 x6 x7 (ix2 r e) = p r (col (1280 + e)) :=
  roundedValuesOf_apply h r e

/-- The sums of each key head's query heads that a grid point stores. -/
theorem out13_apply (r : Fin 512) (e : Fin 256) : out0_13 (F := Ideal) x0 x1 x2 x3 x4 x5 x6 x7 (ix2 r e) = headSum (p r) (C r) (S r) e :=
  sumsOf_apply h r e

end Cert.QkvIdeal.Own

end
-- ==== Proof.Heads.lean ====
/-
  Arrays of heads: an index, and the parts of a rotated head laid end to end.
-/
module

public import Idealize.ShloMosaic.Lib.Pipeline.Value
public import Idealize.ShloMosaic.Lib.Pointwise

@[expose] public section

set_option maxRecDepth 16384

noncomputable section

namespace Cert.Rotary

open Idealize.ShloMosaic

/-- Four axes: sequence, position, head, a head's column. -/
abbrev heads (B T H n : ℕ) : Shape := ⟨4, ![B, T, H, n]⟩

/-- An index of four axes. -/
abbrev at4 {B T H n : ℕ} (b : Fin B) (s : Fin T) (g : Fin H) (d : Fin n) : (heads B T H n).Idx := fun a => match a with
  | ⟨0, _⟩ => b
  | ⟨1, _⟩ => s
  | ⟨2, _⟩ => g
  | ⟨3, _⟩ => d

/-- Two parts of 8 columns and the other 48 laid end to end. -/
theorem rope_cat {B T H : ℕ} (x y : (heads B T H 8).Idx → EReal) (z : (heads B T H 48).Idx → EReal)
    (h1 : Shape.Concatenates [heads B T H 8, heads B T H 8] (heads B T H 16) 3) (h2 : Shape.Concatenates [heads B T H 16, heads B T H 48] (heads B T H 64) 3)
    (b : Fin B) (s : Fin T) (g : Fin H) (d : Fin 64) :
    concatenate (heads B T H 64) 3 [⟨heads B T H 16, concatenate (heads B T H 16) 3 [⟨heads B T H 8, x⟩, ⟨heads B T H 8, y⟩] h1⟩, ⟨heads B T H 48, z⟩] h2 (at4 b s g d)
      = if d.val < 8 then x (at4 b s g ⟨d % 8, by omega⟩) else if d.val < 16 then y (at4 b s g ⟨d % 8, by omega⟩)
        else z (at4 b s g ⟨(d - 16) % 48, by omega⟩) := by
  have hd := d.isLt
  by_cases h16 : d.val < 16
  · rw [concatenate_pair_apply_left 3 _ z h2 (at4 b s g d) rfl (at4 b s g (⟨d.val, h16⟩ : Fin 16)) fun a => by
      match a with
      | ⟨0, _⟩ => rfl
      | ⟨1, _⟩ => rfl
      | ⟨2, _⟩ => rfl
      | ⟨3, _⟩ => rfl]
    by_cases h8 : d.val < 8
    · rw [if_pos h8, concatenate_pair_apply_left 3 x y h1 _ rfl (at4 b s g (⟨d.val % 8, by omega⟩ : Fin 8)) fun a => by
        match a with
        | ⟨0, _⟩ => rfl
        | ⟨1, _⟩ => rfl
        | ⟨2, _⟩ => rfl
        | ⟨3, _⟩ => show d.val % 8 = d.val; omega]
    · rw [if_neg h8, if_pos h16, concatenate_pair_apply_right 3 x y h1 _ rfl rfl (at4 b s g (⟨d.val % 8, by omega⟩ : Fin 8))
        (fun a ha => by
          match a with
          | ⟨0, _⟩ => rfl
          | ⟨1, _⟩ => rfl
          | ⟨2, _⟩ => rfl
          | ⟨3, _⟩ => exact absurd rfl ha)
        (by show d.val % 8 + 8 = d.val; omega)]
  · rw [if_neg (by omega), if_neg h16, concatenate_pair_apply_right 3 _ z h2 (at4 b s g d) rfl rfl (at4 b s g (⟨(d.val - 16) % 48, by omega⟩ : Fin 48))
      (fun a ha => by
        match a with
        | ⟨0, _⟩ => rfl
        | ⟨1, _⟩ => rfl
        | ⟨2, _⟩ => rfl
        | ⟨3, _⟩ => exact absurd rfl ha)
      (by show (d.val - 16) % 48 + 16 = d.val; omega)]

end Cert.Rotary

end
-- ==== Proof.QkvRef.lean ====
/-
  The projection's reference, one element at a time: the projected row, the rotation of a head, the results.
-/
module

public import proofs.«01_k».proof.Proof.Gen.QkvRefIdeal.Read
public import proofs.«01_k».proof.Proof.Rotary
public import proofs.«01_k».proof.Proof.Heads
public import Idealize.ShloMosaic.Lib.Pipeline.Value
public import Idealize.ShloMosaic.Lib.IdealHost
public import Idealize.ShloMosaic.Lib.Pointwise

@[expose] public section

set_option maxRecDepth 16384

noncomputable section

open Idealize.ShloMosaic Idealize.ShloMosaic.TcCoe Idealize.SL.Sem

namespace Cert.QkvRefIdeal.Read

open Cert.QkvRefIdeal Cert.QkvRefIdeal.Gen
open Cert.Rotary

variable (x0 : S8x2048x1024.Idx → Elt Ideal .f32) (x1 x2 : S8x1x1024.Idx → Elt Ideal .f32) (x3 : S1024x1536.Idx → Elt Ideal .f32)
  (x4 : S1536.Idx → Elt Ideal .f32)

/-- The projected row at a position, from the arguments. -/
def prow (b : Fin 8) (s : Fin 2048) : Fin 1536 → EReal :=
  proj (modulate (fun k => x0 (ix3 b s k)) (fun k => x2 (ix3 b 0 k)) (fun k => x1 (ix3 b 0 k))) (fun k e => x3 (ix2 k e)) (fun e => x4 (ix1 e))

/-- The projected row. -/
theorem v9_at (b : Fin 8) (s : Fin 2048) (e : Fin 1536) : val_main_v9 (F := Ideal) x0 x1 x2 x3 x4 (ix3 b s e) = prow x0 x1 x2 x3 x4 b s e := by
  rw [val_main_v9_apply, val_main_v6_apply, val_main_v8_apply, val_main_v7_apply]
  have eb : idx_main_v7 (idx_main_v8 (ix3 b s e)) = ix1 e := funext fun a => Fin.ext (by match a with | ⟨0, _⟩ => rfl)
  rw [eb]
  refine congrArg (· + x4 (ix1 e)) (Finset.sum_congr rfl fun k _ => ?_)
  have el : lidx_main_v6 (ix3 b s e) k = ix3 b s k := funext fun a => Fin.ext (by match a with | ⟨0, _⟩ => rfl | ⟨1, _⟩ => rfl | ⟨2, _⟩ => rfl)
  have er : ridx_main_v6 (ix3 b s e) k = ix2 k e := funext fun a => Fin.ext (by match a with | ⟨0, _⟩ => rfl | ⟨1, _⟩ => rfl)
  have e2 : idx_main_v2 (ix3 b s k) = ix3 b 0 k := funext fun a => Fin.ext (by match a with | ⟨0, _⟩ => rfl | ⟨1, _⟩ => rfl | ⟨2, _⟩ => rfl)
  have e4 : idx_main_v4 (ix3 b s k) = ix3 b 0 k := e2
  rw [el, er, val_main_v5_apply, val_main_v3_apply, val_main_v4_apply, val_main_v2_apply, e2, e4, val_main_v1_apply, val_main_v0_apply, val_main_cst_apply]
  rfl

/-- The cosines and the sines at a position. -/
def cs (s : Fin 2048) (j : Fin 8) : EReal := val_main_v32 (F := Ideal) (ix2 s j)
/-- The sines at a position. -/
def sn (s : Fin 2048) (j : Fin 8) : EReal := val_main_v34 (F := Ideal) (ix2 s j)

/-- A query head's columns. -/
theorem v14_at (b : Fin 8) (s : Fin 2048) (g : Fin 16) (d : Fin 64) :
    val_main_v14 (F := Ideal) x0 x1 x2 x3 x4 (at4 b s g d) = prow x0 x1 x2 x3 x4 b s (col (g.val * 64 + d)) := by
  have hb := b.isLt
  have hs := s.isLt
  have hg := g.isLt
  have hd := d.isLt
  rw [val_main_v14_apply, val_main_v10_apply]
  have e : idx_main_v10 (idx_main_v14 (at4 b s g d)) = ix3 b s (col (g.val * 64 + d)) := funext fun a => Fin.ext (by
    match a with
    | ⟨0, _⟩ => show (((b.val * 2048 + s.val) * 16 + g.val) * 64 + d.val) / 2097152 = b.val; omega
    | ⟨1, _⟩ => show (((b.val * 2048 + s.val) * 16 + g.val) * 64 + d.val) / 1024 % 2048 = s.val; omega
    | ⟨2, _⟩ => show (((b.val * 2048 + s.val) * 16 + g.val) * 64 + d.val) % 1024 = (g.val * 64 + d.val) % 1536; omega)
  rw [e, v9_at]

/-- A key head's columns. -/
theorem v51_at (b : Fin 8) (s : Fin 2048) (g : Fin 4) (d : Fin 64) :
    val_main_v51 (F := Ideal) x0 x1 x2 x3 x4 (at4 b s g d) = prow x0 x1 x2 x3 x4 b s (col (1024 + g.val * 64 + d)) := by
  have hb := b.isLt
  have hs := s.isLt
  have hg := g.isLt
  have hd := d.isLt
  rw [val_main_v51_apply, val_main_v11_apply]
  have e : idx_main_v11 (idx_main_v51 (at4 b s g d)) = ix3 b s (col (1024 + g.val * 64 + d)) := funext fun a => Fin.ext (by
    match a with
    | ⟨0, _⟩ => show (((b.val * 2048 + s.val) * 4 + g.val) * 64 + d.val) / 524288 = b.val; omega
    | ⟨1, _⟩ => show (((b.val * 2048 + s.val) * 4 + g.val) * 64 + d.val) / 256 % 2048 = s.val; omega
    | ⟨2, _⟩ => show 1024 + (((b.val * 2048 + s.val) * 4 + g.val) * 64 + d.val) % 256 = (1024 + g.val * 64 + d.val) % 1536; omega)
  rw [e, v9_at]

/-- The rotated query heads. -/
theorem v50_at (b : Fin 8) (s : Fin 2048) (g : Fin 16) (d : Fin 64) :
    val_main_v50 (F := Ideal) x0 x1 x2 x3 x4 (at4 b s g d) = rot (prow x0 x1 x2 x3 x4 b s) (cs s) (sn s) (g.val * 64 + d) := by
  have hr := rot_of_head (prow x0 x1 x2 x3 x4 b s) (cs s) (sn s) (g.val * 64) (by omega)
    (fun d => val_main_v14 (F := Ideal) x0 x1 x2 x3 x4 (at4 b s g d)) (fun d => v14_at x0 x1 x2 x3 x4 b s g d) d
  refine Eq.trans ?_ hr.symm
  unfold val_main_v50 val_main_v48
  refine (rope_cat _ _ _ _ _ b s g d).trans ?_
  have e36 : ∀ j : Fin 8, idx_main_v36 (at4 b s g j) = at4 b s g ⟨j.val, by omega⟩ := fun j => funext fun a => Fin.ext (by match a with | ⟨0, _⟩ => rfl | ⟨1, _⟩ => rfl | ⟨2, _⟩ => rfl | ⟨3, _⟩ => rfl)
  have e37 : ∀ j : Fin 8, idx_main_v37 (at4 b s g j) = at4 b s g ⟨8 + j.val, by omega⟩ := fun j => funext fun a => Fin.ext (by match a with | ⟨0, _⟩ => rfl | ⟨1, _⟩ => rfl | ⟨2, _⟩ => rfl | ⟨3, _⟩ => rfl)
  have e49 : ∀ j : Fin 48, idx_main_v49 (at4 b s g j) = at4 b s g ⟨16 + j.val, by omega⟩ := fun j => funext fun a => Fin.ext (by match a with | ⟨0, _⟩ => rfl | ⟨1, _⟩ => rfl | ⟨2, _⟩ => rfl | ⟨3, _⟩ => rfl)
  have e38 : ∀ j : Fin 8, idx_main_v33 (idx_main_v38 (at4 b s g j)) = ix2 s j := fun j => funext fun a => Fin.ext (by match a with | ⟨0, _⟩ => rfl | ⟨1, _⟩ => rfl)
  have e40 : ∀ j : Fin 8, idx_main_v35 (idx_main_v40 (at4 b s g j)) = ix2 s j := e38
  have e43 : ∀ j : Fin 8, idx_main_v33 (idx_main_v43 (at4 b s g j)) = ix2 s j := e38
  have e45 : ∀ j : Fin 8, idx_main_v35 (idx_main_v45 (at4 b s g j)) = ix2 s j := e38
  simp only [val_main_v42_apply, val_main_v39_apply, val_main_v41_apply, val_main_v47_apply, val_main_v44_apply, val_main_v46_apply, val_main_v49_apply,
    val_main_v36_apply, val_main_v37_apply, val_main_v38_apply, val_main_v40_apply, val_main_v43_apply, val_main_v45_apply,
    val_main_v33_apply, val_main_v35_apply, val_main_v33_apply, val_main_v35_apply, e36, e37, e38, e40, e43, e45, e49]
  rfl

/-- The rotated key heads. -/
theorem v87_at (b : Fin 8) (s : Fin 2048) (g : Fin 4) (d : Fin 64) :
    val_main_v87 (F := Ideal) x0 x1 x2 x3 x4 (at4 b s g d) = rot (prow x0 x1 x2 x3 x4 b s) (cs s) (sn s) (1024 + g.val * 64 + d) := by
  have hr := rot_of_head (prow x0 x1 x2 x3 x4 b s) (cs s) (sn s) (1024 + g.val * 64) (by omega)
    (fun d => val_main_v51 (F := Ideal) x0 x1 x2 x3 x4 (at4 b s g d)) (fun d => v51_at x0 x1 x2 x3 x4 b s g d) d
  refine Eq.trans ?_ hr.symm
  unfold val_main_v87 val_main_v85
  refine (rope_cat _ _ _ _ _ b s g d).trans ?_
  have e73 : ∀ j : Fin 8, idx_main_v73 (at4 b s g j) = at4 b s g ⟨j.val, by omega⟩ := fun j => funext fun a => Fin.ext (by match a with | ⟨0, _⟩ => rfl | ⟨1, _⟩ => rfl | ⟨2, _⟩ => rfl | ⟨3, _⟩ => rfl)
  have e74 : ∀ j : Fin 8, idx_main_v74 (at4 b s g j) = at4 b s g ⟨8 + j.val, by omega⟩ := fun j => funext fun a => Fin.ext (by match a with | ⟨0, _⟩ => rfl | ⟨1, _⟩ => rfl | ⟨2, _⟩ => rfl | ⟨3, _⟩ => rfl)
  have e86 : ∀ j : Fin 48, idx_main_v86 (at4 b s g j) = at4 b s g ⟨16 + j.val, by omega⟩ := fun j => funext fun a => Fin.ext (by match a with | ⟨0, _⟩ => rfl | ⟨1, _⟩ => rfl | ⟨2, _⟩ => rfl | ⟨3, _⟩ => rfl)
  have e75 : ∀ j : Fin 8, idx_main_v70 (idx_main_v75 (at4 b s g j)) = ix2 s j := fun j => funext fun a => Fin.ext (by match a with | ⟨0, _⟩ => rfl | ⟨1, _⟩ => rfl)
  have e77 : ∀ j : Fin 8, idx_main_v72 (idx_main_v77 (at4 b s g j)) = ix2 s j := e75
  have e80 : ∀ j : Fin 8, idx_main_v70 (idx_main_v80 (at4 b s g j)) = ix2 s j := e75
  have e82 : ∀ j : Fin 8, idx_main_v72 (idx_main_v82 (at4 b s g j)) = ix2 s j := e75
  simp only [val_main_v79_apply, val_main_v76_apply, val_main_v78_apply, val_main_v84_apply, val_main_v81_apply, val_main_v83_apply, val_main_v86_apply,
    val_main_v73_apply, val_main_v74_apply, val_main_v75_apply, val_main_v77_apply, val_main_v80_apply, val_main_v82_apply,
    val_main_v70_apply, val_main_v72_apply, val_main_v70_apply, val_main_v72_apply, e73, e74, e75, e77, e80, e82, e86]
  rfl

/-- A sequence's row among all rows. -/
abbrev row (b : Fin 8) (s : Fin 2048) : Fin 16384 := ⟨b.val * 2048 + s.val, by have := b.isLt; have := s.isLt; omega⟩

/-- The queries. -/
theorem result0_apply (b : Fin 8) (s : Fin 2048) (e : Fin 1024) :
    val_main_v95 (F := Ideal) x0 x1 x2 x3 x4 (ix2 (row b s) e)
      = rot (prow x0 x1 x2 x3 x4 b s) (cs s) (sn s) e * Ideal.ofBits .f32 0x3E000000#32 := by
  have hb := b.isLt
  have hs := s.isLt
  have he := e.isLt
  rw [val_main_v95_apply, val_main_v94_apply, val_main_v93_apply, val_main_v92_apply, val_main_cst_11_apply]
  have ei : idx_main_v94 (ix2 (row b s) e) = at4 b s ⟨e.val / 64, by omega⟩ ⟨e.val % 64, by omega⟩ := funext fun a => Fin.ext (by
    match a with
    | ⟨0, _⟩ => show ((b.val * 2048 + s.val) * 1024 + e.val) / 2097152 = b.val; omega
    | ⟨1, _⟩ => show ((b.val * 2048 + s.val) * 1024 + e.val) / 1024 % 2048 = s.val; omega
    | ⟨2, _⟩ => show ((b.val * 2048 + s.val) * 1024 + e.val) / 64 % 16 = e.val / 64; omega
    | ⟨3, _⟩ => show ((b.val * 2048 + s.val) * 1024 + e.val) % 64 = e.val % 64; omega)
  have ee : e.val / 64 * 64 + e.val % 64 = e.val := by omega
  rw [ei, v50_at]
  show rot _ _ _ (e.val / 64 * 64 + e.val % 64) * _ = _
  rw [ee]
  rfl

/-- A column of the key heads, as head and column. -/
theorem idx90 (b : Fin 8) (s : Fin 2048) (e : Fin 256) : idx_main_v90 (ix2 (row b s) e) = at4 b s ⟨e.val / 64, by omega⟩ ⟨e.val % 64, by omega⟩ := by
  have hb := b.isLt
  have hs := s.isLt
  have he := e.isLt
  exact funext fun a => Fin.ext (by
    match a with
    | ⟨0, _⟩ => show ((b.val * 2048 + s.val) * 256 + e.val) / 524288 = b.val; omega
    | ⟨1, _⟩ => show ((b.val * 2048 + s.val) * 256 + e.val) / 256 % 2048 = s.val; omega
    | ⟨2, _⟩ => show ((b.val * 2048 + s.val) * 256 + e.val) / 64 % 4 = e.val / 64; omega
    | ⟨3, _⟩ => show ((b.val * 2048 + s.val) * 256 + e.val) % 64 = e.val % 64; omega)

/-- The keys. -/
theorem result1_apply (b : Fin 8) (s : Fin 2048) (e : Fin 256) :
    val_main_v90 (F := Ideal) x0 x1 x2 x3 x4 (ix2 (row b s) e) = rot (prow x0 x1 x2 x3 x4 b s) (cs s) (sn s) (1024 + e) := by
  have ee : 1024 + e.val / 64 * 64 + e.val % 64 = 1024 + e.val := by omega
  rw [val_main_v90_apply, idx90, v87_at]
  show rot _ _ _ (1024 + e.val / 64 * 64 + e.val % 64) = _
  rw [ee]

/-- The values. -/
theorem result2_apply (b : Fin 8) (s : Fin 2048) (e : Fin 256) :
    val_main_v91 (F := Ideal) x0 x1 x2 x3 x4 (ix2 (row b s) e) = prow x0 x1 x2 x3 x4 b s (col (1280 + e)) := by
  have hb := b.isLt
  have hs := s.isLt
  have he := e.isLt
  rw [val_main_v91_apply, val_main_v12_apply]
  have ei : idx_main_v12 (idx_main_v91 (ix2 (row b s) e)) = ix3 b s (col (1280 + e)) := funext fun a => Fin.ext (by
    match a with
    | ⟨0, _⟩ => show ((b.val * 2048 + s.val) * 256 + e.val) / 524288 = b.val; omega
    | ⟨1, _⟩ => show ((b.val * 2048 + s.val) * 256 + e.val) / 256 % 2048 = s.val; omega
    | ⟨2, _⟩ => show 1280 + ((b.val * 2048 + s.val) * 256 + e.val) % 256 = (1280 + e.val) % 1536; omega)
  rw [ei, v9_at]

/-- The keys, rounded. -/
theorem result3_apply (b : Fin 8) (s : Fin 2048) (e : Fin 256) :
    val_main_v96 (F := Ideal) x0 x1 x2 x3 x4 (ix2 (row b s) e) = rot (prow x0 x1 x2 x3 x4 b s) (cs s) (sn s) (1024 + e) := by
  rw [val_main_v96_apply, result1_apply]
  rfl

/-- The values, rounded. -/
theorem result4_apply (b : Fin 8) (s : Fin 2048) (e : Fin 256) :
    val_main_v97 (F := Ideal) x0 x1 x2 x3 x4 (ix2 (row b s) e) = prow x0 x1 x2 x3 x4 b s (col (1280 + e)) := by
  rw [val_main_v97_apply, result2_apply]
  rfl

/-- The sums of each key head's query heads. -/
theorem result5_apply (b : Fin 8) (s : Fin 2048) (e : Fin 256) :
    val_main_v98 (F := Ideal) x0 x1 x2 x3 x4 (ix2 (row b s) e) = headSum (prow x0 x1 x2 x3 x4 b s) (cs s) (sn s) e := by
  have hb := b.isLt
  have hs := s.isLt
  have he := e.isLt
  have e98 : idx_main_v98 (ix2 (row b s) e) = at4 b s ⟨e.val / 64, by omega⟩ ⟨e.val % 64, by omega⟩ := idx90 b s e
  rw [val_main_v98_apply, e98, val_main_v89_apply, val_main_cst_10_apply]
  show Ideal.ofBits .f32 0x00000000#32 + _ = _
  have z : Ideal.ofBits .f32 0x00000000#32 = 0 := by simp [Ideal.ofBits, Ideal.ieee]
  rw [z, zero_add]
  refine Finset.sum_congr rfl fun k _ => ?_
  have hk := k.isLt
  clear e98
  have hq : e.val / 64 < 4 := by omega
  have hm : e.val % 64 < 64 := by omega
  have ei : idx_main_v88 (idx_main_v89 (at4 b s (⟨e.val / 64, by omega⟩ : Fin 4) (⟨e.val % 64, by omega⟩ : Fin 64)) k)
      = at4 b s ⟨e.val / 64 * 4 + k.val, by omega⟩ ⟨e.val % 64, by omega⟩ := funext fun a => Fin.ext (by
    match a with
    | ⟨0, _⟩ => show ((((b.val * 2048 + s.val) * 4 + e.val / 64) * 4 + k.val) * 64 + e.val % 64) / 2097152 = b.val; generalize e.val / 64 = h at *; generalize e.val % 64 = r at *; omega
    | ⟨1, _⟩ => show ((((b.val * 2048 + s.val) * 4 + e.val / 64) * 4 + k.val) * 64 + e.val % 64) / 1024 % 2048 = s.val; generalize e.val / 64 = h at *; generalize e.val % 64 = r at *; omega
    | ⟨2, _⟩ => show ((((b.val * 2048 + s.val) * 4 + e.val / 64) * 4 + k.val) * 64 + e.val % 64) / 64 % 16 = e.val / 64 * 4 + k.val; generalize e.val / 64 = h at *; generalize e.val % 64 = r at *; omega
    | ⟨3, _⟩ => show ((((b.val * 2048 + s.val) * 4 + e.val / 64) * 4 + k.val) * 64 + e.val % 64) % 64 = e.val % 64; generalize e.val / 64 = h at *; generalize e.val % 64 = r at *; omega)
  have ee : (e.val / 64 * 4 + k.val) * 64 + e.val % 64 = e.val / 64 * 256 + k.val * 64 + e.val % 64 := by omega
  rw [val_main_v88_apply, ei, v50_at]
  show rot _ _ _ ((e.val / 64 * 4 + k.val) * 64 + e.val % 64) = _
  rw [ee]

end Cert.QkvRefIdeal.Read

end
-- ==== Proof.QkvTop.lean ====
/-
  The projection's six result arrays: every grid point's rows are the reference's, and the rows cover the arrays.
-/
module

public import proofs.«01_k».proof.Defs
public import proofs.«01_k».proof.Proof.Gen.QkvIdeal.Value
public import proofs.«01_k».proof.Proof.QkvOut
public import proofs.«01_k».proof.Proof.QkvRef
public import Idealize.ShloMosaic.Lib.Pipeline.ValueKit
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem

namespace Cert.QkvIdeal.Value

open Cert.QkvIdeal Cert.QkvIdeal.Gen Cert.QkvIdeal.Own
open Cert.QkvRefIdeal.Read (row prow cs sn)
open Cert.Rotary

/-- The sequence of a grid point. -/
abbrev tb (t : Fin cfg0.N) : Fin 8 := ⟨t.val / 4, by have h : cfg0.N = 32 := N_0; have := t.isLt; omega⟩
/-- A row of a grid point, in its sequence. -/
abbrev ts (t : Fin cfg0.N) (r : Fin 512) : Fin 2048 := ⟨t.val % 4 * 512 + r.val, by have := r.isLt; omega⟩

/-- The windows' blocks at every grid point. -/
theorem idx_eq : ∀ t : Fin grid0.N,
    win0_0.index t = ![t.val, 0] ∧ win0_1.index t = ![t.val / 4, 0, 0] ∧ win0_2.index t = ![t.val / 4, 0, 0] ∧ win0_3.index t = ![0, 0]
    ∧ win0_4.index t = ![0, 0] ∧ win0_5.index t = ![t.val % 4, 0] ∧ win0_6.index t = ![t.val % 4, 0] ∧ win0_7.index t = ![t.val % 4, 0]
    ∧ win0_8.index t = ![t.val, 0] ∧ win0_9.index t = ![t.val, 0] ∧ win0_10.index t = ![t.val, 0] ∧ win0_11.index t = ![t.val, 0]
    ∧ win0_12.index t = ![t.val, 0] ∧ win0_13.index t = ![t.val, 0] := by
  decide +kernel

/-- Three parts of 8, 8 and 48 columns laid end to end, at an element. -/
theorem cat3_apply (x y : Vec Ideal S2048x8 .f32) (z : Vec Ideal S2048x48 .f32) (h : Shape.Concatenates [S2048x8, S2048x8, S2048x48] S2048x64 1)
    (s : Fin 2048) (d : Fin 64) :
    concatenate S2048x64 1 [⟨S2048x8, x⟩, ⟨S2048x8, y⟩, ⟨S2048x48, z⟩] h (ix2 s d)
      = if d.val < 8 then x (ix2 s (freq d)) else if d.val < 16 then y (ix2 s (freq d)) else z (ix2 s ⟨(d - 16) % 48, by omega⟩) := by
  have hd := d.isLt
  pointwise
  by_cases h8 : d.val < 8
  · rw [dif_pos h8, if_pos h8]
    exact congrArg (fun k => x (ix2 s k)) (Fin.ext (by show d.val = d.val % 8; omega))
  · rw [dif_neg h8, if_neg h8]
    by_cases h16 : d.val < 16
    · rw [dif_pos (by omega), if_pos h16]
      exact congrArg (fun k => y (ix2 s k)) (Fin.ext (by show d.val - 8 = d.val % 8; omega))
    · rw [dif_neg (by omega), if_neg h16]
      exact congrArg (fun k => z (ix2 s k)) (Fin.ext (by show d.val - 8 - 8 = (d.val - 16) % 48; omega))

/-- A table over the 128 lanes: three parts of 8, 8 and 48 columns, twice. -/
def table (x y : Vec Ideal S2048x8 .f32) (z : Vec Ideal S2048x48 .f32) : Vec Ideal S2048x128 .f32 :=
  shapeCast S2048x128 (broadcastInDim S1x2048x2x64 ![0, 1, 2, 3] bcast_S1x2048x1x64_S1x2048x2x64_0_1_2_3 (shapeCast S1x2048x1x64
    (concatenate S2048x64 1 [⟨S2048x8, x⟩, ⟨S2048x8, y⟩, ⟨S2048x48, z⟩] concatenates_S2048x8_S2048x8_S2048x48_S2048x64_d1)
    shapeCasts_S2048x64_S1x2048x1x64)) shapeCasts_S1x2048x2x64_S2048x128

/-- A table over the 128 lanes, at an element. -/
theorem table_apply (x y : Vec Ideal S2048x8 .f32) (z : Vec Ideal S2048x48 .f32) (s : Fin 2048) (l : Fin 128) :
    table x y z (ix2 s l) = if l.val % 64 < 8 then x (ix2 s (freq l)) else if l.val % 64 < 16 then y (ix2 s (freq l))
      else z (ix2 s ⟨(l % 64 - 16) % 48, by omega⟩) := by
  have hf : freq (l.val % 64) = freq l := Fin.ext (by show l.val % 64 % 8 = l.val % 8; omega)
  have h := cat3_apply x y z concatenates_S2048x8_S2048x8_S2048x48_S2048x64_d1 s ⟨l.val % 64, by omega⟩
  rw [show freq ((⟨l.val % 64, by omega⟩ : Fin 64) : ℕ) = freq l from hf] at h
  refine Eq.trans ?_ h
  unfold table
  generalize concatenate S2048x64 1 [⟨S2048x8, x⟩, ⟨S2048x8, y⟩, ⟨S2048x48, z⟩] concatenates_S2048x8_S2048x8_S2048x48_S2048x64_d1 = w
  pointwise

variable (m : (ℓ : Loc nD τ sig) → Buf (Elt Ideal) ℓ) (c : Dev nD)

/-- The rows' block at an element. -/
theorem iblk0_apply (t : Fin cfg0.N) (r : Fin 512) (k : Fin 1024) :
    (iblk m c 0 t : Vec Ideal S512x1024 .f32) (ix2 r k) = m ((c : Thread nD τ).loc main_arg0) (ix3 (tb t) (ts t r) k) := by
  have h := (idx_eq t).1
  unfold iblk
  rw [View.read_apply]
  show V m c main_v36 _ = _
  have he : (win0_0.blk t).view.emb (ix2 r k) = ix2 (row (tb t) (ts t r)) k := funext fun a => Fin.ext (by
    match a with
    | ⟨0, _⟩ => show win0_0.index t 0 * 512 + 1 * r.val = t.val / 4 * 2048 + (t.val % 4 * 512 + r.val); rw [h]; show t.val * 512 + _ = _; omega
    | ⟨1, _⟩ => show win0_0.index t 1 * 1024 + 1 * k.val = k.val; rw [h]; show 0 * 1024 + _ = _; omega)
  refine (congrArg (V m c main_v36) he).trans ?_
  entry_read
  pointwise
  refine congrArg (m ((c : Thread nD τ).loc main_arg0)) (funext fun a => Fin.ext ?_)
  have hr := r.isLt
  match a with
  | ⟨0, _⟩ => show (t.val / 4 * 2048 + (t.val % 4 * 512 + r.val)) / 2048 = t.val / 4; omega
  | ⟨1, _⟩ => show (t.val / 4 * 2048 + (t.val % 4 * 512 + r.val)) % 2048 = t.val % 4 * 512 + r.val; omega
  | ⟨2, _⟩ => rfl

/-- The shift's block at an element. -/
theorem iblk1_apply (t : Fin cfg0.N) (k : Fin 1024) :
    (iblk m c 1 t : Vec Ideal S1x1x1024 .f32) (ix3 0 0 k) = m ((c : Thread nD τ).loc main_arg1) (ix3 (tb t) 0 k) := by
  have h := (idx_eq t).2.1
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t 0 * 1 + 1 * 0 = t.val / 4; rw [h]; show t.val / 4 * 1 + _ = _; omega
  | ⟨1, _⟩ => show win0_1.index t 1 * 1 + 1 * 0 = 0; rw [h]; rfl
  | ⟨2, _⟩ => show win0_1.index t 2 * 1024 + 1 * k.val = k.val; rw [h]; show 0 * 1024 + _ = _; omega

/-- The scale's block at an element. -/
theorem iblk2_apply (t : Fin cfg0.N) (k : Fin 1024) :
    (iblk m c 2 t : Vec Ideal S1x1x1024 .f32) (ix3 0 0 k) = m ((c : Thread nD τ).loc main_arg2) (ix3 (tb t) 0 k) := by
  have h := (idx_eq t).2.2.1
  unfold iblk
  rw [View.read_apply]
  show V m c main_arg2 _ = _
  rw [V_main_arg2]
  refine congrArg (m ((c : Thread nD τ).loc main_arg2)) (funext fun a => Fin.ext ?_)
  match a with
  | ⟨0, _⟩ => show win0_2.index t 0 * 1 + 1 * 0 = t.val / 4; rw [h]; show t.val / 4 * 1 + _ = _; omega
  | ⟨1, _⟩ => show win0_2.index t 1 * 1 + 1 * 0 = 0; rw [h]; rfl
  | ⟨2, _⟩ => show win0_2.index t 2 * 1024 + 1 * k.val = k.val; rw [h]; show 0 * 1024 + _ = _; omega

/-- The weights' block at an element. -/
theorem iblk3_apply (t : Fin cfg0.N) (k : Fin 1024) (e : Fin 1536) :
    (iblk m c 3 t : Vec Ideal S1024x1536 .bf16) (ix2 k e) = m ((c : Thread nD τ).loc main_arg3) (ix2 k e) := by
  blk_ext! [iblk, V, idx_eq t]

/-- The offset at an element. -/
theorem iblk4_apply (t : Fin cfg0.N) (e : Fin 1536) :
    (iblk m c 4 t : Vec Ideal S1x1536 .f32) (ix2 0 e) = m ((c : Thread nD τ).loc main_arg4) (ix1 e) := by
  blk_ext! [iblk, V, idx_eq t]

/-- The table of cosines over the 128 lanes, from the reference's cosines. -/
theorem V_tabC : V m c main_v29 = table (Cert.QkvRefIdeal.Read.val_main_v32 (F := Ideal)) (Cert.QkvRefIdeal.Read.val_main_v32 (F := Ideal)) (broadcastInDim S2048x48 ![] bcast_S_S2048x48 (constant (F := Ideal) S_ .f32 0x3F800000#32)) := by
  show StableHlo.after hostOps0 (fun b => m (c, b)) (Proc.devRef .tc main_v29) = _
  after_reads_simp
  show table (StableHlo.upto hostOps0 (fun b => m (c, b)) 31 (Proc.devRef .tc main_v18)) (StableHlo.upto hostOps0 (fun b => m (c, b)) 31 (Proc.devRef .tc main_v18))
    (StableHlo.upto hostOps0 (fun b => m (c, b)) 31 (Proc.devRef .tc main_v20)) = _
  after_reads_simp
  rfl

/-- The table of the negated sines. -/
theorem V_tabL : V m c main_v32 = table (Host.negf (Cert.QkvRefIdeal.Read.val_main_v34 (F := Ideal) : FVec Ideal S2048x8 .f32) : FVec Ideal S2048x8 .f32) (broadcastInDim S2048x8 ![] bcast_S_S2048x8 (constant (F := Ideal) S_ .f32 0x00000000#32)) (broadcastInDim S2048x48 ![] bcast_S_S2048x48 (constant (F := Ideal) S_ .f32 0x00000000#32)) := by
  show StableHlo.after hostOps0 (fun b => m (c, b)) (Proc.devRef .tc main_v32) = _
  after_reads_simp
  show table (StableHlo.upto hostOps0 (fun b => m (c, b)) 33 (Proc.devRef .tc main_v24)) (StableHlo.upto hostOps0 (fun b => m (c, b)) 33 (Proc.devRef .tc main_v22))
    (StableHlo.upto hostOps0 (fun b => m (c, b)) 33 (Proc.devRef .tc main_v21)) = _
  after_reads_simp
  rfl

/-- The table of the sines. -/
theorem V_tabR : V m c main_v35 = table (broadcastInDim S2048x8 ![] bcast_S_S2048x8 (constant (F := Ideal) S_ .f32 0x00000000#32)) (Cert.QkvRefIdeal.Read.val_main_v34 (F := Ideal)) (broadcastInDim S2048x48 ![] bcast_S_S2048x48 (constant (F := Ideal) S_ .f32 0x00000000#32)) := by
  show StableHlo.after hostOps0 (fun b => m (c, b)) (Proc.devRef .tc main_v35) = _
  after_reads_simp
  show table (StableHlo.upto hostOps0 (fun b => m (c, b)) 34 (Proc.devRef .tc main_v22)) (StableHlo.upto hostOps0 (fun b => m (c, b)) 34 (Proc.devRef .tc main_v19))
    (StableHlo.upto hostOps0 (fun b => m (c, b)) 34 (Proc.devRef .tc main_v21)) = _
  after_reads_simp
  rfl

/-- The table of cosines at an element. -/
theorem iblk5_apply (t : Fin cfg0.N) (r : Fin 512) (l : Fin 128) :
    (iblk m c 5 t : Vec Ideal S512x128 .f32) (ix2 r l) = tabC (cs (ts t r)) l := by
  have h := (idx_eq t).2.2.2.2.2.1
  unfold iblk
  rw [View.read_apply]
  show V m c main_v29 _ = _
  have he : (win0_5.blk t).view.emb (ix2 r l) = ix2 (ts t r) l := funext fun a => Fin.ext (by
    match a with
    | ⟨0, _⟩ => show win0_5.index t 0 * 512 + 1 * r.val = t.val % 4 * 512 + r.val; rw [h]; show t.val % 4 * 512 + _ = _; omega
    | ⟨1, _⟩ => show win0_5.index t 1 * 128 + 1 * l.val = l.val; rw [h]; show 0 * 128 + _ = _; omega)
  refine (congrArg (V m c main_v29) he).trans ?_
  rw [V_tabC, table_apply]
  unfold tabC
  by_cases h8 : l.val % 64 < 8
  · rw [if_pos h8, if_pos (by omega)]
    rfl
  · rw [if_neg h8]
    by_cases h16 : l.val % 64 < 16
    · rw [if_pos h16, if_pos h16]
      rfl
    · rw [if_neg h16, if_neg h16]
      exact Idealize.ShloMosaic.Ideal.ofBits_one_f32

/-- The table of the negated sines at an element. -/
theorem iblk6_apply (t : Fin cfg0.N) (r : Fin 512) (l : Fin 128) :
    (iblk m c 6 t : Vec Ideal S512x128 .f32) (ix2 r l) = tabL (sn (ts t r)) l := by
  have h := (idx_eq t).2.2.2.2.2.2.1
  unfold iblk
  rw [View.read_apply]
  show V m c main_v32 _ = _
  have he : (win0_6.blk t).view.emb (ix2 r l) = ix2 (ts t r) l := funext fun a => Fin.ext (by
    match a with
    | ⟨0, _⟩ => show win0_6.index t 0 * 512 + 1 * r.val = t.val % 4 * 512 + r.val; rw [h]; show t.val % 4 * 512 + _ = _; omega
    | ⟨1, _⟩ => show win0_6.index t 1 * 128 + 1 * l.val = l.val; rw [h]; show 0 * 128 + _ = _; omega)
  refine (congrArg (V m c main_v32) he).trans ?_
  rw [V_tabL, table_apply]
  have z0 : Ideal.ofBits .f32 0x00000000#32 = 0 := by simp [Ideal.ofBits, Ideal.ieee]
  unfold tabL
  by_cases h8 : l.val % 64 < 8
  · rw [if_pos h8, if_pos h8]
    rfl
  · rw [if_neg h8, if_neg h8]
    by_cases h16 : l.val % 64 < 16
    · rw [if_pos h16]
      exact z0
    · rw [if_neg h16]
      exact z0

/-- The table of the sines at an element. -/
theorem iblk7_apply (t : Fin cfg0.N) (r : Fin 512) (l : Fin 128) :
    (iblk m c 7 t : Vec Ideal S512x128 .f32) (ix2 r l) = tabR (sn (ts t r)) l := by
  have h := (idx_eq t).2.2.2.2.2.2.2.1
  unfold iblk
  rw [View.read_apply]
  show V m c main_v35 _ = _
  have he : (win0_7.blk t).view.emb (ix2 r l) = ix2 (ts t r) l := funext fun a => Fin.ext (by
    match a with
    | ⟨0, _⟩ => show win0_7.index t 0 * 512 + 1 * r.val = t.val % 4 * 512 + r.val; rw [h]; show t.val % 4 * 512 + _ = _; omega
    | ⟨1, _⟩ => show win0_7.index t 1 * 128 + 1 * l.val = l.val; rw [h]; show 0 * 128 + _ = _; omega)
  refine (congrArg (V m c main_v35) he).trans ?_
  rw [V_tabR, table_apply]
  have z0 : Ideal.ofBits .f32 0x00000000#32 = 0 := by simp [Ideal.ofBits, Ideal.ieee]
  unfold tabR
  by_cases h8 : l.val % 64 < 8
  · rw [if_pos h8, if_pos h8]
    exact z0
  · rw [if_neg h8, if_neg h8]
    by_cases h16 : l.val % 64 < 16
    · rw [if_pos h16, if_pos h16]
      rfl
    · rw [if_neg h16, if_neg h16]
      exact z0

/-- The reference's projected row that a grid point's row is. -/
abbrev rowOf (t : Fin cfg0.N) (r : Fin 512) : Fin 1536 → EReal :=
  prow (m ((c : Thread nD τ).loc main_arg0)) (m ((c : Thread nD τ).loc main_arg1)) (m ((c : Thread nD τ).loc main_arg2)) (m ((c : Thread nD τ).loc main_arg3)) (m ((c : Thread nD τ).loc main_arg4)) (tb t) (ts t r)

/-- A grid point's blocks are the reference's rows and the tables at their positions. -/
theorem pointRows (t : Fin cfg0.N) :
    PointRows (rowOf m c t) (fun r => cs (ts t r)) (fun r => sn (ts t r)) (iblk m c 0 t) (iblk m c 1 t) (iblk m c 2 t) (iblk m c 3 t) (iblk m c 4 t) (iblk m c 5 t) (iblk m c 6 t) (iblk m c 7 t) where
  hv r e := by
    rw [pay33_eq, pay3_apply]
    simp only [iblk0_apply, iblk1_apply, iblk2_apply, iblk3_apply, iblk4_apply]
    rfl
  hc r l := by
    rw [pay34_eq]
    exact iblk5_apply m c t r l
  h1 r l := by
    rw [pay35_eq]
    exact iblk6_apply m c t r l
  h2 r l := by
    rw [pay36_eq]
    exact iblk7_apply m c t r l

/-- A grid point's row, among all rows. -/
theorem row_val (t : Fin cfg0.N) (r : Fin 512) (n : ℕ) (hn : n = t.val) : (row (tb t) (ts t r)).val = n * 512 + 1 * r.val := by
  subst hn
  show t.val / 4 * 2048 + (t.val % 4 * 512 + r.val) = _
  omega

/-- The grid point that has a row. -/
theorem has_row (x : ℕ) (hx : x < 16384) : ∃ t : Fin cfg0.N, t.val * 512 ≤ x ∧ x < t.val * 512 + 512 := by
  have hN : cfg0.N = 32 := N_0
  refine ⟨⟨x / 512, by omega⟩, ?_, ?_⟩
  · show x / 512 * 512 ≤ x
    omega
  · show x < x / 512 * 512 + 512
    omega

/-- The reference's result 0: the scaled queries. -/
def result0 : Buf (Elt Ideal) ((c : Thread nD τ).loc main_v39_0) :=
  Cert.QkvRefIdeal.Read.val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4))

/-- A grid point writes back its rows of the scaled queries. -/
theorem flushed8_eq (t : Fin cfg0.N) : (dats m 0 c).flushed 8 t = ((cfg0.win 8).blk t).view.read (Elt Ideal) (result0 m c) := by
  have e := (idx_eq t).2.2.2.2.2.2.2.2.1
  rw [flushed8]
  have h : ∀ j : S512x1024.Idx, out0_8 (F := Ideal) (iblk m c 0 t) (iblk m c 1 t) (iblk m c 2 t) (iblk m c 3 t) (iblk m c 4 t) (iblk m c 5 t) (iblk m c 6 t) (iblk m c 7 t) j
      = ((cfg0.win 8).blk t).view.read (Elt Ideal) (result0 m c) j := fun j => by
    obtain ⟨r, d, rfl⟩ : ∃ (r : Fin 512) (d : Fin 1024), j = ix2 r d := ⟨j 0, j 1, funext fun a => by match a with | ⟨0, _⟩ => rfl | ⟨1, _⟩ => rfl⟩
    rw [View.read_apply]
    refine ((out8_apply (pointRows m c t) r d).trans
      (Cert.QkvRefIdeal.Read.result0_apply _ _ _ _ _ (tb t) (ts t r) d).symm).trans (congrArg (result0 m c) (funext fun a => Fin.ext ?_))
    match a with
    | ⟨0, _⟩ => exact row_val t r (win0_8.index t 0) (by rw [e]; rfl)
    | ⟨1, _⟩ => show d.val = win0_8.index t 1 * 1024 + 1 * d.val; rw [e]; show _ = 0 * 1024 + _; omega
  exact funext h

/-- The kernel's array of the scaled queries is the reference's. -/
theorem final8 : (dats m 0 c).arrAt 8 cfg0.N = result0 m c :=
  (dats m 0 c).arrAt_eq_of_cover 8 (result0 m c) (fun t _ => flushed8_eq m c t) fun i => by
    have h1 : (i 1 : Nat) < 1024 := (i 1).isLt
    obtain ⟨t, hl, hu⟩ := has_row (i 0 : Nat) (i 0).isLt
    have e := (idx_eq t).2.2.2.2.2.2.2.2.1
    refine ⟨t, flush0_8 t, ?_⟩
    show i ∈ ((View.whole main_v39_0).slice (win0_8.rect t)).set
    rw [View.set_slice_whole, Rect.mem_set_unit]
    intro a
    match a with
    | ⟨0, _⟩ => show win0_8.index t 0 * 512 ≤ (i 0 : Nat) ∧ (i 0 : Nat) < win0_8.index t 0 * 512 + 512
                rw [e]; exact ⟨hl, hu⟩
    | ⟨1, _⟩ => show win0_8.index t 1 * 1024 ≤ (i 1 : Nat) ∧ (i 1 : Nat) < win0_8.index t 1 * 1024 + 1024
                rw [e]; show 0 * 1024 ≤ _ ∧ _ < 0 * 1024 + 1024; omega

/-- The reference's result 1: the keys. -/
def result1 : Buf (Elt Ideal) ((c : Thread nD τ).loc main_v39_1) :=
  Cert.QkvRefIdeal.Read.val_main_v90 (F := Ideal) (m ((c : Thread nD τ).loc main_arg0)) (m ((c : Thread nD τ).loc main_arg1)) (m ((c : Thread nD τ).loc main_arg2)) (m ((c : Thread nD τ).loc main_arg3)) (m ((c : Thread nD τ).loc main_arg4))

/-- A grid point writes back its rows of the keys. -/
theorem flushed9_eq (t : Fin cfg0.N) : (dats m 0 c).flushed 9 t = ((cfg0.win 9).blk t).view.read (Elt Ideal) (result1 m c) := by
  have e := (idx_eq t).2.2.2.2.2.2.2.2.2.1
  rw [flushed9]
  have h : ∀ j : S512x256.Idx, out0_9 (F := Ideal) (iblk m c 0 t) (iblk m c 1 t) (iblk m c 2 t) (iblk m c 3 t) (iblk m c 4 t) (iblk m c 5 t) (iblk m c 6 t) (iblk m c 7 t) j
      = ((cfg0.win 9).blk t).view.read (Elt Ideal) (result1 m c) j := fun j => by
    obtain ⟨r, d, rfl⟩ : ∃ (r : Fin 512) (d : Fin 256), j = ix2 r d := ⟨j 0, j 1, funext fun a => by match a with | ⟨0, _⟩ => rfl | ⟨1, _⟩ => rfl⟩
    rw [View.read_apply]
    refine ((out9_apply (pointRows m c t) r d).trans
      (Cert.QkvRefIdeal.Read.result1_apply _ _ _ _ _ (tb t) (ts t r) d).symm).trans (congrArg (result1 m c) (funext fun a => Fin.ext ?_))
    match a with
    | ⟨0, _⟩ => exact row_val t r (win0_9.index t 0) (by rw [e]; rfl)
    | ⟨1, _⟩ => show d.val = win0_9.index t 1 * 256 + 1 * d.val; rw [e]; show _ = 0 * 256 + _; omega
  exact funext h

/-- The kernel's array of the keys is the reference's. -/
theorem final9 : (dats m 0 c).arrAt 9 cfg0.N = result1 m c :=
  (dats m 0 c).arrAt_eq_of_cover 9 (result1 m c) (fun t _ => flushed9_eq m c t) fun i => by
    have h1 : (i 1 : Nat) < 256 := (i 1).isLt
    obtain ⟨t, hl, hu⟩ := has_row (i 0 : Nat) (i 0).isLt
    have e := (idx_eq t).2.2.2.2.2.2.2.2.2.1
    refine ⟨t, flush0_9 t, ?_⟩
    show i ∈ ((View.whole main_v39_1).slice (win0_9.rect t)).set
    rw [View.set_slice_whole, Rect.mem_set_unit]
    intro a
    match a with
    | ⟨0, _⟩ => show win0_9.index t 0 * 512 ≤ (i 0 : Nat) ∧ (i 0 : Nat) < win0_9.index t 0 * 512 + 512
                rw [e]; exact ⟨hl, hu⟩
    | ⟨1, _⟩ => show win0_9.index t 1 * 256 ≤ (i 1 : Nat) ∧ (i 1 : Nat) < win0_9.index t 1 * 256 + 256
                rw [e]; show 0 * 256 ≤ _ ∧ _ < 0 * 256 + 256; omega

/-- The reference's result 2: the values. -/
def result2 : Buf (Elt Ideal) ((c : Thread nD τ).loc main_v39_2) :=
  Cert.QkvRefIdeal.Read.val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4))

/-- A grid point writes back its rows of the values. -/
theorem flushed10_eq (t : Fin cfg0.N) : (dats m 0 c).flushed 10 t = ((cfg0.win 10).blk t).view.read (Elt Ideal) (result2 m c) := by
  have e := (idx_eq t).2.2.2.2.2.2.2.2.2.2.1
  rw [flushed10]
  have h : ∀ j : S512x256.Idx, out0_10 (F := Ideal) (iblk m c 0 t) (iblk m c 1 t) (iblk m c 2 t) (iblk m c 3 t) (iblk m c 4 t) (iblk m c 5 t) (iblk m c 6 t) (iblk m c 7 t) j
      = ((cfg0.win 10).blk t).view.read (Elt Ideal) (result2 m c) j := fun j => by
    obtain ⟨r, d, rfl⟩ : ∃ (r : Fin 512) (d : Fin 256), j = ix2 r d := ⟨j 0, j 1, funext fun a => by match a with | ⟨0, _⟩ => rfl | ⟨1, _⟩ => rfl⟩
    rw [View.read_apply]
    refine ((out10_apply (pointRows m c t) r d).trans
      (Cert.QkvRefIdeal.Read.result2_apply _ _ _ _ _ (tb t) (ts t r) d).symm).trans (congrArg (result2 m c) (funext fun a => Fin.ext ?_))
    match a with
    | ⟨0, _⟩ => exact row_val t r (win0_10.index t 0) (by rw [e]; rfl)
    | ⟨1, _⟩ => show d.val = win0_10.index t 1 * 256 + 1 * d.val; rw [e]; show _ = 0 * 256 + _; omega
  exact funext h

/-- The kernel's array of the values is the reference's. -/
theorem final10 : (dats m 0 c).arrAt 10 cfg0.N = result2 m c :=
  (dats m 0 c).arrAt_eq_of_cover 10 (result2 m c) (fun t _ => flushed10_eq m c t) fun i => by
    have h1 : (i 1 : Nat) < 256 := (i 1).isLt
    obtain ⟨t, hl, hu⟩ := has_row (i 0 : Nat) (i 0).isLt
    have e := (idx_eq t).2.2.2.2.2.2.2.2.2.2.1
    refine ⟨t, flush0_10 t, ?_⟩
    show i ∈ ((View.whole main_v39_2).slice (win0_10.rect t)).set
    rw [View.set_slice_whole, Rect.mem_set_unit]
    intro a
    match a with
    | ⟨0, _⟩ => show win0_10.index t 0 * 512 ≤ (i 0 : Nat) ∧ (i 0 : Nat) < win0_10.index t 0 * 512 + 512
                rw [e]; exact ⟨hl, hu⟩
    | ⟨1, _⟩ => show win0_10.index t 1 * 256 ≤ (i 1 : Nat) ∧ (i 1 : Nat) < win0_10.index t 1 * 256 + 256
                rw [e]; show 0 * 256 ≤ _ ∧ _ < 0 * 256 + 256; omega

/-- The reference's result 3: the rounded keys. -/
def result3 : Buf (Elt Ideal) ((c : Thread nD τ).loc main_v39_3) :=
  Cert.QkvRefIdeal.Read.val_main_v96 (F := Ideal) (m ((c : Thread nD τ).loc main_arg0)) (m ((c : Thread nD τ).loc main_arg1)) (m ((c : Thread nD τ).loc main_arg2)) (m ((c : Thread nD τ).loc main_arg3)) (m ((c : Thread nD τ).loc main_arg4))

/-- A grid point writes back its rows of the rounded keys. -/
theorem flushed11_eq (t : Fin cfg0.N) : (dats m 0 c).flushed 11 t = ((cfg0.win 11).blk t).view.read (Elt Ideal) (result3 m c) := by
  have e := (idx_eq t).2.2.2.2.2.2.2.2.2.2.2.1
  rw [flushed11]
  have h : ∀ j : S512x256.Idx, out0_11 (F := Ideal) (iblk m c 0 t) (iblk m c 1 t) (iblk m c 2 t) (iblk m c 3 t) (iblk m c 4 t) (iblk m c 5 t) (iblk m c 6 t) (iblk m c 7 t) j
      = ((cfg0.win 11).blk t).view.read (Elt Ideal) (result3 m c) j := fun j => by
    obtain ⟨r, d, rfl⟩ : ∃ (r : Fin 512) (d : Fin 256), j = ix2 r d := ⟨j 0, j 1, funext fun a => by match a with | ⟨0, _⟩ => rfl | ⟨1, _⟩ => rfl⟩
    rw [View.read_apply]
    refine ((out11_apply (pointRows m c t) r d).trans
      (Cert.QkvRefIdeal.Read.result3_apply _ _ _ _ _ (tb t) (ts t r) d).symm).trans (congrArg (result3 m c) (funext fun a => Fin.ext ?_))
    match a with
    | ⟨0, _⟩ => exact row_val t r (win0_11.index t 0) (by rw [e]; rfl)
    | ⟨1, _⟩ => show d.val = win0_11.index t 1 * 256 + 1 * d.val; rw [e]; show _ = 0 * 256 + _; omega
  exact funext h

/-- The kernel's array of the rounded keys is the reference's. -/
theorem final11 : (dats m 0 c).arrAt 11 cfg0.N = result3 m c :=
  (dats m 0 c).arrAt_eq_of_cover 11 (result3 m c) (fun t _ => flushed11_eq m c t) fun i => by
    have h1 : (i 1 : Nat) < 256 := (i 1).isLt
    obtain ⟨t, hl, hu⟩ := has_row (i 0 : Nat) (i 0).isLt
    have e := (idx_eq t).2.2.2.2.2.2.2.2.2.2.2.1
    refine ⟨t, flush0_11 t, ?_⟩
    show i ∈ ((View.whole main_v39_3).slice (win0_11.rect t)).set
    rw [View.set_slice_whole, Rect.mem_set_unit]
    intro a
    match a with
    | ⟨0, _⟩ => show win0_11.index t 0 * 512 ≤ (i 0 : Nat) ∧ (i 0 : Nat) < win0_11.index t 0 * 512 + 512
                rw [e]; exact ⟨hl, hu⟩
    | ⟨1, _⟩ => show win0_11.index t 1 * 256 ≤ (i 1 : Nat) ∧ (i 1 : Nat) < win0_11.index t 1 * 256 + 256
                rw [e]; show 0 * 256 ≤ _ ∧ _ < 0 * 256 + 256; omega

/-- The reference's result 4: the rounded values. -/
def result4 : Buf (Elt Ideal) ((c : Thread nD τ).loc main_v39_4) :=
  Cert.QkvRefIdeal.Read.val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg4))

/-- A grid point writes back its rows of the rounded values. -/
theorem flushed12_eq (t : Fin cfg0.N) : (dats m 0 c).flushed 12 t = ((cfg0.win 12).blk t).view.read (Elt Ideal) (result4 m c) := by
  have e := (idx_eq t).2.2.2.2.2.2.2.2.2.2.2.2.1
  rw [flushed12]
  have h : ∀ j : S512x256.Idx, out0_12 (F := Ideal) (iblk m c 0 t) (iblk m c 1 t) (iblk m c 2 t) (iblk m c 3 t) (iblk m c 4 t) (iblk m c 5 t) (iblk m c 6 t) (iblk m c 7 t) j
      = ((cfg0.win 12).blk t).view.read (Elt Ideal) (result4 m c) j := fun j => by
    obtain ⟨r, d, rfl⟩ : ∃ (r : Fin 512) (d : Fin 256), j = ix2 r d := ⟨j 0, j 1, funext fun a => by match a with | ⟨0, _⟩ => rfl | ⟨1, _⟩ => rfl⟩
    rw [View.read_apply]
    refine ((out12_apply (pointRows m c t) r d).trans
      (Cert.QkvRefIdeal.Read.result4_apply _ _ _ _ _ (tb t) (ts t r) d).symm).trans (congrArg (result4 m c) (funext fun a => Fin.ext ?_))
    match a with
    | ⟨0, _⟩ => exact row_val t r (win0_12.index t 0) (by rw [e]; rfl)
    | ⟨1, _⟩ => show d.val = win0_12.index t 1 * 256 + 1 * d.val; rw [e]; show _ = 0 * 256 + _; omega
  exact funext h

/-- The kernel's array of the rounded values is the reference's. -/
theorem final12 : (dats m 0 c).arrAt 12 cfg0.N = result4 m c :=
  (dats m 0 c).arrAt_eq_of_cover 12 (result4 m c) (fun t _ => flushed12_eq m c t) fun i => by
    have h1 : (i 1 : Nat) < 256 := (i 1).isLt
    obtain ⟨t, hl, hu⟩ := has_row (i 0 : Nat) (i 0).isLt
    have e := (idx_eq t).2.2.2.2.2.2.2.2.2.2.2.2.1
    refine ⟨t, flush0_12 t, ?_⟩
    show i ∈ ((View.whole main_v39_4).slice (win0_12.rect t)).set
    rw [View.set_slice_whole, Rect.mem_set_unit]
    intro a
    match a with
    | ⟨0, _⟩ => show win0_12.index t 0 * 512 ≤ (i 0 : Nat) ∧ (i 0 : Nat) < win0_12.index t 0 * 512 + 512
                rw [e]; exact ⟨hl, hu⟩
    | ⟨1, _⟩ => show win0_12.index t 1 * 256 ≤ (i 1 : Nat) ∧ (i 1 : Nat) < win0_12.index t 1 * 256 + 256
                rw [e]; show 0 * 256 ≤ _ ∧ _ < 0 * 256 + 256; omega

/-- The reference's result 5: the sums of each key head's query heads. -/
def result5 : Buf (Elt Ideal) ((c : Thread nD τ).loc main_v39_5) :=
  Cert.QkvRefIdeal.Read.val_main_v98 (F := Ideal) (m ((c : Thread nD τ).loc main_arg0)) (m ((c : Thread nD τ).loc main_arg1)) (m ((c : Thread nD τ).loc main_arg2)) (m ((c : Thread nD τ).loc main_arg3)) (m ((c : Thread nD τ).loc main_arg4))

/-- A grid point writes back its rows of the sums of each key head's query heads. -/
theorem flushed13_eq (t : Fin cfg0.N) : (dats m 0 c).flushed 13 t = ((cfg0.win 13).blk t).view.read (Elt Ideal) (result5 m c) := by
  have e := (idx_eq t).2.2.2.2.2.2.2.2.2.2.2.2.2
  rw [flushed13]
  have h : ∀ j : S512x256.Idx, out0_13 (F := Ideal) (iblk m c 0 t) (iblk m c 1 t) (iblk m c 2 t) (iblk m c 3 t) (iblk m c 4 t) (iblk m c 5 t) (iblk m c 6 t) (iblk m c 7 t) j
      = ((cfg0.win 13).blk t).view.read (Elt Ideal) (result5 m c) j := fun j => by
    obtain ⟨r, d, rfl⟩ : ∃ (r : Fin 512) (d : Fin 256), j = ix2 r d := ⟨j 0, j 1, funext fun a => by match a with | ⟨0, _⟩ => rfl | ⟨1, _⟩ => rfl⟩
    rw [View.read_apply]
    refine ((out13_apply (pointRows m c t) r d).trans
      (Cert.QkvRefIdeal.Read.result5_apply _ _ _ _ _ (tb t) (ts t r) d).symm).trans (congrArg (result5 m c) (funext fun a => Fin.ext ?_))
    match a with
    | ⟨0, _⟩ => exact row_val t r (win0_13.index t 0) (by rw [e]; rfl)
    | ⟨1, _⟩ => show d.val = win0_13.index t 1 * 256 + 1 * d.val; rw [e]; show _ = 0 * 256 + _; omega
  exact funext h

/-- The kernel's array of the sums of each key head's query heads is the reference's. -/
theorem final13 : (dats m 0 c).arrAt 13 cfg0.N = result5 m c :=
  (dats m 0 c).arrAt_eq_of_cover 13 (result5 m c) (fun t _ => flushed13_eq m c t) fun i => by
    have h1 : (i 1 : Nat) < 256 := (i 1).isLt
    obtain ⟨t, hl, hu⟩ := has_row (i 0 : Nat) (i 0).isLt
    have e := (idx_eq t).2.2.2.2.2.2.2.2.2.2.2.2.2
    refine ⟨t, flush0_13 t, ?_⟩
    show i ∈ ((View.whole main_v39_5).slice (win0_13.rect t)).set
    rw [View.set_slice_whole, Rect.mem_set_unit]
    intro a
    match a with
    | ⟨0, _⟩ => show win0_13.index t 0 * 512 ≤ (i 0 : Nat) ∧ (i 0 : Nat) < win0_13.index t 0 * 512 + 512
                rw [e]; exact ⟨hl, hu⟩
    | ⟨1, _⟩ => show win0_13.index t 1 * 256 ≤ (i 1 : Nat) ∧ (i 1 : Nat) < win0_13.index t 1 * 256 + 256
                rw [e]; show 0 * 256 ≤ _ ∧ _ < 0 * 256 + 256; omega

end Cert.QkvIdeal.Value

namespace Cert.Proof

/-- The projection's reference runs and keeps its arguments: it declares no semaphore. -/
theorem qkv_ref_frame : Cert.quiescent_QkvRefIdeal := fun m ρ _ =>
  (θ_run _ _ _).mono (fun r h => ⟨fun c => (h c).2.2.2.2.2.2, Idealize.ShloMosaic.sem_eq_zero_of_no_sems (by decide) r.2⟩) (Cert.QkvRefIdeal.Value.run m ρ)

/-- The projection's kernel and its reference end with the same six results. -/
theorem qkv_algebraic : Cert.algebraic_QkvIdeal_QkvRefIdeal := by
  intro m g m' g' _ hargs
  refine ⟨fun c => Cert.QkvIdeal.Value.result0 m c, fun c => Cert.QkvIdeal.Value.result1 m c, fun c => Cert.QkvIdeal.Value.result2 m c,
    fun c => Cert.QkvIdeal.Value.result3 m c, fun c => Cert.QkvIdeal.Value.result4 m c, fun c => Cert.QkvIdeal.Value.result5 m c, ?_, ?_⟩
  · refine (θ_run _ _ _).mono (fun r h c => ?_) (Cert.QkvIdeal.Value.run_blocks m g)
    exact ⟨(h c).1.trans (Cert.QkvIdeal.Value.final8 m c), (h c).2.1.trans (Cert.QkvIdeal.Value.final9 m c), (h c).2.2.1.trans (Cert.QkvIdeal.Value.final10 m c), (h c).2.2.2.1.trans (Cert.QkvIdeal.Value.final11 m c), (h c).2.2.2.2.1.trans (Cert.QkvIdeal.Value.final12 m c), (h c).2.2.2.2.2.1.trans (Cert.QkvIdeal.Value.final13 m c), (h c).2.2.2.2.2.2⟩
  · refine (θ_run _ _ _).mono (fun r h c => ?_) (Cert.QkvRefIdeal.Value.run m' g')
    obtain ⟨h0, h1, h2, h3, h4⟩ := hargs c
    refine ⟨(h c).1.trans ?_, (h c).2.1.trans ?_, (h c).2.2.1.trans ?_, (h c).2.2.2.1.trans ?_, (h c).2.2.2.2.1.trans ?_, (h c).2.2.2.2.2.1.trans ?_, (h c).2.2.2.2.2.2⟩
    · rw [Cert.QkvRefIdeal.Read.val_main_v95_eq, h0, h1, h2, h3, h4]
      rfl
    · rw [Cert.QkvRefIdeal.Read.val_main_v90_eq, h0, h1, h2, h3, h4]
      rfl
    · rw [Cert.QkvRefIdeal.Read.val_main_v91_eq, h0, h1, h2, h3, h4]
      rfl
    · rw [Cert.QkvRefIdeal.Read.val_main_v96_eq, h0, h1, h2, h3, h4]
      rfl
    · rw [Cert.QkvRefIdeal.Read.val_main_v97_eq, h0, h1, h2, h3, h4]
      rfl
    · rw [Cert.QkvRefIdeal.Read.val_main_v98_eq, h0, h1, h2, h3, h4]
      rfl

end Cert.Proof

end
-- ==== Proof.Norm.lean ====
/-
  The layer normalisation of one row of 1024 numbers.
-/
module

public import Idealize.ShloMosaic.PureOps.Ideal

@[expose] public section

noncomputable section

namespace Cert.LayerNorm

open Idealize.ShloMosaic

/-- The mean of a row. -/
def mean (y : Fin 1024 → EReal) : EReal := Ideal.div (∑ k, y k) (Ideal.ofBits .f32 0x44800000#32)

/-- The row less its mean, over the square root of its variance and a small constant, scaled and shifted. -/
def lnorm (y g b : Fin 1024 → EReal) (d : Fin 1024) : EReal :=
  (y d - mean y) * Ideal.rsqrt (mean (fun k => (y k - mean y) * (y k - mean y)) + Ideal.ofBits .f32 0x3727C5AC#32) * g d + b d

/-- The residual sum the normalisation takes: the row times a constant, plus the gated branch. -/
def blend (x g o : Fin 1024 → EReal) (d : Fin 1024) : EReal := Ideal.ofBits .f32 0x3FB504F3#32 * x d + g d * o d

end Cert.LayerNorm

end
-- ==== Proof.AttnPay.lean ====
/-
  The output projection's values at an index: the normalised row, the modulated row, the router's products.
-/
module

public import proofs.«01_k».proof.Proof.Gen.AttnOutIdeal.Skeleton
public import proofs.«01_k».proof.Proof.Norm
public import Idealize.ShloMosaic.Lib.Pointwise

@[expose] public section

set_option maxRecDepth 16384

noncomputable section

namespace Cert.AttnOutIdeal.Own

open Cert.AttnOutIdeal Cert.AttnOutIdeal.Gen
open Idealize.ShloMosaic
open Cert.LayerNorm

/-- The projected attention row: the product with the weights, and the offset. -/
def proj (a : Fin 1024 → EReal) (w : Fin 1024 → Fin 1024 → EReal) (b : Fin 1024 → EReal) (d : Fin 1024) : EReal := ∑ k, a k * w k d + b d

/-- The modulated row: scaled by one more than the scale, and shifted. -/
def modulate (y scale shift : Fin 1024 → EReal) (d : Fin 1024) : EReal := y d * (Ideal.ofBits .f32 0x3F800000#32 + scale d) + shift d

variable (a : Vec Ideal S256x1024 .bf16) (w : Vec Ideal S1024x1024 .bf16) (bo : Vec Ideal S1x1024 .f32) (x : Vec Ideal S256x1024 .f32)
  (g : Vec Ideal S1x1x1024 .f32) (lg lb : Vec Ideal S1x1024 .f32) (sc sh : Vec Ideal S1x1x1024 .f32)

/-- The normalised row of the kernel, at an element. -/
def xn (r : Fin 256) (d : Fin 1024) : EReal :=
  lnorm (blend (fun d => x (ix2 r d)) (fun d => g (ix3 0 0 d)) (proj (fun k => a (ix2 r k)) (fun k d => w (ix2 k d)) (fun d => bo (ix2 0 d))))
    (fun d => lg (ix2 0 d)) (fun d => lb (ix2 0 d)) d

/-- The normalisation at an element. -/
theorem pay1_apply (r : Fin 256) (d : Fin 1024) :
    k0_pay1 (F := Ideal) (k0_pay5 lb) (k0_pay6 a w bo x g) (k0_pay7 lg) (ix2 r d) = xn a w bo x g lg lb r d := by
  unfold xn lnorm mean blend proj
  pointwise [k0_pay1, k0_pay5, k0_pay6, k0_pay7]

/-- The modulation at an element. -/
theorem pay2_apply (v19 : FVec Ideal S1x1024 .f32) (v35 v36 : FVec Ideal S256x1024 .f32) (r : Fin 256) (d : Fin 1024) :
    k0_pay2 (F := Ideal) v19 v35 v36 sc sh (ix2 r d)
      = modulate (fun d => k0_pay1 (F := Ideal) v19 v35 v36 (ix2 r d)) (fun d => sc (ix3 0 0 d)) (fun d => sh (ix3 0 0 d)) d := by
  unfold modulate
  pointwise [k0_pay2]

/-- The stored modulation at an element. -/
theorem pay3_apply (v19 : FVec Ideal S1x1024 .f32) (v35 v36 : FVec Ideal S256x1024 .f32) (r : Fin 256) (d : Fin 1024) :
    k0_pay3 (F := Ideal) v19 v35 v36 sc sh (ix2 r d) = k0_pay2 (F := Ideal) v19 v35 v36 sc sh (ix2 r d) := by
  pointwise [k0_pay3]

/-- The router's products at an element: with the leading part of the weights, with the rest of the row, with the rest of the weights. -/
theorem pay4_apply (v19 : FVec Ideal S1x1024 .f32) (v35 v36 : FVec Ideal S256x1024 .f32) (hi lo : Vec Ideal S256x1024 .bf16) (e r : Fin 256) :
    k0_pay4 (F := Ideal) v19 v35 v36 sc sh hi lo (ix2 e r)
      = (∑ k, hi (ix2 e k) * k0_pay2 (F := Ideal) v19 v35 v36 sc sh (ix2 r k)
          + ∑ k, hi (ix2 e k) * (k0_pay2 (F := Ideal) v19 v35 v36 sc sh (ix2 r k) - k0_pay2 (F := Ideal) v19 v35 v36 sc sh (ix2 r k)))
        + ∑ k, lo (ix2 e k) * k0_pay2 (F := Ideal) v19 v35 v36 sc sh (ix2 r k) := by
  pointwise [k0_pay4, k0_pay3]

end Cert.AttnOutIdeal.Own

end
-- ==== Proof.AttnRef.lean ====
/-
  The output projection's reference, one element at a time: the projected row, the residual sum, the normalisation, the modulation,
  the router's products.
-/
module

public import proofs.«01_k».proof.Proof.Gen.AttnOutRefIdeal.Read
public import proofs.«01_k».proof.Proof.AttnPay
public import Idealize.ShloMosaic.Lib.IdealHost

@[expose] public section

set_option maxRecDepth 16384

noncomputable section

open Idealize.ShloMosaic Idealize.ShloMosaic.TcCoe Idealize.SL.Sem

namespace Cert.AttnOutRefIdeal.Read

open Cert.AttnOutRefIdeal Cert.AttnOutRefIdeal.Gen
open Cert.AttnOutIdeal.Own (proj modulate)
open Cert.LayerNorm

variable (x0 : S16384x1024.Idx → Elt Ideal .bf16) (x1 : S16384x1024.Idx → Elt Ideal .f32) (x2 x3 x4 : S8x1x1024.Idx → Elt Ideal .f32)
  (x5 : S1024x1024.Idx → Elt Ideal .f32) (x6 x7 x8 : S1024.Idx → Elt Ideal .f32) (x9 : S1024x256.Idx → Elt Ideal .f32)

/-- The projected row. -/
theorem v4_at (n : Fin 16384) (d : Fin 1024) :
    val_main_v4 (F := Ideal) x0 x5 x6 (ix2 n d) = proj (fun k => x0 (ix2 n k)) (fun k d => x5 (ix2 k d)) (fun d => x6 (ix1 d)) d := by
  rw [val_main_v4_apply, val_main_v1_apply, val_main_v3_apply, val_main_v2_apply]
  have eb : idx_main_v2 (idx_main_v3 (ix2 n d)) = ix1 d := funext fun a => Fin.ext (by match a with | ⟨0, _⟩ => rfl)
  rw [eb]
  refine congrArg (· + x6 (ix1 d)) (Finset.sum_congr rfl fun k _ => ?_)
  have el : lidx_main_v1 (ix2 n d) k = ix2 n k := funext fun a => Fin.ext (by match a with | ⟨0, _⟩ => rfl | ⟨1, _⟩ => rfl)
  have er : ridx_main_v1 (ix2 n d) k = ix2 k d := funext fun a => Fin.ext (by match a with | ⟨0, _⟩ => rfl | ⟨1, _⟩ => rfl)
  rw [el, er, val_main_v0_apply]
  rfl

/-- A sequence's row among all rows. -/
abbrev row (b : Fin 8) (s : Fin 2048) : Fin 16384 := ⟨b.val * 2048 + s.val, by have := b.isLt; have := s.isLt; omega⟩

/-- The residual sum of a row. -/
theorem v11_at (b : Fin 8) (s : Fin 2048) (d : Fin 1024) :
    val_main_v11 (F := Ideal) x0 x1 x2 x5 x6 (ix3 b s d)
      = blend (fun d => x1 (ix2 (row b s) d)) (fun d => x2 (ix3 b 0 d))
          (proj (fun k => x0 (ix2 (row b s) k)) (fun k d => x5 (ix2 k d)) (fun d => x6 (ix1 d))) d := by
  have hs := s.isLt
  have hd := d.isLt
  rw [val_main_v11_apply, val_main_v7_apply, val_main_v10_apply, val_main_v6_apply, val_main_cst_apply, val_main_v5_apply, val_main_v9_apply, val_main_v8_apply]
  have e5 : idx_main_v5 (ix3 b s d) = ix2 (row b s) d := funext fun a => Fin.ext (by
    match a with
    | ⟨0, _⟩ => show ((b.val * 2048 + s.val) * 1024 + d.val) / 1024 = b.val * 2048 + s.val; omega
    | ⟨1, _⟩ => show ((b.val * 2048 + s.val) * 1024 + d.val) % 1024 = d.val; omega)
  have e8 : idx_main_v8 (ix3 b s d) = ix2 (row b s) d := e5
  have e9 : idx_main_v9 (ix3 b s d) = ix3 b 0 d := funext fun a => Fin.ext (by match a with | ⟨0, _⟩ => rfl | ⟨1, _⟩ => rfl | ⟨2, _⟩ => rfl)
  rw [e5, e8, e9, v4_at]
  rfl

/-- The mean of a row's residual sum. -/
theorem v15_at (b : Fin 8) (s : Fin 2048) :
    val_main_v15 (F := Ideal) x0 x1 x2 x5 x6 (ix3 b s 0) = mean fun d => val_main_v11 (F := Ideal) x0 x1 x2 x5 x6 (ix3 b s d) := by
  rw [val_main_v15_apply, val_main_v13_apply, val_main_v14_apply, val_main_cst_1_apply, val_main_v12_apply, val_main_cst_0_apply]
  have e : ∀ k, idx_main_v12 (idx_main_v13 (ix3 b s 0)) k = ix3 b s k := fun k => funext fun a => Fin.ext (by match a with | ⟨0, _⟩ => rfl | ⟨1, _⟩ => rfl | ⟨2, _⟩ => rfl)
  simp only [e]
  show Ideal.div (Ideal.ofBits .f32 0x00000000#32 + _) _ = _
  have z : Ideal.ofBits .f32 0x00000000#32 = 0 := by simp [Ideal.ofBits, Ideal.ieee]
  rw [z, zero_add]
  rfl

/-- A row less its mean. -/
theorem v17_at (b : Fin 8) (s : Fin 2048) (d : Fin 1024) :
    val_main_v17 (F := Ideal) x0 x1 x2 x5 x6 (ix3 b s d)
      = val_main_v11 (F := Ideal) x0 x1 x2 x5 x6 (ix3 b s d) - mean fun d => val_main_v11 (F := Ideal) x0 x1 x2 x5 x6 (ix3 b s d) := by
  rw [val_main_v17_apply, val_main_v16_apply]
  have e : idx_main_v16 (ix3 b s d) = ix3 b s 0 := funext fun a => Fin.ext (by match a with | ⟨0, _⟩ => rfl | ⟨1, _⟩ => rfl | ⟨2, _⟩ => rfl)
  rw [e, v15_at]
  rfl

/-- The mean square of a row less its mean. -/
theorem v22_at (b : Fin 8) (s : Fin 2048) :
    val_main_v22 (F := Ideal) x0 x1 x2 x5 x6 (ix3 b s 0)
      = mean fun d => val_main_v17 (F := Ideal) x0 x1 x2 x5 x6 (ix3 b s d) * val_main_v17 (F := Ideal) x0 x1 x2 x5 x6 (ix3 b s d) := by
  rw [val_main_v22_apply, val_main_v20_apply, val_main_v21_apply, val_main_cst_3_apply, val_main_v19_apply, val_main_cst_2_apply]
  have e : ∀ k, idx_main_v19 (idx_main_v20 (ix3 b s 0)) k = ix3 b s k := fun k => funext fun a => Fin.ext (by match a with | ⟨0, _⟩ => rfl | ⟨1, _⟩ => rfl | ⟨2, _⟩ => rfl)
  simp only [e, val_main_v18_apply]
  show Ideal.div (Ideal.ofBits .f32 0x00000000#32 + _) _ = _
  have z : Ideal.ofBits .f32 0x00000000#32 = 0 := by simp [Ideal.ofBits, Ideal.ieee]
  rw [z, zero_add]
  rfl

/-- The normalised row, from the arguments. -/
def xnorm (b : Fin 8) (s : Fin 2048) (d : Fin 1024) : EReal :=
  lnorm (blend (fun d => x1 (ix2 (row b s) d)) (fun d => x2 (ix3 b 0 d))
      (proj (fun k => x0 (ix2 (row b s) k)) (fun k d => x5 (ix2 k d)) (fun d => x6 (ix1 d))))
    (fun d => x7 (ix1 d)) (fun d => x8 (ix1 d)) d

/-- The normalised row. -/
theorem v35_at (b : Fin 8) (s : Fin 2048) (d : Fin 1024) :
    val_main_v35 (F := Ideal) x0 x1 x2 x5 x6 x7 x8 (ix3 b s d) = xnorm x0 x1 x2 x5 x6 x7 x8 b s d := by
  rw [val_main_v35_apply, val_main_v32_apply, val_main_v34_apply, val_main_v33_apply, val_main_v31_apply, val_main_v30_apply, val_main_v29_apply,
    val_main_v28_apply, val_main_v27_apply, val_main_v26_apply, val_main_v25_apply, val_main_cst_4_apply, val_main_v24_apply, val_main_v23_apply]
  have e23 : idx_main_v23 (ix3 b s d) = ix3 b s 0 := funext fun a => Fin.ext (by match a with | ⟨0, _⟩ => rfl | ⟨1, _⟩ => rfl | ⟨2, _⟩ => rfl)
  have e28 : idx_main_v28 (ix3 b s d) = ix3 b s 0 := e23
  have e30 : idx_main_v30 (idx_main_v31 (ix3 b s d)) = ix1 d := funext fun a => Fin.ext (by match a with | ⟨0, _⟩ => rfl)
  have e33 : idx_main_v33 (idx_main_v34 (ix3 b s d)) = ix1 d := e30
  rw [e23, e28, e30, e33, v22_at, v15_at]
  simp only [v17_at, v11_at]
  rfl

/-- The modulated row. -/
theorem v41_at (b : Fin 8) (s : Fin 2048) (d : Fin 1024) :
    val_main_v41 (F := Ideal) x0 x1 x2 x3 x4 x5 x6 x7 x8 (ix3 b s d)
      = modulate (xnorm x0 x1 x2 x5 x6 x7 x8 b s) (fun d => x4 (ix3 b 0 d)) (fun d => x3 (ix3 b 0 d)) d := by
  rw [val_main_v41_apply, val_main_v40_apply, val_main_v39_apply, val_main_v38_apply, val_main_v37_apply, val_main_v36_apply, val_main_cst_5_apply, v35_at]
  have e38 : idx_main_v38 (ix3 b s d) = ix3 b 0 d := funext fun a => Fin.ext (by match a with | ⟨0, _⟩ => rfl | ⟨1, _⟩ => rfl | ⟨2, _⟩ => rfl)
  have e40 : idx_main_v40 (ix3 b s d) = ix3 b 0 d := e38
  rw [e38, e40]
  rfl

/-- The index of a row of a sequence, among all rows. -/
theorem idx42 (b : Fin 8) (s : Fin 2048) (d : Fin 1024) : idx_main_v42 (ix2 (row b s) d) = ix3 b s d := by
  have hb := b.isLt
  have hs := s.isLt
  have hd := d.isLt
  exact funext fun a => Fin.ext (by
    match a with
    | ⟨0, _⟩ => show ((b.val * 2048 + s.val) * 1024 + d.val) / 2097152 = b.val; omega
    | ⟨1, _⟩ => show ((b.val * 2048 + s.val) * 1024 + d.val) / 1024 % 2048 = s.val; omega
    | ⟨2, _⟩ => show ((b.val * 2048 + s.val) * 1024 + d.val) % 1024 = d.val; omega)

/-- The first result: the normalised row. -/
theorem result0_apply (b : Fin 8) (s : Fin 2048) (d : Fin 1024) :
    val_main_v43 (F := Ideal) x0 x1 x2 x5 x6 x7 x8 (ix2 (row b s) d) = xnorm x0 x1 x2 x5 x6 x7 x8 b s d := by
  rw [val_main_v43_apply]
  have e : idx_main_v43 (ix2 (row b s) d) = ix3 b s d := idx42 b s d
  rw [e, v35_at]

/-- The modulated row, among all rows. -/
theorem v42_at (b : Fin 8) (s : Fin 2048) (d : Fin 1024) :
    val_main_v42 (F := Ideal) x0 x1 x2 x3 x4 x5 x6 x7 x8 (ix2 (row b s) d)
      = modulate (xnorm x0 x1 x2 x5 x6 x7 x8 b s) (fun d => x4 (ix3 b 0 d)) (fun d => x3 (ix3 b 0 d)) d := by
  rw [val_main_v42_apply, idx42, v41_at]

/-- The second result: the modulated row. -/
theorem result1_apply (b : Fin 8) (s : Fin 2048) (d : Fin 1024) :
    val_main_v44 (F := Ideal) x0 x1 x2 x3 x4 x5 x6 x7 x8 (ix2 (row b s) d)
      = modulate (xnorm x0 x1 x2 x5 x6 x7 x8 b s) (fun d => x4 (ix3 b 0 d)) (fun d => x3 (ix3 b 0 d)) d := by
  rw [val_main_v44_apply, v42_at]
  rfl

/-- The third result: the router's products, an expert to a row. -/
theorem result2_apply (e : Fin 256) (b : Fin 8) (s : Fin 2048) :
    val_main_v46 (F := Ideal) x0 x1 x2 x3 x4 x5 x6 x7 x8 x9 (ix2 e (row b s))
      = ∑ k, x9 (ix2 k e) * modulate (xnorm x0 x1 x2 x5 x6 x7 x8 b s) (fun d => x4 (ix3 b 0 d)) (fun d => x3 (ix3 b 0 d)) k := by
  rw [val_main_v46_apply]
  have ei : idx_main_v46 (ix2 e (row b s)) = ix2 (row b s) e := funext fun a => Fin.ext (by match a with | ⟨0, _⟩ => rfl | ⟨1, _⟩ => rfl)
  rw [ei, val_main_v45_apply]
  refine Finset.sum_congr rfl fun k _ => ?_
  have el : lidx_main_v45 (ix2 (row b s) e) k = ix2 (row b s) k := funext fun a => Fin.ext (by match a with | ⟨0, _⟩ => rfl | ⟨1, _⟩ => rfl)
  have er : ridx_main_v45 (ix2 (row b s) e) k = ix2 k e := funext fun a => Fin.ext (by match a with | ⟨0, _⟩ => rfl | ⟨1, _⟩ => rfl)
  rw [el, er, v42_at, mul_comm]

end Cert.AttnOutRefIdeal.Read

end
-- ==== Proof.NormReal.lean ====
/-
  The normalisation of a row of reals is a row of reals.
-/
module

public import proofs.«01_k».proof.Proof.Norm
public import proofs.«01_k».proof.Proof.Online

@[expose] public section

noncomputable section

namespace Cert.LayerNorm

open Idealize.ShloMosaic

/-- An extended real that is a real. -/
def IsReal (x : EReal) : Prop := ∃ r : ℝ, x = r

theorem IsReal.of_ne {x : EReal} (h : x ≠ ⊤ ∧ x ≠ ⊥) : IsReal x := ⟨x.toReal, (EReal.coe_toReal h.1 h.2).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sum {n : ℕ} {f : Fin n → EReal} (h : ∀ k, IsReal (f k)) : IsReal (∑ k, f k) := by
  choose g hg using h
  exact ⟨∑ k, g k, by rw [Online.coe_sum]; exact Finset.sum_congr rfl fun k _ => hg k⟩

/-- A real less itself is zero. -/
theorem IsReal.sub_self {x : EReal} (hx : IsReal x) : x - x = 0 := by
  obtain ⟨a, rfl⟩ := hx
  rw [← EReal.coe_sub, _root_.sub_self, EReal.coe_zero]

/-- The row length is a positive real. -/
theorem len_eq : Ideal.ofBits .f32 0x44800000#32 = ((1024 : ℝ) : EReal) := by
  simp [Ideal.ofBits, Ideal.ieee]
  rw [← EReal.coe_mul]
  norm_num

/-- The small constant is a positive real. -/
theorem eps_eq : ∃ r : ℝ, 0 < r ∧ Ideal.ofBits .f32 0x3727C5AC#32 = (r : EReal) := by
  refine ⟨_, ?_, by simp [Ideal.ofBits, Ideal.ieee]; rfl⟩
  positivity

/-- The residual's constant is a real. -/
theorem alpha_real : IsReal (Ideal.ofBits .f32 0x3FB504F3#32) := by
  refine ⟨_, by simp [Ideal.ofBits, Ideal.ieee]; rfl⟩

/-- The mean of a row of reals. -/
theorem mean_coe (y : Fin 1024 → ℝ) : mean (fun k => (y k : EReal)) = (((∑ k, y k) / 1024 : ℝ) : EReal) := by
  unfold mean
  rw [len_eq, ← Online.coe_sum]
  unfold Ideal.div
  rw [if_neg (by norm_num), ← EReal.coe_inv, ← EReal.coe_mul, div_eq_mul_inv]

/-- The inverse square root of a positive real. -/
theorem rsqrt_real {r : ℝ} (h : 0 < r) : IsReal (Ideal.rsqrt (r : EReal)) := by
  refine ⟨(Real.sqrt r)⁻¹, ?_⟩
  show (if r < 0 then ⊥ else if r = 0 then ⊤ else (((Real.sqrt r)⁻¹ : ℝ) : EReal)) = _
  rw [if_neg h.not_gt, if_neg h.ne']

/-- The normalisation of a row of reals, with real scale and offset. -/
theorem lnorm_real {y g b : Fin 1024 → EReal} (hy : ∀ k, IsReal (y k)) (hg : ∀ k, IsReal (g k)) (hb : ∀ k, IsReal (b k)) (d : Fin 1024) :
    IsReal (lnorm y g b d) := by
  choose z hz using hy
  obtain rfl : y = fun k => (z k : EReal) := funext hz
  unfold lnorm
  rw [mean_coe]
  obtain ⟨e, he, hee⟩ := eps_eq
  have hs : (fun k => ((z k : EReal) - ((∑ k, z k) / 1024 : ℝ)) * ((z k : EReal) - ((∑ k, z k) / 1024 : ℝ)))
      = fun k => (((z k - (∑ k, z k) / 1024) * (z k - (∑ k, z k) / 1024) : ℝ) : EReal) := funext fun k => by
    rw [EReal.coe_mul, EReal.coe_sub]
  rw [hs, mean_coe, hee, ← EReal.coe_add]
  have hp : 0 < (∑ k, (z k - (∑ k, z k) / 1024) * (z k - (∑ k, z k) / 1024)) / 1024 + e :=
    add_pos_of_nonneg_of_pos (div_nonneg (Finset.sum_nonneg fun k _ => mul_self_nonneg _) (by norm_num)) he
  exact (((IsReal.sub ⟨_, rfl⟩ ⟨_, rfl⟩).mul (rsqrt_real hp)).mul (hg d)).add (hb d)

end Cert.LayerNorm

end
-- ==== Proof.AttnTop.lean ====
/-
  The output projection's three result arrays: every grid point's rows are the reference's, and the rows cover the arrays.
-/
module

public import proofs.«01_k».proof.Defs
public import proofs.«01_k».proof.Proof.Gen.AttnOutIdeal.Value
public import proofs.«01_k».proof.Proof.AttnPay
public import proofs.«01_k».proof.Proof.AttnRef
public import proofs.«01_k».proof.Proof.NormReal
public import proofs.«01_k».proof.Proof.MobaTop
public import Idealize.ShloMosaic.Lib.ReduceAll
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.AttnOutIdeal.Value

open Cert.AttnOutIdeal Cert.AttnOutIdeal.Gen Cert.AttnOutIdeal.Own
open Cert.AttnOutRefIdeal.Read (row)
open Cert.LayerNorm
open Cert.MobaIdeal.Value (real_of_cmp)

/-- The sequence of a grid point. -/
abbrev tb (t : Fin cfg0.N) : Fin 8 := ⟨t.val / 8, by have h : cfg0.N = 64 := N_0; have := t.isLt; omega⟩
/-- A row of a grid point, in its sequence. -/
abbrev ts (t : Fin cfg0.N) (r : Fin 256) : Fin 2048 := ⟨t.val % 8 * 256 + r.val, by have := r.isLt; omega⟩

/-- The windows' blocks at every grid point. -/
theorem idx_eq : ∀ t : Fin grid0.N,
    win0_0.index t = ![t.val, 0] ∧ win0_1.index t = ![t.val, 0] ∧ win0_2.index t = ![t.val / 8, 0, 0] ∧ win0_3.index t = ![t.val / 8, 0, 0]
    ∧ win0_4.index t = ![t.val / 8, 0, 0] ∧ win0_5.index t = ![0, 0] ∧ win0_6.index t = ![0, 0] ∧ win0_7.index t = ![0, 0] ∧ win0_8.index t = ![0, 0]
    ∧ win0_9.index t = ![0, 0] ∧ win0_10.index t = ![0, 0]
    ∧ win0_11.index t = ![t.val, 0] ∧ win0_12.index t = ![t.val, 0] ∧ win0_13.index t = ![0, t.val] := by
  decide +kernel

variable (m : (ℓ : Loc nD τ sig) → Buf (Elt Ideal) ℓ) (c : Dev nD)

/-- The attention rows' block at an element. -/
theorem iblk0_apply (t : Fin cfg0.N) (r : Fin 256) (k : Fin 1024) :
    (iblk m c 0 t : Vec Ideal S256x1024 .bf16) (ix2 r k) = m ((c : Thread nD τ).loc main_arg0) (ix2 (row (tb t) (ts t r)) k) := by
  have h := (idx_eq t).1
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 256 + 1 * r.val = t.val / 8 * 2048 + (t.val % 8 * 256 + r.val); rw [h]; show t.val * 256 + _ = _; omega
  | ⟨1, _⟩ => show win0_0.index t 1 * 1024 + 1 * k.val = k.val; rw [h]; show 0 * 1024 + _ = _; omega

/-- The residual rows' block at an element. -/
theorem iblk1_apply (t : Fin cfg0.N) (r : Fin 256) (k : Fin 1024) :
    (iblk m c 1 t : Vec Ideal S256x1024 .f32) (ix2 r k) = m ((c : Thread nD τ).loc main_arg1) (ix2 (row (tb t) (ts t r)) k) := by
  have h := (idx_eq t).2.1
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t 0 * 256 + 1 * r.val = t.val / 8 * 2048 + (t.val % 8 * 256 + r.val); rw [h]; show t.val * 256 + _ = _; omega
  | ⟨1, _⟩ => show win0_1.index t 1 * 1024 + 1 * k.val = k.val; rw [h]; show 0 * 1024 + _ = _; omega

/-- The gate's block at an element. -/
theorem iblk2_apply (t : Fin cfg0.N) (k : Fin 1024) :
    (iblk m c 2 t : Vec Ideal S1x1x1024 .f32) (ix3 0 0 k) = m ((c : Thread nD τ).loc main_arg2) (ix3 (tb t) 0 k) := by
  have h := (idx_eq t).2.2.1
  unfold iblk
  rw [View.read_apply]
  show V m c main_arg2 _ = _
  rw [V_main_arg2]
  refine congrArg (m ((c : Thread nD τ).loc main_arg2)) (funext fun a => Fin.ext ?_)
  match a with
  | ⟨0, _⟩ => show win0_2.index t 0 * 1 + 1 * 0 = t.val / 8; rw [h]; show t.val / 8 * 1 + _ = _; omega
  | ⟨1, _⟩ => show win0_2.index t 1 * 1 + 1 * 0 = 0; rw [h]; rfl
  | ⟨2, _⟩ => show win0_2.index t 2 * 1024 + 1 * k.val = k.val; rw [h]; show 0 * 1024 + _ = _; omega

/-- The shift's block at an element. -/
theorem iblk3_apply (t : Fin cfg0.N) (k : Fin 1024) :
    (iblk m c 3 t : Vec Ideal S1x1x1024 .f32) (ix3 0 0 k) = m ((c : Thread nD τ).loc main_arg3) (ix3 (tb t) 0 k) := by
  have h := (idx_eq t).2.2.2.1
  unfold iblk
  rw [View.read_apply]
  show V m c main_arg3 _ = _
  rw [V_main_arg3]
  refine congrArg (m ((c : Thread nD τ).loc main_arg3)) (funext fun a => Fin.ext ?_)
  match a with
  | ⟨0, _⟩ => show win0_3.index t 0 * 1 + 1 * 0 = t.val / 8; rw [h]; show t.val / 8 * 1 + _ = _; omega
  | ⟨1, _⟩ => show win0_3.index t 1 * 1 + 1 * 0 = 0; rw [h]; rfl
  | ⟨2, _⟩ => show win0_3.index t 2 * 1024 + 1 * k.val = k.val; rw [h]; show 0 * 1024 + _ = _; omega

/-- The scale's block at an element. -/
theorem iblk4_apply (t : Fin cfg0.N) (k : Fin 1024) :
    (iblk m c 4 t : Vec Ideal S1x1x1024 .f32) (ix3 0 0 k) = m ((c : Thread nD τ).loc main_arg4) (ix3 (tb t) 0 k) := by
  have h := (idx_eq t).2.2.2.2.1
  unfold iblk
  rw [View.read_apply]
  show V m c main_arg4 _ = _
  rw [V_main_arg4]
  refine congrArg (m ((c : Thread nD τ).loc main_arg4)) (funext fun a => Fin.ext ?_)
  match a with
  | ⟨0, _⟩ => show win0_4.index t 0 * 1 + 1 * 0 = t.val / 8; rw [h]; show t.val / 8 * 1 + _ = _; omega
  | ⟨1, _⟩ => show win0_4.index t 1 * 1 + 1 * 0 = 0; rw [h]; rfl
  | ⟨2, _⟩ => show win0_4.index t 2 * 1024 + 1 * k.val = k.val; rw [h]; show 0 * 1024 + _ = _; omega

/-- The projection's weights' block at an element. -/
theorem iblk5_apply (t : Fin cfg0.N) (k d : Fin 1024) :
    (iblk m c 5 t : Vec Ideal S1024x1024 .bf16) (ix2 k d) = m ((c : Thread nD τ).loc main_arg5) (ix2 k d) := by
  blk_ext! [iblk, V, idx_eq t]

/-- The projection's offset at an element. -/
theorem iblk6_apply (t : Fin cfg0.N) (k : Fin 1024) :
    (iblk m c 6 t : Vec Ideal S1x1024 .f32) (ix2 0 k) = m ((c : Thread nD τ).loc main_arg6) (ix1 k) := by
  blk_ext! [iblk, V, idx_eq t]

/-- The normalisation's scale at an element. -/
theorem iblk7_apply (t : Fin cfg0.N) (k : Fin 1024) :
    (iblk m c 7 t : Vec Ideal S1x1024 .f32) (ix2 0 k) = m ((c : Thread nD τ).loc main_arg7) (ix1 k) := by
  blk_ext! [iblk, V, idx_eq t]

/-- The normalisation's offset at an element. -/
theorem iblk8_apply (t : Fin cfg0.N) (k : Fin 1024) :
    (iblk m c 8 t : Vec Ideal S1x1024 .f32) (ix2 0 k) = m ((c : Thread nD τ).loc main_arg8) (ix1 k) := by
  blk_ext! [iblk, V, idx_eq t]

/-- A weight of the router. -/
abbrev router (k : Fin 1024) (e : Fin 256) : EReal := m ((c : Thread nD τ).loc main_arg9) (ix2 k e)

/-- The router's weights' leading part, transposed, at an element. -/
theorem iblk9_apply (t : Fin cfg0.N) (e : Fin 256) (k : Fin 1024) :
    (iblk m c 9 t : Vec Ideal S256x1024 .bf16) (ix2 e k) = router m c k e := by
  blk_ext! [iblk, V, idx_eq t]

/-- The rest of the router's weights, transposed, at an element. -/
theorem iblk10_apply (t : Fin cfg0.N) (e : Fin 256) (k : Fin 1024) :
    (iblk m c 10 t : Vec Ideal S256x1024 .bf16) (ix2 e k) = router m c k e - router m c k e := by
  have h := (idx_eq t).2.2.2.2.2.2.2.2.2.2.1
  unfold iblk
  rw [View.read_apply]
  show V m c main_v4 _ = _
  entry_read
  pointwise
  have h0 : (win0_10.blk t).view.emb (ix2 e k) 0 = e := Fin.ext (by
    show win0_10.index t 0 * 256 + 1 * e.val = e.val; rw [h]; show 0 * 256 + _ = _; omega)
  have h1 : (win0_10.blk t).view.emb (ix2 e k) 1 = k := Fin.ext (by
    show win0_10.index t 1 * 1024 + 1 * k.val = k.val; rw [h]; show 0 * 1024 + _ = _; omega)
  exact congrArg₂ (fun (a : Fin 1024) (b : Fin 256) => router m c a b - router m c a b) h1 h0

section out

variable (x0 : Vec Ideal S256x1024 .bf16) (x1 : Vec Ideal S256x1024 .f32) (x2 x3 x4 : Vec Ideal S1x1x1024 .f32) (x5 : Vec Ideal S1024x1024 .bf16)
    (x6 x7 x8 : Vec Ideal S1x1024 .f32) (x9 x10 : Vec Ideal S256x1024 .bf16)

/-- What a grid point stores of the normalised rows, as a payload of its blocks. -/
theorem out11_eq : out0_11 (F := Ideal) x0 x1 x2 x3 x4 x5 x6 x7 x8 x9 x10 = k0_pay1 (k0_pay5 x8) (k0_pay6 x0 x5 x6 x1 x2) (k0_pay7 x7) := by
  unfold out0_11 k0_pay8 k0_pay9 k0_pay10
  frame_out

/-- What a grid point stores of the modulated rows, as a payload of its blocks. -/
theorem out12_eq : out0_12 (F := Ideal) x0 x1 x2 x3 x4 x5 x6 x7 x8 x9 x10 = k0_pay3 (k0_pay5 x8) (k0_pay6 x0 x5 x6 x1 x2) (k0_pay7 x7) x4 x3 := by
  unfold out0_12 k0_pay8 k0_pay9 k0_pay10
  frame_out

/-- What a grid point stores of the router's products, as a payload of its blocks. -/
theorem out13_eq : out0_13 (F := Ideal) x0 x1 x2 x3 x4 x5 x6 x7 x8 x9 x10
    = k0_pay4 (k0_pay5 x8) (k0_pay6 x0 x5 x6 x1 x2) (k0_pay7 x7) x4 x3 x9 x10 := by
  unfold out0_13 k0_pay8 k0_pay9 k0_pay10
  frame_out

end out

/-! ## The precondition -/

/-- Every argument's elements are reals. -/
structure Reals : Prop where
  h0 : ∀ i : S16384x1024.Idx, IsReal (m ((c : Thread nD τ).loc main_arg0) i)
  h1 : ∀ i : S16384x1024.Idx, IsReal (m ((c : Thread nD τ).loc main_arg1) i)
  h2 : ∀ i : S8x1x1024.Idx, IsReal (m ((c : Thread nD τ).loc main_arg2) i)
  h3 : ∀ i : S8x1x1024.Idx, IsReal (m ((c : Thread nD τ).loc main_arg3) i)
  h4 : ∀ i : S8x1x1024.Idx, IsReal (m ((c : Thread nD τ).loc main_arg4) i)
  h5 : ∀ i : S1024x1024.Idx, IsReal (m ((c : Thread nD τ).loc main_arg5) i)
  h6 : ∀ i : S1024.Idx, IsReal (m ((c : Thread nD τ).loc main_arg6) i)
  h7 : ∀ i : S1024.Idx, IsReal (m ((c : Thread nD τ).loc main_arg7) i)
  h8 : ∀ i : S1024.Idx, IsReal (m ((c : Thread nD τ).loc main_arg8) i)
  h9 : ∀ i : S1024x256.Idx, IsReal (m ((c : Thread nD τ).loc main_arg9) i)

/-- The precondition, element by element. -/
theorem reals_of_pre [hPre : Cert.Pre_attn_out_finite.Facts] (h : Cert.Pre_AttnOutIdeal_attn_out_finite m) : Reals m c := by
  have h0 := h c
  dsimp only [Cert.Pre_attn_out_finite.fn, Cert.Pre_attn_out_finite.fn_part1, Cert.Pre_attn_out_finite.fn_part2, Cert.Pre_attn_out_finite.fn_part3] at h0
  have h1 := congrFun h0 (fun a => a.elim0)
  have sp := show ∀ a b : BitVec 1, IntOp.andi a b = 1#1 → a = 1#1 ∧ b = 1#1 by decide
  obtain ⟨h1, a9⟩ := sp _ _ h1
  obtain ⟨h1, a8⟩ := sp _ _ h1
  obtain ⟨h1, a7⟩ := sp _ _ h1
  obtain ⟨h1, a6⟩ := sp _ _ h1
  obtain ⟨h1, a5⟩ := sp _ _ h1
  obtain ⟨h1, a4⟩ := sp _ _ h1
  obtain ⟨h1, a3⟩ := sp _ _ h1
  obtain ⟨h1, a2⟩ := sp _ _ h1
  obtain ⟨a0, a1⟩ := sp _ _ h1
  exact ⟨fun i => .of_ne (real_of_cmp _ (Host.reduce_andi_all _ _ _ _ _ a0 i)), fun i => .of_ne (real_of_cmp _ (Host.reduce_andi_all _ _ _ _ _ a1 i)),
    fun i => .of_ne (real_of_cmp _ (Host.reduce_andi_all _ _ _ _ _ a2 i)), fun i => .of_ne (real_of_cmp _ (Host.reduce_andi_all _ _ _ _ _ a3 i)),
    fun i => .of_ne (real_of_cmp _ (Host.reduce_andi_all _ _ _ _ _ a4 i)), fun i => .of_ne (real_of_cmp _ (Host.reduce_andi_all _ _ _ _ _ a5 i)),
    fun i => .of_ne (real_of_cmp _ (Host.reduce_andi_all _ _ _ _ _ a6 i)), fun i => .of_ne (real_of_cmp _ (Host.reduce_andi_all _ _ _ _ _ a7 i)),
    fun i => .of_ne (real_of_cmp _ (Host.reduce_andi_all _ _ _ _ _ a8 i)), fun i => .of_ne (real_of_cmp _ (Host.reduce_andi_all _ _ _ _ _ a9 i))⟩

/-! ## A grid point's rows are the reference's -/

/-- The reference's normalised row, of the kernel's arguments. -/
abbrev xrow (b : Fin 8) (s : Fin 2048) : Fin 1024 → EReal :=
  Cert.AttnOutRefIdeal.Read.xnorm (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) b s

/-- The reference's modulated row, of the kernel's arguments. -/
abbrev hrow (b : Fin 8) (s : Fin 2048) : Fin 1024 → EReal :=
  modulate (xrow m c b s) (fun d => m ((c : Thread nD τ).loc main_arg4) (ix3 b 0 d)) (fun d => m ((c : Thread nD τ).loc main_arg3) (ix3 b 0 d))

/-- The reference's first result, of the kernel's arguments. -/
def result0 : Buf (Elt Ideal) ((c : Thread nD τ).loc main_v9_0) :=
  Cert.AttnOutRefIdeal.Read.val_main_v43 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8))

/-- The reference's second result, of the kernel's arguments. -/
def result1 : Buf (Elt Ideal) ((c : Thread nD τ).loc main_v9_1) :=
  Cert.AttnOutRefIdeal.Read.val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- The reference's third result, of the kernel's arguments. -/
def result2 : Buf (Elt Ideal) ((c : Thread nD τ).loc main_v9_2) :=
  Cert.AttnOutRefIdeal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- The normalised row a grid point computes. -/
theorem pay1_eq (t : Fin cfg0.N) (r : Fin 256) (d : Fin 1024) :
    k0_pay1 (F := Ideal) (k0_pay5 (iblk m c 8 t)) (k0_pay6 (iblk m c 0 t) (iblk m c 5 t) (iblk m c 6 t) (iblk m c 1 t) (iblk m c 2 t)) (k0_pay7 (iblk m c 7 t)) (ix2 r d)
      = xrow m c (tb t) (ts t r) d := by
  rw [pay1_apply]
  unfold xn
  simp only [iblk0_apply, iblk1_apply, iblk2_apply, iblk5_apply, iblk6_apply, iblk7_apply, iblk8_apply]
  rfl

/-- The modulated row a grid point computes. -/
theorem pay2_eq (t : Fin cfg0.N) (r : Fin 256) (d : Fin 1024) :
    k0_pay2 (F := Ideal) (k0_pay5 (iblk m c 8 t)) (k0_pay6 (iblk m c 0 t) (iblk m c 5 t) (iblk m c 6 t) (iblk m c 1 t) (iblk m c 2 t)) (k0_pay7 (iblk m c 7 t))
        (iblk m c 4 t) (iblk m c 3 t) (ix2 r d)
      = hrow m c (tb t) (ts t r) d := by
  rw [pay2_apply]
  simp only [pay1_eq, iblk3_apply, iblk4_apply]

/-- The modulated rows are rows of reals. -/
theorem hrow_real (h : Reals m c) (b : Fin 8) (s : Fin 2048) (d : Fin 1024) : IsReal (hrow m c b s d) := by
  refine ((lnorm_real (fun k => ?_) (fun k => h.h7 _) (fun k => h.h8 _) d).mul (.add ⟨1, ?_⟩ (h.h4 _))).add (h.h3 _)
  · exact (alpha_real.mul (h.h1 _)).add ((h.h2 _).mul ((IsReal.sum fun j => (h.h0 _).mul (h.h5 _)).add (h.h6 _)))
  · rw [Idealize.ShloMosaic.Ideal.ofBits_one_f32]; rfl

/-- What a grid point stores of the normalised rows, at an element. -/
theorem point0 (t : Fin cfg0.N) (r : Fin 256) (d : Fin 1024) :
    out0_11 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r d) = result0 m c (ix2 (row (tb t) (ts t r)) d) := by
  rw [out11_eq, pay1_eq]
  exact (Cert.AttnOutRefIdeal.Read.result0_apply _ _ _ _ _ _ _ (tb t) (ts t r) d).symm

/-- What a grid point stores of the modulated rows, at an element. -/
theorem point1 (t : Fin cfg0.N) (r : Fin 256) (d : Fin 1024) :
    out0_12 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r d) = result1 m c (ix2 (row (tb t) (ts t r)) d) := by
  rw [out12_eq, pay3_apply, pay2_eq]
  exact (Cert.AttnOutRefIdeal.Read.result1_apply _ _ _ _ _ _ _ _ _ (tb t) (ts t r) d).symm

/-- What a grid point stores of the router's products, at an element: the rest of the row and the rest of the weights are zero. -/
theorem point2 (h : Reals m c) (t : Fin cfg0.N) (e r : Fin 256) :
    out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 e r) = result2 m c (ix2 e (row (tb t) (ts t r))) := by
  rw [out13_eq, pay4_apply]
  simp only [pay2_eq, iblk9_apply, iblk10_apply]
  have e1 : ∀ k, hrow m c (tb t) (ts t r) k - hrow m c (tb t) (ts t r) k = 0 := fun k => (hrow_real m c h (tb t) (ts t r) k).sub_self
  have e2 : ∀ k, router m c k e - router m c k e = 0 := fun k => (h.h9 (ix2 k e)).sub_self
  simp only [e1, e2, mul_zero, zero_mul, Finset.sum_const_zero, add_zero]
  exact (Cert.AttnOutRefIdeal.Read.result2_apply _ _ _ _ _ _ _ _ _ _ e (tb t) (ts t r)).symm

/-- A grid point writes back its rows of the reference's result. -/
theorem flushed11_eq (t : Fin cfg0.N) : (dats m 0 c).flushed 11 t = ((cfg0.win 11).blk t).view.read (Elt Ideal) (result0 m c) := by
  have e := (idx_eq t).2.2.2.2.2.2.2.2.2.2.2.1
  rw [flushed11]
  have h : ∀ j : S256x1024.Idx, out0_11 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) j
      = ((cfg0.win 11).blk t).view.read (Elt Ideal) (result0 m c) j := fun j => by
    obtain ⟨r, d, rfl⟩ : ∃ (r : Fin 256) (d : Fin 1024), j = ix2 r d := ⟨j 0, j 1, funext fun a => by match a with | ⟨0, _⟩ => rfl | ⟨1, _⟩ => rfl⟩
    rw [View.read_apply]
    refine (point0 m c t r d).trans (congrArg (result0 m c) (funext fun a => Fin.ext ?_))
    match a with
    | ⟨0, _⟩ => show t.val / 8 * 2048 + (t.val % 8 * 256 + r.val) = win0_11.index t 0 * 256 + 1 * r.val; rw [e]; show _ = t.val * 256 + _; omega
    | ⟨1, _⟩ => show d.val = win0_11.index t 1 * 1024 + 1 * d.val; rw [e]; show _ = 0 * 1024 + _; omega
  exact funext h

/-- The kernel's result array is the reference's. -/
theorem final11 : (dats m 0 c).arrAt 11 cfg0.N = result0 m c :=
  (dats m 0 c).arrAt_eq_of_cover 11 (result0 m c) (fun t _ => flushed11_eq m c t) fun i => by
    have h0 : (i 0 : Nat) < 16384 := (i 0).isLt
    have h1 : (i 1 : Nat) < 1024 := (i 1).isLt
    have hN : cfg0.N = 64 := N_0
    let t : Fin cfg0.N := ⟨(i 0 : Nat) / 256, by omega⟩
    have ht : t.val = (i 0 : Nat) / 256 := rfl
    have e := (idx_eq t).2.2.2.2.2.2.2.2.2.2.2.1
    refine ⟨t, flush0_11 t, ?_⟩
    show i ∈ ((View.whole main_v9_0).slice (win0_11.rect t)).set
    rw [View.set_slice_whole, Rect.mem_set_unit]
    intro a
    match a with
    | ⟨0, _⟩ => show win0_11.index t 0 * 256 ≤ (i 0 : Nat) ∧ (i 0 : Nat) < win0_11.index t 0 * 256 + 256
                rw [e]; show t.val * 256 ≤ _ ∧ _ < t.val * 256 + 256; omega
    | ⟨1, _⟩ => show win0_11.index t 1 * 1024 ≤ (i 1 : Nat) ∧ (i 1 : Nat) < win0_11.index t 1 * 1024 + 1024
                rw [e]; show 0 * 1024 ≤ _ ∧ _ < 0 * 1024 + 1024; omega

/-- A grid point writes back its rows of the reference's result. -/
theorem flushed12_eq (t : Fin cfg0.N) : (dats m 0 c).flushed 12 t = ((cfg0.win 12).blk t).view.read (Elt Ideal) (result1 m c) := by
  have e := (idx_eq t).2.2.2.2.2.2.2.2.2.2.2.2.1
  rw [flushed12]
  have h : ∀ j : S256x1024.Idx, out0_12 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) j
      = ((cfg0.win 12).blk t).view.read (Elt Ideal) (result1 m c) j := fun j => by
    obtain ⟨r, d, rfl⟩ : ∃ (r : Fin 256) (d : Fin 1024), j = ix2 r d := ⟨j 0, j 1, funext fun a => by match a with | ⟨0, _⟩ => rfl | ⟨1, _⟩ => rfl⟩
    rw [View.read_apply]
    refine (point1 m c t r d).trans (congrArg (result1 m c) (funext fun a => Fin.ext ?_))
    match a with
    | ⟨0, _⟩ => show t.val / 8 * 2048 + (t.val % 8 * 256 + r.val) = win0_12.index t 0 * 256 + 1 * r.val; rw [e]; show _ = t.val * 256 + _; omega
    | ⟨1, _⟩ => show d.val = win0_12.index t 1 * 1024 + 1 * d.val; rw [e]; show _ = 0 * 1024 + _; omega
  exact funext h

/-- The kernel's result array is the reference's. -/
theorem final12 : (dats m 0 c).arrAt 12 cfg0.N = result1 m c :=
  (dats m 0 c).arrAt_eq_of_cover 12 (result1 m c) (fun t _ => flushed12_eq m c t) fun i => by
    have h0 : (i 0 : Nat) < 16384 := (i 0).isLt
    have h1 : (i 1 : Nat) < 1024 := (i 1).isLt
    have hN : cfg0.N = 64 := N_0
    let t : Fin cfg0.N := ⟨(i 0 : Nat) / 256, by omega⟩
    have ht : t.val = (i 0 : Nat) / 256 := rfl
    have e := (idx_eq t).2.2.2.2.2.2.2.2.2.2.2.2.1
    refine ⟨t, flush0_12 t, ?_⟩
    show i ∈ ((View.whole main_v9_1).slice (win0_12.rect t)).set
    rw [View.set_slice_whole, Rect.mem_set_unit]
    intro a
    match a with
    | ⟨0, _⟩ => show win0_12.index t 0 * 256 ≤ (i 0 : Nat) ∧ (i 0 : Nat) < win0_12.index t 0 * 256 + 256
                rw [e]; show t.val * 256 ≤ _ ∧ _ < t.val * 256 + 256; omega
    | ⟨1, _⟩ => show win0_12.index t 1 * 1024 ≤ (i 1 : Nat) ∧ (i 1 : Nat) < win0_12.index t 1 * 1024 + 1024
                rw [e]; show 0 * 1024 ≤ _ ∧ _ < 0 * 1024 + 1024; omega

/-- A grid point writes back its columns of the router's products. -/
theorem flushed13_eq (h : Reals m c) (t : Fin cfg0.N) : (dats m 0 c).flushed 13 t = ((cfg0.win 13).blk t).view.read (Elt Ideal) (result2 m c) := by
  have e := (idx_eq t).2.2.2.2.2.2.2.2.2.2.2.2.2
  rw [flushed13]
  have hp : ∀ j : S256x256.Idx, out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) j
      = ((cfg0.win 13).blk t).view.read (Elt Ideal) (result2 m c) j := fun j => by
    obtain ⟨x, r, rfl⟩ : ∃ (x : Fin 256) (r : Fin 256), j = ix2 x r := ⟨j 0, j 1, funext fun a => by match a with | ⟨0, _⟩ => rfl | ⟨1, _⟩ => rfl⟩
    rw [View.read_apply]
    refine (point2 m c h t x r).trans (congrArg (result2 m c) (funext fun a => Fin.ext ?_))
    match a with
    | ⟨0, _⟩ => show x.val = win0_13.index t 0 * 256 + 1 * x.val; rw [e]; show _ = 0 * 256 + _; omega
    | ⟨1, _⟩ => show t.val / 8 * 2048 + (t.val % 8 * 256 + r.val) = win0_13.index t 1 * 256 + 1 * r.val; rw [e]; show _ = t.val * 256 + _; omega
  exact funext hp

/-- The kernel's array of the router's products is the reference's. -/
theorem final13 (h : Reals m c) : (dats m 0 c).arrAt 13 cfg0.N = result2 m c :=
  (dats m 0 c).arrAt_eq_of_cover 13 (result2 m c) (fun t _ => flushed13_eq m c h t) fun i => by
    have h0 : (i 0 : Nat) < 256 := (i 0).isLt
    have h1 : (i 1 : Nat) < 16384 := (i 1).isLt
    have hN : cfg0.N = 64 := N_0
    let t : Fin cfg0.N := ⟨(i 1 : Nat) / 256, by omega⟩
    have ht : t.val = (i 1 : Nat) / 256 := rfl
    have e := (idx_eq t).2.2.2.2.2.2.2.2.2.2.2.2.2
    refine ⟨t, flush0_13 t, ?_⟩
    show i ∈ ((View.whole main_v9_2).slice (win0_13.rect t)).set
    rw [View.set_slice_whole, Rect.mem_set_unit]
    intro a
    match a with
    | ⟨0, _⟩ => show win0_13.index t 0 * 256 ≤ (i 0 : Nat) ∧ (i 0 : Nat) < win0_13.index t 0 * 256 + 256
                rw [e]; show 0 * 256 ≤ _ ∧ _ < 0 * 256 + 256; omega
    | ⟨1, _⟩ => show win0_13.index t 1 * 256 ≤ (i 1 : Nat) ∧ (i 1 : Nat) < win0_13.index t 1 * 256 + 256
                rw [e]; show t.val * 256 ≤ _ ∧ _ < t.val * 256 + 256; omega

end Cert.AttnOutIdeal.Value

namespace Cert.Proof

/-- The output projection's reference runs and keeps its arguments: it declares no semaphore. -/
theorem attn_ref_frame : Cert.quiescent_AttnOutRefIdeal := fun m ρ _ =>
  (θ_run _ _ _).mono (fun r h => ⟨fun c => (h c).2.2.2, Idealize.ShloMosaic.sem_eq_zero_of_no_sems (by decide) r.2⟩) (Cert.AttnOutRefIdeal.Value.run m ρ)

/-- The output projection's kernel and its reference end with the same results. -/
theorem attn_algebraic [Cert.Pre_attn_out_finite.Facts] : Cert.algebraic_AttnOutIdeal_AttnOutRefIdeal_pre_attn_out_finite := by
  intro m g m' g' hpre hargs
  refine ⟨fun c => Cert.AttnOutIdeal.Value.result0 m c, fun c => Cert.AttnOutIdeal.Value.result1 m c, fun c => Cert.AttnOutIdeal.Value.result2 m c, ?_, ?_⟩
  · refine (θ_run _ _ _).mono (fun r h c => ?_) (Cert.AttnOutIdeal.Value.run_blocks m g)
    exact ⟨(h c).1.trans (Cert.AttnOutIdeal.Value.final11 m c), (h c).2.1.trans (Cert.AttnOutIdeal.Value.final12 m c),
      (h c).2.2.1.trans (Cert.AttnOutIdeal.Value.final13 m c (Cert.AttnOutIdeal.Value.reals_of_pre m c hpre)), (h c).2.2.2⟩
  · refine (θ_run _ _ _).mono (fun r h c => ?_) (Cert.AttnOutRefIdeal.Value.run m' g')
    obtain ⟨h0, h1, h2, h3, h4, h5, h6, h7, h8, h9⟩ := hargs c
    refine ⟨(h c).1.trans ?_, (h c).2.1.trans ?_, (h c).2.2.1.trans ?_, (h c).2.2.2⟩
    · rw [Cert.AttnOutRefIdeal.Read.val_main_v43_eq, h0, h1, h2, h5, h6, h7, h8]
      rfl
    · rw [Cert.AttnOutRefIdeal.Read.val_main_v44_eq, h0, h1, h2, h3, h4, h5, h6, h7, h8]
      rfl
    · rw [Cert.AttnOutRefIdeal.Read.val_main_v46_eq, h0, h1, h2, h3, h4, h5, h6, h7, h8, h9]
      rfl

end Cert.Proof

end
-- ==== Proof.FfnPay.lean ====
/-
  The shared expert's values at an index: its gated layer, the residual sum and the normalisation of a row.
-/
module

public import proofs.«01_k».proof.Proof.Gen.FfnOutIdeal.Skeleton
public import proofs.«01_k».proof.Proof.MoePay
public import proofs.«01_k».proof.Proof.Norm
public import Idealize.ShloMosaic.Lib.Pointwise

@[expose] public section

set_option maxRecDepth 16384

noncomputable section

namespace Cert.FfnOutIdeal.Own

open Cert.FfnOutIdeal Cert.FfnOutIdeal.Gen
open Idealize.ShloMosaic
open Cert.MoeIdeal.Own (unit)
open Cert.LayerNorm

/-- The residual sum at an element. -/
theorem pay2_apply (h : Vec Ideal S256x1024 .bf16) (wg wu : Vec Ideal S1024x256 .bf16) (wd : Vec Ideal S256x1024 .bf16)
    (x : Vec Ideal S256x1024 .f32) (g : Vec Ideal S1x1x1024 .f32) (rt : Vec Ideal S256x1024 .f32) (r : Fin 256) (d : Fin 1024) :
    k0_pay2 (F := Ideal) h wg wu wd x g rt (ix2 r d)
      = blend (fun d => x (ix2 r d)) (fun d => g (ix3 0 0 d))
          (fun d => rt (ix2 r d) + ∑ j : Fin 256, unit (fun k => h (ix2 r k)) (fun k => wg (ix2 k j)) (fun k => wu (ix2 k j)) * wd (ix2 j d)) d := by
  unfold blend unit
  pointwise [k0_pay2]
  simp only [zero_sub]

/-- The scale of the normalisation at an element. -/
theorem pay3_apply (g : Vec Ideal S1x1024 .f32) (d : Fin 1024) : k0_pay3 (F := Ideal) g (ix2 0 d) = g (ix2 0 d) := by
  pointwise [k0_pay3]

/-- The normalisation of a row at an element. -/
theorem pay1_apply (y : Vec Ideal S256x1024 .f32) (g b : Vec Ideal S1x1024 .f32) (r : Fin 256) (d : Fin 1024) :
    k0_pay1 (F := Ideal) y g b (ix2 r d) = lnorm (fun d => y (ix2 r d)) (fun d => g (ix2 0 d)) (fun d => b (ix2 0 d)) d := by
  unfold lnorm mean
  pointwise [k0_pay1]

end Cert.FfnOutIdeal.Own

end
-- ==== Proof.FfnRef.lean ====
/-
  The shared expert's reference, one element at a time: the gated layer of the row, the residual sum, the normalisation.
-/
module

public import proofs.«01_k».proof.Proof.Gen.FfnOutRefIdeal.Read
public import proofs.«01_k».proof.Proof.MoePay
public import proofs.«01_k».proof.Proof.Norm
public import Idealize.ShloMosaic.Lib.IdealHost

@[expose] public section

set_option maxRecDepth 16384

noncomputable section

open Idealize.ShloMosaic Idealize.ShloMosaic.TcCoe Idealize.SL.Sem

namespace Cert.FfnOutRefIdeal.Read

open Cert.FfnOutRefIdeal Cert.FfnOutRefIdeal.Gen
open Cert.MoeIdeal.Own (unit)
open Cert.LayerNorm

variable (x0 : S16384x1024.Idx → Elt Ideal .bf16) (x1 x2 : S16384x1024.Idx → Elt Ideal .f32) (x3 : S8x1x1024.Idx → Elt Ideal .f32)
  (x4 x5 : S1024x256.Idx → Elt Ideal .f32) (x6 : S256x1024.Idx → Elt Ideal .f32) (x7 x8 : S1024.Idx → Elt Ideal .f32)

/-- The product with the gate weights. -/
theorem v1_at (n : Fin 16384) (j : Fin 256) : val_main_v1 (F := Ideal) x0 x4 (ix2 n j) = ∑ k, x0 (ix2 n k) * x4 (ix2 k j) := by
  rw [val_main_v1_apply]
  refine Finset.sum_congr rfl fun k _ => ?_
  have el : lidx_main_v1 (ix2 n j) k = ix2 n k := funext fun a => Fin.ext (by match a with | ⟨0, _⟩ => rfl | ⟨1, _⟩ => rfl)
  have er : ridx_main_v1 (ix2 n j) k = ix2 k j := funext fun a => Fin.ext (by match a with | ⟨0, _⟩ => rfl | ⟨1, _⟩ => rfl)
  rw [el, er, val_main_v0_apply]
  rfl

/-- The product with the up weights. -/
theorem v3_at (n : Fin 16384) (j : Fin 256) : val_main_v3 (F := Ideal) x0 x5 (ix2 n j) = ∑ k, x0 (ix2 n k) * x5 (ix2 k j) := by
  rw [val_main_v3_apply]
  refine Finset.sum_congr rfl fun k _ => ?_
  have el : lidx_main_v3 (ix2 n j) k = ix2 n k := funext fun a => Fin.ext (by match a with | ⟨0, _⟩ => rfl | ⟨1, _⟩ => rfl)
  have er : ridx_main_v3 (ix2 n j) k = ix2 k j := funext fun a => Fin.ext (by match a with | ⟨0, _⟩ => rfl | ⟨1, _⟩ => rfl)
  rw [el, er, val_main_v0_apply]
  rfl

/-- A hidden unit of a row. -/
theorem v4_at (n : Fin 16384) (j : Fin 256) :
    val_main_v4 (F := Ideal) x0 x4 x5 (ix2 n j) = unit (fun k => x0 (ix2 n k)) (fun k => x4 (ix2 k j)) (fun k => x5 (ix2 k j)) := by
  rw [val_main_v4_apply, val_main_v2_apply, val_main_call0_v5_apply, val_main_call0_v3_apply, val_main_call0_v4_apply, val_main_call0_v2_apply,
    val_main_call0_cst_apply, val_main_call0_cst_0_apply, val_main_call0_v1_apply, val_main_call0_v0_apply, v1_at, v3_at]
  unfold unit
  show _ * Ideal.div (Ideal.ofBits .f32 0x3F800000#32) (Ideal.ofBits .f32 0x3F800000#32 + Ideal.exp (-_)) * _ = _
  rw [Ideal.ofBits_one_f32]

/-- The branch: the routed experts' row and the shared expert's. -/
theorem v9_at (n : Fin 16384) (d : Fin 1024) :
    val_main_v9 (F := Ideal) x0 x1 x4 x5 x6 (ix2 n d)
      = x1 (ix2 n d) + ∑ j, unit (fun k => x0 (ix2 n k)) (fun k => x4 (ix2 k j)) (fun k => x5 (ix2 k j)) * x6 (ix2 j d) := by
  rw [val_main_v9_apply, val_main_v5_apply]
  refine congrArg (x1 (ix2 n d) + ·) (Finset.sum_congr rfl fun k _ => ?_)
  have el : lidx_main_v5 (ix2 n d) k = ix2 n k := funext fun a => Fin.ext (by match a with | ⟨0, _⟩ => rfl | ⟨1, _⟩ => rfl)
  have er : ridx_main_v5 (ix2 n d) k = ix2 k d := funext fun a => Fin.ext (by match a with | ⟨0, _⟩ => rfl | ⟨1, _⟩ => rfl)
  rw [el, er, v4_at]

/-- A sequence's row among all rows. -/
abbrev row (b : Fin 8) (s : Fin 2048) : Fin 16384 := ⟨b.val * 2048 + s.val, by have := b.isLt; have := s.isLt; omega⟩

/-- The residual sum of a row. -/
theorem v13_at (b : Fin 8) (s : Fin 2048) (d : Fin 1024) :
    val_main_v13 (F := Ideal) x0 x1 x2 x3 x4 x5 x6 (ix3 b s d)
      = blend (fun d => x2 (ix2 (row b s) d)) (fun d => x3 (ix3 b 0 d)) (fun d => val_main_v9 (F := Ideal) x0 x1 x4 x5 x6 (ix2 (row b s) d)) d := by
  have hs := s.isLt
  have hd := d.isLt
  rw [val_main_v13_apply, val_main_v8_apply, val_main_v12_apply, val_main_v7_apply, val_main_cst_apply, val_main_v6_apply, val_main_v11_apply, val_main_v10_apply]
  have e6 : idx_main_v6 (ix3 b s d) = ix2 (row b s) d := funext fun a => Fin.ext (by
    match a with
    | ⟨0, _⟩ => show ((b.val * 2048 + s.val) * 1024 + d.val) / 1024 = b.val * 2048 + s.val; omega
    | ⟨1, _⟩ => show ((b.val * 2048 + s.val) * 1024 + d.val) % 1024 = d.val; omega)
  have e10 : idx_main_v10 (ix3 b s d) = ix2 (row b s) d := e6
  have e11 : idx_main_v11 (ix3 b s d) = ix3 b 0 d := funext fun a => Fin.ext (by match a with | ⟨0, _⟩ => rfl | ⟨1, _⟩ => rfl | ⟨2, _⟩ => rfl)
  rw [e6, e10, e11]
  rfl

/-- The mean of a row's residual sum. -/
theorem v17_at (b : Fin 8) (s : Fin 2048) :
    val_main_v17 (F := Ideal) x0 x1 x2 x3 x4 x5 x6 (ix3 b s 0) = mean fun d => val_main_v13 (F := Ideal) x0 x1 x2 x3 x4 x5 x6 (ix3 b s d) := by
  rw [val_main_v17_apply, val_main_v15_apply, val_main_v16_apply, val_main_cst_1_apply, val_main_v14_apply, val_main_cst_0_apply]
  have e : ∀ k, idx_main_v14 (idx_main_v15 (ix3 b s 0)) k = ix3 b s k := fun k => funext fun a => Fin.ext (by match a with | ⟨0, _⟩ => rfl | ⟨1, _⟩ => rfl | ⟨2, _⟩ => rfl)
  simp only [e]
  show Ideal.div (Ideal.ofBits .f32 0x00000000#32 + _) _ = _
  have z : Ideal.ofBits .f32 0x00000000#32 = 0 := by simp [Ideal.ofBits, Ideal.ieee]
  rw [z, zero_add]
  rfl

/-- A row less its mean. -/
theorem v19_at (b : Fin 8) (s : Fin 2048) (d : Fin 1024) :
    val_main_v19 (F := Ideal) x0 x1 x2 x3 x4 x5 x6 (ix3 b s d)
      = val_main_v13 (F := Ideal) x0 x1 x2 x3 x4 x5 x6 (ix3 b s d) - mean fun d => val_main_v13 (F := Ideal) x0 x1 x2 x3 x4 x5 x6 (ix3 b s d) := by
  rw [val_main_v19_apply, val_main_v18_apply]
  have e : idx_main_v18 (ix3 b s d) = ix3 b s 0 := funext fun a => Fin.ext (by match a with | ⟨0, _⟩ => rfl | ⟨1, _⟩ => rfl | ⟨2, _⟩ => rfl)
  rw [e, v17_at]
  rfl

/-- The mean square of a row less its mean. -/
theorem v24_at (b : Fin 8) (s : Fin 2048) :
    val_main_v24 (F := Ideal) x0 x1 x2 x3 x4 x5 x6 (ix3 b s 0) = mean fun d => val_main_v19 (F := Ideal) x0 x1 x2 x3 x4 x5 x6 (ix3 b s d) * val_main_v19 (F := Ideal) x0 x1 x2 x3 x4 x5 x6 (ix3 b s d) := by
  rw [val_main_v24_apply, val_main_v22_apply, val_main_v23_apply, val_main_cst_3_apply, val_main_v21_apply, val_main_cst_2_apply]
  have e : ∀ k, idx_main_v21 (idx_main_v22 (ix3 b s 0)) k = ix3 b s k := fun k => funext fun a => Fin.ext (by match a with | ⟨0, _⟩ => rfl | ⟨1, _⟩ => rfl | ⟨2, _⟩ => rfl)
  simp only [e, val_main_v20_apply]
  show Ideal.div (Ideal.ofBits .f32 0x00000000#32 + _) _ = _
  have z : Ideal.ofBits .f32 0x00000000#32 = 0 := by simp [Ideal.ofBits, Ideal.ieee]
  rw [z, zero_add]
  rfl

/-- The normalised row. -/
theorem v37_at (b : Fin 8) (s : Fin 2048) (d : Fin 1024) :
    val_main_v37 (F := Ideal) x0 x1 x2 x3 x4 x5 x6 x7 x8 (ix3 b s d)
      = lnorm (fun d => val_main_v13 (F := Ideal) x0 x1 x2 x3 x4 x5 x6 (ix3 b s d)) (fun d => x7 (ix1 d)) (fun d => x8 (ix1 d)) d := by
  rw [val_main_v37_apply, val_main_v34_apply, val_main_v36_apply, val_main_v35_apply, val_main_v33_apply, val_main_v32_apply, val_main_v31_apply,
    val_main_v30_apply, val_main_v29_apply, val_main_v28_apply, val_main_v27_apply, val_main_cst_4_apply, val_main_v26_apply, val_main_v25_apply]
  have e25 : idx_main_v25 (ix3 b s d) = ix3 b s 0 := funext fun a => Fin.ext (by match a with | ⟨0, _⟩ => rfl | ⟨1, _⟩ => rfl | ⟨2, _⟩ => rfl)
  have e30 : idx_main_v30 (ix3 b s d) = ix3 b s 0 := e25
  have e32 : idx_main_v32 (idx_main_v33 (ix3 b s d)) = ix1 d := funext fun a => Fin.ext (by match a with | ⟨0, _⟩ => rfl)
  have e35 : idx_main_v35 (idx_main_v36 (ix3 b s d)) = ix1 d := e32
  rw [e25, e30, e32, e35, v24_at, v17_at]
  simp only [v19_at]
  rfl

/-- An element of the reference's result. -/
theorem result_apply (b : Fin 8) (s : Fin 2048) (d : Fin 1024) :
    val_main_v38 (F := Ideal) x0 x1 x2 x3 x4 x5 x6 x7 x8 (ix2 (row b s) d)
      = lnorm (blend (fun d => x2 (ix2 (row b s) d)) (fun d => x3 (ix3 b 0 d))
          (fun d => x1 (ix2 (row b s) d) + ∑ j, unit (fun k => x0 (ix2 (row b s) k)) (fun k => x4 (ix2 k j)) (fun k => x5 (ix2 k j)) * x6 (ix2 j d)))
        (fun d => x7 (ix1 d)) (fun d => x8 (ix1 d)) d := by
  have hb := b.isLt
  have hs := s.isLt
  have hd := d.isLt
  rw [val_main_v38_apply]
  have e : idx_main_v38 (ix2 (row b s) d) = ix3 b s d := funext fun a => Fin.ext (by
    match a with
    | ⟨0, _⟩ => show ((b.val * 2048 + s.val) * 1024 + d.val) / 2097152 = b.val; omega
    | ⟨1, _⟩ => show ((b.val * 2048 + s.val) * 1024 + d.val) / 1024 % 2048 = s.val; omega
    | ⟨2, _⟩ => show ((b.val * 2048 + s.val) * 1024 + d.val) % 1024 = d.val; omega)
  rw [e, v37_at]
  simp only [v13_at, v9_at]

end Cert.FfnOutRefIdeal.Read

end
-- ==== Proof.FfnTop.lean ====
/-
  The shared expert's result array: every grid point's rows are the reference's, and the rows cover the array.
-/
module

public import proofs.«01_k».proof.Defs
public import proofs.«01_k».proof.Proof.Gen.FfnOutIdeal.Value
public import proofs.«01_k».proof.Proof.FfnPay
public import proofs.«01_k».proof.Proof.FfnRef
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.FfnOutIdeal.Value

open Cert.FfnOutIdeal Cert.FfnOutIdeal.Gen Cert.FfnOutIdeal.Own
open Cert.FfnOutRefIdeal.Read (row)

/-- The sequence of a grid point. -/
abbrev tb (t : Fin cfg0.N) : Fin 8 := ⟨t.val / 8, by have h : cfg0.N = 64 := N_0; have := t.isLt; omega⟩
/-- A row of a grid point, in its sequence. -/
abbrev ts (t : Fin cfg0.N) (r : Fin 256) : Fin 2048 := ⟨t.val % 8 * 256 + r.val, by have := r.isLt; omega⟩

/-- The windows' blocks at every grid point. -/
theorem idx_eq : ∀ t : Fin grid0.N,
    win0_0.index t = ![t.val, 0] ∧ win0_1.index t = ![t.val, 0] ∧ win0_2.index t = ![t.val, 0] ∧ win0_3.index t = ![t.val / 8, 0, 0]
    ∧ win0_4.index t = ![0, 0] ∧ win0_5.index t = ![0, 0] ∧ win0_6.index t = ![0, 0] ∧ win0_7.index t = ![0, 0] ∧ win0_8.index t = ![0, 0]
    ∧ win0_9.index t = ![t.val, 0] := by
  decide +kernel

variable (m : (ℓ : Loc nD τ sig) → Buf (Elt Ideal) ℓ) (c : Dev nD)

/-- The hidden rows' block at an element. -/
theorem iblk0_apply (t : Fin cfg0.N) (r : Fin 256) (k : Fin 1024) :
    (iblk m c 0 t : Vec Ideal S256x1024 .bf16) (ix2 r k) = m ((c : Thread nD τ).loc main_arg0) (ix2 (row (tb t) (ts t r)) k) := by
  obtain ⟨h, -⟩ := idx_eq t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 256 + 1 * r.val = t.val / 8 * 2048 + (t.val % 8 * 256 + r.val); rw [h]; show t.val * 256 + _ = _; omega
  | ⟨1, _⟩ => show win0_0.index t 1 * 1024 + 1 * k.val = k.val; rw [h]; show 0 * 1024 + _ = _; omega

/-- The routed experts' rows' block at an element. -/
theorem iblk1_apply (t : Fin cfg0.N) (r : Fin 256) (k : Fin 1024) :
    (iblk m c 1 t : Vec Ideal S256x1024 .f32) (ix2 r k) = m ((c : Thread nD τ).loc main_arg1) (ix2 (row (tb t) (ts t r)) k) := by
  obtain ⟨-, h, -⟩ := idx_eq t
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t 0 * 256 + 1 * r.val = t.val / 8 * 2048 + (t.val % 8 * 256 + r.val); rw [h]; show t.val * 256 + _ = _; omega
  | ⟨1, _⟩ => show win0_1.index t 1 * 1024 + 1 * k.val = k.val; rw [h]; show 0 * 1024 + _ = _; omega

/-- The residual rows' block at an element. -/
theorem iblk2_apply (t : Fin cfg0.N) (r : Fin 256) (k : Fin 1024) :
    (iblk m c 2 t : Vec Ideal S256x1024 .f32) (ix2 r k) = m ((c : Thread nD τ).loc main_arg2) (ix2 (row (tb t) (ts t r)) k) := by
  obtain ⟨-, -, h, -⟩ := idx_eq t
  unfold iblk
  rw [View.read_apply]
  show V m c main_arg2 _ = _
  rw [V_main_arg2]
  refine congrArg (m ((c : Thread nD τ).loc main_arg2)) (funext fun a => Fin.ext ?_)
  match a with
  | ⟨0, _⟩ => show win0_2.index t 0 * 256 + 1 * r.val = t.val / 8 * 2048 + (t.val % 8 * 256 + r.val); rw [h]; show t.val * 256 + _ = _; omega
  | ⟨1, _⟩ => show win0_2.index t 1 * 1024 + 1 * k.val = k.val; rw [h]; show 0 * 1024 + _ = _; omega

/-- The gate's block at an element. -/
theorem iblk3_apply (t : Fin cfg0.N) (k : Fin 1024) :
    (iblk m c 3 t : Vec Ideal S1x1x1024 .f32) (ix3 0 0 k) = m ((c : Thread nD τ).loc main_arg3) (ix3 (tb t) 0 k) := by
  obtain ⟨-, -, -, h, -⟩ := idx_eq t
  unfold iblk
  rw [View.read_apply]
  show V m c main_arg3 _ = _
  rw [V_main_arg3]
  refine congrArg (m ((c : Thread nD τ).loc main_arg3)) (funext fun a => Fin.ext ?_)
  match a with
  | ⟨0, _⟩ => show win0_3.index t 0 * 1 + 1 * 0 = t.val / 8; rw [h]; show t.val / 8 * 1 + _ = _; omega
  | ⟨1, _⟩ => show win0_3.index t 1 * 1 + 1 * 0 = 0; rw [h]; rfl
  | ⟨2, _⟩ => show win0_3.index t 2 * 1024 + 1 * k.val = k.val; rw [h]; show 0 * 1024 + _ = _; omega

/-- The gate weights' block at an element. -/
theorem iblk4_apply (t : Fin cfg0.N) (k : Fin 1024) (j : Fin 256) :
    (iblk m c 4 t : Vec Ideal S1024x256 .bf16) (ix2 k j) = m ((c : Thread nD τ).loc main_arg4) (ix2 k j) := by
  blk_point [iblk, V, idx_eq t]

/-- The up weights' block at an element. -/
theorem iblk5_apply (t : Fin cfg0.N) (k : Fin 1024) (j : Fin 256) :
    (iblk m c 5 t : Vec Ideal S1024x256 .bf16) (ix2 k j) = m ((c : Thread nD τ).loc main_arg5) (ix2 k j) := by
  blk_ext! [iblk, V, idx_eq t]

/-- The down weights' block at an element. -/
theorem iblk6_apply (t : Fin cfg0.N) (j : Fin 256) (k : Fin 1024) :
    (iblk m c 6 t : Vec Ideal S256x1024 .bf16) (ix2 j k) = m ((c : Thread nD τ).loc main_arg6) (ix2 j k) := by
  obtain ⟨-, -, -, -, -, -, h, -⟩ := idx_eq t
  unfold iblk
  rw [View.read_apply]
  show V m c main_v2 _ = _
  entry_read
  show m ((c : Thread nD τ).loc main_arg6) _ = _
  refine congrArg (m ((c : Thread nD τ).loc main_arg6)) (funext fun a => Fin.ext ?_)
  match a with
  | ⟨0, _⟩ => show win0_6.index t 0 * 256 + 1 * j.val = j.val; rw [h]; show 0 * 256 + _ = _; omega
  | ⟨1, _⟩ => show win0_6.index t 1 * 1024 + 1 * k.val = k.val; rw [h]; show 0 * 1024 + _ = _; omega

/-- The normalisation's scale at an element. -/
theorem iblk7_apply (t : Fin cfg0.N) (k : Fin 1024) :
    (iblk m c 7 t : Vec Ideal S1x1024 .f32) (ix2 0 k) = m ((c : Thread nD τ).loc main_arg7) (ix1 k) := by
  blk_ext! [iblk, V, idx_eq t]

/-- The normalisation's offset at an element. -/
theorem iblk8_apply (t : Fin cfg0.N) (k : Fin 1024) :
    (iblk m c 8 t : Vec Ideal S1x1024 .f32) (ix2 0 k) = m ((c : Thread nD τ).loc main_arg8) (ix1 k) := by
  blk_ext! [iblk, V, idx_eq t]

/-- What a grid point stores, as a payload of its blocks. -/
theorem out_eq (x0 : Vec Ideal S256x1024 .bf16) (x1 x2 : Vec Ideal S256x1024 .f32) (x3 : Vec Ideal S1x1x1024 .f32) (x4 x5 : Vec Ideal S1024x256 .bf16)
    (x6 : Vec Ideal S256x1024 .bf16) (x7 x8 : Vec Ideal S1x1024 .f32) :
    out0_9 (F := Ideal) x0 x1 x2 x3 x4 x5 x6 x7 x8 = k0_pay1 (k0_pay2 x0 x4 x5 x6 x2 x3 x1) (k0_pay3 x7) x8 := by
  unfold out0_9
  frame_out

/-! ## A grid point's rows are the reference's -/

/-- The reference's result, of the kernel's arguments. -/
def result : Buf (Elt Ideal) ((c : Thread nD τ).loc main_v5) :=
  Cert.FfnOutRefIdeal.Read.val_main_v38 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- What a grid point stores is the reference's result, at an element. -/
theorem point (t : Fin cfg0.N) (r : Fin 256) (d : Fin 1024) :
    out0_9 (F := Ideal) (iblk m c 0 t) (iblk m c 1 t) (iblk m c 2 t) (iblk m c 3 t) (iblk m c 4 t) (iblk m c 5 t) (iblk m c 6 t) (iblk m c 7 t)
        (iblk m c 8 t) (ix2 r d)
      = result m c (ix2 (row (tb t) (ts t r)) d) := by
  rw [out_eq, pay1_apply]
  refine Eq.trans ?_ (Cert.FfnOutRefIdeal.Read.result_apply _ _ _ _ _ _ _ _ _ (tb t) (ts t r) d).symm
  simp only [pay2_apply, pay3_apply, iblk0_apply, iblk1_apply, iblk2_apply, iblk3_apply, iblk4_apply, iblk5_apply, iblk6_apply, iblk7_apply, iblk8_apply]

/-- A grid point writes back its rows of the reference's result. -/
theorem flushed_eq (t : Fin cfg0.N) : (dats m 0 c).flushed 9 t = ((cfg0.win 9).blk t).view.read (Elt Ideal) (result m c) := by
  obtain ⟨-, -, -, -, -, -, -, -, -, e⟩ := idx_eq t
  rw [flushed9]
  have h : ∀ j : S256x1024.Idx, out0_9 (F := Ideal) (iblk m c 0 t) (iblk m c 1 t) (iblk m c 2 t) (iblk m c 3 t) (iblk m c 4 t) (iblk m c 5 t) (iblk m c 6 t)
        (iblk m c 7 t) (iblk m c 8 t) j = ((cfg0.win 9).blk t).view.read (Elt Ideal) (result m c) j := fun j => by
    obtain ⟨r, d, rfl⟩ : ∃ (r : Fin 256) (d : Fin 1024), j = ix2 r d := ⟨j 0, j 1, funext fun a => by match a with | ⟨0, _⟩ => rfl | ⟨1, _⟩ => rfl⟩
    rw [View.read_apply]
    refine (point m c t r d).trans (congrArg (result m c) (funext fun a => Fin.ext ?_))
    match a with
    | ⟨0, _⟩ => show t.val / 8 * 2048 + (t.val % 8 * 256 + r.val) = win0_9.index t 0 * 256 + 1 * r.val; rw [e]; show _ = t.val * 256 + _; omega
    | ⟨1, _⟩ => show d.val = win0_9.index t 1 * 1024 + 1 * d.val; rw [e]; show _ = 0 * 1024 + _; omega
  exact funext h

/-- The kernel's result array is the reference's. -/
theorem final9 : (dats m 0 c).arrAt 9 cfg0.N = result m c :=
  (dats m 0 c).arrAt_eq_of_cover 9 (result m c) (fun t _ => flushed_eq m c t) fun i => by
    have h0 : (i 0 : Nat) < 16384 := (i 0).isLt
    have h1 : (i 1 : Nat) < 1024 := (i 1).isLt
    have hN : cfg0.N = 64 := N_0
    let t : Fin cfg0.N := ⟨(i 0 : Nat) / 256, by omega⟩
    have ht : t.val = (i 0 : Nat) / 256 := rfl
    obtain ⟨-, -, -, -, -, -, -, -, -, e⟩ := idx_eq t
    refine ⟨t, flush0_9 t, ?_⟩
    show i ∈ ((View.whole main_v5).slice (win0_9.rect t)).set
    rw [View.set_slice_whole, Rect.mem_set_unit]
    intro a
    match a with
    | ⟨0, _⟩ => show win0_9.index t 0 * 256 ≤ (i 0 : Nat) ∧ (i 0 : Nat) < win0_9.index t 0 * 256 + 256
                rw [e]; show t.val * 256 ≤ _ ∧ _ < t.val * 256 + 256; omega
    | ⟨1, _⟩ => show win0_9.index t 1 * 1024 ≤ (i 1 : Nat) ∧ (i 1 : Nat) < win0_9.index t 1 * 1024 + 1024
                rw [e]; show 0 * 1024 ≤ _ ∧ _ < 0 * 1024 + 1024; omega

end Cert.FfnOutIdeal.Value

namespace Cert.Proof

/-- The shared expert's reference runs and keeps its arguments: it declares no semaphore. -/
theorem ffn_ref_frame : Cert.quiescent_FfnOutRefIdeal := fun m ρ _ =>
  (θ_run _ _ _).mono (fun r h => ⟨fun c => (h c).2, Idealize.ShloMosaic.sem_eq_zero_of_no_sems (by decide) r.2⟩) (Cert.FfnOutRefIdeal.Value.run m ρ)

/-- The shared expert's kernel and its reference end with the same result. -/
theorem ffn_algebraic : Cert.algebraic_FfnOutIdeal_FfnOutRefIdeal := by
  intro m g m' g' _ hargs
  refine ⟨fun c => Cert.FfnOutIdeal.Value.result m c, ?_, ?_⟩
  · refine (θ_run _ _ _).mono (fun r h c => ?_) (Cert.FfnOutIdeal.Value.run_blocks m g)
    exact ⟨(h c).1.trans (Cert.FfnOutIdeal.Value.final9 m c), (h c).2⟩
  · refine (θ_run _ _ _).mono (fun r h c => ?_) (Cert.FfnOutRefIdeal.Value.run m' g')
    refine ⟨(h c).1.trans ?_, (h c).2⟩
    rw [Cert.FfnOutRefIdeal.Read.val_main_v38_eq]
    obtain ⟨h0, h1, h2, h3, h4, h5, h6, h7, h8⟩ := hargs c
    rw [h0, h1, h2, h3, h4, h5, h6, h7, h8]
    rfl

end Cert.Proof

end
-- ==== Proof.QkvSPay.lean ====
/-
  The projection's values at the sample batch's shapes, at an index: the projected row with a modulation of its own, the results.
-/
module

public import proofs.«01_k».proof.Proof.Gen.QkvSIdeal.Frame
public import proofs.«01_k».proof.Proof.QkvOut

@[expose] public section

set_option maxRecDepth 16384

noncomputable section

namespace Cert.QkvSIdeal.Own

open Cert.QkvSIdeal Cert.QkvSIdeal.Gen
open Idealize.ShloMosaic
open Cert.Rotary
open Cert.QkvIdeal.Own (Rows zero2 zero3 outQ)

/-- The projection at an element: every row has its own scale and shift. -/
theorem pay3_apply (x : Vec Ideal S512x1024 .f32) (sc sh : Vec Ideal S1x512x1024 .f32) (w : Vec Ideal S1024x1536 .bf16) (b : Vec Ideal S1x1536 .f32)
    (r : Fin 512) (e : Fin 1536) :
    k0_pay3 (F := Ideal) x sc sh w b (ix2 r e)
      = proj (modulate (fun k => x (ix2 r k)) (fun k => sc (ix3 0 r k)) (fun k => sh (ix3 0 r k))) (fun k e => w (ix2 k e)) (fun e => b (ix2 0 e)) e := by
  unfold proj modulate
  pointwise [k0_pay3]

variable {p : Fin 512 → Fin 1536 → EReal} {C S : Fin 512 → Fin 8 → EReal} {x0 : Vec Ideal S512x1024 .f32} {x1 x2 : Vec Ideal S1x512x1024 .f32}
  {x3 : Vec Ideal S1024x1536 .bf16} {x4 : Vec Ideal S1x1536 .f32} {x5 x6 x7 : Vec Ideal S512x128 .f32}

/-- The projected rows, of the whole blocks. -/
theorem pay37_eq : k0_pay37 (F := Ideal) x0 x1 x2 x3 x4 x5 x6 x7 = k0_pay3 x0 x2 x1 x3 x4 := by
  have e0 : View.ld x0 r0_0 = x0 := View.ld_unit_zero (Val := Elt Ideal) zero2 _ x0
  have e1 : View.ld x1 r0_1 = x1 := View.ld_unit_zero (Val := Elt Ideal) zero3 _ x1
  have e2 : View.ld x2 r0_1 = x2 := View.ld_unit_zero (Val := Elt Ideal) zero3 _ x2
  have e3 : View.ld x3 r0_2 = x3 := View.ld_unit_zero (Val := Elt Ideal) zero2 _ x3
  have e4 : View.ld x4 r0_3 = x4 := View.ld_unit_zero (Val := Elt Ideal) zero2 _ x4
  unfold k0_pay37
  rw [e0, e1, e2, e3, e4]

/-- The table of cosines, the whole block. -/
theorem pay38_eq : k0_pay38 (F := Ideal) x0 x1 x2 x3 x4 x5 x6 x7 = x5 :=
  (congrArg k0_pay4 (View.ld_unit_zero (Val := Elt Ideal) zero2 _ x5)).trans (shapeCast_self _ _)

/-- The table of sines of the lanes to the left, the whole block. -/
theorem pay39_eq : k0_pay39 (F := Ideal) x0 x1 x2 x3 x4 x5 x6 x7 = x6 :=
  (congrArg k0_pay5 (View.ld_unit_zero (Val := Elt Ideal) zero2 _ x6)).trans (shapeCast_self _ _)

/-- The table of sines of the lanes to the right, the whole block. -/
theorem pay40_eq : k0_pay40 (F := Ideal) x0 x1 x2 x3 x4 x5 x6 x7 = x7 :=
  (congrArg k0_pay6 (View.ld_unit_zero (Val := Elt Ideal) zero2 _ x7)).trans (shapeCast_self _ _)

/-- A grid point's rows and tables, of its blocks. -/
abbrev PointRows (p : Fin 512 → Fin 1536 → EReal) (C S : Fin 512 → Fin 8 → EReal) (x0 : Vec Ideal S512x1024 .f32) (x1 x2 : Vec Ideal S1x512x1024 .f32)
    (x3 : Vec Ideal S1024x1536 .bf16) (x4 : Vec Ideal S1x1536 .f32) (x5 x6 x7 : Vec Ideal S512x128 .f32) : Prop :=
  Rows p C S (k0_pay37 (F := Ideal) x0 x1 x2 x3 x4 x5 x6 x7) (k0_pay38 x0 x1 x2 x3 x4 x5 x6 x7) (k0_pay39 x0 x1 x2 x3 x4 x5 x6 x7) (k0_pay40 x0 x1 x2 x3 x4 x5 x6 x7)

variable (h : PointRows p C S x0 x1 x2 x3 x4 x5 x6 x7)
include h

/-- The queries a grid point stores. -/
theorem out8_apply (r : Fin 512) (e : Fin 1024) : out0_8 (F := Ideal) x0 x1 x2 x3 x4 x5 x6 x7 (ix2 r e) = outQ p C S r e :=
  Cert.QkvIdeal.Own.queriesOf_apply h r e

/-- The keys a grid point stores. -/
theorem out9_apply (r : Fin 512) (e : Fin 256) : out0_9 (F := Ideal) x0 x1 x2 x3 x4 x5 x6 x7 (ix2 r e) = rot (p r) (C r) (S r) (1024 + e) :=
  Cert.QkvIdeal.Own.keysOf_apply h r e

/-- The values a grid point stores. -/
theorem out10_apply (r : Fin 512) (e : Fin 256) : out0_10 (F := Ideal) x0 x1 x2 x3 x4 x5 x6 x7 (ix2 r e) = p r (col (1280 + e)) :=
  Cert.QkvIdeal.Own.valuesOf_apply h r e

/-- The rounded keys a grid point stores. -/
theorem out11_apply (r : Fin 512) (e : Fin 256) : out0_11 (F := Ideal) x0 x1 x2 x3 x4 x5 x6 x7 (ix2 r e) = rot (p r) (C r) (S r) (1024 + e) :=
  Cert.QkvIdeal.Own.roundedKeysOf_apply h r e

/-- The rounded values a grid point stores. -/
theorem out12_apply (r : Fin 512) (e : Fin 256) : out0_12 (F := Ideal) x0 x1 x2 x3 x4 x5 x6 x7 (ix2 r e) = p r (col (1280 + e)) :=
  Cert.QkvIdeal.Own.roundedValuesOf_apply h r e

/-- The sums of each key head's query heads that a grid point stores. -/
theorem out13_apply (r : Fin 512) (e : Fin 256) : out0_13 (F := Ideal) x0 x1 x2 x3 x4 x5 x6 x7 (ix2 r e) = headSum (p r) (C r) (S r) e :=
  Cert.QkvIdeal.Own.sumsOf_apply h r e

end Cert.QkvSIdeal.Own

end
-- ==== Proof.QkvSRef.lean ====
/-
  The projection's reference at the sample batch's shapes, one element at a time: the projected row, the rotation of a head, the results.
-/
module

public import proofs.«01_k».proof.Proof.Gen.QkvSRefIdeal.Read
public import proofs.«01_k».proof.Proof.Rotary
public import proofs.«01_k».proof.Proof.Heads
public import Idealize.ShloMosaic.Lib.Pipeline.Value
public import Idealize.ShloMosaic.Lib.IdealHost
public import Idealize.ShloMosaic.Lib.Pointwise

@[expose] public section

set_option maxRecDepth 16384

noncomputable section

open Idealize.ShloMosaic Idealize.ShloMosaic.TcCoe Idealize.SL.Sem

namespace Cert.QkvSRefIdeal.Read

open Cert.QkvSRefIdeal Cert.QkvSRefIdeal.Gen
open Cert.Rotary

variable (x0 : S128x4x1024.Idx → Elt Ideal .f32) (x1 x2 : S128x1x1024.Idx → Elt Ideal .f32) (x3 : S1024x1536.Idx → Elt Ideal .f32)
  (x4 : S1536.Idx → Elt Ideal .f32)

/-- The projected row at a position, from the arguments. -/
def prow (b : Fin 128) (s : Fin 4) : Fin 1536 → EReal :=
  proj (modulate (fun k => x0 (ix3 b s k)) (fun k => x2 (ix3 b 0 k)) (fun k => x1 (ix3 b 0 k))) (fun k e => x3 (ix2 k e)) (fun e => x4 (ix1 e))

/-- The projected row. -/
theorem v9_at (b : Fin 128) (s : Fin 4) (e : Fin 1536) : val_main_v9 (F := Ideal) x0 x1 x2 x3 x4 (ix3 b s e) = prow x0 x1 x2 x3 x4 b s e := by
  rw [val_main_v9_apply, val_main_v6_apply, val_main_v8_apply, val_main_v7_apply]
  have eb : idx_main_v7 (idx_main_v8 (ix3 b s e)) = ix1 e := funext fun a => Fin.ext (by match a with | ⟨0, _⟩ => rfl)
  rw [eb]
  refine congrArg (· + x4 (ix1 e)) (Finset.sum_congr rfl fun k _ => ?_)
  have el : lidx_main_v6 (ix3 b s e) k = ix3 b s k := funext fun a => Fin.ext (by match a with | ⟨0, _⟩ => rfl | ⟨1, _⟩ => rfl | ⟨2, _⟩ => rfl)
  have er : ridx_main_v6 (ix3 b s e) k = ix2 k e := funext fun a => Fin.ext (by match a with | ⟨0, _⟩ => rfl | ⟨1, _⟩ => rfl)
  have e2 : idx_main_v2 (ix3 b s k) = ix3 b 0 k := funext fun a => Fin.ext (by match a with | ⟨0, _⟩ => rfl | ⟨1, _⟩ => rfl | ⟨2, _⟩ => rfl)
  have e4 : idx_main_v4 (ix3 b s k) = ix3 b 0 k := e2
  rw [el, er, val_main_v5_apply, val_main_v3_apply, val_main_v4_apply, val_main_v2_apply, e2, e4, val_main_v1_apply, val_main_v0_apply, val_main_cst_apply]
  rfl

/-- The cosines and the sines at a position. -/
def cs (s : Fin 4) (j : Fin 8) : EReal := val_main_v34 (F := Ideal) (ix2 s j)
/-- The sines at a position. -/
def sn (s : Fin 4) (j : Fin 8) : EReal := val_main_v36 (F := Ideal) (ix2 s j)

/-- A query head's columns. -/
theorem v16_at (b : Fin 128) (s : Fin 4) (g : Fin 16) (d : Fin 64) :
    val_main_v16 (F := Ideal) x0 x1 x2 x3 x4 (at4 b s g d) = prow x0 x1 x2 x3 x4 b s (col (g.val * 64 + d)) := by
  have hb := b.isLt
  have hs := s.isLt
  have hg := g.isLt
  have hd := d.isLt
  rw [val_main_v16_apply, val_main_v10_apply]
  have e : idx_main_v10 (idx_main_v16 (at4 b s g d)) = ix3 b s (col (g.val * 64 + d)) := funext fun a => Fin.ext (by
    match a with
    | ⟨0, _⟩ => show (((b.val * 4 + s.val) * 16 + g.val) * 64 + d.val) / 4096 = b.val; omega
    | ⟨1, _⟩ => show (((b.val * 4 + s.val) * 16 + g.val) * 64 + d.val) / 1024 % 4 = s.val; omega
    | ⟨2, _⟩ => show (((b.val * 4 + s.val) * 16 + g.val) * 64 + d.val) % 1024 = (g.val * 64 + d.val) % 1536; omega)
  rw [e, v9_at]

/-- A key head's columns. -/
theorem v53_at (b : Fin 128) (s : Fin 4) (g : Fin 4) (d : Fin 64) :
    val_main_v53 (F := Ideal) x0 x1 x2 x3 x4 (at4 b s g d) = prow x0 x1 x2 x3 x4 b s (col (1024 + g.val * 64 + d)) := by
  have hb := b.isLt
  have hs := s.isLt
  have hg := g.isLt
  have hd := d.isLt
  rw [val_main_v53_apply, val_main_v11_apply]
  have e : idx_main_v11 (idx_main_v53 (at4 b s g d)) = ix3 b s (col (1024 + g.val * 64 + d)) := funext fun a => Fin.ext (by
    match a with
    | ⟨0, _⟩ => show (((b.val * 4 + s.val) * 4 + g.val) * 64 + d.val) / 1024 = b.val; omega
    | ⟨1, _⟩ => show (((b.val * 4 + s.val) * 4 + g.val) * 64 + d.val) / 256 % 4 = s.val; omega
    | ⟨2, _⟩ => show 1024 + (((b.val * 4 + s.val) * 4 + g.val) * 64 + d.val) % 256 = (1024 + g.val * 64 + d.val) % 1536; omega)
  rw [e, v9_at]

/-- The rotated query heads. -/
theorem v52_at (b : Fin 128) (s : Fin 4) (g : Fin 16) (d : Fin 64) :
    val_main_v52 (F := Ideal) x0 x1 x2 x3 x4 (at4 b s g d) = rot (prow x0 x1 x2 x3 x4 b s) (cs s) (sn s) (g.val * 64 + d) := by
  have hr := rot_of_head (prow x0 x1 x2 x3 x4 b s) (cs s) (sn s) (g.val * 64) (by omega)
    (fun d => val_main_v16 (F := Ideal) x0 x1 x2 x3 x4 (at4 b s g d)) (fun d => v16_at x0 x1 x2 x3 x4 b s g d) d
  refine Eq.trans ?_ hr.symm
  unfold val_main_v52 val_main_v50
  refine (rope_cat _ _ _ _ _ b s g d).trans ?_
  have e36 : ∀ j : Fin 8, idx_main_v38 (at4 b s g j) = at4 b s g ⟨j.val, by omega⟩ := fun j => funext fun a => Fin.ext (by match a with | ⟨0, _⟩ => rfl | ⟨1, _⟩ => rfl | ⟨2, _⟩ => rfl | ⟨3, _⟩ => rfl)
  have e37 : ∀ j : Fin 8, idx_main_v39 (at4 b s g j) = at4 b s g ⟨8 + j.val, by omega⟩ := fun j => funext fun a => Fin.ext (by match a with | ⟨0, _⟩ => rfl | ⟨1, _⟩ => rfl | ⟨2, _⟩ => rfl | ⟨3, _⟩ => rfl)
  have e49 : ∀ j : Fin 48, idx_main_v51 (at4 b s g j) = at4 b s g ⟨16 + j.val, by omega⟩ := fun j => funext fun a => Fin.ext (by match a with | ⟨0, _⟩ => rfl | ⟨1, _⟩ => rfl | ⟨2, _⟩ => rfl | ⟨3, _⟩ => rfl)
  have e38 : ∀ j : Fin 8, idx_main_v35 (idx_main_v40 (at4 b s g j)) = ix2 s j := fun j => funext fun a => Fin.ext (by match a with | ⟨0, _⟩ => rfl | ⟨1, _⟩ => rfl)
  have e40 : ∀ j : Fin 8, idx_main_v37 (idx_main_v42 (at4 b s g j)) = ix2 s j := e38
  have e43 : ∀ j : Fin 8, idx_main_v35 (idx_main_v45 (at4 b s g j)) = ix2 s j := e38
  have e45 : ∀ j : Fin 8, idx_main_v37 (idx_main_v47 (at4 b s g j)) = ix2 s j := e38
  simp only [val_main_v44_apply, val_main_v41_apply, val_main_v43_apply, val_main_v49_apply, val_main_v46_apply, val_main_v48_apply, val_main_v51_apply,
    val_main_v38_apply, val_main_v39_apply, val_main_v40_apply, val_main_v42_apply, val_main_v45_apply, val_main_v47_apply,
    val_main_v35_apply, val_main_v37_apply, val_main_v35_apply, val_main_v37_apply, e36, e37, e38, e40, e43, e45, e49]
  rfl

/-- The rotated key heads. -/
theorem v89_at (b : Fin 128) (s : Fin 4) (g : Fin 4) (d : Fin 64) :
    val_main_v89 (F := Ideal) x0 x1 x2 x3 x4 (at4 b s g d) = rot (prow x0 x1 x2 x3 x4 b s) (cs s) (sn s) (1024 + g.val * 64 + d) := by
  have hr := rot_of_head (prow x0 x1 x2 x3 x4 b s) (cs s) (sn s) (1024 + g.val * 64) (by omega)
    (fun d => val_main_v53 (F := Ideal) x0 x1 x2 x3 x4 (at4 b s g d)) (fun d => v53_at x0 x1 x2 x3 x4 b s g d) d
  refine Eq.trans ?_ hr.symm
  unfold val_main_v89 val_main_v87
  refine (rope_cat _ _ _ _ _ b s g d).trans ?_
  have e73 : ∀ j : Fin 8, idx_main_v75 (at4 b s g j) = at4 b s g ⟨j.val, by omega⟩ := fun j => funext fun a => Fin.ext (by match a with | ⟨0, _⟩ => rfl | ⟨1, _⟩ => rfl | ⟨2, _⟩ => rfl | ⟨3, _⟩ => rfl)
  have e74 : ∀ j : Fin 8, idx_main_v76 (at4 b s g j) = at4 b s g ⟨8 + j.val, by omega⟩ := fun j => funext fun a => Fin.ext (by match a with | ⟨0, _⟩ => rfl | ⟨1, _⟩ => rfl | ⟨2, _⟩ => rfl | ⟨3, _⟩ => rfl)
  have e86 : ∀ j : Fin 48, idx_main_v88 (at4 b s g j) = at4 b s g ⟨16 + j.val, by omega⟩ := fun j => funext fun a => Fin.ext (by match a with | ⟨0, _⟩ => rfl | ⟨1, _⟩ => rfl | ⟨2, _⟩ => rfl | ⟨3, _⟩ => rfl)
  have e75 : ∀ j : Fin 8, idx_main_v72 (idx_main_v77 (at4 b s g j)) = ix2 s j := fun j => funext fun a => Fin.ext (by match a with | ⟨0, _⟩ => rfl | ⟨1, _⟩ => rfl)
  have e77 : ∀ j : Fin 8, idx_main_v74 (idx_main_v79 (at4 b s g j)) = ix2 s j := e75
  have e80 : ∀ j : Fin 8, idx_main_v72 (idx_main_v82 (at4 b s g j)) = ix2 s j := e75
  have e82 : ∀ j : Fin 8, idx_main_v74 (idx_main_v84 (at4 b s g j)) = ix2 s j := e75
  simp only [val_main_v81_apply, val_main_v78_apply, val_main_v80_apply, val_main_v86_apply, val_main_v83_apply, val_main_v85_apply, val_main_v88_apply,
    val_main_v75_apply, val_main_v76_apply, val_main_v77_apply, val_main_v79_apply, val_main_v82_apply, val_main_v84_apply,
    val_main_v72_apply, val_main_v74_apply, val_main_v72_apply, val_main_v74_apply, e73, e74, e75, e77, e80, e82, e86]
  rfl

/-- A sequence's row among all rows. -/
abbrev row (b : Fin 128) (s : Fin 4) : Fin 512 := ⟨b.val * 4 + s.val, by have := b.isLt; have := s.isLt; omega⟩

/-- The queries. -/
theorem result0_apply (b : Fin 128) (s : Fin 4) (e : Fin 1024) :
    val_main_v97 (F := Ideal) x0 x1 x2 x3 x4 (ix2 (row b s) e)
      = rot (prow x0 x1 x2 x3 x4 b s) (cs s) (sn s) e * Ideal.ofBits .f32 0x3E000000#32 := by
  have hb := b.isLt
  have hs := s.isLt
  have he := e.isLt
  rw [val_main_v97_apply, val_main_v96_apply, val_main_v95_apply, val_main_v94_apply, val_main_cst_11_apply]
  have ei : idx_main_v96 (ix2 (row b s) e) = at4 b s ⟨e.val / 64, by omega⟩ ⟨e.val % 64, by omega⟩ := funext fun a => Fin.ext (by
    match a with
    | ⟨0, _⟩ => show ((b.val * 4 + s.val) * 1024 + e.val) / 4096 = b.val; omega
    | ⟨1, _⟩ => show ((b.val * 4 + s.val) * 1024 + e.val) / 1024 % 4 = s.val; omega
    | ⟨2, _⟩ => show ((b.val * 4 + s.val) * 1024 + e.val) / 64 % 16 = e.val / 64; omega
    | ⟨3, _⟩ => show ((b.val * 4 + s.val) * 1024 + e.val) % 64 = e.val % 64; omega)
  have ee : e.val / 64 * 64 + e.val % 64 = e.val := by omega
  rw [ei, v52_at]
  show rot _ _ _ (e.val / 64 * 64 + e.val % 64) * _ = _
  rw [ee]
  rfl

/-- A column of the key heads, as head and column. -/
theorem idx92 (b : Fin 128) (s : Fin 4) (e : Fin 256) : idx_main_v92 (ix2 (row b s) e) = at4 b s ⟨e.val / 64, by omega⟩ ⟨e.val % 64, by omega⟩ := by
  have hb := b.isLt
  have hs := s.isLt
  have he := e.isLt
  exact funext fun a => Fin.ext (by
    match a with
    | ⟨0, _⟩ => show ((b.val * 4 + s.val) * 256 + e.val) / 1024 = b.val; omega
    | ⟨1, _⟩ => show ((b.val * 4 + s.val) * 256 + e.val) / 256 % 4 = s.val; omega
    | ⟨2, _⟩ => show ((b.val * 4 + s.val) * 256 + e.val) / 64 % 4 = e.val / 64; omega
    | ⟨3, _⟩ => show ((b.val * 4 + s.val) * 256 + e.val) % 64 = e.val % 64; omega)

/-- The keys. -/
theorem result1_apply (b : Fin 128) (s : Fin 4) (e : Fin 256) :
    val_main_v92 (F := Ideal) x0 x1 x2 x3 x4 (ix2 (row b s) e) = rot (prow x0 x1 x2 x3 x4 b s) (cs s) (sn s) (1024 + e) := by
  have ee : 1024 + e.val / 64 * 64 + e.val % 64 = 1024 + e.val := by omega
  rw [val_main_v92_apply, idx92, v89_at]
  show rot _ _ _ (1024 + e.val / 64 * 64 + e.val % 64) = _
  rw [ee]

/-- The values. -/
theorem result2_apply (b : Fin 128) (s : Fin 4) (e : Fin 256) :
    val_main_v93 (F := Ideal) x0 x1 x2 x3 x4 (ix2 (row b s) e) = prow x0 x1 x2 x3 x4 b s (col (1280 + e)) := by
  have hb := b.isLt
  have hs := s.isLt
  have he := e.isLt
  rw [val_main_v93_apply, val_main_v12_apply]
  have ei : idx_main_v12 (idx_main_v93 (ix2 (row b s) e)) = ix3 b s (col (1280 + e)) := funext fun a => Fin.ext (by
    match a with
    | ⟨0, _⟩ => show ((b.val * 4 + s.val) * 256 + e.val) / 1024 = b.val; omega
    | ⟨1, _⟩ => show ((b.val * 4 + s.val) * 256 + e.val) / 256 % 4 = s.val; omega
    | ⟨2, _⟩ => show 1280 + ((b.val * 4 + s.val) * 256 + e.val) % 256 = (1280 + e.val) % 1536; omega)
  rw [ei, v9_at]

/-- The keys, rounded. -/
theorem result3_apply (b : Fin 128) (s : Fin 4) (e : Fin 256) :
    val_main_v98 (F := Ideal) x0 x1 x2 x3 x4 (ix2 (row b s) e) = rot (prow x0 x1 x2 x3 x4 b s) (cs s) (sn s) (1024 + e) := by
  rw [val_main_v98_apply, result1_apply]
  rfl

/-- The values, rounded. -/
theorem result4_apply (b : Fin 128) (s : Fin 4) (e : Fin 256) :
    val_main_v99 (F := Ideal) x0 x1 x2 x3 x4 (ix2 (row b s) e) = prow x0 x1 x2 x3 x4 b s (col (1280 + e)) := by
  rw [val_main_v99_apply, result2_apply]
  rfl

/-- The sums of each key head's query heads. -/
theorem result5_apply (b : Fin 128) (s : Fin 4) (e : Fin 256) :
    val_main_v100 (F := Ideal) x0 x1 x2 x3 x4 (ix2 (row b s) e) = headSum (prow x0 x1 x2 x3 x4 b s) (cs s) (sn s) e := by
  have hb := b.isLt
  have hs := s.isLt
  have he := e.isLt
  have e98 : idx_main_v100 (ix2 (row b s) e) = at4 b s ⟨e.val / 64, by omega⟩ ⟨e.val % 64, by omega⟩ := idx92 b s e
  rw [val_main_v100_apply, e98, val_main_v91_apply, val_main_cst_10_apply]
  show Ideal.ofBits .f32 0x00000000#32 + _ = _
  have z : Ideal.ofBits .f32 0x00000000#32 = 0 := by simp [Ideal.ofBits, Ideal.ieee]
  rw [z, zero_add]
  refine Finset.sum_congr rfl fun k _ => ?_
  have hk := k.isLt
  clear e98
  have hq : e.val / 64 < 4 := by omega
  have hm : e.val % 64 < 64 := by omega
  have ei : idx_main_v90 (idx_main_v91 (at4 b s (⟨e.val / 64, by omega⟩ : Fin 4) (⟨e.val % 64, by omega⟩ : Fin 64)) k)
      = at4 b s ⟨e.val / 64 * 4 + k.val, by omega⟩ ⟨e.val % 64, by omega⟩ := funext fun a => Fin.ext (by
    match a with
    | ⟨0, _⟩ => show ((((b.val * 4 + s.val) * 4 + e.val / 64) * 4 + k.val) * 64 + e.val % 64) / 4096 = b.val; generalize e.val / 64 = h at *; generalize e.val % 64 = r at *; omega
    | ⟨1, _⟩ => show ((((b.val * 4 + s.val) * 4 + e.val / 64) * 4 + k.val) * 64 + e.val % 64) / 1024 % 4 = s.val; generalize e.val / 64 = h at *; generalize e.val % 64 = r at *; omega
    | ⟨2, _⟩ => show ((((b.val * 4 + s.val) * 4 + e.val / 64) * 4 + k.val) * 64 + e.val % 64) / 64 % 16 = e.val / 64 * 4 + k.val; generalize e.val / 64 = h at *; generalize e.val % 64 = r at *; omega
    | ⟨3, _⟩ => show ((((b.val * 4 + s.val) * 4 + e.val / 64) * 4 + k.val) * 64 + e.val % 64) % 64 = e.val % 64; generalize e.val / 64 = h at *; generalize e.val % 64 = r at *; omega)
  have ee : (e.val / 64 * 4 + k.val) * 64 + e.val % 64 = e.val / 64 * 256 + k.val * 64 + e.val % 64 := by omega
  rw [val_main_v90_apply, ei, v52_at]
  show rot _ _ _ ((e.val / 64 * 4 + k.val) * 64 + e.val % 64) = _
  rw [ee]

end Cert.QkvSRefIdeal.Read

end
-- ==== Proof.QkvSTop.lean ====
/-
  The projection's six result arrays at the sample batch's shapes: the rows are the reference's, and the rows cover the arrays.
-/
module

public import proofs.«01_k».proof.Defs
public import proofs.«01_k».proof.Proof.Gen.QkvSIdeal.Value
public import proofs.«01_k».proof.Proof.QkvSPay
public import proofs.«01_k».proof.Proof.QkvSRef
public import Idealize.ShloMosaic.Lib.Pipeline.ValueKit
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem

namespace Cert.QkvSIdeal.Value

open Cert.QkvSIdeal Cert.QkvSIdeal.Gen Cert.QkvSIdeal.Own
open Cert.QkvSRefIdeal.Read (row prow cs sn)
open Cert.Rotary

/-- The sequence of a row. -/
abbrev tb (r : Fin 512) : Fin 128 := ⟨r.val / 4, by have := r.isLt; omega⟩
/-- A row, in its sequence. -/
abbrev ts (r : Fin 512) : Fin 4 := ⟨r.val % 4, by omega⟩

/-- The windows' blocks at every grid point. -/
theorem idx_eq : ∀ t : Fin grid0.N,
    win0_0.index t = ![t.val, 0] ∧ win0_1.index t = ![t.val, 0, 0] ∧ win0_2.index t = ![t.val, 0, 0] ∧ win0_3.index t = ![0, 0]
    ∧ win0_4.index t = ![0, 0] ∧ win0_5.index t = ![0, 0] ∧ win0_6.index t = ![0, 0] ∧ win0_7.index t = ![0, 0]
    ∧ win0_8.index t = ![t.val, 0] ∧ win0_9.index t = ![t.val, 0] ∧ win0_10.index t = ![t.val, 0] ∧ win0_11.index t = ![t.val, 0]
    ∧ win0_12.index t = ![t.val, 0] ∧ win0_13.index t = ![t.val, 0] := by
  decide +kernel

/-- There is one grid point. -/
theorem point_zero (t : Fin cfg0.N) : t.val = 0 := by
  have h : cfg0.N = 1 := N_0
  have := t.isLt
  omega

/-- Three parts of 8, 8 and 48 columns laid end to end, at an element. -/
theorem cat3_apply (x y : Vec Ideal S512x8 .f32) (z : Vec Ideal S512x48 .f32) (h : Shape.Concatenates [S512x8, S512x8, S512x48] S512x64 1)
    (s : Fin 512) (d : Fin 64) :
    concatenate S512x64 1 [⟨S512x8, x⟩, ⟨S512x8, y⟩, ⟨S512x48, z⟩] h (ix2 s d)
      = if d.val < 8 then x (ix2 s (freq d)) else if d.val < 16 then y (ix2 s (freq d)) else z (ix2 s ⟨(d - 16) % 48, by omega⟩) := by
  have hd := d.isLt
  pointwise
  by_cases h8 : d.val < 8
  · rw [dif_pos h8, if_pos h8]
    exact congrArg (fun k => x (ix2 s k)) (Fin.ext (by show d.val = d.val % 8; omega))
  · rw [dif_neg h8, if_neg h8]
    by_cases h16 : d.val < 16
    · rw [dif_pos (by omega), if_pos h16]
      exact congrArg (fun k => y (ix2 s k)) (Fin.ext (by show d.val - 8 = d.val % 8; omega))
    · rw [dif_neg (by omega), if_neg h16]
      exact congrArg (fun k => z (ix2 s k)) (Fin.ext (by show d.val - 8 - 8 = (d.val - 16) % 48; omega))

/-- A table over the 128 lanes: three parts of 8, 8 and 48 columns, twice. -/
def table (x y : Vec Ideal S512x8 .f32) (z : Vec Ideal S512x48 .f32) : Vec Ideal S512x128 .f32 :=
  shapeCast S512x128 (broadcastInDim S1x512x2x64 ![0, 1, 2, 3] bcast_S1x512x1x64_S1x512x2x64_0_1_2_3 (shapeCast S1x512x1x64
    (concatenate S512x64 1 [⟨S512x8, x⟩, ⟨S512x8, y⟩, ⟨S512x48, z⟩] concatenates_S512x8_S512x8_S512x48_S512x64_d1)
    shapeCasts_S512x64_S1x512x1x64)) shapeCasts_S1x512x2x64_S512x128

/-- A table over the 128 lanes, at an element. -/
theorem table_apply (x y : Vec Ideal S512x8 .f32) (z : Vec Ideal S512x48 .f32) (s : Fin 512) (l : Fin 128) :
    table x y z (ix2 s l) = if l.val % 64 < 8 then x (ix2 s (freq l)) else if l.val % 64 < 16 then y (ix2 s (freq l))
      else z (ix2 s ⟨(l % 64 - 16) % 48, by omega⟩) := by
  have hf : freq (l.val % 64) = freq l := Fin.ext (by show l.val % 64 % 8 = l.val % 8; omega)
  have h := cat3_apply x y z concatenates_S512x8_S512x8_S512x48_S512x64_d1 s ⟨l.val % 64, by omega⟩
  rw [show freq ((⟨l.val % 64, by omega⟩ : Fin 64) : ℕ) = freq l from hf] at h
  refine Eq.trans ?_ h
  unfold table
  generalize concatenate S512x64 1 [⟨S512x8, x⟩, ⟨S512x8, y⟩, ⟨S512x48, z⟩] concatenates_S512x8_S512x8_S512x48_S512x64_d1 = w
  pointwise

/-- A sequence's row given to each of its four rows. -/
def rows (x : Vec Ideal S128x1x1024 .f32) : Vec Ideal S1x512x1024 .f32 :=
  broadcastInDim S1x512x1024 ![1, 2] bcast_S512x1024_S1x512x1024_1_2 (shapeCast S512x1024
    (broadcastInDim S128x4x1024 ![0, 2] bcast_S128x1024_S128x4x1024_0_2 (shapeCast S128x1024 x shapeCasts_S128x1x1024_S128x1024))
    shapeCasts_S128x4x1024_S512x1024)

/-- A sequence's row given to each of its four rows, at an element. -/
theorem rows_apply (x : Vec Ideal S128x1x1024 .f32) (r : Fin 512) (k : Fin 1024) : rows x (ix3 0 r k) = x (ix3 (tb r) 0 k) := by
  unfold rows
  pointwise

/-- The angles of all rows: the four positions repeated for every sequence, times the frequencies. -/
def angles (q : IVec S4 32) (f : Vec Ideal S8 .f32) : Vec Ideal S512x8 .f32 :=
  mulf (broadcastInDim S512x8 ![0, 1] bcast_S512x1_S512x8_0_1 (broadcastInDim S512x1 ![0] bcast_S512_S512x1_0 (sitofp .f32
      (shapeCast S512 (broadcastInDim S128x4 ![0, 1] bcast_S1x4_S128x4_0_1 (shapeCast S1x4 q shapeCasts_S4_S1x4)) shapeCasts_S128x4_S512) : FVec Ideal S512 .f32)))
    (broadcastInDim S512x8 ![0, 1] bcast_S1x8_S512x8_0_1 (broadcastInDim S1x8 ![1] bcast_S8_S1x8_1 f))

/-- An angle: a row's position times a frequency. -/
theorem angles_apply (q : IVec S4 32) (f : Vec Ideal S8 .f32) (r : Fin 512) (j : Fin 8) :
    angles q f (ix2 r j) = Scalar.sitofp (F := Ideal) .f32 (q (ix1 (ts r))) * f (ix1 j) := by
  unfold angles
  pointwise
  rfl

/-- The reference's angle at a position. -/
theorem ref_angle (s : Fin 4) (j : Fin 8) :
    Cert.QkvSRefIdeal.Read.val_main_v33 (F := Ideal) (ix2 s j)
      = Scalar.sitofp (F := Ideal) .f32 (Cert.QkvSRefIdeal.Read.val_main_v15 (F := Ideal) (ix1 s)) * Cert.QkvSRefIdeal.Read.val_main_v27 (F := Ideal) (ix1 j) := by
  rw [Cert.QkvSRefIdeal.Read.val_main_v33_apply, Cert.QkvSRefIdeal.Read.val_main_v31_apply, Cert.QkvSRefIdeal.Read.val_main_v29_apply,
    Cert.QkvSRefIdeal.Read.val_main_v28_apply, Cert.QkvSRefIdeal.Read.val_main_v32_apply, Cert.QkvSRefIdeal.Read.val_main_v30_apply]
  have e1 : Cert.QkvSRefIdeal.Read.idx_main_v29 (Cert.QkvSRefIdeal.Read.idx_main_v31 (ix2 s j)) = ix1 s :=
    funext fun a => Fin.ext (by match a with | ⟨0, _⟩ => rfl)
  have e2 : Cert.QkvSRefIdeal.Read.idx_main_v30 (Cert.QkvSRefIdeal.Read.idx_main_v32 (ix2 s j)) = ix1 j :=
    funext fun a => Fin.ext (by match a with | ⟨0, _⟩ => rfl)
  rw [e1, e2]
  rfl

/-- The angles of all rows, from the reference's positions and frequencies. -/
abbrev ang : Vec Ideal S512x8 .f32 := angles (Cert.QkvSRefIdeal.Read.val_main_v15 (F := Ideal)) (Cert.QkvSRefIdeal.Read.val_main_v27 (F := Ideal))

/-- The cosine of a row's angle is the reference's at the row's position. -/
theorem cos_ang (r : Fin 512) (j : Fin 8) : (Host.cos (ang : FVec Ideal S512x8 .f32) : FVec Ideal S512x8 .f32) (ix2 r j) = cs (ts r) j := by
  unfold cs
  rw [Cert.QkvSRefIdeal.Read.val_main_v34_apply, ref_angle]
  exact congrArg (Ideal.hostUnary .cos) (angles_apply _ _ r j)

/-- The sine of a row's angle is the reference's at the row's position. -/
theorem sin_ang (r : Fin 512) (j : Fin 8) : (Host.sin (ang : FVec Ideal S512x8 .f32) : FVec Ideal S512x8 .f32) (ix2 r j) = sn (ts r) j := by
  unfold sn
  rw [Cert.QkvSRefIdeal.Read.val_main_v36_apply, ref_angle]
  exact congrArg (Ideal.hostUnary .sin) (angles_apply _ _ r j)

variable (m : (ℓ : Loc nD τ sig) → Buf (Elt Ideal) ℓ) (c : Dev nD)

/-- The rows' block at an element. -/
theorem iblk0_apply (t : Fin cfg0.N) (r : Fin 512) (k : Fin 1024) :
    (iblk m c 0 t : Vec Ideal S512x1024 .f32) (ix2 r k) = m ((c : Thread nD τ).loc main_arg0) (ix3 (tb r) (ts r) k) := by
  have h := (idx_eq t).1
  have ht := point_zero t
  unfold iblk
  rw [View.read_apply]
  show V m c main_v41 _ = _
  have he : (win0_0.blk t).view.emb (ix2 r k) = ix2 r k := funext fun a => Fin.ext (by
    match a with
    | ⟨0, _⟩ => show win0_0.index t 0 * 512 + 1 * r.val = r.val; rw [h]; show t.val * 512 + _ = _; omega
    | ⟨1, _⟩ => show win0_0.index t 1 * 1024 + 1 * k.val = k.val; rw [h]; show 0 * 1024 + _ = _; omega)
  refine (congrArg (V m c main_v41) he).trans ?_
  show StableHlo.after hostOps0 (fun b => m (c, b)) (Proc.devRef .tc main_v41) _ = _
  after_reads_simp
  pointwise

/-- The shift's array, at the call. -/
theorem V_shift : V m c main_v45 = rows (m ((c : Thread nD τ).loc main_arg1)) := by
  show StableHlo.after hostOps0 (fun b => m (c, b)) (Proc.devRef .tc main_v45) = _
  after_reads_simp
  rfl

/-- The shift's block at an element: every row has its sequence's. -/
theorem iblk1_apply (t : Fin cfg0.N) (r : Fin 512) (k : Fin 1024) :
    (iblk m c 1 t : Vec Ideal S1x512x1024 .f32) (ix3 0 r k) = m ((c : Thread nD τ).loc main_arg1) (ix3 (tb r) 0 k) := by
  have h := (idx_eq t).2.1
  have ht := point_zero t
  have e : (iblk m c 1 t : Vec Ideal S1x512x1024 .f32) (ix3 0 r k) = V m c main_v45 (ix3 0 r k) := by
    unfold iblk
    rw [View.read_apply]
    refine congrArg (V m c main_v45) (funext fun a => Fin.ext ?_)
    match a with
    | ⟨0, _⟩ => show win0_1.index t 0 * 1 + 1 * 0 = 0; rw [h]; show t.val * 1 + _ = _; omega
    | ⟨1, _⟩ => show win0_1.index t 1 * 512 + 1 * r.val = r.val; rw [h]; show 0 * 512 + _ = _; omega
    | ⟨2, _⟩ => show win0_1.index t 2 * 1024 + 1 * k.val = k.val; rw [h]; show 0 * 1024 + _ = _; omega
  rw [e, V_shift]
  exact rows_apply _ r k

/-- The scale's array, at the call. -/
theorem V_scale : V m c main_v49 = rows (m ((c : Thread nD τ).loc main_arg2)) := by
  show StableHlo.after hostOps0 (fun b => m (c, b)) (Proc.devRef .tc main_v49) = _
  after_reads_simp
  rfl

/-- The scale's block at an element: every row has its sequence's. -/
theorem iblk2_apply (t : Fin cfg0.N) (r : Fin 512) (k : Fin 1024) :
    (iblk m c 2 t : Vec Ideal S1x512x1024 .f32) (ix3 0 r k) = m ((c : Thread nD τ).loc main_arg2) (ix3 (tb r) 0 k) := by
  have h := (idx_eq t).2.2.1
  have ht := point_zero t
  have e : (iblk m c 2 t : Vec Ideal S1x512x1024 .f32) (ix3 0 r k) = V m c main_v49 (ix3 0 r k) := by
    unfold iblk
    rw [View.read_apply]
    refine congrArg (V m c main_v49) (funext fun a => Fin.ext ?_)
    match a with
    | ⟨0, _⟩ => show win0_2.index t 0 * 1 + 1 * 0 = 0; rw [h]; show t.val * 1 + _ = _; omega
    | ⟨1, _⟩ => show win0_2.index t 1 * 512 + 1 * r.val = r.val; rw [h]; show 0 * 512 + _ = _; omega
    | ⟨2, _⟩ => show win0_2.index t 2 * 1024 + 1 * k.val = k.val; rw [h]; show 0 * 1024 + _ = _; omega
  rw [e, V_scale]
  exact rows_apply _ r k

/-- The weights' block at an element. -/
theorem iblk3_apply (t : Fin cfg0.N) (k : Fin 1024) (e : Fin 1536) :
    (iblk m c 3 t : Vec Ideal S1024x1536 .bf16) (ix2 k e) = m ((c : Thread nD τ).loc main_arg3) (ix2 k e) := by
  blk_ext! [iblk, V, idx_eq t]

/-- The offset at an element. -/
theorem iblk4_apply (t : Fin cfg0.N) (e : Fin 1536) :
    (iblk m c 4 t : Vec Ideal S1x1536 .f32) (ix2 0 e) = m ((c : Thread nD τ).loc main_arg4) (ix1 e) := by
  blk_ext! [iblk, V, idx_eq t]

/-- The table of cosines over the 128 lanes, from the reference's cosines. -/
theorem V_tabC : V m c main_v34 = table (Host.cos (ang : FVec Ideal S512x8 .f32) : FVec Ideal S512x8 .f32) (Host.cos (ang : FVec Ideal S512x8 .f32) : FVec Ideal S512x8 .f32) (broadcastInDim S512x48 ![] bcast_S_S512x48 (constant (F := Ideal) S_ .f32 0x3F800000#32)) := by
  show StableHlo.after hostOps0 (fun b => m (c, b)) (Proc.devRef .tc main_v34) = _
  after_reads_simp
  show table (StableHlo.upto hostOps0 (fun b => m (c, b)) 37 (Proc.devRef .tc main_v23)) (StableHlo.upto hostOps0 (fun b => m (c, b)) 37 (Proc.devRef .tc main_v23))
    (StableHlo.upto hostOps0 (fun b => m (c, b)) 37 (Proc.devRef .tc main_v25)) = _
  after_reads_simp
  rfl

/-- The table of the negated sines. -/
theorem V_tabL : V m c main_v37 = table (Host.negf (Host.sin (ang : FVec Ideal S512x8 .f32) : FVec Ideal S512x8 .f32) : FVec Ideal S512x8 .f32) (broadcastInDim S512x8 ![] bcast_S_S512x8 (constant (F := Ideal) S_ .f32 0x00000000#32)) (broadcastInDim S512x48 ![] bcast_S_S512x48 (constant (F := Ideal) S_ .f32 0x00000000#32)) := by
  show StableHlo.after hostOps0 (fun b => m (c, b)) (Proc.devRef .tc main_v37) = _
  after_reads_simp
  show table (StableHlo.upto hostOps0 (fun b => m (c, b)) 39 (Proc.devRef .tc main_v29)) (StableHlo.upto hostOps0 (fun b => m (c, b)) 39 (Proc.devRef .tc main_v27))
    (StableHlo.upto hostOps0 (fun b => m (c, b)) 39 (Proc.devRef .tc main_v26)) = _
  after_reads_simp
  rfl

/-- The table of the sines. -/
theorem V_tabR : V m c main_v40 = table (broadcastInDim S512x8 ![] bcast_S_S512x8 (constant (F := Ideal) S_ .f32 0x00000000#32)) (Host.sin (ang : FVec Ideal S512x8 .f32) : FVec Ideal S512x8 .f32) (broadcastInDim S512x48 ![] bcast_S_S512x48 (constant (F := Ideal) S_ .f32 0x00000000#32)) := by
  show StableHlo.after hostOps0 (fun b => m (c, b)) (Proc.devRef .tc main_v40) = _
  after_reads_simp
  show table (StableHlo.upto hostOps0 (fun b => m (c, b)) 40 (Proc.devRef .tc main_v27)) (StableHlo.upto hostOps0 (fun b => m (c, b)) 40 (Proc.devRef .tc main_v24))
    (StableHlo.upto hostOps0 (fun b => m (c, b)) 40 (Proc.devRef .tc main_v26)) = _
  after_reads_simp
  rfl

/-- The table of cosines at an element. -/
theorem iblk5_apply (t : Fin cfg0.N) (r : Fin 512) (l : Fin 128) :
    (iblk m c 5 t : Vec Ideal S512x128 .f32) (ix2 r l) = tabC (cs (ts r)) l := by
  have h := (idx_eq t).2.2.2.2.2.1
  unfold iblk
  rw [View.read_apply]
  show V m c main_v34 _ = _
  have he : (win0_5.blk t).view.emb (ix2 r l) = ix2 r l := funext fun a => Fin.ext (by
    match a with
    | ⟨0, _⟩ => show win0_5.index t 0 * 512 + 1 * r.val = r.val; rw [h]; show 0 * 512 + _ = _; omega
    | ⟨1, _⟩ => show win0_5.index t 1 * 128 + 1 * l.val = l.val; rw [h]; show 0 * 128 + _ = _; omega)
  refine (congrArg (V m c main_v34) he).trans ?_
  rw [V_tabC, table_apply]
  unfold tabC
  by_cases h8 : l.val % 64 < 8
  · rw [if_pos h8, if_pos (by omega)]
    exact cos_ang r (freq l)
  · rw [if_neg h8]
    by_cases h16 : l.val % 64 < 16
    · rw [if_pos h16, if_pos h16]
      exact cos_ang r (freq l)
    · rw [if_neg h16, if_neg h16]
      exact Idealize.ShloMosaic.Ideal.ofBits_one_f32

/-- The table of the negated sines at an element. -/
theorem iblk6_apply (t : Fin cfg0.N) (r : Fin 512) (l : Fin 128) :
    (iblk m c 6 t : Vec Ideal S512x128 .f32) (ix2 r l) = tabL (sn (ts r)) l := by
  have h := (idx_eq t).2.2.2.2.2.2.1
  unfold iblk
  rw [View.read_apply]
  show V m c main_v37 _ = _
  have he : (win0_6.blk t).view.emb (ix2 r l) = ix2 r l := funext fun a => Fin.ext (by
    match a with
    | ⟨0, _⟩ => show win0_6.index t 0 * 512 + 1 * r.val = r.val; rw [h]; show 0 * 512 + _ = _; omega
    | ⟨1, _⟩ => show win0_6.index t 1 * 128 + 1 * l.val = l.val; rw [h]; show 0 * 128 + _ = _; omega)
  refine (congrArg (V m c main_v37) he).trans ?_
  rw [V_tabL, table_apply]
  have z0 : Ideal.ofBits .f32 0x00000000#32 = 0 := by simp [Ideal.ofBits, Ideal.ieee]
  unfold tabL
  by_cases h8 : l.val % 64 < 8
  · rw [if_pos h8, if_pos h8]
    exact congrArg (fun z : EReal => -z) (sin_ang r (freq l))
  · rw [if_neg h8, if_neg h8]
    by_cases h16 : l.val % 64 < 16
    · rw [if_pos h16]
      exact z0
    · rw [if_neg h16]
      exact z0

/-- The table of the sines at an element. -/
theorem iblk7_apply (t : Fin cfg0.N) (r : Fin 512) (l : Fin 128) :
    (iblk m c 7 t : Vec Ideal S512x128 .f32) (ix2 r l) = tabR (sn (ts r)) l := by
  have h := (idx_eq t).2.2.2.2.2.2.2.1
  unfold iblk
  rw [View.read_apply]
  show V m c main_v40 _ = _
  have he : (win0_7.blk t).view.emb (ix2 r l) = ix2 r l := funext fun a => Fin.ext (by
    match a with
    | ⟨0, _⟩ => show win0_7.index t 0 * 512 + 1 * r.val = r.val; rw [h]; show 0 * 512 + _ = _; omega
    | ⟨1, _⟩ => show win0_7.index t 1 * 128 + 1 * l.val = l.val; rw [h]; show 0 * 128 + _ = _; omega)
  refine (congrArg (V m c main_v40) he).trans ?_
  rw [V_tabR, table_apply]
  have z0 : Ideal.ofBits .f32 0x00000000#32 = 0 := by simp [Ideal.ofBits, Ideal.ieee]
  unfold tabR
  by_cases h8 : l.val % 64 < 8
  · rw [if_pos h8, if_pos h8]
    exact z0
  · rw [if_neg h8, if_neg h8]
    by_cases h16 : l.val % 64 < 16
    · rw [if_pos h16, if_pos h16]
      exact sin_ang r (freq l)
    · rw [if_neg h16, if_neg h16]
      exact z0

/-- The reference's projected row that a grid point's row is. -/
abbrev rowOf (r : Fin 512) : Fin 1536 → EReal :=
  prow (m ((c : Thread nD τ).loc main_arg0)) (m ((c : Thread nD τ).loc main_arg1)) (m ((c : Thread nD τ).loc main_arg2)) (m ((c : Thread nD τ).loc main_arg3)) (m ((c : Thread nD τ).loc main_arg4)) (tb r) (ts r)

/-- A grid point's blocks are the reference's rows and the tables at their positions. -/
theorem pointRows (t : Fin cfg0.N) :
    PointRows (rowOf m c) (fun r => cs (ts r)) (fun r => sn (ts r)) (iblk m c 0 t) (iblk m c 1 t) (iblk m c 2 t) (iblk m c 3 t) (iblk m c 4 t) (iblk m c 5 t) (iblk m c 6 t) (iblk m c 7 t) where
  hv r e := by
    rw [pay37_eq, pay3_apply]
    simp only [iblk0_apply, iblk1_apply, iblk2_apply, iblk3_apply, iblk4_apply]
    rfl
  hc r l := by
    rw [pay38_eq]
    exact iblk5_apply m c t r l
  h1 r l := by
    rw [pay39_eq]
    exact iblk6_apply m c t r l
  h2 r l := by
    rw [pay40_eq]
    exact iblk7_apply m c t r l

/-- A grid point's row, among all rows. -/
theorem row_val (t : Fin cfg0.N) (r : Fin 512) (n : ℕ) (hn : n = t.val) : (row (tb r) (ts r)).val = n * 512 + 1 * r.val := by
  have ht := point_zero t
  subst hn
  show r.val / 4 * 4 + r.val % 4 = _
  omega

/-- The grid point that has a row. -/
theorem has_row (x : ℕ) (hx : x < 512) : ∃ t : Fin cfg0.N, t.val * 512 ≤ x ∧ x < t.val * 512 + 512 := by
  have hN : cfg0.N = 1 := N_0
  refine ⟨⟨0, by omega⟩, ?_, ?_⟩
  · show 0 * 512 ≤ x
    omega
  · show x < 0 * 512 + 512
    omega

/-- The reference's result 0: the scaled queries. -/
def result0 : Buf (Elt Ideal) ((c : Thread nD τ).loc main_v52_0) :=
  Cert.QkvSRefIdeal.Read.val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg4))

/-- A grid point writes back its rows of the scaled queries. -/
theorem flushed8_eq (t : Fin cfg0.N) : (dats m 0 c).flushed 8 t = ((cfg0.win 8).blk t).view.read (Elt Ideal) (result0 m c) := by
  have e := (idx_eq t).2.2.2.2.2.2.2.2.1
  rw [flushed8]
  have h : ∀ j : S512x1024.Idx, out0_8 (F := Ideal) (iblk m c 0 t) (iblk m c 1 t) (iblk m c 2 t) (iblk m c 3 t) (iblk m c 4 t) (iblk m c 5 t) (iblk m c 6 t) (iblk m c 7 t) j
      = ((cfg0.win 8).blk t).view.read (Elt Ideal) (result0 m c) j := fun j => by
    obtain ⟨r, d, rfl⟩ : ∃ (r : Fin 512) (d : Fin 1024), j = ix2 r d := ⟨j 0, j 1, funext fun a => by match a with | ⟨0, _⟩ => rfl | ⟨1, _⟩ => rfl⟩
    rw [View.read_apply]
    refine ((out8_apply (pointRows m c t) r d).trans
      (Cert.QkvSRefIdeal.Read.result0_apply _ _ _ _ _ (tb r) (ts r) d).symm).trans (congrArg (result0 m c) (funext fun a => Fin.ext ?_))
    match a with
    | ⟨0, _⟩ => exact row_val t r (win0_8.index t 0) (by rw [e]; rfl)
    | ⟨1, _⟩ => show d.val = win0_8.index t 1 * 1024 + 1 * d.val; rw [e]; show _ = 0 * 1024 + _; omega
  exact funext h

/-- The kernel's array of the scaled queries is the reference's. -/
theorem final8 : (dats m 0 c).arrAt 8 cfg0.N = result0 m c :=
  (dats m 0 c).arrAt_eq_of_cover 8 (result0 m c) (fun t _ => flushed8_eq m c t) fun i => by
    have h1 : (i 1 : Nat) < 1024 := (i 1).isLt
    obtain ⟨t, hl, hu⟩ := has_row (i 0 : Nat) (i 0).isLt
    have e := (idx_eq t).2.2.2.2.2.2.2.2.1
    refine ⟨t, flush0_8 t, ?_⟩
    show i ∈ ((View.whole main_v52_0).slice (win0_8.rect t)).set
    rw [View.set_slice_whole, Rect.mem_set_unit]
    intro a
    match a with
    | ⟨0, _⟩ => show win0_8.index t 0 * 512 ≤ (i 0 : Nat) ∧ (i 0 : Nat) < win0_8.index t 0 * 512 + 512
                rw [e]; exact ⟨hl, hu⟩
    | ⟨1, _⟩ => show win0_8.index t 1 * 1024 ≤ (i 1 : Nat) ∧ (i 1 : Nat) < win0_8.index t 1 * 1024 + 1024
                rw [e]; show 0 * 1024 ≤ _ ∧ _ < 0 * 1024 + 1024; omega

/-- The reference's result 1: the keys. -/
def result1 : Buf (Elt Ideal) ((c : Thread nD τ).loc main_v52_1) :=
  Cert.QkvSRefIdeal.Read.val_main_v92 (F := Ideal) (m ((c : Thread nD τ).loc main_arg0)) (m ((c : Thread nD τ).loc main_arg1)) (m ((c : Thread nD τ).loc main_arg2)) (m ((c : Thread nD τ).loc main_arg3)) (m ((c : Thread nD τ).loc main_arg4))

/-- A grid point writes back its rows of the keys. -/
theorem flushed9_eq (t : Fin cfg0.N) : (dats m 0 c).flushed 9 t = ((cfg0.win 9).blk t).view.read (Elt Ideal) (result1 m c) := by
  have e := (idx_eq t).2.2.2.2.2.2.2.2.2.1
  rw [flushed9]
  have h : ∀ j : S512x256.Idx, out0_9 (F := Ideal) (iblk m c 0 t) (iblk m c 1 t) (iblk m c 2 t) (iblk m c 3 t) (iblk m c 4 t) (iblk m c 5 t) (iblk m c 6 t) (iblk m c 7 t) j
      = ((cfg0.win 9).blk t).view.read (Elt Ideal) (result1 m c) j := fun j => by
    obtain ⟨r, d, rfl⟩ : ∃ (r : Fin 512) (d : Fin 256), j = ix2 r d := ⟨j 0, j 1, funext fun a => by match a with | ⟨0, _⟩ => rfl | ⟨1, _⟩ => rfl⟩
    rw [View.read_apply]
    refine ((out9_apply (pointRows m c t) r d).trans
      (Cert.QkvSRefIdeal.Read.result1_apply _ _ _ _ _ (tb r) (ts r) d).symm).trans (congrArg (result1 m c) (funext fun a => Fin.ext ?_))
    match a with
    | ⟨0, _⟩ => exact row_val t r (win0_9.index t 0) (by rw [e]; rfl)
    | ⟨1, _⟩ => show d.val = win0_9.index t 1 * 256 + 1 * d.val; rw [e]; show _ = 0 * 256 + _; omega
  exact funext h

/-- The kernel's array of the keys is the reference's. -/
theorem final9 : (dats m 0 c).arrAt 9 cfg0.N = result1 m c :=
  (dats m 0 c).arrAt_eq_of_cover 9 (result1 m c) (fun t _ => flushed9_eq m c t) fun i => by
    have h1 : (i 1 : Nat) < 256 := (i 1).isLt
    obtain ⟨t, hl, hu⟩ := has_row (i 0 : Nat) (i 0).isLt
    have e := (idx_eq t).2.2.2.2.2.2.2.2.2.1
    refine ⟨t, flush0_9 t, ?_⟩
    show i ∈ ((View.whole main_v52_1).slice (win0_9.rect t)).set
    rw [View.set_slice_whole, Rect.mem_set_unit]
    intro a
    match a with
    | ⟨0, _⟩ => show win0_9.index t 0 * 512 ≤ (i 0 : Nat) ∧ (i 0 : Nat) < win0_9.index t 0 * 512 + 512
                rw [e]; exact ⟨hl, hu⟩
    | ⟨1, _⟩ => show win0_9.index t 1 * 256 ≤ (i 1 : Nat) ∧ (i 1 : Nat) < win0_9.index t 1 * 256 + 256
                rw [e]; show 0 * 256 ≤ _ ∧ _ < 0 * 256 + 256; omega

/-- The reference's result 2: the values. -/
def result2 : Buf (Elt Ideal) ((c : Thread nD τ).loc main_v52_2) :=
  Cert.QkvSRefIdeal.Read.val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4))

/-- A grid point writes back its rows of the values. -/
theorem flushed10_eq (t : Fin cfg0.N) : (dats m 0 c).flushed 10 t = ((cfg0.win 10).blk t).view.read (Elt Ideal) (result2 m c) := by
  have e := (idx_eq t).2.2.2.2.2.2.2.2.2.2.1
  rw [flushed10]
  have h : ∀ j : S512x256.Idx, out0_10 (F := Ideal) (iblk m c 0 t) (iblk m c 1 t) (iblk m c 2 t) (iblk m c 3 t) (iblk m c 4 t) (iblk m c 5 t) (iblk m c 6 t) (iblk m c 7 t) j
      = ((cfg0.win 10).blk t).view.read (Elt Ideal) (result2 m c) j := fun j => by
    obtain ⟨r, d, rfl⟩ : ∃ (r : Fin 512) (d : Fin 256), j = ix2 r d := ⟨j 0, j 1, funext fun a => by match a with | ⟨0, _⟩ => rfl | ⟨1, _⟩ => rfl⟩
    rw [View.read_apply]
    refine ((out10_apply (pointRows m c t) r d).trans
      (Cert.QkvSRefIdeal.Read.result2_apply _ _ _ _ _ (tb r) (ts r) d).symm).trans (congrArg (result2 m c) (funext fun a => Fin.ext ?_))
    match a with
    | ⟨0, _⟩ => exact row_val t r (win0_10.index t 0) (by rw [e]; rfl)
    | ⟨1, _⟩ => show d.val = win0_10.index t 1 * 256 + 1 * d.val; rw [e]; show _ = 0 * 256 + _; omega
  exact funext h

/-- The kernel's array of the values is the reference's. -/
theorem final10 : (dats m 0 c).arrAt 10 cfg0.N = result2 m c :=
  (dats m 0 c).arrAt_eq_of_cover 10 (result2 m c) (fun t _ => flushed10_eq m c t) fun i => by
    have h1 : (i 1 : Nat) < 256 := (i 1).isLt
    obtain ⟨t, hl, hu⟩ := has_row (i 0 : Nat) (i 0).isLt
    have e := (idx_eq t).2.2.2.2.2.2.2.2.2.2.1
    refine ⟨t, flush0_10 t, ?_⟩
    show i ∈ ((View.whole main_v52_2).slice (win0_10.rect t)).set
    rw [View.set_slice_whole, Rect.mem_set_unit]
    intro a
    match a with
    | ⟨0, _⟩ => show win0_10.index t 0 * 512 ≤ (i 0 : Nat) ∧ (i 0 : Nat) < win0_10.index t 0 * 512 + 512
                rw [e]; exact ⟨hl, hu⟩
    | ⟨1, _⟩ => show win0_10.index t 1 * 256 ≤ (i 1 : Nat) ∧ (i 1 : Nat) < win0_10.index t 1 * 256 + 256
                rw [e]; show 0 * 256 ≤ _ ∧ _ < 0 * 256 + 256; omega

/-- The reference's result 3: the rounded keys. -/
def result3 : Buf (Elt Ideal) ((c : Thread nD τ).loc main_v52_3) :=
  Cert.QkvSRefIdeal.Read.val_main_v98 (F := Ideal) (m ((c : Thread nD τ).loc main_arg0)) (m ((c : Thread nD τ).loc main_arg1)) (m ((c : Thread nD τ).loc main_arg2)) (m ((c : Thread nD τ).loc main_arg3)) (m ((c : Thread nD τ).loc main_arg4))

/-- A grid point writes back its rows of the rounded keys. -/
theorem flushed11_eq (t : Fin cfg0.N) : (dats m 0 c).flushed 11 t = ((cfg0.win 11).blk t).view.read (Elt Ideal) (result3 m c) := by
  have e := (idx_eq t).2.2.2.2.2.2.2.2.2.2.2.1
  rw [flushed11]
  have h : ∀ j : S512x256.Idx, out0_11 (F := Ideal) (iblk m c 0 t) (iblk m c 1 t) (iblk m c 2 t) (iblk m c 3 t) (iblk m c 4 t) (iblk m c 5 t) (iblk m c 6 t) (iblk m c 7 t) j
      = ((cfg0.win 11).blk t).view.read (Elt Ideal) (result3 m c) j := fun j => by
    obtain ⟨r, d, rfl⟩ : ∃ (r : Fin 512) (d : Fin 256), j = ix2 r d := ⟨j 0, j 1, funext fun a => by match a with | ⟨0, _⟩ => rfl | ⟨1, _⟩ => rfl⟩
    rw [View.read_apply]
    refine ((out11_apply (pointRows m c t) r d).trans
      (Cert.QkvSRefIdeal.Read.result3_apply _ _ _ _ _ (tb r) (ts r) d).symm).trans (congrArg (result3 m c) (funext fun a => Fin.ext ?_))
    match a with
    | ⟨0, _⟩ => exact row_val t r (win0_11.index t 0) (by rw [e]; rfl)
    | ⟨1, _⟩ => show d.val = win0_11.index t 1 * 256 + 1 * d.val; rw [e]; show _ = 0 * 256 + _; omega
  exact funext h

/-- The kernel's array of the rounded keys is the reference's. -/
theorem final11 : (dats m 0 c).arrAt 11 cfg0.N = result3 m c :=
  (dats m 0 c).arrAt_eq_of_cover 11 (result3 m c) (fun t _ => flushed11_eq m c t) fun i => by
    have h1 : (i 1 : Nat) < 256 := (i 1).isLt
    obtain ⟨t, hl, hu⟩ := has_row (i 0 : Nat) (i 0).isLt
    have e := (idx_eq t).2.2.2.2.2.2.2.2.2.2.2.1
    refine ⟨t, flush0_11 t, ?_⟩
    show i ∈ ((View.whole main_v52_3).slice (win0_11.rect t)).set
    rw [View.set_slice_whole, Rect.mem_set_unit]
    intro a
    match a with
    | ⟨0, _⟩ => show win0_11.index t 0 * 512 ≤ (i 0 : Nat) ∧ (i 0 : Nat) < win0_11.index t 0 * 512 + 512
                rw [e]; exact ⟨hl, hu⟩
    | ⟨1, _⟩ => show win0_11.index t 1 * 256 ≤ (i 1 : Nat) ∧ (i 1 : Nat) < win0_11.index t 1 * 256 + 256
                rw [e]; show 0 * 256 ≤ _ ∧ _ < 0 * 256 + 256; omega

/-- The reference's result 4: the rounded values. -/
def result4 : Buf (Elt Ideal) ((c : Thread nD τ).loc main_v52_4) :=
  Cert.QkvSRefIdeal.Read.val_main_v99 (F := Ideal) (m ((c : Thread nD τ).loc main_arg0)) (m ((c : Thread nD τ).loc main_arg1)) (m ((c : Thread nD τ).loc main_arg2)) (m ((c : Thread nD τ).loc main_arg3)) (m ((c : Thread nD τ).loc main_arg4))

/-- A grid point writes back its rows of the rounded values. -/
theorem flushed12_eq (t : Fin cfg0.N) : (dats m 0 c).flushed 12 t = ((cfg0.win 12).blk t).view.read (Elt Ideal) (result4 m c) := by
  have e := (idx_eq t).2.2.2.2.2.2.2.2.2.2.2.2.1
  rw [flushed12]
  have h : ∀ j : S512x256.Idx, out0_12 (F := Ideal) (iblk m c 0 t) (iblk m c 1 t) (iblk m c 2 t) (iblk m c 3 t) (iblk m c 4 t) (iblk m c 5 t) (iblk m c 6 t) (iblk m c 7 t) j
      = ((cfg0.win 12).blk t).view.read (Elt Ideal) (result4 m c) j := fun j => by
    obtain ⟨r, d, rfl⟩ : ∃ (r : Fin 512) (d : Fin 256), j = ix2 r d := ⟨j 0, j 1, funext fun a => by match a with | ⟨0, _⟩ => rfl | ⟨1, _⟩ => rfl⟩
    rw [View.read_apply]
    refine ((out12_apply (pointRows m c t) r d).trans
      (Cert.QkvSRefIdeal.Read.result4_apply _ _ _ _ _ (tb r) (ts r) d).symm).trans (congrArg (result4 m c) (funext fun a => Fin.ext ?_))
    match a with
    | ⟨0, _⟩ => exact row_val t r (win0_12.index t 0) (by rw [e]; rfl)
    | ⟨1, _⟩ => show d.val = win0_12.index t 1 * 256 + 1 * d.val; rw [e]; show _ = 0 * 256 + _; omega
  exact funext h

/-- The kernel's array of the rounded values is the reference's. -/
theorem final12 : (dats m 0 c).arrAt 12 cfg0.N = result4 m c :=
  (dats m 0 c).arrAt_eq_of_cover 12 (result4 m c) (fun t _ => flushed12_eq m c t) fun i => by
    have h1 : (i 1 : Nat) < 256 := (i 1).isLt
    obtain ⟨t, hl, hu⟩ := has_row (i 0 : Nat) (i 0).isLt
    have e := (idx_eq t).2.2.2.2.2.2.2.2.2.2.2.2.1
    refine ⟨t, flush0_12 t, ?_⟩
    show i ∈ ((View.whole main_v52_4).slice (win0_12.rect t)).set
    rw [View.set_slice_whole, Rect.mem_set_unit]
    intro a
    match a with
    | ⟨0, _⟩ => show win0_12.index t 0 * 512 ≤ (i 0 : Nat) ∧ (i 0 : Nat) < win0_12.index t 0 * 512 + 512
                rw [e]; exact ⟨hl, hu⟩
    | ⟨1, _⟩ => show win0_12.index t 1 * 256 ≤ (i 1 : Nat) ∧ (i 1 : Nat) < win0_12.index t 1 * 256 + 256
                rw [e]; show 0 * 256 ≤ _ ∧ _ < 0 * 256 + 256; omega

/-- The reference's result 5: the sums of each key head's query heads. -/
def result5 : Buf (Elt Ideal) ((c : Thread nD τ).loc main_v52_5) :=
  Cert.QkvSRefIdeal.Read.val_main_v100 (F := Ideal) (m ((c : Thread nD τ).loc main_arg0)) (m ((c : Thread nD τ).loc main_arg1)) (m ((c : Thread nD τ).loc main_arg2)) (m ((c : Thread nD τ).loc main_arg3)) (m ((c : Thread nD τ).loc main_arg4))

/-- A grid point writes back its rows of the sums of each key head's query heads. -/
theorem flushed13_eq (t : Fin cfg0.N) : (dats m 0 c).flushed 13 t = ((cfg0.win 13).blk t).view.read (Elt Ideal) (result5 m c) := by
  have e := (idx_eq t).2.2.2.2.2.2.2.2.2.2.2.2.2
  rw [flushed13]
  have h : ∀ j : S512x256.Idx, out0_13 (F := Ideal) (iblk m c 0 t) (iblk m c 1 t) (iblk m c 2 t) (iblk m c 3 t) (iblk m c 4 t) (iblk m c 5 t) (iblk m c 6 t) (iblk m c 7 t) j
      = ((cfg0.win 13).blk t).view.read (Elt Ideal) (result5 m c) j := fun j => by
    obtain ⟨r, d, rfl⟩ : ∃ (r : Fin 512) (d : Fin 256), j = ix2 r d := ⟨j 0, j 1, funext fun a => by match a with | ⟨0, _⟩ => rfl | ⟨1, _⟩ => rfl⟩
    rw [View.read_apply]
    refine ((out13_apply (pointRows m c t) r d).trans
      (Cert.QkvSRefIdeal.Read.result5_apply _ _ _ _ _ (tb r) (ts r) d).symm).trans (congrArg (result5 m c) (funext fun a => Fin.ext ?_))
    match a with
    | ⟨0, _⟩ => exact row_val t r (win0_13.index t 0) (by rw [e]; rfl)
    | ⟨1, _⟩ => show d.val = win0_13.index t 1 * 256 + 1 * d.val; rw [e]; show _ = 0 * 256 + _; omega
  exact funext h

/-- The kernel's array of the sums of each key head's query heads is the reference's. -/
theorem final13 : (dats m 0 c).arrAt 13 cfg0.N = result5 m c :=
  (dats m 0 c).arrAt_eq_of_cover 13 (result5 m c) (fun t _ => flushed13_eq m c t) fun i => by
    have h1 : (i 1 : Nat) < 256 := (i 1).isLt
    obtain ⟨t, hl, hu⟩ := has_row (i 0 : Nat) (i 0).isLt
    have e := (idx_eq t).2.2.2.2.2.2.2.2.2.2.2.2.2
    refine ⟨t, flush0_13 t, ?_⟩
    show i ∈ ((View.whole main_v52_5).slice (win0_13.rect t)).set
    rw [View.set_slice_whole, Rect.mem_set_unit]
    intro a
    match a with
    | ⟨0, _⟩ => show win0_13.index t 0 * 512 ≤ (i 0 : Nat) ∧ (i 0 : Nat) < win0_13.index t 0 * 512 + 512
                rw [e]; exact ⟨hl, hu⟩
    | ⟨1, _⟩ => show win0_13.index t 1 * 256 ≤ (i 1 : Nat) ∧ (i 1 : Nat) < win0_13.index t 1 * 256 + 256
                rw [e]; show 0 * 256 ≤ _ ∧ _ < 0 * 256 + 256; omega

end Cert.QkvSIdeal.Value

namespace Cert.Proof

/-- The projection's reference runs and keeps its arguments: it declares no semaphore. -/
theorem qkv_sample_ref_frame : Cert.quiescent_QkvSRefIdeal := fun m ρ _ =>
  (θ_run _ _ _).mono (fun r h => ⟨fun c => (h c).2.2.2.2.2.2, Idealize.ShloMosaic.sem_eq_zero_of_no_sems (by decide) r.2⟩) (Cert.QkvSRefIdeal.Value.run m ρ)

/-- The projection's kernel and its reference end with the same six results. -/
theorem qkv_sample_algebraic : Cert.algebraic_QkvSIdeal_QkvSRefIdeal := by
  intro m g m' g' _ hargs
  refine ⟨fun c => Cert.QkvSIdeal.Value.result0 m c, fun c => Cert.QkvSIdeal.Value.result1 m c, fun c => Cert.QkvSIdeal.Value.result2 m c,
    fun c => Cert.QkvSIdeal.Value.result3 m c, fun c => Cert.QkvSIdeal.Value.result4 m c, fun c => Cert.QkvSIdeal.Value.result5 m c, ?_, ?_⟩
  · refine (θ_run _ _ _).mono (fun r h c => ?_) (Cert.QkvSIdeal.Value.run_blocks m g)
    exact ⟨(h c).1.trans (Cert.QkvSIdeal.Value.final8 m c), (h c).2.1.trans (Cert.QkvSIdeal.Value.final9 m c), (h c).2.2.1.trans (Cert.QkvSIdeal.Value.final10 m c), (h c).2.2.2.1.trans (Cert.QkvSIdeal.Value.final11 m c), (h c).2.2.2.2.1.trans (Cert.QkvSIdeal.Value.final12 m c), (h c).2.2.2.2.2.1.trans (Cert.QkvSIdeal.Value.final13 m c), (h c).2.2.2.2.2.2⟩
  · refine (θ_run _ _ _).mono (fun r h c => ?_) (Cert.QkvSRefIdeal.Value.run m' g')
    obtain ⟨h0, h1, h2, h3, h4⟩ := hargs c
    refine ⟨(h c).1.trans ?_, (h c).2.1.trans ?_, (h c).2.2.1.trans ?_, (h c).2.2.2.1.trans ?_, (h c).2.2.2.2.1.trans ?_, (h c).2.2.2.2.2.1.trans ?_, (h c).2.2.2.2.2.2⟩
    · rw [Cert.QkvSRefIdeal.Read.val_main_v97_eq, h0, h1, h2, h3, h4]
      rfl
    · rw [Cert.QkvSRefIdeal.Read.val_main_v92_eq, h0, h1, h2, h3, h4]
      rfl
    · rw [Cert.QkvSRefIdeal.Read.val_main_v93_eq, h0, h1, h2, h3, h4]
      rfl
    · rw [Cert.QkvSRefIdeal.Read.val_main_v98_eq, h0, h1, h2, h3, h4]
      rfl
    · rw [Cert.QkvSRefIdeal.Read.val_main_v99_eq, h0, h1, h2, h3, h4]
      rfl
    · rw [Cert.QkvSRefIdeal.Read.val_main_v100_eq, h0, h1, h2, h3, h4]
      rfl

end Cert.Proof

end
-- ==== Proof.FfnSPay.lean ====
/-
  The shared expert's values at an index, of the sample batch's rows, each with a gate of its own: its gated layer, the residual sum and the normalisation of a row.
-/
module

public import proofs.«01_k».proof.Proof.Gen.FfnOutSIdeal.Skeleton
public import proofs.«01_k».proof.Proof.MoePay
public import proofs.«01_k».proof.Proof.Norm
public import Idealize.ShloMosaic.Lib.Pointwise

@[expose] public section

set_option maxRecDepth 16384

noncomputable section

namespace Cert.FfnOutSIdeal.Own

open Cert.FfnOutSIdeal Cert.FfnOutSIdeal.Gen
open Idealize.ShloMosaic
open Cert.MoeIdeal.Own (unit)
open Cert.LayerNorm

/-- The residual sum at an element. -/
theorem pay2_apply (h : Vec Ideal S512x1024 .bf16) (wg wu : Vec Ideal S1024x256 .bf16) (wd : Vec Ideal S256x1024 .bf16)
    (x : Vec Ideal S512x1024 .f32) (g : Vec Ideal S1x512x1024 .f32) (rt : Vec Ideal S512x1024 .f32) (r : Fin 512) (d : Fin 1024) :
    k0_pay2 (F := Ideal) h wg wu wd x g rt (ix2 r d)
      = blend (fun d => x (ix2 r d)) (fun d => g (ix3 0 r d))
          (fun d => rt (ix2 r d) + ∑ j : Fin 256, unit (fun k => h (ix2 r k)) (fun k => wg (ix2 k j)) (fun k => wu (ix2 k j)) * wd (ix2 j d)) d := by
  unfold blend unit
  pointwise [k0_pay2]
  simp only [zero_sub]

/-- The scale of the normalisation at an element. -/
theorem pay3_apply (g : Vec Ideal S1x1024 .f32) (d : Fin 1024) : k0_pay3 (F := Ideal) g (ix2 0 d) = g (ix2 0 d) := by
  pointwise [k0_pay3]

/-- The offset of the normalisation at an element. -/
theorem pay4_apply (b : Vec Ideal S1x1024 .f32) (d : Fin 1024) : k0_pay4 (F := Ideal) b (ix2 0 d) = b (ix2 0 d) := by
  pointwise [k0_pay4]

/-- The normalisation of a row at an element. -/
theorem pay1_apply (y : Vec Ideal S512x1024 .f32) (g b : Vec Ideal S1x1024 .f32) (r : Fin 512) (d : Fin 1024) :
    k0_pay1 (F := Ideal) y g b (ix2 r d) = lnorm (fun d => y (ix2 r d)) (fun d => g (ix2 0 d)) (fun d => b (ix2 0 d)) d := by
  unfold lnorm mean
  pointwise [k0_pay1]

end Cert.FfnOutSIdeal.Own

end
-- ==== Proof.FfnSRef.lean ====
/-
  The shared expert's reference at the sample batch's shapes, one element at a time: the gated layer of the row, the residual sum, the normalisation.
-/
module

public import proofs.«01_k».proof.Proof.Gen.FfnOutSRefIdeal.Read
public import proofs.«01_k».proof.Proof.MoePay
public import proofs.«01_k».proof.Proof.Norm
public import Idealize.ShloMosaic.Lib.IdealHost

@[expose] public section

set_option maxRecDepth 16384

noncomputable section

open Idealize.ShloMosaic Idealize.ShloMosaic.TcCoe Idealize.SL.Sem

namespace Cert.FfnOutSRefIdeal.Read

open Cert.FfnOutSRefIdeal Cert.FfnOutSRefIdeal.Gen
open Cert.MoeIdeal.Own (unit)
open Cert.LayerNorm

variable (x0 : S512x1024.Idx → Elt Ideal .bf16) (x1 x2 : S512x1024.Idx → Elt Ideal .f32) (x3 : S128x1x1024.Idx → Elt Ideal .f32)
  (x4 x5 : S1024x256.Idx → Elt Ideal .f32) (x6 : S256x1024.Idx → Elt Ideal .f32) (x7 x8 : S1024.Idx → Elt Ideal .f32)

/-- The product with the gate weights. -/
theorem v1_at (n : Fin 512) (j : Fin 256) : val_main_v1 (F := Ideal) x0 x4 (ix2 n j) = ∑ k, x0 (ix2 n k) * x4 (ix2 k j) := by
  rw [val_main_v1_apply]
  refine Finset.sum_congr rfl fun k _ => ?_
  have el : lidx_main_v1 (ix2 n j) k = ix2 n k := funext fun a => Fin.ext (by match a with | ⟨0, _⟩ => rfl | ⟨1, _⟩ => rfl)
  have er : ridx_main_v1 (ix2 n j) k = ix2 k j := funext fun a => Fin.ext (by match a with | ⟨0, _⟩ => rfl | ⟨1, _⟩ => rfl)
  rw [el, er, val_main_v0_apply]
  rfl

/-- The product with the up weights. -/
theorem v3_at (n : Fin 512) (j : Fin 256) : val_main_v3 (F := Ideal) x0 x5 (ix2 n j) = ∑ k, x0 (ix2 n k) * x5 (ix2 k j) := by
  rw [val_main_v3_apply]
  refine Finset.sum_congr rfl fun k _ => ?_
  have el : lidx_main_v3 (ix2 n j) k = ix2 n k := funext fun a => Fin.ext (by match a with | ⟨0, _⟩ => rfl | ⟨1, _⟩ => rfl)
  have er : ridx_main_v3 (ix2 n j) k = ix2 k j := funext fun a => Fin.ext (by match a with | ⟨0, _⟩ => rfl | ⟨1, _⟩ => rfl)
  rw [el, er, val_main_v0_apply]
  rfl

/-- A hidden unit of a row. -/
theorem v4_at (n : Fin 512) (j : Fin 256) :
    val_main_v4 (F := Ideal) x0 x4 x5 (ix2 n j) = unit (fun k => x0 (ix2 n k)) (fun k => x4 (ix2 k j)) (fun k => x5 (ix2 k j)) := by
  rw [val_main_v4_apply, val_main_v2_apply, val_main_call0_v5_apply, val_main_call0_v3_apply, val_main_call0_v4_apply, val_main_call0_v2_apply,
    val_main_call0_cst_apply, val_main_call0_cst_0_apply, val_main_call0_v1_apply, val_main_call0_v0_apply, v1_at, v3_at]
  unfold unit
  show _ * Ideal.div (Ideal.ofBits .f32 0x3F800000#32) (Ideal.ofBits .f32 0x3F800000#32 + Ideal.exp (-_)) * _ = _
  rw [Ideal.ofBits_one_f32]

/-- The branch: the routed experts' row and the shared expert's. -/
theorem v9_at (n : Fin 512) (d : Fin 1024) :
    val_main_v9 (F := Ideal) x0 x1 x4 x5 x6 (ix2 n d)
      = x1 (ix2 n d) + ∑ j, unit (fun k => x0 (ix2 n k)) (fun k => x4 (ix2 k j)) (fun k => x5 (ix2 k j)) * x6 (ix2 j d) := by
  rw [val_main_v9_apply, val_main_v5_apply]
  refine congrArg (x1 (ix2 n d) + ·) (Finset.sum_congr rfl fun k _ => ?_)
  have el : lidx_main_v5 (ix2 n d) k = ix2 n k := funext fun a => Fin.ext (by match a with | ⟨0, _⟩ => rfl | ⟨1, _⟩ => rfl)
  have er : ridx_main_v5 (ix2 n d) k = ix2 k d := funext fun a => Fin.ext (by match a with | ⟨0, _⟩ => rfl | ⟨1, _⟩ => rfl)
  rw [el, er, v4_at]

/-- A sequence's row among all rows. -/
abbrev row (b : Fin 128) (s : Fin 4) : Fin 512 := ⟨b.val * 4 + s.val, by have := b.isLt; have := s.isLt; omega⟩

/-- The residual sum of a row. -/
theorem v13_at (b : Fin 128) (s : Fin 4) (d : Fin 1024) :
    val_main_v13 (F := Ideal) x0 x1 x2 x3 x4 x5 x6 (ix3 b s d)
      = blend (fun d => x2 (ix2 (row b s) d)) (fun d => x3 (ix3 b 0 d)) (fun d => val_main_v9 (F := Ideal) x0 x1 x4 x5 x6 (ix2 (row b s) d)) d := by
  have hs := s.isLt
  have hd := d.isLt
  rw [val_main_v13_apply, val_main_v8_apply, val_main_v12_apply, val_main_v7_apply, val_main_cst_apply, val_main_v6_apply, val_main_v11_apply, val_main_v10_apply]
  have e6 : idx_main_v6 (ix3 b s d) = ix2 (row b s) d := funext fun a => Fin.ext (by
    match a with
    | ⟨0, _⟩ => show ((b.val * 4 + s.val) * 1024 + d.val) / 1024 = b.val * 4 + s.val; omega
    | ⟨1, _⟩ => show ((b.val * 4 + s.val) * 1024 + d.val) % 1024 = d.val; omega)
  have e10 : idx_main_v10 (ix3 b s d) = ix2 (row b s) d := e6
  have e11 : idx_main_v11 (ix3 b s d) = ix3 b 0 d := funext fun a => Fin.ext (by match a with | ⟨0, _⟩ => rfl | ⟨1, _⟩ => rfl | ⟨2, _⟩ => rfl)
  rw [e6, e10, e11]
  rfl

/-- The mean of a row's residual sum. -/
theorem v17_at (b : Fin 128) (s : Fin 4) :
    val_main_v17 (F := Ideal) x0 x1 x2 x3 x4 x5 x6 (ix3 b s 0) = mean fun d => val_main_v13 (F := Ideal) x0 x1 x2 x3 x4 x5 x6 (ix3 b s d) := by
  rw [val_main_v17_apply, val_main_v15_apply, val_main_v16_apply, val_main_cst_1_apply, val_main_v14_apply, val_main_cst_0_apply]
  have e : ∀ k, idx_main_v14 (idx_main_v15 (ix3 b s 0)) k = ix3 b s k := fun k => funext fun a => Fin.ext (by match a with | ⟨0, _⟩ => rfl | ⟨1, _⟩ => rfl | ⟨2, _⟩ => rfl)
  simp only [e]
  show Ideal.div (Ideal.ofBits .f32 0x00000000#32 + _) _ = _
  have z : Ideal.ofBits .f32 0x00000000#32 = 0 := by simp [Ideal.ofBits, Ideal.ieee]
  rw [z, zero_add]
  rfl

/-- A row less its mean. -/
theorem v19_at (b : Fin 128) (s : Fin 4) (d : Fin 1024) :
    val_main_v19 (F := Ideal) x0 x1 x2 x3 x4 x5 x6 (ix3 b s d)
      = val_main_v13 (F := Ideal) x0 x1 x2 x3 x4 x5 x6 (ix3 b s d) - mean fun d => val_main_v13 (F := Ideal) x0 x1 x2 x3 x4 x5 x6 (ix3 b s d) := by
  rw [val_main_v19_apply, val_main_v18_apply]
  have e : idx_main_v18 (ix3 b s d) = ix3 b s 0 := funext fun a => Fin.ext (by match a with | ⟨0, _⟩ => rfl | ⟨1, _⟩ => rfl | ⟨2, _⟩ => rfl)
  rw [e, v17_at]
  rfl

/-- The mean square of a row less its mean. -/
theorem v24_at (b : Fin 128) (s : Fin 4) :
    val_main_v24 (F := Ideal) x0 x1 x2 x3 x4 x5 x6 (ix3 b s 0) = mean fun d => val_main_v19 (F := Ideal) x0 x1 x2 x3 x4 x5 x6 (ix3 b s d) * val_main_v19 (F := Ideal) x0 x1 x2 x3 x4 x5 x6 (ix3 b s d) := by
  rw [val_main_v24_apply, val_main_v22_apply, val_main_v23_apply, val_main_cst_3_apply, val_main_v21_apply, val_main_cst_2_apply]
  have e : ∀ k, idx_main_v21 (idx_main_v22 (ix3 b s 0)) k = ix3 b s k := fun k => funext fun a => Fin.ext (by match a with | ⟨0, _⟩ => rfl | ⟨1, _⟩ => rfl | ⟨2, _⟩ => rfl)
  simp only [e, val_main_v20_apply]
  show Ideal.div (Ideal.ofBits .f32 0x00000000#32 + _) _ = _
  have z : Ideal.ofBits .f32 0x00000000#32 = 0 := by simp [Ideal.ofBits, Ideal.ieee]
  rw [z, zero_add]
  rfl

/-- The normalised row. -/
theorem v37_at (b : Fin 128) (s : Fin 4) (d : Fin 1024) :
    val_main_v37 (F := Ideal) x0 x1 x2 x3 x4 x5 x6 x7 x8 (ix3 b s d)
      = lnorm (fun d => val_main_v13 (F := Ideal) x0 x1 x2 x3 x4 x5 x6 (ix3 b s d)) (fun d => x7 (ix1 d)) (fun d => x8 (ix1 d)) d := by
  rw [val_main_v37_apply, val_main_v34_apply, val_main_v36_apply, val_main_v35_apply, val_main_v33_apply, val_main_v32_apply, val_main_v31_apply,
    val_main_v30_apply, val_main_v29_apply, val_main_v28_apply, val_main_v27_apply, val_main_cst_4_apply, val_main_v26_apply, val_main_v25_apply]
  have e25 : idx_main_v25 (ix3 b s d) = ix3 b s 0 := funext fun a => Fin.ext (by match a with | ⟨0, _⟩ => rfl | ⟨1, _⟩ => rfl | ⟨2, _⟩ => rfl)
  have e30 : idx_main_v30 (ix3 b s d) = ix3 b s 0 := e25
  have e32 : idx_main_v32 (idx_main_v33 (ix3 b s d)) = ix1 d := funext fun a => Fin.ext (by match a with | ⟨0, _⟩ => rfl)
  have e35 : idx_main_v35 (idx_main_v36 (ix3 b s d)) = ix1 d := e32
  rw [e25, e30, e32, e35, v24_at, v17_at]
  simp only [v19_at]
  rfl

/-- An element of the reference's result. -/
theorem result_apply (b : Fin 128) (s : Fin 4) (d : Fin 1024) :
    val_main_v38 (F := Ideal) x0 x1 x2 x3 x4 x5 x6 x7 x8 (ix2 (row b s) d)
      = lnorm (blend (fun d => x2 (ix2 (row b s) d)) (fun d => x3 (ix3 b 0 d))
          (fun d => x1 (ix2 (row b s) d) + ∑ j, unit (fun k => x0 (ix2 (row b s) k)) (fun k => x4 (ix2 k j)) (fun k => x5 (ix2 k j)) * x6 (ix2 j d)))
        (fun d => x7 (ix1 d)) (fun d => x8 (ix1 d)) d := by
  have hb := b.isLt
  have hs := s.isLt
  have hd := d.isLt
  rw [val_main_v38_apply]
  have e : idx_main_v38 (ix2 (row b s) d) = ix3 b s d := funext fun a => Fin.ext (by
    match a with
    | ⟨0, _⟩ => show ((b.val * 4 + s.val) * 1024 + d.val) / 4096 = b.val; omega
    | ⟨1, _⟩ => show ((b.val * 4 + s.val) * 1024 + d.val) / 1024 % 4 = s.val; omega
    | ⟨2, _⟩ => show ((b.val * 4 + s.val) * 1024 + d.val) % 1024 = d.val; omega)
  rw [e, v37_at]
  simp only [v13_at, v9_at]

end Cert.FfnOutSRefIdeal.Read

end
-- ==== Proof.FfnSTop.lean ====
/-
  The shared expert's result array at the sample batch's shapes: every grid point's rows are the reference's, and the rows cover the array.
-/
module

public import proofs.«01_k».proof.Defs
public import proofs.«01_k».proof.Proof.Gen.FfnOutSIdeal.Value
public import proofs.«01_k».proof.Proof.FfnSPay
public import proofs.«01_k».proof.Proof.FfnSRef
public import Idealize.ShloMosaic.Lib.Pipeline.ValueKit
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem

namespace Cert.FfnOutSIdeal.Value

open Cert.FfnOutSIdeal Cert.FfnOutSIdeal.Gen Cert.FfnOutSIdeal.Own
open Cert.FfnOutSRefIdeal.Read (row)

/-- The sequence of a row. -/
abbrev tb (r : Fin 512) : Fin 128 := ⟨r.val / 4, by have := r.isLt; omega⟩
/-- A row, in its sequence. -/
abbrev ts (r : Fin 512) : Fin 4 := ⟨r.val % 4, by omega⟩

/-- The windows' blocks at every grid point. -/
theorem idx_eq : ∀ t : Fin grid0.N,
    win0_0.index t = ![t.val, 0] ∧ win0_1.index t = ![t.val, 0] ∧ win0_2.index t = ![t.val, 0] ∧ win0_3.index t = ![t.val, 0, 0]
    ∧ win0_4.index t = ![0, 0] ∧ win0_5.index t = ![0, 0] ∧ win0_6.index t = ![0, 0] ∧ win0_7.index t = ![0, 0] ∧ win0_8.index t = ![0, 0]
    ∧ win0_9.index t = ![t.val, 0] := by
  decide +kernel

/-- There is one grid point. -/
theorem point_zero (t : Fin cfg0.N) : t.val = 0 := by
  have h : cfg0.N = 1 := N_0
  have := t.isLt
  omega

variable (m : (ℓ : Loc nD τ sig) → Buf (Elt Ideal) ℓ) (c : Dev nD)

/-- A sequence's row given to each of its four rows. -/
def rows (x : Vec Ideal S128x1x1024 .f32) : Vec Ideal S1x512x1024 .f32 :=
  broadcastInDim S1x512x1024 ![1, 2] bcast_S512x1024_S1x512x1024_1_2 (shapeCast S512x1024
    (broadcastInDim S128x4x1024 ![0, 2] bcast_S128x1024_S128x4x1024_0_2 (shapeCast S128x1024 x shapeCasts_S128x1x1024_S128x1024))
    shapeCasts_S128x4x1024_S512x1024)

/-- A sequence's row given to each of its four rows, at an element. -/
theorem rows_apply (x : Vec Ideal S128x1x1024 .f32) (r : Fin 512) (k : Fin 1024) : rows x (ix3 0 r k) = x (ix3 (tb r) 0 k) := by
  unfold rows
  pointwise

/-- The gate's array, at the call. -/
theorem V_gate : V m c main_v3 = rows (m ((c : Thread nD τ).loc main_arg3)) := by
  show StableHlo.after hostOps0 (fun b => m (c, b)) (Proc.devRef .tc main_v3) = _
  after_reads_simp
  rfl

/-- The hidden rows' block at an element. -/
theorem iblk0_apply (t : Fin cfg0.N) (r : Fin 512) (k : Fin 1024) :
    (iblk m c 0 t : Vec Ideal S512x1024 .bf16) (ix2 r k) = m ((c : Thread nD τ).loc main_arg0) (ix2 (row (tb r) (ts r)) k) := by
  obtain ⟨h, -⟩ := idx_eq t
  have ht := point_zero t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 512 + 1 * r.val = r.val / 4 * 4 + r.val % 4; rw [h]; show t.val * 512 + _ = _; omega
  | ⟨1, _⟩ => show win0_0.index t 1 * 1024 + 1 * k.val = k.val; rw [h]; show 0 * 1024 + _ = _; omega

/-- The routed experts' rows' block at an element. -/
theorem iblk1_apply (t : Fin cfg0.N) (r : Fin 512) (k : Fin 1024) :
    (iblk m c 1 t : Vec Ideal S512x1024 .f32) (ix2 r k) = m ((c : Thread nD τ).loc main_arg1) (ix2 (row (tb r) (ts r)) k) := by
  obtain ⟨-, h, -⟩ := idx_eq t
  have ht := point_zero t
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t 0 * 512 + 1 * r.val = r.val / 4 * 4 + r.val % 4; rw [h]; show t.val * 512 + _ = _; omega
  | ⟨1, _⟩ => show win0_1.index t 1 * 1024 + 1 * k.val = k.val; rw [h]; show 0 * 1024 + _ = _; omega

/-- The residual rows' block at an element. -/
theorem iblk2_apply (t : Fin cfg0.N) (r : Fin 512) (k : Fin 1024) :
    (iblk m c 2 t : Vec Ideal S512x1024 .f32) (ix2 r k) = m ((c : Thread nD τ).loc main_arg2) (ix2 (row (tb r) (ts r)) k) := by
  obtain ⟨-, -, h, -⟩ := idx_eq t
  have ht := point_zero t
  unfold iblk
  rw [View.read_apply]
  show V m c main_arg2 _ = _
  rw [V_main_arg2]
  refine congrArg (m ((c : Thread nD τ).loc main_arg2)) (funext fun a => Fin.ext ?_)
  match a with
  | ⟨0, _⟩ => show win0_2.index t 0 * 512 + 1 * r.val = r.val / 4 * 4 + r.val % 4; rw [h]; show t.val * 512 + _ = _; omega
  | ⟨1, _⟩ => show win0_2.index t 1 * 1024 + 1 * k.val = k.val; rw [h]; show 0 * 1024 + _ = _; omega

/-- The gate's block at an element: every row has its sequence's gate. -/
theorem iblk3_apply (t : Fin cfg0.N) (r : Fin 512) (k : Fin 1024) :
    (iblk m c 3 t : Vec Ideal S1x512x1024 .f32) (ix3 0 r k) = m ((c : Thread nD τ).loc main_arg3) (ix3 (tb r) 0 k) := by
  obtain ⟨-, -, -, h, -⟩ := idx_eq t
  have ht := point_zero t
  have e : (iblk m c 3 t : Vec Ideal S1x512x1024 .f32) (ix3 0 r k) = V m c main_v3 (ix3 0 r k) := by
    unfold iblk
    rw [View.read_apply]
    refine congrArg (V m c main_v3) (funext fun a => Fin.ext ?_)
    match a with
    | ⟨0, _⟩ => show win0_3.index t 0 * 1 + 1 * 0 = 0; rw [h]; show t.val * 1 + _ = _; omega
    | ⟨1, _⟩ => show win0_3.index t 1 * 512 + 1 * r.val = r.val; rw [h]; show 0 * 512 + _ = _; omega
    | ⟨2, _⟩ => show win0_3.index t 2 * 1024 + 1 * k.val = k.val; rw [h]; show 0 * 1024 + _ = _; omega
  rw [e, V_gate]
  exact rows_apply _ r k

/-- The gate weights' block at an element. -/
theorem iblk4_apply (t : Fin cfg0.N) (k : Fin 1024) (j : Fin 256) :
    (iblk m c 4 t : Vec Ideal S1024x256 .bf16) (ix2 k j) = m ((c : Thread nD τ).loc main_arg4) (ix2 k j) := by
  blk_point [iblk, V, idx_eq t]

/-- The up weights' block at an element. -/
theorem iblk5_apply (t : Fin cfg0.N) (k : Fin 1024) (j : Fin 256) :
    (iblk m c 5 t : Vec Ideal S1024x256 .bf16) (ix2 k j) = m ((c : Thread nD τ).loc main_arg5) (ix2 k j) := by
  blk_ext! [iblk, V, idx_eq t]

/-- The down weights' block at an element. -/
theorem iblk6_apply (t : Fin cfg0.N) (j : Fin 256) (k : Fin 1024) :
    (iblk m c 6 t : Vec Ideal S256x1024 .bf16) (ix2 j k) = m ((c : Thread nD τ).loc main_arg6) (ix2 j k) := by
  obtain ⟨-, -, -, -, -, -, h, -⟩ := idx_eq t
  unfold iblk
  rw [View.read_apply]
  show V m c main_v6 _ = _
  entry_read
  show m ((c : Thread nD τ).loc main_arg6) _ = _
  refine congrArg (m ((c : Thread nD τ).loc main_arg6)) (funext fun a => Fin.ext ?_)
  match a with
  | ⟨0, _⟩ => show win0_6.index t 0 * 256 + 1 * j.val = j.val; rw [h]; show 0 * 256 + _ = _; omega
  | ⟨1, _⟩ => show win0_6.index t 1 * 1024 + 1 * k.val = k.val; rw [h]; show 0 * 1024 + _ = _; omega

/-- The normalisation's scale at an element. -/
theorem iblk7_apply (t : Fin cfg0.N) (k : Fin 1024) :
    (iblk m c 7 t : Vec Ideal S1x1024 .f32) (ix2 0 k) = m ((c : Thread nD τ).loc main_arg7) (ix1 k) := by
  blk_ext! [iblk, V, idx_eq t]

/-- The normalisation's offset at an element. -/
theorem iblk8_apply (t : Fin cfg0.N) (k : Fin 1024) :
    (iblk m c 8 t : Vec Ideal S1x1024 .f32) (ix2 0 k) = m ((c : Thread nD τ).loc main_arg8) (ix1 k) := by
  blk_ext! [iblk, V, idx_eq t]

/-- What a grid point stores, as a payload of its blocks. -/
theorem out_eq (x0 : Vec Ideal S512x1024 .bf16) (x1 x2 : Vec Ideal S512x1024 .f32) (x3 : Vec Ideal S1x512x1024 .f32) (x4 x5 : Vec Ideal S1024x256 .bf16)
    (x6 : Vec Ideal S256x1024 .bf16) (x7 x8 : Vec Ideal S1x1024 .f32) :
    out0_9 (F := Ideal) x0 x1 x2 x3 x4 x5 x6 x7 x8 = k0_pay1 (k0_pay2 x0 x4 x5 x6 x2 x3 x1) (k0_pay3 x7) (k0_pay4 x8) := by
  unfold out0_9
  frame_out

/-! ## A grid point's rows are the reference's -/

/-- The reference's result, of the kernel's arguments. -/
def result : Buf (Elt Ideal) ((c : Thread nD τ).loc main_v9) :=
  Cert.FfnOutSRefIdeal.Read.val_main_v38 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- What a grid point stores is the reference's result, at an element. -/
theorem point (t : Fin cfg0.N) (r : Fin 512) (d : Fin 1024) :
    out0_9 (F := Ideal) (iblk m c 0 t) (iblk m c 1 t) (iblk m c 2 t) (iblk m c 3 t) (iblk m c 4 t) (iblk m c 5 t) (iblk m c 6 t) (iblk m c 7 t)
        (iblk m c 8 t) (ix2 r d)
      = result m c (ix2 (row (tb r) (ts r)) d) := by
  rw [out_eq, pay1_apply]
  refine Eq.trans ?_ (Cert.FfnOutSRefIdeal.Read.result_apply _ _ _ _ _ _ _ _ _ (tb r) (ts r) d).symm
  simp only [pay2_apply, pay3_apply, pay4_apply, iblk0_apply, iblk1_apply, iblk2_apply, iblk3_apply, iblk4_apply, iblk5_apply, iblk6_apply, iblk7_apply, iblk8_apply]

/-- A grid point writes back its rows of the reference's result. -/
theorem flushed_eq (t : Fin cfg0.N) : (dats m 0 c).flushed 9 t = ((cfg0.win 9).blk t).view.read (Elt Ideal) (result m c) := by
  obtain ⟨-, -, -, -, -, -, -, -, -, e⟩ := idx_eq t
  have ht := point_zero t
  rw [flushed9]
  have h : ∀ j : S512x1024.Idx, out0_9 (F := Ideal) (iblk m c 0 t) (iblk m c 1 t) (iblk m c 2 t) (iblk m c 3 t) (iblk m c 4 t) (iblk m c 5 t) (iblk m c 6 t)
        (iblk m c 7 t) (iblk m c 8 t) j = ((cfg0.win 9).blk t).view.read (Elt Ideal) (result m c) j := fun j => by
    obtain ⟨r, d, rfl⟩ : ∃ (r : Fin 512) (d : Fin 1024), j = ix2 r d := ⟨j 0, j 1, funext fun a => by match a with | ⟨0, _⟩ => rfl | ⟨1, _⟩ => rfl⟩
    rw [View.read_apply]
    refine (point m c t r d).trans (congrArg (result m c) (funext fun a => Fin.ext ?_))
    match a with
    | ⟨0, _⟩ => show r.val / 4 * 4 + r.val % 4 = win0_9.index t 0 * 512 + 1 * r.val; rw [e]; show _ = t.val * 512 + _; omega
    | ⟨1, _⟩ => show d.val = win0_9.index t 1 * 1024 + 1 * d.val; rw [e]; show _ = 0 * 1024 + _; omega
  exact funext h

/-- The kernel's result array is the reference's. -/
theorem final9 : (dats m 0 c).arrAt 9 cfg0.N = result m c :=
  (dats m 0 c).arrAt_eq_of_cover 9 (result m c) (fun t _ => flushed_eq m c t) fun i => by
    have h0 : (i 0 : Nat) < 512 := (i 0).isLt
    have h1 : (i 1 : Nat) < 1024 := (i 1).isLt
    have hN : cfg0.N = 1 := N_0
    let t : Fin cfg0.N := ⟨0, by omega⟩
    have ht : t.val = 0 := rfl
    obtain ⟨-, -, -, -, -, -, -, -, -, e⟩ := idx_eq t
    refine ⟨t, flush0_9 t, ?_⟩
    show i ∈ ((View.whole main_v9).slice (win0_9.rect t)).set
    rw [View.set_slice_whole, Rect.mem_set_unit]
    intro a
    match a with
    | ⟨0, _⟩ => show win0_9.index t 0 * 512 ≤ (i 0 : Nat) ∧ (i 0 : Nat) < win0_9.index t 0 * 512 + 512
                rw [e]; show t.val * 512 ≤ _ ∧ _ < t.val * 512 + 512; omega
    | ⟨1, _⟩ => show win0_9.index t 1 * 1024 ≤ (i 1 : Nat) ∧ (i 1 : Nat) < win0_9.index t 1 * 1024 + 1024
                rw [e]; show 0 * 1024 ≤ _ ∧ _ < 0 * 1024 + 1024; omega

end Cert.FfnOutSIdeal.Value

namespace Cert.Proof

/-- The shared expert's reference runs and keeps its arguments: it declares no semaphore. -/
theorem ffn_sample_ref_frame : Cert.quiescent_FfnOutSRefIdeal := fun m ρ _ =>
  (θ_run _ _ _).mono (fun r h => ⟨fun c => (h c).2, Idealize.ShloMosaic.sem_eq_zero_of_no_sems (by decide) r.2⟩) (Cert.FfnOutSRefIdeal.Value.run m ρ)

/-- The shared expert's kernel and its reference end with the same result. -/
theorem ffn_sample_algebraic : Cert.algebraic_FfnOutSIdeal_FfnOutSRefIdeal := by
  intro m g m' g' _ hargs
  refine ⟨fun c => Cert.FfnOutSIdeal.Value.result m c, ?_, ?_⟩
  · refine (θ_run _ _ _).mono (fun r h c => ?_) (Cert.FfnOutSIdeal.Value.run_blocks m g)
    exact ⟨(h c).1.trans (Cert.FfnOutSIdeal.Value.final9 m c), (h c).2⟩
  · refine (θ_run _ _ _).mono (fun r h c => ?_) (Cert.FfnOutSRefIdeal.Value.run m' g')
    refine ⟨(h c).1.trans ?_, (h c).2⟩
    rw [Cert.FfnOutSRefIdeal.Read.val_main_v38_eq]
    obtain ⟨h0, h1, h2, h3, h4, h5, h6, h7, h8⟩ := hargs c
    rw [h0, h1, h2, h3, h4, h5, h6, h7, h8]
    rfl

end Cert.Proof

end
-- ==== Proof.QkvWPay.lean ====
/-
  The projection's values of the sliding window layers, at an index: the projected row, the results.
-/
module

public import proofs.«01_k».proof.Proof.Gen.QkvWIdeal.Frame
public import proofs.«01_k».proof.Proof.QkvOut

@[expose] public section

set_option maxRecDepth 16384

noncomputable section

namespace Cert.QkvWIdeal.Own

open Cert.QkvWIdeal Cert.QkvWIdeal.Gen
open Idealize.ShloMosaic
open Cert.Rotary
open Cert.QkvIdeal.Own (Rows zero2 zero3 outQ)

/-- The projection at an element. -/
theorem pay1_apply (x : Vec Ideal S512x1024 .f32) (sc sh : Vec Ideal S1x1x1024 .f32) (w : Vec Ideal S1024x1536 .bf16) (b : Vec Ideal S1x1536 .f32)
    (r : Fin 512) (e : Fin 1536) :
    k0_pay1 (F := Ideal) x sc sh w b (ix2 r e)
      = proj (modulate (fun k => x (ix2 r k)) (fun k => sc (ix3 0 0 k)) (fun k => sh (ix3 0 0 k))) (fun k e => w (ix2 k e)) (fun e => b (ix2 0 e)) e := by
  unfold proj modulate
  pointwise [k0_pay1]

variable {p : Fin 512 → Fin 1536 → EReal} {C S : Fin 512 → Fin 8 → EReal} {x0 : Vec Ideal S512x1024 .f32} {x1 x2 : Vec Ideal S1x1x1024 .f32}
  {x3 : Vec Ideal S1024x1536 .bf16} {x4 : Vec Ideal S1x1536 .f32} {x5 x6 x7 : Vec Ideal S512x128 .f32}

/-- The projected rows, of the whole blocks. -/
theorem pay31_eq : k0_pay31 (F := Ideal) x0 x1 x2 x3 x4 x5 x6 x7 = k0_pay1 x0 x2 x1 x3 x4 := by
  have e0 : View.ld x0 r0_0 = x0 := View.ld_unit_zero (Val := Elt Ideal) zero2 _ x0
  have e1 : View.ld x1 r0_1 = x1 := View.ld_unit_zero (Val := Elt Ideal) zero3 _ x1
  have e2 : View.ld x2 r0_1 = x2 := View.ld_unit_zero (Val := Elt Ideal) zero3 _ x2
  have e3 : View.ld x3 r0_2 = x3 := View.ld_unit_zero (Val := Elt Ideal) zero2 _ x3
  have e4 : View.ld x4 r0_3 = x4 := View.ld_unit_zero (Val := Elt Ideal) zero2 _ x4
  unfold k0_pay31
  rw [e0, e1, e2, e3, e4]

/-- The table of cosines, the whole block. -/
theorem pay32_eq : k0_pay32 (F := Ideal) x0 x1 x2 x3 x4 x5 x6 x7 = x5 :=
  (congrArg k0_pay2 (View.ld_unit_zero (Val := Elt Ideal) zero2 _ x5)).trans (shapeCast_self _ _)

/-- The table of sines of the lanes to the left, the whole block. -/
theorem pay33_eq : k0_pay33 (F := Ideal) x0 x1 x2 x3 x4 x5 x6 x7 = x6 :=
  (congrArg k0_pay3 (View.ld_unit_zero (Val := Elt Ideal) zero2 _ x6)).trans (shapeCast_self _ _)

/-- The table of sines of the lanes to the right, the whole block. -/
theorem pay34_eq : k0_pay34 (F := Ideal) x0 x1 x2 x3 x4 x5 x6 x7 = x7 :=
  (congrArg k0_pay4 (View.ld_unit_zero (Val := Elt Ideal) zero2 _ x7)).trans (shapeCast_self _ _)

/-- A grid point's rows and tables, of its blocks. -/
abbrev PointRows (p : Fin 512 → Fin 1536 → EReal) (C S : Fin 512 → Fin 8 → EReal) (x0 : Vec Ideal S512x1024 .f32) (x1 x2 : Vec Ideal S1x1x1024 .f32)
    (x3 : Vec Ideal S1024x1536 .bf16) (x4 : Vec Ideal S1x1536 .f32) (x5 x6 x7 : Vec Ideal S512x128 .f32) : Prop :=
  Rows p C S (k0_pay31 (F := Ideal) x0 x1 x2 x3 x4 x5 x6 x7) (k0_pay32 x0 x1 x2 x3 x4 x5 x6 x7) (k0_pay33 x0 x1 x2 x3 x4 x5 x6 x7) (k0_pay34 x0 x1 x2 x3 x4 x5 x6 x7)

variable (h : PointRows p C S x0 x1 x2 x3 x4 x5 x6 x7)
include h

/-- The queries a grid point stores. -/
theorem out8_apply (r : Fin 512) (e : Fin 1024) : out0_8 (F := Ideal) x0 x1 x2 x3 x4 x5 x6 x7 (ix2 r e) = outQ p C S r e :=
  Cert.QkvIdeal.Own.queriesOf_apply h r e

/-- The keys a grid point stores. -/
theorem out9_apply (r : Fin 512) (e : Fin 256) : out0_9 (F := Ideal) x0 x1 x2 x3 x4 x5 x6 x7 (ix2 r e) = rot (p r) (C r) (S r) (1024 + e) :=
  Cert.QkvIdeal.Own.keysOf_apply h r e

/-- The values a grid point stores. -/
theorem out10_apply (r : Fin 512) (e : Fin 256) : out0_10 (F := Ideal) x0 x1 x2 x3 x4 x5 x6 x7 (ix2 r e) = p r (col (1280 + e)) :=
  Cert.QkvIdeal.Own.valuesOf_apply h r e

/-- The rounded keys a grid point stores. -/
theorem out11_apply (r : Fin 512) (e : Fin 256) : out0_11 (F := Ideal) x0 x1 x2 x3 x4 x5 x6 x7 (ix2 r e) = rot (p r) (C r) (S r) (1024 + e) :=
  Cert.QkvIdeal.Own.roundedKeysOf_apply h r e

/-- The rounded values a grid point stores. -/
theorem out12_apply (r : Fin 512) (e : Fin 256) : out0_12 (F := Ideal) x0 x1 x2 x3 x4 x5 x6 x7 (ix2 r e) = p r (col (1280 + e)) :=
  Cert.QkvIdeal.Own.roundedValuesOf_apply h r e

end Cert.QkvWIdeal.Own

end
-- ==== Proof.QkvWTop.lean ====
/-
  The sliding window layers' projection: every grid point's rows are the reference's, the rows cover the arrays, and the keys and
  values kept after the call are the last 128 positions of every sequence.
-/
module

public import proofs.«01_k».proof.Defs
public import proofs.«01_k».proof.Proof.Gen.QkvWIdeal.Frame
public import proofs.«01_k».proof.Proof.Gen.QkvWRefIdeal.Run
public import proofs.«01_k».proof.Proof.Gen.QkvWRefIdeal.Read
public import proofs.«01_k».proof.Proof.QkvWPay
public import proofs.«01_k».proof.Proof.QkvTop
public import Idealize.ShloMosaic.Lib.Pipeline.ValueKit
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem

namespace Cert.QkvWIdeal.Own

open Cert.QkvWIdeal Cert.QkvWIdeal.Gen
open Cert.QkvRefIdeal.Read (row prow cs sn)
open Cert.QkvIdeal.Value (table table_apply)
open Cert.Rotary

/-- The sequence of a grid point. -/
abbrev tb (t : Fin cfg0.N) : Fin 8 := ⟨t.val / 4, by have h : cfg0.N = 32 := N_0; have := t.isLt; omega⟩
/-- A row of a grid point, in its sequence. -/
abbrev ts (t : Fin cfg0.N) (r : Fin 512) : Fin 2048 := ⟨t.val % 4 * 512 + r.val, by have := r.isLt; omega⟩

/-- The windows' blocks at every grid point. -/
theorem idx_eq : ∀ t : Fin grid0.N,
    win0_0.index t = ![t.val, 0] ∧ win0_1.index t = ![t.val / 4, 0, 0] ∧ win0_2.index t = ![t.val / 4, 0, 0] ∧ win0_3.index t = ![0, 0]
    ∧ win0_4.index t = ![0, 0] ∧ win0_5.index t = ![t.val % 4, 0] ∧ win0_6.index t = ![t.val % 4, 0] ∧ win0_7.index t = ![t.val % 4, 0]
    ∧ win0_8.index t = ![t.val, 0] ∧ win0_9.index t = ![t.val, 0] ∧ win0_10.index t = ![t.val, 0] ∧ win0_11.index t = ![t.val, 0] ∧ win0_12.index t = ![t.val, 0] := by
  decide +kernel

variable (m : (ℓ : Loc nD τ sig) → Buf (Elt Ideal) ℓ) (c : Dev nD)

/-- The rows' block at an element. -/
theorem iblk0_apply (t : Fin cfg0.N) (r : Fin 512) (k : Fin 1024) :
    (iblk m c 0 t : Vec Ideal S512x1024 .f32) (ix2 r k) = m ((c : Thread nD τ).loc main_arg0) (ix3 (tb t) (ts t r) k) := by
  have h := (idx_eq t).1
  unfold iblk
  rw [View.read_apply]
  show V m c main_v36 _ = _
  have he : (win0_0.blk t).view.emb (ix2 r k) = ix2 (row (tb t) (ts t r)) k := funext fun a => Fin.ext (by
    match a with
    | ⟨0, _⟩ => show win0_0.index t 0 * 512 + 1 * r.val = t.val / 4 * 2048 + (t.val % 4 * 512 + r.val); rw [h]; show t.val * 512 + _ = _; omega
    | ⟨1, _⟩ => show win0_0.index t 1 * 1024 + 1 * k.val = k.val; rw [h]; show 0 * 1024 + _ = _; omega)
  refine (congrArg (V m c main_v36) he).trans ?_
  show StableHlo.after hostOps0 (fun b => m (c, b)) (Proc.devRef .tc main_v36) _ = _
  after_reads_simp
  pointwise
  refine congrArg (m ((c : Thread nD τ).loc main_arg0)) (funext fun a => Fin.ext ?_)
  have hr := r.isLt
  match a with
  | ⟨0, _⟩ => show (t.val / 4 * 2048 + (t.val % 4 * 512 + r.val)) / 2048 = t.val / 4; omega
  | ⟨1, _⟩ => show (t.val / 4 * 2048 + (t.val % 4 * 512 + r.val)) % 2048 = t.val % 4 * 512 + r.val; omega
  | ⟨2, _⟩ => rfl

/-- The shift's block at an element. -/
theorem iblk1_apply (t : Fin cfg0.N) (k : Fin 1024) :
    (iblk m c 1 t : Vec Ideal S1x1x1024 .f32) (ix3 0 0 k) = m ((c : Thread nD τ).loc main_arg1) (ix3 (tb t) 0 k) := by
  have h := (idx_eq t).2.1
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t 0 * 1 + 1 * 0 = t.val / 4; rw [h]; show t.val / 4 * 1 + _ = _; omega
  | ⟨1, _⟩ => show win0_1.index t 1 * 1 + 1 * 0 = 0; rw [h]; rfl
  | ⟨2, _⟩ => show win0_1.index t 2 * 1024 + 1 * k.val = k.val; rw [h]; show 0 * 1024 + _ = _; omega

/-- The scale's block at an element. -/
theorem iblk2_apply (t : Fin cfg0.N) (k : Fin 1024) :
    (iblk m c 2 t : Vec Ideal S1x1x1024 .f32) (ix3 0 0 k) = m ((c : Thread nD τ).loc main_arg2) (ix3 (tb t) 0 k) := by
  have h := (idx_eq t).2.2.1
  unfold iblk
  rw [View.read_apply]
  show V m c main_arg2 _ = _
  rw [V_main_arg2]
  refine congrArg (m ((c : Thread nD τ).loc main_arg2)) (funext fun a => Fin.ext ?_)
  match a with
  | ⟨0, _⟩ => show win0_2.index t 0 * 1 + 1 * 0 = t.val / 4; rw [h]; show t.val / 4 * 1 + _ = _; omega
  | ⟨1, _⟩ => show win0_2.index t 1 * 1 + 1 * 0 = 0; rw [h]; rfl
  | ⟨2, _⟩ => show win0_2.index t 2 * 1024 + 1 * k.val = k.val; rw [h]; show 0 * 1024 + _ = _; omega

/-- The weights' block at an element. -/
theorem iblk3_apply (t : Fin cfg0.N) (k : Fin 1024) (e : Fin 1536) :
    (iblk m c 3 t : Vec Ideal S1024x1536 .bf16) (ix2 k e) = m ((c : Thread nD τ).loc main_arg3) (ix2 k e) := by
  blk_ext! [iblk, V, idx_eq t]

/-- The offset at an element. -/
theorem iblk4_apply (t : Fin cfg0.N) (e : Fin 1536) :
    (iblk m c 4 t : Vec Ideal S1x1536 .f32) (ix2 0 e) = m ((c : Thread nD τ).loc main_arg4) (ix1 e) := by
  have h := (idx_eq t).2.2.2.2.1
  unfold iblk
  rw [View.read_apply]
  show V m c main_v38 _ = _
  have he : (win0_4.blk t).view.emb (ix2 0 e) = ix2 0 e := funext fun a => Fin.ext (by
    match a with
    | ⟨0, _⟩ => show win0_4.index t 0 * 1 + 1 * 0 = 0; rw [h]; rfl
    | ⟨1, _⟩ => show win0_4.index t 1 * 1536 + 1 * e.val = e.val; rw [h]; show 0 * 1536 + _ = _; omega)
  refine (congrArg (V m c main_v38) he).trans ?_
  show StableHlo.after hostOps0 (fun b => m (c, b)) (Proc.devRef .tc main_v38) _ = _
  after_reads_simp
  pointwise

/-- The table of cosines over the 128 lanes, from the reference's cosines. -/
theorem V_tabC : V m c main_v29 = table (Cert.QkvRefIdeal.Read.val_main_v32 (F := Ideal)) (Cert.QkvRefIdeal.Read.val_main_v32 (F := Ideal)) (broadcastInDim S2048x48 ![] bcast_S_S2048x48 (constant (F := Ideal) S_ .f32 0x3F800000#32)) := by
  show StableHlo.after hostOps0 (fun b => m (c, b)) (Proc.devRef .tc main_v29) = _
  after_reads_simp
  show table (StableHlo.upto hostOps0 (fun b => m (c, b)) 31 (Proc.devRef .tc main_v18)) (StableHlo.upto hostOps0 (fun b => m (c, b)) 31 (Proc.devRef .tc main_v18))
    (StableHlo.upto hostOps0 (fun b => m (c, b)) 31 (Proc.devRef .tc main_v20)) = _
  after_reads_simp
  rfl

/-- The table of the negated sines. -/
theorem V_tabL : V m c main_v32 = table (Host.negf (Cert.QkvRefIdeal.Read.val_main_v34 (F := Ideal) : FVec Ideal S2048x8 .f32) : FVec Ideal S2048x8 .f32) (broadcastInDim S2048x8 ![] bcast_S_S2048x8 (constant (F := Ideal) S_ .f32 0x00000000#32)) (broadcastInDim S2048x48 ![] bcast_S_S2048x48 (constant (F := Ideal) S_ .f32 0x00000000#32)) := by
  show StableHlo.after hostOps0 (fun b => m (c, b)) (Proc.devRef .tc main_v32) = _
  after_reads_simp
  show table (StableHlo.upto hostOps0 (fun b => m (c, b)) 33 (Proc.devRef .tc main_v24)) (StableHlo.upto hostOps0 (fun b => m (c, b)) 33 (Proc.devRef .tc main_v22))
    (StableHlo.upto hostOps0 (fun b => m (c, b)) 33 (Proc.devRef .tc main_v21)) = _
  after_reads_simp
  rfl

/-- The table of the sines. -/
theorem V_tabR : V m c main_v35 = table (broadcastInDim S2048x8 ![] bcast_S_S2048x8 (constant (F := Ideal) S_ .f32 0x00000000#32)) (Cert.QkvRefIdeal.Read.val_main_v34 (F := Ideal)) (broadcastInDim S2048x48 ![] bcast_S_S2048x48 (constant (F := Ideal) S_ .f32 0x00000000#32)) := by
  show StableHlo.after hostOps0 (fun b => m (c, b)) (Proc.devRef .tc main_v35) = _
  after_reads_simp
  show table (StableHlo.upto hostOps0 (fun b => m (c, b)) 34 (Proc.devRef .tc main_v22)) (StableHlo.upto hostOps0 (fun b => m (c, b)) 34 (Proc.devRef .tc main_v19))
    (StableHlo.upto hostOps0 (fun b => m (c, b)) 34 (Proc.devRef .tc main_v21)) = _
  after_reads_simp
  rfl

/-- The table of cosines at an element. -/
theorem iblk5_apply (t : Fin cfg0.N) (r : Fin 512) (l : Fin 128) :
    (iblk m c 5 t : Vec Ideal S512x128 .f32) (ix2 r l) = tabC (cs (ts t r)) l := by
  have h := (idx_eq t).2.2.2.2.2.1
  unfold iblk
  rw [View.read_apply]
  show V m c main_v29 _ = _
  have he : (win0_5.blk t).view.emb (ix2 r l) = ix2 (ts t r) l := funext fun a => Fin.ext (by
    match a with
    | ⟨0, _⟩ => show win0_5.index t 0 * 512 + 1 * r.val = t.val % 4 * 512 + r.val; rw [h]; show t.val % 4 * 512 + _ = _; omega
    | ⟨1, _⟩ => show win0_5.index t 1 * 128 + 1 * l.val = l.val; rw [h]; show 0 * 128 + _ = _; omega)
  refine (congrArg (V m c main_v29) he).trans ?_
  rw [V_tabC, table_apply]
  unfold tabC
  by_cases h8 : l.val % 64 < 8
  · rw [if_pos h8, if_pos (by omega)]
    rfl
  · rw [if_neg h8]
    by_cases h16 : l.val % 64 < 16
    · rw [if_pos h16, if_pos h16]
      rfl
    · rw [if_neg h16, if_neg h16]
      exact Idealize.ShloMosaic.Ideal.ofBits_one_f32

/-- The table of the negated sines at an element. -/
theorem iblk6_apply (t : Fin cfg0.N) (r : Fin 512) (l : Fin 128) :
    (iblk m c 6 t : Vec Ideal S512x128 .f32) (ix2 r l) = tabL (sn (ts t r)) l := by
  have h := (idx_eq t).2.2.2.2.2.2.1
  unfold iblk
  rw [View.read_apply]
  show V m c main_v32 _ = _
  have he : (win0_6.blk t).view.emb (ix2 r l) = ix2 (ts t r) l := funext fun a => Fin.ext (by
    match a with
    | ⟨0, _⟩ => show win0_6.index t 0 * 512 + 1 * r.val = t.val % 4 * 512 + r.val; rw [h]; show t.val % 4 * 512 + _ = _; omega
    | ⟨1, _⟩ => show win0_6.index t 1 * 128 + 1 * l.val = l.val; rw [h]; show 0 * 128 + _ = _; omega)
  refine (congrArg (V m c main_v32) he).trans ?_
  rw [V_tabL, table_apply]
  have z0 : Ideal.ofBits .f32 0x00000000#32 = 0 := by simp [Ideal.ofBits, Ideal.ieee]
  unfold tabL
  by_cases h8 : l.val % 64 < 8
  · rw [if_pos h8, if_pos h8]
    rfl
  · rw [if_neg h8, if_neg h8]
    by_cases h16 : l.val % 64 < 16
    · rw [if_pos h16]
      exact z0
    · rw [if_neg h16]
      exact z0

/-- The table of the sines at an element. -/
theorem iblk7_apply (t : Fin cfg0.N) (r : Fin 512) (l : Fin 128) :
    (iblk m c 7 t : Vec Ideal S512x128 .f32) (ix2 r l) = tabR (sn (ts t r)) l := by
  have h := (idx_eq t).2.2.2.2.2.2.2.1
  unfold iblk
  rw [View.read_apply]
  show V m c main_v35 _ = _
  have he : (win0_7.blk t).view.emb (ix2 r l) = ix2 (ts t r) l := funext fun a => Fin.ext (by
    match a with
    | ⟨0, _⟩ => show win0_7.index t 0 * 512 + 1 * r.val = t.val % 4 * 512 + r.val; rw [h]; show t.val % 4 * 512 + _ = _; omega
    | ⟨1, _⟩ => show win0_7.index t 1 * 128 + 1 * l.val = l.val; rw [h]; show 0 * 128 + _ = _; omega)
  refine (congrArg (V m c main_v35) he).trans ?_
  rw [V_tabR, table_apply]
  have z0 : Ideal.ofBits .f32 0x00000000#32 = 0 := by simp [Ideal.ofBits, Ideal.ieee]
  unfold tabR
  by_cases h8 : l.val % 64 < 8
  · rw [if_pos h8, if_pos h8]
    exact z0
  · rw [if_neg h8, if_neg h8]
    by_cases h16 : l.val % 64 < 16
    · rw [if_pos h16, if_pos h16]
      rfl
    · rw [if_neg h16, if_neg h16]
      exact z0

/-- The reference's projected row that a grid point's row is. -/
abbrev rowOf (t : Fin cfg0.N) (r : Fin 512) : Fin 1536 → EReal :=
  prow (m ((c : Thread nD τ).loc main_arg0)) (m ((c : Thread nD τ).loc main_arg1)) (m ((c : Thread nD τ).loc main_arg2)) (m ((c : Thread nD τ).loc main_arg3)) (m ((c : Thread nD τ).loc main_arg4)) (tb t) (ts t r)

/-- A grid point's blocks are the reference's rows and the tables at their positions. -/
theorem pointRows (t : Fin cfg0.N) :
    PointRows (rowOf m c t) (fun r => cs (ts t r)) (fun r => sn (ts t r)) (iblk m c 0 t) (iblk m c 1 t) (iblk m c 2 t) (iblk m c 3 t) (iblk m c 4 t) (iblk m c 5 t) (iblk m c 6 t) (iblk m c 7 t) where
  hv r e := by
    rw [pay31_eq, pay1_apply]
    simp only [iblk0_apply, iblk1_apply, iblk2_apply, iblk3_apply, iblk4_apply]
    rfl
  hc r l := by
    rw [pay32_eq]
    exact iblk5_apply m c t r l
  h1 r l := by
    rw [pay33_eq]
    exact iblk6_apply m c t r l
  h2 r l := by
    rw [pay34_eq]
    exact iblk7_apply m c t r l

/-- A grid point's row, among all rows. -/
theorem row_val (t : Fin cfg0.N) (r : Fin 512) (n : ℕ) (hn : n = t.val) : (row (tb t) (ts t r)).val = n * 512 + 1 * r.val := by
  subst hn
  show t.val / 4 * 2048 + (t.val % 4 * 512 + r.val) = _
  omega

/-- The grid point that has a row. -/
theorem has_row (x : ℕ) (hx : x < 16384) : ∃ t : Fin cfg0.N, t.val * 512 ≤ x ∧ x < t.val * 512 + 512 := by
  have hN : cfg0.N = 32 := N_0
  refine ⟨⟨x / 512, by omega⟩, ?_, ?_⟩
  · show x / 512 * 512 ≤ x
    omega
  · show x < x / 512 * 512 + 512
    omega

/-- The reference's result 0: the scaled queries. -/
def result0 : Buf (Elt Ideal) ((c : Thread nD τ).loc main_v39_0) :=
  Cert.QkvRefIdeal.Read.val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4))

/-- A grid point writes back its rows of the scaled queries. -/
theorem flushed8_eq (t : Fin cfg0.N) : (dats m 0 c).flushed 8 t = ((cfg0.win 8).blk t).view.read (Elt Ideal) (result0 m c) := by
  have e := (idx_eq t).2.2.2.2.2.2.2.2.1
  show (cfg0.win 8).cut (grid0.coords t) ((dats m 0 c).after 8 t) = _
  rw [after0_8]
  have h : ∀ j : S512x1024.Idx, out0_8 (F := Ideal) (iblk m c 0 t) (iblk m c 1 t) (iblk m c 2 t) (iblk m c 3 t) (iblk m c 4 t) (iblk m c 5 t) (iblk m c 6 t) (iblk m c 7 t) j
      = ((cfg0.win 8).blk t).view.read (Elt Ideal) (result0 m c) j := fun j => by
    obtain ⟨r, d, rfl⟩ : ∃ (r : Fin 512) (d : Fin 1024), j = ix2 r d := ⟨j 0, j 1, funext fun a => by match a with | ⟨0, _⟩ => rfl | ⟨1, _⟩ => rfl⟩
    rw [View.read_apply]
    refine ((out8_apply (pointRows m c t) r d).trans
      (Cert.QkvRefIdeal.Read.result0_apply _ _ _ _ _ (tb t) (ts t r) d).symm).trans (congrArg (result0 m c) (funext fun a => Fin.ext ?_))
    match a with
    | ⟨0, _⟩ => exact row_val t r (win0_8.index t 0) (by rw [e]; rfl)
    | ⟨1, _⟩ => show d.val = win0_8.index t 1 * 1024 + 1 * d.val; rw [e]; show _ = 0 * 1024 + _; omega
  exact funext h

/-- The kernel's array of the scaled queries is the reference's. -/
theorem final8 : (dats m 0 c).arrAt 8 cfg0.N = result0 m c :=
  (dats m 0 c).arrAt_eq_of_cover 8 (result0 m c) (fun t _ => flushed8_eq m c t) fun i => by
    have h1 : (i 1 : Nat) < 1024 := (i 1).isLt
    obtain ⟨t, hl, hu⟩ := has_row (i 0 : Nat) (i 0).isLt
    have e := (idx_eq t).2.2.2.2.2.2.2.2.1
    refine ⟨t, flush0_8 t, ?_⟩
    show i ∈ ((View.whole main_v39_0).slice (win0_8.rect t)).set
    rw [View.set_slice_whole, Rect.mem_set_unit]
    intro a
    match a with
    | ⟨0, _⟩ => show win0_8.index t 0 * 512 ≤ (i 0 : Nat) ∧ (i 0 : Nat) < win0_8.index t 0 * 512 + 512
                rw [e]; exact ⟨hl, hu⟩
    | ⟨1, _⟩ => show win0_8.index t 1 * 1024 ≤ (i 1 : Nat) ∧ (i 1 : Nat) < win0_8.index t 1 * 1024 + 1024
                rw [e]; show 0 * 1024 ≤ _ ∧ _ < 0 * 1024 + 1024; omega

/-- The reference's result 1: the keys. -/
def result1 : Buf (Elt Ideal) ((c : Thread nD τ).loc main_v39_1) :=
  Cert.QkvRefIdeal.Read.val_main_v90 (F := Ideal) (m ((c : Thread nD τ).loc main_arg0)) (m ((c : Thread nD τ).loc main_arg1)) (m ((c : Thread nD τ).loc main_arg2)) (m ((c : Thread nD τ).loc main_arg3)) (m ((c : Thread nD τ).loc main_arg4))

/-- A grid point writes back its rows of the keys. -/
theorem flushed9_eq (t : Fin cfg0.N) : (dats m 0 c).flushed 9 t = ((cfg0.win 9).blk t).view.read (Elt Ideal) (result1 m c) := by
  have e := (idx_eq t).2.2.2.2.2.2.2.2.2.1
  show (cfg0.win 9).cut (grid0.coords t) ((dats m 0 c).after 9 t) = _
  rw [after0_9]
  have h : ∀ j : S512x256.Idx, out0_9 (F := Ideal) (iblk m c 0 t) (iblk m c 1 t) (iblk m c 2 t) (iblk m c 3 t) (iblk m c 4 t) (iblk m c 5 t) (iblk m c 6 t) (iblk m c 7 t) j
      = ((cfg0.win 9).blk t).view.read (Elt Ideal) (result1 m c) j := fun j => by
    obtain ⟨r, d, rfl⟩ : ∃ (r : Fin 512) (d : Fin 256), j = ix2 r d := ⟨j 0, j 1, funext fun a => by match a with | ⟨0, _⟩ => rfl | ⟨1, _⟩ => rfl⟩
    rw [View.read_apply]
    refine ((out9_apply (pointRows m c t) r d).trans
      (Cert.QkvRefIdeal.Read.result1_apply _ _ _ _ _ (tb t) (ts t r) d).symm).trans (congrArg (result1 m c) (funext fun a => Fin.ext ?_))
    match a with
    | ⟨0, _⟩ => exact row_val t r (win0_9.index t 0) (by rw [e]; rfl)
    | ⟨1, _⟩ => show d.val = win0_9.index t 1 * 256 + 1 * d.val; rw [e]; show _ = 0 * 256 + _; omega
  exact funext h

/-- The kernel's array of the keys is the reference's. -/
theorem final9 : (dats m 0 c).arrAt 9 cfg0.N = result1 m c :=
  (dats m 0 c).arrAt_eq_of_cover 9 (result1 m c) (fun t _ => flushed9_eq m c t) fun i => by
    have h1 : (i 1 : Nat) < 256 := (i 1).isLt
    obtain ⟨t, hl, hu⟩ := has_row (i 0 : Nat) (i 0).isLt
    have e := (idx_eq t).2.2.2.2.2.2.2.2.2.1
    refine ⟨t, flush0_9 t, ?_⟩
    show i ∈ ((View.whole main_v39_1).slice (win0_9.rect t)).set
    rw [View.set_slice_whole, Rect.mem_set_unit]
    intro a
    match a with
    | ⟨0, _⟩ => show win0_9.index t 0 * 512 ≤ (i 0 : Nat) ∧ (i 0 : Nat) < win0_9.index t 0 * 512 + 512
                rw [e]; exact ⟨hl, hu⟩
    | ⟨1, _⟩ => show win0_9.index t 1 * 256 ≤ (i 1 : Nat) ∧ (i 1 : Nat) < win0_9.index t 1 * 256 + 256
                rw [e]; show 0 * 256 ≤ _ ∧ _ < 0 * 256 + 256; omega

/-- The reference's result 2: the values. -/
def result2 : Buf (Elt Ideal) ((c : Thread nD τ).loc main_v39_2) :=
  Cert.QkvRefIdeal.Read.val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4))

/-- A grid point writes back its rows of the values. -/
theorem flushed10_eq (t : Fin cfg0.N) : (dats m 0 c).flushed 10 t = ((cfg0.win 10).blk t).view.read (Elt Ideal) (result2 m c) := by
  have e := (idx_eq t).2.2.2.2.2.2.2.2.2.2.1
  show (cfg0.win 10).cut (grid0.coords t) ((dats m 0 c).after 10 t) = _
  rw [after0_10]
  have h : ∀ j : S512x256.Idx, out0_10 (F := Ideal) (iblk m c 0 t) (iblk m c 1 t) (iblk m c 2 t) (iblk m c 3 t) (iblk m c 4 t) (iblk m c 5 t) (iblk m c 6 t) (iblk m c 7 t) j
      = ((cfg0.win 10).blk t).view.read (Elt Ideal) (result2 m c) j := fun j => by
    obtain ⟨r, d, rfl⟩ : ∃ (r : Fin 512) (d : Fin 256), j = ix2 r d := ⟨j 0, j 1, funext fun a => by match a with | ⟨0, _⟩ => rfl | ⟨1, _⟩ => rfl⟩
    rw [View.read_apply]
    refine ((out10_apply (pointRows m c t) r d).trans
      (Cert.QkvRefIdeal.Read.result2_apply _ _ _ _ _ (tb t) (ts t r) d).symm).trans (congrArg (result2 m c) (funext fun a => Fin.ext ?_))
    match a with
    | ⟨0, _⟩ => exact row_val t r (win0_10.index t 0) (by rw [e]; rfl)
    | ⟨1, _⟩ => show d.val = win0_10.index t 1 * 256 + 1 * d.val; rw [e]; show _ = 0 * 256 + _; omega
  exact funext h

/-- The kernel's array of the values is the reference's. -/
theorem final10 : (dats m 0 c).arrAt 10 cfg0.N = result2 m c :=
  (dats m 0 c).arrAt_eq_of_cover 10 (result2 m c) (fun t _ => flushed10_eq m c t) fun i => by
    have h1 : (i 1 : Nat) < 256 := (i 1).isLt
    obtain ⟨t, hl, hu⟩ := has_row (i 0 : Nat) (i 0).isLt
    have e := (idx_eq t).2.2.2.2.2.2.2.2.2.2.1
    refine ⟨t, flush0_10 t, ?_⟩
    show i ∈ ((View.whole main_v39_2).slice (win0_10.rect t)).set
    rw [View.set_slice_whole, Rect.mem_set_unit]
    intro a
    match a with
    | ⟨0, _⟩ => show win0_10.index t 0 * 512 ≤ (i 0 : Nat) ∧ (i 0 : Nat) < win0_10.index t 0 * 512 + 512
                rw [e]; exact ⟨hl, hu⟩
    | ⟨1, _⟩ => show win0_10.index t 1 * 256 ≤ (i 1 : Nat) ∧ (i 1 : Nat) < win0_10.index t 1 * 256 + 256
                rw [e]; show 0 * 256 ≤ _ ∧ _ < 0 * 256 + 256; omega

/-- The reference's result 3: the rounded keys. -/
def result3 : Buf (Elt Ideal) ((c : Thread nD τ).loc main_v39_3) :=
  Cert.QkvRefIdeal.Read.val_main_v96 (F := Ideal) (m ((c : Thread nD τ).loc main_arg0)) (m ((c : Thread nD τ).loc main_arg1)) (m ((c : Thread nD τ).loc main_arg2)) (m ((c : Thread nD τ).loc main_arg3)) (m ((c : Thread nD τ).loc main_arg4))

/-- A grid point writes back its rows of the rounded keys. -/
theorem flushed11_eq (t : Fin cfg0.N) : (dats m 0 c).flushed 11 t = ((cfg0.win 11).blk t).view.read (Elt Ideal) (result3 m c) := by
  have e := (idx_eq t).2.2.2.2.2.2.2.2.2.2.2.1
  show (cfg0.win 11).cut (grid0.coords t) ((dats m 0 c).after 11 t) = _
  rw [after0_11]
  have h : ∀ j : S512x256.Idx, out0_11 (F := Ideal) (iblk m c 0 t) (iblk m c 1 t) (iblk m c 2 t) (iblk m c 3 t) (iblk m c 4 t) (iblk m c 5 t) (iblk m c 6 t) (iblk m c 7 t) j
      = ((cfg0.win 11).blk t).view.read (Elt Ideal) (result3 m c) j := fun j => by
    obtain ⟨r, d, rfl⟩ : ∃ (r : Fin 512) (d : Fin 256), j = ix2 r d := ⟨j 0, j 1, funext fun a => by match a with | ⟨0, _⟩ => rfl | ⟨1, _⟩ => rfl⟩
    rw [View.read_apply]
    refine ((out11_apply (pointRows m c t) r d).trans
      (Cert.QkvRefIdeal.Read.result3_apply _ _ _ _ _ (tb t) (ts t r) d).symm).trans (congrArg (result3 m c) (funext fun a => Fin.ext ?_))
    match a with
    | ⟨0, _⟩ => exact row_val t r (win0_11.index t 0) (by rw [e]; rfl)
    | ⟨1, _⟩ => show d.val = win0_11.index t 1 * 256 + 1 * d.val; rw [e]; show _ = 0 * 256 + _; omega
  exact funext h

/-- The kernel's array of the rounded keys is the reference's. -/
theorem final11 : (dats m 0 c).arrAt 11 cfg0.N = result3 m c :=
  (dats m 0 c).arrAt_eq_of_cover 11 (result3 m c) (fun t _ => flushed11_eq m c t) fun i => by
    have h1 : (i 1 : Nat) < 256 := (i 1).isLt
    obtain ⟨t, hl, hu⟩ := has_row (i 0 : Nat) (i 0).isLt
    have e := (idx_eq t).2.2.2.2.2.2.2.2.2.2.2.1
    refine ⟨t, flush0_11 t, ?_⟩
    show i ∈ ((View.whole main_v39_3).slice (win0_11.rect t)).set
    rw [View.set_slice_whole, Rect.mem_set_unit]
    intro a
    match a with
    | ⟨0, _⟩ => show win0_11.index t 0 * 512 ≤ (i 0 : Nat) ∧ (i 0 : Nat) < win0_11.index t 0 * 512 + 512
                rw [e]; exact ⟨hl, hu⟩
    | ⟨1, _⟩ => show win0_11.index t 1 * 256 ≤ (i 1 : Nat) ∧ (i 1 : Nat) < win0_11.index t 1 * 256 + 256
                rw [e]; show 0 * 256 ≤ _ ∧ _ < 0 * 256 + 256; omega

/-- The reference's result 4: the rounded values. -/
def result4 : Buf (Elt Ideal) ((c : Thread nD τ).loc main_v39_4) :=
  Cert.QkvRefIdeal.Read.val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg4))

/-- A grid point writes back its rows of the rounded values. -/
theorem flushed12_eq (t : Fin cfg0.N) : (dats m 0 c).flushed 12 t = ((cfg0.win 12).blk t).view.read (Elt Ideal) (result4 m c) := by
  have e := (idx_eq t).2.2.2.2.2.2.2.2.2.2.2.2
  show (cfg0.win 12).cut (grid0.coords t) ((dats m 0 c).after 12 t) = _
  rw [after0_12]
  have h : ∀ j : S512x256.Idx, out0_12 (F := Ideal) (iblk m c 0 t) (iblk m c 1 t) (iblk m c 2 t) (iblk m c 3 t) (iblk m c 4 t) (iblk m c 5 t) (iblk m c 6 t) (iblk m c 7 t) j
      = ((cfg0.win 12).blk t).view.read (Elt Ideal) (result4 m c) j := fun j => by
    obtain ⟨r, d, rfl⟩ : ∃ (r : Fin 512) (d : Fin 256), j = ix2 r d := ⟨j 0, j 1, funext fun a => by match a with | ⟨0, _⟩ => rfl | ⟨1, _⟩ => rfl⟩
    rw [View.read_apply]
    refine ((out12_apply (pointRows m c t) r d).trans
      (Cert.QkvRefIdeal.Read.result4_apply _ _ _ _ _ (tb t) (ts t r) d).symm).trans (congrArg (result4 m c) (funext fun a => Fin.ext ?_))
    match a with
    | ⟨0, _⟩ => exact row_val t r (win0_12.index t 0) (by rw [e]; rfl)
    | ⟨1, _⟩ => show d.val = win0_12.index t 1 * 256 + 1 * d.val; rw [e]; show _ = 0 * 256 + _; omega
  exact funext h

/-- The kernel's array of the rounded values is the reference's. -/
theorem final12 : (dats m 0 c).arrAt 12 cfg0.N = result4 m c :=
  (dats m 0 c).arrAt_eq_of_cover 12 (result4 m c) (fun t _ => flushed12_eq m c t) fun i => by
    have h1 : (i 1 : Nat) < 256 := (i 1).isLt
    obtain ⟨t, hl, hu⟩ := has_row (i 0 : Nat) (i 0).isLt
    have e := (idx_eq t).2.2.2.2.2.2.2.2.2.2.2.2
    refine ⟨t, flush0_12 t, ?_⟩
    show i ∈ ((View.whole main_v39_4).slice (win0_12.rect t)).set
    rw [View.set_slice_whole, Rect.mem_set_unit]
    intro a
    match a with
    | ⟨0, _⟩ => show win0_12.index t 0 * 512 ≤ (i 0 : Nat) ∧ (i 0 : Nat) < win0_12.index t 0 * 512 + 512
                rw [e]; exact ⟨hl, hu⟩
    | ⟨1, _⟩ => show win0_12.index t 1 * 256 ≤ (i 1 : Nat) ∧ (i 1 : Nat) < win0_12.index t 1 * 256 + 256
                rw [e]; show 0 * 256 ≤ _ ∧ _ < 0 * 256 + 256; omega

/-- The last 128 positions of every sequence, of an array of all sequences' rows. -/
def lastRows (x : Vec Ideal S16384x256 .f32) : Vec Ideal S8x128x4x64 .f32 :=
  extractStridedSlice S8x128x4x64 ![0, 1920, 0, 0] (shapeCast S8x2048x4x64 x shapeCasts_S16384x256_S8x2048x4x64)
    slices_S8x2048x4x64_S8x128x4x64_0_1920_0_0

/-- The windows' arrays are different buffers. -/
theorem arrays_differ : Function.Injective (Pipeline.arrRef spec0) := by decide

/-- After the lines that follow the call, the keys kept are the last positions of the reference's. -/
theorem kept_keys : Pipeline.afterTail₀ cfgs (dats m) 0 (V0 m) [hostOps1] c main_v42 = lastRows (result1 m c) := by
  have e := (Pipeline.withArrays_arr spec0 arrays_differ c (V0 m c) (fun w => (dats m 0 c).arrAt w cfg0.N) 9).trans (final9 m c)
  show StableHlo.after hostOps1 (Pipeline.withArrays spec0 c (V0 m c) fun w => (dats m 0 c).arrAt w cfg0.N) (Proc.devRef .tc main_v42) = _
  after_reads_simp
  exact congrArg lastRows e

/-- After the lines that follow the call, the values kept are the last positions of the reference's. -/
theorem kept_values : Pipeline.afterTail₀ cfgs (dats m) 0 (V0 m) [hostOps1] c main_v43 = lastRows (result2 m c) := by
  have e := (Pipeline.withArrays_arr spec0 arrays_differ c (V0 m c) (fun w => (dats m 0 c).arrAt w cfg0.N) 10).trans (final10 m c)
  show StableHlo.after hostOps1 (Pipeline.withArrays spec0 c (V0 m c) fun w => (dats m 0 c).arrAt w cfg0.N) (Proc.devRef .tc main_v43) = _
  after_reads_simp
  exact congrArg lastRows e

/-- The run, with its five results named and its arguments as they were. -/
theorem run_results (ρ : Dev nD → PrngReg) : θ_run defs (onTc (τ := τ) (main (F := Ideal))) ⟨m, fun _ => 0, ρ⟩ fun r => ∀ c : Dev nD,
      r.2.mem ((c.tc : Thread nD τ).loc main_v39_0) = result0 m c
      ∧ r.2.mem ((c.tc : Thread nD τ).loc main_v42) = lastRows (result1 m c)
      ∧ r.2.mem ((c.tc : Thread nD τ).loc main_v43) = lastRows (result2 m c)
      ∧ r.2.mem ((c.tc : Thread nD τ).loc main_v39_3) = result3 m c
      ∧ r.2.mem ((c.tc : Thread nD τ).loc main_v39_4) = result4 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => by
    have rest : ∀ b : Ref sig .tc, b ∈ Pipeline.restRefs sig spec0 →
        r.2.mem ((c.tc : Thread nD τ).loc b) = Pipeline.afterTail₀ cfgs (dats m) 0 (V0 m) [hostOps1] c b := (h c).2
    exact ⟨((h c).1 8).trans (final8 m c),
      (rest main_v42 (Pipeline.mem_restRefs_of main_v42 (by decide) (by decide))).trans (kept_keys m c),
      (rest main_v43 (Pipeline.mem_restRefs_of main_v43 (by decide) (by decide))).trans (kept_values m c),
      ((h c).1 11).trans (final11 m c),
      ((h c).1 12).trans (final12 m c),
      (rest main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      (rest main_arg3 (Pipeline.mem_restRefs_of main_arg3 (by decide) (by decide))).trans (W_main_arg3 m (dats m) c),
      (rest main_arg4 (Pipeline.mem_restRefs_of main_arg4 (by decide) (by decide))).trans (W_main_arg4 m (dats m) c)⟩)
    (run_main m ρ)

end Cert.QkvWIdeal.Own

namespace Cert.Proof

/-- The reference runs and keeps its arguments: it declares no semaphore. -/
theorem qkv_window_ref_frame : Cert.quiescent_QkvWRefIdeal := fun m ρ _ =>
  (θ_run _ _ _).mono (fun r h => ⟨fun c => (h c).2.2.2.2.2, Idealize.ShloMosaic.sem_eq_zero_of_no_sems (by decide) r.2⟩) (Cert.QkvWRefIdeal.Value.run m ρ)

/-- The kernel and its reference end with the same five results. -/
theorem qkv_window_algebraic : Cert.algebraic_QkvWIdeal_QkvWRefIdeal := by
  intro m g m' g' _ hargs
  refine ⟨fun c => Cert.QkvWIdeal.Own.result0 m c, fun c => Cert.QkvWIdeal.Own.lastRows (Cert.QkvWIdeal.Own.result1 m c),
    fun c => Cert.QkvWIdeal.Own.lastRows (Cert.QkvWIdeal.Own.result2 m c), fun c => Cert.QkvWIdeal.Own.result3 m c,
    fun c => Cert.QkvWIdeal.Own.result4 m c, Cert.QkvWIdeal.Own.run_results m g, ?_⟩
  refine (θ_run _ _ _).mono (fun r h c => ?_) (Cert.QkvWRefIdeal.Value.run m' g')
  obtain ⟨h0, h1, h2, h3, h4⟩ := hargs c
  refine ⟨(h c).1.trans ?_, (h c).2.1.trans ?_, (h c).2.2.1.trans ?_, (h c).2.2.2.1.trans ?_, (h c).2.2.2.2.1.trans ?_, (h c).2.2.2.2.2⟩
  · rw [Cert.QkvWRefIdeal.Read.val_main_v95_eq, h0, h1, h2, h3, h4]
    rfl
  · rw [Cert.QkvWRefIdeal.Read.val_main_v101_eq, h0, h1, h2, h3, h4]
    rfl
  · rw [Cert.QkvWRefIdeal.Read.val_main_v102_eq, h0, h1, h2, h3, h4]
    rfl
  · rw [Cert.QkvWRefIdeal.Read.val_main_v96_eq, h0, h1, h2, h3, h4]
    rfl
  · rw [Cert.QkvWRefIdeal.Read.val_main_v97_eq, h0, h1, h2, h3, h4]
    rfl

end Cert.Proof
end
-- ==== Proof.QkvWSPay.lean ====
/-
  The projection's values of the sliding window layers at the sample batch's shapes, at an index: the projected row with a modulation of its own, the results.
-/
module

public import proofs.«01_k».proof.Proof.Gen.QkvWSIdeal.Frame
public import proofs.«01_k».proof.Proof.QkvOut

@[expose] public section

set_option maxRecDepth 16384

noncomputable section

namespace Cert.QkvWSIdeal.Own

open Cert.QkvWSIdeal Cert.QkvWSIdeal.Gen
open Idealize.ShloMosaic
open Cert.Rotary
open Cert.QkvIdeal.Own (Rows zero2 zero3 outQ)

/-- The projection at an element: every row has its own scale and shift. -/
theorem pay1_apply (x : Vec Ideal S512x1024 .f32) (sc sh : Vec Ideal S1x512x1024 .f32) (w : Vec Ideal S1024x1536 .bf16) (b : Vec Ideal S1x1536 .f32)
    (r : Fin 512) (e : Fin 1536) :
    k0_pay1 (F := Ideal) x sc sh w b (ix2 r e)
      = proj (modulate (fun k => x (ix2 r k)) (fun k => sc (ix3 0 r k)) (fun k => sh (ix3 0 r k))) (fun k e => w (ix2 k e)) (fun e => b (ix2 0 e)) e := by
  unfold proj modulate
  pointwise [k0_pay1]

variable {p : Fin 512 → Fin 1536 → EReal} {C S : Fin 512 → Fin 8 → EReal} {x0 : Vec Ideal S512x1024 .f32} {x1 x2 : Vec Ideal S1x512x1024 .f32}
  {x3 : Vec Ideal S1024x1536 .bf16} {x4 : Vec Ideal S1x1536 .f32} {x5 x6 x7 : Vec Ideal S512x128 .f32}

/-- The projected rows, of the whole blocks. -/
theorem pay34_eq : k0_pay34 (F := Ideal) x0 x1 x2 x3 x4 x5 x6 x7 = k0_pay1 x0 x2 x1 x3 x4 := by
  have e0 : View.ld x0 r0_0 = x0 := View.ld_unit_zero (Val := Elt Ideal) zero2 _ x0
  have e1 : View.ld x1 r0_1 = x1 := View.ld_unit_zero (Val := Elt Ideal) zero3 _ x1
  have e2 : View.ld x2 r0_1 = x2 := View.ld_unit_zero (Val := Elt Ideal) zero3 _ x2
  have e3 : View.ld x3 r0_2 = x3 := View.ld_unit_zero (Val := Elt Ideal) zero2 _ x3
  have e4 : View.ld x4 r0_3 = x4 := View.ld_unit_zero (Val := Elt Ideal) zero2 _ x4
  unfold k0_pay34
  rw [e0, e1, e2, e3, e4]

/-- The table of cosines, the whole block. -/
theorem pay35_eq : k0_pay35 (F := Ideal) x0 x1 x2 x3 x4 x5 x6 x7 = x5 :=
  (congrArg k0_pay2 (View.ld_unit_zero (Val := Elt Ideal) zero2 _ x5)).trans (shapeCast_self _ _)

/-- The table of sines of the lanes to the left, the whole block. -/
theorem pay36_eq : k0_pay36 (F := Ideal) x0 x1 x2 x3 x4 x5 x6 x7 = x6 :=
  (congrArg k0_pay3 (View.ld_unit_zero (Val := Elt Ideal) zero2 _ x6)).trans (shapeCast_self _ _)

/-- The table of sines of the lanes to the right, the whole block. -/
theorem pay37_eq : k0_pay37 (F := Ideal) x0 x1 x2 x3 x4 x5 x6 x7 = x7 :=
  (congrArg k0_pay4 (View.ld_unit_zero (Val := Elt Ideal) zero2 _ x7)).trans (shapeCast_self _ _)

/-- A grid point's rows and tables, of its blocks. -/
abbrev PointRows (p : Fin 512 → Fin 1536 → EReal) (C S : Fin 512 → Fin 8 → EReal) (x0 : Vec Ideal S512x1024 .f32) (x1 x2 : Vec Ideal S1x512x1024 .f32)
    (x3 : Vec Ideal S1024x1536 .bf16) (x4 : Vec Ideal S1x1536 .f32) (x5 x6 x7 : Vec Ideal S512x128 .f32) : Prop :=
  Rows p C S (k0_pay34 (F := Ideal) x0 x1 x2 x3 x4 x5 x6 x7) (k0_pay35 x0 x1 x2 x3 x4 x5 x6 x7) (k0_pay36 x0 x1 x2 x3 x4 x5 x6 x7) (k0_pay37 x0 x1 x2 x3 x4 x5 x6 x7)

variable (h : PointRows p C S x0 x1 x2 x3 x4 x5 x6 x7)
include h

/-- The queries a grid point stores. -/
theorem out8_apply (r : Fin 512) (e : Fin 1024) : out0_8 (F := Ideal) x0 x1 x2 x3 x4 x5 x6 x7 (ix2 r e) = outQ p C S r e :=
  Cert.QkvIdeal.Own.queriesOf_apply h r e

/-- The keys a grid point stores. -/
theorem out9_apply (r : Fin 512) (e : Fin 256) : out0_9 (F := Ideal) x0 x1 x2 x3 x4 x5 x6 x7 (ix2 r e) = rot (p r) (C r) (S r) (1024 + e) :=
  Cert.QkvIdeal.Own.keysOf_apply h r e

/-- The values a grid point stores. -/
theorem out10_apply (r : Fin 512) (e : Fin 256) : out0_10 (F := Ideal) x0 x1 x2 x3 x4 x5 x6 x7 (ix2 r e) = p r (col (1280 + e)) :=
  Cert.QkvIdeal.Own.valuesOf_apply h r e

/-- The rounded keys a grid point stores. -/
theorem out11_apply (r : Fin 512) (e : Fin 256) : out0_11 (F := Ideal) x0 x1 x2 x3 x4 x5 x6 x7 (ix2 r e) = rot (p r) (C r) (S r) (1024 + e) :=
  Cert.QkvIdeal.Own.roundedKeysOf_apply h r e

/-- The rounded values a grid point stores. -/
theorem out12_apply (r : Fin 512) (e : Fin 256) : out0_12 (F := Ideal) x0 x1 x2 x3 x4 x5 x6 x7 (ix2 r e) = p r (col (1280 + e)) :=
  Cert.QkvIdeal.Own.roundedValuesOf_apply h r e

end Cert.QkvWSIdeal.Own

end
-- ==== Proof.QkvWSTop.lean ====
/-
  The sliding window layers' projection at the sample batch's shapes: the rows are the reference's, the rows cover the arrays, and the
  keys and values kept after the call are the newest 128 positions of every sequence.
-/
module

public import proofs.«01_k».proof.Defs
public import proofs.«01_k».proof.Proof.Gen.QkvWSIdeal.Frame
public import proofs.«01_k».proof.Proof.Gen.QkvWSRefIdeal.Run
public import proofs.«01_k».proof.Proof.Gen.QkvWSRefIdeal.Read
public import proofs.«01_k».proof.Proof.QkvWSPay
public import proofs.«01_k».proof.Proof.QkvSTop
public import Idealize.ShloMosaic.Lib.Pipeline.ValueKit
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem

namespace Cert.QkvWSIdeal.Own

open Cert.QkvWSIdeal Cert.QkvWSIdeal.Gen
open Cert.QkvSRefIdeal.Read (row prow cs sn)
open Cert.QkvSIdeal.Value (tb ts table table_apply rows rows_apply ang cos_ang sin_ang)
open Cert.Rotary

/-- The windows' blocks at every grid point. -/
theorem idx_eq : ∀ t : Fin grid0.N,
    win0_0.index t = ![t.val, 0] ∧ win0_1.index t = ![t.val, 0, 0] ∧ win0_2.index t = ![t.val, 0, 0] ∧ win0_3.index t = ![0, 0]
    ∧ win0_4.index t = ![0, 0] ∧ win0_5.index t = ![0, 0] ∧ win0_6.index t = ![0, 0] ∧ win0_7.index t = ![0, 0]
    ∧ win0_8.index t = ![t.val, 0] ∧ win0_9.index t = ![t.val, 0] ∧ win0_10.index t = ![t.val, 0] ∧ win0_11.index t = ![t.val, 0] ∧ win0_12.index t = ![t.val, 0] := by
  decide +kernel

/-- There is one grid point. -/
theorem point_zero (t : Fin cfg0.N) : t.val = 0 := by
  have h : cfg0.N = 1 := N_0
  have := t.isLt
  omega

variable (m : (ℓ : Loc nD τ sig) → Buf (Elt Ideal) ℓ) (c : Dev nD)

/-- The rows' block at an element. -/
theorem iblk0_apply (t : Fin cfg0.N) (r : Fin 512) (k : Fin 1024) :
    (iblk m c 0 t : Vec Ideal S512x1024 .f32) (ix2 r k) = m ((c : Thread nD τ).loc main_arg0) (ix3 (tb r) (ts r) k) := by
  have h := (idx_eq t).1
  have ht := point_zero t
  unfold iblk
  rw [View.read_apply]
  show V m c main_v41 _ = _
  have he : (win0_0.blk t).view.emb (ix2 r k) = ix2 r k := funext fun a => Fin.ext (by
    match a with
    | ⟨0, _⟩ => show win0_0.index t 0 * 512 + 1 * r.val = r.val; rw [h]; show t.val * 512 + _ = _; omega
    | ⟨1, _⟩ => show win0_0.index t 1 * 1024 + 1 * k.val = k.val; rw [h]; show 0 * 1024 + _ = _; omega)
  refine (congrArg (V m c main_v41) he).trans ?_
  show StableHlo.after hostOps0 (fun b => m (c, b)) (Proc.devRef .tc main_v41) _ = _
  after_reads_simp
  pointwise

/-- The shift's array, at the call. -/
theorem V_shift : V m c main_v45 = rows (m ((c : Thread nD τ).loc main_arg1)) := by
  show StableHlo.after hostOps0 (fun b => m (c, b)) (Proc.devRef .tc main_v45) = _
  after_reads_simp
  rfl

/-- The shift's block at an element: every row has its sequence's. -/
theorem iblk1_apply (t : Fin cfg0.N) (r : Fin 512) (k : Fin 1024) :
    (iblk m c 1 t : Vec Ideal S1x512x1024 .f32) (ix3 0 r k) = m ((c : Thread nD τ).loc main_arg1) (ix3 (tb r) 0 k) := by
  have h := (idx_eq t).2.1
  have ht := point_zero t
  have e : (iblk m c 1 t : Vec Ideal S1x512x1024 .f32) (ix3 0 r k) = V m c main_v45 (ix3 0 r k) := by
    unfold iblk
    rw [View.read_apply]
    refine congrArg (V m c main_v45) (funext fun a => Fin.ext ?_)
    match a with
    | ⟨0, _⟩ => show win0_1.index t 0 * 1 + 1 * 0 = 0; rw [h]; show t.val * 1 + _ = _; omega
    | ⟨1, _⟩ => show win0_1.index t 1 * 512 + 1 * r.val = r.val; rw [h]; show 0 * 512 + _ = _; omega
    | ⟨2, _⟩ => show win0_1.index t 2 * 1024 + 1 * k.val = k.val; rw [h]; show 0 * 1024 + _ = _; omega
  rw [e, V_shift]
  exact rows_apply _ r k

/-- The scale's array, at the call. -/
theorem V_scale : V m c main_v49 = rows (m ((c : Thread nD τ).loc main_arg2)) := by
  show StableHlo.after hostOps0 (fun b => m (c, b)) (Proc.devRef .tc main_v49) = _
  after_reads_simp
  rfl

/-- The scale's block at an element: every row has its sequence's. -/
theorem iblk2_apply (t : Fin cfg0.N) (r : Fin 512) (k : Fin 1024) :
    (iblk m c 2 t : Vec Ideal S1x512x1024 .f32) (ix3 0 r k) = m ((c : Thread nD τ).loc main_arg2) (ix3 (tb r) 0 k) := by
  have h := (idx_eq t).2.2.1
  have ht := point_zero t
  have e : (iblk m c 2 t : Vec Ideal S1x512x1024 .f32) (ix3 0 r k) = V m c main_v49 (ix3 0 r k) := by
    unfold iblk
    rw [View.read_apply]
    refine congrArg (V m c main_v49) (funext fun a => Fin.ext ?_)
    match a with
    | ⟨0, _⟩ => show win0_2.index t 0 * 1 + 1 * 0 = 0; rw [h]; show t.val * 1 + _ = _; omega
    | ⟨1, _⟩ => show win0_2.index t 1 * 512 + 1 * r.val = r.val; rw [h]; show 0 * 512 + _ = _; omega
    | ⟨2, _⟩ => show win0_2.index t 2 * 1024 + 1 * k.val = k.val; rw [h]; show 0 * 1024 + _ = _; omega
  rw [e, V_scale]
  exact rows_apply _ r k

/-- The weights' block at an element. -/
theorem iblk3_apply (t : Fin cfg0.N) (k : Fin 1024) (e : Fin 1536) :
    (iblk m c 3 t : Vec Ideal S1024x1536 .bf16) (ix2 k e) = m ((c : Thread nD τ).loc main_arg3) (ix2 k e) := by
  blk_ext! [iblk, V, idx_eq t]

/-- The offset at an element. -/
theorem iblk4_apply (t : Fin cfg0.N) (e : Fin 1536) :
    (iblk m c 4 t : Vec Ideal S1x1536 .f32) (ix2 0 e) = m ((c : Thread nD τ).loc main_arg4) (ix1 e) := by
  have h := (idx_eq t).2.2.2.2.1
  unfold iblk
  rw [View.read_apply]
  show V m c main_v51 _ = _
  have he : (win0_4.blk t).view.emb (ix2 0 e) = ix2 0 e := funext fun a => Fin.ext (by
    match a with
    | ⟨0, _⟩ => show win0_4.index t 0 * 1 + 1 * 0 = 0; rw [h]; rfl
    | ⟨1, _⟩ => show win0_4.index t 1 * 1536 + 1 * e.val = e.val; rw [h]; show 0 * 1536 + _ = _; omega)
  refine (congrArg (V m c main_v51) he).trans ?_
  show StableHlo.after hostOps0 (fun b => m (c, b)) (Proc.devRef .tc main_v51) _ = _
  after_reads_simp
  pointwise

/-- The table of cosines over the 128 lanes, from the reference's cosines. -/
theorem V_tabC : V m c main_v34 = table (Host.cos (ang : FVec Ideal S512x8 .f32) : FVec Ideal S512x8 .f32) (Host.cos (ang : FVec Ideal S512x8 .f32) : FVec Ideal S512x8 .f32) (broadcastInDim S512x48 ![] bcast_S_S512x48 (constant (F := Ideal) S_ .f32 0x3F800000#32)) := by
  show StableHlo.after hostOps0 (fun b => m (c, b)) (Proc.devRef .tc main_v34) = _
  after_reads_simp
  show table (StableHlo.upto hostOps0 (fun b => m (c, b)) 37 (Proc.devRef .tc main_v23)) (StableHlo.upto hostOps0 (fun b => m (c, b)) 37 (Proc.devRef .tc main_v23))
    (StableHlo.upto hostOps0 (fun b => m (c, b)) 37 (Proc.devRef .tc main_v25)) = _
  after_reads_simp
  rfl

/-- The table of the negated sines. -/
theorem V_tabL : V m c main_v37 = table (Host.negf (Host.sin (ang : FVec Ideal S512x8 .f32) : FVec Ideal S512x8 .f32) : FVec Ideal S512x8 .f32) (broadcastInDim S512x8 ![] bcast_S_S512x8 (constant (F := Ideal) S_ .f32 0x00000000#32)) (broadcastInDim S512x48 ![] bcast_S_S512x48 (constant (F := Ideal) S_ .f32 0x00000000#32)) := by
  show StableHlo.after hostOps0 (fun b => m (c, b)) (Proc.devRef .tc main_v37) = _
  after_reads_simp
  show table (StableHlo.upto hostOps0 (fun b => m (c, b)) 39 (Proc.devRef .tc main_v29)) (StableHlo.upto hostOps0 (fun b => m (c, b)) 39 (Proc.devRef .tc main_v27))
    (StableHlo.upto hostOps0 (fun b => m (c, b)) 39 (Proc.devRef .tc main_v26)) = _
  after_reads_simp
  rfl

/-- The table of the sines. -/
theorem V_tabR : V m c main_v40 = table (broadcastInDim S512x8 ![] bcast_S_S512x8 (constant (F := Ideal) S_ .f32 0x00000000#32)) (Host.sin (ang : FVec Ideal S512x8 .f32) : FVec Ideal S512x8 .f32) (broadcastInDim S512x48 ![] bcast_S_S512x48 (constant (F := Ideal) S_ .f32 0x00000000#32)) := by
  show StableHlo.after hostOps0 (fun b => m (c, b)) (Proc.devRef .tc main_v40) = _
  after_reads_simp
  show table (StableHlo.upto hostOps0 (fun b => m (c, b)) 40 (Proc.devRef .tc main_v27)) (StableHlo.upto hostOps0 (fun b => m (c, b)) 40 (Proc.devRef .tc main_v24))
    (StableHlo.upto hostOps0 (fun b => m (c, b)) 40 (Proc.devRef .tc main_v26)) = _
  after_reads_simp
  rfl

/-- The table of cosines at an element. -/
theorem iblk5_apply (t : Fin cfg0.N) (r : Fin 512) (l : Fin 128) :
    (iblk m c 5 t : Vec Ideal S512x128 .f32) (ix2 r l) = tabC (cs (ts r)) l := by
  have h := (idx_eq t).2.2.2.2.2.1
  unfold iblk
  rw [View.read_apply]
  show V m c main_v34 _ = _
  have he : (win0_5.blk t).view.emb (ix2 r l) = ix2 r l := funext fun a => Fin.ext (by
    match a with
    | ⟨0, _⟩ => show win0_5.index t 0 * 512 + 1 * r.val = r.val; rw [h]; show 0 * 512 + _ = _; omega
    | ⟨1, _⟩ => show win0_5.index t 1 * 128 + 1 * l.val = l.val; rw [h]; show 0 * 128 + _ = _; omega)
  refine (congrArg (V m c main_v34) he).trans ?_
  rw [V_tabC, table_apply]
  unfold tabC
  by_cases h8 : l.val % 64 < 8
  · rw [if_pos h8, if_pos (by omega)]
    exact cos_ang r (freq l)
  · rw [if_neg h8]
    by_cases h16 : l.val % 64 < 16
    · rw [if_pos h16, if_pos h16]
      exact cos_ang r (freq l)
    · rw [if_neg h16, if_neg h16]
      exact Idealize.ShloMosaic.Ideal.ofBits_one_f32

/-- The table of the negated sines at an element. -/
theorem iblk6_apply (t : Fin cfg0.N) (r : Fin 512) (l : Fin 128) :
    (iblk m c 6 t : Vec Ideal S512x128 .f32) (ix2 r l) = tabL (sn (ts r)) l := by
  have h := (idx_eq t).2.2.2.2.2.2.1
  unfold iblk
  rw [View.read_apply]
  show V m c main_v37 _ = _
  have he : (win0_6.blk t).view.emb (ix2 r l) = ix2 r l := funext fun a => Fin.ext (by
    match a with
    | ⟨0, _⟩ => show win0_6.index t 0 * 512 + 1 * r.val = r.val; rw [h]; show 0 * 512 + _ = _; omega
    | ⟨1, _⟩ => show win0_6.index t 1 * 128 + 1 * l.val = l.val; rw [h]; show 0 * 128 + _ = _; omega)
  refine (congrArg (V m c main_v37) he).trans ?_
  rw [V_tabL, table_apply]
  have z0 : Ideal.ofBits .f32 0x00000000#32 = 0 := by simp [Ideal.ofBits, Ideal.ieee]
  unfold tabL
  by_cases h8 : l.val % 64 < 8
  · rw [if_pos h8, if_pos h8]
    exact congrArg (fun z : EReal => -z) (sin_ang r (freq l))
  · rw [if_neg h8, if_neg h8]
    by_cases h16 : l.val % 64 < 16
    · rw [if_pos h16]
      exact z0
    · rw [if_neg h16]
      exact z0

/-- The table of the sines at an element. -/
theorem iblk7_apply (t : Fin cfg0.N) (r : Fin 512) (l : Fin 128) :
    (iblk m c 7 t : Vec Ideal S512x128 .f32) (ix2 r l) = tabR (sn (ts r)) l := by
  have h := (idx_eq t).2.2.2.2.2.2.2.1
  unfold iblk
  rw [View.read_apply]
  show V m c main_v40 _ = _
  have he : (win0_7.blk t).view.emb (ix2 r l) = ix2 r l := funext fun a => Fin.ext (by
    match a with
    | ⟨0, _⟩ => show win0_7.index t 0 * 512 + 1 * r.val = r.val; rw [h]; show 0 * 512 + _ = _; omega
    | ⟨1, _⟩ => show win0_7.index t 1 * 128 + 1 * l.val = l.val; rw [h]; show 0 * 128 + _ = _; omega)
  refine (congrArg (V m c main_v40) he).trans ?_
  rw [V_tabR, table_apply]
  have z0 : Ideal.ofBits .f32 0x00000000#32 = 0 := by simp [Ideal.ofBits, Ideal.ieee]
  unfold tabR
  by_cases h8 : l.val % 64 < 8
  · rw [if_pos h8, if_pos h8]
    exact z0
  · rw [if_neg h8, if_neg h8]
    by_cases h16 : l.val % 64 < 16
    · rw [if_pos h16, if_pos h16]
      exact sin_ang r (freq l)
    · rw [if_neg h16, if_neg h16]
      exact z0

/-- The reference's projected row that a grid point's row is. -/
abbrev rowOf (r : Fin 512) : Fin 1536 → EReal :=
  prow (m ((c : Thread nD τ).loc main_arg0)) (m ((c : Thread nD τ).loc main_arg1)) (m ((c : Thread nD τ).loc main_arg2)) (m ((c : Thread nD τ).loc main_arg3)) (m ((c : Thread nD τ).loc main_arg4)) (tb r) (ts r)

/-- A grid point's blocks are the reference's rows and the tables at their positions. -/
theorem pointRows (t : Fin cfg0.N) :
    PointRows (rowOf m c) (fun r => cs (ts r)) (fun r => sn (ts r)) (iblk m c 0 t) (iblk m c 1 t) (iblk m c 2 t) (iblk m c 3 t) (iblk m c 4 t) (iblk m c 5 t) (iblk m c 6 t) (iblk m c 7 t) where
  hv r e := by
    rw [pay34_eq, pay1_apply]
    simp only [iblk0_apply, iblk1_apply, iblk2_apply, iblk3_apply, iblk4_apply]
    rfl
  hc r l := by
    rw [pay35_eq]
    exact iblk5_apply m c t r l
  h1 r l := by
    rw [pay36_eq]
    exact iblk6_apply m c t r l
  h2 r l := by
    rw [pay37_eq]
    exact iblk7_apply m c t r l

/-- A grid point's row, among all rows. -/
theorem row_val (t : Fin cfg0.N) (r : Fin 512) (n : ℕ) (hn : n = t.val) : (row (tb r) (ts r)).val = n * 512 + 1 * r.val := by
  have ht := point_zero t
  subst hn
  show r.val / 4 * 4 + r.val % 4 = _
  omega

/-- The grid point that has a row. -/
theorem has_row (x : ℕ) (hx : x < 512) : ∃ t : Fin cfg0.N, t.val * 512 ≤ x ∧ x < t.val * 512 + 512 := by
  have hN : cfg0.N = 1 := N_0
  refine ⟨⟨0, by omega⟩, ?_, ?_⟩
  · show 0 * 512 ≤ x
    omega
  · show x < 0 * 512 + 512
    omega

/-- The reference's result 0: the scaled queries. -/
def result0 : Buf (Elt Ideal) ((c : Thread nD τ).loc main_v52_0) :=
  Cert.QkvSRefIdeal.Read.val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg4))

/-- A grid point writes back its rows of the scaled queries. -/
theorem flushed8_eq (t : Fin cfg0.N) : (dats m 0 c).flushed 8 t = ((cfg0.win 8).blk t).view.read (Elt Ideal) (result0 m c) := by
  have e := (idx_eq t).2.2.2.2.2.2.2.2.1
  show (cfg0.win 8).cut (grid0.coords t) ((dats m 0 c).after 8 t) = _
  rw [after0_8]
  have h : ∀ j : S512x1024.Idx, out0_8 (F := Ideal) (iblk m c 0 t) (iblk m c 1 t) (iblk m c 2 t) (iblk m c 3 t) (iblk m c 4 t) (iblk m c 5 t) (iblk m c 6 t) (iblk m c 7 t) j
      = ((cfg0.win 8).blk t).view.read (Elt Ideal) (result0 m c) j := fun j => by
    obtain ⟨r, d, rfl⟩ : ∃ (r : Fin 512) (d : Fin 1024), j = ix2 r d := ⟨j 0, j 1, funext fun a => by match a with | ⟨0, _⟩ => rfl | ⟨1, _⟩ => rfl⟩
    rw [View.read_apply]
    refine ((out8_apply (pointRows m c t) r d).trans
      (Cert.QkvSRefIdeal.Read.result0_apply _ _ _ _ _ (tb r) (ts r) d).symm).trans (congrArg (result0 m c) (funext fun a => Fin.ext ?_))
    match a with
    | ⟨0, _⟩ => exact row_val t r (win0_8.index t 0) (by rw [e]; rfl)
    | ⟨1, _⟩ => show d.val = win0_8.index t 1 * 1024 + 1 * d.val; rw [e]; show _ = 0 * 1024 + _; omega
  exact funext h

/-- The kernel's array of the scaled queries is the reference's. -/
theorem final8 : (dats m 0 c).arrAt 8 cfg0.N = result0 m c :=
  (dats m 0 c).arrAt_eq_of_cover 8 (result0 m c) (fun t _ => flushed8_eq m c t) fun i => by
    have h1 : (i 1 : Nat) < 1024 := (i 1).isLt
    obtain ⟨t, hl, hu⟩ := has_row (i 0 : Nat) (i 0).isLt
    have e := (idx_eq t).2.2.2.2.2.2.2.2.1
    refine ⟨t, flush0_8 t, ?_⟩
    show i ∈ ((View.whole main_v52_0).slice (win0_8.rect t)).set
    rw [View.set_slice_whole, Rect.mem_set_unit]
    intro a
    match a with
    | ⟨0, _⟩ => show win0_8.index t 0 * 512 ≤ (i 0 : Nat) ∧ (i 0 : Nat) < win0_8.index t 0 * 512 + 512
                rw [e]; exact ⟨hl, hu⟩
    | ⟨1, _⟩ => show win0_8.index t 1 * 1024 ≤ (i 1 : Nat) ∧ (i 1 : Nat) < win0_8.index t 1 * 1024 + 1024
                rw [e]; show 0 * 1024 ≤ _ ∧ _ < 0 * 1024 + 1024; omega

/-- The reference's result 1: the keys. -/
def result1 : Buf (Elt Ideal) ((c : Thread nD τ).loc main_v52_1) :=
  Cert.QkvSRefIdeal.Read.val_main_v92 (F := Ideal) (m ((c : Thread nD τ).loc main_arg0)) (m ((c : Thread nD τ).loc main_arg1)) (m ((c : Thread nD τ).loc main_arg2)) (m ((c : Thread nD τ).loc main_arg3)) (m ((c : Thread nD τ).loc main_arg4))

/-- A grid point writes back its rows of the keys. -/
theorem flushed9_eq (t : Fin cfg0.N) : (dats m 0 c).flushed 9 t = ((cfg0.win 9).blk t).view.read (Elt Ideal) (result1 m c) := by
  have e := (idx_eq t).2.2.2.2.2.2.2.2.2.1
  show (cfg0.win 9).cut (grid0.coords t) ((dats m 0 c).after 9 t) = _
  rw [after0_9]
  have h : ∀ j : S512x256.Idx, out0_9 (F := Ideal) (iblk m c 0 t) (iblk m c 1 t) (iblk m c 2 t) (iblk m c 3 t) (iblk m c 4 t) (iblk m c 5 t) (iblk m c 6 t) (iblk m c 7 t) j
      = ((cfg0.win 9).blk t).view.read (Elt Ideal) (result1 m c) j := fun j => by
    obtain ⟨r, d, rfl⟩ : ∃ (r : Fin 512) (d : Fin 256), j = ix2 r d := ⟨j 0, j 1, funext fun a => by match a with | ⟨0, _⟩ => rfl | ⟨1, _⟩ => rfl⟩
    rw [View.read_apply]
    refine ((out9_apply (pointRows m c t) r d).trans
      (Cert.QkvSRefIdeal.Read.result1_apply _ _ _ _ _ (tb r) (ts r) d).symm).trans (congrArg (result1 m c) (funext fun a => Fin.ext ?_))
    match a with
    | ⟨0, _⟩ => exact row_val t r (win0_9.index t 0) (by rw [e]; rfl)
    | ⟨1, _⟩ => show d.val = win0_9.index t 1 * 256 + 1 * d.val; rw [e]; show _ = 0 * 256 + _; omega
  exact funext h

/-- The kernel's array of the keys is the reference's. -/
theorem final9 : (dats m 0 c).arrAt 9 cfg0.N = result1 m c :=
  (dats m 0 c).arrAt_eq_of_cover 9 (result1 m c) (fun t _ => flushed9_eq m c t) fun i => by
    have h1 : (i 1 : Nat) < 256 := (i 1).isLt
    obtain ⟨t, hl, hu⟩ := has_row (i 0 : Nat) (i 0).isLt
    have e := (idx_eq t).2.2.2.2.2.2.2.2.2.1
    refine ⟨t, flush0_9 t, ?_⟩
    show i ∈ ((View.whole main_v52_1).slice (win0_9.rect t)).set
    rw [View.set_slice_whole, Rect.mem_set_unit]
    intro a
    match a with
    | ⟨0, _⟩ => show win0_9.index t 0 * 512 ≤ (i 0 : Nat) ∧ (i 0 : Nat) < win0_9.index t 0 * 512 + 512
                rw [e]; exact ⟨hl, hu⟩
    | ⟨1, _⟩ => show win0_9.index t 1 * 256 ≤ (i 1 : Nat) ∧ (i 1 : Nat) < win0_9.index t 1 * 256 + 256
                rw [e]; show 0 * 256 ≤ _ ∧ _ < 0 * 256 + 256; omega

/-- The reference's result 2: the values. -/
def result2 : Buf (Elt Ideal) ((c : Thread nD τ).loc main_v52_2) :=
  Cert.QkvSRefIdeal.Read.val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4))

/-- A grid point writes back its rows of the values. -/
theorem flushed10_eq (t : Fin cfg0.N) : (dats m 0 c).flushed 10 t = ((cfg0.win 10).blk t).view.read (Elt Ideal) (result2 m c) := by
  have e := (idx_eq t).2.2.2.2.2.2.2.2.2.2.1
  show (cfg0.win 10).cut (grid0.coords t) ((dats m 0 c).after 10 t) = _
  rw [after0_10]
  have h : ∀ j : S512x256.Idx, out0_10 (F := Ideal) (iblk m c 0 t) (iblk m c 1 t) (iblk m c 2 t) (iblk m c 3 t) (iblk m c 4 t) (iblk m c 5 t) (iblk m c 6 t) (iblk m c 7 t) j
      = ((cfg0.win 10).blk t).view.read (Elt Ideal) (result2 m c) j := fun j => by
    obtain ⟨r, d, rfl⟩ : ∃ (r : Fin 512) (d : Fin 256), j = ix2 r d := ⟨j 0, j 1, funext fun a => by match a with | ⟨0, _⟩ => rfl | ⟨1, _⟩ => rfl⟩
    rw [View.read_apply]
    refine ((out10_apply (pointRows m c t) r d).trans
      (Cert.QkvSRefIdeal.Read.result2_apply _ _ _ _ _ (tb r) (ts r) d).symm).trans (congrArg (result2 m c) (funext fun a => Fin.ext ?_))
    match a with
    | ⟨0, _⟩ => exact row_val t r (win0_10.index t 0) (by rw [e]; rfl)
    | ⟨1, _⟩ => show d.val = win0_10.index t 1 * 256 + 1 * d.val; rw [e]; show _ = 0 * 256 + _; omega
  exact funext h

/-- The kernel's array of the values is the reference's. -/
theorem final10 : (dats m 0 c).arrAt 10 cfg0.N = result2 m c :=
  (dats m 0 c).arrAt_eq_of_cover 10 (result2 m c) (fun t _ => flushed10_eq m c t) fun i => by
    have h1 : (i 1 : Nat) < 256 := (i 1).isLt
    obtain ⟨t, hl, hu⟩ := has_row (i 0 : Nat) (i 0).isLt
    have e := (idx_eq t).2.2.2.2.2.2.2.2.2.2.1
    refine ⟨t, flush0_10 t, ?_⟩
    show i ∈ ((View.whole main_v52_2).slice (win0_10.rect t)).set
    rw [View.set_slice_whole, Rect.mem_set_unit]
    intro a
    match a with
    | ⟨0, _⟩ => show win0_10.index t 0 * 512 ≤ (i 0 : Nat) ∧ (i 0 : Nat) < win0_10.index t 0 * 512 + 512
                rw [e]; exact ⟨hl, hu⟩
    | ⟨1, _⟩ => show win0_10.index t 1 * 256 ≤ (i 1 : Nat) ∧ (i 1 : Nat) < win0_10.index t 1 * 256 + 256
                rw [e]; show 0 * 256 ≤ _ ∧ _ < 0 * 256 + 256; omega

/-- The reference's result 3: the rounded keys. -/
def result3 : Buf (Elt Ideal) ((c : Thread nD τ).loc main_v52_3) :=
  Cert.QkvSRefIdeal.Read.val_main_v98 (F := Ideal) (m ((c : Thread nD τ).loc main_arg0)) (m ((c : Thread nD τ).loc main_arg1)) (m ((c : Thread nD τ).loc main_arg2)) (m ((c : Thread nD τ).loc main_arg3)) (m ((c : Thread nD τ).loc main_arg4))

/-- A grid point writes back its rows of the rounded keys. -/
theorem flushed11_eq (t : Fin cfg0.N) : (dats m 0 c).flushed 11 t = ((cfg0.win 11).blk t).view.read (Elt Ideal) (result3 m c) := by
  have e := (idx_eq t).2.2.2.2.2.2.2.2.2.2.2.1
  show (cfg0.win 11).cut (grid0.coords t) ((dats m 0 c).after 11 t) = _
  rw [after0_11]
  have h : ∀ j : S512x256.Idx, out0_11 (F := Ideal) (iblk m c 0 t) (iblk m c 1 t) (iblk m c 2 t) (iblk m c 3 t) (iblk m c 4 t) (iblk m c 5 t) (iblk m c 6 t) (iblk m c 7 t) j
      = ((cfg0.win 11).blk t).view.read (Elt Ideal) (result3 m c) j := fun j => by
    obtain ⟨r, d, rfl⟩ : ∃ (r : Fin 512) (d : Fin 256), j = ix2 r d := ⟨j 0, j 1, funext fun a => by match a with | ⟨0, _⟩ => rfl | ⟨1, _⟩ => rfl⟩
    rw [View.read_apply]
    refine ((out11_apply (pointRows m c t) r d).trans
      (Cert.QkvSRefIdeal.Read.result3_apply _ _ _ _ _ (tb r) (ts r) d).symm).trans (congrArg (result3 m c) (funext fun a => Fin.ext ?_))
    match a with
    | ⟨0, _⟩ => exact row_val t r (win0_11.index t 0) (by rw [e]; rfl)
    | ⟨1, _⟩ => show d.val = win0_11.index t 1 * 256 + 1 * d.val; rw [e]; show _ = 0 * 256 + _; omega
  exact funext h

/-- The kernel's array of the rounded keys is the reference's. -/
theorem final11 : (dats m 0 c).arrAt 11 cfg0.N = result3 m c :=
  (dats m 0 c).arrAt_eq_of_cover 11 (result3 m c) (fun t _ => flushed11_eq m c t) fun i => by
    have h1 : (i 1 : Nat) < 256 := (i 1).isLt
    obtain ⟨t, hl, hu⟩ := has_row (i 0 : Nat) (i 0).isLt
    have e := (idx_eq t).2.2.2.2.2.2.2.2.2.2.2.1
    refine ⟨t, flush0_11 t, ?_⟩
    show i ∈ ((View.whole main_v52_3).slice (win0_11.rect t)).set
    rw [View.set_slice_whole, Rect.mem_set_unit]
    intro a
    match a with
    | ⟨0, _⟩ => show win0_11.index t 0 * 512 ≤ (i 0 : Nat) ∧ (i 0 : Nat) < win0_11.index t 0 * 512 + 512
                rw [e]; exact ⟨hl, hu⟩
    | ⟨1, _⟩ => show win0_11.index t 1 * 256 ≤ (i 1 : Nat) ∧ (i 1 : Nat) < win0_11.index t 1 * 256 + 256
                rw [e]; show 0 * 256 ≤ _ ∧ _ < 0 * 256 + 256; omega

/-- The reference's result 4: the rounded values. -/
def result4 : Buf (Elt Ideal) ((c : Thread nD τ).loc main_v52_4) :=
  Cert.QkvSRefIdeal.Read.val_main_v99 (F := Ideal) (m ((c : Thread nD τ).loc main_arg0)) (m ((c : Thread nD τ).loc main_arg1)) (m ((c : Thread nD τ).loc main_arg2)) (m ((c : Thread nD τ).loc main_arg3)) (m ((c : Thread nD τ).loc main_arg4))

/-- A grid point writes back its rows of the rounded values. -/
theorem flushed12_eq (t : Fin cfg0.N) : (dats m 0 c).flushed 12 t = ((cfg0.win 12).blk t).view.read (Elt Ideal) (result4 m c) := by
  have e := (idx_eq t).2.2.2.2.2.2.2.2.2.2.2.2
  show (cfg0.win 12).cut (grid0.coords t) ((dats m 0 c).after 12 t) = _
  rw [after0_12]
  have h : ∀ j : S512x256.Idx, out0_12 (F := Ideal) (iblk m c 0 t) (iblk m c 1 t) (iblk m c 2 t) (iblk m c 3 t) (iblk m c 4 t) (iblk m c 5 t) (iblk m c 6 t) (iblk m c 7 t) j
      = ((cfg0.win 12).blk t).view.read (Elt Ideal) (result4 m c) j := fun j => by
    obtain ⟨r, d, rfl⟩ : ∃ (r : Fin 512) (d : Fin 256), j = ix2 r d := ⟨j 0, j 1, funext fun a => by match a with | ⟨0, _⟩ => rfl | ⟨1, _⟩ => rfl⟩
    rw [View.read_apply]
    refine ((out12_apply (pointRows m c t) r d).trans
      (Cert.QkvSRefIdeal.Read.result4_apply _ _ _ _ _ (tb r) (ts r) d).symm).trans (congrArg (result4 m c) (funext fun a => Fin.ext ?_))
    match a with
    | ⟨0, _⟩ => exact row_val t r (win0_12.index t 0) (by rw [e]; rfl)
    | ⟨1, _⟩ => show d.val = win0_12.index t 1 * 256 + 1 * d.val; rw [e]; show _ = 0 * 256 + _; omega
  exact funext h

/-- The kernel's array of the rounded values is the reference's. -/
theorem final12 : (dats m 0 c).arrAt 12 cfg0.N = result4 m c :=
  (dats m 0 c).arrAt_eq_of_cover 12 (result4 m c) (fun t _ => flushed12_eq m c t) fun i => by
    have h1 : (i 1 : Nat) < 256 := (i 1).isLt
    obtain ⟨t, hl, hu⟩ := has_row (i 0 : Nat) (i 0).isLt
    have e := (idx_eq t).2.2.2.2.2.2.2.2.2.2.2.2
    refine ⟨t, flush0_12 t, ?_⟩
    show i ∈ ((View.whole main_v52_4).slice (win0_12.rect t)).set
    rw [View.set_slice_whole, Rect.mem_set_unit]
    intro a
    match a with
    | ⟨0, _⟩ => show win0_12.index t 0 * 512 ≤ (i 0 : Nat) ∧ (i 0 : Nat) < win0_12.index t 0 * 512 + 512
                rw [e]; exact ⟨hl, hu⟩
    | ⟨1, _⟩ => show win0_12.index t 1 * 256 ≤ (i 1 : Nat) ∧ (i 1 : Nat) < win0_12.index t 1 * 256 + 256
                rw [e]; show 0 * 256 ≤ _ ∧ _ < 0 * 256 + 256; omega

/-- The newest 128 positions of every sequence: the stored ones, then the four new ones, of an array of all sequences' rows. -/
def newest (k : Vec Ideal S128x128x4x64 .f32) (x : Vec Ideal S512x256 .f32) : Vec Ideal S128x128x4x64 .f32 :=
  extractStridedSlice S128x128x4x64 ![0, 4, 0, 0]
    (concatenate S128x132x4x64 1 [⟨S128x128x4x64, k⟩, ⟨S128x4x4x64, shapeCast S128x4x4x64 x shapeCasts_S512x256_S128x4x4x64⟩]
      concatenates_S128x128x4x64_S128x4x4x64_S128x132x4x64_d1)
    slices_S128x132x4x64_S128x128x4x64_0_4_0_0

/-- The windows' arrays are different buffers. -/
theorem arrays_differ : Function.Injective (Pipeline.arrRef spec0) := by decide

/-- After the lines that follow the call, the keys kept are the newest of the stored ones and the reference's. -/
theorem kept_keys : Pipeline.afterTail₀ cfgs (dats m) 0 (V0 m) [hostOps1] c main_v56 = newest (m ((c : Thread nD τ).loc main_arg5)) (result1 m c) := by
  have e := (Pipeline.withArrays_arr spec0 arrays_differ c (V0 m c) (fun w => (dats m 0 c).arrAt w cfg0.N) 9).trans (final9 m c)
  have s := (Pipeline.withArrays_of_ne spec0 c (V0 m c) (fun w => (dats m 0 c).arrAt w cfg0.N) main_arg5 (by decide)).trans (V_main_arg5 m c)
  show StableHlo.after hostOps1 (Pipeline.withArrays spec0 c (V0 m c) fun w => (dats m 0 c).arrAt w cfg0.N) (Proc.devRef .tc main_v56) = _
  after_reads_simp
  exact congrArg₂ newest s e

/-- After the lines that follow the call, the values kept are the newest of the stored ones and the reference's. -/
theorem kept_values : Pipeline.afterTail₀ cfgs (dats m) 0 (V0 m) [hostOps1] c main_v58 = newest (m ((c : Thread nD τ).loc main_arg6)) (result2 m c) := by
  have e := (Pipeline.withArrays_arr spec0 arrays_differ c (V0 m c) (fun w => (dats m 0 c).arrAt w cfg0.N) 10).trans (final10 m c)
  have s := (Pipeline.withArrays_of_ne spec0 c (V0 m c) (fun w => (dats m 0 c).arrAt w cfg0.N) main_arg6 (by decide)).trans (V_main_arg6 m c)
  show StableHlo.after hostOps1 (Pipeline.withArrays spec0 c (V0 m c) fun w => (dats m 0 c).arrAt w cfg0.N) (Proc.devRef .tc main_v58) = _
  after_reads_simp
  exact congrArg₂ newest s e

/-- The run, with its five results named and its arguments as they were. -/
theorem run_results (ρ : Dev nD → PrngReg) : θ_run defs (onTc (τ := τ) (main (F := Ideal))) ⟨m, fun _ => 0, ρ⟩ fun r => ∀ c : Dev nD,
      r.2.mem ((c.tc : Thread nD τ).loc main_v52_0) = result0 m c
      ∧ r.2.mem ((c.tc : Thread nD τ).loc main_v56) = newest (m ((c : Thread nD τ).loc main_arg5)) (result1 m c)
      ∧ r.2.mem ((c.tc : Thread nD τ).loc main_v58) = newest (m ((c : Thread nD τ).loc main_arg6)) (result2 m c)
      ∧ r.2.mem ((c.tc : Thread nD τ).loc main_v52_3) = result3 m c
      ∧ r.2.mem ((c.tc : Thread nD τ).loc main_v52_4) = result4 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => by
    have rest : ∀ b : Ref sig .tc, b ∈ Pipeline.restRefs sig spec0 →
        r.2.mem ((c.tc : Thread nD τ).loc b) = Pipeline.afterTail₀ cfgs (dats m) 0 (V0 m) [hostOps1] c b := (h c).2
    exact ⟨((h c).1 8).trans (final8 m c),
      (rest main_v56 (Pipeline.mem_restRefs_of main_v56 (by decide) (by decide))).trans (kept_keys m c),
      (rest main_v58 (Pipeline.mem_restRefs_of main_v58 (by decide) (by decide))).trans (kept_values m c),
      ((h c).1 11).trans (final11 m c),
      ((h c).1 12).trans (final12 m c),
      (rest main_arg0 (Pipeline.mem_restRefs_of main_arg0 (by decide) (by decide))).trans (W_main_arg0 m (dats m) c),
      (rest main_arg1 (Pipeline.mem_restRefs_of main_arg1 (by decide) (by decide))).trans (W_main_arg1 m (dats m) c),
      (rest main_arg2 (Pipeline.mem_restRefs_of main_arg2 (by decide) (by decide))).trans (W_main_arg2 m (dats m) c),
      (rest main_arg3 (Pipeline.mem_restRefs_of main_arg3 (by decide) (by decide))).trans (W_main_arg3 m (dats m) c),
      (rest main_arg4 (Pipeline.mem_restRefs_of main_arg4 (by decide) (by decide))).trans (W_main_arg4 m (dats m) c),
      (rest main_arg5 (Pipeline.mem_restRefs_of main_arg5 (by decide) (by decide))).trans (W_main_arg5 m (dats m) c),
      (rest main_arg6 (Pipeline.mem_restRefs_of main_arg6 (by decide) (by decide))).trans (W_main_arg6 m (dats m) c)⟩)
    (run_main m ρ)

end Cert.QkvWSIdeal.Own

namespace Cert.Proof

/-- The reference runs and keeps its arguments: it declares no semaphore. -/
theorem qkv_window_sample_ref_frame : Cert.quiescent_QkvWSRefIdeal := fun m ρ _ =>
  (θ_run _ _ _).mono (fun r h => ⟨fun c => (h c).2.2.2.2.2, Idealize.ShloMosaic.sem_eq_zero_of_no_sems (by decide) r.2⟩) (Cert.QkvWSRefIdeal.Value.run m ρ)

/-- The kernel and its reference end with the same five results. -/
theorem qkv_window_sample_algebraic : Cert.algebraic_QkvWSIdeal_QkvWSRefIdeal := by
  intro m g m' g' _ hargs
  refine ⟨fun c => Cert.QkvWSIdeal.Own.result0 m c, fun c => Cert.QkvWSIdeal.Own.newest (m ((c.tc : Thread Cert.QkvWSIdeal.nD Cert.QkvWSIdeal.τ).loc Cert.QkvWSIdeal.main_arg5)) (Cert.QkvWSIdeal.Own.result1 m c),
    fun c => Cert.QkvWSIdeal.Own.newest (m ((c.tc : Thread Cert.QkvWSIdeal.nD Cert.QkvWSIdeal.τ).loc Cert.QkvWSIdeal.main_arg6)) (Cert.QkvWSIdeal.Own.result2 m c), fun c => Cert.QkvWSIdeal.Own.result3 m c,
    fun c => Cert.QkvWSIdeal.Own.result4 m c, Cert.QkvWSIdeal.Own.run_results m g, ?_⟩
  refine (θ_run _ _ _).mono (fun r h c => ?_) (Cert.QkvWSRefIdeal.Value.run m' g')
  obtain ⟨h0, h1, h2, h3, h4, h5, h6⟩ := hargs c
  refine ⟨(h c).1.trans ?_, (h c).2.1.trans ?_, (h c).2.2.1.trans ?_, (h c).2.2.2.1.trans ?_, (h c).2.2.2.2.1.trans ?_, (h c).2.2.2.2.2⟩
  · rw [Cert.QkvWSRefIdeal.Read.val_main_v97_eq, h0, h1, h2, h3, h4]
    rfl
  · rw [Cert.QkvWSRefIdeal.Read.val_main_v104_eq, h0, h1, h2, h3, h4, h5]
    rfl
  · rw [Cert.QkvWSRefIdeal.Read.val_main_v106_eq, h0, h1, h2, h3, h4, h6]
    rfl
  · rw [Cert.QkvWSRefIdeal.Read.val_main_v98_eq, h0, h1, h2, h3, h4]
    rfl
  · rw [Cert.QkvWSRefIdeal.Read.val_main_v99_eq, h0, h1, h2, h3, h4]
    rfl

end Cert.Proof
end
-- ==== Proof.lean ====
/-
  The certificate: one conjunct for each claim, proved in the modules under Proof/.
-/
module

public import proofs.«01_k».proof.Defs
public import proofs.«01_k».proof.Proof.Gen.Moba.Frame
public import proofs.«01_k».proof.Proof.Gen.Pre_moba_finite
public import proofs.«01_k».proof.Proof.Gen.Moe.Skeleton
public import proofs.«01_k».proof.Proof.Gen.Moe.Launch
public import proofs.«01_k».proof.Proof.Gen.MoeIdeal.Skeleton
public import proofs.«01_k».proof.Proof.Gen.MoeIdeal.Launch
public import proofs.«01_k».proof.Proof.Gen.MoeRefIdeal.Run
public import proofs.«01_k».proof.Proof.Gen.MoeRefIdeal.Read
public import proofs.«01_k».proof.Proof.Gen.Pre_moe_ints
public import proofs.«01_k».proof.Proof.Gen.Qkv.Frame
public import proofs.«01_k».proof.Proof.Gen.QkvIdeal.Frame
public import proofs.«01_k».proof.Proof.Gen.QkvIdeal.Value
public import proofs.«01_k».proof.Proof.Gen.QkvRefIdeal.Run
public import proofs.«01_k».proof.Proof.Gen.QkvRefIdeal.Read
public import proofs.«01_k».proof.Proof.Gen.QkvS.Frame
public import proofs.«01_k».proof.Proof.Gen.QkvSIdeal.Frame
public import proofs.«01_k».proof.Proof.Gen.QkvSIdeal.Value
public import proofs.«01_k».proof.Proof.Gen.QkvSRefIdeal.Run
public import proofs.«01_k».proof.Proof.Gen.QkvSRefIdeal.Read
public import proofs.«01_k».proof.Proof.Gen.FfnOutS.Frame
public import proofs.«01_k».proof.Proof.Gen.FfnOutSIdeal.Frame
public import proofs.«01_k».proof.Proof.Gen.FfnOutSIdeal.Value
public import proofs.«01_k».proof.Proof.Gen.FfnOutSRefIdeal.Run
public import proofs.«01_k».proof.Proof.Gen.FfnOutSRefIdeal.Read
public import proofs.«01_k».proof.Proof.Gen.QkvW.Frame
public import proofs.«01_k».proof.Proof.Gen.QkvWIdeal.Frame
public import proofs.«01_k».proof.Proof.Gen.QkvWRefIdeal.Run
public import proofs.«01_k».proof.Proof.Gen.QkvWRefIdeal.Read
public import proofs.«01_k».proof.Proof.Gen.QkvWS.Frame
public import proofs.«01_k».proof.Proof.Gen.QkvWSIdeal.Frame
public import proofs.«01_k».proof.Proof.Gen.QkvWSRefIdeal.Run
public import proofs.«01_k».proof.Proof.Gen.QkvWSRefIdeal.Read
public import proofs.«01_k».proof.Proof.Gen.AttnOut.Frame
public import proofs.«01_k».proof.Proof.Gen.AttnOutIdeal.Frame
public import proofs.«01_k».proof.Proof.Gen.AttnOutIdeal.Value
public import proofs.«01_k».proof.Proof.Gen.AttnOutRefIdeal.Run
public import proofs.«01_k».proof.Proof.Gen.AttnOutRefIdeal.Read
public import proofs.«01_k».proof.Proof.Gen.FfnOut.Frame
public import proofs.«01_k».proof.Proof.Gen.FfnOutIdeal.Frame
public import proofs.«01_k».proof.Proof.Gen.FfnOutIdeal.Value
public import proofs.«01_k».proof.Proof.Gen.FfnOutRefIdeal.Run
public import proofs.«01_k».proof.Proof.Gen.FfnOutRefIdeal.Read
public import proofs.«01_k».proof.Proof.MobaTop
public import proofs.«01_k».proof.Proof.MoeTop
public import proofs.«01_k».proof.Proof.QkvTop
public import proofs.«01_k».proof.Proof.AttnTop
public import proofs.«01_k».proof.Proof.FfnTop
public import proofs.«01_k».proof.Proof.QkvSTop
public import proofs.«01_k».proof.Proof.FfnSTop
public import proofs.«01_k».proof.Proof.QkvWTop
public import proofs.«01_k».proof.Proof.QkvWSTop
public import proofs.«01_k».proof.Proof.Gen.Pre_attn_out_finite
public import Idealize.ShloMosaic.Adequacy
public import Idealize.ShloMosaic.Init

@[expose] public section

noncomputable section

namespace Cert.Proof

open Idealize.ShloMosaic Idealize.SL.Sem

/-- The attention reference runs, keeps its arguments and leaves every counter at zero: it declares no semaphore. -/
theorem moba_ref_frame : Cert.quiescent_MobaRefIdeal := fun m ρ _ =>
  (θ_run _ _ _).mono (fun r h => ⟨fun c => (h c).2, Idealize.ShloMosaic.sem_eq_zero_of_no_sems (by decide) r.2⟩) (Cert.MobaRefIdeal.Value.run m ρ)

/-- Every claim. -/
theorem claim : Cert.Claim := ⟨Cert.Moba.Gen.facts, Cert.MobaIdeal.Gen.facts, Cert.MobaRefIdeal.Gen.facts,
  Cert.Moe.Gen.facts, Cert.MoeIdeal.Gen.facts, Cert.MoeRefIdeal.Gen.facts,
  Cert.Qkv.Gen.facts, Cert.QkvIdeal.Gen.facts, Cert.QkvRefIdeal.Gen.facts,
  Cert.AttnOut.Gen.facts, Cert.AttnOutIdeal.Gen.facts, Cert.AttnOutRefIdeal.Gen.facts,
  Cert.FfnOut.Gen.facts, Cert.FfnOutIdeal.Gen.facts, Cert.FfnOutRefIdeal.Gen.facts,
  Cert.QkvS.Gen.facts, Cert.QkvSIdeal.Gen.facts, Cert.QkvSRefIdeal.Gen.facts,
  Cert.FfnOutS.Gen.facts, Cert.FfnOutSIdeal.Gen.facts, Cert.FfnOutSRefIdeal.Gen.facts,
  Cert.QkvW.Gen.facts, Cert.QkvWIdeal.Gen.facts, Cert.QkvWRefIdeal.Gen.facts,
  Cert.QkvWS.Gen.facts, Cert.QkvWSIdeal.Gen.facts, Cert.QkvWSRefIdeal.Gen.facts,
  Cert.Pre_moba_finite.Gen.facts, Cert.Pre_moe_ints.Gen.facts, Cert.Pre_attn_out_finite.Gen.facts,
  fun m ρ _ => Cert.Moba.Gen.frame m ρ,
  fun m ρ _ => Cert.MobaIdeal.Gen.frame m ρ,
  fun m ρ _ => Cert.MobaIdeal.Gen.frame m ρ,
  moba_ref_frame,
  fun m ρ _ => moba_ref_frame m ρ trivial,
  moe_frame,
  moe_ideal_frame,
  moe_ref_frame,
  fun m ρ _ => moe_ref_frame m ρ trivial,
  fun m ρ _ => Cert.Qkv.Gen.frame m ρ,
  fun m ρ _ => Cert.QkvIdeal.Gen.frame m ρ,
  qkv_ref_frame,
  fun m ρ _ => Cert.AttnOut.Gen.frame m ρ,
  fun m ρ _ => Cert.AttnOutIdeal.Gen.frame m ρ,
  fun m ρ _ => Cert.AttnOutIdeal.Gen.frame m ρ,
  attn_ref_frame,
  fun m ρ _ => attn_ref_frame m ρ trivial,
  fun m ρ _ => Cert.FfnOut.Gen.frame m ρ,
  fun m ρ _ => Cert.FfnOutIdeal.Gen.frame m ρ,
  ffn_ref_frame,
  fun m ρ _ => Cert.QkvS.Gen.frame m ρ,
  fun m ρ _ => Cert.QkvSIdeal.Gen.frame m ρ,
  qkv_sample_ref_frame,
  fun m ρ _ => Cert.FfnOutS.Gen.frame m ρ,
  fun m ρ _ => Cert.FfnOutSIdeal.Gen.frame m ρ,
  ffn_sample_ref_frame,
  fun m ρ _ => Cert.QkvW.Gen.frame m ρ,
  fun m ρ _ => Cert.QkvWIdeal.Gen.frame m ρ,
  qkv_window_ref_frame,
  fun m ρ _ => Cert.QkvWS.Gen.frame m ρ,
  fun m ρ _ => Cert.QkvWSIdeal.Gen.frame m ρ,
  qkv_window_sample_ref_frame,
  trivial,
  moba_algebraic,
  trivial,
  moe_algebraic,
  trivial,
  qkv_algebraic,
  trivial,
  attn_algebraic,
  trivial,
  ffn_algebraic,
  trivial,
  qkv_sample_algebraic,
  trivial,
  ffn_sample_algebraic,
  trivial,
  qkv_window_algebraic,
  trivial,
  qkv_window_sample_algebraic⟩

end Cert.Proof

end
